-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelBwd (m : (ℓ : Loc Cert.KernelBwd.nD Cert.KernelBwd.τ Cert.KernelBwd.sig) → Buf (Elt Bits) ℓ) : Prop :=
  True

def Pre_KernelBwdIdeal (m : (ℓ : Loc Cert.KernelBwdIdeal.nD Cert.KernelBwdIdeal.τ Cert.KernelBwdIdeal.sig) → Buf (Elt Ideal) ℓ) : Prop :=
  True

def Pre_ReferenceBwdIdeal (m : (ℓ : Loc Cert.ReferenceBwdIdeal.nD Cert.ReferenceBwdIdeal.τ Cert.ReferenceBwdIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_MlpOutW (m : (ℓ : Loc Cert.MlpOutW.nD Cert.MlpOutW.τ Cert.MlpOutW.sig) → Buf (Elt Bits) ℓ) : Prop :=
  True

def Pre_MlpOutWIdeal (m : (ℓ : Loc Cert.MlpOutWIdeal.nD Cert.MlpOutWIdeal.τ Cert.MlpOutWIdeal.sig) → Buf (Elt Ideal) ℓ) : Prop :=
  True

def Pre_MlpOutWRefIdeal (m : (ℓ : Loc Cert.MlpOutWRefIdeal.nD Cert.MlpOutWRefIdeal.τ Cert.MlpOutWRefIdeal.sig) → Buf (Elt Ideal) ℓ) : Prop :=
  True

def Pre_MlpInW (m : (ℓ : Loc Cert.MlpInW.nD Cert.MlpInW.τ Cert.MlpInW.sig) → Buf (Elt Bits) ℓ) : Prop :=
  True

def Pre_MlpInWIdeal (m : (ℓ : Loc Cert.MlpInWIdeal.nD Cert.MlpInWIdeal.τ Cert.MlpInWIdeal.sig) → Buf (Elt Ideal) ℓ) : Prop :=
  True

def Pre_MlpInWRefIdeal (m : (ℓ : Loc Cert.MlpInWRefIdeal.nD Cert.MlpInWRefIdeal.τ Cert.MlpInWRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpInFwd (m : (ℓ : Loc Cert.MlpInFwd.nD Cert.MlpInFwd.τ Cert.MlpInFwd.sig) → Buf (Elt Bits) ℓ) : Prop :=
  True

def Pre_MlpInFwdIdeal (m : (ℓ : Loc Cert.MlpInFwdIdeal.nD Cert.MlpInFwdIdeal.τ Cert.MlpInFwdIdeal.sig) → Buf (Elt Ideal) ℓ) : Prop :=
  True

def Pre_MlpInFwdRefIdeal (m : (ℓ : Loc Cert.MlpInFwdRefIdeal.nD Cert.MlpInFwdRefIdeal.τ Cert.MlpInFwdRefIdeal.sig) → Buf (Elt Ideal) ℓ) : Prop :=
  True

def Pre_MlpOutFwd (m : (ℓ : Loc Cert.MlpOutFwd.nD Cert.MlpOutFwd.τ Cert.MlpOutFwd.sig) → Buf (Elt Bits) ℓ) : Prop :=
  True

def Pre_MlpOutFwdIdeal (m : (ℓ : Loc Cert.MlpOutFwdIdeal.nD Cert.MlpOutFwdIdeal.τ Cert.MlpOutFwdIdeal.sig) → Buf (Elt Ideal) ℓ) : Prop :=
  True

def Pre_MlpOutFwdRefIdeal (m : (ℓ : Loc Cert.MlpOutFwdRefIdeal.nD Cert.MlpOutFwdRefIdeal.τ Cert.MlpOutFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def Pre_MixerFwdRefIdeal (m : (ℓ : Loc Cert.MixerFwdRefIdeal.nD Cert.MixerFwdRefIdeal.τ Cert.MixerFwdRefIdeal.sig) → Buf (Elt Ideal) ℓ) : Prop :=
  True

def Pre_MixerBwd (m : (ℓ : Loc Cert.MixerBwd.nD Cert.MixerBwd.τ Cert.MixerBwd.sig) → Buf (Elt Bits) ℓ) : Prop :=
  True

def Pre_MixerBwdIdeal (m : (ℓ : Loc Cert.MixerBwdIdeal.nD Cert.MixerBwdIdeal.τ Cert.MixerBwdIdeal.sig) → Buf (Elt Ideal) ℓ) : Prop :=
  True

def Pre_MixerBwdRefIdeal (m : (ℓ : Loc Cert.MixerBwdRefIdeal.nD Cert.MixerBwdRefIdeal.τ Cert.MixerBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelBwd [hKernelBwd : Cert.KernelBwd.Facts] : Prop :=
  ∀ (m : (ℓ : Loc Cert.KernelBwd.nD Cert.KernelBwd.τ Cert.KernelBwd.sig) → Buf (Elt Bits) ℓ) (g : Dev Cert.KernelBwd.nD → PrngReg), Pre_KernelBwd m →
    θ_run (Cert.KernelBwd.defs (F := Bits)) (onTc (τ := Cert.KernelBwd.τ) (Cert.KernelBwd.main (F := Bits))) ⟨m, fun _ => 0, g⟩ (fun r => (∀ c : Dev Cert.KernelBwd.nD,
      r.2.mem ((c.tc : Thread Cert.KernelBwd.nD Cert.KernelBwd.τ).loc Cert.KernelBwd.main_arg0) = m ((c.tc : Thread Cert.KernelBwd.nD Cert.KernelBwd.τ).loc Cert.KernelBwd.main_arg0)
      ∧ r.2.mem ((c.tc : Thread Cert.KernelBwd.nD Cert.KernelBwd.τ).loc Cert.KernelBwd.main_arg1) = m ((c.tc : Thread Cert.KernelBwd.nD Cert.KernelBwd.τ).loc Cert.KernelBwd.main_arg1)
      ∧ r.2.mem ((c.tc : Thread Cert.KernelBwd.nD Cert.KernelBwd.τ).loc Cert.KernelBwd.main_arg2) = m ((c.tc : Thread Cert.KernelBwd.nD Cert.KernelBwd.τ).loc Cert.KernelBwd.main_arg2)
      ∧ r.2.mem ((c.tc : Thread Cert.KernelBwd.nD Cert.KernelBwd.τ).loc Cert.KernelBwd.main_arg3) = m ((c.tc : Thread Cert.KernelBwd.nD Cert.KernelBwd.τ).loc Cert.KernelBwd.main_arg3)
      ∧ r.2.mem ((c.tc : Thread Cert.KernelBwd.nD Cert.KernelBwd.τ).loc Cert.KernelBwd.main_arg4) = m ((c.tc : Thread Cert.KernelBwd.nD Cert.KernelBwd.τ).loc Cert.KernelBwd.main_arg4)
      ∧ r.2.mem ((c.tc : Thread Cert.KernelBwd.nD Cert.KernelBwd.τ).loc Cert.KernelBwd.main_arg5) = m ((c.tc : Thread Cert.KernelBwd.nD Cert.KernelBwd.τ).loc Cert.KernelBwd.main_arg5)
      ∧ r.2.mem ((c.tc : Thread Cert.KernelBwd.nD Cert.KernelBwd.τ).loc Cert.KernelBwd.main_arg6) = m ((c.tc : Thread Cert.KernelBwd.nD Cert.KernelBwd.τ).loc Cert.KernelBwd.main_arg6)
      ∧ r.2.mem ((c.tc : Thread Cert.KernelBwd.nD Cert.KernelBwd.τ).loc Cert.KernelBwd.main_arg7) = m ((c.tc : Thread Cert.KernelBwd.nD Cert.KernelBwd.τ).loc Cert.KernelBwd.main_arg7)
      ∧ r.2.mem ((c.tc : Thread Cert.KernelBwd.nD Cert.KernelBwd.τ).loc Cert.KernelBwd.main_arg8) = m ((c.tc : Thread Cert.KernelBwd.nD Cert.KernelBwd.τ).loc Cert.KernelBwd.main_arg8)
      ∧ r.2.mem ((c.tc : Thread Cert.KernelBwd.nD Cert.KernelBwd.τ).loc Cert.KernelBwd.main_arg9) = m ((c.tc : Thread Cert.KernelBwd.nD Cert.KernelBwd.τ).loc Cert.KernelBwd.main_arg9))
      ∧ r.2.sem = fun _ => 0)

def quiescent_KernelBwdIdeal [hKernelBwdIdeal : Cert.KernelBwdIdeal.Facts] : Prop :=
  ∀ (m : (ℓ : Loc Cert.KernelBwdIdeal.nD Cert.KernelBwdIdeal.τ Cert.KernelBwdIdeal.sig) → Buf (Elt Ideal) ℓ) (g : Dev Cert.KernelBwdIdeal.nD → PrngReg), Pre_KernelBwdIdeal m →
    θ_run (Cert.KernelBwdIdeal.defs (F := Ideal)) (onTc (τ := Cert.KernelBwdIdeal.τ) (Cert.KernelBwdIdeal.main (F := Ideal))) ⟨m, fun _ => 0, g⟩ (fun r => (∀ c : Dev Cert.KernelBwdIdeal.nD,
      r.2.mem ((c.tc : Thread Cert.KernelBwdIdeal.nD Cert.KernelBwdIdeal.τ).loc Cert.KernelBwdIdeal.main_arg0) = m ((c.tc : Thread Cert.KernelBwdIdeal.nD Cert.KernelBwdIdeal.τ).loc Cert.KernelBwdIdeal.main_arg0)
      ∧ r.2.mem ((c.tc : Thread Cert.KernelBwdIdeal.nD Cert.KernelBwdIdeal.τ).loc Cert.KernelBwdIdeal.main_arg1) = m ((c.tc : Thread Cert.KernelBwdIdeal.nD Cert.KernelBwdIdeal.τ).loc Cert.KernelBwdIdeal.main_arg1)
      ∧ r.2.mem ((c.tc : Thread Cert.KernelBwdIdeal.nD Cert.KernelBwdIdeal.τ).loc Cert.KernelBwdIdeal.main_arg2) = m ((c.tc : Thread Cert.KernelBwdIdeal.nD Cert.KernelBwdIdeal.τ).loc Cert.KernelBwdIdeal.main_arg2)
      ∧ r.2.mem ((c.tc : Thread Cert.KernelBwdIdeal.nD Cert.KernelBwdIdeal.τ).loc Cert.KernelBwdIdeal.main_arg3) = m ((c.tc : Thread Cert.KernelBwdIdeal.nD Cert.KernelBwdIdeal.τ).loc Cert.KernelBwdIdeal.main_arg3)
      ∧ r.2.mem ((c.tc : Thread Cert.KernelBwdIdeal.nD Cert.KernelBwdIdeal.τ).loc Cert.KernelBwdIdeal.main_arg4) = m ((c.tc : Thread Cert.KernelBwdIdeal.nD Cert.KernelBwdIdeal.τ).loc Cert.KernelBwdIdeal.main_arg4)
      ∧ r.2.mem ((c.tc : Thread Cert.KernelBwdIdeal.nD Cert.KernelBwdIdeal.τ).loc Cert.KernelBwdIdeal.main_arg5) = m ((c.tc : Thread Cert.KernelBwdIdeal.nD Cert.KernelBwdIdeal.τ).loc Cert.KernelBwdIdeal.main_arg5)
      ∧ r.2.mem ((c.tc : Thread Cert.KernelBwdIdeal.nD Cert.KernelBwdIdeal.τ).loc Cert.KernelBwdIdeal.main_arg6) = m ((c.tc : Thread Cert.KernelBwdIdeal.nD Cert.KernelBwdIdeal.τ).loc Cert.KernelBwdIdeal.main_arg6)
      ∧ r.2.mem ((c.tc : Thread Cert.KernelBwdIdeal.nD Cert.KernelBwdIdeal.τ).loc Cert.KernelBwdIdeal.main_arg7) = m ((c.tc : Thread Cert.KernelBwdIdeal.nD Cert.KernelBwdIdeal.τ).loc Cert.KernelBwdIdeal.main_arg7)
      ∧ r.2.mem ((c.tc : Thread Cert.KernelBwdIdeal.nD Cert.KernelBwdIdeal.τ).loc Cert.KernelBwdIdeal.main_arg8) = m ((c.tc : Thread Cert.KernelBwdIdeal.nD Cert.KernelBwdIdeal.τ).loc Cert.KernelBwdIdeal.main_arg8)
      ∧ r.2.mem ((c.tc : Thread Cert.KernelBwdIdeal.nD Cert.KernelBwdIdeal.τ).loc Cert.KernelBwdIdeal.main_arg9) = m ((c.tc : Thread Cert.KernelBwdIdeal.nD Cert.KernelBwdIdeal.τ).loc Cert.KernelBwdIdeal.main_arg9))
      ∧ r.2.sem = fun _ => 0)

def quiescent_ReferenceBwdIdeal [hReferenceBwdIdeal : Cert.ReferenceBwdIdeal.Facts] : Prop :=
  ∀ (m : (ℓ : Loc Cert.ReferenceBwdIdeal.nD Cert.ReferenceBwdIdeal.τ Cert.ReferenceBwdIdeal.sig) → Buf (Elt Ideal) ℓ) (g : Dev Cert.ReferenceBwdIdeal.nD → PrngReg), Pre_ReferenceBwdIdeal m →
    θ_run (Cert.ReferenceBwdIdeal.defs (F := Ideal)) (onTc (τ := Cert.ReferenceBwdIdeal.τ) (Cert.ReferenceBwdIdeal.main (F := Ideal))) ⟨m, fun _ => 0, g⟩ (fun r => (∀ c : Dev Cert.ReferenceBwdIdeal.nD,
      r.2.mem ((c.tc : Thread Cert.ReferenceBwdIdeal.nD Cert.ReferenceBwdIdeal.τ).loc Cert.ReferenceBwdIdeal.main_arg0) = m ((c.tc : Thread Cert.ReferenceBwdIdeal.nD Cert.ReferenceBwdIdeal.τ).loc Cert.ReferenceBwdIdeal.main_arg0)
      ∧ r.2.mem ((c.tc : Thread Cert.ReferenceBwdIdeal.nD Cert.ReferenceBwdIdeal.τ).loc Cert.ReferenceBwdIdeal.main_arg1) = m ((c.tc : Thread Cert.ReferenceBwdIdeal.nD Cert.ReferenceBwdIdeal.τ).loc Cert.ReferenceBwdIdeal.main_arg1)
      ∧ r.2.mem ((c.tc : Thread Cert.ReferenceBwdIdeal.nD Cert.ReferenceBwdIdeal.τ).loc Cert.ReferenceBwdIdeal.main_arg2) = m ((c.tc : Thread Cert.ReferenceBwdIdeal.nD Cert.ReferenceBwdIdeal.τ).loc Cert.ReferenceBwdIdeal.main_arg2)
      ∧ r.2.mem ((c.tc : Thread Cert.ReferenceBwdIdeal.nD Cert.ReferenceBwdIdeal.τ).loc Cert.ReferenceBwdIdeal.main_arg3) = m ((c.tc : Thread Cert.ReferenceBwdIdeal.nD Cert.ReferenceBwdIdeal.τ).loc Cert.ReferenceBwdIdeal.main_arg3)
      ∧ r.2.mem ((c.tc : Thread Cert.ReferenceBwdIdeal.nD Cert.ReferenceBwdIdeal.τ).loc Cert.ReferenceBwdIdeal.main_arg4) = m ((c.tc : Thread Cert.ReferenceBwdIdeal.nD Cert.ReferenceBwdIdeal.τ).loc Cert.ReferenceBwdIdeal.main_arg4)
      ∧ r.2.mem ((c.tc : Thread Cert.ReferenceBwdIdeal.nD Cert.ReferenceBwdIdeal.τ).loc Cert.ReferenceBwdIdeal.main_arg5) = m ((c.tc : Thread Cert.ReferenceBwdIdeal.nD Cert.ReferenceBwdIdeal.τ).loc Cert.ReferenceBwdIdeal.main_arg5)
      ∧ r.2.mem ((c.tc : Thread Cert.ReferenceBwdIdeal.nD Cert.ReferenceBwdIdeal.τ).loc Cert.ReferenceBwdIdeal.main_arg6) = m ((c.tc : Thread Cert.ReferenceBwdIdeal.nD Cert.ReferenceBwdIdeal.τ).loc Cert.ReferenceBwdIdeal.main_arg6)
      ∧ r.2.mem ((c.tc : Thread Cert.ReferenceBwdIdeal.nD Cert.ReferenceBwdIdeal.τ).loc Cert.ReferenceBwdIdeal.main_arg7) = m ((c.tc : Thread Cert.ReferenceBwdIdeal.nD Cert.ReferenceBwdIdeal.τ).loc Cert.ReferenceBwdIdeal.main_arg7)
      ∧ r.2.mem ((c.tc : Thread Cert.ReferenceBwdIdeal.nD Cert.ReferenceBwdIdeal.τ).loc Cert.ReferenceBwdIdeal.main_arg8) = m ((c.tc : Thread Cert.ReferenceBwdIdeal.nD Cert.ReferenceBwdIdeal.τ).loc Cert.ReferenceBwdIdeal.main_arg8)
      ∧ r.2.mem ((c.tc : Thread Cert.ReferenceBwdIdeal.nD Cert.ReferenceBwdIdeal.τ).loc Cert.ReferenceBwdIdeal.main_arg9) = m ((c.tc : Thread Cert.ReferenceBwdIdeal.nD Cert.ReferenceBwdIdeal.τ).loc Cert.ReferenceBwdIdeal.main_arg9))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3)
      ∧ r.2.mem ((c.tc : Thread Cert.MlpOut.nD Cert.MlpOut.τ).loc Cert.MlpOut.main_arg4) = m ((c.tc : Thread Cert.MlpOut.nD Cert.MlpOut.τ).loc Cert.MlpOut.main_arg4))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3)
      ∧ r.2.mem ((c.tc : Thread Cert.MlpOutRefIdeal.nD Cert.MlpOutRefIdeal.τ).loc Cert.MlpOutRefIdeal.main_arg4) = m ((c.tc : Thread Cert.MlpOutRefIdeal.nD Cert.MlpOutRefIdeal.τ).loc Cert.MlpOutRefIdeal.main_arg4))
      ∧ r.2.sem = fun _ => 0)

def quiescent_MlpOutW [hMlpOutW : Cert.MlpOutW.Facts] : Prop :=
  ∀ (m : (ℓ : Loc Cert.MlpOutW.nD Cert.MlpOutW.τ Cert.MlpOutW.sig) → Buf (Elt Bits) ℓ) (g : Dev Cert.MlpOutW.nD → PrngReg), Pre_MlpOutW m →
    θ_run (Cert.MlpOutW.defs (F := Bits)) (onTc (τ := Cert.MlpOutW.τ) (Cert.MlpOutW.main (F := Bits))) ⟨m, fun _ => 0, g⟩ (fun r => (∀ c : Dev Cert.MlpOutW.nD,
      r.2.mem ((c.tc : Thread Cert.MlpOutW.nD Cert.MlpOutW.τ).loc Cert.MlpOutW.main_arg0) = m ((c.tc : Thread Cert.MlpOutW.nD Cert.MlpOutW.τ).loc Cert.MlpOutW.main_arg0)
      ∧ r.2.mem ((c.tc : Thread Cert.MlpOutW.nD Cert.MlpOutW.τ).loc Cert.MlpOutW.main_arg1) = m ((c.tc : Thread Cert.MlpOutW.nD Cert.MlpOutW.τ).loc Cert.MlpOutW.main_arg1)
      ∧ r.2.mem ((c.tc : Thread Cert.MlpOutW.nD Cert.MlpOutW.τ).loc Cert.MlpOutW.main_arg2) = m ((c.tc : Thread Cert.MlpOutW.nD Cert.MlpOutW.τ).loc Cert.MlpOutW.main_arg2)
      ∧ r.2.mem ((c.tc : Thread Cert.MlpOutW.nD Cert.MlpOutW.τ).loc Cert.MlpOutW.main_arg3) = m ((c.tc : Thread Cert.MlpOutW.nD Cert.MlpOutW.τ).loc Cert.MlpOutW.main_arg3)
      ∧ r.2.mem ((c.tc : Thread Cert.MlpOutW.nD Cert.MlpOutW.τ).loc Cert.MlpOutW.main_arg4) = m ((c.tc : Thread Cert.MlpOutW.nD Cert.MlpOutW.τ).loc Cert.MlpOutW.main_arg4))
      ∧ r.2.sem = fun _ => 0)

def quiescent_MlpOutWIdeal [hMlpOutWIdeal : Cert.MlpOutWIdeal.Facts] : Prop :=
  ∀ (m : (ℓ : Loc Cert.MlpOutWIdeal.nD Cert.MlpOutWIdeal.τ Cert.MlpOutWIdeal.sig) → Buf (Elt Ideal) ℓ) (g : Dev Cert.MlpOutWIdeal.nD → PrngReg), Pre_MlpOutWIdeal m →
    θ_run (Cert.MlpOutWIdeal.defs (F := Ideal)) (onTc (τ := Cert.MlpOutWIdeal.τ) (Cert.MlpOutWIdeal.main (F := Ideal))) ⟨m, fun _ => 0, g⟩ (fun r => (∀ c : Dev Cert.MlpOutWIdeal.nD,
      r.2.mem ((c.tc : Thread Cert.MlpOutWIdeal.nD Cert.MlpOutWIdeal.τ).loc Cert.MlpOutWIdeal.main_arg0) = m ((c.tc : Thread Cert.MlpOutWIdeal.nD Cert.MlpOutWIdeal.τ).loc Cert.MlpOutWIdeal.main_arg0)
      ∧ r.2.mem ((c.tc : Thread Cert.MlpOutWIdeal.nD Cert.MlpOutWIdeal.τ).loc Cert.MlpOutWIdeal.main_arg1) = m ((c.tc : Thread Cert.MlpOutWIdeal.nD Cert.MlpOutWIdeal.τ).loc Cert.MlpOutWIdeal.main_arg1)
      ∧ r.2.mem ((c.tc : Thread Cert.MlpOutWIdeal.nD Cert.MlpOutWIdeal.τ).loc Cert.MlpOutWIdeal.main_arg2) = m ((c.tc : Thread Cert.MlpOutWIdeal.nD Cert.MlpOutWIdeal.τ).loc Cert.MlpOutWIdeal.main_arg2)
      ∧ r.2.mem ((c.tc : Thread Cert.MlpOutWIdeal.nD Cert.MlpOutWIdeal.τ).loc Cert.MlpOutWIdeal.main_arg3) = m ((c.tc : Thread Cert.MlpOutWIdeal.nD Cert.MlpOutWIdeal.τ).loc Cert.MlpOutWIdeal.main_arg3)
      ∧ r.2.mem ((c.tc : Thread Cert.MlpOutWIdeal.nD Cert.MlpOutWIdeal.τ).loc Cert.MlpOutWIdeal.main_arg4) = m ((c.tc : Thread Cert.MlpOutWIdeal.nD Cert.MlpOutWIdeal.τ).loc Cert.MlpOutWIdeal.main_arg4))
      ∧ r.2.sem = fun _ => 0)

def quiescent_MlpOutWRefIdeal [hMlpOutWRefIdeal : Cert.MlpOutWRefIdeal.Facts] : Prop :=
  ∀ (m : (ℓ : Loc Cert.MlpOutWRefIdeal.nD Cert.MlpOutWRefIdeal.τ Cert.MlpOutWRefIdeal.sig) → Buf (Elt Ideal) ℓ) (g : Dev Cert.MlpOutWRefIdeal.nD → PrngReg), Pre_MlpOutWRefIdeal m →
    θ_run (Cert.MlpOutWRefIdeal.defs (F := Ideal)) (onTc (τ := Cert.MlpOutWRefIdeal.τ) (Cert.MlpOutWRefIdeal.main (F := Ideal))) ⟨m, fun _ => 0, g⟩ (fun r => (∀ c : Dev Cert.MlpOutWRefIdeal.nD,
      r.2.mem ((c.tc : Thread Cert.MlpOutWRefIdeal.nD Cert.MlpOutWRefIdeal.τ).loc Cert.MlpOutWRefIdeal.main_arg0) = m ((c.tc : Thread Cert.MlpOutWRefIdeal.nD Cert.MlpOutWRefIdeal.τ).loc Cert.MlpOutWRefIdeal.main_arg0)
      ∧ r.2.mem ((c.tc : Thread Cert.MlpOutWRefIdeal.nD Cert.MlpOutWRefIdeal.τ).loc Cert.MlpOutWRefIdeal.main_arg1) = m ((c.tc : Thread Cert.MlpOutWRefIdeal.nD Cert.MlpOutWRefIdeal.τ).loc Cert.MlpOutWRefIdeal.main_arg1)
      ∧ r.2.mem ((c.tc : Thread Cert.MlpOutWRefIdeal.nD Cert.MlpOutWRefIdeal.τ).loc Cert.MlpOutWRefIdeal.main_arg2) = m ((c.tc : Thread Cert.MlpOutWRefIdeal.nD Cert.MlpOutWRefIdeal.τ).loc Cert.MlpOutWRefIdeal.main_arg2)
      ∧ r.2.mem ((c.tc : Thread Cert.MlpOutWRefIdeal.nD Cert.MlpOutWRefIdeal.τ).loc Cert.MlpOutWRefIdeal.main_arg3) = m ((c.tc : Thread Cert.MlpOutWRefIdeal.nD Cert.MlpOutWRefIdeal.τ).loc Cert.MlpOutWRefIdeal.main_arg3)
      ∧ r.2.mem ((c.tc : Thread Cert.MlpOutWRefIdeal.nD Cert.MlpOutWRefIdeal.τ).loc Cert.MlpOutWRefIdeal.main_arg4) = m ((c.tc : Thread Cert.MlpOutWRefIdeal.nD Cert.MlpOutWRefIdeal.τ).loc Cert.MlpOutWRefIdeal.main_arg4))
      ∧ r.2.sem = fun _ => 0)

def quiescent_MlpInW [hMlpInW : Cert.MlpInW.Facts] : Prop :=
  ∀ (m : (ℓ : Loc Cert.MlpInW.nD Cert.MlpInW.τ Cert.MlpInW.sig) → Buf (Elt Bits) ℓ) (g : Dev Cert.MlpInW.nD → PrngReg), Pre_MlpInW m →
    θ_run (Cert.MlpInW.defs (F := Bits)) (onTc (τ := Cert.MlpInW.τ) (Cert.MlpInW.main (F := Bits))) ⟨m, fun _ => 0, g⟩ (fun r => (∀ c : Dev Cert.MlpInW.nD,
      r.2.mem ((c.tc : Thread Cert.MlpInW.nD Cert.MlpInW.τ).loc Cert.MlpInW.main_arg0) = m ((c.tc : Thread Cert.MlpInW.nD Cert.MlpInW.τ).loc Cert.MlpInW.main_arg0)
      ∧ r.2.mem ((c.tc : Thread Cert.MlpInW.nD Cert.MlpInW.τ).loc Cert.MlpInW.main_arg1) = m ((c.tc : Thread Cert.MlpInW.nD Cert.MlpInW.τ).loc Cert.MlpInW.main_arg1)
      ∧ r.2.mem ((c.tc : Thread Cert.MlpInW.nD Cert.MlpInW.τ).loc Cert.MlpInW.main_arg2) = m ((c.tc : Thread Cert.MlpInW.nD Cert.MlpInW.τ).loc Cert.MlpInW.main_arg2)
      ∧ r.2.mem ((c.tc : Thread Cert.MlpInW.nD Cert.MlpInW.τ).loc Cert.MlpInW.main_arg3) = m ((c.tc : Thread Cert.MlpInW.nD Cert.MlpInW.τ).loc Cert.MlpInW.main_arg3)
      ∧ r.2.mem ((c.tc : Thread Cert.MlpInW.nD Cert.MlpInW.τ).loc Cert.MlpInW.main_arg4) = m ((c.tc : Thread Cert.MlpInW.nD Cert.MlpInW.τ).loc Cert.MlpInW.main_arg4)
      ∧ r.2.mem ((c.tc : Thread Cert.MlpInW.nD Cert.MlpInW.τ).loc Cert.MlpInW.main_arg5) = m ((c.tc : Thread Cert.MlpInW.nD Cert.MlpInW.τ).loc Cert.MlpInW.main_arg5))
      ∧ r.2.sem = fun _ => 0)

def quiescent_MlpInWIdeal [hMlpInWIdeal : Cert.MlpInWIdeal.Facts] : Prop :=
  ∀ (m : (ℓ : Loc Cert.MlpInWIdeal.nD Cert.MlpInWIdeal.τ Cert.MlpInWIdeal.sig) → Buf (Elt Ideal) ℓ) (g : Dev Cert.MlpInWIdeal.nD → PrngReg), Pre_MlpInWIdeal m →
    θ_run (Cert.MlpInWIdeal.defs (F := Ideal)) (onTc (τ := Cert.MlpInWIdeal.τ) (Cert.MlpInWIdeal.main (F := Ideal))) ⟨m, fun _ => 0, g⟩ (fun r => (∀ c : Dev Cert.MlpInWIdeal.nD,
      r.2.mem ((c.tc : Thread Cert.MlpInWIdeal.nD Cert.MlpInWIdeal.τ).loc Cert.MlpInWIdeal.main_arg0) = m ((c.tc : Thread Cert.MlpInWIdeal.nD Cert.MlpInWIdeal.τ).loc Cert.MlpInWIdeal.main_arg0)
      ∧ r.2.mem ((c.tc : Thread Cert.MlpInWIdeal.nD Cert.MlpInWIdeal.τ).loc Cert.MlpInWIdeal.main_arg1) = m ((c.tc : Thread Cert.MlpInWIdeal.nD Cert.MlpInWIdeal.τ).loc Cert.MlpInWIdeal.main_arg1)
      ∧ r.2.mem ((c.tc : Thread Cert.MlpInWIdeal.nD Cert.MlpInWIdeal.τ).loc Cert.MlpInWIdeal.main_arg2) = m ((c.tc : Thread Cert.MlpInWIdeal.nD Cert.MlpInWIdeal.τ).loc Cert.MlpInWIdeal.main_arg2)
      ∧ r.2.mem ((c.tc : Thread Cert.MlpInWIdeal.nD Cert.MlpInWIdeal.τ).loc Cert.MlpInWIdeal.main_arg3) = m ((c.tc : Thread Cert.MlpInWIdeal.nD Cert.MlpInWIdeal.τ).loc Cert.MlpInWIdeal.main_arg3)
      ∧ r.2.mem ((c.tc : Thread Cert.MlpInWIdeal.nD Cert.MlpInWIdeal.τ).loc Cert.MlpInWIdeal.main_arg4) = m ((c.tc : Thread Cert.MlpInWIdeal.nD Cert.MlpInWIdeal.τ).loc Cert.MlpInWIdeal.main_arg4)
      ∧ r.2.mem ((c.tc : Thread Cert.MlpInWIdeal.nD Cert.MlpInWIdeal.τ).loc Cert.MlpInWIdeal.main_arg5) = m ((c.tc : Thread Cert.MlpInWIdeal.nD Cert.MlpInWIdeal.τ).loc Cert.MlpInWIdeal.main_arg5))
      ∧ r.2.sem = fun _ => 0)

def quiescent_MlpInWRefIdeal [hMlpInWRefIdeal : Cert.MlpInWRefIdeal.Facts] : Prop :=
  ∀ (m : (ℓ : Loc Cert.MlpInWRefIdeal.nD Cert.MlpInWRefIdeal.τ Cert.MlpInWRefIdeal.sig) → Buf (Elt Ideal) ℓ) (g : Dev Cert.MlpInWRefIdeal.nD → PrngReg), Pre_MlpInWRefIdeal m →
    θ_run (Cert.MlpInWRefIdeal.defs (F := Ideal)) (onTc (τ := Cert.MlpInWRefIdeal.τ) (Cert.MlpInWRefIdeal.main (F := Ideal))) ⟨m, fun _ => 0, g⟩ (fun r => (∀ c : Dev Cert.MlpInWRefIdeal.nD,
      r.2.mem ((c.tc : Thread Cert.MlpInWRefIdeal.nD Cert.MlpInWRefIdeal.τ).loc Cert.MlpInWRefIdeal.main_arg0) = m ((c.tc : Thread Cert.MlpInWRefIdeal.nD Cert.MlpInWRefIdeal.τ).loc Cert.MlpInWRefIdeal.main_arg0)
      ∧ r.2.mem ((c.tc : Thread Cert.MlpInWRefIdeal.nD Cert.MlpInWRefIdeal.τ).loc Cert.MlpInWRefIdeal.main_arg1) = m ((c.tc : Thread Cert.MlpInWRefIdeal.nD Cert.MlpInWRefIdeal.τ).loc Cert.MlpInWRefIdeal.main_arg1)
      ∧ r.2.mem ((c.tc : Thread Cert.MlpInWRefIdeal.nD Cert.MlpInWRefIdeal.τ).loc Cert.MlpInWRefIdeal.main_arg2) = m ((c.tc : Thread Cert.MlpInWRefIdeal.nD Cert.MlpInWRefIdeal.τ).loc Cert.MlpInWRefIdeal.main_arg2)
      ∧ r.2.mem ((c.tc : Thread Cert.MlpInWRefIdeal.nD Cert.MlpInWRefIdeal.τ).loc Cert.MlpInWRefIdeal.main_arg3) = m ((c.tc : Thread Cert.MlpInWRefIdeal.nD Cert.MlpInWRefIdeal.τ).loc Cert.MlpInWRefIdeal.main_arg3)
      ∧ r.2.mem ((c.tc : Thread Cert.MlpInWRefIdeal.nD Cert.MlpInWRefIdeal.τ).loc Cert.MlpInWRefIdeal.main_arg4) = m ((c.tc : Thread Cert.MlpInWRefIdeal.nD Cert.MlpInWRefIdeal.τ).loc Cert.MlpInWRefIdeal.main_arg4)
      ∧ r.2.mem ((c.tc : Thread Cert.MlpInWRefIdeal.nD Cert.MlpInWRefIdeal.τ).loc Cert.MlpInWRefIdeal.main_arg5) = m ((c.tc : Thread Cert.MlpInWRefIdeal.nD Cert.MlpInWRefIdeal.τ).loc Cert.MlpInWRefIdeal.main_arg5))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1)
      ∧ r.2.mem ((c.tc : Thread Cert.MlpIn.nD Cert.MlpIn.τ).loc Cert.MlpIn.main_arg2) = m ((c.tc : Thread Cert.MlpIn.nD Cert.MlpIn.τ).loc Cert.MlpIn.main_arg2)
      ∧ r.2.mem ((c.tc : Thread Cert.MlpIn.nD Cert.MlpIn.τ).loc Cert.MlpIn.main_arg3) = m ((c.tc : Thread Cert.MlpIn.nD Cert.MlpIn.τ).loc Cert.MlpIn.main_arg3)
      ∧ r.2.mem ((c.tc : Thread Cert.MlpIn.nD Cert.MlpIn.τ).loc Cert.MlpIn.main_arg4) = m ((c.tc : Thread Cert.MlpIn.nD Cert.MlpIn.τ).loc Cert.MlpIn.main_arg4)
      ∧ r.2.mem ((c.tc : Thread Cert.MlpIn.nD Cert.MlpIn.τ).loc Cert.MlpIn.main_arg5) = m ((c.tc : Thread Cert.MlpIn.nD Cert.MlpIn.τ).loc Cert.MlpIn.main_arg5)
      ∧ r.2.mem ((c.tc : Thread Cert.MlpIn.nD Cert.MlpIn.τ).loc Cert.MlpIn.main_arg6) = m ((c.tc : Thread Cert.MlpIn.nD Cert.MlpIn.τ).loc Cert.MlpIn.main_arg6))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
      ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
      ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
      ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
      ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5)
      ∧ r.2.mem ((c.tc : Thread Cert.MlpInIdeal.nD Cert.MlpInIdeal.τ).loc Cert.MlpInIdeal.main_arg6) = m ((c.tc : Thread Cert.MlpInIdeal.nD Cert.MlpInIdeal.τ).loc Cert.MlpInIdeal.main_arg6))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1)
      ∧ r.2.mem ((c.tc : Thread Cert.MlpInRefIdeal.nD Cert.MlpInRefIdeal.τ).loc Cert.MlpInRefIdeal.main_arg2) = m ((c.tc : Thread Cert.MlpInRefIdeal.nD Cert.MlpInRefIdeal.τ).loc Cert.MlpInRefIdeal.main_arg2)
      ∧ r.2.mem ((c.tc : Thread Cert.MlpInRefIdeal.nD Cert.MlpInRefIdeal.τ).loc Cert.MlpInRefIdeal.main_arg3) = m ((c.tc : Thread Cert.MlpInRefIdeal.nD Cert.MlpInRefIdeal.τ).loc Cert.MlpInRefIdeal.main_arg3)
      ∧ r.2.mem ((c.tc : Thread Cert.MlpInRefIdeal.nD Cert.MlpInRefIdeal.τ).loc Cert.MlpInRefIdeal.main_arg4) = m ((c.tc : Thread Cert.MlpInRefIdeal.nD Cert.MlpInRefIdeal.τ).loc Cert.MlpInRefIdeal.main_arg4)
      ∧ r.2.mem ((c.tc : Thread Cert.MlpInRefIdeal.nD Cert.MlpInRefIdeal.τ).loc Cert.MlpInRefIdeal.main_arg5) = m ((c.tc : Thread Cert.MlpInRefIdeal.nD Cert.MlpInRefIdeal.τ).loc Cert.MlpInRefIdeal.main_arg5)
      ∧ r.2.mem ((c.tc : Thread Cert.MlpInRefIdeal.nD Cert.MlpInRefIdeal.τ).loc Cert.MlpInRefIdeal.main_arg6) = m ((c.tc : Thread Cert.MlpInRefIdeal.nD Cert.MlpInRefIdeal.τ).loc Cert.MlpInRefIdeal.main_arg6))
      ∧ r.2.sem = fun _ => 0)

def quiescent_MlpInFwd [hMlpInFwd : Cert.MlpInFwd.Facts] : Prop :=
  ∀ (m : (ℓ : Loc Cert.MlpInFwd.nD Cert.MlpInFwd.τ Cert.MlpInFwd.sig) → Buf (Elt Bits) ℓ) (g : Dev Cert.MlpInFwd.nD → PrngReg), Pre_MlpInFwd m →
    θ_run (Cert.MlpInFwd.defs (F := Bits)) (onTc (τ := Cert.MlpInFwd.τ) (Cert.MlpInFwd.main (F := Bits))) ⟨m, fun _ => 0, g⟩ (fun r => (∀ c : Dev Cert.MlpInFwd.nD,
      r.2.mem ((c.tc : Thread Cert.MlpInFwd.nD Cert.MlpInFwd.τ).loc Cert.MlpInFwd.main_arg0) = m ((c.tc : Thread Cert.MlpInFwd.nD Cert.MlpInFwd.τ).loc Cert.MlpInFwd.main_arg0)
      ∧ r.2.mem ((c.tc : Thread Cert.MlpInFwd.nD Cert.MlpInFwd.τ).loc Cert.MlpInFwd.main_arg1) = m ((c.tc : Thread Cert.MlpInFwd.nD Cert.MlpInFwd.τ).loc Cert.MlpInFwd.main_arg1)
      ∧ r.2.mem ((c.tc : Thread Cert.MlpInFwd.nD Cert.MlpInFwd.τ).loc Cert.MlpInFwd.main_arg2) = m ((c.tc : Thread Cert.MlpInFwd.nD Cert.MlpInFwd.τ).loc Cert.MlpInFwd.main_arg2)
      ∧ r.2.mem ((c.tc : Thread Cert.MlpInFwd.nD Cert.MlpInFwd.τ).loc Cert.MlpInFwd.main_arg3) = m ((c.tc : Thread Cert.MlpInFwd.nD Cert.MlpInFwd.τ).loc Cert.MlpInFwd.main_arg3)
      ∧ r.2.mem ((c.tc : Thread Cert.MlpInFwd.nD Cert.MlpInFwd.τ).loc Cert.MlpInFwd.main_arg4) = m ((c.tc : Thread Cert.MlpInFwd.nD Cert.MlpInFwd.τ).loc Cert.MlpInFwd.main_arg4))
      ∧ r.2.sem = fun _ => 0)

def quiescent_MlpInFwdIdeal [hMlpInFwdIdeal : Cert.MlpInFwdIdeal.Facts] : Prop :=
  ∀ (m : (ℓ : Loc Cert.MlpInFwdIdeal.nD Cert.MlpInFwdIdeal.τ Cert.MlpInFwdIdeal.sig) → Buf (Elt Ideal) ℓ) (g : Dev Cert.MlpInFwdIdeal.nD → PrngReg), Pre_MlpInFwdIdeal m →
    θ_run (Cert.MlpInFwdIdeal.defs (F := Ideal)) (onTc (τ := Cert.MlpInFwdIdeal.τ) (Cert.MlpInFwdIdeal.main (F := Ideal))) ⟨m, fun _ => 0, g⟩ (fun r => (∀ c : Dev Cert.MlpInFwdIdeal.nD,
      r.2.mem ((c.tc : Thread Cert.MlpInFwdIdeal.nD Cert.MlpInFwdIdeal.τ).loc Cert.MlpInFwdIdeal.main_arg0) = m ((c.tc : Thread Cert.MlpInFwdIdeal.nD Cert.MlpInFwdIdeal.τ).loc Cert.MlpInFwdIdeal.main_arg0)
      ∧ r.2.mem ((c.tc : Thread Cert.MlpInFwdIdeal.nD Cert.MlpInFwdIdeal.τ).loc Cert.MlpInFwdIdeal.main_arg1) = m ((c.tc : Thread Cert.MlpInFwdIdeal.nD Cert.MlpInFwdIdeal.τ).loc Cert.MlpInFwdIdeal.main_arg1)
      ∧ r.2.mem ((c.tc : Thread Cert.MlpInFwdIdeal.nD Cert.MlpInFwdIdeal.τ).loc Cert.MlpInFwdIdeal.main_arg2) = m ((c.tc : Thread Cert.MlpInFwdIdeal.nD Cert.MlpInFwdIdeal.τ).loc Cert.MlpInFwdIdeal.main_arg2)
      ∧ r.2.mem ((c.tc : Thread Cert.MlpInFwdIdeal.nD Cert.MlpInFwdIdeal.τ).loc Cert.MlpInFwdIdeal.main_arg3) = m ((c.tc : Thread Cert.MlpInFwdIdeal.nD Cert.MlpInFwdIdeal.τ).loc Cert.MlpInFwdIdeal.main_arg3)
      ∧ r.2.mem ((c.tc : Thread Cert.MlpInFwdIdeal.nD Cert.MlpInFwdIdeal.τ).loc Cert.MlpInFwdIdeal.main_arg4) = m ((c.tc : Thread Cert.MlpInFwdIdeal.nD Cert.MlpInFwdIdeal.τ).loc Cert.MlpInFwdIdeal.main_arg4))
      ∧ r.2.sem = fun _ => 0)

def quiescent_MlpInFwdRefIdeal [hMlpInFwdRefIdeal : Cert.MlpInFwdRefIdeal.Facts] : Prop :=
  ∀ (m : (ℓ : Loc Cert.MlpInFwdRefIdeal.nD Cert.MlpInFwdRefIdeal.τ Cert.MlpInFwdRefIdeal.sig) → Buf (Elt Ideal) ℓ) (g : Dev Cert.MlpInFwdRefIdeal.nD → PrngReg), Pre_MlpInFwdRefIdeal m →
    θ_run (Cert.MlpInFwdRefIdeal.defs (F := Ideal)) (onTc (τ := Cert.MlpInFwdRefIdeal.τ) (Cert.MlpInFwdRefIdeal.main (F := Ideal))) ⟨m, fun _ => 0, g⟩ (fun r => (∀ c : Dev Cert.MlpInFwdRefIdeal.nD,
      r.2.mem ((c.tc : Thread Cert.MlpInFwdRefIdeal.nD Cert.MlpInFwdRefIdeal.τ).loc Cert.MlpInFwdRefIdeal.main_arg0) = m ((c.tc : Thread Cert.MlpInFwdRefIdeal.nD Cert.MlpInFwdRefIdeal.τ).loc Cert.MlpInFwdRefIdeal.main_arg0)
      ∧ r.2.mem ((c.tc : Thread Cert.MlpInFwdRefIdeal.nD Cert.MlpInFwdRefIdeal.τ).loc Cert.MlpInFwdRefIdeal.main_arg1) = m ((c.tc : Thread Cert.MlpInFwdRefIdeal.nD Cert.MlpInFwdRefIdeal.τ).loc Cert.MlpInFwdRefIdeal.main_arg1)
      ∧ r.2.mem ((c.tc : Thread Cert.MlpInFwdRefIdeal.nD Cert.MlpInFwdRefIdeal.τ).loc Cert.MlpInFwdRefIdeal.main_arg2) = m ((c.tc : Thread Cert.MlpInFwdRefIdeal.nD Cert.MlpInFwdRefIdeal.τ).loc Cert.MlpInFwdRefIdeal.main_arg2)
      ∧ r.2.mem ((c.tc : Thread Cert.MlpInFwdRefIdeal.nD Cert.MlpInFwdRefIdeal.τ).loc Cert.MlpInFwdRefIdeal.main_arg3) = m ((c.tc : Thread Cert.MlpInFwdRefIdeal.nD Cert.MlpInFwdRefIdeal.τ).loc Cert.MlpInFwdRefIdeal.main_arg3)
      ∧ r.2.mem ((c.tc : Thread Cert.MlpInFwdRefIdeal.nD Cert.MlpInFwdRefIdeal.τ).loc Cert.MlpInFwdRefIdeal.main_arg4) = m ((c.tc : Thread Cert.MlpInFwdRefIdeal.nD Cert.MlpInFwdRefIdeal.τ).loc Cert.MlpInFwdRefIdeal.main_arg4))
      ∧ r.2.sem = fun _ => 0)

def quiescent_MlpOutFwd [hMlpOutFwd : Cert.MlpOutFwd.Facts] : Prop :=
  ∀ (m : (ℓ : Loc Cert.MlpOutFwd.nD Cert.MlpOutFwd.τ Cert.MlpOutFwd.sig) → Buf (Elt Bits) ℓ) (g : Dev Cert.MlpOutFwd.nD → PrngReg), Pre_MlpOutFwd m →
    θ_run (Cert.MlpOutFwd.defs (F := Bits)) (onTc (τ := Cert.MlpOutFwd.τ) (Cert.MlpOutFwd.main (F := Bits))) ⟨m, fun _ => 0, g⟩ (fun r => (∀ c : Dev Cert.MlpOutFwd.nD,
      r.2.mem ((c.tc : Thread Cert.MlpOutFwd.nD Cert.MlpOutFwd.τ).loc Cert.MlpOutFwd.main_arg0) = m ((c.tc : Thread Cert.MlpOutFwd.nD Cert.MlpOutFwd.τ).loc Cert.MlpOutFwd.main_arg0)
      ∧ r.2.mem ((c.tc : Thread Cert.MlpOutFwd.nD Cert.MlpOutFwd.τ).loc Cert.MlpOutFwd.main_arg1) = m ((c.tc : Thread Cert.MlpOutFwd.nD Cert.MlpOutFwd.τ).loc Cert.MlpOutFwd.main_arg1)
      ∧ r.2.mem ((c.tc : Thread Cert.MlpOutFwd.nD Cert.MlpOutFwd.τ).loc Cert.MlpOutFwd.main_arg2) = m ((c.tc : Thread Cert.MlpOutFwd.nD Cert.MlpOutFwd.τ).loc Cert.MlpOutFwd.main_arg2)
      ∧ r.2.mem ((c.tc : Thread Cert.MlpOutFwd.nD Cert.MlpOutFwd.τ).loc Cert.MlpOutFwd.main_arg3) = m ((c.tc : Thread Cert.MlpOutFwd.nD Cert.MlpOutFwd.τ).loc Cert.MlpOutFwd.main_arg3))
      ∧ r.2.sem = fun _ => 0)

def quiescent_MlpOutFwdIdeal [hMlpOutFwdIdeal : Cert.MlpOutFwdIdeal.Facts] : Prop :=
  ∀ (m : (ℓ : Loc Cert.MlpOutFwdIdeal.nD Cert.MlpOutFwdIdeal.τ Cert.MlpOutFwdIdeal.sig) → Buf (Elt Ideal) ℓ) (g : Dev Cert.MlpOutFwdIdeal.nD → PrngReg), Pre_MlpOutFwdIdeal m →
    θ_run (Cert.MlpOutFwdIdeal.defs (F := Ideal)) (onTc (τ := Cert.MlpOutFwdIdeal.τ) (Cert.MlpOutFwdIdeal.main (F := Ideal))) ⟨m, fun _ => 0, g⟩ (fun r => (∀ c : Dev Cert.MlpOutFwdIdeal.nD,
      r.2.mem ((c.tc : Thread Cert.MlpOutFwdIdeal.nD Cert.MlpOutFwdIdeal.τ).loc Cert.MlpOutFwdIdeal.main_arg0) = m ((c.tc : Thread Cert.MlpOutFwdIdeal.nD Cert.MlpOutFwdIdeal.τ).loc Cert.MlpOutFwdIdeal.main_arg0)
      ∧ r.2.mem ((c.tc : Thread Cert.MlpOutFwdIdeal.nD Cert.MlpOutFwdIdeal.τ).loc Cert.MlpOutFwdIdeal.main_arg1) = m ((c.tc : Thread Cert.MlpOutFwdIdeal.nD Cert.MlpOutFwdIdeal.τ).loc Cert.MlpOutFwdIdeal.main_arg1)
      ∧ r.2.mem ((c.tc : Thread Cert.MlpOutFwdIdeal.nD Cert.MlpOutFwdIdeal.τ).loc Cert.MlpOutFwdIdeal.main_arg2) = m ((c.tc : Thread Cert.MlpOutFwdIdeal.nD Cert.MlpOutFwdIdeal.τ).loc Cert.MlpOutFwdIdeal.main_arg2)
      ∧ r.2.mem ((c.tc : Thread Cert.MlpOutFwdIdeal.nD Cert.MlpOutFwdIdeal.τ).loc Cert.MlpOutFwdIdeal.main_arg3) = m ((c.tc : Thread Cert.MlpOutFwdIdeal.nD Cert.MlpOutFwdIdeal.τ).loc Cert.MlpOutFwdIdeal.main_arg3))
      ∧ r.2.sem = fun _ => 0)

def quiescent_MlpOutFwdRefIdeal [hMlpOutFwdRefIdeal : Cert.MlpOutFwdRefIdeal.Facts] : Prop :=
  ∀ (m : (ℓ : Loc Cert.MlpOutFwdRefIdeal.nD Cert.MlpOutFwdRefIdeal.τ Cert.MlpOutFwdRefIdeal.sig) → Buf (Elt Ideal) ℓ) (g : Dev Cert.MlpOutFwdRefIdeal.nD → PrngReg), Pre_MlpOutFwdRefIdeal m →
    θ_run (Cert.MlpOutFwdRefIdeal.defs (F := Ideal)) (onTc (τ := Cert.MlpOutFwdRefIdeal.τ) (Cert.MlpOutFwdRefIdeal.main (F := Ideal))) ⟨m, fun _ => 0, g⟩ (fun r => (∀ c : Dev Cert.MlpOutFwdRefIdeal.nD,
      r.2.mem ((c.tc : Thread Cert.MlpOutFwdRefIdeal.nD Cert.MlpOutFwdRefIdeal.τ).loc Cert.MlpOutFwdRefIdeal.main_arg0) = m ((c.tc : Thread Cert.MlpOutFwdRefIdeal.nD Cert.MlpOutFwdRefIdeal.τ).loc Cert.MlpOutFwdRefIdeal.main_arg0)
      ∧ r.2.mem ((c.tc : Thread Cert.MlpOutFwdRefIdeal.nD Cert.MlpOutFwdRefIdeal.τ).loc Cert.MlpOutFwdRefIdeal.main_arg1) = m ((c.tc : Thread Cert.MlpOutFwdRefIdeal.nD Cert.MlpOutFwdRefIdeal.τ).loc Cert.MlpOutFwdRefIdeal.main_arg1)
      ∧ r.2.mem ((c.tc : Thread Cert.MlpOutFwdRefIdeal.nD Cert.MlpOutFwdRefIdeal.τ).loc Cert.MlpOutFwdRefIdeal.main_arg2) = m ((c.tc : Thread Cert.MlpOutFwdRefIdeal.nD Cert.MlpOutFwdRefIdeal.τ).loc Cert.MlpOutFwdRefIdeal.main_arg2)
      ∧ r.2.mem ((c.tc : Thread Cert.MlpOutFwdRefIdeal.nD Cert.MlpOutFwdRefIdeal.τ).loc Cert.MlpOutFwdRefIdeal.main_arg3) = m ((c.tc : Thread Cert.MlpOutFwdRefIdeal.nD Cert.MlpOutFwdRefIdeal.τ).loc Cert.MlpOutFwdRefIdeal.main_arg3))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3)
      ∧ r.2.mem ((c.tc : Thread Cert.ProjFwd.nD Cert.ProjFwd.τ).loc Cert.ProjFwd.main_arg4) = m ((c.tc : Thread Cert.ProjFwd.nD Cert.ProjFwd.τ).loc Cert.ProjFwd.main_arg4)
      ∧ r.2.mem ((c.tc : Thread Cert.ProjFwd.nD Cert.ProjFwd.τ).loc Cert.ProjFwd.main_arg5) = m ((c.tc : Thread Cert.ProjFwd.nD Cert.ProjFwd.τ).loc Cert.ProjFwd.main_arg5))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
      ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
      ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3)
      ∧ r.2.mem ((c.tc : Thread Cert.ProjFwdRefIdeal.nD Cert.ProjFwdRefIdeal.τ).loc Cert.ProjFwdRefIdeal.main_arg4) = m ((c.tc : Thread Cert.ProjFwdRefIdeal.nD Cert.ProjFwdRefIdeal.τ).loc Cert.ProjFwdRefIdeal.main_arg4)
      ∧ r.2.mem ((c.tc : Thread Cert.ProjFwdRefIdeal.nD Cert.ProjFwdRefIdeal.τ).loc Cert.ProjFwdRefIdeal.main_arg5) = m ((c.tc : Thread Cert.ProjFwdRefIdeal.nD Cert.ProjFwdRefIdeal.τ).loc Cert.ProjFwdRefIdeal.main_arg5))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4))
      ∧ r.2.sem = fun _ => 0)

def quiescent_MixerFwdRefIdeal [hMixerFwdRefIdeal : Cert.MixerFwdRefIdeal.Facts] : Prop :=
  ∀ (m : (ℓ : Loc Cert.MixerFwdRefIdeal.nD Cert.MixerFwdRefIdeal.τ Cert.MixerFwdRefIdeal.sig) → Buf (Elt Ideal) ℓ) (g : Dev Cert.MixerFwdRefIdeal.nD → PrngReg), Pre_MixerFwdRefIdeal m →
    θ_run (Cert.MixerFwdRefIdeal.defs (F := Ideal)) (onTc (τ := Cert.MixerFwdRefIdeal.τ) (Cert.MixerFwdRefIdeal.main (F := Ideal))) ⟨m, fun _ => 0, g⟩ (fun r => (∀ c : Dev Cert.MixerFwdRefIdeal.nD,
      r.2.mem ((c.tc : Thread Cert.MixerFwdRefIdeal.nD Cert.MixerFwdRefIdeal.τ).loc Cert.MixerFwdRefIdeal.main_arg0) = m ((c.tc : Thread Cert.MixerFwdRefIdeal.nD Cert.MixerFwdRefIdeal.τ).loc Cert.MixerFwdRefIdeal.main_arg0)
      ∧ r.2.mem ((c.tc : Thread Cert.MixerFwdRefIdeal.nD Cert.MixerFwdRefIdeal.τ).loc Cert.MixerFwdRefIdeal.main_arg1) = m ((c.tc : Thread Cert.MixerFwdRefIdeal.nD Cert.MixerFwdRefIdeal.τ).loc Cert.MixerFwdRefIdeal.main_arg1)
      ∧ r.2.mem ((c.tc : Thread Cert.MixerFwdRefIdeal.nD Cert.MixerFwdRefIdeal.τ).loc Cert.MixerFwdRefIdeal.main_arg2) = m ((c.tc : Thread Cert.MixerFwdRefIdeal.nD Cert.MixerFwdRefIdeal.τ).loc Cert.MixerFwdRefIdeal.main_arg2)
      ∧ r.2.mem ((c.tc : Thread Cert.MixerFwdRefIdeal.nD Cert.MixerFwdRefIdeal.τ).loc Cert.MixerFwdRefIdeal.main_arg3) = m ((c.tc : Thread Cert.MixerFwdRefIdeal.nD Cert.MixerFwdRefIdeal.τ).loc Cert.MixerFwdRefIdeal.main_arg3)
      ∧ r.2.mem ((c.tc : Thread Cert.MixerFwdRefIdeal.nD Cert.MixerFwdRefIdeal.τ).loc Cert.MixerFwdRefIdeal.main_arg4) = m ((c.tc : Thread Cert.MixerFwdRefIdeal.nD Cert.MixerFwdRefIdeal.τ).loc Cert.MixerFwdRefIdeal.main_arg4))
      ∧ r.2.sem = fun _ => 0)

def quiescent_MixerBwd [hMixerBwd : Cert.MixerBwd.Facts] : Prop :=
  ∀ (m : (ℓ : Loc Cert.MixerBwd.nD Cert.MixerBwd.τ Cert.MixerBwd.sig) → Buf (Elt Bits) ℓ) (g : Dev Cert.MixerBwd.nD → PrngReg), Pre_MixerBwd m →
    θ_run (Cert.MixerBwd.defs (F := Bits)) (onTc (τ := Cert.MixerBwd.τ) (Cert.MixerBwd.main (F := Bits))) ⟨m, fun _ => 0, g⟩ (fun r => (∀ c : Dev Cert.MixerBwd.nD,
      r.2.mem ((c.tc : Thread Cert.MixerBwd.nD Cert.MixerBwd.τ).loc Cert.MixerBwd.main_arg0) = m ((c.tc : Thread Cert.MixerBwd.nD Cert.MixerBwd.τ).loc Cert.MixerBwd.main_arg0)
      ∧ r.2.mem ((c.tc : Thread Cert.MixerBwd.nD Cert.MixerBwd.τ).loc Cert.MixerBwd.main_arg1) = m ((c.tc : Thread Cert.MixerBwd.nD Cert.MixerBwd.τ).loc Cert.MixerBwd.main_arg1)
      ∧ r.2.mem ((c.tc : Thread Cert.MixerBwd.nD Cert.MixerBwd.τ).loc Cert.MixerBwd.main_arg2) = m ((c.tc : Thread Cert.MixerBwd.nD Cert.MixerBwd.τ).loc Cert.MixerBwd.main_arg2)
      ∧ r.2.mem ((c.tc : Thread Cert.MixerBwd.nD Cert.MixerBwd.τ).loc Cert.MixerBwd.main_arg3) = m ((c.tc : Thread Cert.MixerBwd.nD Cert.MixerBwd.τ).loc Cert.MixerBwd.main_arg3)
      ∧ r.2.mem ((c.tc : Thread Cert.MixerBwd.nD Cert.MixerBwd.τ).loc Cert.MixerBwd.main_arg4) = m ((c.tc : Thread Cert.MixerBwd.nD Cert.MixerBwd.τ).loc Cert.MixerBwd.main_arg4)
      ∧ r.2.mem ((c.tc : Thread Cert.MixerBwd.nD Cert.MixerBwd.τ).loc Cert.MixerBwd.main_arg5) = m ((c.tc : Thread Cert.MixerBwd.nD Cert.MixerBwd.τ).loc Cert.MixerBwd.main_arg5)
      ∧ r.2.mem ((c.tc : Thread Cert.MixerBwd.nD Cert.MixerBwd.τ).loc Cert.MixerBwd.main_arg6) = m ((c.tc : Thread Cert.MixerBwd.nD Cert.MixerBwd.τ).loc Cert.MixerBwd.main_arg6)
      ∧ r.2.mem ((c.tc : Thread Cert.MixerBwd.nD Cert.MixerBwd.τ).loc Cert.MixerBwd.main_arg7) = m ((c.tc : Thread Cert.MixerBwd.nD Cert.MixerBwd.τ).loc Cert.MixerBwd.main_arg7)
      ∧ r.2.mem ((c.tc : Thread Cert.MixerBwd.nD Cert.MixerBwd.τ).loc Cert.MixerBwd.main_arg8) = m ((c.tc : Thread Cert.MixerBwd.nD Cert.MixerBwd.τ).loc Cert.MixerBwd.main_arg8)
      ∧ r.2.mem ((c.tc : Thread Cert.MixerBwd.nD Cert.MixerBwd.τ).loc Cert.MixerBwd.main_arg9) = m ((c.tc : Thread Cert.MixerBwd.nD Cert.MixerBwd.τ).loc Cert.MixerBwd.main_arg9)
      ∧ r.2.mem ((c.tc : Thread Cert.MixerBwd.nD Cert.MixerBwd.τ).loc Cert.MixerBwd.main_arg10) = m ((c.tc : Thread Cert.MixerBwd.nD Cert.MixerBwd.τ).loc Cert.MixerBwd.main_arg10)
      ∧ r.2.mem ((c.tc : Thread Cert.MixerBwd.nD Cert.MixerBwd.τ).loc Cert.MixerBwd.main_arg11) = m ((c.tc : Thread Cert.MixerBwd.nD Cert.MixerBwd.τ).loc Cert.MixerBwd.main_arg11)
      ∧ r.2.mem ((c.tc : Thread Cert.MixerBwd.nD Cert.MixerBwd.τ).loc Cert.MixerBwd.main_arg12) = m ((c.tc : Thread Cert.MixerBwd.nD Cert.MixerBwd.τ).loc Cert.MixerBwd.main_arg12))
      ∧ r.2.sem = fun _ => 0)

def quiescent_MixerBwdIdeal [hMixerBwdIdeal : Cert.MixerBwdIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg), Pre_MixerBwdIdeal m →
    θ_run (Cert.MixerBwdIdeal.defs (F := Ideal)) (onTc (τ := Cert.MixerBwdIdeal.τ) (Cert.MixerBwdIdeal.main (F := Ideal))) ⟨m, fun _ => 0, g⟩ (fun r => (∀ c : Dev Cert.MixerBwdIdeal.nD,
      r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
      ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
      ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
      ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
      ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
      ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
      ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
      ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
      ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
      ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9)
      ∧ r.2.mem ((c.tc : Thread Cert.MixerBwdIdeal.nD Cert.MixerBwdIdeal.τ).loc Cert.MixerBwdIdeal.main_arg10) = m ((c.tc : Thread Cert.MixerBwdIdeal.nD Cert.MixerBwdIdeal.τ).loc Cert.MixerBwdIdeal.main_arg10)
      ∧ r.2.mem ((c.tc : Thread Cert.MixerBwdIdeal.nD Cert.MixerBwdIdeal.τ).loc Cert.MixerBwdIdeal.main_arg11) = m ((c.tc : Thread Cert.MixerBwdIdeal.nD Cert.MixerBwdIdeal.τ).loc Cert.MixerBwdIdeal.main_arg11)
      ∧ r.2.mem ((c.tc : Thread Cert.MixerBwdIdeal.nD Cert.MixerBwdIdeal.τ).loc Cert.MixerBwdIdeal.main_arg12) = m ((c.tc : Thread Cert.MixerBwdIdeal.nD Cert.MixerBwdIdeal.τ).loc Cert.MixerBwdIdeal.main_arg12))
      ∧ r.2.sem = fun _ => 0)

def quiescent_MixerBwdRefIdeal [hMixerBwdRefIdeal : Cert.MixerBwdRefIdeal.Facts] : Prop :=
  ∀ (m : (ℓ : Loc Cert.MixerBwdRefIdeal.nD Cert.MixerBwdRefIdeal.τ Cert.MixerBwdRefIdeal.sig) → Buf (Elt Ideal) ℓ) (g : Dev Cert.MixerBwdRefIdeal.nD → PrngReg), Pre_MixerBwdRefIdeal m →
    θ_run (Cert.MixerBwdRefIdeal.defs (F := Ideal)) (onTc (τ := Cert.MixerBwdRefIdeal.τ) (Cert.MixerBwdRefIdeal.main (F := Ideal))) ⟨m, fun _ => 0, g⟩ (fun r => (∀ c : Dev Cert.MixerBwdRefIdeal.nD,
      r.2.mem ((c.tc : Thread Cert.MixerBwdRefIdeal.nD Cert.MixerBwdRefIdeal.τ).loc Cert.MixerBwdRefIdeal.main_arg0) = m ((c.tc : Thread Cert.MixerBwdRefIdeal.nD Cert.MixerBwdRefIdeal.τ).loc Cert.MixerBwdRefIdeal.main_arg0)
      ∧ r.2.mem ((c.tc : Thread Cert.MixerBwdRefIdeal.nD Cert.MixerBwdRefIdeal.τ).loc Cert.MixerBwdRefIdeal.main_arg1) = m ((c.tc : Thread Cert.MixerBwdRefIdeal.nD Cert.MixerBwdRefIdeal.τ).loc Cert.MixerBwdRefIdeal.main_arg1)
      ∧ r.2.mem ((c.tc : Thread Cert.MixerBwdRefIdeal.nD Cert.MixerBwdRefIdeal.τ).loc Cert.MixerBwdRefIdeal.main_arg2) = m ((c.tc : Thread Cert.MixerBwdRefIdeal.nD Cert.MixerBwdRefIdeal.τ).loc Cert.MixerBwdRefIdeal.main_arg2)
      ∧ r.2.mem ((c.tc : Thread Cert.MixerBwdRefIdeal.nD Cert.MixerBwdRefIdeal.τ).loc Cert.MixerBwdRefIdeal.main_arg3) = m ((c.tc : Thread Cert.MixerBwdRefIdeal.nD Cert.MixerBwdRefIdeal.τ).loc Cert.MixerBwdRefIdeal.main_arg3)
      ∧ r.2.mem ((c.tc : Thread Cert.MixerBwdRefIdeal.nD Cert.MixerBwdRefIdeal.τ).loc Cert.MixerBwdRefIdeal.main_arg4) = m ((c.tc : Thread Cert.MixerBwdRefIdeal.nD Cert.MixerBwdRefIdeal.τ).loc Cert.MixerBwdRefIdeal.main_arg4)
      ∧ r.2.mem ((c.tc : Thread Cert.MixerBwdRefIdeal.nD Cert.MixerBwdRefIdeal.τ).loc Cert.MixerBwdRefIdeal.main_arg5) = m ((c.tc : Thread Cert.MixerBwdRefIdeal.nD Cert.MixerBwdRefIdeal.τ).loc Cert.MixerBwdRefIdeal.main_arg5)
      ∧ r.2.mem ((c.tc : Thread Cert.MixerBwdRefIdeal.nD Cert.MixerBwdRefIdeal.τ).loc Cert.MixerBwdRefIdeal.main_arg6) = m ((c.tc : Thread Cert.MixerBwdRefIdeal.nD Cert.MixerBwdRefIdeal.τ).loc Cert.MixerBwdRefIdeal.main_arg6)
      ∧ r.2.mem ((c.tc : Thread Cert.MixerBwdRefIdeal.nD Cert.MixerBwdRefIdeal.τ).loc Cert.MixerBwdRefIdeal.main_arg7) = m ((c.tc : Thread Cert.MixerBwdRefIdeal.nD Cert.MixerBwdRefIdeal.τ).loc Cert.MixerBwdRefIdeal.main_arg7)
      ∧ r.2.mem ((c.tc : Thread Cert.MixerBwdRefIdeal.nD Cert.MixerBwdRefIdeal.τ).loc Cert.MixerBwdRefIdeal.main_arg8) = m ((c.tc : Thread Cert.MixerBwdRefIdeal.nD Cert.MixerBwdRefIdeal.τ).loc Cert.MixerBwdRefIdeal.main_arg8)
      ∧ r.2.mem ((c.tc : Thread Cert.MixerBwdRefIdeal.nD Cert.MixerBwdRefIdeal.τ).loc Cert.MixerBwdRefIdeal.main_arg9) = m ((c.tc : Thread Cert.MixerBwdRefIdeal.nD Cert.MixerBwdRefIdeal.τ).loc Cert.MixerBwdRefIdeal.main_arg9)
      ∧ r.2.mem ((c.tc : Thread Cert.MixerBwdRefIdeal.nD Cert.MixerBwdRefIdeal.τ).loc Cert.MixerBwdRefIdeal.main_arg10) = m ((c.tc : Thread Cert.MixerBwdRefIdeal.nD Cert.MixerBwdRefIdeal.τ).loc Cert.MixerBwdRefIdeal.main_arg10)
      ∧ r.2.mem ((c.tc : Thread Cert.MixerBwdRefIdeal.nD Cert.MixerBwdRefIdeal.τ).loc Cert.MixerBwdRefIdeal.main_arg11) = m ((c.tc : Thread Cert.MixerBwdRefIdeal.nD Cert.MixerBwdRefIdeal.τ).loc Cert.MixerBwdRefIdeal.main_arg11)
      ∧ r.2.mem ((c.tc : Thread Cert.MixerBwdRefIdeal.nD Cert.MixerBwdRefIdeal.τ).loc Cert.MixerBwdRefIdeal.main_arg12) = m ((c.tc : Thread Cert.MixerBwdRefIdeal.nD Cert.MixerBwdRefIdeal.τ).loc Cert.MixerBwdRefIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelBwd_KernelBwdIdeal : Prop :=
  True

def algebraic_KernelBwdIdeal_ReferenceBwdIdeal [hKernelBwdIdeal : Cert.KernelBwdIdeal.Facts] [hReferenceBwdIdeal : Cert.ReferenceBwdIdeal.Facts] : Prop :=
  ∀ (m : (ℓ : Loc Cert.KernelBwdIdeal.nD Cert.KernelBwdIdeal.τ Cert.KernelBwdIdeal.sig) → Buf (Elt Ideal) ℓ) (g : Dev Cert.KernelBwdIdeal.nD → PrngReg)
    (m' : (ℓ : Loc Cert.ReferenceBwdIdeal.nD Cert.ReferenceBwdIdeal.τ Cert.ReferenceBwdIdeal.sig) → Buf (Elt Ideal) ℓ) (g' : Dev Cert.ReferenceBwdIdeal.nD → PrngReg), Pre_KernelBwdIdeal m →
    (∀ c : Dev Cert.KernelBwdIdeal.nD,
      m' ((c.tc : Thread Cert.ReferenceBwdIdeal.nD Cert.ReferenceBwdIdeal.τ).loc Cert.ReferenceBwdIdeal.main_arg0) = m ((c.tc : Thread Cert.KernelBwdIdeal.nD Cert.KernelBwdIdeal.τ).loc Cert.KernelBwdIdeal.main_arg0)
      ∧ m' ((c.tc : Thread Cert.ReferenceBwdIdeal.nD Cert.ReferenceBwdIdeal.τ).loc Cert.ReferenceBwdIdeal.main_arg1) = m ((c.tc : Thread Cert.KernelBwdIdeal.nD Cert.KernelBwdIdeal.τ).loc Cert.KernelBwdIdeal.main_arg1)
      ∧ m' ((c.tc : Thread Cert.ReferenceBwdIdeal.nD Cert.ReferenceBwdIdeal.τ).loc Cert.ReferenceBwdIdeal.main_arg2) = m ((c.tc : Thread Cert.KernelBwdIdeal.nD Cert.KernelBwdIdeal.τ).loc Cert.KernelBwdIdeal.main_arg2)
      ∧ m' ((c.tc : Thread Cert.ReferenceBwdIdeal.nD Cert.ReferenceBwdIdeal.τ).loc Cert.ReferenceBwdIdeal.main_arg3) = m ((c.tc : Thread Cert.KernelBwdIdeal.nD Cert.KernelBwdIdeal.τ).loc Cert.KernelBwdIdeal.main_arg3)
      ∧ m' ((c.tc : Thread Cert.ReferenceBwdIdeal.nD Cert.ReferenceBwdIdeal.τ).loc Cert.ReferenceBwdIdeal.main_arg4) = m ((c.tc : Thread Cert.KernelBwdIdeal.nD Cert.KernelBwdIdeal.τ).loc Cert.KernelBwdIdeal.main_arg4)
      ∧ m' ((c.tc : Thread Cert.ReferenceBwdIdeal.nD Cert.ReferenceBwdIdeal.τ).loc Cert.ReferenceBwdIdeal.main_arg5) = m ((c.tc : Thread Cert.KernelBwdIdeal.nD Cert.KernelBwdIdeal.τ).loc Cert.KernelBwdIdeal.main_arg5)
      ∧ m' ((c.tc : Thread Cert.ReferenceBwdIdeal.nD Cert.ReferenceBwdIdeal.τ).loc Cert.ReferenceBwdIdeal.main_arg6) = m ((c.tc : Thread Cert.KernelBwdIdeal.nD Cert.KernelBwdIdeal.τ).loc Cert.KernelBwdIdeal.main_arg6)
      ∧ m' ((c.tc : Thread Cert.ReferenceBwdIdeal.nD Cert.ReferenceBwdIdeal.τ).loc Cert.ReferenceBwdIdeal.main_arg7) = m ((c.tc : Thread Cert.KernelBwdIdeal.nD Cert.KernelBwdIdeal.τ).loc Cert.KernelBwdIdeal.main_arg7)
      ∧ m' ((c.tc : Thread Cert.ReferenceBwdIdeal.nD Cert.ReferenceBwdIdeal.τ).loc Cert.ReferenceBwdIdeal.main_arg8) = m ((c.tc : Thread Cert.KernelBwdIdeal.nD Cert.KernelBwdIdeal.τ).loc Cert.KernelBwdIdeal.main_arg8)
      ∧ m' ((c.tc : Thread Cert.ReferenceBwdIdeal.nD Cert.ReferenceBwdIdeal.τ).loc Cert.ReferenceBwdIdeal.main_arg9) = m ((c.tc : Thread Cert.KernelBwdIdeal.nD Cert.KernelBwdIdeal.τ).loc Cert.KernelBwdIdeal.main_arg9)) →
    ∃ (v0 : (c : Dev Cert.KernelBwdIdeal.nD) → Buf (Elt Ideal) ((c.tc : Thread Cert.KernelBwdIdeal.nD Cert.KernelBwdIdeal.τ).loc Cert.KernelBwdIdeal.main_v0_0)) (v1 : (c : Dev Cert.KernelBwdIdeal.nD) → Buf (Elt Ideal) ((c.tc : Thread Cert.KernelBwdIdeal.nD Cert.KernelBwdIdeal.τ).loc Cert.KernelBwdIdeal.main_v0_1)) (v2 : (c : Dev Cert.KernelBwdIdeal.nD) → Buf (Elt Ideal) ((c.tc : Thread Cert.KernelBwdIdeal.nD Cert.KernelBwdIdeal.τ).loc Cert.KernelBwdIdeal.main_v0_2)) (v3 : (c : Dev Cert.KernelBwdIdeal.nD) → Buf (Elt Ideal) ((c.tc : Thread Cert.KernelBwdIdeal.nD Cert.KernelBwdIdeal.τ).loc Cert.KernelBwdIdeal.main_v0_3)) (v4 : (c : Dev Cert.KernelBwdIdeal.nD) → Buf (Elt Ideal) ((c.tc : Thread Cert.KernelBwdIdeal.nD Cert.KernelBwdIdeal.τ).loc Cert.KernelBwdIdeal.main_v0_4)) (v5 : (c : Dev Cert.KernelBwdIdeal.nD) → Buf (Elt Ideal) ((c.tc : Thread Cert.KernelBwdIdeal.nD Cert.KernelBwdIdeal.τ).loc Cert.KernelBwdIdeal.main_v0_5)) (v6 : (c : Dev Cert.KernelBwdIdeal.nD) → Buf (Elt Ideal) ((c.tc : Thread Cert.KernelBwdIdeal.nD Cert.KernelBwdIdeal.τ).loc Cert.KernelBwdIdeal.main_v0_6)) (v7 : (c : Dev Cert.KernelBwdIdeal.nD) → Buf (Elt Ideal) ((c.tc : Thread Cert.KernelBwdIdeal.nD Cert.KernelBwdIdeal.τ).loc Cert.KernelBwdIdeal.main_v0_7)),
      θ_run (Cert.KernelBwdIdeal.defs (F := Ideal)) (onTc (τ := Cert.KernelBwdIdeal.τ) (Cert.KernelBwdIdeal.main (F := Ideal))) ⟨m, fun _ => 0, g⟩ (fun r => ∀ c : Dev Cert.KernelBwdIdeal.nD,
          r.2.mem ((c.tc : Thread Cert.KernelBwdIdeal.nD Cert.KernelBwdIdeal.τ).loc Cert.KernelBwdIdeal.main_v0_0) = v0 c
          ∧ r.2.mem ((c.tc : Thread Cert.KernelBwdIdeal.nD Cert.KernelBwdIdeal.τ).loc Cert.KernelBwdIdeal.main_v0_1) = v1 c
          ∧ r.2.mem ((c.tc : Thread Cert.KernelBwdIdeal.nD Cert.KernelBwdIdeal.τ).loc Cert.KernelBwdIdeal.main_v0_2) = v2 c
          ∧ r.2.mem ((c.tc : Thread Cert.KernelBwdIdeal.nD Cert.KernelBwdIdeal.τ).loc Cert.KernelBwdIdeal.main_v0_3) = v3 c
          ∧ r.2.mem ((c.tc : Thread Cert.KernelBwdIdeal.nD Cert.KernelBwdIdeal.τ).loc Cert.KernelBwdIdeal.main_v0_4) = v4 c
          ∧ r.2.mem ((c.tc : Thread Cert.KernelBwdIdeal.nD Cert.KernelBwdIdeal.τ).loc Cert.KernelBwdIdeal.main_v0_5) = v5 c
          ∧ r.2.mem ((c.tc : Thread Cert.KernelBwdIdeal.nD Cert.KernelBwdIdeal.τ).loc Cert.KernelBwdIdeal.main_v0_6) = v6 c
          ∧ r.2.mem ((c.tc : Thread Cert.KernelBwdIdeal.nD Cert.KernelBwdIdeal.τ).loc Cert.KernelBwdIdeal.main_v0_7) = v7 c
          ∧ r.2.mem ((c.tc : Thread Cert.KernelBwdIdeal.nD Cert.KernelBwdIdeal.τ).loc Cert.KernelBwdIdeal.main_arg0) = m ((c.tc : Thread Cert.KernelBwdIdeal.nD Cert.KernelBwdIdeal.τ).loc Cert.KernelBwdIdeal.main_arg0)
          ∧ r.2.mem ((c.tc : Thread Cert.KernelBwdIdeal.nD Cert.KernelBwdIdeal.τ).loc Cert.KernelBwdIdeal.main_arg1) = m ((c.tc : Thread Cert.KernelBwdIdeal.nD Cert.KernelBwdIdeal.τ).loc Cert.KernelBwdIdeal.main_arg1)
          ∧ r.2.mem ((c.tc : Thread Cert.KernelBwdIdeal.nD Cert.KernelBwdIdeal.τ).loc Cert.KernelBwdIdeal.main_arg2) = m ((c.tc : Thread Cert.KernelBwdIdeal.nD Cert.KernelBwdIdeal.τ).loc Cert.KernelBwdIdeal.main_arg2)
          ∧ r.2.mem ((c.tc : Thread Cert.KernelBwdIdeal.nD Cert.KernelBwdIdeal.τ).loc Cert.KernelBwdIdeal.main_arg3) = m ((c.tc : Thread Cert.KernelBwdIdeal.nD Cert.KernelBwdIdeal.τ).loc Cert.KernelBwdIdeal.main_arg3)
          ∧ r.2.mem ((c.tc : Thread Cert.KernelBwdIdeal.nD Cert.KernelBwdIdeal.τ).loc Cert.KernelBwdIdeal.main_arg4) = m ((c.tc : Thread Cert.KernelBwdIdeal.nD Cert.KernelBwdIdeal.τ).loc Cert.KernelBwdIdeal.main_arg4)
          ∧ r.2.mem ((c.tc : Thread Cert.KernelBwdIdeal.nD Cert.KernelBwdIdeal.τ).loc Cert.KernelBwdIdeal.main_arg5) = m ((c.tc : Thread Cert.KernelBwdIdeal.nD Cert.KernelBwdIdeal.τ).loc Cert.KernelBwdIdeal.main_arg5)
          ∧ r.2.mem ((c.tc : Thread Cert.KernelBwdIdeal.nD Cert.KernelBwdIdeal.τ).loc Cert.KernelBwdIdeal.main_arg6) = m ((c.tc : Thread Cert.KernelBwdIdeal.nD Cert.KernelBwdIdeal.τ).loc Cert.KernelBwdIdeal.main_arg6)
          ∧ r.2.mem ((c.tc : Thread Cert.KernelBwdIdeal.nD Cert.KernelBwdIdeal.τ).loc Cert.KernelBwdIdeal.main_arg7) = m ((c.tc : Thread Cert.KernelBwdIdeal.nD Cert.KernelBwdIdeal.τ).loc Cert.KernelBwdIdeal.main_arg7)
          ∧ r.2.mem ((c.tc : Thread Cert.KernelBwdIdeal.nD Cert.KernelBwdIdeal.τ).loc Cert.KernelBwdIdeal.main_arg8) = m ((c.tc : Thread Cert.KernelBwdIdeal.nD Cert.KernelBwdIdeal.τ).loc Cert.KernelBwdIdeal.main_arg8)
          ∧ r.2.mem ((c.tc : Thread Cert.KernelBwdIdeal.nD Cert.KernelBwdIdeal.τ).loc Cert.KernelBwdIdeal.main_arg9) = m ((c.tc : Thread Cert.KernelBwdIdeal.nD Cert.KernelBwdIdeal.τ).loc Cert.KernelBwdIdeal.main_arg9))
      ∧ θ_run (Cert.ReferenceBwdIdeal.defs (F := Ideal)) (onTc (τ := Cert.ReferenceBwdIdeal.τ) (Cert.ReferenceBwdIdeal.main (F := Ideal))) ⟨m', fun _ => 0, g'⟩ (fun r => ∀ c : Dev Cert.ReferenceBwdIdeal.nD,
          r.2.mem ((c.tc : Thread Cert.ReferenceBwdIdeal.nD Cert.ReferenceBwdIdeal.τ).loc Cert.ReferenceBwdIdeal.main_v29) = v0 c
          ∧ r.2.mem ((c.tc : Thread Cert.ReferenceBwdIdeal.nD Cert.ReferenceBwdIdeal.τ).loc Cert.ReferenceBwdIdeal.main_v31) = v1 c
          ∧ r.2.mem ((c.tc : Thread Cert.ReferenceBwdIdeal.nD Cert.ReferenceBwdIdeal.τ).loc Cert.ReferenceBwdIdeal.main_v33) = v2 c
          ∧ r.2.mem ((c.tc : Thread Cert.ReferenceBwdIdeal.nD Cert.ReferenceBwdIdeal.τ).loc Cert.ReferenceBwdIdeal.main_v35) = v3 c
          ∧ r.2.mem ((c.tc : Thread Cert.ReferenceBwdIdeal.nD Cert.ReferenceBwdIdeal.τ).loc Cert.ReferenceBwdIdeal.main_v37) = v4 c
          ∧ r.2.mem ((c.tc : Thread Cert.ReferenceBwdIdeal.nD Cert.ReferenceBwdIdeal.τ).loc Cert.ReferenceBwdIdeal.main_v39) = v5 c
          ∧ r.2.mem ((c.tc : Thread Cert.ReferenceBwdIdeal.nD Cert.ReferenceBwdIdeal.τ).loc Cert.ReferenceBwdIdeal.main_v41) = v6 c
          ∧ r.2.mem ((c.tc : Thread Cert.ReferenceBwdIdeal.nD Cert.ReferenceBwdIdeal.τ).loc Cert.ReferenceBwdIdeal.main_v42) = v7 c
          ∧ r.2.mem ((c.tc : Thread Cert.ReferenceBwdIdeal.nD Cert.ReferenceBwdIdeal.τ).loc Cert.ReferenceBwdIdeal.main_arg0) = m' ((c.tc : Thread Cert.ReferenceBwdIdeal.nD Cert.ReferenceBwdIdeal.τ).loc Cert.ReferenceBwdIdeal.main_arg0)
          ∧ r.2.mem ((c.tc : Thread Cert.ReferenceBwdIdeal.nD Cert.ReferenceBwdIdeal.τ).loc Cert.ReferenceBwdIdeal.main_arg1) = m' ((c.tc : Thread Cert.ReferenceBwdIdeal.nD Cert.ReferenceBwdIdeal.τ).loc Cert.ReferenceBwdIdeal.main_arg1)
          ∧ r.2.mem ((c.tc : Thread Cert.ReferenceBwdIdeal.nD Cert.ReferenceBwdIdeal.τ).loc Cert.ReferenceBwdIdeal.main_arg2) = m' ((c.tc : Thread Cert.ReferenceBwdIdeal.nD Cert.ReferenceBwdIdeal.τ).loc Cert.ReferenceBwdIdeal.main_arg2)
          ∧ r.2.mem ((c.tc : Thread Cert.ReferenceBwdIdeal.nD Cert.ReferenceBwdIdeal.τ).loc Cert.ReferenceBwdIdeal.main_arg3) = m' ((c.tc : Thread Cert.ReferenceBwdIdeal.nD Cert.ReferenceBwdIdeal.τ).loc Cert.ReferenceBwdIdeal.main_arg3)
          ∧ r.2.mem ((c.tc : Thread Cert.ReferenceBwdIdeal.nD Cert.ReferenceBwdIdeal.τ).loc Cert.ReferenceBwdIdeal.main_arg4) = m' ((c.tc : Thread Cert.ReferenceBwdIdeal.nD Cert.ReferenceBwdIdeal.τ).loc Cert.ReferenceBwdIdeal.main_arg4)
          ∧ r.2.mem ((c.tc : Thread Cert.ReferenceBwdIdeal.nD Cert.ReferenceBwdIdeal.τ).loc Cert.ReferenceBwdIdeal.main_arg5) = m' ((c.tc : Thread Cert.ReferenceBwdIdeal.nD Cert.ReferenceBwdIdeal.τ).loc Cert.ReferenceBwdIdeal.main_arg5)
          ∧ r.2.mem ((c.tc : Thread Cert.ReferenceBwdIdeal.nD Cert.ReferenceBwdIdeal.τ).loc Cert.ReferenceBwdIdeal.main_arg6) = m' ((c.tc : Thread Cert.ReferenceBwdIdeal.nD Cert.ReferenceBwdIdeal.τ).loc Cert.ReferenceBwdIdeal.main_arg6)
          ∧ r.2.mem ((c.tc : Thread Cert.ReferenceBwdIdeal.nD Cert.ReferenceBwdIdeal.τ).loc Cert.ReferenceBwdIdeal.main_arg7) = m' ((c.tc : Thread Cert.ReferenceBwdIdeal.nD Cert.ReferenceBwdIdeal.τ).loc Cert.ReferenceBwdIdeal.main_arg7)
          ∧ r.2.mem ((c.tc : Thread Cert.ReferenceBwdIdeal.nD Cert.ReferenceBwdIdeal.τ).loc Cert.ReferenceBwdIdeal.main_arg8) = m' ((c.tc : Thread Cert.ReferenceBwdIdeal.nD Cert.ReferenceBwdIdeal.τ).loc Cert.ReferenceBwdIdeal.main_arg8)
          ∧ r.2.mem ((c.tc : Thread Cert.ReferenceBwdIdeal.nD Cert.ReferenceBwdIdeal.τ).loc Cert.ReferenceBwdIdeal.main_arg9) = m' ((c.tc : Thread Cert.ReferenceBwdIdeal.nD Cert.ReferenceBwdIdeal.τ).loc Cert.ReferenceBwdIdeal.main_arg9))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)
      ∧ m' ((c.tc : Thread Cert.MlpOutRefIdeal.nD Cert.MlpOutRefIdeal.τ).loc Cert.MlpOutRefIdeal.main_arg4) = m ((c.tc : Thread Cert.MlpOutIdeal.nD Cert.MlpOutIdeal.τ).loc Cert.MlpOutIdeal.main_arg4)) →
    ∃ (v0 : (c : Dev Cert.MlpOutIdeal.nD) → Buf (Elt Ideal) ((c.tc : Thread Cert.MlpOutIdeal.nD Cert.MlpOutIdeal.τ).loc Cert.MlpOutIdeal.main_v4_0)) (v1 : (c : Dev Cert.MlpOutIdeal.nD) → Buf (Elt Ideal) ((c.tc : Thread Cert.MlpOutIdeal.nD Cert.MlpOutIdeal.τ).loc Cert.MlpOutIdeal.main_v4_1)) (v2 : (c : Dev Cert.MlpOutIdeal.nD) → Buf (Elt Ideal) ((c.tc : Thread Cert.MlpOutIdeal.nD Cert.MlpOutIdeal.τ).loc Cert.MlpOutIdeal.main_v4_2)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v4_0) = v0 c
          ∧ r.2.mem ((c.tc : Thread Cert.MlpOutIdeal.nD Cert.MlpOutIdeal.τ).loc Cert.MlpOutIdeal.main_v4_1) = v1 c
          ∧ r.2.mem ((c.tc : Thread Cert.MlpOutIdeal.nD Cert.MlpOutIdeal.τ).loc Cert.MlpOutIdeal.main_v4_2) = v2 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
          ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_arg4) = v0 c
          ∧ r.2.mem ((c.tc : Thread Cert.MlpOutRefIdeal.nD Cert.MlpOutRefIdeal.τ).loc Cert.MlpOutRefIdeal.main_v22) = v1 c
          ∧ r.2.mem ((c.tc : Thread Cert.MlpOutRefIdeal.nD Cert.MlpOutRefIdeal.τ).loc Cert.MlpOutRefIdeal.main_v17) = v2 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3)
          ∧ r.2.mem ((c.tc : Thread Cert.MlpOutRefIdeal.nD Cert.MlpOutRefIdeal.τ).loc Cert.MlpOutRefIdeal.main_arg4) = m' ((c.tc : Thread Cert.MlpOutRefIdeal.nD Cert.MlpOutRefIdeal.τ).loc Cert.MlpOutRefIdeal.main_arg4))

def preserves_MlpOutW_MlpOutWIdeal : Prop :=
  True

def algebraic_MlpOutWIdeal_MlpOutWRefIdeal [hMlpOutWIdeal : Cert.MlpOutWIdeal.Facts] [hMlpOutWRefIdeal : Cert.MlpOutWRefIdeal.Facts] : Prop :=
  ∀ (m : (ℓ : Loc Cert.MlpOutWIdeal.nD Cert.MlpOutWIdeal.τ Cert.MlpOutWIdeal.sig) → Buf (Elt Ideal) ℓ) (g : Dev Cert.MlpOutWIdeal.nD → PrngReg)
    (m' : (ℓ : Loc Cert.MlpOutWRefIdeal.nD Cert.MlpOutWRefIdeal.τ Cert.MlpOutWRefIdeal.sig) → Buf (Elt Ideal) ℓ) (g' : Dev Cert.MlpOutWRefIdeal.nD → PrngReg), Pre_MlpOutWIdeal m →
    (∀ c : Dev Cert.MlpOutWIdeal.nD,
      m' ((c.tc : Thread Cert.MlpOutWRefIdeal.nD Cert.MlpOutWRefIdeal.τ).loc Cert.MlpOutWRefIdeal.main_arg0) = m ((c.tc : Thread Cert.MlpOutWIdeal.nD Cert.MlpOutWIdeal.τ).loc Cert.MlpOutWIdeal.main_arg0)
      ∧ m' ((c.tc : Thread Cert.MlpOutWRefIdeal.nD Cert.MlpOutWRefIdeal.τ).loc Cert.MlpOutWRefIdeal.main_arg1) = m ((c.tc : Thread Cert.MlpOutWIdeal.nD Cert.MlpOutWIdeal.τ).loc Cert.MlpOutWIdeal.main_arg1)
      ∧ m' ((c.tc : Thread Cert.MlpOutWRefIdeal.nD Cert.MlpOutWRefIdeal.τ).loc Cert.MlpOutWRefIdeal.main_arg2) = m ((c.tc : Thread Cert.MlpOutWIdeal.nD Cert.MlpOutWIdeal.τ).loc Cert.MlpOutWIdeal.main_arg2)
      ∧ m' ((c.tc : Thread Cert.MlpOutWRefIdeal.nD Cert.MlpOutWRefIdeal.τ).loc Cert.MlpOutWRefIdeal.main_arg3) = m ((c.tc : Thread Cert.MlpOutWIdeal.nD Cert.MlpOutWIdeal.τ).loc Cert.MlpOutWIdeal.main_arg3)
      ∧ m' ((c.tc : Thread Cert.MlpOutWRefIdeal.nD Cert.MlpOutWRefIdeal.τ).loc Cert.MlpOutWRefIdeal.main_arg4) = m ((c.tc : Thread Cert.MlpOutWIdeal.nD Cert.MlpOutWIdeal.τ).loc Cert.MlpOutWIdeal.main_arg4)) →
    ∃ (v0 : (c : Dev Cert.MlpOutWIdeal.nD) → Buf (Elt Ideal) ((c.tc : Thread Cert.MlpOutWIdeal.nD Cert.MlpOutWIdeal.τ).loc Cert.MlpOutWIdeal.main_v0)),
      θ_run (Cert.MlpOutWIdeal.defs (F := Ideal)) (onTc (τ := Cert.MlpOutWIdeal.τ) (Cert.MlpOutWIdeal.main (F := Ideal))) ⟨m, fun _ => 0, g⟩ (fun r => ∀ c : Dev Cert.MlpOutWIdeal.nD,
          r.2.mem ((c.tc : Thread Cert.MlpOutWIdeal.nD Cert.MlpOutWIdeal.τ).loc Cert.MlpOutWIdeal.main_v0) = v0 c
          ∧ r.2.mem ((c.tc : Thread Cert.MlpOutWIdeal.nD Cert.MlpOutWIdeal.τ).loc Cert.MlpOutWIdeal.main_arg0) = m ((c.tc : Thread Cert.MlpOutWIdeal.nD Cert.MlpOutWIdeal.τ).loc Cert.MlpOutWIdeal.main_arg0)
          ∧ r.2.mem ((c.tc : Thread Cert.MlpOutWIdeal.nD Cert.MlpOutWIdeal.τ).loc Cert.MlpOutWIdeal.main_arg1) = m ((c.tc : Thread Cert.MlpOutWIdeal.nD Cert.MlpOutWIdeal.τ).loc Cert.MlpOutWIdeal.main_arg1)
          ∧ r.2.mem ((c.tc : Thread Cert.MlpOutWIdeal.nD Cert.MlpOutWIdeal.τ).loc Cert.MlpOutWIdeal.main_arg2) = m ((c.tc : Thread Cert.MlpOutWIdeal.nD Cert.MlpOutWIdeal.τ).loc Cert.MlpOutWIdeal.main_arg2)
          ∧ r.2.mem ((c.tc : Thread Cert.MlpOutWIdeal.nD Cert.MlpOutWIdeal.τ).loc Cert.MlpOutWIdeal.main_arg3) = m ((c.tc : Thread Cert.MlpOutWIdeal.nD Cert.MlpOutWIdeal.τ).loc Cert.MlpOutWIdeal.main_arg3)
          ∧ r.2.mem ((c.tc : Thread Cert.MlpOutWIdeal.nD Cert.MlpOutWIdeal.τ).loc Cert.MlpOutWIdeal.main_arg4) = m ((c.tc : Thread Cert.MlpOutWIdeal.nD Cert.MlpOutWIdeal.τ).loc Cert.MlpOutWIdeal.main_arg4))
      ∧ θ_run (Cert.MlpOutWRefIdeal.defs (F := Ideal)) (onTc (τ := Cert.MlpOutWRefIdeal.τ) (Cert.MlpOutWRefIdeal.main (F := Ideal))) ⟨m', fun _ => 0, g'⟩ (fun r => ∀ c : Dev Cert.MlpOutWRefIdeal.nD,
          r.2.mem ((c.tc : Thread Cert.MlpOutWRefIdeal.nD Cert.MlpOutWRefIdeal.τ).loc Cert.MlpOutWRefIdeal.main_v10) = v0 c
          ∧ r.2.mem ((c.tc : Thread Cert.MlpOutWRefIdeal.nD Cert.MlpOutWRefIdeal.τ).loc Cert.MlpOutWRefIdeal.main_arg0) = m' ((c.tc : Thread Cert.MlpOutWRefIdeal.nD Cert.MlpOutWRefIdeal.τ).loc Cert.MlpOutWRefIdeal.main_arg0)
          ∧ r.2.mem ((c.tc : Thread Cert.MlpOutWRefIdeal.nD Cert.MlpOutWRefIdeal.τ).loc Cert.MlpOutWRefIdeal.main_arg1) = m' ((c.tc : Thread Cert.MlpOutWRefIdeal.nD Cert.MlpOutWRefIdeal.τ).loc Cert.MlpOutWRefIdeal.main_arg1)
          ∧ r.2.mem ((c.tc : Thread Cert.MlpOutWRefIdeal.nD Cert.MlpOutWRefIdeal.τ).loc Cert.MlpOutWRefIdeal.main_arg2) = m' ((c.tc : Thread Cert.MlpOutWRefIdeal.nD Cert.MlpOutWRefIdeal.τ).loc Cert.MlpOutWRefIdeal.main_arg2)
          ∧ r.2.mem ((c.tc : Thread Cert.MlpOutWRefIdeal.nD Cert.MlpOutWRefIdeal.τ).loc Cert.MlpOutWRefIdeal.main_arg3) = m' ((c.tc : Thread Cert.MlpOutWRefIdeal.nD Cert.MlpOutWRefIdeal.τ).loc Cert.MlpOutWRefIdeal.main_arg3)
          ∧ r.2.mem ((c.tc : Thread Cert.MlpOutWRefIdeal.nD Cert.MlpOutWRefIdeal.τ).loc Cert.MlpOutWRefIdeal.main_arg4) = m' ((c.tc : Thread Cert.MlpOutWRefIdeal.nD Cert.MlpOutWRefIdeal.τ).loc Cert.MlpOutWRefIdeal.main_arg4))

def preserves_MlpInW_MlpInWIdeal : Prop :=
  True

def algebraic_MlpInWIdeal_MlpInWRefIdeal [hMlpInWIdeal : Cert.MlpInWIdeal.Facts] [hMlpInWRefIdeal : Cert.MlpInWRefIdeal.Facts] : Prop :=
  ∀ (m : (ℓ : Loc Cert.MlpInWIdeal.nD Cert.MlpInWIdeal.τ Cert.MlpInWIdeal.sig) → Buf (Elt Ideal) ℓ) (g : Dev Cert.MlpInWIdeal.nD → PrngReg)
    (m' : (ℓ : Loc Cert.MlpInWRefIdeal.nD Cert.MlpInWRefIdeal.τ Cert.MlpInWRefIdeal.sig) → Buf (Elt Ideal) ℓ) (g' : Dev Cert.MlpInWRefIdeal.nD → PrngReg), Pre_MlpInWIdeal m →
    (∀ c : Dev Cert.MlpInWIdeal.nD,
      m' ((c.tc : Thread Cert.MlpInWRefIdeal.nD Cert.MlpInWRefIdeal.τ).loc Cert.MlpInWRefIdeal.main_arg0) = m ((c.tc : Thread Cert.MlpInWIdeal.nD Cert.MlpInWIdeal.τ).loc Cert.MlpInWIdeal.main_arg0)
      ∧ m' ((c.tc : Thread Cert.MlpInWRefIdeal.nD Cert.MlpInWRefIdeal.τ).loc Cert.MlpInWRefIdeal.main_arg1) = m ((c.tc : Thread Cert.MlpInWIdeal.nD Cert.MlpInWIdeal.τ).loc Cert.MlpInWIdeal.main_arg1)
      ∧ m' ((c.tc : Thread Cert.MlpInWRefIdeal.nD Cert.MlpInWRefIdeal.τ).loc Cert.MlpInWRefIdeal.main_arg2) = m ((c.tc : Thread Cert.MlpInWIdeal.nD Cert.MlpInWIdeal.τ).loc Cert.MlpInWIdeal.main_arg2)
      ∧ m' ((c.tc : Thread Cert.MlpInWRefIdeal.nD Cert.MlpInWRefIdeal.τ).loc Cert.MlpInWRefIdeal.main_arg3) = m ((c.tc : Thread Cert.MlpInWIdeal.nD Cert.MlpInWIdeal.τ).loc Cert.MlpInWIdeal.main_arg3)
      ∧ m' ((c.tc : Thread Cert.MlpInWRefIdeal.nD Cert.MlpInWRefIdeal.τ).loc Cert.MlpInWRefIdeal.main_arg4) = m ((c.tc : Thread Cert.MlpInWIdeal.nD Cert.MlpInWIdeal.τ).loc Cert.MlpInWIdeal.main_arg4)
      ∧ m' ((c.tc : Thread Cert.MlpInWRefIdeal.nD Cert.MlpInWRefIdeal.τ).loc Cert.MlpInWRefIdeal.main_arg5) = m ((c.tc : Thread Cert.MlpInWIdeal.nD Cert.MlpInWIdeal.τ).loc Cert.MlpInWIdeal.main_arg5)) →
    ∃ (v0 : (c : Dev Cert.MlpInWIdeal.nD) → Buf (Elt Ideal) ((c.tc : Thread Cert.MlpInWIdeal.nD Cert.MlpInWIdeal.τ).loc Cert.MlpInWIdeal.main_v0)),
      θ_run (Cert.MlpInWIdeal.defs (F := Ideal)) (onTc (τ := Cert.MlpInWIdeal.τ) (Cert.MlpInWIdeal.main (F := Ideal))) ⟨m, fun _ => 0, g⟩ (fun r => ∀ c : Dev Cert.MlpInWIdeal.nD,
          r.2.mem ((c.tc : Thread Cert.MlpInWIdeal.nD Cert.MlpInWIdeal.τ).loc Cert.MlpInWIdeal.main_v0) = v0 c
          ∧ r.2.mem ((c.tc : Thread Cert.MlpInWIdeal.nD Cert.MlpInWIdeal.τ).loc Cert.MlpInWIdeal.main_arg0) = m ((c.tc : Thread Cert.MlpInWIdeal.nD Cert.MlpInWIdeal.τ).loc Cert.MlpInWIdeal.main_arg0)
          ∧ r.2.mem ((c.tc : Thread Cert.MlpInWIdeal.nD Cert.MlpInWIdeal.τ).loc Cert.MlpInWIdeal.main_arg1) = m ((c.tc : Thread Cert.MlpInWIdeal.nD Cert.MlpInWIdeal.τ).loc Cert.MlpInWIdeal.main_arg1)
          ∧ r.2.mem ((c.tc : Thread Cert.MlpInWIdeal.nD Cert.MlpInWIdeal.τ).loc Cert.MlpInWIdeal.main_arg2) = m ((c.tc : Thread Cert.MlpInWIdeal.nD Cert.MlpInWIdeal.τ).loc Cert.MlpInWIdeal.main_arg2)
          ∧ r.2.mem ((c.tc : Thread Cert.MlpInWIdeal.nD Cert.MlpInWIdeal.τ).loc Cert.MlpInWIdeal.main_arg3) = m ((c.tc : Thread Cert.MlpInWIdeal.nD Cert.MlpInWIdeal.τ).loc Cert.MlpInWIdeal.main_arg3)
          ∧ r.2.mem ((c.tc : Thread Cert.MlpInWIdeal.nD Cert.MlpInWIdeal.τ).loc Cert.MlpInWIdeal.main_arg4) = m ((c.tc : Thread Cert.MlpInWIdeal.nD Cert.MlpInWIdeal.τ).loc Cert.MlpInWIdeal.main_arg4)
          ∧ r.2.mem ((c.tc : Thread Cert.MlpInWIdeal.nD Cert.MlpInWIdeal.τ).loc Cert.MlpInWIdeal.main_arg5) = m ((c.tc : Thread Cert.MlpInWIdeal.nD Cert.MlpInWIdeal.τ).loc Cert.MlpInWIdeal.main_arg5))
      ∧ θ_run (Cert.MlpInWRefIdeal.defs (F := Ideal)) (onTc (τ := Cert.MlpInWRefIdeal.τ) (Cert.MlpInWRefIdeal.main (F := Ideal))) ⟨m', fun _ => 0, g'⟩ (fun r => ∀ c : Dev Cert.MlpInWRefIdeal.nD,
          r.2.mem ((c.tc : Thread Cert.MlpInWRefIdeal.nD Cert.MlpInWRefIdeal.τ).loc Cert.MlpInWRefIdeal.main_v28) = v0 c
          ∧ r.2.mem ((c.tc : Thread Cert.MlpInWRefIdeal.nD Cert.MlpInWRefIdeal.τ).loc Cert.MlpInWRefIdeal.main_arg0) = m' ((c.tc : Thread Cert.MlpInWRefIdeal.nD Cert.MlpInWRefIdeal.τ).loc Cert.MlpInWRefIdeal.main_arg0)
          ∧ r.2.mem ((c.tc : Thread Cert.MlpInWRefIdeal.nD Cert.MlpInWRefIdeal.τ).loc Cert.MlpInWRefIdeal.main_arg1) = m' ((c.tc : Thread Cert.MlpInWRefIdeal.nD Cert.MlpInWRefIdeal.τ).loc Cert.MlpInWRefIdeal.main_arg1)
          ∧ r.2.mem ((c.tc : Thread Cert.MlpInWRefIdeal.nD Cert.MlpInWRefIdeal.τ).loc Cert.MlpInWRefIdeal.main_arg2) = m' ((c.tc : Thread Cert.MlpInWRefIdeal.nD Cert.MlpInWRefIdeal.τ).loc Cert.MlpInWRefIdeal.main_arg2)
          ∧ r.2.mem ((c.tc : Thread Cert.MlpInWRefIdeal.nD Cert.MlpInWRefIdeal.τ).loc Cert.MlpInWRefIdeal.main_arg3) = m' ((c.tc : Thread Cert.MlpInWRefIdeal.nD Cert.MlpInWRefIdeal.τ).loc Cert.MlpInWRefIdeal.main_arg3)
          ∧ r.2.mem ((c.tc : Thread Cert.MlpInWRefIdeal.nD Cert.MlpInWRefIdeal.τ).loc Cert.MlpInWRefIdeal.main_arg4) = m' ((c.tc : Thread Cert.MlpInWRefIdeal.nD Cert.MlpInWRefIdeal.τ).loc Cert.MlpInWRefIdeal.main_arg4)
          ∧ r.2.mem ((c.tc : Thread Cert.MlpInWRefIdeal.nD Cert.MlpInWRefIdeal.τ).loc Cert.MlpInWRefIdeal.main_arg5) = m' ((c.tc : Thread Cert.MlpInWRefIdeal.nD Cert.MlpInWRefIdeal.τ).loc Cert.MlpInWRefIdeal.main_arg5))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)
      ∧ m' ((c.tc : Thread Cert.MlpInRefIdeal.nD Cert.MlpInRefIdeal.τ).loc Cert.MlpInRefIdeal.main_arg2) = m ((c.tc : Thread Cert.MlpInIdeal.nD Cert.MlpInIdeal.τ).loc Cert.MlpInIdeal.main_arg2)
      ∧ m' ((c.tc : Thread Cert.MlpInRefIdeal.nD Cert.MlpInRefIdeal.τ).loc Cert.MlpInRefIdeal.main_arg3) = m ((c.tc : Thread Cert.MlpInIdeal.nD Cert.MlpInIdeal.τ).loc Cert.MlpInIdeal.main_arg3)
      ∧ m' ((c.tc : Thread Cert.MlpInRefIdeal.nD Cert.MlpInRefIdeal.τ).loc Cert.MlpInRefIdeal.main_arg4) = m ((c.tc : Thread Cert.MlpInIdeal.nD Cert.MlpInIdeal.τ).loc Cert.MlpInIdeal.main_arg4)
      ∧ m' ((c.tc : Thread Cert.MlpInRefIdeal.nD Cert.MlpInRefIdeal.τ).loc Cert.MlpInRefIdeal.main_arg5) = m ((c.tc : Thread Cert.MlpInIdeal.nD Cert.MlpInIdeal.τ).loc Cert.MlpInIdeal.main_arg5)
      ∧ m' ((c.tc : Thread Cert.MlpInRefIdeal.nD Cert.MlpInRefIdeal.τ).loc Cert.MlpInRefIdeal.main_arg6) = m ((c.tc : Thread Cert.MlpInIdeal.nD Cert.MlpInIdeal.τ).loc Cert.MlpInIdeal.main_arg6)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)) (v2 : (c : Dev Cert.MlpInIdeal.nD) → Buf (Elt Ideal) ((c.tc : Thread Cert.MlpInIdeal.nD Cert.MlpInIdeal.τ).loc Cert.MlpInIdeal.main_v0_2)) (v3 : (c : Dev Cert.MlpInIdeal.nD) → Buf (Elt Ideal) ((c.tc : Thread Cert.MlpInIdeal.nD Cert.MlpInIdeal.τ).loc Cert.MlpInIdeal.main_v0_3)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_v0_2) = v2 c
          ∧ r.2.mem ((c.tc : Thread Cert.MlpInIdeal.nD Cert.MlpInIdeal.τ).loc Cert.MlpInIdeal.main_v0_3) = v3 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1)
          ∧ r.2.mem ((c.tc : Thread Cert.MlpInIdeal.nD Cert.MlpInIdeal.τ).loc Cert.MlpInIdeal.main_arg2) = m ((c.tc : Thread Cert.MlpInIdeal.nD Cert.MlpInIdeal.τ).loc Cert.MlpInIdeal.main_arg2)
          ∧ r.2.mem ((c.tc : Thread Cert.MlpInIdeal.nD Cert.MlpInIdeal.τ).loc Cert.MlpInIdeal.main_arg3) = m ((c.tc : Thread Cert.MlpInIdeal.nD Cert.MlpInIdeal.τ).loc Cert.MlpInIdeal.main_arg3)
          ∧ r.2.mem ((c.tc : Thread Cert.MlpInIdeal.nD Cert.MlpInIdeal.τ).loc Cert.MlpInIdeal.main_arg4) = m ((c.tc : Thread Cert.MlpInIdeal.nD Cert.MlpInIdeal.τ).loc Cert.MlpInIdeal.main_arg4)
          ∧ r.2.mem ((c.tc : Thread Cert.MlpInIdeal.nD Cert.MlpInIdeal.τ).loc Cert.MlpInIdeal.main_arg5) = m ((c.tc : Thread Cert.MlpInIdeal.nD Cert.MlpInIdeal.τ).loc Cert.MlpInIdeal.main_arg5)
          ∧ r.2.mem ((c.tc : Thread Cert.MlpInIdeal.nD Cert.MlpInIdeal.τ).loc Cert.MlpInIdeal.main_arg6) = m ((c.tc : Thread Cert.MlpInIdeal.nD Cert.MlpInIdeal.τ).loc Cert.MlpInIdeal.main_arg6))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v57) = v0 c
          ∧ r.2.mem ((c.tc : Thread Cert.MlpInRefIdeal.nD Cert.MlpInRefIdeal.τ).loc Cert.MlpInRefIdeal.main_v33) = v1 c
          ∧ r.2.mem ((c.tc : Thread Cert.MlpInRefIdeal.nD Cert.MlpInRefIdeal.τ).loc Cert.MlpInRefIdeal.main_v30) = v2 c
          ∧ r.2.mem ((c.tc : Thread Cert.MlpInRefIdeal.nD Cert.MlpInRefIdeal.τ).loc Cert.MlpInRefIdeal.main_v56) = v3 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1)
          ∧ r.2.mem ((c.tc : Thread Cert.MlpInRefIdeal.nD Cert.MlpInRefIdeal.τ).loc Cert.MlpInRefIdeal.main_arg2) = m' ((c.tc : Thread Cert.MlpInRefIdeal.nD Cert.MlpInRefIdeal.τ).loc Cert.MlpInRefIdeal.main_arg2)
          ∧ r.2.mem ((c.tc : Thread Cert.MlpInRefIdeal.nD Cert.MlpInRefIdeal.τ).loc Cert.MlpInRefIdeal.main_arg3) = m' ((c.tc : Thread Cert.MlpInRefIdeal.nD Cert.MlpInRefIdeal.τ).loc Cert.MlpInRefIdeal.main_arg3)
          ∧ r.2.mem ((c.tc : Thread Cert.MlpInRefIdeal.nD Cert.MlpInRefIdeal.τ).loc Cert.MlpInRefIdeal.main_arg4) = m' ((c.tc : Thread Cert.MlpInRefIdeal.nD Cert.MlpInRefIdeal.τ).loc Cert.MlpInRefIdeal.main_arg4)
          ∧ r.2.mem ((c.tc : Thread Cert.MlpInRefIdeal.nD Cert.MlpInRefIdeal.τ).loc Cert.MlpInRefIdeal.main_arg5) = m' ((c.tc : Thread Cert.MlpInRefIdeal.nD Cert.MlpInRefIdeal.τ).loc Cert.MlpInRefIdeal.main_arg5)
          ∧ r.2.mem ((c.tc : Thread Cert.MlpInRefIdeal.nD Cert.MlpInRefIdeal.τ).loc Cert.MlpInRefIdeal.main_arg6) = m' ((c.tc : Thread Cert.MlpInRefIdeal.nD Cert.MlpInRefIdeal.τ).loc Cert.MlpInRefIdeal.main_arg6))

def preserves_MlpInFwd_MlpInFwdIdeal : Prop :=
  True

def algebraic_MlpInFwdIdeal_MlpInFwdRefIdeal [hMlpInFwdIdeal : Cert.MlpInFwdIdeal.Facts] [hMlpInFwdRefIdeal : Cert.MlpInFwdRefIdeal.Facts] : Prop :=
  ∀ (m : (ℓ : Loc Cert.MlpInFwdIdeal.nD Cert.MlpInFwdIdeal.τ Cert.MlpInFwdIdeal.sig) → Buf (Elt Ideal) ℓ) (g : Dev Cert.MlpInFwdIdeal.nD → PrngReg)
    (m' : (ℓ : Loc Cert.MlpInFwdRefIdeal.nD Cert.MlpInFwdRefIdeal.τ Cert.MlpInFwdRefIdeal.sig) → Buf (Elt Ideal) ℓ) (g' : Dev Cert.MlpInFwdRefIdeal.nD → PrngReg), Pre_MlpInFwdIdeal m →
    (∀ c : Dev Cert.MlpInFwdIdeal.nD,
      m' ((c.tc : Thread Cert.MlpInFwdRefIdeal.nD Cert.MlpInFwdRefIdeal.τ).loc Cert.MlpInFwdRefIdeal.main_arg0) = m ((c.tc : Thread Cert.MlpInFwdIdeal.nD Cert.MlpInFwdIdeal.τ).loc Cert.MlpInFwdIdeal.main_arg0)
      ∧ m' ((c.tc : Thread Cert.MlpInFwdRefIdeal.nD Cert.MlpInFwdRefIdeal.τ).loc Cert.MlpInFwdRefIdeal.main_arg1) = m ((c.tc : Thread Cert.MlpInFwdIdeal.nD Cert.MlpInFwdIdeal.τ).loc Cert.MlpInFwdIdeal.main_arg1)
      ∧ m' ((c.tc : Thread Cert.MlpInFwdRefIdeal.nD Cert.MlpInFwdRefIdeal.τ).loc Cert.MlpInFwdRefIdeal.main_arg2) = m ((c.tc : Thread Cert.MlpInFwdIdeal.nD Cert.MlpInFwdIdeal.τ).loc Cert.MlpInFwdIdeal.main_arg2)
      ∧ m' ((c.tc : Thread Cert.MlpInFwdRefIdeal.nD Cert.MlpInFwdRefIdeal.τ).loc Cert.MlpInFwdRefIdeal.main_arg3) = m ((c.tc : Thread Cert.MlpInFwdIdeal.nD Cert.MlpInFwdIdeal.τ).loc Cert.MlpInFwdIdeal.main_arg3)
      ∧ m' ((c.tc : Thread Cert.MlpInFwdRefIdeal.nD Cert.MlpInFwdRefIdeal.τ).loc Cert.MlpInFwdRefIdeal.main_arg4) = m ((c.tc : Thread Cert.MlpInFwdIdeal.nD Cert.MlpInFwdIdeal.τ).loc Cert.MlpInFwdIdeal.main_arg4)) →
    ∃ (v0 : (c : Dev Cert.MlpInFwdIdeal.nD) → Buf (Elt Ideal) ((c.tc : Thread Cert.MlpInFwdIdeal.nD Cert.MlpInFwdIdeal.τ).loc Cert.MlpInFwdIdeal.main_v0)),
      θ_run (Cert.MlpInFwdIdeal.defs (F := Ideal)) (onTc (τ := Cert.MlpInFwdIdeal.τ) (Cert.MlpInFwdIdeal.main (F := Ideal))) ⟨m, fun _ => 0, g⟩ (fun r => ∀ c : Dev Cert.MlpInFwdIdeal.nD,
          r.2.mem ((c.tc : Thread Cert.MlpInFwdIdeal.nD Cert.MlpInFwdIdeal.τ).loc Cert.MlpInFwdIdeal.main_v0) = v0 c
          ∧ r.2.mem ((c.tc : Thread Cert.MlpInFwdIdeal.nD Cert.MlpInFwdIdeal.τ).loc Cert.MlpInFwdIdeal.main_arg0) = m ((c.tc : Thread Cert.MlpInFwdIdeal.nD Cert.MlpInFwdIdeal.τ).loc Cert.MlpInFwdIdeal.main_arg0)
          ∧ r.2.mem ((c.tc : Thread Cert.MlpInFwdIdeal.nD Cert.MlpInFwdIdeal.τ).loc Cert.MlpInFwdIdeal.main_arg1) = m ((c.tc : Thread Cert.MlpInFwdIdeal.nD Cert.MlpInFwdIdeal.τ).loc Cert.MlpInFwdIdeal.main_arg1)
          ∧ r.2.mem ((c.tc : Thread Cert.MlpInFwdIdeal.nD Cert.MlpInFwdIdeal.τ).loc Cert.MlpInFwdIdeal.main_arg2) = m ((c.tc : Thread Cert.MlpInFwdIdeal.nD Cert.MlpInFwdIdeal.τ).loc Cert.MlpInFwdIdeal.main_arg2)
          ∧ r.2.mem ((c.tc : Thread Cert.MlpInFwdIdeal.nD Cert.MlpInFwdIdeal.τ).loc Cert.MlpInFwdIdeal.main_arg3) = m ((c.tc : Thread Cert.MlpInFwdIdeal.nD Cert.MlpInFwdIdeal.τ).loc Cert.MlpInFwdIdeal.main_arg3)
          ∧ r.2.mem ((c.tc : Thread Cert.MlpInFwdIdeal.nD Cert.MlpInFwdIdeal.τ).loc Cert.MlpInFwdIdeal.main_arg4) = m ((c.tc : Thread Cert.MlpInFwdIdeal.nD Cert.MlpInFwdIdeal.τ).loc Cert.MlpInFwdIdeal.main_arg4))
      ∧ θ_run (Cert.MlpInFwdRefIdeal.defs (F := Ideal)) (onTc (τ := Cert.MlpInFwdRefIdeal.τ) (Cert.MlpInFwdRefIdeal.main (F := Ideal))) ⟨m', fun _ => 0, g'⟩ (fun r => ∀ c : Dev Cert.MlpInFwdRefIdeal.nD,
          r.2.mem ((c.tc : Thread Cert.MlpInFwdRefIdeal.nD Cert.MlpInFwdRefIdeal.τ).loc Cert.MlpInFwdRefIdeal.main_v23) = v0 c
          ∧ r.2.mem ((c.tc : Thread Cert.MlpInFwdRefIdeal.nD Cert.MlpInFwdRefIdeal.τ).loc Cert.MlpInFwdRefIdeal.main_arg0) = m' ((c.tc : Thread Cert.MlpInFwdRefIdeal.nD Cert.MlpInFwdRefIdeal.τ).loc Cert.MlpInFwdRefIdeal.main_arg0)
          ∧ r.2.mem ((c.tc : Thread Cert.MlpInFwdRefIdeal.nD Cert.MlpInFwdRefIdeal.τ).loc Cert.MlpInFwdRefIdeal.main_arg1) = m' ((c.tc : Thread Cert.MlpInFwdRefIdeal.nD Cert.MlpInFwdRefIdeal.τ).loc Cert.MlpInFwdRefIdeal.main_arg1)
          ∧ r.2.mem ((c.tc : Thread Cert.MlpInFwdRefIdeal.nD Cert.MlpInFwdRefIdeal.τ).loc Cert.MlpInFwdRefIdeal.main_arg2) = m' ((c.tc : Thread Cert.MlpInFwdRefIdeal.nD Cert.MlpInFwdRefIdeal.τ).loc Cert.MlpInFwdRefIdeal.main_arg2)
          ∧ r.2.mem ((c.tc : Thread Cert.MlpInFwdRefIdeal.nD Cert.MlpInFwdRefIdeal.τ).loc Cert.MlpInFwdRefIdeal.main_arg3) = m' ((c.tc : Thread Cert.MlpInFwdRefIdeal.nD Cert.MlpInFwdRefIdeal.τ).loc Cert.MlpInFwdRefIdeal.main_arg3)
          ∧ r.2.mem ((c.tc : Thread Cert.MlpInFwdRefIdeal.nD Cert.MlpInFwdRefIdeal.τ).loc Cert.MlpInFwdRefIdeal.main_arg4) = m' ((c.tc : Thread Cert.MlpInFwdRefIdeal.nD Cert.MlpInFwdRefIdeal.τ).loc Cert.MlpInFwdRefIdeal.main_arg4))

def preserves_MlpOutFwd_MlpOutFwdIdeal : Prop :=
  True

def algebraic_MlpOutFwdIdeal_MlpOutFwdRefIdeal [hMlpOutFwdIdeal : Cert.MlpOutFwdIdeal.Facts] [hMlpOutFwdRefIdeal : Cert.MlpOutFwdRefIdeal.Facts] : Prop :=
  ∀ (m : (ℓ : Loc Cert.MlpOutFwdIdeal.nD Cert.MlpOutFwdIdeal.τ Cert.MlpOutFwdIdeal.sig) → Buf (Elt Ideal) ℓ) (g : Dev Cert.MlpOutFwdIdeal.nD → PrngReg)
    (m' : (ℓ : Loc Cert.MlpOutFwdRefIdeal.nD Cert.MlpOutFwdRefIdeal.τ Cert.MlpOutFwdRefIdeal.sig) → Buf (Elt Ideal) ℓ) (g' : Dev Cert.MlpOutFwdRefIdeal.nD → PrngReg), Pre_MlpOutFwdIdeal m →
    (∀ c : Dev Cert.MlpOutFwdIdeal.nD,
      m' ((c.tc : Thread Cert.MlpOutFwdRefIdeal.nD Cert.MlpOutFwdRefIdeal.τ).loc Cert.MlpOutFwdRefIdeal.main_arg0) = m ((c.tc : Thread Cert.MlpOutFwdIdeal.nD Cert.MlpOutFwdIdeal.τ).loc Cert.MlpOutFwdIdeal.main_arg0)
      ∧ m' ((c.tc : Thread Cert.MlpOutFwdRefIdeal.nD Cert.MlpOutFwdRefIdeal.τ).loc Cert.MlpOutFwdRefIdeal.main_arg1) = m ((c.tc : Thread Cert.MlpOutFwdIdeal.nD Cert.MlpOutFwdIdeal.τ).loc Cert.MlpOutFwdIdeal.main_arg1)
      ∧ m' ((c.tc : Thread Cert.MlpOutFwdRefIdeal.nD Cert.MlpOutFwdRefIdeal.τ).loc Cert.MlpOutFwdRefIdeal.main_arg2) = m ((c.tc : Thread Cert.MlpOutFwdIdeal.nD Cert.MlpOutFwdIdeal.τ).loc Cert.MlpOutFwdIdeal.main_arg2)
      ∧ m' ((c.tc : Thread Cert.MlpOutFwdRefIdeal.nD Cert.MlpOutFwdRefIdeal.τ).loc Cert.MlpOutFwdRefIdeal.main_arg3) = m ((c.tc : Thread Cert.MlpOutFwdIdeal.nD Cert.MlpOutFwdIdeal.τ).loc Cert.MlpOutFwdIdeal.main_arg3)) →
    ∃ (v0 : (c : Dev Cert.MlpOutFwdIdeal.nD) → Buf (Elt Ideal) ((c.tc : Thread Cert.MlpOutFwdIdeal.nD Cert.MlpOutFwdIdeal.τ).loc Cert.MlpOutFwdIdeal.main_v0_0)) (v1 : (c : Dev Cert.MlpOutFwdIdeal.nD) → Buf (Elt Ideal) ((c.tc : Thread Cert.MlpOutFwdIdeal.nD Cert.MlpOutFwdIdeal.τ).loc Cert.MlpOutFwdIdeal.main_v0_1)),
      θ_run (Cert.MlpOutFwdIdeal.defs (F := Ideal)) (onTc (τ := Cert.MlpOutFwdIdeal.τ) (Cert.MlpOutFwdIdeal.main (F := Ideal))) ⟨m, fun _ => 0, g⟩ (fun r => ∀ c : Dev Cert.MlpOutFwdIdeal.nD,
          r.2.mem ((c.tc : Thread Cert.MlpOutFwdIdeal.nD Cert.MlpOutFwdIdeal.τ).loc Cert.MlpOutFwdIdeal.main_v0_0) = v0 c
          ∧ r.2.mem ((c.tc : Thread Cert.MlpOutFwdIdeal.nD Cert.MlpOutFwdIdeal.τ).loc Cert.MlpOutFwdIdeal.main_v0_1) = v1 c
          ∧ r.2.mem ((c.tc : Thread Cert.MlpOutFwdIdeal.nD Cert.MlpOutFwdIdeal.τ).loc Cert.MlpOutFwdIdeal.main_arg0) = m ((c.tc : Thread Cert.MlpOutFwdIdeal.nD Cert.MlpOutFwdIdeal.τ).loc Cert.MlpOutFwdIdeal.main_arg0)
          ∧ r.2.mem ((c.tc : Thread Cert.MlpOutFwdIdeal.nD Cert.MlpOutFwdIdeal.τ).loc Cert.MlpOutFwdIdeal.main_arg1) = m ((c.tc : Thread Cert.MlpOutFwdIdeal.nD Cert.MlpOutFwdIdeal.τ).loc Cert.MlpOutFwdIdeal.main_arg1)
          ∧ r.2.mem ((c.tc : Thread Cert.MlpOutFwdIdeal.nD Cert.MlpOutFwdIdeal.τ).loc Cert.MlpOutFwdIdeal.main_arg2) = m ((c.tc : Thread Cert.MlpOutFwdIdeal.nD Cert.MlpOutFwdIdeal.τ).loc Cert.MlpOutFwdIdeal.main_arg2)
          ∧ r.2.mem ((c.tc : Thread Cert.MlpOutFwdIdeal.nD Cert.MlpOutFwdIdeal.τ).loc Cert.MlpOutFwdIdeal.main_arg3) = m ((c.tc : Thread Cert.MlpOutFwdIdeal.nD Cert.MlpOutFwdIdeal.τ).loc Cert.MlpOutFwdIdeal.main_arg3))
      ∧ θ_run (Cert.MlpOutFwdRefIdeal.defs (F := Ideal)) (onTc (τ := Cert.MlpOutFwdRefIdeal.τ) (Cert.MlpOutFwdRefIdeal.main (F := Ideal))) ⟨m', fun _ => 0, g'⟩ (fun r => ∀ c : Dev Cert.MlpOutFwdRefIdeal.nD,
          r.2.mem ((c.tc : Thread Cert.MlpOutFwdRefIdeal.nD Cert.MlpOutFwdRefIdeal.τ).loc Cert.MlpOutFwdRefIdeal.main_v6) = v0 c
          ∧ r.2.mem ((c.tc : Thread Cert.MlpOutFwdRefIdeal.nD Cert.MlpOutFwdRefIdeal.τ).loc Cert.MlpOutFwdRefIdeal.main_v3) = v1 c
          ∧ r.2.mem ((c.tc : Thread Cert.MlpOutFwdRefIdeal.nD Cert.MlpOutFwdRefIdeal.τ).loc Cert.MlpOutFwdRefIdeal.main_arg0) = m' ((c.tc : Thread Cert.MlpOutFwdRefIdeal.nD Cert.MlpOutFwdRefIdeal.τ).loc Cert.MlpOutFwdRefIdeal.main_arg0)
          ∧ r.2.mem ((c.tc : Thread Cert.MlpOutFwdRefIdeal.nD Cert.MlpOutFwdRefIdeal.τ).loc Cert.MlpOutFwdRefIdeal.main_arg1) = m' ((c.tc : Thread Cert.MlpOutFwdRefIdeal.nD Cert.MlpOutFwdRefIdeal.τ).loc Cert.MlpOutFwdRefIdeal.main_arg1)
          ∧ r.2.mem ((c.tc : Thread Cert.MlpOutFwdRefIdeal.nD Cert.MlpOutFwdRefIdeal.τ).loc Cert.MlpOutFwdRefIdeal.main_arg2) = m' ((c.tc : Thread Cert.MlpOutFwdRefIdeal.nD Cert.MlpOutFwdRefIdeal.τ).loc Cert.MlpOutFwdRefIdeal.main_arg2)
          ∧ r.2.mem ((c.tc : Thread Cert.MlpOutFwdRefIdeal.nD Cert.MlpOutFwdRefIdeal.τ).loc Cert.MlpOutFwdRefIdeal.main_arg3) = m' ((c.tc : Thread Cert.MlpOutFwdRefIdeal.nD Cert.MlpOutFwdRefIdeal.τ).loc Cert.MlpOutFwdRefIdeal.main_arg3))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)
      ∧ m' ((c.tc : Thread Cert.ProjFwdRefIdeal.nD Cert.ProjFwdRefIdeal.τ).loc Cert.ProjFwdRefIdeal.main_arg3) = m ((c.tc : Thread Cert.ProjFwdIdeal.nD Cert.ProjFwdIdeal.τ).loc Cert.ProjFwdIdeal.main_arg3)
      ∧ m' ((c.tc : Thread Cert.ProjFwdRefIdeal.nD Cert.ProjFwdRefIdeal.τ).loc Cert.ProjFwdRefIdeal.main_arg4) = m ((c.tc : Thread Cert.ProjFwdIdeal.nD Cert.ProjFwdIdeal.τ).loc Cert.ProjFwdIdeal.main_arg4)
      ∧ m' ((c.tc : Thread Cert.ProjFwdRefIdeal.nD Cert.ProjFwdRefIdeal.τ).loc Cert.ProjFwdRefIdeal.main_arg5) = m ((c.tc : Thread Cert.ProjFwdIdeal.nD Cert.ProjFwdIdeal.τ).loc Cert.ProjFwdIdeal.main_arg5)) →
    ∃ (v0 : (c : Dev Cert.ProjFwdIdeal.nD) → Buf (Elt Ideal) ((c.tc : Thread Cert.ProjFwdIdeal.nD Cert.ProjFwdIdeal.τ).loc Cert.ProjFwdIdeal.main_v0_0)) (v1 : (c : Dev Cert.ProjFwdIdeal.nD) → Buf (Elt Ideal) ((c.tc : Thread Cert.ProjFwdIdeal.nD Cert.ProjFwdIdeal.τ).loc Cert.ProjFwdIdeal.main_v0_1)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v0_0) = v0 c
          ∧ r.2.mem ((c.tc : Thread Cert.ProjFwdIdeal.nD Cert.ProjFwdIdeal.τ).loc Cert.ProjFwdIdeal.main_v0_1) = v1 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
          ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
          ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v7) = v0 c
          ∧ r.2.mem ((c.tc : Thread Cert.ProjFwdRefIdeal.nD Cert.ProjFwdRefIdeal.τ).loc Cert.ProjFwdRefIdeal.main_v4) = v1 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2)
          ∧ r.2.mem ((c.tc : Thread Cert.ProjFwdRefIdeal.nD Cert.ProjFwdRefIdeal.τ).loc Cert.ProjFwdRefIdeal.main_arg3) = m' ((c.tc : Thread Cert.ProjFwdRefIdeal.nD Cert.ProjFwdRefIdeal.τ).loc Cert.ProjFwdRefIdeal.main_arg3)
          ∧ r.2.mem ((c.tc : Thread Cert.ProjFwdRefIdeal.nD Cert.ProjFwdRefIdeal.τ).loc Cert.ProjFwdRefIdeal.main_arg4) = m' ((c.tc : Thread Cert.ProjFwdRefIdeal.nD Cert.ProjFwdRefIdeal.τ).loc Cert.ProjFwdRefIdeal.main_arg4)
          ∧ r.2.mem ((c.tc : Thread Cert.ProjFwdRefIdeal.nD Cert.ProjFwdRefIdeal.τ).loc Cert.ProjFwdRefIdeal.main_arg5) = m' ((c.tc : Thread Cert.ProjFwdRefIdeal.nD Cert.ProjFwdRefIdeal.τ).loc Cert.ProjFwdRefIdeal.main_arg5))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)
      ∧ m' ((c.tc : Thread Cert.ProjBwdRefIdeal.nD Cert.ProjBwdRefIdeal.τ).loc Cert.ProjBwdRefIdeal.main_arg6) = m ((c.tc : Thread Cert.ProjBwdIdeal.nD Cert.ProjBwdIdeal.τ).loc Cert.ProjBwdIdeal.main_arg6)) →
    ∃ (v0 : (c : Dev Cert.ProjBwdIdeal.nD) → Buf (Elt Ideal) ((c.tc : Thread Cert.ProjBwdIdeal.nD Cert.ProjBwdIdeal.τ).loc Cert.ProjBwdIdeal.main_v5_0)) (v1 : (c : Dev Cert.ProjBwdIdeal.nD) → Buf (Elt Ideal) ((c.tc : Thread Cert.ProjBwdIdeal.nD Cert.ProjBwdIdeal.τ).loc Cert.ProjBwdIdeal.main_v5_1)) (v2 : (c : Dev Cert.ProjBwdIdeal.nD) → Buf (Elt Ideal) ((c.tc : Thread Cert.ProjBwdIdeal.nD Cert.ProjBwdIdeal.τ).loc Cert.ProjBwdIdeal.main_v5_2)) (v3 : (c : Dev Cert.ProjBwdIdeal.nD) → Buf (Elt Ideal) ((c.tc : Thread Cert.ProjBwdIdeal.nD Cert.ProjBwdIdeal.τ).loc Cert.ProjBwdIdeal.main_v5_3)) (v4 : (c : Dev Cert.ProjBwdIdeal.nD) → Buf (Elt Ideal) ((c.tc : Thread Cert.ProjBwdIdeal.nD Cert.ProjBwdIdeal.τ).loc Cert.ProjBwdIdeal.main_v5_4)) (v5 : (c : Dev Cert.ProjBwdIdeal.nD) → Buf (Elt Ideal) ((c.tc : Thread Cert.ProjBwdIdeal.nD Cert.ProjBwdIdeal.τ).loc Cert.ProjBwdIdeal.main_v5_5)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v5_0) = v0 c
          ∧ r.2.mem ((c.tc : Thread Cert.ProjBwdIdeal.nD Cert.ProjBwdIdeal.τ).loc Cert.ProjBwdIdeal.main_v5_1) = v1 c
          ∧ r.2.mem ((c.tc : Thread Cert.ProjBwdIdeal.nD Cert.ProjBwdIdeal.τ).loc Cert.ProjBwdIdeal.main_v5_2) = v2 c
          ∧ r.2.mem ((c.tc : Thread Cert.ProjBwdIdeal.nD Cert.ProjBwdIdeal.τ).loc Cert.ProjBwdIdeal.main_v5_3) = v3 c
          ∧ r.2.mem ((c.tc : Thread Cert.ProjBwdIdeal.nD Cert.ProjBwdIdeal.τ).loc Cert.ProjBwdIdeal.main_v5_4) = v4 c
          ∧ r.2.mem ((c.tc : Thread Cert.ProjBwdIdeal.nD Cert.ProjBwdIdeal.τ).loc Cert.ProjBwdIdeal.main_v5_5) = v5 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_arg6) = v0 c
          ∧ r.2.mem ((c.tc : Thread Cert.ProjBwdRefIdeal.nD Cert.ProjBwdRefIdeal.τ).loc Cert.ProjBwdRefIdeal.main_v17) = v1 c
          ∧ r.2.mem ((c.tc : Thread Cert.ProjBwdRefIdeal.nD Cert.ProjBwdRefIdeal.τ).loc Cert.ProjBwdRefIdeal.main_v18) = v2 c
          ∧ r.2.mem ((c.tc : Thread Cert.ProjBwdRefIdeal.nD Cert.ProjBwdRefIdeal.τ).loc Cert.ProjBwdRefIdeal.main_v19) = v3 c
          ∧ r.2.mem ((c.tc : Thread Cert.ProjBwdRefIdeal.nD Cert.ProjBwdRefIdeal.τ).loc Cert.ProjBwdRefIdeal.main_v13) = v4 c
          ∧ r.2.mem ((c.tc : Thread Cert.ProjBwdRefIdeal.nD Cert.ProjBwdRefIdeal.τ).loc Cert.ProjBwdRefIdeal.main_v15) = v5 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5)
          ∧ r.2.mem ((c.tc : Thread Cert.ProjBwdRefIdeal.nD Cert.ProjBwdRefIdeal.τ).loc Cert.ProjBwdRefIdeal.main_arg6) = m' ((c.tc : Thread Cert.ProjBwdRefIdeal.nD Cert.ProjBwdRefIdeal.τ).loc Cert.ProjBwdRefIdeal.main_arg6))

def preserves_MixerFwd_MixerFwdIdeal : Prop :=
  True

def algebraic_MixerFwdIdeal_MixerFwdRefIdeal [hMixerFwdIdeal : Cert.MixerFwdIdeal.Facts] [hMixerFwdRefIdeal : Cert.MixerFwdRefIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg)
    (m' : (ℓ : Loc Cert.MixerFwdRefIdeal.nD Cert.MixerFwdRefIdeal.τ Cert.MixerFwdRefIdeal.sig) → Buf (Elt Ideal) ℓ) (g' : Dev Cert.MixerFwdRefIdeal.nD → PrngReg), Pre_MixerFwdIdeal m →
    (∀ c : Dev Cert.MixerFwdIdeal.nD,
      m' ((c.tc : Thread Cert.MixerFwdRefIdeal.nD Cert.MixerFwdRefIdeal.τ).loc Cert.MixerFwdRefIdeal.main_arg0) = m ((c.tc : Thread Cert.MixerFwdIdeal.nD Cert.MixerFwdIdeal.τ).loc Cert.MixerFwdIdeal.main_arg0)
      ∧ m' ((c.tc : Thread Cert.MixerFwdRefIdeal.nD Cert.MixerFwdRefIdeal.τ).loc Cert.MixerFwdRefIdeal.main_arg1) = m ((c.tc : Thread Cert.MixerFwdIdeal.nD Cert.MixerFwdIdeal.τ).loc Cert.MixerFwdIdeal.main_arg1)
      ∧ m' ((c.tc : Thread Cert.MixerFwdRefIdeal.nD Cert.MixerFwdRefIdeal.τ).loc Cert.MixerFwdRefIdeal.main_arg2) = m ((c.tc : Thread Cert.MixerFwdIdeal.nD Cert.MixerFwdIdeal.τ).loc Cert.MixerFwdIdeal.main_arg2)
      ∧ m' ((c.tc : Thread Cert.MixerFwdRefIdeal.nD Cert.MixerFwdRefIdeal.τ).loc Cert.MixerFwdRefIdeal.main_arg3) = m ((c.tc : Thread Cert.MixerFwdIdeal.nD Cert.MixerFwdIdeal.τ).loc Cert.MixerFwdIdeal.main_arg3)
      ∧ m' ((c.tc : Thread Cert.MixerFwdRefIdeal.nD Cert.MixerFwdRefIdeal.τ).loc Cert.MixerFwdRefIdeal.main_arg4) = m ((c.tc : Thread Cert.MixerFwdIdeal.nD Cert.MixerFwdIdeal.τ).loc Cert.MixerFwdIdeal.main_arg4)) →
    ∃ (v0 : (c : Dev Cert.MixerFwdIdeal.nD) → Buf (Elt Ideal) ((c.tc : Thread Cert.MixerFwdIdeal.nD Cert.MixerFwdIdeal.τ).loc Cert.MixerFwdIdeal.main_v0_0)) (v1 : (c : Dev Cert.MixerFwdIdeal.nD) → Buf (Elt Ideal) ((c.tc : Thread Cert.MixerFwdIdeal.nD Cert.MixerFwdIdeal.τ).loc Cert.MixerFwdIdeal.main_v0_1)) (v2 : (c : Dev Cert.MixerFwdIdeal.nD) → Buf (Elt Ideal) ((c.tc : Thread Cert.MixerFwdIdeal.nD Cert.MixerFwdIdeal.τ).loc Cert.MixerFwdIdeal.main_v0_2)) (v3 : (c : Dev Cert.MixerFwdIdeal.nD) → Buf (Elt Ideal) ((c.tc : Thread Cert.MixerFwdIdeal.nD Cert.MixerFwdIdeal.τ).loc Cert.MixerFwdIdeal.main_v0_3)) (v4 : (c : Dev Cert.MixerFwdIdeal.nD) → Buf (Elt Ideal) ((c.tc : Thread Cert.MixerFwdIdeal.nD Cert.MixerFwdIdeal.τ).loc Cert.MixerFwdIdeal.main_v0_4)) (v5 : (c : Dev Cert.MixerFwdIdeal.nD) → Buf (Elt Ideal) ((c.tc : Thread Cert.MixerFwdIdeal.nD Cert.MixerFwdIdeal.τ).loc Cert.MixerFwdIdeal.main_v0_5)) (v6 : (c : Dev Cert.MixerFwdIdeal.nD) → Buf (Elt Ideal) ((c.tc : Thread Cert.MixerFwdIdeal.nD Cert.MixerFwdIdeal.τ).loc Cert.MixerFwdIdeal.main_v0_6)),
      θ_run (Cert.MixerFwdIdeal.defs (F := Ideal)) (onTc (τ := Cert.MixerFwdIdeal.τ) (Cert.MixerFwdIdeal.main (F := Ideal))) ⟨m, fun _ => 0, g⟩ (fun r => ∀ c : Dev Cert.MixerFwdIdeal.nD,
          r.2.mem ((c.tc : Thread Cert.MixerFwdIdeal.nD Cert.MixerFwdIdeal.τ).loc Cert.MixerFwdIdeal.main_v0_0) = v0 c
          ∧ r.2.mem ((c.tc : Thread Cert.MixerFwdIdeal.nD Cert.MixerFwdIdeal.τ).loc Cert.MixerFwdIdeal.main_v0_1) = v1 c
          ∧ r.2.mem ((c.tc : Thread Cert.MixerFwdIdeal.nD Cert.MixerFwdIdeal.τ).loc Cert.MixerFwdIdeal.main_v0_2) = v2 c
          ∧ r.2.mem ((c.tc : Thread Cert.MixerFwdIdeal.nD Cert.MixerFwdIdeal.τ).loc Cert.MixerFwdIdeal.main_v0_3) = v3 c
          ∧ r.2.mem ((c.tc : Thread Cert.MixerFwdIdeal.nD Cert.MixerFwdIdeal.τ).loc Cert.MixerFwdIdeal.main_v0_4) = v4 c
          ∧ r.2.mem ((c.tc : Thread Cert.MixerFwdIdeal.nD Cert.MixerFwdIdeal.τ).loc Cert.MixerFwdIdeal.main_v0_5) = v5 c
          ∧ r.2.mem ((c.tc : Thread Cert.MixerFwdIdeal.nD Cert.MixerFwdIdeal.τ).loc Cert.MixerFwdIdeal.main_v0_6) = v6 c
          ∧ r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
          ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
          ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
          ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
          ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4))
      ∧ θ_run (Cert.MixerFwdRefIdeal.defs (F := Ideal)) (onTc (τ := Cert.MixerFwdRefIdeal.τ) (Cert.MixerFwdRefIdeal.main (F := Ideal))) ⟨m', fun _ => 0, g'⟩ (fun r => ∀ c : Dev Cert.MixerFwdRefIdeal.nD,
          r.2.mem ((c.tc : Thread Cert.MixerFwdRefIdeal.nD Cert.MixerFwdRefIdeal.τ).loc Cert.MixerFwdRefIdeal.main_v24) = v0 c
          ∧ r.2.mem ((c.tc : Thread Cert.MixerFwdRefIdeal.nD Cert.MixerFwdRefIdeal.τ).loc Cert.MixerFwdRefIdeal.main_v25) = v1 c
          ∧ r.2.mem ((c.tc : Thread Cert.MixerFwdRefIdeal.nD Cert.MixerFwdRefIdeal.τ).loc Cert.MixerFwdRefIdeal.main_v26) = v2 c
          ∧ r.2.mem ((c.tc : Thread Cert.MixerFwdRefIdeal.nD Cert.MixerFwdRefIdeal.τ).loc Cert.MixerFwdRefIdeal.main_v27) = v3 c
          ∧ r.2.mem ((c.tc : Thread Cert.MixerFwdRefIdeal.nD Cert.MixerFwdRefIdeal.τ).loc Cert.MixerFwdRefIdeal.main_v28) = v4 c
          ∧ r.2.mem ((c.tc : Thread Cert.MixerFwdRefIdeal.nD Cert.MixerFwdRefIdeal.τ).loc Cert.MixerFwdRefIdeal.main_v29) = v5 c
          ∧ r.2.mem ((c.tc : Thread Cert.MixerFwdRefIdeal.nD Cert.MixerFwdRefIdeal.τ).loc Cert.MixerFwdRefIdeal.main_v30) = v6 c
          ∧ r.2.mem ((c.tc : Thread Cert.MixerFwdRefIdeal.nD Cert.MixerFwdRefIdeal.τ).loc Cert.MixerFwdRefIdeal.main_arg0) = m' ((c.tc : Thread Cert.MixerFwdRefIdeal.nD Cert.MixerFwdRefIdeal.τ).loc Cert.MixerFwdRefIdeal.main_arg0)
          ∧ r.2.mem ((c.tc : Thread Cert.MixerFwdRefIdeal.nD Cert.MixerFwdRefIdeal.τ).loc Cert.MixerFwdRefIdeal.main_arg1) = m' ((c.tc : Thread Cert.MixerFwdRefIdeal.nD Cert.MixerFwdRefIdeal.τ).loc Cert.MixerFwdRefIdeal.main_arg1)
          ∧ r.2.mem ((c.tc : Thread Cert.MixerFwdRefIdeal.nD Cert.MixerFwdRefIdeal.τ).loc Cert.MixerFwdRefIdeal.main_arg2) = m' ((c.tc : Thread Cert.MixerFwdRefIdeal.nD Cert.MixerFwdRefIdeal.τ).loc Cert.MixerFwdRefIdeal.main_arg2)
          ∧ r.2.mem ((c.tc : Thread Cert.MixerFwdRefIdeal.nD Cert.MixerFwdRefIdeal.τ).loc Cert.MixerFwdRefIdeal.main_arg3) = m' ((c.tc : Thread Cert.MixerFwdRefIdeal.nD Cert.MixerFwdRefIdeal.τ).loc Cert.MixerFwdRefIdeal.main_arg3)
          ∧ r.2.mem ((c.tc : Thread Cert.MixerFwdRefIdeal.nD Cert.MixerFwdRefIdeal.τ).loc Cert.MixerFwdRefIdeal.main_arg4) = m' ((c.tc : Thread Cert.MixerFwdRefIdeal.nD Cert.MixerFwdRefIdeal.τ).loc Cert.MixerFwdRefIdeal.main_arg4))

def preserves_MixerBwd_MixerBwdIdeal : Prop :=
  True

def algebraic_MixerBwdIdeal_MixerBwdRefIdeal [hMixerBwdIdeal : Cert.MixerBwdIdeal.Facts] [hMixerBwdRefIdeal : Cert.MixerBwdRefIdeal.Facts] : Prop :=
  ∀ (m : (ℓ : Loc Cert.MixerBwdIdeal.nD Cert.MixerBwdIdeal.τ Cert.MixerBwdIdeal.sig) → Buf (Elt Ideal) ℓ) (g : Dev Cert.MixerBwdIdeal.nD → PrngReg)
    (m' : (ℓ : Loc Cert.MixerBwdRefIdeal.nD Cert.MixerBwdRefIdeal.τ Cert.MixerBwdRefIdeal.sig) → Buf (Elt Ideal) ℓ) (g' : Dev Cert.MixerBwdRefIdeal.nD → PrngReg), Pre_MixerBwdIdeal m →
    (∀ c : Dev Cert.MixerBwdIdeal.nD,
      m' ((c.tc : Thread Cert.MixerBwdRefIdeal.nD Cert.MixerBwdRefIdeal.τ).loc Cert.MixerBwdRefIdeal.main_arg0) = m ((c.tc : Thread Cert.MixerBwdIdeal.nD Cert.MixerBwdIdeal.τ).loc Cert.MixerBwdIdeal.main_arg0)
      ∧ m' ((c.tc : Thread Cert.MixerBwdRefIdeal.nD Cert.MixerBwdRefIdeal.τ).loc Cert.MixerBwdRefIdeal.main_arg1) = m ((c.tc : Thread Cert.MixerBwdIdeal.nD Cert.MixerBwdIdeal.τ).loc Cert.MixerBwdIdeal.main_arg1)
      ∧ m' ((c.tc : Thread Cert.MixerBwdRefIdeal.nD Cert.MixerBwdRefIdeal.τ).loc Cert.MixerBwdRefIdeal.main_arg2) = m ((c.tc : Thread Cert.MixerBwdIdeal.nD Cert.MixerBwdIdeal.τ).loc Cert.MixerBwdIdeal.main_arg2)
      ∧ m' ((c.tc : Thread Cert.MixerBwdRefIdeal.nD Cert.MixerBwdRefIdeal.τ).loc Cert.MixerBwdRefIdeal.main_arg3) = m ((c.tc : Thread Cert.MixerBwdIdeal.nD Cert.MixerBwdIdeal.τ).loc Cert.MixerBwdIdeal.main_arg3)
      ∧ m' ((c.tc : Thread Cert.MixerBwdRefIdeal.nD Cert.MixerBwdRefIdeal.τ).loc Cert.MixerBwdRefIdeal.main_arg4) = m ((c.tc : Thread Cert.MixerBwdIdeal.nD Cert.MixerBwdIdeal.τ).loc Cert.MixerBwdIdeal.main_arg4)
      ∧ m' ((c.tc : Thread Cert.MixerBwdRefIdeal.nD Cert.MixerBwdRefIdeal.τ).loc Cert.MixerBwdRefIdeal.main_arg5) = m ((c.tc : Thread Cert.MixerBwdIdeal.nD Cert.MixerBwdIdeal.τ).loc Cert.MixerBwdIdeal.main_arg5)
      ∧ m' ((c.tc : Thread Cert.MixerBwdRefIdeal.nD Cert.MixerBwdRefIdeal.τ).loc Cert.MixerBwdRefIdeal.main_arg6) = m ((c.tc : Thread Cert.MixerBwdIdeal.nD Cert.MixerBwdIdeal.τ).loc Cert.MixerBwdIdeal.main_arg6)
      ∧ m' ((c.tc : Thread Cert.MixerBwdRefIdeal.nD Cert.MixerBwdRefIdeal.τ).loc Cert.MixerBwdRefIdeal.main_arg7) = m ((c.tc : Thread Cert.MixerBwdIdeal.nD Cert.MixerBwdIdeal.τ).loc Cert.MixerBwdIdeal.main_arg7)
      ∧ m' ((c.tc : Thread Cert.MixerBwdRefIdeal.nD Cert.MixerBwdRefIdeal.τ).loc Cert.MixerBwdRefIdeal.main_arg8) = m ((c.tc : Thread Cert.MixerBwdIdeal.nD Cert.MixerBwdIdeal.τ).loc Cert.MixerBwdIdeal.main_arg8)
      ∧ m' ((c.tc : Thread Cert.MixerBwdRefIdeal.nD Cert.MixerBwdRefIdeal.τ).loc Cert.MixerBwdRefIdeal.main_arg9) = m ((c.tc : Thread Cert.MixerBwdIdeal.nD Cert.MixerBwdIdeal.τ).loc Cert.MixerBwdIdeal.main_arg9)
      ∧ m' ((c.tc : Thread Cert.MixerBwdRefIdeal.nD Cert.MixerBwdRefIdeal.τ).loc Cert.MixerBwdRefIdeal.main_arg10) = m ((c.tc : Thread Cert.MixerBwdIdeal.nD Cert.MixerBwdIdeal.τ).loc Cert.MixerBwdIdeal.main_arg10)
      ∧ m' ((c.tc : Thread Cert.MixerBwdRefIdeal.nD Cert.MixerBwdRefIdeal.τ).loc Cert.MixerBwdRefIdeal.main_arg11) = m ((c.tc : Thread Cert.MixerBwdIdeal.nD Cert.MixerBwdIdeal.τ).loc Cert.MixerBwdIdeal.main_arg11)
      ∧ m' ((c.tc : Thread Cert.MixerBwdRefIdeal.nD Cert.MixerBwdRefIdeal.τ).loc Cert.MixerBwdRefIdeal.main_arg12) = m ((c.tc : Thread Cert.MixerBwdIdeal.nD Cert.MixerBwdIdeal.τ).loc Cert.MixerBwdIdeal.main_arg12)) →
    ∃ (v0 : (c : Dev Cert.MixerBwdIdeal.nD) → Buf (Elt Ideal) ((c.tc : Thread Cert.MixerBwdIdeal.nD Cert.MixerBwdIdeal.τ).loc Cert.MixerBwdIdeal.main_v0_0)) (v1 : (c : Dev Cert.MixerBwdIdeal.nD) → Buf (Elt Ideal) ((c.tc : Thread Cert.MixerBwdIdeal.nD Cert.MixerBwdIdeal.τ).loc Cert.MixerBwdIdeal.main_v0_1)) (v2 : (c : Dev Cert.MixerBwdIdeal.nD) → Buf (Elt Ideal) ((c.tc : Thread Cert.MixerBwdIdeal.nD Cert.MixerBwdIdeal.τ).loc Cert.MixerBwdIdeal.main_v0_2)) (v3 : (c : Dev Cert.MixerBwdIdeal.nD) → Buf (Elt Ideal) ((c.tc : Thread Cert.MixerBwdIdeal.nD Cert.MixerBwdIdeal.τ).loc Cert.MixerBwdIdeal.main_v0_3)) (v4 : (c : Dev Cert.MixerBwdIdeal.nD) → Buf (Elt Ideal) ((c.tc : Thread Cert.MixerBwdIdeal.nD Cert.MixerBwdIdeal.τ).loc Cert.MixerBwdIdeal.main_v0_4)),
      θ_run (Cert.MixerBwdIdeal.defs (F := Ideal)) (onTc (τ := Cert.MixerBwdIdeal.τ) (Cert.MixerBwdIdeal.main (F := Ideal))) ⟨m, fun _ => 0, g⟩ (fun r => ∀ c : Dev Cert.MixerBwdIdeal.nD,
          r.2.mem ((c.tc : Thread Cert.MixerBwdIdeal.nD Cert.MixerBwdIdeal.τ).loc Cert.MixerBwdIdeal.main_v0_0) = v0 c
          ∧ r.2.mem ((c.tc : Thread Cert.MixerBwdIdeal.nD Cert.MixerBwdIdeal.τ).loc Cert.MixerBwdIdeal.main_v0_1) = v1 c
          ∧ r.2.mem ((c.tc : Thread Cert.MixerBwdIdeal.nD Cert.MixerBwdIdeal.τ).loc Cert.MixerBwdIdeal.main_v0_2) = v2 c
          ∧ r.2.mem ((c.tc : Thread Cert.MixerBwdIdeal.nD Cert.MixerBwdIdeal.τ).loc Cert.MixerBwdIdeal.main_v0_3) = v3 c
          ∧ r.2.mem ((c.tc : Thread Cert.MixerBwdIdeal.nD Cert.MixerBwdIdeal.τ).loc Cert.MixerBwdIdeal.main_v0_4) = v4 c
          ∧ r.2.mem ((c.tc : Thread Cert.MixerBwdIdeal.nD Cert.MixerBwdIdeal.τ).loc Cert.MixerBwdIdeal.main_arg0) = m ((c.tc : Thread Cert.MixerBwdIdeal.nD Cert.MixerBwdIdeal.τ).loc Cert.MixerBwdIdeal.main_arg0)
          ∧ r.2.mem ((c.tc : Thread Cert.MixerBwdIdeal.nD Cert.MixerBwdIdeal.τ).loc Cert.MixerBwdIdeal.main_arg1) = m ((c.tc : Thread Cert.MixerBwdIdeal.nD Cert.MixerBwdIdeal.τ).loc Cert.MixerBwdIdeal.main_arg1)
          ∧ r.2.mem ((c.tc : Thread Cert.MixerBwdIdeal.nD Cert.MixerBwdIdeal.τ).loc Cert.MixerBwdIdeal.main_arg2) = m ((c.tc : Thread Cert.MixerBwdIdeal.nD Cert.MixerBwdIdeal.τ).loc Cert.MixerBwdIdeal.main_arg2)
          ∧ r.2.mem ((c.tc : Thread Cert.MixerBwdIdeal.nD Cert.MixerBwdIdeal.τ).loc Cert.MixerBwdIdeal.main_arg3) = m ((c.tc : Thread Cert.MixerBwdIdeal.nD Cert.MixerBwdIdeal.τ).loc Cert.MixerBwdIdeal.main_arg3)
          ∧ r.2.mem ((c.tc : Thread Cert.MixerBwdIdeal.nD Cert.MixerBwdIdeal.τ).loc Cert.MixerBwdIdeal.main_arg4) = m ((c.tc : Thread Cert.MixerBwdIdeal.nD Cert.MixerBwdIdeal.τ).loc Cert.MixerBwdIdeal.main_arg4)
          ∧ r.2.mem ((c.tc : Thread Cert.MixerBwdIdeal.nD Cert.MixerBwdIdeal.τ).loc Cert.MixerBwdIdeal.main_arg5) = m ((c.tc : Thread Cert.MixerBwdIdeal.nD Cert.MixerBwdIdeal.τ).loc Cert.MixerBwdIdeal.main_arg5)
          ∧ r.2.mem ((c.tc : Thread Cert.MixerBwdIdeal.nD Cert.MixerBwdIdeal.τ).loc Cert.MixerBwdIdeal.main_arg6) = m ((c.tc : Thread Cert.MixerBwdIdeal.nD Cert.MixerBwdIdeal.τ).loc Cert.MixerBwdIdeal.main_arg6)
          ∧ r.2.mem ((c.tc : Thread Cert.MixerBwdIdeal.nD Cert.MixerBwdIdeal.τ).loc Cert.MixerBwdIdeal.main_arg7) = m ((c.tc : Thread Cert.MixerBwdIdeal.nD Cert.MixerBwdIdeal.τ).loc Cert.MixerBwdIdeal.main_arg7)
          ∧ r.2.mem ((c.tc : Thread Cert.MixerBwdIdeal.nD Cert.MixerBwdIdeal.τ).loc Cert.MixerBwdIdeal.main_arg8) = m ((c.tc : Thread Cert.MixerBwdIdeal.nD Cert.MixerBwdIdeal.τ).loc Cert.MixerBwdIdeal.main_arg8)
          ∧ r.2.mem ((c.tc : Thread Cert.MixerBwdIdeal.nD Cert.MixerBwdIdeal.τ).loc Cert.MixerBwdIdeal.main_arg9) = m ((c.tc : Thread Cert.MixerBwdIdeal.nD Cert.MixerBwdIdeal.τ).loc Cert.MixerBwdIdeal.main_arg9)
          ∧ r.2.mem ((c.tc : Thread Cert.MixerBwdIdeal.nD Cert.MixerBwdIdeal.τ).loc Cert.MixerBwdIdeal.main_arg10) = m ((c.tc : Thread Cert.MixerBwdIdeal.nD Cert.MixerBwdIdeal.τ).loc Cert.MixerBwdIdeal.main_arg10)
          ∧ r.2.mem ((c.tc : Thread Cert.MixerBwdIdeal.nD Cert.MixerBwdIdeal.τ).loc Cert.MixerBwdIdeal.main_arg11) = m ((c.tc : Thread Cert.MixerBwdIdeal.nD Cert.MixerBwdIdeal.τ).loc Cert.MixerBwdIdeal.main_arg11)
          ∧ r.2.mem ((c.tc : Thread Cert.MixerBwdIdeal.nD Cert.MixerBwdIdeal.τ).loc Cert.MixerBwdIdeal.main_arg12) = m ((c.tc : Thread Cert.MixerBwdIdeal.nD Cert.MixerBwdIdeal.τ).loc Cert.MixerBwdIdeal.main_arg12))
      ∧ θ_run (Cert.MixerBwdRefIdeal.defs (F := Ideal)) (onTc (τ := Cert.MixerBwdRefIdeal.τ) (Cert.MixerBwdRefIdeal.main (F := Ideal))) ⟨m', fun _ => 0, g'⟩ (fun r => ∀ c : Dev Cert.MixerBwdRefIdeal.nD,
          r.2.mem ((c.tc : Thread Cert.MixerBwdRefIdeal.nD Cert.MixerBwdRefIdeal.τ).loc Cert.MixerBwdRefIdeal.main_v66) = v0 c
          ∧ r.2.mem ((c.tc : Thread Cert.MixerBwdRefIdeal.nD Cert.MixerBwdRefIdeal.τ).loc Cert.MixerBwdRefIdeal.main_v42) = v1 c
          ∧ r.2.mem ((c.tc : Thread Cert.MixerBwdRefIdeal.nD Cert.MixerBwdRefIdeal.τ).loc Cert.MixerBwdRefIdeal.main_v39) = v2 c
          ∧ r.2.mem ((c.tc : Thread Cert.MixerBwdRefIdeal.nD Cert.MixerBwdRefIdeal.τ).loc Cert.MixerBwdRefIdeal.main_v65) = v3 c
          ∧ r.2.mem ((c.tc : Thread Cert.MixerBwdRefIdeal.nD Cert.MixerBwdRefIdeal.τ).loc Cert.MixerBwdRefIdeal.main_v36) = v4 c
          ∧ r.2.mem ((c.tc : Thread Cert.MixerBwdRefIdeal.nD Cert.MixerBwdRefIdeal.τ).loc Cert.MixerBwdRefIdeal.main_arg0) = m' ((c.tc : Thread Cert.MixerBwdRefIdeal.nD Cert.MixerBwdRefIdeal.τ).loc Cert.MixerBwdRefIdeal.main_arg0)
          ∧ r.2.mem ((c.tc : Thread Cert.MixerBwdRefIdeal.nD Cert.MixerBwdRefIdeal.τ).loc Cert.MixerBwdRefIdeal.main_arg1) = m' ((c.tc : Thread Cert.MixerBwdRefIdeal.nD Cert.MixerBwdRefIdeal.τ).loc Cert.MixerBwdRefIdeal.main_arg1)
          ∧ r.2.mem ((c.tc : Thread Cert.MixerBwdRefIdeal.nD Cert.MixerBwdRefIdeal.τ).loc Cert.MixerBwdRefIdeal.main_arg2) = m' ((c.tc : Thread Cert.MixerBwdRefIdeal.nD Cert.MixerBwdRefIdeal.τ).loc Cert.MixerBwdRefIdeal.main_arg2)
          ∧ r.2.mem ((c.tc : Thread Cert.MixerBwdRefIdeal.nD Cert.MixerBwdRefIdeal.τ).loc Cert.MixerBwdRefIdeal.main_arg3) = m' ((c.tc : Thread Cert.MixerBwdRefIdeal.nD Cert.MixerBwdRefIdeal.τ).loc Cert.MixerBwdRefIdeal.main_arg3)
          ∧ r.2.mem ((c.tc : Thread Cert.MixerBwdRefIdeal.nD Cert.MixerBwdRefIdeal.τ).loc Cert.MixerBwdRefIdeal.main_arg4) = m' ((c.tc : Thread Cert.MixerBwdRefIdeal.nD Cert.MixerBwdRefIdeal.τ).loc Cert.MixerBwdRefIdeal.main_arg4)
          ∧ r.2.mem ((c.tc : Thread Cert.MixerBwdRefIdeal.nD Cert.MixerBwdRefIdeal.τ).loc Cert.MixerBwdRefIdeal.main_arg5) = m' ((c.tc : Thread Cert.MixerBwdRefIdeal.nD Cert.MixerBwdRefIdeal.τ).loc Cert.MixerBwdRefIdeal.main_arg5)
          ∧ r.2.mem ((c.tc : Thread Cert.MixerBwdRefIdeal.nD Cert.MixerBwdRefIdeal.τ).loc Cert.MixerBwdRefIdeal.main_arg6) = m' ((c.tc : Thread Cert.MixerBwdRefIdeal.nD Cert.MixerBwdRefIdeal.τ).loc Cert.MixerBwdRefIdeal.main_arg6)
          ∧ r.2.mem ((c.tc : Thread Cert.MixerBwdRefIdeal.nD Cert.MixerBwdRefIdeal.τ).loc Cert.MixerBwdRefIdeal.main_arg7) = m' ((c.tc : Thread Cert.MixerBwdRefIdeal.nD Cert.MixerBwdRefIdeal.τ).loc Cert.MixerBwdRefIdeal.main_arg7)
          ∧ r.2.mem ((c.tc : Thread Cert.MixerBwdRefIdeal.nD Cert.MixerBwdRefIdeal.τ).loc Cert.MixerBwdRefIdeal.main_arg8) = m' ((c.tc : Thread Cert.MixerBwdRefIdeal.nD Cert.MixerBwdRefIdeal.τ).loc Cert.MixerBwdRefIdeal.main_arg8)
          ∧ r.2.mem ((c.tc : Thread Cert.MixerBwdRefIdeal.nD Cert.MixerBwdRefIdeal.τ).loc Cert.MixerBwdRefIdeal.main_arg9) = m' ((c.tc : Thread Cert.MixerBwdRefIdeal.nD Cert.MixerBwdRefIdeal.τ).loc Cert.MixerBwdRefIdeal.main_arg9)
          ∧ r.2.mem ((c.tc : Thread Cert.MixerBwdRefIdeal.nD Cert.MixerBwdRefIdeal.τ).loc Cert.MixerBwdRefIdeal.main_arg10) = m' ((c.tc : Thread Cert.MixerBwdRefIdeal.nD Cert.MixerBwdRefIdeal.τ).loc Cert.MixerBwdRefIdeal.main_arg10)
          ∧ r.2.mem ((c.tc : Thread Cert.MixerBwdRefIdeal.nD Cert.MixerBwdRefIdeal.τ).loc Cert.MixerBwdRefIdeal.main_arg11) = m' ((c.tc : Thread Cert.MixerBwdRefIdeal.nD Cert.MixerBwdRefIdeal.τ).loc Cert.MixerBwdRefIdeal.main_arg11)
          ∧ r.2.mem ((c.tc : Thread Cert.MixerBwdRefIdeal.nD Cert.MixerBwdRefIdeal.τ).loc Cert.MixerBwdRefIdeal.main_arg12) = m' ((c.tc : Thread Cert.MixerBwdRefIdeal.nD Cert.MixerBwdRefIdeal.τ).loc Cert.MixerBwdRefIdeal.main_arg12))

def Claim : Prop :=
  ∃ (hKernel : Cert.Kernel.Facts) (hKernelIdeal : Cert.KernelIdeal.Facts) (hReferenceIdeal : Cert.ReferenceIdeal.Facts) (hKernelBwd : Cert.KernelBwd.Facts) (hKernelBwdIdeal : Cert.KernelBwdIdeal.Facts) (hReferenceBwdIdeal : Cert.ReferenceBwdIdeal.Facts) (hMlpOut : Cert.MlpOut.Facts) (hMlpOutIdeal : Cert.MlpOutIdeal.Facts) (hMlpOutRefIdeal : Cert.MlpOutRefIdeal.Facts) (hMlpOutW : Cert.MlpOutW.Facts) (hMlpOutWIdeal : Cert.MlpOutWIdeal.Facts) (hMlpOutWRefIdeal : Cert.MlpOutWRefIdeal.Facts) (hMlpInW : Cert.MlpInW.Facts) (hMlpInWIdeal : Cert.MlpInWIdeal.Facts) (hMlpInWRefIdeal : Cert.MlpInWRefIdeal.Facts) (hMlpIn : Cert.MlpIn.Facts) (hMlpInIdeal : Cert.MlpInIdeal.Facts) (hMlpInRefIdeal : Cert.MlpInRefIdeal.Facts) (hMlpInFwd : Cert.MlpInFwd.Facts) (hMlpInFwdIdeal : Cert.MlpInFwdIdeal.Facts) (hMlpInFwdRefIdeal : Cert.MlpInFwdRefIdeal.Facts) (hMlpOutFwd : Cert.MlpOutFwd.Facts) (hMlpOutFwdIdeal : Cert.MlpOutFwdIdeal.Facts) (hMlpOutFwdRefIdeal : Cert.MlpOutFwdRefIdeal.Facts) (hProjFwd : Cert.ProjFwd.Facts) (hProjFwdIdeal : Cert.ProjFwdIdeal.Facts) (hProjFwdRefIdeal : Cert.ProjFwdRefIdeal.Facts) (hProjBwd : Cert.ProjBwd.Facts) (hProjBwdIdeal : Cert.ProjBwdIdeal.Facts) (hProjBwdRefIdeal : Cert.ProjBwdRefIdeal.Facts) (hMixerFwd : Cert.MixerFwd.Facts) (hMixerFwdIdeal : Cert.MixerFwdIdeal.Facts) (hMixerFwdRefIdeal : Cert.MixerFwdRefIdeal.Facts) (hMixerBwd : Cert.MixerBwd.Facts) (hMixerBwdIdeal : Cert.MixerBwdIdeal.Facts) (hMixerBwdRefIdeal : Cert.MixerBwdRefIdeal.Facts),
    quiescent_Kernel (hKernel := hKernel)
    ∧ quiescent_KernelIdeal (hKernelIdeal := hKernelIdeal)
    ∧ quiescent_ReferenceIdeal (hReferenceIdeal := hReferenceIdeal)
    ∧ quiescent_KernelBwd (hKernelBwd := hKernelBwd)
    ∧ quiescent_KernelBwdIdeal (hKernelBwdIdeal := hKernelBwdIdeal)
    ∧ quiescent_ReferenceBwdIdeal (hReferenceBwdIdeal := hReferenceBwdIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_MlpOutW (hMlpOutW := hMlpOutW)
    ∧ quiescent_MlpOutWIdeal (hMlpOutWIdeal := hMlpOutWIdeal)
    ∧ quiescent_MlpOutWRefIdeal (hMlpOutWRefIdeal := hMlpOutWRefIdeal)
    ∧ quiescent_MlpInW (hMlpInW := hMlpInW)
    ∧ quiescent_MlpInWIdeal (hMlpInWIdeal := hMlpInWIdeal)
    ∧ quiescent_MlpInWRefIdeal (hMlpInWRefIdeal := hMlpInWRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpInFwd (hMlpInFwd := hMlpInFwd)
    ∧ quiescent_MlpInFwdIdeal (hMlpInFwdIdeal := hMlpInFwdIdeal)
    ∧ quiescent_MlpInFwdRefIdeal (hMlpInFwdRefIdeal := hMlpInFwdRefIdeal)
    ∧ quiescent_MlpOutFwd (hMlpOutFwd := hMlpOutFwd)
    ∧ quiescent_MlpOutFwdIdeal (hMlpOutFwdIdeal := hMlpOutFwdIdeal)
    ∧ quiescent_MlpOutFwdRefIdeal (hMlpOutFwdRefIdeal := hMlpOutFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ quiescent_MixerFwd (hMixerFwd := hMixerFwd)
    ∧ quiescent_MixerFwdIdeal (hMixerFwdIdeal := hMixerFwdIdeal)
    ∧ quiescent_MixerFwdRefIdeal (hMixerFwdRefIdeal := hMixerFwdRefIdeal)
    ∧ quiescent_MixerBwd (hMixerBwd := hMixerBwd)
    ∧ quiescent_MixerBwdIdeal (hMixerBwdIdeal := hMixerBwdIdeal)
    ∧ quiescent_MixerBwdRefIdeal (hMixerBwdRefIdeal := hMixerBwdRefIdeal)
    ∧ preserves_Kernel_KernelIdeal
    ∧ algebraic_KernelIdeal_ReferenceIdeal (hKernelIdeal := hKernelIdeal) (hReferenceIdeal := hReferenceIdeal)
    ∧ preserves_KernelBwd_KernelBwdIdeal
    ∧ algebraic_KernelBwdIdeal_ReferenceBwdIdeal (hKernelBwdIdeal := hKernelBwdIdeal) (hReferenceBwdIdeal := hReferenceBwdIdeal)
    ∧ preserves_MlpOut_MlpOutIdeal
    ∧ algebraic_MlpOutIdeal_MlpOutRefIdeal (hMlpOutIdeal := hMlpOutIdeal) (hMlpOutRefIdeal := hMlpOutRefIdeal)
    ∧ preserves_MlpOutW_MlpOutWIdeal
    ∧ algebraic_MlpOutWIdeal_MlpOutWRefIdeal (hMlpOutWIdeal := hMlpOutWIdeal) (hMlpOutWRefIdeal := hMlpOutWRefIdeal)
    ∧ preserves_MlpInW_MlpInWIdeal
    ∧ algebraic_MlpInWIdeal_MlpInWRefIdeal (hMlpInWIdeal := hMlpInWIdeal) (hMlpInWRefIdeal := hMlpInWRefIdeal)
    ∧ preserves_MlpIn_MlpInIdeal
    ∧ algebraic_MlpInIdeal_MlpInRefIdeal (hMlpInIdeal := hMlpInIdeal) (hMlpInRefIdeal := hMlpInRefIdeal)
    ∧ preserves_MlpInFwd_MlpInFwdIdeal
    ∧ algebraic_MlpInFwdIdeal_MlpInFwdRefIdeal (hMlpInFwdIdeal := hMlpInFwdIdeal) (hMlpInFwdRefIdeal := hMlpInFwdRefIdeal)
    ∧ preserves_MlpOutFwd_MlpOutFwdIdeal
    ∧ algebraic_MlpOutFwdIdeal_MlpOutFwdRefIdeal (hMlpOutFwdIdeal := hMlpOutFwdIdeal) (hMlpOutFwdRefIdeal := hMlpOutFwdRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_ProjBwd_ProjBwdIdeal
    ∧ algebraic_ProjBwdIdeal_ProjBwdRefIdeal (hProjBwdIdeal := hProjBwdIdeal) (hProjBwdRefIdeal := hProjBwdRefIdeal)
    ∧ preserves_MixerFwd_MixerFwdIdeal
    ∧ algebraic_MixerFwdIdeal_MixerFwdRefIdeal (hMixerFwdIdeal := hMixerFwdIdeal) (hMixerFwdRefIdeal := hMixerFwdRefIdeal)
    ∧ preserves_MixerBwd_MixerBwdIdeal
    ∧ algebraic_MixerBwdIdeal_MixerBwdRefIdeal (hMixerBwdIdeal := hMixerBwdIdeal) (hMixerBwdRefIdeal := hMixerBwdRefIdeal)
-- ==== Kernel.lean ====
abbrev S2x2048x256 : Shape := ⟨3, ![2, 2048, 256]⟩
abbrev S1x64 : Shape := ⟨2, ![1, 64]⟩
abbrev S2x64x256 : Shape := ⟨3, ![2, 64, 256]⟩
abbrev S2x256x256 : Shape := ⟨3, ![2, 256, 256]⟩
abbrev S1x256x256 : Shape := ⟨3, ![1, 256, 256]⟩
abbrev S256x256 : Shape := ⟨2, ![256, 256]⟩
abbrev S64x256 : Shape := ⟨2, ![64, 256]⟩
abbrev S1x64x256 : Shape := ⟨3, ![1, 64, 256]⟩
abbrev S1x256 : Shape := ⟨2, ![1, 256]⟩
abbrev S64x64 : Shape := ⟨2, ![64, 64]⟩
abbrev S64 : Shape := ⟨1, ![64]⟩
abbrev S64x1 : Shape := ⟨2, ![64, 1]⟩

abbrev nBuf : Space → Nat
  | .hbm => 10
  | .vmem => 20
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S2x2048x256, .f32⟩
  | .hbm, ⟨3, _⟩ => ⟨S2x2048x256, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S1x64, .f32⟩
  | .hbm, ⟨8, _⟩ => ⟨S2x2048x256, .f32⟩
  | .hbm, ⟨9, _⟩ => ⟨S2x2048x256, .f32⟩
  | .local _ .vmem, ⟨0, _⟩ => ⟨S2x64x256, .f32⟩
  | .local _ .vmem, ⟨1, _⟩ => ⟨S2x64x256, .f32⟩
  | .local _ .vmem, ⟨2, _⟩ => ⟨S2x64x256, .f32⟩
  | .local _ .vmem, ⟨3, _⟩ => ⟨S2x64x256, .f32⟩
  | .local _ .vmem, ⟨4, _⟩ => ⟨S2x64x256, .f32⟩
  | .local _ .vmem, ⟨5, _⟩ => ⟨S2x64x256, .f32⟩
  | .local _ .vmem, ⟨6, _⟩ => ⟨S2x64x256, .f32⟩
  | .local _ .vmem, ⟨7, _⟩ => ⟨S2x64x256, .f32⟩
  | .local _ .vmem, ⟨8, _⟩ => ⟨S2x64x256, .f32⟩
  | .local _ .vmem, ⟨9, _⟩ => ⟨S2x64x256, .f32⟩
  | .local _ .vmem, ⟨10, _⟩ => ⟨S2x64x256, .f32⟩
  | .local _ .vmem, ⟨11, _⟩ => ⟨S2x64x256, .f32⟩
  | .local _ .vmem, ⟨12, _⟩ => ⟨S2x64x256, .f32⟩
  | .local _ .vmem, ⟨13, _⟩ => ⟨S2x64x256, .f32⟩
  | .local _ .vmem, ⟨14, _⟩ => ⟨S1x64, .f32⟩
  | .local _ .vmem, ⟨15, _⟩ => ⟨S2x64x256, .f32⟩
  | .local _ .vmem, ⟨16, _⟩ => ⟨S2x64x256, .f32⟩
  | .local _ .vmem, ⟨17, _⟩ => ⟨S2x64x256, .f32⟩
  | .local _ .vmem, ⟨18, _⟩ => ⟨S2x64x256, .f32⟩
  | .local _ .vmem, ⟨19, _⟩ => ⟨S2x256x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x2048x256 : Shape := ⟨3, ![2, 2048, 256]⟩
abbrev S1x64 : Shape := ⟨2, ![1, 64]⟩
abbrev S2x32x64x4x64 : Shape := ⟨5, ![2, 32, 64, 4, 64]⟩
abbrev S32x2x4x64x64 : Shape := ⟨5, ![32, 2, 4, 64, 64]⟩
abbrev S_ : Shape := ⟨0, ![]⟩
abbrev S2x4x64x64 : Shape := ⟨4, ![2, 4, 64, 64]⟩
abbrev S1x2x4x64x64 : Shape := ⟨5, ![1, 2, 4, 64, 64]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S64 : Shape := ⟨1, ![64]⟩
abbrev S1x1x1x64 : Shape := ⟨4, ![1, 1, 1, 64]⟩

abbrev nBuf : Space → Nat
  | .hbm => 140
  | .vmem => 0
  | .smem => 0
  | _ => 0

abbrev hbmTy0_0 (i : Nat) : BufTy := match i % 128 with
  | 0 => ⟨S2x2048x256, .f32⟩
  | 1 => ⟨S2x2048x256, .f32⟩
  | 2 => ⟨S2x2048x256, .f32⟩
  | 3 => ⟨S2x2048x256, .f32⟩
  | 4 => ⟨S2x2048x256, .f32⟩
  | 5 => ⟨S2x2048x256, .f32⟩
  | 6 => ⟨S2x2048x256, .f32⟩
  | 7 => ⟨S1x64, .f32⟩
  | 8 => ⟨S2x32x64x4x64, .f32⟩
  | 9 => ⟨S32x2x4x64x64, .f32⟩
  | 10 => ⟨S2x32x64x4x64, .f32⟩
  | 11 => ⟨S32x2x4x64x64, .f32⟩
  | 12 => ⟨S2x32x64x4x64, .f32⟩
  | 13 => ⟨S32x2x4x64x64, .f32⟩
  | 14 => ⟨S2x32x64x4x64, .f32⟩
  | 15 => ⟨S32x2x4x64x64, .f32⟩
  | 16 => ⟨S2x32x64x4x64, .f32⟩
  | 17 => ⟨S32x2x4x64x64, .f32⟩
  | 18 => ⟨S2x32x64x4x64, .f32⟩
  | 19 => ⟨S32x2x4x64x64, .f32⟩
  | 20 => ⟨S2x32x64x4x64, .f32⟩
  | 21 => ⟨S32x2x4x64x64, .f32⟩
  | 22 => ⟨S_, .f32⟩
  | 23 => ⟨S2x4x64x64, .f32⟩
  | 24 => ⟨S_, .f32⟩
  | 25 => ⟨S32x2x4x64x64, .f32⟩
  | 26 => ⟨S_, .f32⟩
  | 27 => ⟨S32x2x4x64x64, .f32⟩
  | 28 => ⟨S_, .i32⟩
  | 29 => ⟨S32x2x4x64x64, .f32⟩
  | 30 => ⟨S32x2x4x64x64, .f32⟩
  | 31 => ⟨S32x2x4x64x64, .f32⟩
  | 32 => ⟨S32x2x4x64x64, .f32⟩
  | 33 => ⟨S32x2x4x64x64, .f32⟩
  | 34 => ⟨S32x2x4x64x64, .f32⟩
  | 35 => ⟨S32x2x4x64x64, .f32⟩
  | 36 => ⟨S1x64, .f32⟩
  | 37 => ⟨S_, .i32⟩
  | 38 => ⟨S2x4x64x64, .f32⟩
  | 39 => ⟨S32x2x4x64x64, .f32⟩
  | 40 => ⟨S32x2x4x64x64, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x2x4x64x64, .f32⟩
  | 48 => ⟨S2x4x64x64, .f32⟩
  | 49 => ⟨S_, .i32⟩
  | 50 => ⟨S_, .i32⟩
  | 51 => ⟨S_, .i32⟩
  | 52 => ⟨S_, .i32⟩
  | 53 => ⟨S1x2x4x64x64, .f32⟩
  | 54 => ⟨S2x4x64x64, .f32⟩
  | 55 => ⟨S_, .i32⟩
  | 56 => ⟨S_, .i32⟩
  | 57 => ⟨S_, .i32⟩
  | 58 => ⟨S_, .i32⟩
  | 59 => ⟨S1x2x4x64x64, .f32⟩
  | 60 => ⟨S2x4x64x64, .f32⟩
  | 61 => ⟨S_, .i32⟩
  | 62 => ⟨S_, .i32⟩
  | 63 => ⟨S_, .i32⟩
  | 64 => ⟨S_, .i32⟩
  | 65 => ⟨S1x2x4x64x64, .f32⟩
  | 66 => ⟨S2x4x64x64, .f32⟩
  | 67 => ⟨S_, .i32⟩
  | 68 => ⟨S_, .i32⟩
  | 69 => ⟨S_, .i32⟩
  | 70 => ⟨S_, .i32⟩
  | 71 => ⟨S1x2x4x64x64, .f32⟩
  | 72 => ⟨S2x4x64x64, .f32⟩
  | 73 => ⟨S_, .i32⟩
  | 74 => ⟨S_, .i32⟩
  | 75 => ⟨S_, .i32⟩
  | 76 => ⟨S_, .i32⟩
  | 77 => ⟨S1x2x4x64x64, .f32⟩
  | 78 => ⟨S2x4x64x64, .f32⟩
  | 79 => ⟨S_, .i32⟩
  | 80 => ⟨S_, .i32⟩
  | 81 => ⟨S_, .i32⟩
  | 82 => ⟨S_, .i32⟩
  | 83 => ⟨S1x2x4x64x64, .f32⟩
  | 84 => ⟨S2x4x64x64, .f32⟩
  | 85 => ⟨S2x4x64x64, .f32⟩
  | 86 => ⟨S2x4x64x64, .f32⟩
  | 87 => ⟨S2x4x64x64, .f32⟩
  | 88 => ⟨S2x4x64x64, .f32⟩
  | 89 => ⟨S2x4x64x64, .f32⟩
  | 90 => ⟨S2x4x1x64, .f32⟩
  | 91 => ⟨S2x4x64x64, .f32⟩
  | 92 => ⟨S2x4x64x64, .f32⟩
  | 93 => ⟨S2x4x64x64, .f32⟩
  | 94 => ⟨S2x4x64x64, .f32⟩
  | 95 => ⟨S2x4x64x64, .f32⟩
  | 96 => ⟨S_, .f32⟩
  | 97 => ⟨S2x4x64, .f32⟩
  | 98 => ⟨S2x4x64x1, .f32⟩
  | 99 => ⟨S_, .f32⟩
  | 100 => ⟨S2x4x64x1, .f32⟩
  | 101 => ⟨S2x4x64x1, .f32⟩
  | 102 => ⟨S_, .f32⟩
  | 103 => ⟨S2x4x64x1, .f32⟩
  | 104 => ⟨S2x4x64x1, .f32⟩
  | 105 => ⟨S2x4x64x1, .f32⟩
  | 106 => ⟨S2x4x64x64, .f32⟩
  | 107 => ⟨S2x4x64x64, .f32⟩
  | 108 => ⟨S64, .f32⟩
  | 109 => ⟨S1x1x1x64, .f32⟩
  | 110 => ⟨S2x4x64x64, .f32⟩
  | 111 => ⟨S2x4x64x64, .f32⟩
  | 112 => ⟨S2x4x64x64, .f32⟩
  | 113 => ⟨S2x4x64x64, .f32⟩
  | 114 => ⟨S_, .f32⟩
  | 115 => ⟨S2x4x64x64, .f32⟩
  | 116 => ⟨S2x4x64x64, .f32⟩
  | 117 => ⟨S_, .f32⟩
  | 118 => ⟨S2x4x64x64, .f32⟩
  | 119 => ⟨S2x4x64x64, .f32⟩
  | 120 => ⟨S2x4x64x64, .f32⟩
  | 121 => ⟨S2x4x64x64, .f32⟩
  | 122 => ⟨S1x2x4x64x64, .f32⟩
  | 123 => ⟨S_, .i32⟩
  | 124 => ⟨S_, .i32⟩
  | 125 => ⟨S_, .i32⟩
  | 126 => ⟨S_, .i32⟩
  | 127 => ⟨S32x2x4x64x64, .f32⟩
  | _ => ⟨S2x2048x256, .f32⟩

abbrev hbmTy0_1 (i : Nat) : BufTy := match i % 128 with
  | 0 => ⟨S1x2x4x64x64, .f32⟩
  | 1 => ⟨S_, .i32⟩
  | 2 => ⟨S_, .i32⟩
  | 3 => ⟨S_, .i32⟩
  | 4 => ⟨S_, .i32⟩
  | 5 => ⟨S32x2x4x64x64, .f32⟩
  | 6 => ⟨S_, .i32⟩
  | 7 => ⟨S_, .i32⟩
  | 8 => ⟨S2x32x64x4x64, .f32⟩
  | 9 => ⟨S2x2048x256, .f32⟩
  | 10 => ⟨S2x32x64x4x64, .f32⟩
  | 11 => ⟨S2x2048x256, .f32⟩
  | _ => ⟨S2x2048x256, .f32⟩

abbrev hbmTy (i : Nat) : BufTy := match i / 128 with
  | 0 => hbmTy0_0 i
  | 1 => hbmTy0_1 i
  | _ => ⟨S2x2048x256, .f32⟩

abbrev bufTy : (tb : Table) → Fin (tcTables nBuf tb) → BufTy
  | .hbm, ⟨i, _⟩ => hbmTy i
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_c : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v17_5 : Ref sig .tc := ⟨.hbm, 34, rfl⟩
abbrev main_v17_6 : Ref sig .tc := ⟨.hbm, 35, rfl⟩
abbrev main_v17_7 : Ref sig .tc := ⟨.hbm, 36, rfl⟩
abbrev main_v17_8 : Ref sig .tc := ⟨.hbm, 37, rfl⟩
abbrev main_v17_9 : Ref sig .tc := ⟨.hbm, 38, rfl⟩
abbrev main_v17_10 : Ref sig .tc := ⟨.hbm, 39, rfl⟩
abbrev main_v17_11 : Ref sig .tc := ⟨.hbm, 40, rfl⟩
abbrev main_while0c_c_13 : Ref sig .tc := ⟨.hbm, 41, rfl⟩
abbrev main_while0c_v22 : Ref sig .tc := ⟨.hbm, 42, rfl⟩
abbrev main_while0b_call0_c : Ref sig .tc := ⟨.hbm, 43, rfl⟩
abbrev main_while0b_call0_c_0 : Ref sig .tc := ⟨.hbm, 44, rfl⟩
abbrev main_while0b_call0_c_1 : Ref sig .tc := ⟨.hbm, 45, rfl⟩
abbrev main_while0b_call0_c_2 : Ref sig .tc := ⟨.hbm, 46, rfl⟩
abbrev main_while0b_call0_v0 : Ref sig .tc := ⟨.hbm, 47, rfl⟩
abbrev main_while0b_v22 : Ref sig .tc := ⟨.hbm, 48, rfl⟩
abbrev main_while0b_call1_c : Ref sig .tc := ⟨.hbm, 49, rfl⟩
abbrev main_while0b_call1_c_0 : Ref sig .tc := ⟨.hbm, 50, rfl⟩
abbrev main_while0b_call1_c_1 : Ref sig .tc := ⟨.hbm, 51, rfl⟩
abbrev main_while0b_call1_c_2 : Ref sig .tc := ⟨.hbm, 52, rfl⟩
abbrev main_while0b_call1_v0 : Ref sig .tc := ⟨.hbm, 53, rfl⟩
abbrev main_while0b_v23 : Ref sig .tc := ⟨.hbm, 54, rfl⟩
abbrev main_while0b_call2_c : Ref sig .tc := ⟨.hbm, 55, rfl⟩
abbrev main_while0b_call2_c_0 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v0 : Ref sig .tc := ⟨.hbm, 59, rfl⟩
abbrev main_while0b_v24 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_c_2 : Ref sig .tc := ⟨.hbm, 64, rfl⟩
abbrev main_while0b_call3_v0 : Ref sig .tc := ⟨.hbm, 65, rfl⟩
abbrev main_while0b_v25 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_c_2 : Ref sig .tc := ⟨.hbm, 70, rfl⟩
abbrev main_while0b_call4_v0 : Ref sig .tc := ⟨.hbm, 71, rfl⟩
abbrev main_while0b_v26 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_c_1 : Ref sig .tc := ⟨.hbm, 75, rfl⟩
abbrev main_while0b_call5_c_2 : Ref sig .tc := ⟨.hbm, 76, rfl⟩
abbrev main_while0b_call5_v0 : Ref sig .tc := ⟨.hbm, 77, rfl⟩
abbrev main_while0b_v27 : Ref sig .tc := ⟨.hbm, 78, rfl⟩
abbrev main_while0b_call6_c : Ref sig .tc := ⟨.hbm, 79, rfl⟩
abbrev main_while0b_call6_c_0 : Ref sig .tc := ⟨.hbm, 80, rfl⟩
abbrev main_while0b_call6_c_1 : Ref sig .tc := ⟨.hbm, 81, rfl⟩
abbrev main_while0b_call6_c_2 : Ref sig .tc := ⟨.hbm, 82, rfl⟩
abbrev main_while0b_call6_v0 : Ref sig .tc := ⟨.hbm, 83, rfl⟩
abbrev main_while0b_v28 : Ref sig .tc := ⟨.hbm, 84, rfl⟩
abbrev main_while0b_v29 : Ref sig .tc := ⟨.hbm, 85, rfl⟩
abbrev main_while0b_v30 : Ref sig .tc := ⟨.hbm, 86, rfl⟩
abbrev main_while0b_v31 : Ref sig .tc := ⟨.hbm, 87, rfl⟩
abbrev main_while0b_v32 : Ref sig .tc := ⟨.hbm, 88, rfl⟩
abbrev main_while0b_v33 : Ref sig .tc := ⟨.hbm, 89, rfl⟩
abbrev main_while0b_v34 : Ref sig .tc := ⟨.hbm, 90, rfl⟩
abbrev main_while0b_v35 : Ref sig .tc := ⟨.hbm, 91, rfl⟩
abbrev main_while0b_v36 : Ref sig .tc := ⟨.hbm, 92, rfl⟩
abbrev main_while0b_v37 : Ref sig .tc := ⟨.hbm, 93, rfl⟩
abbrev main_while0b_v38 : Ref sig .tc := ⟨.hbm, 94, rfl⟩
abbrev main_while0b_v39 : Ref sig .tc := ⟨.hbm, 95, rfl⟩
abbrev main_while0b_cst_13 : Ref sig .tc := ⟨.hbm, 96, rfl⟩
abbrev main_while0b_v40 : Ref sig .tc := ⟨.hbm, 97, rfl⟩
abbrev main_while0b_v41 : Ref sig .tc := ⟨.hbm, 98, rfl⟩
abbrev main_while0b_cst_14 : Ref sig .tc := ⟨.hbm, 99, rfl⟩
abbrev main_while0b_v42 : Ref sig .tc := ⟨.hbm, 100, rfl⟩
abbrev main_while0b_v43 : Ref sig .tc := ⟨.hbm, 101, rfl⟩
abbrev main_while0b_cst_15 : Ref sig .tc := ⟨.hbm, 102, rfl⟩
abbrev main_while0b_v44 : Ref sig .tc := ⟨.hbm, 103, rfl⟩
abbrev main_while0b_v45 : Ref sig .tc := ⟨.hbm, 104, rfl⟩
abbrev main_while0b_v46 : Ref sig .tc := ⟨.hbm, 105, rfl⟩
abbrev main_while0b_v47 : Ref sig .tc := ⟨.hbm, 106, rfl⟩
abbrev main_while0b_v48 : Ref sig .tc := ⟨.hbm, 107, rfl⟩
abbrev main_while0b_v49 : Ref sig .tc := ⟨.hbm, 108, rfl⟩
abbrev main_while0b_v50 : Ref sig .tc := ⟨.hbm, 109, rfl⟩
abbrev main_while0b_v51 : Ref sig .tc := ⟨.hbm, 110, rfl⟩
abbrev main_while0b_v52 : Ref sig .tc := ⟨.hbm, 111, rfl⟩
abbrev main_while0b_call7_v0 : Ref sig .tc := ⟨.hbm, 112, rfl⟩
abbrev main_while0b_call7_v1 : Ref sig .tc := ⟨.hbm, 113, rfl⟩
abbrev main_while0b_call7_cst : Ref sig .tc := ⟨.hbm, 114, rfl⟩
abbrev main_while0b_call7_v2 : Ref sig .tc := ⟨.hbm, 115, rfl⟩
abbrev main_while0b_call7_v3 : Ref sig .tc := ⟨.hbm, 116, rfl⟩
abbrev main_while0b_call7_cst_0 : Ref sig .tc := ⟨.hbm, 117, rfl⟩
abbrev main_while0b_call7_v4 : Ref sig .tc := ⟨.hbm, 118, rfl⟩
abbrev main_while0b_call7_v5 : Ref sig .tc := ⟨.hbm, 119, rfl⟩
abbrev main_while0b_v53 : Ref sig .tc := ⟨.hbm, 120, rfl⟩
abbrev main_while0b_v54 : Ref sig .tc := ⟨.hbm, 121, rfl⟩
abbrev main_while0b_call8_v0 : Ref sig .tc := ⟨.hbm, 122, rfl⟩
abbrev main_while0b_call8_c : Ref sig .tc := ⟨.hbm, 123, rfl⟩
abbrev main_while0b_call8_c_0 : Ref sig .tc := ⟨.hbm, 124, rfl⟩
abbrev main_while0b_call8_c_1 : Ref sig .tc := ⟨.hbm, 125, rfl⟩
abbrev main_while0b_call8_c_2 : Ref sig .tc := ⟨.hbm, 126, rfl⟩
abbrev main_while0b_v55 : Ref sig .tc := ⟨.hbm, 127, rfl⟩
abbrev main_while0b_call9_v0 : Ref sig .tc := ⟨.hbm, 128, rfl⟩
abbrev main_while0b_call9_c : Ref sig .tc := ⟨.hbm, 129, rfl⟩
abbrev main_while0b_call9_c_0 : Ref sig .tc := ⟨.hbm, 130, rfl⟩
abbrev main_while0b_call9_c_1 : Ref sig .tc := ⟨.hbm, 131, rfl⟩
abbrev main_while0b_call9_c_2 : Ref sig .tc := ⟨.hbm, 132, rfl⟩
abbrev main_while0b_v56 : Ref sig .tc := ⟨.hbm, 133, rfl⟩
abbrev main_while0b_c_16 : Ref sig .tc := ⟨.hbm, 134, rfl⟩
abbrev main_while0b_v57 : Ref sig .tc := ⟨.hbm, 135, rfl⟩
abbrev main_v18 : Ref sig .tc := ⟨.hbm, 136, rfl⟩
abbrev main_v19 : Ref sig .tc := ⟨.hbm, 137, rfl⟩
abbrev main_v20 : Ref sig .tc := ⟨.hbm, 138, rfl⟩
abbrev main_v21 : Ref sig .tc := ⟨.hbm, 139, rfl⟩

abbrev nD : Nat := 1
abbrev τ : Topo := Topo.v7x

variable {F : FTy → Type} [FloatOps F]

abbrev main_while0_count : Scf.Loop 32 := ⟨0#32, 32#32, 1#32⟩
-- ==== KernelBwd.lean ====
abbrev S2x2048x256 : Shape := ⟨3, ![2, 2048, 256]⟩
abbrev S1x64 : Shape := ⟨2, ![1, 64]⟩
abbrev S2x64x256 : Shape := ⟨3, ![2, 64, 256]⟩
abbrev S2x256x256 : Shape := ⟨3, ![2, 256, 256]⟩
abbrev S1x64x256 : Shape := ⟨3, ![1, 64, 256]⟩
abbrev S64x256 : Shape := ⟨2, ![64, 256]⟩
abbrev S256x256 : Shape := ⟨2, ![256, 256]⟩
abbrev S1x256 : Shape := ⟨2, ![1, 256]⟩
abbrev S64x64 : Shape := ⟨2, ![64, 64]⟩
abbrev S64 : Shape := ⟨1, ![64]⟩
abbrev S64x1 : Shape := ⟨2, ![64, 1]⟩
abbrev S1x256x256 : Shape := ⟨3, ![1, 256, 256]⟩
abbrev S64x192 : Shape := ⟨2, ![64, 192]⟩
abbrev S64x128 : Shape := ⟨2, ![64, 128]⟩
abbrev S256 : Shape := ⟨1, ![256]⟩
abbrev S63x256 : Shape := ⟨2, ![63, 256]⟩
abbrev S256x64 : Shape := ⟨2, ![256, 64]⟩

abbrev nBuf : Space → Nat
  | .hbm => 18
  | .vmem => 35
  | .smem => 0
  | _ => 0

abbrev bufTy : (tb : Table) → Fin (tcTables nBuf tb) → BufTy
  | .hbm, ⟨0, _⟩ => ⟨S2x2048x256, .f32⟩
  | .hbm, ⟨1, _⟩ => ⟨S2x2048x256, .f32⟩
  | .hbm, ⟨2, _⟩ => ⟨S2x2048x256, .f32⟩
  | .hbm, ⟨3, _⟩ => ⟨S2x2048x256, .f32⟩
  | .hbm, ⟨4, _⟩ => ⟨S2x2048x256, .f32⟩
  | .hbm, ⟨5, _⟩ => ⟨S2x2048x256, .f32⟩
  | .hbm, ⟨6, _⟩ => ⟨S2x2048x256, .f32⟩
  | .hbm, ⟨7, _⟩ => ⟨S1x64, .f32⟩
  | .hbm, ⟨8, _⟩ => ⟨S2x2048x256, .f32⟩
  | .hbm, ⟨9, _⟩ => ⟨S2x2048x256, .f32⟩
  | .hbm, ⟨10, _⟩ => ⟨S2x2048x256, .f32⟩
  | .hbm, ⟨11, _⟩ => ⟨S2x2048x256, .f32⟩
  | .hbm, ⟨12, _⟩ => ⟨S2x2048x256, .f32⟩
  | .hbm, ⟨13, _⟩ => ⟨S2x2048x256, .f32⟩
  | .hbm, ⟨14, _⟩ => ⟨S2x2048x256, .f32⟩
  | .hbm, ⟨15, _⟩ => ⟨S2x2048x256, .f32⟩
  | .hbm, ⟨16, _⟩ => ⟨S2x2048x256, .f32⟩
  | .hbm, ⟨17, _⟩ => ⟨S1x64, .f32⟩
  | .local _ .vmem, ⟨0, _⟩ => ⟨S2x64x256, .f32⟩
  | .local _ .vmem, ⟨1, _⟩ => ⟨S2x64x256, .f32⟩
  | .local _ .vmem, ⟨2, _⟩ => ⟨S2x64x256, .f32⟩
  | .local _ .vmem, ⟨3, _⟩ => ⟨S2x64x256, .f32⟩
  | .local _ .vmem, ⟨4, _⟩ => ⟨S2x64x256, .f32⟩
  | .local _ .vmem, ⟨5, _⟩ => ⟨S2x64x256, .f32⟩
  | .local _ .vmem, ⟨6, _⟩ => ⟨S2x64x256, .f32⟩
  | .local _ .vmem, ⟨7, _⟩ => ⟨S2x64x256, .f32⟩
  | .local _ .vmem, ⟨8, _⟩ => ⟨S2x64x256, .f32⟩
  | .local _ .vmem, ⟨9, _⟩ => ⟨S2x64x256, .f32⟩
  | .local _ .vmem, ⟨10, _⟩ => ⟨S2x64x256, .f32⟩
  | .local _ .vmem, ⟨11, _⟩ => ⟨S2x64x256, .f32⟩
  | .local _ .vmem, ⟨12, _⟩ => ⟨S2x64x256, .f32⟩
  | .local _ .vmem, ⟨13, _⟩ => ⟨S2x64x256, .f32⟩
  | .local _ .vmem, ⟨14, _⟩ => ⟨S1x64, .f32⟩
  | .local _ .vmem, ⟨15, _⟩ => ⟨S2x64x256, .f32⟩
  | .local _ .vmem, ⟨16, _⟩ => ⟨S2x64x256, .f32⟩
  | .local _ .vmem, ⟨17, _⟩ => ⟨S2x64x256, .f32⟩
  | .local _ .vmem, ⟨18, _⟩ => ⟨S2x64x256, .f32⟩
  | .local _ .vmem, ⟨19, _⟩ => ⟨S2x64x256, .f32⟩
  | .local _ .vmem, ⟨20, _⟩ => ⟨S2x64x256, .f32⟩
  | .local _ .vmem, ⟨21, _⟩ => ⟨S2x64x256, .f32⟩
  | .local _ .vmem, ⟨22, _⟩ => ⟨S2x64x256, .f32⟩
  | .local _ .vmem, ⟨23, _⟩ => ⟨S2x64x256, .f32⟩
  | .local _ .vmem, ⟨24, _⟩ => ⟨S2x64x256, .f32⟩
  | .local _ .vmem, ⟨25, _⟩ => ⟨S2x64x256, .f32⟩
  | .local _ .vmem, ⟨26, _⟩ => ⟨S2x64x256, .f32⟩
  | .local _ .vmem, ⟨27, _⟩ => ⟨S2x64x256, .f32⟩
  | .local _ .vmem, ⟨28, _⟩ => ⟨S2x64x256, .f32⟩
  | .local _ .vmem, ⟨29, _⟩ => ⟨S2x64x256, .f32⟩
  | .local _ .vmem, ⟨30, _⟩ => ⟨S2x64x256, .f32⟩
  | .local _ .vmem, ⟨31, _⟩ => ⟨S2x64x256, .f32⟩
  | .local _ .vmem, ⟨32, _⟩ => ⟨S2x64x256, .f32⟩
  | .local _ .vmem, ⟨33, _⟩ => ⟨S1x64, .f32⟩
  | .local _ .vmem, ⟨34, _⟩ => ⟨S2x256x256, .f32⟩
  | _, _ => ⟨S2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v1114 : BitVec 32 := Scalar.extui v0
  let c0_i32_346 : BitVec 32 := 0#32
  let v1115 : BitVec 1 := Scalar.cmpi .ne v1114 c0_i32_346
  v1115

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v1116 : BitVec 1 := Scalar.xori v0 v_true
  let v1117 : BitVec 32 := Scalar.extui v1116
  let c0_i32_347 : BitVec 32 := 0#32
  let v1118 : BitVec 1 := Scalar.cmpi .ne v1117 c0_i32_347
  v1118

def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_9 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_10 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_12 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_14 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_15 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_16 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceBwdIdeal.lean ====
abbrev S2x2048x256 : Shape := ⟨3, ![2, 2048, 256]⟩
abbrev S1x64 : Shape := ⟨2, ![1, 64]⟩
abbrev S2x32x64x4x64 : Shape := ⟨5, ![2, 32, 64, 4, 64]⟩
abbrev S32x2x4x64x64 : Shape := ⟨5, ![32, 2, 4, 64, 64]⟩
abbrev S_ : Shape := ⟨0, ![]⟩
abbrev S2x4x64x64 : Shape := ⟨4, ![2, 4, 64, 64]⟩
abbrev S32x1x64 : Shape := ⟨3, ![32, 1, 64]⟩
abbrev S1x2x4x64x64 : Shape := ⟨5, ![1, 2, 4, 64, 64]⟩
abbrev S2x4x1x64 : Shape := ⟨4, ![2, 4, 1, 64]⟩
abbrev S2x4x64 : Shape := ⟨3, ![2, 4, 64]⟩
abbrev S2x4x64x1 : Shape := ⟨4, ![2, 4, 64, 1]⟩
abbrev S64 : Shape := ⟨1, ![64]⟩
abbrev S1x1x1x64 : Shape := ⟨4, ![1, 1, 1, 64]⟩
abbrev S1x1x64 : Shape := ⟨3, ![1, 1, 64]⟩

abbrev nBuf : Space → Nat
  | .hbm => 293
  | .vmem => 0
  | .smem => 0
  | _ => 0

abbrev hbmTy0_0 (i : Nat) : BufTy := match i % 128 with
  | 0 => ⟨S2x2048x256, .f32⟩
  | 1 => ⟨S2x2048x256, .f32⟩
  | 2 => ⟨S2x2048x256, .f32⟩
  | 3 => ⟨S2x2048x256, .f32⟩
  | 4 => ⟨S2x2048x256, .f32⟩
  | 5 => ⟨S2x2048x256, .f32⟩
  | 6 => ⟨S2x2048x256, .f32⟩
  | 7 => ⟨S1x64, .f32⟩
  | 8 => ⟨S2x2048x256, .f32⟩
  | 9 => ⟨S2x2048x256, .f32⟩
  | 10 => ⟨S2x32x64x4x64, .f32⟩
  | 11 => ⟨S32x2x4x64x64, .f32⟩
  | 12 => ⟨S2x32x64x4x64, .f32⟩
  | 13 => ⟨S32x2x4x64x64, .f32⟩
  | 14 => ⟨S2x32x64x4x64, .f32⟩
  | 15 => ⟨S32x2x4x64x64, .f32⟩
  | 16 => ⟨S2x32x64x4x64, .f32⟩
  | 17 => ⟨S32x2x4x64x64, .f32⟩
  | 18 => ⟨S2x32x64x4x64, .f32⟩
  | 19 => ⟨S32x2x4x64x64, .f32⟩
  | 20 => ⟨S2x32x64x4x64, .f32⟩
  | 21 => ⟨S32x2x4x64x64, .f32⟩
  | 22 => ⟨S2x32x64x4x64, .f32⟩
  | 23 => ⟨S32x2x4x64x64, .f32⟩
  | 24 => ⟨S_, .f32⟩
  | 25 => ⟨S2x4x64x64, .f32⟩
  | 26 => ⟨S2x32x64x4x64, .f32⟩
  | 27 => ⟨S32x2x4x64x64, .f32⟩
  | 28 => ⟨S2x32x64x4x64, .f32⟩
  | 29 => ⟨S32x2x4x64x64, .f32⟩
  | 30 => ⟨S_, .f32⟩
  | 31 => ⟨S32x2x4x64x64, .f32⟩
  | 32 => ⟨S_, .f32⟩
  | 33 => ⟨S32x2x4x64x64, .f32⟩
  | 34 => ⟨S_, .f32⟩
  | 35 => ⟨S32x2x4x64x64, .f32⟩
  | 36 => ⟨S_, .f32⟩
  | 37 => ⟨S32x2x4x64x64, .f32⟩
  | 38 => ⟨S_, .f32⟩
  | 39 => ⟨S32x2x4x64x64, .f32⟩
  | 40 => ⟨S_, .f32⟩
  | 41 => ⟨S32x2x4x64x64, .f32⟩
  | 42 => ⟨S_, .f32⟩
  | 43 => ⟨S32x2x4x64x64, .f32⟩
  | 44 => ⟨S_, .f32⟩
  | 45 => ⟨S32x1x64, .f32⟩
  | 46 => ⟨S_, .i32⟩
  | 47 => ⟨S32x2x4x64x64, .f32⟩
  | 48 => ⟨S32x2x4x64x64, .f32⟩
  | 49 => ⟨S32x2x4x64x64, .f32⟩
  | 50 => ⟨S32x2x4x64x64, .f32⟩
  | 51 => ⟨S32x2x4x64x64, .f32⟩
  | 52 => ⟨S32x2x4x64x64, .f32⟩
  | 53 => ⟨S32x2x4x64x64, .f32⟩
  | 54 => ⟨S32x2x4x64x64, .f32⟩
  | 55 => ⟨S32x2x4x64x64, .f32⟩
  | 56 => ⟨S1x64, .f32⟩
  | 57 => ⟨S_, .i32⟩
  | 58 => ⟨S2x4x64x64, .f32⟩
  | 59 => ⟨S32x2x4x64x64, .f32⟩
  | 60 => ⟨S32x2x4x64x64, .f32⟩
  | 61 => ⟨S32x2x4x64x64, .f32⟩
  | 62 => ⟨S32x2x4x64x64, .f32⟩
  | 63 => ⟨S32x2x4x64x64, .f32⟩
  | 64 => ⟨S32x2x4x64x64, .f32⟩
  | 65 => ⟨S32x2x4x64x64, .f32⟩
  | 66 => ⟨S32x1x64, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S1x2x4x64x64, .f32⟩
  | 78 => ⟨S2x4x64x64, .f32⟩
  | 79 => ⟨S_, .i32⟩
  | 80 => ⟨S_, .i32⟩
  | 81 => ⟨S_, .i32⟩
  | 82 => ⟨S_, .i32⟩
  | 83 => ⟨S1x2x4x64x64, .f32⟩
  | 84 => ⟨S2x4x64x64, .f32⟩
  | 85 => ⟨S_, .i32⟩
  | 86 => ⟨S_, .i32⟩
  | 87 => ⟨S_, .i32⟩
  | 88 => ⟨S_, .i32⟩
  | 89 => ⟨S1x2x4x64x64, .f32⟩
  | 90 => ⟨S2x4x64x64, .f32⟩
  | 91 => ⟨S_, .i32⟩
  | 92 => ⟨S_, .i32⟩
  | 93 => ⟨S_, .i32⟩
  | 94 => ⟨S_, .i32⟩
  | 95 => ⟨S1x2x4x64x64, .f32⟩
  | 96 => ⟨S2x4x64x64, .f32⟩
  | 97 => ⟨S_, .i32⟩
  | 98 => ⟨S_, .i32⟩
  | 99 => ⟨S_, .i32⟩
  | 100 => ⟨S_, .i32⟩
  | 101 => ⟨S1x2x4x64x64, .f32⟩
  | 102 => ⟨S2x4x64x64, .f32⟩
  | 103 => ⟨S_, .i32⟩
  | 104 => ⟨S_, .i32⟩
  | 105 => ⟨S_, .i32⟩
  | 106 => ⟨S_, .i32⟩
  | 107 => ⟨S1x2x4x64x64, .f32⟩
  | 108 => ⟨S2x4x64x64, .f32⟩
  | 109 => ⟨S_, .i32⟩
  | 110 => ⟨S_, .i32⟩
  | 111 => ⟨S_, .i32⟩
  | 112 => ⟨S_, .i32⟩
  | 113 => ⟨S1x2x4x64x64, .f32⟩
  | 114 => ⟨S2x4x64x64, .f32⟩
  | 115 => ⟨S_, .i32⟩
  | 116 => ⟨S_, .i32⟩
  | 117 => ⟨S_, .i32⟩
  | 118 => ⟨S_, .i32⟩
  | 119 => ⟨S1x2x4x64x64, .f32⟩
  | 120 => ⟨S2x4x64x64, .f32⟩
  | 121 => ⟨S_, .i32⟩
  | 122 => ⟨S_, .i32⟩
  | 123 => ⟨S_, .i32⟩
  | 124 => ⟨S_, .i32⟩
  | 125 => ⟨S1x2x4x64x64, .f32⟩
  | 126 => ⟨S2x4x64x64, .f32⟩
  | 127 => ⟨S2x4x64x64, .f32⟩
  | _ => ⟨S2x2048x256, .f32⟩

abbrev hbmTy0_1 (i : Nat) : BufTy := match i % 128 with
  | 0 => ⟨S2x4x64x64, .f32⟩
  | 1 => ⟨S2x4x64x64, .f32⟩
  | 2 => ⟨S2x4x64x64, .f32⟩
  | 3 => ⟨S2x4x64x64, .f32⟩
  | 4 => ⟨S2x4x1x64, .f32⟩
  | 5 => ⟨S2x4x64x64, .f32⟩
  | 6 => ⟨S2x4x64x64, .f32⟩
  | 7 => ⟨S2x4x64x64, .f32⟩
  | 8 => ⟨S2x4x64x64, .f32⟩
  | 9 => ⟨S2x4x64x64, .f32⟩
  | 10 => ⟨S_, .f32⟩
  | 11 => ⟨S2x4x64, .f32⟩
  | 12 => ⟨S2x4x64x1, .f32⟩
  | 13 => ⟨S_, .f32⟩
  | 14 => ⟨S2x4x64x1, .f32⟩
  | 15 => ⟨S2x4x64x1, .f32⟩
  | 16 => ⟨S_, .f32⟩
  | 17 => ⟨S2x4x64x1, .f32⟩
  | 18 => ⟨S2x4x64x1, .f32⟩
  | 19 => ⟨S2x4x64x1, .f32⟩
  | 20 => ⟨S2x4x64x1, .f32⟩
  | 21 => ⟨S_, .f32⟩
  | 22 => ⟨S2x4x64x1, .f32⟩
  | 23 => ⟨S2x4x64x1, .f32⟩
  | 24 => ⟨S2x4x64x64, .f32⟩
  | 25 => ⟨S2x4x64x64, .f32⟩
  | 26 => ⟨S64, .f32⟩
  | 27 => ⟨S1x1x1x64, .f32⟩
  | 28 => ⟨S2x4x64x64, .f32⟩
  | 29 => ⟨S2x4x64x64, .f32⟩
  | 30 => ⟨S2x4x64x64, .f32⟩
  | 31 => ⟨S2x4x64x64, .f32⟩
  | 32 => ⟨S_, .f32⟩
  | 33 => ⟨S2x4x64x64, .f32⟩
  | 34 => ⟨S2x4x64x64, .f32⟩
  | 35 => ⟨S_, .f32⟩
  | 36 => ⟨S2x4x64x64, .f32⟩
  | 37 => ⟨S2x4x64x64, .f32⟩
  | 38 => ⟨S_, .f32⟩
  | 39 => ⟨S2x4x64x64, .f32⟩
  | 40 => ⟨S2x4x64x64, .f32⟩
  | 41 => ⟨S2x4x64x64, .f32⟩
  | 42 => ⟨S2x4x64x64, .f32⟩
  | 43 => ⟨S2x4x64x64, .f32⟩
  | 44 => ⟨S2x4x64x64, .f32⟩
  | 45 => ⟨S2x4x64x64, .f32⟩
  | 46 => ⟨S2x4x64x64, .f32⟩
  | 47 => ⟨S2x4x64x64, .f32⟩
  | 48 => ⟨S2x4x64x64, .f32⟩
  | 49 => ⟨S2x4x64x64, .f32⟩
  | 50 => ⟨S2x4x64x64, .f32⟩
  | 51 => ⟨S_, .f32⟩
  | 52 => ⟨S64, .f32⟩
  | 53 => ⟨S1x1x1x64, .f32⟩
  | 54 => ⟨S2x4x64x64, .f32⟩
  | 55 => ⟨S2x4x64x64, .f32⟩
  | 56 => ⟨S_, .f32⟩
  | 57 => ⟨S64, .f32⟩
  | 58 => ⟨S1x64, .f32⟩
  | 59 => ⟨S2x4x64x64, .f32⟩
  | 60 => ⟨S_, .f32⟩
  | 61 => ⟨S2x4x64, .f32⟩
  | 62 => ⟨S2x4x64x1, .f32⟩
  | 63 => ⟨S2x4x64x64, .f32⟩
  | 64 => ⟨S2x4x64x64, .f32⟩
  | 65 => ⟨S2x4x64x1, .f32⟩
  | 66 => ⟨S_, .f32⟩
  | 67 => ⟨S2x4x64x1, .f32⟩
  | 68 => ⟨S2x4x64x1, .f32⟩
  | 69 => ⟨S_, .f32⟩
  | 70 => ⟨S2x4x64, .f32⟩
  | 71 => ⟨S2x4x64x64, .f32⟩
  | 72 => ⟨S2x4x64x64, .f32⟩
  | 73 => ⟨S2x4x64x64, .f32⟩
  | 74 => ⟨S2x4x64x64, .f32⟩
  | 75 => ⟨S2x4x64x64, .f32⟩
  | 76 => ⟨S2x4x64x64, .f32⟩
  | 77 => ⟨S2x4x64x64, .f32⟩
  | 78 => ⟨S2x4x64x64, .f32⟩
  | 79 => ⟨S2x4x64x64, .f32⟩
  | 80 => ⟨S2x4x64x64, .f32⟩
  | 81 => ⟨S_, .f32⟩
  | 82 => ⟨S2x4x64, .f32⟩
  | 83 => ⟨S2x4x1x64, .f32⟩
  | 84 => ⟨S2x4x64x64, .f32⟩
  | 85 => ⟨S2x4x64x64, .f32⟩
  | 86 => ⟨S_, .f32⟩
  | 87 => ⟨S2x4x64x64, .f32⟩
  | 88 => ⟨S2x4x64x64, .f32⟩
  | 89 => ⟨S2x4x64x64, .f32⟩
  | 90 => ⟨S2x4x64x64, .f32⟩
  | 91 => ⟨S2x4x64x64, .f32⟩
  | 92 => ⟨S2x4x64x64, .f32⟩
  | 93 => ⟨S2x4x64x64, .f32⟩
  | 94 => ⟨S2x4x64x64, .f32⟩
  | 95 => ⟨S2x4x64x64, .f32⟩
  | 96 => ⟨S2x4x64x64, .f32⟩
  | 97 => ⟨S2x4x64x64, .f32⟩
  | 98 => ⟨S2x4x64x64, .f32⟩
  | 99 => ⟨S2x4x64x64, .f32⟩
  | 100 => ⟨S2x4x64x64, .f32⟩
  | 101 => ⟨S1x2x4x64x64, .f32⟩
  | 102 => ⟨S_, .i32⟩
  | 103 => ⟨S_, .i32⟩
  | 104 => ⟨S_, .i32⟩
  | 105 => ⟨S_, .i32⟩
  | 106 => ⟨S32x2x4x64x64, .f32⟩
  | 107 => ⟨S1x2x4x64x64, .f32⟩
  | 108 => ⟨S_, .i32⟩
  | 109 => ⟨S_, .i32⟩
  | 110 => ⟨S_, .i32⟩
  | 111 => ⟨S_, .i32⟩
  | 112 => ⟨S32x2x4x64x64, .f32⟩
  | 113 => ⟨S1x2x4x64x64, .f32⟩
  | 114 => ⟨S_, .i32⟩
  | 115 => ⟨S_, .i32⟩
  | 116 => ⟨S_, .i32⟩
  | 117 => ⟨S_, .i32⟩
  | 118 => ⟨S32x2x4x64x64, .f32⟩
  | 119 => ⟨S1x2x4x64x64, .f32⟩
  | 120 => ⟨S_, .i32⟩
  | 121 => ⟨S_, .i32⟩
  | 122 => ⟨S_, .i32⟩
  | 123 => ⟨S_, .i32⟩
  | 124 => ⟨S32x2x4x64x64, .f32⟩
  | 125 => ⟨S1x2x4x64x64, .f32⟩
  | 126 => ⟨S_, .i32⟩
  | 127 => ⟨S_, .i32⟩
  | _ => ⟨S2x2048x256, .f32⟩

abbrev hbmTy0_2 (i : Nat) : BufTy := match i % 128 with
  | 0 => ⟨S_, .i32⟩
  | 1 => ⟨S_, .i32⟩
  | 2 => ⟨S32x2x4x64x64, .f32⟩
  | 3 => ⟨S1x2x4x64x64, .f32⟩
  | 4 => ⟨S_, .i32⟩
  | 5 => ⟨S_, .i32⟩
  | 6 => ⟨S_, .i32⟩
  | 7 => ⟨S_, .i32⟩
  | 8 => ⟨S32x2x4x64x64, .f32⟩
  | 9 => ⟨S1x2x4x64x64, .f32⟩
  | 10 => ⟨S_, .i32⟩
  | 11 => ⟨S_, .i32⟩
  | 12 => ⟨S_, .i32⟩
  | 13 => ⟨S_, .i32⟩
  | 14 => ⟨S32x2x4x64x64, .f32⟩
  | 15 => ⟨S1x1x64, .f32⟩
  | 16 => ⟨S_, .i32⟩
  | 17 => ⟨S_, .i32⟩
  | 18 => ⟨S32x1x64, .f32⟩
  | 19 => ⟨S_, .i32⟩
  | 20 => ⟨S_, .i32⟩
  | 21 => ⟨S2x32x64x4x64, .f32⟩
  | 22 => ⟨S2x2048x256, .f32⟩
  | 23 => ⟨S2x32x64x4x64, .f32⟩
  | 24 => ⟨S2x2048x256, .f32⟩
  | 25 => ⟨S2x32x64x4x64, .f32⟩
  | 26 => ⟨S2x2048x256, .f32⟩
  | 27 => ⟨S2x32x64x4x64, .f32⟩
  | 28 => ⟨S2x2048x256, .f32⟩
  | 29 => ⟨S2x32x64x4x64, .f32⟩
  | 30 => ⟨S2x2048x256, .f32⟩
  | 31 => ⟨S2x32x64x4x64, .f32⟩
  | 32 => ⟨S2x2048x256, .f32⟩
  | 33 => ⟨S2x32x64x4x64, .f32⟩
  | 34 => ⟨S2x2048x256, .f32⟩
  | 35 => ⟨S_, .f32⟩
  | 36 => ⟨S1x64, .f32⟩
  | _ => ⟨S2x2048x256, .f32⟩

abbrev hbmTy (i : Nat) : BufTy := match i / 128 with
  | 0 => hbmTy0_0 i
  | 1 => hbmTy0_1 i
  | 2 => hbmTy0_2 i
  | _ => ⟨S2x2048x256, .f32⟩

abbrev bufTy : (tb : Table) → Fin (tcTables nBuf tb) → BufTy
  | .hbm, ⟨i, _⟩ => hbmTy i
  | _, _ => ⟨S2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_c : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev main_v27_4 : Ref sig .tc := ⟨.hbm, 51, rfl⟩
abbrev main_v27_5 : Ref sig .tc := ⟨.hbm, 52, rfl⟩
abbrev main_v27_6 : Ref sig .tc := ⟨.hbm, 53, rfl⟩
abbrev main_v27_7 : Ref sig .tc := ⟨.hbm, 54, rfl⟩
abbrev main_v27_8 : Ref sig .tc := ⟨.hbm, 55, rfl⟩
abbrev main_v27_9 : Ref sig .tc := ⟨.hbm, 56, rfl⟩
abbrev main_v27_10 : Ref sig .tc := ⟨.hbm, 57, rfl⟩
abbrev main_v27_11 : Ref sig .tc := ⟨.hbm, 58, rfl⟩
abbrev main_v27_12 : Ref sig .tc := ⟨.hbm, 59, rfl⟩
abbrev main_v27_13 : Ref sig .tc := ⟨.hbm, 60, rfl⟩
abbrev main_v27_14 : Ref sig .tc := ⟨.hbm, 61, rfl⟩
abbrev main_v27_15 : Ref sig .tc := ⟨.hbm, 62, rfl⟩
abbrev main_v27_16 : Ref sig .tc := ⟨.hbm, 63, rfl⟩
abbrev main_v27_17 : Ref sig .tc := ⟨.hbm, 64, rfl⟩
abbrev main_v27_18 : Ref sig .tc := ⟨.hbm, 65, rfl⟩
abbrev main_v27_19 : Ref sig .tc := ⟨.hbm, 66, rfl⟩
abbrev main_while0c_c_28 : Ref sig .tc := ⟨.hbm, 67, rfl⟩
abbrev main_while0c_v43 : Ref sig .tc := ⟨.hbm, 68, rfl⟩
abbrev main_while0b_c_28 : Ref sig .tc := ⟨.hbm, 69, rfl⟩
abbrev main_while0b_v43 : Ref sig .tc := ⟨.hbm, 70, rfl⟩
abbrev main_while0b_c_29 : Ref sig .tc := ⟨.hbm, 71, rfl⟩
abbrev main_while0b_v44 : Ref sig .tc := ⟨.hbm, 72, rfl⟩
abbrev main_while0b_call0_c : Ref sig .tc := ⟨.hbm, 73, rfl⟩
abbrev main_while0b_call0_c_0 : Ref sig .tc := ⟨.hbm, 74, rfl⟩
abbrev main_while0b_call0_c_1 : Ref sig .tc := ⟨.hbm, 75, rfl⟩
abbrev main_while0b_call0_c_2 : Ref sig .tc := ⟨.hbm, 76, rfl⟩
abbrev main_while0b_call0_v0 : Ref sig .tc := ⟨.hbm, 77, rfl⟩
abbrev main_while0b_v45 : Ref sig .tc := ⟨.hbm, 78, rfl⟩
abbrev main_while0b_call1_c : Ref sig .tc := ⟨.hbm, 79, rfl⟩
abbrev main_while0b_call1_c_0 : Ref sig .tc := ⟨.hbm, 80, rfl⟩
abbrev main_while0b_call1_c_1 : Ref sig .tc := ⟨.hbm, 81, rfl⟩
abbrev main_while0b_call1_c_2 : Ref sig .tc := ⟨.hbm, 82, rfl⟩
abbrev main_while0b_call1_v0 : Ref sig .tc := ⟨.hbm, 83, rfl⟩
abbrev main_while0b_v46 : Ref sig .tc := ⟨.hbm, 84, rfl⟩
abbrev main_while0b_call2_c : Ref sig .tc := ⟨.hbm, 85, rfl⟩
abbrev main_while0b_call2_c_0 : Ref sig .tc := ⟨.hbm, 86, rfl⟩
abbrev main_while0b_call2_c_1 : Ref sig .tc := ⟨.hbm, 87, rfl⟩
abbrev main_while0b_call2_c_2 : Ref sig .tc := ⟨.hbm, 88, rfl⟩
abbrev main_while0b_call2_v0 : Ref sig .tc := ⟨.hbm, 89, rfl⟩
abbrev main_while0b_v47 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_call3_c_1 : Ref sig .tc := ⟨.hbm, 93, rfl⟩
abbrev main_while0b_call3_c_2 : Ref sig .tc := ⟨.hbm, 94, rfl⟩
abbrev main_while0b_call3_v0 : Ref sig .tc := ⟨.hbm, 95, rfl⟩
abbrev main_while0b_v48 : Ref sig .tc := ⟨.hbm, 96, rfl⟩
abbrev main_while0b_call4_c : Ref sig .tc := ⟨.hbm, 97, rfl⟩
abbrev main_while0b_call4_c_0 : Ref sig .tc := ⟨.hbm, 98, rfl⟩
abbrev main_while0b_call4_c_1 : Ref sig .tc := ⟨.hbm, 99, rfl⟩
abbrev main_while0b_call4_c_2 : Ref sig .tc := ⟨.hbm, 100, rfl⟩
abbrev main_while0b_call4_v0 : Ref sig .tc := ⟨.hbm, 101, rfl⟩
abbrev main_while0b_v49 : Ref sig .tc := ⟨.hbm, 102, rfl⟩
abbrev main_while0b_call5_c : Ref sig .tc := ⟨.hbm, 103, rfl⟩
abbrev main_while0b_call5_c_0 : Ref sig .tc := ⟨.hbm, 104, rfl⟩
abbrev main_while0b_call5_c_1 : Ref sig .tc := ⟨.hbm, 105, rfl⟩
abbrev main_while0b_call5_c_2 : Ref sig .tc := ⟨.hbm, 106, rfl⟩
abbrev main_while0b_call5_v0 : Ref sig .tc := ⟨.hbm, 107, rfl⟩
abbrev main_while0b_v50 : Ref sig .tc := ⟨.hbm, 108, rfl⟩
abbrev main_while0b_call6_c : Ref sig .tc := ⟨.hbm, 109, rfl⟩
abbrev main_while0b_call6_c_0 : Ref sig .tc := ⟨.hbm, 110, rfl⟩
abbrev main_while0b_call6_c_1 : Ref sig .tc := ⟨.hbm, 111, rfl⟩
abbrev main_while0b_call6_c_2 : Ref sig .tc := ⟨.hbm, 112, rfl⟩
abbrev main_while0b_call6_v0 : Ref sig .tc := ⟨.hbm, 113, rfl⟩
abbrev main_while0b_v51 : Ref sig .tc := ⟨.hbm, 114, rfl⟩
abbrev main_while0b_call7_c : Ref sig .tc := ⟨.hbm, 115, rfl⟩
abbrev main_while0b_call7_c_0 : Ref sig .tc := ⟨.hbm, 116, rfl⟩
abbrev main_while0b_call7_c_1 : Ref sig .tc := ⟨.hbm, 117, rfl⟩
abbrev main_while0b_call7_c_2 : Ref sig .tc := ⟨.hbm, 118, rfl⟩
abbrev main_while0b_call7_v0 : Ref sig .tc := ⟨.hbm, 119, rfl⟩
abbrev main_while0b_v52 : Ref sig .tc := ⟨.hbm, 120, rfl⟩
abbrev main_while0b_call8_c : Ref sig .tc := ⟨.hbm, 121, rfl⟩
abbrev main_while0b_call8_c_0 : Ref sig .tc := ⟨.hbm, 122, rfl⟩
abbrev main_while0b_call8_c_1 : Ref sig .tc := ⟨.hbm, 123, rfl⟩
abbrev main_while0b_call8_c_2 : Ref sig .tc := ⟨.hbm, 124, rfl⟩
abbrev main_while0b_call8_v0 : Ref sig .tc := ⟨.hbm, 125, rfl⟩
abbrev main_while0b_v53 : Ref sig .tc := ⟨.hbm, 126, rfl⟩
abbrev main_while0b_v54 : Ref sig .tc := ⟨.hbm, 127, rfl⟩
abbrev main_while0b_v55 : Ref sig .tc := ⟨.hbm, 128, rfl⟩
abbrev main_while0b_v56 : Ref sig .tc := ⟨.hbm, 129, rfl⟩
abbrev main_while0b_v57 : Ref sig .tc := ⟨.hbm, 130, rfl⟩
abbrev main_while0b_v58 : Ref sig .tc := ⟨.hbm, 131, rfl⟩
abbrev main_while0b_v59 : Ref sig .tc := ⟨.hbm, 132, rfl⟩
abbrev main_while0b_v60 : Ref sig .tc := ⟨.hbm, 133, rfl⟩
abbrev main_while0b_v61 : Ref sig .tc := ⟨.hbm, 134, rfl⟩
abbrev main_while0b_v62 : Ref sig .tc := ⟨.hbm, 135, rfl⟩
abbrev main_while0b_v63 : Ref sig .tc := ⟨.hbm, 136, rfl⟩
abbrev main_while0b_v64 : Ref sig .tc := ⟨.hbm, 137, rfl⟩
abbrev main_while0b_cst_30 : Ref sig .tc := ⟨.hbm, 138, rfl⟩
abbrev main_while0b_v65 : Ref sig .tc := ⟨.hbm, 139, rfl⟩
abbrev main_while0b_v66 : Ref sig .tc := ⟨.hbm, 140, rfl⟩
abbrev main_while0b_cst_31 : Ref sig .tc := ⟨.hbm, 141, rfl⟩
abbrev main_while0b_v67 : Ref sig .tc := ⟨.hbm, 142, rfl⟩
abbrev main_while0b_v68 : Ref sig .tc := ⟨.hbm, 143, rfl⟩
abbrev main_while0b_cst_32 : Ref sig .tc := ⟨.hbm, 144, rfl⟩
abbrev main_while0b_v69 : Ref sig .tc := ⟨.hbm, 145, rfl⟩
abbrev main_while0b_v70 : Ref sig .tc := ⟨.hbm, 146, rfl⟩
abbrev main_while0b_v71 : Ref sig .tc := ⟨.hbm, 147, rfl⟩
abbrev main_while0b_v72 : Ref sig .tc := ⟨.hbm, 148, rfl⟩
abbrev main_while0b_cst_33 : Ref sig .tc := ⟨.hbm, 149, rfl⟩
abbrev main_while0b_v73 : Ref sig .tc := ⟨.hbm, 150, rfl⟩
abbrev main_while0b_v74 : Ref sig .tc := ⟨.hbm, 151, rfl⟩
abbrev main_while0b_v75 : Ref sig .tc := ⟨.hbm, 152, rfl⟩
abbrev main_while0b_v76 : Ref sig .tc := ⟨.hbm, 153, rfl⟩
abbrev main_while0b_v77 : Ref sig .tc := ⟨.hbm, 154, rfl⟩
abbrev main_while0b_v78 : Ref sig .tc := ⟨.hbm, 155, rfl⟩
abbrev main_while0b_v79 : Ref sig .tc := ⟨.hbm, 156, rfl⟩
abbrev main_while0b_v80 : Ref sig .tc := ⟨.hbm, 157, rfl⟩
abbrev main_while0b_call9_v0 : Ref sig .tc := ⟨.hbm, 158, rfl⟩
abbrev main_while0b_call9_v1 : Ref sig .tc := ⟨.hbm, 159, rfl⟩
abbrev main_while0b_call9_cst : Ref sig .tc := ⟨.hbm, 160, rfl⟩
abbrev main_while0b_call9_v2 : Ref sig .tc := ⟨.hbm, 161, rfl⟩
abbrev main_while0b_call9_v3 : Ref sig .tc := ⟨.hbm, 162, rfl⟩
abbrev main_while0b_call9_cst_0 : Ref sig .tc := ⟨.hbm, 163, rfl⟩
abbrev main_while0b_call9_v4 : Ref sig .tc := ⟨.hbm, 164, rfl⟩
abbrev main_while0b_v81_2 : Ref sig .tc := ⟨.hbm, 165, rfl⟩
abbrev main_while0b_call9_cst_1 : Ref sig .tc := ⟨.hbm, 166, rfl⟩
abbrev main_while0b_call9_v6 : Ref sig .tc := ⟨.hbm, 167, rfl⟩
abbrev main_while0b_call9_v7 : Ref sig .tc := ⟨.hbm, 168, rfl⟩
abbrev main_while0b_v81_1 : Ref sig .tc := ⟨.hbm, 169, rfl⟩
abbrev main_while0b_v81_0 : Ref sig .tc := ⟨.hbm, 170, rfl⟩
abbrev main_while0b_v82 : Ref sig .tc := ⟨.hbm, 171, rfl⟩
abbrev main_while0b_v83 : Ref sig .tc := ⟨.hbm, 172, rfl⟩
abbrev main_while0b_v84 : Ref sig .tc := ⟨.hbm, 173, rfl⟩
abbrev main_while0b_call10_v0 : Ref sig .tc := ⟨.hbm, 174, rfl⟩
abbrev main_while0b_call10_v1 : Ref sig .tc := ⟨.hbm, 175, rfl⟩
abbrev main_while0b_call10_v2 : Ref sig .tc := ⟨.hbm, 176, rfl⟩
abbrev main_while0b_v85 : Ref sig .tc := ⟨.hbm, 177, rfl⟩
abbrev main_while0b_v86 : Ref sig .tc := ⟨.hbm, 178, rfl⟩
abbrev main_while0b_cst_34 : Ref sig .tc := ⟨.hbm, 179, rfl⟩
abbrev main_while0b_v87 : Ref sig .tc := ⟨.hbm, 180, rfl⟩
abbrev main_while0b_v88 : Ref sig .tc := ⟨.hbm, 181, rfl⟩
abbrev main_while0b_v89 : Ref sig .tc := ⟨.hbm, 182, rfl⟩
abbrev main_while0b_v90 : Ref sig .tc := ⟨.hbm, 183, rfl⟩
abbrev main_while0b_cst_35 : Ref sig .tc := ⟨.hbm, 184, rfl⟩
abbrev main_while0b_v91 : Ref sig .tc := ⟨.hbm, 185, rfl⟩
abbrev main_while0b_v92 : Ref sig .tc := ⟨.hbm, 186, rfl⟩
abbrev main_while0b_v93 : Ref sig .tc := ⟨.hbm, 187, rfl⟩
abbrev main_while0b_cst_36 : Ref sig .tc := ⟨.hbm, 188, rfl⟩
abbrev main_while0b_v94 : Ref sig .tc := ⟨.hbm, 189, rfl⟩
abbrev main_while0b_v95 : Ref sig .tc := ⟨.hbm, 190, rfl⟩
abbrev main_while0b_v96 : Ref sig .tc := ⟨.hbm, 191, rfl⟩
abbrev main_while0b_v97 : Ref sig .tc := ⟨.hbm, 192, rfl⟩
abbrev main_while0b_v98 : Ref sig .tc := ⟨.hbm, 193, rfl⟩
abbrev main_while0b_cst_37 : Ref sig .tc := ⟨.hbm, 194, rfl⟩
abbrev main_while0b_v99 : Ref sig .tc := ⟨.hbm, 195, rfl⟩
abbrev main_while0b_v100 : Ref sig .tc := ⟨.hbm, 196, rfl⟩
abbrev main_while0b_cst_38 : Ref sig .tc := ⟨.hbm, 197, rfl⟩
abbrev main_while0b_v101 : Ref sig .tc := ⟨.hbm, 198, rfl⟩
abbrev main_while0b_v102 : Ref sig .tc := ⟨.hbm, 199, rfl⟩
abbrev main_while0b_v103 : Ref sig .tc := ⟨.hbm, 200, rfl⟩
abbrev main_while0b_v104 : Ref sig .tc := ⟨.hbm, 201, rfl⟩
abbrev main_while0b_v105 : Ref sig .tc := ⟨.hbm, 202, rfl⟩
abbrev main_while0b_v106 : Ref sig .tc := ⟨.hbm, 203, rfl⟩
abbrev main_while0b_v107 : Ref sig .tc := ⟨.hbm, 204, rfl⟩
abbrev main_while0b_v108 : Ref sig .tc := ⟨.hbm, 205, rfl⟩
abbrev main_while0b_v109 : Ref sig .tc := ⟨.hbm, 206, rfl⟩
abbrev main_while0b_v110 : Ref sig .tc := ⟨.hbm, 207, rfl⟩
abbrev main_while0b_v111 : Ref sig .tc := ⟨.hbm, 208, rfl⟩
abbrev main_while0b_cst_39 : Ref sig .tc := ⟨.hbm, 209, rfl⟩
abbrev main_while0b_v112 : Ref sig .tc := ⟨.hbm, 210, rfl⟩
abbrev main_while0b_v113 : Ref sig .tc := ⟨.hbm, 211, rfl⟩
abbrev main_while0b_v114 : Ref sig .tc := ⟨.hbm, 212, rfl⟩
abbrev main_while0b_v115 : Ref sig .tc := ⟨.hbm, 213, rfl⟩
abbrev main_while0b_cst_40 : Ref sig .tc := ⟨.hbm, 214, rfl⟩
abbrev main_while0b_v116 : Ref sig .tc := ⟨.hbm, 215, rfl⟩
abbrev main_while0b_v117 : Ref sig .tc := ⟨.hbm, 216, rfl⟩
abbrev main_while0b_v118 : Ref sig .tc := ⟨.hbm, 217, rfl⟩
abbrev main_while0b_v119 : Ref sig .tc := ⟨.hbm, 218, rfl⟩
abbrev main_while0b_v120 : Ref sig .tc := ⟨.hbm, 219, rfl⟩
abbrev main_while0b_v121 : Ref sig .tc := ⟨.hbm, 220, rfl⟩
abbrev main_while0b_v122 : Ref sig .tc := ⟨.hbm, 221, rfl⟩
abbrev main_while0b_v123 : Ref sig .tc := ⟨.hbm, 222, rfl⟩
abbrev main_while0b_v124 : Ref sig .tc := ⟨.hbm, 223, rfl⟩
abbrev main_while0b_v125 : Ref sig .tc := ⟨.hbm, 224, rfl⟩
abbrev main_while0b_v126 : Ref sig .tc := ⟨.hbm, 225, rfl⟩
abbrev main_while0b_v127 : Ref sig .tc := ⟨.hbm, 226, rfl⟩
abbrev main_while0b_v128 : Ref sig .tc := ⟨.hbm, 227, rfl⟩
abbrev main_while0b_v129 : Ref sig .tc := ⟨.hbm, 228, rfl⟩
abbrev main_while0b_call11_v0 : Ref sig .tc := ⟨.hbm, 229, rfl⟩
abbrev main_while0b_call11_c : Ref sig .tc := ⟨.hbm, 230, rfl⟩
abbrev main_while0b_call11_c_0 : Ref sig .tc := ⟨.hbm, 231, rfl⟩
abbrev main_while0b_call11_c_1 : Ref sig .tc := ⟨.hbm, 232, rfl⟩
abbrev main_while0b_call11_c_2 : Ref sig .tc := ⟨.hbm, 233, rfl⟩
abbrev main_while0b_v130 : Ref sig .tc := ⟨.hbm, 234, rfl⟩
abbrev main_while0b_call12_v0 : Ref sig .tc := ⟨.hbm, 235, rfl⟩
abbrev main_while0b_call12_c : Ref sig .tc := ⟨.hbm, 236, rfl⟩
abbrev main_while0b_call12_c_0 : Ref sig .tc := ⟨.hbm, 237, rfl⟩
abbrev main_while0b_call12_c_1 : Ref sig .tc := ⟨.hbm, 238, rfl⟩
abbrev main_while0b_call12_c_2 : Ref sig .tc := ⟨.hbm, 239, rfl⟩
abbrev main_while0b_v131 : Ref sig .tc := ⟨.hbm, 240, rfl⟩
abbrev main_while0b_call13_v0 : Ref sig .tc := ⟨.hbm, 241, rfl⟩
abbrev main_while0b_call13_c : Ref sig .tc := ⟨.hbm, 242, rfl⟩
abbrev main_while0b_call13_c_0 : Ref sig .tc := ⟨.hbm, 243, rfl⟩
abbrev main_while0b_call13_c_1 : Ref sig .tc := ⟨.hbm, 244, rfl⟩
abbrev main_while0b_call13_c_2 : Ref sig .tc := ⟨.hbm, 245, rfl⟩
abbrev main_while0b_v132 : Ref sig .tc := ⟨.hbm, 246, rfl⟩
abbrev main_while0b_call14_v0 : Ref sig .tc := ⟨.hbm, 247, rfl⟩
abbrev main_while0b_call14_c : Ref sig .tc := ⟨.hbm, 248, rfl⟩
abbrev main_while0b_call14_c_0 : Ref sig .tc := ⟨.hbm, 249, rfl⟩
abbrev main_while0b_call14_c_1 : Ref sig .tc := ⟨.hbm, 250, rfl⟩
abbrev main_while0b_call14_c_2 : Ref sig .tc := ⟨.hbm, 251, rfl⟩
abbrev main_while0b_v133 : Ref sig .tc := ⟨.hbm, 252, rfl⟩
abbrev main_while0b_call15_v0 : Ref sig .tc := ⟨.hbm, 253, rfl⟩
abbrev main_while0b_call15_c : Ref sig .tc := ⟨.hbm, 254, rfl⟩
abbrev main_while0b_call15_c_0 : Ref sig .tc := ⟨.hbm, 255, rfl⟩
abbrev main_while0b_call15_c_1 : Ref sig .tc := ⟨.hbm, 256, rfl⟩
abbrev main_while0b_call15_c_2 : Ref sig .tc := ⟨.hbm, 257, rfl⟩
abbrev main_while0b_v134 : Ref sig .tc := ⟨.hbm, 258, rfl⟩
abbrev main_while0b_call16_v0 : Ref sig .tc := ⟨.hbm, 259, rfl⟩
abbrev main_while0b_call16_c : Ref sig .tc := ⟨.hbm, 260, rfl⟩
abbrev main_while0b_call16_c_0 : Ref sig .tc := ⟨.hbm, 261, rfl⟩
abbrev main_while0b_call16_c_1 : Ref sig .tc := ⟨.hbm, 262, rfl⟩
abbrev main_while0b_call16_c_2 : Ref sig .tc := ⟨.hbm, 263, rfl⟩
abbrev main_while0b_v135 : Ref sig .tc := ⟨.hbm, 264, rfl⟩
abbrev main_while0b_call17_v0 : Ref sig .tc := ⟨.hbm, 265, rfl⟩
abbrev main_while0b_call17_c : Ref sig .tc := ⟨.hbm, 266, rfl⟩
abbrev main_while0b_call17_c_0 : Ref sig .tc := ⟨.hbm, 267, rfl⟩
abbrev main_while0b_call17_c_1 : Ref sig .tc := ⟨.hbm, 268, rfl⟩
abbrev main_while0b_call17_c_2 : Ref sig .tc := ⟨.hbm, 269, rfl⟩
abbrev main_while0b_v136 : Ref sig .tc := ⟨.hbm, 270, rfl⟩
abbrev main_while0b_call18_v0 : Ref sig .tc := ⟨.hbm, 271, rfl⟩
abbrev main_while0b_call18_c : Ref sig .tc := ⟨.hbm, 272, rfl⟩
abbrev main_while0b_call18_c_0 : Ref sig .tc := ⟨.hbm, 273, rfl⟩
abbrev main_while0b_v137 : Ref sig .tc := ⟨.hbm, 274, rfl⟩
abbrev main_while0b_c_41 : Ref sig .tc := ⟨.hbm, 275, rfl⟩
abbrev main_while0b_v138 : Ref sig .tc := ⟨.hbm, 276, rfl⟩
abbrev main_v28 : Ref sig .tc := ⟨.hbm, 277, rfl⟩
abbrev main_v29 : Ref sig .tc := ⟨.hbm, 278, rfl⟩
abbrev main_v30 : Ref sig .tc := ⟨.hbm, 279, rfl⟩
abbrev main_v31 : Ref sig .tc := ⟨.hbm, 280, rfl⟩
abbrev main_v32 : Ref sig .tc := ⟨.hbm, 281, rfl⟩
abbrev main_v33 : Ref sig .tc := ⟨.hbm, 282, rfl⟩
abbrev main_v34 : Ref sig .tc := ⟨.hbm, 283, rfl⟩
abbrev main_v35 : Ref sig .tc := ⟨.hbm, 284, rfl⟩
abbrev main_v36 : Ref sig .tc := ⟨.hbm, 285, rfl⟩
abbrev main_v37 : Ref sig .tc := ⟨.hbm, 286, rfl⟩
abbrev main_v38 : Ref sig .tc := ⟨.hbm, 287, rfl⟩
abbrev main_v39 : Ref sig .tc := ⟨.hbm, 288, rfl⟩
abbrev main_v40 : Ref sig .tc := ⟨.hbm, 289, rfl⟩
abbrev main_v41 : Ref sig .tc := ⟨.hbm, 290, rfl⟩
abbrev main_cst_8 : Ref sig .tc := ⟨.hbm, 291, rfl⟩
abbrev main_v42 : Ref sig .tc := ⟨.hbm, 292, rfl⟩

abbrev nD : Nat := 1
abbrev τ : Topo := Topo.v7x

variable {F : FTy → Type} [FloatOps F]

abbrev main_while0_count : Scf.Loop 32 := ⟨0#32, 32#32, 1#32⟩
-- ==== MlpOut.lean ====
abbrev S2x2048x1024 : Shape := ⟨3, ![2, 2048, 1024]⟩
abbrev S2x2048x4096 : Shape := ⟨3, ![2, 2048, 4096]⟩
abbrev S2x1x1024 : Shape := ⟨3, ![2, 1, 1024]⟩
abbrev S4096x1024 : Shape := ⟨2, ![4096, 1024]⟩
abbrev S_ : Shape := ⟨0, ![]⟩
abbrev S1x256x1024 : Shape := ⟨3, ![1, 256, 1024]⟩
abbrev S1x256x4096 : Shape := ⟨3, ![1, 256, 4096]⟩
abbrev S1x1x1024 : Shape := ⟨3, ![1, 1, 1024]⟩
abbrev S256x4096 : Shape := ⟨2, ![256, 4096]⟩
abbrev S256x1024 : Shape := ⟨2, ![256, 1024]⟩
abbrev S1x1024 : Shape := ⟨2, ![1, 1024]⟩
abbrev S1024 : Shape := ⟨1, ![1024]⟩

abbrev nBuf : Space → Nat
  | .hbm => 14
  | .vmem => 17
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S2x1x1024, .f32⟩
  | .hbm, ⟨3, _⟩ => ⟨S4096x1024, .bf16⟩
  | .hbm, ⟨4, _⟩ => ⟨S2x2048x1024, .f32⟩
  | .hbm, ⟨5, _⟩ => ⟨S_, .f32⟩
  | .hbm, ⟨6, _⟩ => ⟨S2x2048x4096, .f32⟩
  | .hbm, ⟨7, _⟩ => ⟨S2x2048x4096, .f32⟩
  | .hbm, ⟨8, _⟩ => ⟨S2x2048x4096, .f32⟩
  | .hbm, ⟨9, _⟩ => ⟨S4096x1024, .f32⟩
  | .hbm, ⟨10, _⟩ => ⟨S2x2048x1024, .f32⟩
  | .hbm, ⟨11, _⟩ => ⟨S2x2048x1024, .f32⟩
  | .hbm, ⟨12, _⟩ => ⟨S2x2048x4096, .bf16⟩
  | .hbm, ⟨13, _⟩ => ⟨S2x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x4096, .f32⟩
  | .local _ .vmem, ⟨3, _⟩ => ⟨S1x256x4096, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S4096x1024, .bf16⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x4096, .bf16⟩
  | .local _ .vmem, ⟨14, _⟩ => ⟨S1x256x4096, .bf16⟩
  | .local _ .vmem, ⟨15, _⟩ => ⟨S1x1x1024, .f32⟩
  | .local _ .vmem, ⟨16, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v33 : BitVec 1 := Scalar.cmpi .eq arg2 c0_i32
  let v34 : BitVec 32 := Scalar.extui v33
  let c0_i32_24 : BitVec 32 := 0#32
  let v35 : BitVec 1 := Scalar.cmpi .ne v34 c0_i32_24
  v35

def k0_cond2 (i : grid0.Coords) : BitVec 1 :=
  let arg2 : BitVec 32 := BitVec.ofNat 32 (i 2).val
  let c0_i32 : BitVec 32 := 0#32
  let v33 : BitVec 1 := Scalar.cmpi .eq arg2 c0_i32
  let v_true : BitVec 1 := 1#1
  let v36 : BitVec 1 := Scalar.xori v33 v_true
  let v37 : BitVec 32 := Scalar.extui v36
  let c0_i32_25 : BitVec 32 := 0#32
  let v38 : BitVec 1 := Scalar.cmpi .ne v37 c0_i32_25
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MlpOutRefIdeal.lean ====
abbrev S2x2048x1024 : Shape := ⟨3, ![2, 2048, 1024]⟩
abbrev S2x2048x4096 : Shape := ⟨3, ![2, 2048, 4096]⟩
abbrev S2x1x1024 : Shape := ⟨3, ![2, 1, 1024]⟩
abbrev S4096x1024 : Shape := ⟨2, ![4096, 1024]⟩
abbrev S_ : Shape := ⟨0, ![]⟩
abbrev S2x1024 : Shape := ⟨2, ![2, 1024]⟩

abbrev nBuf : Space → Nat
  | .hbm => 35
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S2x1x1024, .f32⟩
  | .hbm, ⟨3, _⟩ => ⟨S4096x1024, .bf16⟩
  | .hbm, ⟨4, _⟩ => ⟨S2x2048x1024, .f32⟩
  | .hbm, ⟨5, _⟩ => ⟨S4096x1024, .f32⟩
  | .hbm, ⟨6, _⟩ => ⟨S_, .f32⟩
  | .hbm, ⟨7, _⟩ => ⟨S2x2048x4096, .f32⟩
  | .hbm, ⟨8, _⟩ => ⟨S2x2048x4096, .f32⟩
  | .hbm, ⟨9, _⟩ => ⟨S_, .f32⟩
  | .hbm, ⟨10, _⟩ => ⟨S2x2048x4096, .f32⟩
  | .hbm, ⟨11, _⟩ => ⟨S2x2048x4096, .i1⟩
  | .hbm, ⟨12, _⟩ => ⟨S_, .f32⟩
  | .hbm, ⟨13, _⟩ => ⟨S2x2048x4096, .f32⟩
  | .hbm, ⟨14, _⟩ => ⟨S2x2048x4096, .f32⟩
  | .hbm, ⟨15, _⟩ => ⟨S_, .f32⟩
  | .hbm, ⟨16, _⟩ => ⟨S2x2048x4096, .f32⟩
  | .hbm, ⟨17, _⟩ => ⟨S2x2048x4096, .f32⟩
  | .hbm, ⟨18, _⟩ => ⟨S2x2048x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1024, .f32⟩
  | .hbm, ⟨28, _⟩ => ⟨S2x1x1024, .f32⟩
  | .hbm, ⟨29, _⟩ => ⟨S2x2048x4096, .f32⟩
  | .hbm, ⟨30, _⟩ => ⟨S2x2048x4096, .f32⟩
  | .hbm, ⟨31, _⟩ => ⟨S_, .f32⟩
  | .hbm, ⟨32, _⟩ => ⟨S2x2048x4096, .f32⟩
  | .hbm, ⟨33, _⟩ => ⟨S2x2048x4096, .f32⟩
  | .hbm, ⟨34, _⟩ => ⟨S2x2048x4096, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== MlpOutW.lean ====
abbrev S2x2048x1024 : Shape := ⟨3, ![2, 2048, 1024]⟩
abbrev S2x2048x4096 : Shape := ⟨3, ![2, 2048, 4096]⟩
abbrev S2x1x1024 : Shape := ⟨3, ![2, 1, 1024]⟩
abbrev S4096x1024 : Shape := ⟨2, ![4096, 1024]⟩
abbrev S1x512x1024 : Shape := ⟨3, ![1, 512, 1024]⟩
abbrev S1x512x4096 : Shape := ⟨3, ![1, 512, 4096]⟩
abbrev S1x1x1024 : Shape := ⟨3, ![1, 1, 1024]⟩
abbrev S512x4096 : Shape := ⟨2, ![512, 4096]⟩
abbrev S1x1024 : Shape := ⟨2, ![1, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S2x1x1024, .f32⟩
  | .hbm, ⟨3, _⟩ => ⟨S4096x1024, .bf16⟩
  | .hbm, ⟨4, _⟩ => ⟨S2x2048x1024, .f32⟩
  | .hbm, ⟨5, _⟩ => ⟨S4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x4096, .f32⟩
  | .local _ .vmem, ⟨3, _⟩ => ⟨S1x512x4096, .f32⟩
  | .local _ .vmem, ⟨4, _⟩ => ⟨S1x1x1024, .f32⟩
  | .local _ .vmem, ⟨5, _⟩ => ⟨S1x1x1024, .f32⟩
  | .local _ .vmem, ⟨6, _⟩ => ⟨S1x512x1024, .f32⟩
  | .local _ .vmem, ⟨7, _⟩ => ⟨S1x512x1024, .f32⟩
  | .local _ .vmem, ⟨8, _⟩ => ⟨S4096x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_9 : BitVec 32 := 0#32
  let v15 : BitVec 1 := Scalar.cmpi .eq arg1 c0_i32_9
  let v16 : BitVec 1 := Scalar.andi v14 v15
  let arg2 : BitVec 32 := BitVec.ofNat 32 (i 2).val
  let c0_i32_10 : BitVec 32 := 0#32
  let v17 : BitVec 1 := Scalar.cmpi .eq arg2 c0_i32_10
  let v18 : BitVec 1 := Scalar.andi v16 v17
  let v19 : BitVec 32 := Scalar.extui v18
  let c0_i32_11 : BitVec 32 := 0#32
  let v20 : BitVec 1 := Scalar.cmpi .ne v19 c0_i32_11
  v20

def k0_cond2 (i : grid0.Coords) : BitVec 1 :=
  let arg0 : BitVec 32 := BitVec.ofNat 32 (i 0).val
  let c0_i32 : BitVec 32 := 0#32
  let v14 : BitVec 1 := Scalar.cmpi .eq arg0 c0_i32
  let arg1 : BitVec 32 := BitVec.ofNat 32 (i 1).val
  let c0_i32_9 : BitVec 32 := 0#32
  let v15 : BitVec 1 := Scalar.cmpi .eq arg1 c0_i32_9
  let v16 : BitVec 1 := Scalar.andi v14 v15
  let arg2 : BitVec 32 := BitVec.ofNat 32 (i 2).val
  let c0_i32_10 : BitVec 32 := 0#32
  let v17 : BitVec 1 := Scalar.cmpi .eq arg2 c0_i32_10
  let v18 : BitVec 1 := Scalar.andi v16 v17
  let v_true : BitVec 1 := 1#1
  let v21 : BitVec 1 := Scalar.xori v18 v_true
  let v22 : BitVec 32 := Scalar.extui v21
  let c0_i32_12 : BitVec 32 := 0#32
  let v23 : BitVec 1 := Scalar.cmpi .ne v22 c0_i32_12
  v23

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S4096x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]
-- ==== MlpOutWRefIdeal.lean ====
abbrev S2x2048x1024 : Shape := ⟨3, ![2, 2048, 1024]⟩
abbrev S2x2048x4096 : Shape := ⟨3, ![2, 2048, 4096]⟩
abbrev S2x1x1024 : Shape := ⟨3, ![2, 1, 1024]⟩
abbrev S4096x1024 : Shape := ⟨2, ![4096, 1024]⟩
abbrev S_ : Shape := ⟨0, ![]⟩
abbrev S1024x4096 : Shape := ⟨2, ![1024, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S2x1x1024, .f32⟩
  | .hbm, ⟨3, _⟩ => ⟨S4096x1024, .bf16⟩
  | .hbm, ⟨4, _⟩ => ⟨S2x2048x1024, .f32⟩
  | .hbm, ⟨5, _⟩ => ⟨S4096x1024, .f32⟩
  | .hbm, ⟨6, _⟩ => ⟨S_, .f32⟩
  | .hbm, ⟨7, _⟩ => ⟨S2x2048x4096, .f32⟩
  | .hbm, ⟨8, _⟩ => ⟨S2x2048x4096, .f32⟩
  | .hbm, ⟨9, _⟩ => ⟨S2x2048x4096, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S1024x4096, .f32⟩
  | .hbm, ⟨17, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== MlpInW.lean ====
abbrev S2x2048x1024 : Shape := ⟨3, ![2, 2048, 1024]⟩
abbrev S2x1x1024 : Shape := ⟨3, ![2, 1, 1024]⟩
abbrev S1x1024 : Shape := ⟨2, ![1, 1024]⟩
abbrev S4x1024x1024 : Shape := ⟨3, ![4, 1024, 1024]⟩
abbrev S2x2048x4096 : Shape := ⟨3, ![2, 2048, 4096]⟩
abbrev S1x512x1024 : Shape := ⟨3, ![1, 512, 1024]⟩
abbrev S1x1x1024 : Shape := ⟨3, ![1, 1, 1024]⟩
abbrev S1x512x4096 : Shape := ⟨3, ![1, 512, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024x1024 : Shape := ⟨2, ![1024, 1024]⟩
abbrev S1x1024x1024 : Shape := ⟨3, ![1, 1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S4x1024x1024, .bf16⟩
  | .hbm, ⟨5, _⟩ => ⟨S2x2048x4096, .bf16⟩
  | .hbm, ⟨6, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x512x4096, .bf16⟩
  | .local _ .vmem, ⟨8, _⟩ => ⟨S1x512x4096, .bf16⟩
  | .local _ .vmem, ⟨9, _⟩ => ⟨S4x1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let v49 : BitVec 32 := Scalar.extui v48
  let c0_i32_23 : BitVec 32 := 0#32
  let v50 : BitVec 1 := Scalar.cmpi .ne v49 c0_i32_23
  v50

def k0_cond2 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let v_true : BitVec 1 := 1#1
  let v51 : BitVec 1 := Scalar.xori v48 v_true
  let v52 : BitVec 32 := Scalar.extui v51
  let c0_i32_25 : BitVec 32 := 0#32
  let v53 : BitVec 1 := Scalar.cmpi .ne v52 c0_i32_25
  v53

def k0_cond3 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let v54 : BitVec 32 := Scalar.extui v48
  let c0_i32_26 : BitVec 32 := 0#32
  let v55 : BitVec 1 := Scalar.cmpi .ne v54 c0_i32_26
  v55

def k0_cond4 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let true_27 : BitVec 1 := 1#1
  let v56 : BitVec 1 := Scalar.xori v48 true_27
  let v57 : BitVec 32 := Scalar.extui v56
  let c0_i32_29 : BitVec 32 := 0#32
  let v58 : BitVec 1 := Scalar.cmpi .ne v57 c0_i32_29
  v58

def k0_cond5 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let v59 : BitVec 32 := Scalar.extui v48
  let c0_i32_30 : BitVec 32 := 0#32
  let v60 : BitVec 1 := Scalar.cmpi .ne v59 c0_i32_30
  v60

def k0_cond6 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let true_31 : BitVec 1 := 1#1
  let v61 : BitVec 1 := Scalar.xori v48 true_31
  let v62 : BitVec 32 := Scalar.extui v61
  let c0_i32_33 : BitVec 32 := 0#32
  let v63 : BitVec 1 := Scalar.cmpi .ne v62 c0_i32_33
  v63

def k0_cond7 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let v64 : BitVec 32 := Scalar.extui v48
  let c0_i32_34 : BitVec 32 := 0#32
  let v65 : BitVec 1 := Scalar.cmpi .ne v64 c0_i32_34
  v65

def k0_cond8 (i : grid0.Coords) : BitVec 1 :=
  let arg0 : BitVec 32 := BitVec.ofNat 32 (i 0).val
  let c0_i32 : BitVec 32 := 0#32
  let v44 : BitVec 1 := Scalar.cmpi .eq arg0 c0_i32
  let arg1 : BitVec 32 := BitVec.ofNat 32 (i 1).val
  let c0_i32_20 : BitVec 32 := 0#32
  let v45 : BitVec 1 := Scalar.cmpi .eq arg1 c0_i32_20
  let v46 : BitVec 1 := Scalar.andi v44 v45
  let arg2 : BitVec 32 := BitVec.ofNat 32 (i 2).val
  let c0_i32_21 : BitVec 32 := 0#32
  let v47 : BitVec 1 := Scalar.cmpi .eq arg2 c0_i32_21
  let v48 : BitVec 1 := Scalar.andi v46 v47
  let true_35 : BitVec 1 := 1#1
  let v66 : BitVec 1 := Scalar.xori v48 true_35
  let v67 : BitVec 32 := Scalar.extui v66
  let c0_i32_37 : BitVec 32 := 0#32
  let v68 : BitVec 1 := Scalar.cmpi .ne v67 c0_i32_37
  v68

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S4x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== MlpInWRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S4x1024x1024 : Shape := ⟨3, ![4, 1024, 1024]⟩
abbrev S2x2048x4096 : Shape := ⟨3, ![2, 2048, 4096]⟩
abbrev S1024x4x1024 : Shape := ⟨3, ![1024, 4, 1024]⟩
abbrev S1024x4096 : Shape := ⟨2, ![1024, 4096]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S4x1024x1024, .bf16⟩
  | .hbm, ⟨5, _⟩ => ⟨S2x2048x4096, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S1024, .f32⟩
  | .hbm, ⟨10, _⟩ => ⟨S2x2048x1024, .f32⟩
  | .hbm, ⟨11, _⟩ => ⟨S_, .f32⟩
  | .hbm, ⟨12, _⟩ => ⟨S2x2048, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x1x1024, .f32⟩
  | .hbm, ⟨28, _⟩ => ⟨S2x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S2x2048x4096, .f32⟩
  | .hbm, ⟨34, _⟩ => ⟨S2x2048x4096, .f32⟩
  | .hbm, ⟨35, _⟩ => ⟨S4096x1024, .f32⟩
  | .hbm, ⟨36, _⟩ => ⟨S1024x4096, .f32⟩
  | .hbm, ⟨37, _⟩ => ⟨S1024x4x1024, .f32⟩
  | .hbm, ⟨38, _⟩ => ⟨S4x1024x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== MlpIn.lean ====
abbrev S2x2048x1024 : Shape := ⟨3, ![2, 2048, 1024]⟩
abbrev S2x1x1024 : Shape := ⟨3, ![2, 1, 1024]⟩
abbrev S1x1024 : Shape := ⟨2, ![1, 1024]⟩
abbrev S4x1024x1024 : Shape := ⟨3, ![4, 1024, 1024]⟩
abbrev S2x2048x4096 : Shape := ⟨3, ![2, 2048, 4096]⟩
abbrev S1x256x1024 : Shape := ⟨3, ![1, 256, 1024]⟩
abbrev S1x1x1024 : Shape := ⟨3, ![1, 1, 1024]⟩
abbrev S1x256x4096 : Shape := ⟨3, ![1, 256, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S4x1024x1024, .bf16⟩
  | .hbm, ⟨5, _⟩ => ⟨S2x2048x4096, .bf16⟩
  | .hbm, ⟨6, _⟩ => ⟨S2x2048x1024, .f32⟩
  | .hbm, ⟨7, _⟩ => ⟨S2x2048x1024, .f32⟩
  | .hbm, ⟨8, _⟩ => ⟨S2x1x1024, .f32⟩
  | .hbm, ⟨9, _⟩ => ⟨S2x1x1024, .f32⟩
  | .hbm, ⟨10, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S4x1024x1024, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨3, ![1, 2, 8], ![false, false, false]⟩

def k0_cond1 (i : grid0.Coords) : BitVec 1 :=
  let arg2 : BitVec 32 := BitVec.ofNat 32 (i 2).val
  let c0_i32 : BitVec 32 := 0#32
  let v85 : BitVec 1 := Scalar.cmpi .eq arg2 c0_i32
  let v86 : BitVec 32 := Scalar.extui v85
  let c0_i32_39 : BitVec 32 := 0#32
  let v87 : BitVec 1 := Scalar.cmpi .ne v86 c0_i32_39
  v87

def k0_cond2 (i : grid0.Coords) : BitVec 1 :=
  let arg2 : BitVec 32 := BitVec.ofNat 32 (i 2).val
  let c0_i32 : BitVec 32 := 0#32
  let v85 : BitVec 1 := Scalar.cmpi .eq arg2 c0_i32
  let v_true : BitVec 1 := 1#1
  let v88 : BitVec 1 := Scalar.xori v85 v_true
  let v89 : BitVec 32 := Scalar.extui v88
  let c0_i32_40 : BitVec 32 := 0#32
  let v90 : BitVec 1 := Scalar.cmpi .ne v89 c0_i32_40
  v90

def k0_cond3 (i : grid0.Coords) : BitVec 1 :=
  let arg2 : BitVec 32 := BitVec.ofNat 32 (i 2).val
  let c0_i32_41 : BitVec 32 := 0#32
  let v91 : BitVec 1 := Scalar.cmpi .eq arg2 c0_i32_41
  let v92 : BitVec 32 := Scalar.extui v91
  let c0_i32_42 : BitVec 32 := 0#32
  let v93 : BitVec 1 := Scalar.cmpi .ne v92 c0_i32_42
  v93

def k0_cond4 (i : grid0.Coords) : BitVec 1 :=
  let arg2 : BitVec 32 := BitVec.ofNat 32 (i 2).val
  let c0_i32_41 : BitVec 32 := 0#32
  let v91 : BitVec 1 := Scalar.cmpi .eq arg2 c0_i32_41
  let true_43 : BitVec 1 := 1#1
  let v94 : BitVec 1 := Scalar.xori v91 true_43
  let v95 : BitVec 32 := Scalar.extui v94
  let c0_i32_44 : BitVec 32 := 0#32
  let v96 : BitVec 1 := Scalar.cmpi .ne v95 c0_i32_44
  v96

def k0_cond5 (i : grid0.Coords) : BitVec 1 :=
  let arg0 : BitVec 32 := BitVec.ofNat 32 (i 0).val
  let c0_i32_45 : BitVec 32 := 0#32
  let v97 : BitVec 1 := Scalar.cmpi .eq arg0 c0_i32_45
  let arg1 : BitVec 32 := BitVec.ofNat 32 (i 1).val
  let c0_i32_46 : BitVec 32 := 0#32
  let v98 : BitVec 1 := Scalar.cmpi .eq arg1 c0_i32_46
  let v99 : BitVec 1 := Scalar.andi v97 v98
  let arg2 : BitVec 32 := BitVec.ofNat 32 (i 2).val
  let c0_i32_47 : BitVec 32 := 0#32
  let v100 : BitVec 1 := Scalar.cmpi .eq arg2 c0_i32_47
  let v101 : BitVec 1 := Scalar.andi v99 v100
  let v102 : BitVec 32 := Scalar.extui v101
  let c0_i32_48 : BitVec 32 := 0#32
  let v103 : BitVec 1 := Scalar.cmpi .ne v102 c0_i32_48
  v103

def k0_cond6 (i : grid0.Coords) : BitVec 1 :=
  let arg0 : BitVec 32 := BitVec.ofNat 32 (i 0).val
  let c0_i32_45 : BitVec 32 := 0#32
  let v97 : BitVec 1 := Scalar.cmpi .eq arg0 c0_i32_45
  let arg1 : BitVec 32 := BitVec.ofNat 32 (i 1).val
  let c0_i32_46 : BitVec 32 := 0#32
  let v98 : BitVec 1 := Scalar.cmpi .eq arg1 c0_i32_46
  let v99 : BitVec 1 := Scalar.andi v97 v98
  let arg2 : BitVec 32 := BitVec.ofNat 32 (i 2).val
  let c0_i32_47 : BitVec 32 := 0#32
  let v100 : BitVec 1 := Scalar.cmpi .eq arg2 c0_i32_47
  let v101 : BitVec 1 := Scalar.andi v99 v100
  let true_49 : BitVec 1 := 1#1
  let v104 : BitVec 1 := Scalar.xori v101 true_49
  let v105 : BitVec 32 := Scalar.extui v104
  let c0_i32_50 : BitVec 32 := 0#32
  let v106 : BitVec 1 := Scalar.cmpi .ne v105 c0_i32_50
  v106

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== MlpInRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S4x1024x1024 : Shape := ⟨3, ![4, 1024, 1024]⟩
abbrev S2x2048x4096 : Shape := ⟨3, ![2, 2048, 4096]⟩
abbrev S1024x4x1024 : Shape := ⟨3, ![1024, 4, 1024]⟩
abbrev S1024x4096 : Shape := ⟨2, ![1024, 4096]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩

abbrev nBuf : Space → Nat
  | .hbm => 77
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S4x1024x1024, .bf16⟩
  | .hbm, ⟨5, _⟩ => ⟨S2x2048x4096, .bf16⟩
  | .hbm, ⟨6, _⟩ => ⟨S2x2048x1024, .f32⟩
  | .hbm, ⟨7, _⟩ => ⟨S1024x4x1024, .bf16⟩
  | .hbm, ⟨8, _⟩ => ⟨S1024x4096, .bf16⟩
  | .hbm, ⟨9, _⟩ => ⟨S1024x4096, .f32⟩
  | .hbm, ⟨10, _⟩ => ⟨S1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x4096, .f32⟩
  | .hbm, ⟨39, _⟩ => ⟨S2x2048x4096, .f32⟩
  | .hbm, ⟨40, _⟩ => ⟨S2x2048x1024, .f32⟩
  | .hbm, ⟨41, _⟩ => ⟨S_, .f32⟩
  | .hbm, ⟨42, _⟩ => ⟨S2x1024, .f32⟩
  | .hbm, ⟨43, _⟩ => ⟨S2x1x1024, .f32⟩
  | .hbm, ⟨44, _⟩ => ⟨S2x2048x1024, .f32⟩
  | .hbm, ⟨45, _⟩ => ⟨S_, .f32⟩
  | .hbm, ⟨46, _⟩ => ⟨S2x1024, .f32⟩
  | .hbm, ⟨47, _⟩ => ⟨S2x1x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S_, .f32⟩
  | .hbm, ⟨52, _⟩ => ⟨S1024, .f32⟩
  | .hbm, ⟨53, _⟩ => ⟨S1x1x1024, .f32⟩
  | .hbm, ⟨54, _⟩ => ⟨S2x2048x1024, .f32⟩
  | .hbm, ⟨55, _⟩ => ⟨S2x2048x1024, .f32⟩
  | .hbm, ⟨56, _⟩ => ⟨S_, .f32⟩
  | .hbm, ⟨57, _⟩ => ⟨S1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S2x2048x1024, .f32⟩
  | .hbm, ⟨63, _⟩ => ⟨S2x2048x1024, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S_, .f32⟩
  | .hbm, ⟨69, _⟩ => ⟨S2x2048, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S1x1024, .f32⟩
  | .hbm, ⟨76, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩

abbrev nD : Nat := 1
abbrev τ : Topo := Topo.v7x

variable {F : FTy → Type} [FloatOps F]
-- ==== MlpInFwd.lean ====
abbrev S2x2048x1024 : Shape := ⟨3, ![2, 2048, 1024]⟩
abbrev S2x1x1024 : Shape := ⟨3, ![2, 1, 1024]⟩
abbrev S1x1024 : Shape := ⟨2, ![1, 1024]⟩
abbrev S4x1024x1024 : Shape := ⟨3, ![4, 1024, 1024]⟩
abbrev S2x2048x4096 : Shape := ⟨3, ![2, 2048, 4096]⟩
abbrev S1x256x1024 : Shape := ⟨3, ![1, 256, 1024]⟩
abbrev S1x1x1024 : Shape := ⟨3, ![1, 1, 1024]⟩
abbrev S1x256x4096 : Shape := ⟨3, ![1, 256, 4096]⟩
abbrev S256x1024 : Shape := ⟨2, ![256, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S256x4096 : Shape := ⟨2, ![256, 4096]⟩

abbrev nBuf : Space → Nat
  | .hbm => 6
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S4x1024x1024, .bf16⟩
  | .hbm, ⟨5, _⟩ => ⟨S2x2048x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S4x1024x1024, .bf16⟩
  | .local _ .vmem, ⟨8, _⟩ => ⟨S1x256x4096, .f32⟩
  | .local _ .vmem, ⟨9, _⟩ => ⟨S1x256x4096, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlpInFwdRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4096 : Shape := ⟨3, ![2, 2048, 4096]⟩

abbrev nBuf : Space → Nat
  | .hbm => 33
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S4x1024x1024, .bf16⟩
  | .hbm, ⟨5, _⟩ => ⟨S1024x4x1024, .bf16⟩
  | .hbm, ⟨6, _⟩ => ⟨S1024x4096, .bf16⟩
  | .hbm, ⟨7, _⟩ => ⟨S1024x4096, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x4096, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== MlpOutFwd.lean ====
abbrev S2x2048x1024 : Shape := ⟨3, ![2, 2048, 1024]⟩
abbrev S2x2048x4096 : Shape := ⟨3, ![2, 2048, 4096]⟩
abbrev S2x1x1024 : Shape := ⟨3, ![2, 1, 1024]⟩
abbrev S4096x1024 : Shape := ⟨2, ![4096, 1024]⟩
abbrev S1x256x1024 : Shape := ⟨3, ![1, 256, 1024]⟩
abbrev S1x256x4096 : Shape := ⟨3, ![1, 256, 4096]⟩
abbrev S1x1x1024 : Shape := ⟨3, ![1, 1, 1024]⟩
abbrev S256x1024 : Shape := ⟨2, ![256, 1024]⟩
abbrev S256x4096 : Shape := ⟨2, ![256, 4096]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S2x1x1024, .f32⟩
  | .hbm, ⟨3, _⟩ => ⟨S4096x1024, .bf16⟩
  | .hbm, ⟨4, _⟩ => ⟨S2x2048x1024, .f32⟩
  | .hbm, ⟨5, _⟩ => ⟨S2x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x4096, .f32⟩
  | .local _ .vmem, ⟨3, _⟩ => ⟨S1x256x4096, .f32⟩
  | .local _ .vmem, ⟨4, _⟩ => ⟨S1x1x1024, .f32⟩
  | .local _ .vmem, ⟨5, _⟩ => ⟨S1x1x1024, .f32⟩
  | .local _ .vmem, ⟨6, _⟩ => ⟨S4096x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlpOutFwdRefIdeal.lean ====
abbrev S2x2048x1024 : Shape := ⟨3, ![2, 2048, 1024]⟩
abbrev S2x2048x4096 : Shape := ⟨3, ![2, 2048, 4096]⟩
abbrev S2x1x1024 : Shape := ⟨3, ![2, 1, 1024]⟩
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x4096, .f32⟩
  | .hbm, ⟨2, _⟩ => ⟨S2x1x1024, .f32⟩
  | .hbm, ⟨3, _⟩ => ⟨S4096x1024, .bf16⟩
  | .hbm, ⟨4, _⟩ => ⟨S_, .f32⟩
  | .hbm, ⟨5, _⟩ => ⟨S2x2048x4096, .f32⟩
  | .hbm, ⟨6, _⟩ => ⟨S2x2048x4096, .f32⟩
  | .hbm, ⟨7, _⟩ => ⟨S2x2048x4096, .f32⟩
  | .hbm, ⟨8, _⟩ => ⟨S4096x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== ProjFwd.lean ====
abbrev S2x2048x1024 : Shape := ⟨3, ![2, 2048, 1024]⟩
abbrev S2x2048x256 : Shape := ⟨3, ![2, 2048, 256]⟩
abbrev S2x2048x512 : Shape := ⟨3, ![2, 2048, 512]⟩
abbrev S2x1x1024 : Shape := ⟨3, ![2, 1, 1024]⟩
abbrev S2x1024x1024 : Shape := ⟨3, ![2, 1024, 1024]⟩
abbrev S1x512x1024 : Shape := ⟨3, ![1, 512, 1024]⟩
abbrev S1x512x256 : Shape := ⟨3, ![1, 512, 256]⟩
abbrev S1x512x512 : Shape := ⟨3, ![1, 512, 512]⟩
abbrev S1x1x1024 : Shape := ⟨3, ![1, 1, 1024]⟩
abbrev S1x1024x1024 : Shape := ⟨3, ![1, 1024, 1024]⟩
abbrev S512x1024 : Shape := ⟨2, ![512, 1024]⟩
abbrev S512x256 : Shape := ⟨2, ![512, 256]⟩
abbrev S512x512 : Shape := ⟨2, ![512, 512]⟩
abbrev S1x1024 : Shape := ⟨2, ![1, 1024]⟩
abbrev S1024x1024 : Shape := ⟨2, ![1024, 1024]⟩

abbrev nBuf : Space → Nat
  | .hbm => 8
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S2x2048x512, .f32⟩
  | .hbm, ⟨3, _⟩ => ⟨S2x2048x256, .f32⟩
  | .hbm, ⟨4, _⟩ => ⟨S2x1x1024, .f32⟩
  | .hbm, ⟨5, _⟩ => ⟨S2x1024x1024, .bf16⟩
  | .hbm, ⟨6, _⟩ => ⟨S2x2048x1024, .f32⟩
  | .hbm, ⟨7, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ProjFwdRefIdeal.lean ====
abbrev S2x2048x1024 : Shape := ⟨3, ![2, 2048, 1024]⟩
abbrev S2x2048x256 : Shape := ⟨3, ![2, 2048, 256]⟩
abbrev S2x2048x512 : Shape := ⟨3, ![2, 2048, 512]⟩
abbrev S2x1x1024 : Shape := ⟨3, ![2, 1, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S2x2048x512, .f32⟩
  | .hbm, ⟨3, _⟩ => ⟨S2x2048x256, .f32⟩
  | .hbm, ⟨4, _⟩ => ⟨S2x1x1024, .f32⟩
  | .hbm, ⟨5, _⟩ => ⟨S2x1024x1024, .bf16⟩
  | .hbm, ⟨6, _⟩ => ⟨S1x1024x1024, .bf16⟩
  | .hbm, ⟨7, _⟩ => ⟨S1024x1024, .bf16⟩
  | .hbm, ⟨8, _⟩ => ⟨S1024x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== ProjBwd.lean ====
abbrev S2x2048x1024 : Shape := ⟨3, ![2, 2048, 1024]⟩
abbrev S2x2048x256 : Shape := ⟨3, ![2, 2048, 256]⟩
abbrev S2x2048x512 : Shape := ⟨3, ![2, 2048, 512]⟩
abbrev S2x1x1024 : Shape := ⟨3, ![2, 1, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x512x256 : Shape := ⟨3, ![1, 512, 256]⟩
abbrev S1x512x512 : Shape := ⟨3, ![1, 512, 512]⟩
abbrev S1x1x1024 : Shape := ⟨3, ![1, 1, 1024]⟩
abbrev S512x256 : Shape := ⟨2, ![512, 256]⟩
abbrev S512x512 : Shape := ⟨2, ![512, 512]⟩
abbrev S512x1024 : Shape := ⟨2, ![512, 1024]⟩
abbrev S1x1024 : Shape := ⟨2, ![1, 1024]⟩
abbrev S1024 : Shape := ⟨1, ![1024]⟩

abbrev nBuf : Space → Nat
  | .hbm => 18
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S2x2048x512, .f32⟩
  | .hbm, ⟨3, _⟩ => ⟨S2x2048x256, .f32⟩
  | .hbm, ⟨4, _⟩ => ⟨S2x1x1024, .f32⟩
  | .hbm, ⟨5, _⟩ => ⟨S2x1024x1024, .bf16⟩
  | .hbm, ⟨6, _⟩ => ⟨S2x2048x1024, .f32⟩
  | .hbm, ⟨7, _⟩ => ⟨S2x2048x1024, .f32⟩
  | .hbm, ⟨8, _⟩ => ⟨S1x1024x1024, .bf16⟩
  | .hbm, ⟨9, _⟩ => ⟨S1024x1024, .bf16⟩
  | .hbm, ⟨10, _⟩ => ⟨S1024x1024, .f32⟩
  | .hbm, ⟨11, _⟩ => ⟨S2x2048x1024, .f32⟩
  | .hbm, ⟨12, _⟩ => ⟨S2x2048x1024, .f32⟩
  | .hbm, ⟨13, _⟩ => ⟨S2x2048x256, .f32⟩
  | .hbm, ⟨14, _⟩ => ⟨S2x2048x512, .f32⟩
  | .hbm, ⟨15, _⟩ => ⟨S2x2048x256, .f32⟩
  | .hbm, ⟨16, _⟩ => ⟨S2x1x1024, .f32⟩
  | .hbm, ⟨17, _⟩ => ⟨S1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x512, .f32⟩
  | .local _ .vmem, ⟨5, _⟩ => ⟨S1x512x512, .f32⟩
  | .local _ .vmem, ⟨6, _⟩ => ⟨S1x512x256, .f32⟩
  | .local _ .vmem, ⟨7, _⟩ => ⟨S1x512x256, .f32⟩
  | .local _ .vmem, ⟨8, _⟩ => ⟨S1x512x1024, .f32⟩
  | .local _ .vmem, ⟨9, _⟩ => ⟨S1x512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x256, .f32⟩
  | .local _ .vmem, ⟨18, _⟩ => ⟨S1x512x256, .f32⟩
  | .local _ .vmem, ⟨19, _⟩ => ⟨S1x512x512, .f32⟩
  | .local _ .vmem, ⟨20, _⟩ => ⟨S1x512x512, .f32⟩
  | .local _ .vmem, ⟨21, _⟩ => ⟨S1x512x256, .f32⟩
  | .local _ .vmem, ⟨22, _⟩ => ⟨S1x512x256, .f32⟩
  | .local _ .vmem, ⟨23, _⟩ => ⟨S1x1x1024, .f32⟩
  | .local _ .vmem, ⟨24, _⟩ => ⟨S1x1x1024, .f32⟩
  | .local _ .vmem, ⟨25, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v41 : BitVec 1 := Scalar.cmpi .eq arg2 c0_i32
  let v42 : BitVec 32 := Scalar.extui v41
  let c0_i32_34 : BitVec 32 := 0#32
  let v43 : BitVec 1 := Scalar.cmpi .ne v42 c0_i32_34
  v43

def k0_cond2 (i : grid0.Coords) : BitVec 1 :=
  let arg2 : BitVec 32 := BitVec.ofNat 32 (i 2).val
  let c0_i32 : BitVec 32 := 0#32
  let v41 : BitVec 1 := Scalar.cmpi .eq arg2 c0_i32
  let v_true : BitVec 1 := 1#1
  let v44 : BitVec 1 := Scalar.xori v41 v_true
  let v45 : BitVec 32 := Scalar.extui v44
  let c0_i32_35 : BitVec 32 := 0#32
  let v46 : BitVec 1 := Scalar.cmpi .ne v45 c0_i32_35
  v46

def k0_cond3 (i : grid0.Coords) : BitVec 1 :=
  let arg0 : BitVec 32 := BitVec.ofNat 32 (i 0).val
  let c0_i32_36 : BitVec 32 := 0#32
  let v47 : BitVec 1 := Scalar.cmpi .eq arg0 c0_i32_36
  let arg1 : BitVec 32 := BitVec.ofNat 32 (i 1).val
  let c0_i32_37 : BitVec 32 := 0#32
  let v48 : BitVec 1 := Scalar.cmpi .eq arg1 c0_i32_37
  let v49 : BitVec 1 := Scalar.andi v47 v48
  let arg2 : BitVec 32 := BitVec.ofNat 32 (i 2).val
  let c0_i32_38 : BitVec 32 := 0#32
  let v50 : BitVec 1 := Scalar.cmpi .eq arg2 c0_i32_38
  let v51 : BitVec 1 := Scalar.andi v49 v50
  let v52 : BitVec 32 := Scalar.extui v51
  let c0_i32_39 : BitVec 32 := 0#32
  let v53 : BitVec 1 := Scalar.cmpi .ne v52 c0_i32_39
  v53

def k0_cond4 (i : grid0.Coords) : BitVec 1 :=
  let arg0 : BitVec 32 := BitVec.ofNat 32 (i 0).val
  let c0_i32_36 : BitVec 32 := 0#32
  let v47 : BitVec 1 := Scalar.cmpi .eq arg0 c0_i32_36
  let arg1 : BitVec 32 := BitVec.ofNat 32 (i 1).val
  let c0_i32_37 : BitVec 32 := 0#32
  let v48 : BitVec 1 := Scalar.cmpi .eq arg1 c0_i32_37
  let v49 : BitVec 1 := Scalar.andi v47 v48
  let arg2 : BitVec 32 := BitVec.ofNat 32 (i 2).val
  let c0_i32_38 : BitVec 32 := 0#32
  let v50 : BitVec 1 := Scalar.cmpi .eq arg2 c0_i32_38
  let v51 : BitVec 1 := Scalar.andi v49 v50
  let true_40 : BitVec 1 := 1#1
  let v54 : BitVec 1 := Scalar.xori v51 true_40
  let v55 : BitVec 32 := Scalar.extui v54
  let c0_i32_41 : BitVec 32 := 0#32
  let v56 : BitVec 1 := Scalar.cmpi .ne v55 c0_i32_41
  v56

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]
-- ==== ProjBwdRefIdeal.lean ====
abbrev S2x2048x1024 : Shape := ⟨3, ![2, 2048, 1024]⟩
abbrev S2x2048x256 : Shape := ⟨3, ![2, 2048, 256]⟩
abbrev S2x2048x512 : Shape := ⟨3, ![2, 2048, 512]⟩
abbrev S2x1x1024 : Shape := ⟨3, ![2, 1, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩
abbrev S2x1024 : Shape := ⟨2, ![2, 1024]⟩

abbrev nBuf : Space → Nat
  | .hbm => 28
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x256, .f32⟩
  | .hbm, ⟨2, _⟩ => ⟨S2x2048x512, .f32⟩
  | .hbm, ⟨3, _⟩ => ⟨S2x2048x256, .f32⟩
  | .hbm, ⟨4, _⟩ => ⟨S2x1x1024, .f32⟩
  | .hbm, ⟨5, _⟩ => ⟨S2x1024x1024, .bf16⟩
  | .hbm, ⟨6, _⟩ => ⟨S2x2048x1024, .f32⟩
  | .hbm, ⟨7, _⟩ => ⟨S1x1024x1024, .bf16⟩
  | .hbm, ⟨8, _⟩ => ⟨S1024x1024, .bf16⟩
  | .hbm, ⟨9, _⟩ => ⟨S1024x1024, .f32⟩
  | .hbm, ⟨10, _⟩ => ⟨S2x2048x1024, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x1024, .f32⟩
  | .hbm, ⟨21, _⟩ => ⟨S2x1x1024, .f32⟩
  | .hbm, ⟨22, _⟩ => ⟨S1024x1024, .f32⟩
  | .hbm, ⟨23, _⟩ => ⟨S1024x1024, .f32⟩
  | .hbm, ⟨24, _⟩ => ⟨S2x2048x1024, .f32⟩
  | .hbm, ⟨25, _⟩ => ⟨S2x2048x256, .f32⟩
  | .hbm, ⟨26, _⟩ => ⟨S2x2048x512, .f32⟩
  | .hbm, ⟨27, _⟩ => ⟨S2x2048x256, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== MixerFwd.lean ====
abbrev S2x2048x1024 : Shape := ⟨3, ![2, 2048, 1024]⟩
abbrev S2x1x1024 : Shape := ⟨3, ![2, 1, 1024]⟩
abbrev S1x1024 : Shape := ⟨2, ![1, 1024]⟩
abbrev S2x1024x2560 : Shape := ⟨3, ![2, 1024, 2560]⟩
abbrev S2x2048x768 : Shape := ⟨3, ![2, 2048, 768]⟩
abbrev S2x2048x256 : Shape := ⟨3, ![2, 2048, 256]⟩
abbrev S2x2048x512 : Shape := ⟨3, ![2, 2048, 512]⟩
abbrev S2x2048x128 : Shape := ⟨3, ![2, 2048, 128]⟩
abbrev S1x512x1024 : Shape := ⟨3, ![1, 512, 1024]⟩
abbrev S1x1x1024 : Shape := ⟨3, ![1, 1, 1024]⟩
abbrev S1x1024x2560 : Shape := ⟨3, ![1, 1024, 2560]⟩
abbrev S1x512x768 : Shape := ⟨3, ![1, 512, 768]⟩
abbrev S1x512x256 : Shape := ⟨3, ![1, 512, 256]⟩
abbrev S1x512x512 : Shape := ⟨3, ![1, 512, 512]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩
abbrev S1024x2560 : Shape := ⟨2, ![1024, 2560]⟩
abbrev S512x2560 : Shape := ⟨2, ![512, 2560]⟩
abbrev S512x768 : Shape := ⟨2, ![512, 768]⟩
abbrev S512x256 : Shape := ⟨2, ![512, 256]⟩
abbrev S512x512 : Shape := ⟨2, ![512, 512]⟩
abbrev S512x128 : Shape := ⟨2, ![512, 128]⟩

abbrev nBuf : Space → Nat
  | .hbm => 12
  | .vmem => 22
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S2x1024x2560, .bf16⟩
  | .hbm, ⟨5, _⟩ => ⟨S2x2048x768, .f32⟩
  | .hbm, ⟨6, _⟩ => ⟨S2x2048x256, .f32⟩
  | .hbm, ⟨7, _⟩ => ⟨S2x2048x512, .f32⟩
  | .hbm, ⟨8, _⟩ => ⟨S2x2048x512, .f32⟩
  | .hbm, ⟨9, _⟩ => ⟨S2x2048x256, .f32⟩
  | .hbm, ⟨10, _⟩ => ⟨S2x2048x128, .f32⟩
  | .hbm, ⟨11, _⟩ => ⟨S2x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x2560, .bf16⟩
  | .local _ .vmem, ⟨8, _⟩ => ⟨S1x512x768, .f32⟩
  | .local _ .vmem, ⟨9, _⟩ => ⟨S1x512x768, .f32⟩
  | .local _ .vmem, ⟨10, _⟩ => ⟨S1x512x256, .f32⟩
  | .local _ .vmem, ⟨11, _⟩ => ⟨S1x512x256, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x256, .f32⟩
  | .local _ .vmem, ⟨17, _⟩ => ⟨S1x512x256, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== MixerFwdRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S2x1024x2560 : Shape := ⟨3, ![2, 1024, 2560]⟩
abbrev S1x1024x2560 : Shape := ⟨3, ![1, 1024, 2560]⟩
abbrev S1024x2560 : Shape := ⟨2, ![1024, 2560]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2560 : Shape := ⟨3, ![2, 2048, 2560]⟩
abbrev S2x2048x768 : Shape := ⟨3, ![2, 2048, 768]⟩
abbrev S2x2048x256 : Shape := ⟨3, ![2, 2048, 256]⟩
abbrev S2x2048x512 : Shape := ⟨3, ![2, 2048, 512]⟩
abbrev S2x2048x128 : Shape := ⟨3, ![2, 2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S2x1024x2560, .bf16⟩
  | .hbm, ⟨5, _⟩ => ⟨S1x1024x2560, .bf16⟩
  | .hbm, ⟨6, _⟩ => ⟨S1024x2560, .bf16⟩
  | .hbm, ⟨7, _⟩ => ⟨S1024x2560, .f32⟩
  | .hbm, ⟨8, _⟩ => ⟨S1024, .f32⟩
  | .hbm, ⟨9, _⟩ => ⟨S2x2048x1024, .f32⟩
  | .hbm, ⟨10, _⟩ => ⟨S_, .f32⟩
  | .hbm, ⟨11, _⟩ => ⟨S2x2048, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S_, .f32⟩
  | .hbm, ⟨17, _⟩ => ⟨S2x2048x1, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x1x1024, .f32⟩
  | .hbm, ⟨27, _⟩ => ⟨S2x1x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x2560, .f32⟩
  | .hbm, ⟨33, _⟩ => ⟨S2x2048x768, .f32⟩
  | .hbm, ⟨34, _⟩ => ⟨S2x2048x256, .f32⟩
  | .hbm, ⟨35, _⟩ => ⟨S2x2048x512, .f32⟩
  | .hbm, ⟨36, _⟩ => ⟨S2x2048x512, .f32⟩
  | .hbm, ⟨37, _⟩ => ⟨S2x2048x256, .f32⟩
  | .hbm, ⟨38, _⟩ => ⟨S2x2048x128, .f32⟩
  | .hbm, ⟨39, _⟩ => ⟨S2x2048x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== MixerBwd.lean ====
abbrev S2x2048x1024 : Shape := ⟨3, ![2, 2048, 1024]⟩
abbrev S2x1x1024 : Shape := ⟨3, ![2, 1, 1024]⟩
abbrev S1x1024 : Shape := ⟨2, ![1, 1024]⟩
abbrev S2x1024x2560 : Shape := ⟨3, ![2, 1024, 2560]⟩
abbrev S2x2048x768 : Shape := ⟨3, ![2, 2048, 768]⟩
abbrev S2x2048x256 : Shape := ⟨3, ![2, 2048, 256]⟩
abbrev S2x2048x512 : Shape := ⟨3, ![2, 2048, 512]⟩
abbrev S2x2048x128 : Shape := ⟨3, ![2, 2048, 128]⟩
abbrev S1024x2560 : Shape := ⟨2, ![1024, 2560]⟩
abbrev S1x512x1024 : Shape := ⟨3, ![1, 512, 1024]⟩
abbrev S1x1x1024 : Shape := ⟨3, ![1, 1, 1024]⟩
abbrev S1x1024x2560 : Shape := ⟨3, ![1, 1024, 2560]⟩
abbrev S1x512x768 : Shape := ⟨3, ![1, 512, 768]⟩
abbrev S1x512x256 : Shape := ⟨3, ![1, 512, 256]⟩
abbrev S1x512x512 : Shape := ⟨3, ![1, 512, 512]⟩
abbrev S1x512x128 : Shape := ⟨3, ![1, 512, 128]⟩
abbrev S512x1024 : Shape := ⟨2, ![512, 1024]⟩
abbrev S512x768 : Shape := ⟨2, ![512, 768]⟩
abbrev S512x256 : Shape := ⟨2, ![512, 256]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x2432 : Shape := ⟨2, ![512, 2432]⟩
abbrev S512x2560 : Shape := ⟨2, ![512, 2560]⟩
abbrev S512x2304 : Shape := ⟨2, ![512, 2304]⟩
abbrev S512x2048 : Shape := ⟨2, ![512, 2048]⟩
abbrev S512x1536 : Shape := ⟨2, ![512, 1536]⟩
abbrev S512x1792 : Shape := ⟨2, ![512, 1792]⟩
abbrev S1024 : Shape := ⟨1, ![1024]⟩

abbrev nBuf : Space → Nat
  | .hbm => 18
  | .vmem => 32
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S2x1024x2560, .bf16⟩
  | .hbm, ⟨5, _⟩ => ⟨S2x2048x768, .f32⟩
  | .hbm, ⟨6, _⟩ => ⟨S2x2048x256, .f32⟩
  | .hbm, ⟨7, _⟩ => ⟨S2x2048x512, .f32⟩
  | .hbm, ⟨8, _⟩ => ⟨S2x2048x512, .f32⟩
  | .hbm, ⟨9, _⟩ => ⟨S2x2048x256, .f32⟩
  | .hbm, ⟨10, _⟩ => ⟨S2x2048x128, .f32⟩
  | .hbm, ⟨11, _⟩ => ⟨S2x2048x128, .f32⟩
  | .hbm, ⟨12, _⟩ => ⟨S2x2048x1024, .f32⟩
  | .hbm, ⟨13, _⟩ => ⟨S2x2048x1024, .f32⟩
  | .hbm, ⟨14, _⟩ => ⟨S2x1x1024, .f32⟩
  | .hbm, ⟨15, _⟩ => ⟨S2x1x1024, .f32⟩
  | .hbm, ⟨16, _⟩ => ⟨S1x1024, .f32⟩
  | .hbm, ⟨17, _⟩ => ⟨S1024x2560, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024x2560, .bf16⟩
  | .local _ .vmem, ⟨8, _⟩ => ⟨S1x512x768, .f32⟩
  | .local _ .vmem, ⟨9, _⟩ => ⟨S1x512x768, .f32⟩
  | .local _ .vmem, ⟨10, _⟩ => ⟨S1x512x256, .f32⟩
  | .local _ .vmem, ⟨11, _⟩ => ⟨S1x512x256, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x256, .f32⟩
  | .local _ .vmem, ⟨17, _⟩ => ⟨S1x512x256, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x1024, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1024, .f32⟩
  | .local _ .vmem, ⟨31, _⟩ => ⟨S1024x2560, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v112 : BitVec 1 := Scalar.cmpi .eq arg2 c0_i32
  let v113 : BitVec 32 := Scalar.extui v112
  let c0_i32_59 : BitVec 32 := 0#32
  let v114 : BitVec 1 := Scalar.cmpi .ne v113 c0_i32_59
  v114

def k0_cond2 (i : grid0.Coords) : BitVec 1 :=
  let arg2 : BitVec 32 := BitVec.ofNat 32 (i 2).val
  let c0_i32 : BitVec 32 := 0#32
  let v112 : BitVec 1 := Scalar.cmpi .eq arg2 c0_i32
  let v_true : BitVec 1 := 1#1
  let v115 : BitVec 1 := Scalar.xori v112 v_true
  let v116 : BitVec 32 := Scalar.extui v115
  let c0_i32_60 : BitVec 32 := 0#32
  let v117 : BitVec 1 := Scalar.cmpi .ne v116 c0_i32_60
  v117

def k0_cond3 (i : grid0.Coords) : BitVec 1 :=
  let arg2 : BitVec 32 := BitVec.ofNat 32 (i 2).val
  let c0_i32_61 : BitVec 32 := 0#32
  let v118 : BitVec 1 := Scalar.cmpi .eq arg2 c0_i32_61
  let v119 : BitVec 32 := Scalar.extui v118
  let c0_i32_62 : BitVec 32 := 0#32
  let v120 : BitVec 1 := Scalar.cmpi .ne v119 c0_i32_62
  v120

def k0_cond4 (i : grid0.Coords) : BitVec 1 :=
  let arg2 : BitVec 32 := BitVec.ofNat 32 (i 2).val
  let c0_i32_61 : BitVec 32 := 0#32
  let v118 : BitVec 1 := Scalar.cmpi .eq arg2 c0_i32_61
  let true_63 : BitVec 1 := 1#1
  let v121 : BitVec 1 := Scalar.xori v118 true_63
  let v122 : BitVec 32 := Scalar.extui v121
  let c0_i32_64 : BitVec 32 := 0#32
  let v123 : BitVec 1 := Scalar.cmpi .ne v122 c0_i32_64
  v123

def k0_cond5 (i : grid0.Coords) : BitVec 1 :=
  let arg0 : BitVec 32 := BitVec.ofNat 32 (i 0).val
  let c0_i32_65 : BitVec 32 := 0#32
  let v124 : BitVec 1 := Scalar.cmpi .eq arg0 c0_i32_65
  let arg1 : BitVec 32 := BitVec.ofNat 32 (i 1).val
  let c0_i32_66 : BitVec 32 := 0#32
  let v125 : BitVec 1 := Scalar.cmpi .eq arg1 c0_i32_66
  let v126 : BitVec 1 := Scalar.andi v124 v125
  let arg2 : BitVec 32 := BitVec.ofNat 32 (i 2).val
  let c0_i32_67 : BitVec 32 := 0#32
  let v127 : BitVec 1 := Scalar.cmpi .eq arg2 c0_i32_67
  let v128 : BitVec 1 := Scalar.andi v126 v127
  let v129 : BitVec 32 := Scalar.extui v128
  let c0_i32_68 : BitVec 32 := 0#32
  let v130 : BitVec 1 := Scalar.cmpi .ne v129 c0_i32_68
  v130

def k0_cond6 (i : grid0.Coords) : BitVec 1 :=
  let arg0 : BitVec 32 := BitVec.ofNat 32 (i 0).val
  let c0_i32_65 : BitVec 32 := 0#32
  let v124 : BitVec 1 := Scalar.cmpi .eq arg0 c0_i32_65
  let arg1 : BitVec 32 := BitVec.ofNat 32 (i 1).val
  let c0_i32_66 : BitVec 32 := 0#32
  let v125 : BitVec 1 := Scalar.cmpi .eq arg1 c0_i32_66
  let v126 : BitVec 1 := Scalar.andi v124 v125
  let arg2 : BitVec 32 := BitVec.ofNat 32 (i 2).val
  let c0_i32_67 : BitVec 32 := 0#32
  let v127 : BitVec 1 := Scalar.cmpi .eq arg2 c0_i32_67
  let v128 : BitVec 1 := Scalar.andi v126 v127
  let true_69 : BitVec 1 := 1#1
  let v131 : BitVec 1 := Scalar.xori v128 true_69
  let v132 : BitVec 32 := Scalar.extui v131
  let c0_i32_70 : BitVec 32 := 0#32
  let v133 : BitVec 1 := Scalar.cmpi .ne v132 c0_i32_70
  v133

def k0_cond7 (i : grid0.Coords) : BitVec 1 :=
  let arg0 : BitVec 32 := BitVec.ofNat 32 (i 0).val
  let c0_i32_65 : BitVec 32 := 0#32
  let v124 : BitVec 1 := Scalar.cmpi .eq arg0 c0_i32_65
  let arg1 : BitVec 32 := BitVec.ofNat 32 (i 1).val
  let c0_i32_66 : BitVec 32 := 0#32
  let v125 : BitVec 1 := Scalar.cmpi .eq arg1 c0_i32_66
  let v126 : BitVec 1 := Scalar.andi v124 v125
  let arg2 : BitVec 32 := BitVec.ofNat 32 (i 2).val
  let c0_i32_67 : BitVec 32 := 0#32
  let v127 : BitVec 1 := Scalar.cmpi .eq arg2 c0_i32_67
  let v128 : BitVec 1 := Scalar.andi v126 v127
  let v134 : BitVec 32 := Scalar.extui v128
  let c0_i32_71 : BitVec 32 := 0#32
  let v135 : BitVec 1 := Scalar.cmpi .ne v134 c0_i32_71
  v135

def k0_cond8 (i : grid0.Coords) : BitVec 1 :=
  let arg0 : BitVec 32 := BitVec.ofNat 32 (i 0).val
  let c0_i32_65 : BitVec 32 := 0#32
  let v124 : BitVec 1 := Scalar.cmpi .eq arg0 c0_i32_65
  let arg1 : BitVec 32 := BitVec.ofNat 32 (i 1).val
  let c0_i32_66 : BitVec 32 := 0#32
  let v125 : BitVec 1 := Scalar.cmpi .eq arg1 c0_i32_66
  let v126 : BitVec 1 := Scalar.andi v124 v125
  let arg2 : BitVec 32 := BitVec.ofNat 32 (i 2).val
  let c0_i32_67 : BitVec 32 := 0#32
  let v127 : BitVec 1 := Scalar.cmpi .eq arg2 c0_i32_67
  let v128 : BitVec 1 := Scalar.andi v126 v127
  let true_72 : BitVec 1 := 1#1
  let v136 : BitVec 1 := Scalar.xori v128 true_72
  let v137 : BitVec 32 := Scalar.extui v136
  let c0_i32_73 : BitVec 32 := 0#32
  let v138 : BitVec 1 := Scalar.cmpi .ne v137 c0_i32_73
  v138

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S1024x2560 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]
-- ==== MixerBwdRefIdeal.lean ====
abbrev S2x2048x1024 : Shape := ⟨3, ![2, 2048, 1024]⟩
abbrev S2x1x1024 : Shape := ⟨3, ![2, 1, 1024]⟩
abbrev S1x1024 : Shape := ⟨2, ![1, 1024]⟩
abbrev S2x1024x2560 : Shape := ⟨3, ![2, 1024, 2560]⟩
abbrev S2x2048x768 : Shape := ⟨3, ![2, 2048, 768]⟩
abbrev S2x2048x256 : Shape := ⟨3, ![2, 2048, 256]⟩
abbrev S2x2048x512 : Shape := ⟨3, ![2, 2048, 512]⟩
abbrev S2x2048x128 : Shape := ⟨3, ![2, 2048, 128]⟩
abbrev S1x1024x2560 : Shape := ⟨3, ![1, 1024, 2560]⟩
abbrev S1024x2560 : Shape := ⟨2, ![1024, 2560]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2560 : Shape := ⟨3, ![2, 2048, 2560]⟩
abbrev S2560x1024 : Shape := ⟨2, ![2560, 1024]⟩
abbrev S2x1024 : Shape := ⟨2, ![2, 1024]⟩

abbrev nBuf : Space → Nat
  | .hbm => 92
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x1x1024, .f32⟩
  | .hbm, ⟨2, _⟩ => ⟨S2x1x1024, .f32⟩
  | .hbm, ⟨3, _⟩ => ⟨S1x1024, .f32⟩
  | .hbm, ⟨4, _⟩ => ⟨S2x1024x2560, .bf16⟩
  | .hbm, ⟨5, _⟩ => ⟨S2x2048x768, .f32⟩
  | .hbm, ⟨6, _⟩ => ⟨S2x2048x256, .f32⟩
  | .hbm, ⟨7, _⟩ => ⟨S2x2048x512, .f32⟩
  | .hbm, ⟨8, _⟩ => ⟨S2x2048x512, .f32⟩
  | .hbm, ⟨9, _⟩ => ⟨S2x2048x256, .f32⟩
  | .hbm, ⟨10, _⟩ => ⟨S2x2048x128, .f32⟩
  | .hbm, ⟨11, _⟩ => ⟨S2x2048x128, .f32⟩
  | .hbm, ⟨12, _⟩ => ⟨S2x2048x1024, .f32⟩
  | .hbm, ⟨13, _⟩ => ⟨S1x1024x2560, .bf16⟩
  | .hbm, ⟨14, _⟩ => ⟨S1024x2560, .bf16⟩
  | .hbm, ⟨15, _⟩ => ⟨S1024x2560, .f32⟩
  | .hbm, ⟨16, _⟩ => ⟨S1024, .f32⟩
  | .hbm, ⟨17, _⟩ => ⟨S2x2048x1024, .f32⟩
  | .hbm, ⟨18, _⟩ => ⟨S_, .f32⟩
  | .hbm, ⟨19, _⟩ => ⟨S2x2048, .f32⟩
  | .hbm, ⟨20, _⟩ => ⟨S2x2048x1, .f32⟩
  | .hbm, ⟨21, _⟩ => ⟨S_, .f32⟩
  | .hbm, ⟨22, _⟩ => ⟨S2x2048x1, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S_, .f32⟩
  | .hbm, ⟨30, _⟩ => ⟨S2x2048x1, .f32⟩
  | .hbm, ⟨31, _⟩ => ⟨S2x2048x1, .f32⟩
  | .hbm, ⟨32, _⟩ => ⟨S2x2048x1024, .f32⟩
  | .hbm, ⟨33, _⟩ => ⟨S2x2048x1024, .f32⟩
  | .hbm, ⟨34, _⟩ => ⟨S1x1x1024, .f32⟩
  | .hbm, ⟨35, _⟩ => ⟨S2x2048x1024, .f32⟩
  | .hbm, ⟨36, _⟩ => ⟨S2x2048x1024, .f32⟩
  | .hbm, ⟨37, _⟩ => ⟨S_, .f32⟩
  | .hbm, ⟨38, _⟩ => ⟨S2x1x1024, .f32⟩
  | .hbm, ⟨39, _⟩ => ⟨S2x1x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x2560, .f32⟩
  | .hbm, ⟨45, _⟩ => ⟨S2x2048x768, .f32⟩
  | .hbm, ⟨46, _⟩ => ⟨S2x2048x256, .f32⟩
  | .hbm, ⟨47, _⟩ => ⟨S2x2048x512, .f32⟩
  | .hbm, ⟨48, _⟩ => ⟨S2x2048x512, .f32⟩
  | .hbm, ⟨49, _⟩ => ⟨S2x2048x256, .f32⟩
  | .hbm, ⟨50, _⟩ => ⟨S2x2048x128, .f32⟩
  | .hbm, ⟨51, _⟩ => ⟨S2x2048x128, .f32⟩
  | .hbm, ⟨52, _⟩ => ⟨S2x2048x2560, .f32⟩
  | .hbm, ⟨53, _⟩ => ⟨S2560x1024, .f32⟩
  | .hbm, ⟨54, _⟩ => ⟨S1024x2560, .f32⟩
  | .hbm, ⟨55, _⟩ => ⟨S2x2048x1024, .f32⟩
  | .hbm, ⟨56, _⟩ => ⟨S_, .f32⟩
  | .hbm, ⟨57, _⟩ => ⟨S2x1024, .f32⟩
  | .hbm, ⟨58, _⟩ => ⟨S2x1x1024, .f32⟩
  | .hbm, ⟨59, _⟩ => ⟨S2x2048x1024, .f32⟩
  | .hbm, ⟨60, _⟩ => ⟨S_, .f32⟩
  | .hbm, ⟨61, _⟩ => ⟨S2x1024, .f32⟩
  | .hbm, ⟨62, _⟩ => ⟨S2x1x1024, .f32⟩
  | .hbm, ⟨63, _⟩ => ⟨S2x2048x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S_, .f32⟩
  | .hbm, ⟨72, _⟩ => ⟨S1024, .f32⟩
  | .hbm, ⟨73, _⟩ => ⟨S2x2048x1024, .f32⟩
  | .hbm, ⟨74, _⟩ => ⟨S_, .f32⟩
  | .hbm, ⟨75, _⟩ => ⟨S2x2048, .f32⟩
  | .hbm, ⟨76, _⟩ => ⟨S2x2048x1, .f32⟩
  | .hbm, ⟨77, _⟩ => ⟨S2x2048x1024, .f32⟩
  | .hbm, ⟨78, _⟩ => ⟨S2x2048x1024, .f32⟩
  | .hbm, ⟨79, _⟩ => ⟨S2x2048x1, .f32⟩
  | .hbm, ⟨80, _⟩ => ⟨S_, .f32⟩
  | .hbm, ⟨81, _⟩ => ⟨S2x2048x1, .f32⟩
  | .hbm, ⟨82, _⟩ => ⟨S2x2048x1, .f32⟩
  | .hbm, ⟨83, _⟩ => ⟨S_, .f32⟩
  | .hbm, ⟨84, _⟩ => ⟨S2x2048, .f32⟩
  | .hbm, ⟨85, _⟩ => ⟨S2x2048x1024, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S1x1024, .f32⟩
  | .hbm, ⟨91, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Proof.Heads.lean ====
/- Four heads side by side in 256 columns: splitting a sum over the columns by head, what a block-diagonal matrix leaves of such a sum, and the mask the
   kernels build from two integer iotas, which is one where row and column are of one head. -/
module

public import Idealize.ShloMosaic.Lib.Pipeline.ValueKit
public import Idealize.ShloMosaic.PureOps

@[expose] public section

set_option maxRecDepth 16384

noncomputable section

namespace Cert.Heads

open Idealize.ShloMosaic

/-- Column `d` of head `h`. -/
def hd (h : Fin 4) (d : Fin 64) : Fin 256 := ⟨64 * h.val + d.val, by have := h.isLt; have := d.isLt; omega⟩

/-- The head of a column. -/
def headOf (i : Fin 256) : Fin 4 := ⟨i.val / 64, by have := i.isLt; omega⟩

/-- A column's place within its head. -/
def withinOf (i : Fin 256) : Fin 64 := ⟨i.val % 64, Nat.mod_lt _ (by decide)⟩

theorem headOf_hd (h : Fin 4) (d : Fin 64) : headOf (hd h d) = h := by
  have := d.isLt
  apply Fin.ext
  show (64 * h.val + d.val) / 64 = h.val
  omega

theorem withinOf_hd (h : Fin 4) (d : Fin 64) : withinOf (hd h d) = d := by
  have := d.isLt
  apply Fin.ext
  show (64 * h.val + d.val) % 64 = d.val
  omega

theorem hd_of (i : Fin 256) : hd (headOf i) (withinOf i) = i := by
  apply Fin.ext
  show 64 * (i.val / 64) + i.val % 64 = i.val
  omega

/-- The columns are the pairs of a head and a place within it. -/
def hdEquiv : Fin 4 × Fin 64 ≃ Fin 256 where
  toFun p := hd p.1 p.2
  invFun i := (headOf i, withinOf i)
  left_inv p := by
    show (headOf (hd p.1 p.2), withinOf (hd p.1 p.2)) = p
    rw [headOf_hd, withinOf_hd]
  right_inv i := hd_of i

/-- A sum over the columns, by head. -/
theorem sum_heads {M : Type} [AddCommMonoid M] (f : Fin 256 → M) : ∑ k : Fin 256, f k = ∑ h : Fin 4, ∑ d : Fin 64, f (hd h d) := by
  rw [← Equiv.sum_comp hdEquiv f, Fintype.sum_prod_type]
  rfl

/-- A sum over the columns against what is zero outside head `h` is the sum over that head's columns. -/
theorem sum_block {M : Type} [AddCommMonoid M] (f : Fin 256 → M) (h : Fin 4) (g : Fin 64 → M)
    (hon : ∀ d, f (hd h d) = g d) (hoff : ∀ h' d, h' ≠ h → f (hd h' d) = 0) : ∑ k : Fin 256, f k = ∑ d : Fin 64, g d := by
  rw [sum_heads, Finset.sum_eq_single h]
  · exact Finset.sum_congr rfl fun d _ => hon d
  · intro h' _ hne
    exact Finset.sum_eq_zero fun d _ => hoff h' d hne
  · intro hn
    exact absurd (Finset.mem_univ h) hn

abbrev T256x256 : Shape := ⟨2, ![256, 256]⟩
abbrev T64x256 : Shape := ⟨2, ![64, 256]⟩

/-- The quotient of a nonnegative word by 64, rounded down, as the kernels spell it: the truncated quotient, less one where the signs differ and
    the division leaves a rest. -/
def floor64 (v : IVec T256x256 32) : IVec T256x256 32 :=
  select (andi (cmpi .ne (subi (extui 32 (cmpi .sgt v (broadcast T256x256 0#32)) (by decide)) (extui 32 (cmpi .slt v (broadcast T256x256 0#32)) (by decide)))
      (broadcast T256x256 (Scalar.subi (Scalar.extui (Scalar.cmpi .sgt 64#32 0#32)) (Scalar.extui (Scalar.cmpi .slt 64#32 0#32)))))
      (cmpi .ne (remsi v (broadcast T256x256 64#32)) (broadcast T256x256 0#32)))
    (subi (divsi v (broadcast T256x256 64#32)) (broadcast T256x256 1#32)) (divsi v (broadcast T256x256 64#32))

/-- One where row and column are of one head. -/
def mask (h0 : T256x256.Iotas .tc 32 [0]) (h1 : T256x256.Iotas .tc 32 [1]) : IVec T256x256 1 :=
  cmpi .eq (floor64 (iota .tc T256x256 32 [0] h0)) (floor64 (iota .tc T256x256 32 [1] h1))

/-- The same quotient of one word. -/
def floor64w (x : BitVec 32) : BitVec 32 :=
  if IntOp.cmpi .ne ((IntOp.cmpi .sgt x 0#32).setWidth 32 - (IntOp.cmpi .slt x 0#32).setWidth 32)
      (Scalar.subi (Scalar.extui (Scalar.cmpi .sgt 64#32 0#32)) (Scalar.extui (Scalar.cmpi .slt 64#32 0#32)))
      &&& IntOp.cmpi .ne (IntOp.remsi .vector x 64#32) 0#32 = 1
    then IntOp.divsi .vector x 64#32 - 1#32 else IntOp.divsi .vector x 64#32

theorem floor64_apply (v : IVec T256x256 32) (i : T256x256.Idx) : floor64 v i = floor64w (v i) := rfl

theorem floor64w_fin : ∀ k : Fin 256, floor64w (BitVec.ofNat 32 k.val) = BitVec.ofNat 32 (k.val / 64) := by decide +kernel

theorem mask_apply (h0 : T256x256.Iotas .tc 32 [0]) (h1 : T256x256.Iotas .tc 32 [1]) (i j : Fin 256) :
    mask h0 h1 (ix2 i j) = if headOf i = headOf j then 1 else 0 := by
  have e0 : floor64 (iota .tc T256x256 32 [0] h0) (ix2 i j) = BitVec.ofNat 32 (i.val / 64) := by
    rw [floor64_apply, ← floor64w_fin i]
    refine congrArg floor64w (congrArg (BitVec.ofNat 32) ?_)
    show 0 * 256 + i.val = i.val
    omega
  have e1 : floor64 (iota .tc T256x256 32 [1] h1) (ix2 i j) = BitVec.ofNat 32 (j.val / 64) := by
    rw [floor64_apply, ← floor64w_fin j]
    refine congrArg floor64w (congrArg (BitVec.ofNat 32) ?_)
    show 0 * 256 + j.val = j.val
    omega
  show IntOp.cmpi .eq (floor64 (iota .tc T256x256 32 [0] h0) (ix2 i j)) (floor64 (iota .tc T256x256 32 [1] h1) (ix2 i j)) = _
  rw [e0, e1]
  have hi := i.isLt
  have hj := j.isLt
  by_cases h : headOf i = headOf j
  · have hv : i.val / 64 = j.val / 64 := congrArg Fin.val h
    rw [if_pos h, hv]
    simp [IntOp.cmpi]
  · have hv : i.val / 64 ≠ j.val / 64 := fun e => h (Fin.ext e)
    rw [if_neg h]
    have hne : (BitVec.ofNat 32 (i.val / 64) == BitVec.ofNat 32 (j.val / 64)) = false := by
      rw [beq_eq_false_iff_ne]
      intro e
      apply hv
      have := congrArg BitVec.toNat e
      simp only [BitVec.toNat_ofNat] at this
      omega
    show BitVec.ofBool (BitVec.ofNat 32 (i.val / 64) == BitVec.ofNat 32 (j.val / 64)) = 0
    rw [hne]
    rfl

/-- A select by the mask, at an index: the value where row and column are of one head. -/
theorem select_mask_apply {α : Type} (h0 : T256x256.Iotas .tc 32 [0]) (h1 : T256x256.Iotas .tc 32 [1]) (x y : T256x256.Idx → α) (i j : Fin 256) :
    select (mask h0 h1) x y (ix2 i j) = if headOf i = headOf j then x (ix2 i j) else y (ix2 i j) := by
  show (if mask h0 h1 (ix2 i j) = 1 then x (ix2 i j) else y (ix2 i j)) = _
  rw [mask_apply]
  by_cases h : headOf i = headOf j
  · rw [if_pos h, if_pos h, if_pos rfl]
  · rw [if_neg h, if_neg h, if_neg (by decide)]

end Cert.Heads

end
-- ==== Proof.Spec.lean ====
/- The gated delta rule on one chunk of one head, over the extended reals: 64 rows of 64 channels, and a 64 by 64 state. -/
module

public import proofs.«01_k».proof.Proof.Heads

@[expose] public section

noncomputable section

namespace Cert.Spec

open Idealize.ShloMosaic Cert.Heads

/-- A chunk's rows, or the state, of one head. -/
abbrev Mat := Fin 64 → Fin 64 → EReal

/-- The corrected values: `u - w S`. -/
def vNew (S u w : Mat) : Mat := fun c e => u c e - ∑ d : Fin 64, w c d * S d e

/-- The chunk's output before its norm: `qd S + qk v`. -/
def outO (S qk qd v : Mat) : Mat := fun c e => (∑ d : Fin 64, qd c d * S d e) + ∑ s : Fin 64, qk c s * v s e

/-- The state after the chunk: every channel scaled by its decay (the first row of `cd`), plus `ktᵀ v`. -/
def nextS (S kt cd v : Mat) : Mat := fun d e => S d e * cd 0 e + ∑ c : Fin 64, kt c d * v c e

/-- The mean square of a row, plus the norm's epsilon. -/
def meanE (o : Mat) (c : Fin 64) : EReal :=
  Ideal.div (∑ e : Fin 64, o c e * o c e) (Scalar.ofBits (F := Ideal) .f32 0x42800000#32) + Scalar.ofBits (F := Ideal) .f32 0x358637BD#32

/-- The gated norm of the output. -/
def outY (o z : Mat) (g : Fin 64 → EReal) : Mat := fun c e =>
  o c e * Ideal.rsqrt (meanE o c) * g e * (z c e * Ideal.logistic (z c e))

/-! ## The whole sequence -/

/-- An array of 2048 rows of four heads for each of two batch elements. -/
abbrev Tok := (⟨3, ![2, 2048, 256]⟩ : Shape).Idx → EReal

/-- Row `c` of chunk `n`. -/
def row (n : ℕ) (c : Fin 64) : Fin 2048 := ⟨(64 * n + c.val) % 2048, Nat.mod_lt _ (by decide)⟩

/-- Chunk `n` of batch element `b`, head `h`. -/
def chunk (x : Tok) (b : Fin 2) (n : ℕ) (h : Fin 4) : Mat := fun c e => x (ix3 b (row n c) (hd h e))

/-- The state before chunk `n`: zero before the first chunk, then the recurrence. -/
def stateAt (u w kt cd : Tok) (b : Fin 2) (h : Fin 4) : ℕ → Mat
  | 0 => fun _ _ => 0
  | n + 1 => nextS (stateAt u w kt cd b h n) (chunk kt b n h) (chunk cd b n h)
      (vNew (stateAt u w kt cd b h n) (chunk u b n h) (chunk w b n h))

/-- The gated output of chunk `n`. -/
def yAt (qk qd u w kt cd z : Tok) (g : Fin 64 → EReal) (b : Fin 2) (h : Fin 4) (n : ℕ) : Mat :=
  outY (outO (stateAt u w kt cd b h n) (chunk qk b n h) (chunk qd b n h) (vNew (stateAt u w kt cd b h n) (chunk u b n h) (chunk w b n h)))
    (chunk z b n h) g

end Cert.Spec

end
-- ==== Proof.Chunk.lean ====
/- What the forward kernel computes of one chunk of one batch element, as operations on the four heads side by side, and each of these operations read at an
   index of one head: on a block-diagonal state it is the chunk's computation of that head alone. -/
module

public import proofs.«01_k».proof.Proof.Heads
public import proofs.«01_k».proof.Proof.Spec

@[expose] public section

set_option maxRecDepth 16384

noncomputable section

namespace Cert.Chunk

open Idealize.ShloMosaic Cert.Heads Cert.Spec

abbrev T64x64 : Shape := ⟨2, ![64, 64]⟩
abbrev T64x1 : Shape := ⟨2, ![64, 1]⟩
abbrev T1x64 : Shape := ⟨2, ![1, 64]⟩
abbrev T1x256 : Shape := ⟨2, ![1, 256]⟩
abbrev T64 : Shape := ⟨1, ![64]⟩

/-- A chunk of one batch element, all heads. -/
abbrev Rows := FVec Ideal T64x256 .f32
/-- A state of one batch element, all heads. -/
abbrev Sq := FVec Ideal T256x256 .f32

def dotRC : DotDims T64x256 T256x256 T64x256 where
  lhsContracting := [1]
  rhsContracting := [0]
  lhsNonContracting := [0]
  rhsNonContracting := [1]
  lhsBatch := []
  rhsBatch := []
  wf := by decide

def dotCC : DotDims T64x256 T64x256 T256x256 where
  lhsContracting := [0]
  rhsContracting := [0]
  lhsNonContracting := [1]
  rhsNonContracting := [1]
  lhsBatch := []
  rhsBatch := []
  wf := by decide

/-- `x y`, at the kernel's formats. -/
def mulRC (x : Rows) (y : Sq) : Rows :=
  matmul dotRC none (truncf .bf16 x (by decide)) (truncf .bf16 y (by decide)) (constant T64x256 .f32 0x00000000#32)

/-- `xᵀ y`. -/
def mulCC (x y : Rows) : Sq :=
  matmul dotCC none (truncf .bf16 x (by decide)) (truncf .bf16 y (by decide)) (constant T256x256 .f32 0x00000000#32)

/-- What the mask leaves of a square. -/
def maskV (x : Sq) : Sq :=
  select (mask (by decide) (by decide)) x (broadcast T256x256 (Scalar.ofBits (F := Ideal) .f32 0x00000000#32))

/-- Four copies of the rows, one under another, then the mask: the heads as diagonal blocks. -/
def diagV (x : Rows) : Sq :=
  maskV (concatenate T256x256 0 [⟨T64x256, x⟩, ⟨T64x256, x⟩, ⟨T64x256, x⟩, ⟨T64x256, x⟩]
    (by show Shape.Concatenates [T64x256, T64x256, T64x256, T64x256] T256x256 0; decide))

/-- The four diagonal blocks side by side. -/
def compactV (s : Sq) : Rows :=
  addf (addf (addf (extractStridedSlice T64x256 ![0, 0] s (by decide)) (extractStridedSlice T64x256 ![64, 0] s (by decide)))
    (extractStridedSlice T64x256 ![128, 0] s (by decide))) (extractStridedSlice T64x256 ![192, 0] s (by decide))

def vNewV (s : Sq) (u w : Rows) : Rows := subf u (mulRC w s)

def outOV (s : Sq) (qk qd v : Rows) : Rows := addf (mulRC qd s) (mulRC qk (diagV v))

/-- The first row, over all rows. -/
def row0V (cd : Rows) : Sq :=
  broadcastTo T256x256 (shapeCast T1x256 (extractStridedSlice T1x256 ![0, 0] cd (by decide)) (by decide)) (by decide)

def nextSV (s : Sq) (kt cd v : Rows) : Sq := addf (mulf s (row0V cd)) (maskV (mulCC kt v))

/-- The norm's denominator of one head's rows. -/
def meanV (o : FVec Ideal T64x64 .f32) : FVec Ideal T64x1 .f32 :=
  addf (divf (shapeCast T64x1 (multiReduction .add [1] T64 (mulf o o) 0x00000000#32 (by decide) (.inl rfl) rfl) (by decide))
    (broadcast T64x1 (Scalar.ofBits (F := Ideal) .f32 0x42800000#32))) (broadcast T64x1 (Scalar.ofBits (F := Ideal) .f32 0x358637BD#32))

/-- One head's gated norm. -/
def headY (o z : FVec Ideal T64x64 .f32) (g : FVec Ideal T1x64 .f32) : FVec Ideal T64x64 .f32 :=
  mulf (mulf (mulf o (broadcastTo T64x64 (rsqrt (meanV o)) (by decide))) (broadcastTo T64x64 g (by decide))) (mulf z (logistic z))

/-- The columns of one head. -/
def colsV0 (x : Rows) : FVec Ideal T64x64 .f32 := extractStridedSlice T64x64 ![0, 0] x (by decide)
def colsV1 (x : Rows) : FVec Ideal T64x64 .f32 := extractStridedSlice T64x64 ![0, 64] x (by decide)
def colsV2 (x : Rows) : FVec Ideal T64x64 .f32 := extractStridedSlice T64x64 ![0, 128] x (by decide)
def colsV3 (x : Rows) : FVec Ideal T64x64 .f32 := extractStridedSlice T64x64 ![0, 192] x (by decide)

/-- Four heads side by side. -/
def besideV (a b c d : FVec Ideal T64x64 .f32) : Rows :=
  concatenate T64x256 1 [⟨T64x64, a⟩, ⟨T64x64, b⟩, ⟨T64x64, c⟩, ⟨T64x64, d⟩]
    (by show Shape.Concatenates [T64x64, T64x64, T64x64, T64x64] T64x256 1; decide)

def outYV (o z : Rows) (g : FVec Ideal T1x64 .f32) : Rows :=
  besideV (headY (colsV0 o) (colsV0 z) g) (headY (colsV1 o) (colsV1 z) g) (headY (colsV2 o) (colsV2 z) g) (headY (colsV3 o) (colsV3 z) g)

/-! ## At an index of one head -/

/-- Head `h`'s columns of a chunk. -/
def cols (x : Rows) (h : Fin 4) : Mat := fun c e => x (ix2 c (hd h e))

/-- The square is block-diagonal, head `h`'s block `M h`. -/
def Diag (s : Sq) (M : Fin 4 → Mat) : Prop := ∀ h' d h e, s (ix2 (hd h' d) (hd h e)) = if h' = h then M h d e else 0

theorem mulRC_apply (x : Rows) (y : Sq) (c : Fin 64) (k : Fin 256) : mulRC x y (ix2 c k) = ∑ j : Fin 256, x (ix2 c j) * y (ix2 j k) := by
  unfold mulRC
  pointwise

theorem mulCC_apply (x y : Rows) (i j : Fin 256) : mulCC x y (ix2 i j) = ∑ c : Fin 64, x (ix2 c i) * y (ix2 c j) := by
  unfold mulCC
  pointwise

theorem zero_word : Scalar.ofBits (F := Ideal) .f32 0x00000000#32 = (0 : EReal) := by
  pointwise

theorem maskV_apply (x : Sq) (i j : Fin 256) : maskV x (ix2 i j) = if headOf i = headOf j then x (ix2 i j) else 0 := by
  unfold maskV
  rw [select_mask_apply]
  refine if_congr Iff.rfl rfl ?_
  exact zero_word

theorem diagV_apply (x : Rows) (i j : Fin 256) : diagV x (ix2 i j) = if headOf i = headOf j then x (ix2 (withinOf i) j) else 0 := by
  unfold diagV
  rw [maskV_apply]
  refine if_congr Iff.rfl ?_ rfl
  refine concatenate_replicate_apply (t := T256x256) (s₁ := T64x256) 0 4 x _ rfl (ix2 i j) (ix2 (withinOf i) j) rfl ?_
  intro b hb
  match b with
  | ⟨0, _⟩ => exact absurd rfl hb
  | ⟨1, _⟩ => rfl

theorem diagV_diag (x : Rows) : Diag (diagV x) (cols x) := by
  intro h' d h e
  rw [diagV_apply, headOf_hd, headOf_hd, withinOf_hd]
  rfl

theorem hd_mk (h : Fin 4) (d : Fin 64) {k : ℕ} (hk : k < 256) (e : k = 64 * h.val + d.val) : (⟨k, hk⟩ : Fin 256) = hd h d := Fin.ext e

theorem compactV_apply (s : Sq) (c : Fin 64) (k : Fin 256) :
    compactV s (ix2 c k) = s (ix2 (hd 0 c) k) + s (ix2 (hd 1 c) k) + s (ix2 (hd 2 c) k) + s (ix2 (hd 3 c) k) := by
  unfold compactV
  pointwise
  rw [hd_mk 0 c _ (by simp), hd_mk 1 c _ (by simp), hd_mk 2 c _ (by simp), hd_mk 3 c _ (by simp)]

theorem compactV_diag {s : Sq} {M : Fin 4 → Mat} (hs : Diag s M) (h : Fin 4) : cols (compactV s) h = M h := by
  funext c e
  show compactV s (ix2 c (hd h e)) = M h c e
  rw [compactV_apply, hs, hs, hs, hs]
  fin_cases h <;> simp

theorem vNewV_diag {s : Sq} {M : Fin 4 → Mat} (hs : Diag s M) (u w : Rows) (h : Fin 4) :
    cols (vNewV s u w) h = vNew (M h) (cols u h) (cols w h) := by
  funext c e
  show u (ix2 c (hd h e)) - mulRC w s (ix2 c (hd h e)) = _
  rw [mulRC_apply, sum_block _ h (fun d => w (ix2 c (hd h d)) * M h d e)]
  · rfl
  · intro d
    rw [hs, if_pos rfl]
  · intro h' d hne
    rw [hs, if_neg hne, mul_zero]

theorem mulRC_diag {s : Sq} {M : Fin 4 → Mat} (hs : Diag s M) (x : Rows) (h : Fin 4) :
    cols (mulRC x s) h = fun c e => ∑ d : Fin 64, cols x h c d * M h d e := by
  funext c e
  show mulRC x s (ix2 c (hd h e)) = _
  rw [mulRC_apply, sum_block _ h (fun d => x (ix2 c (hd h d)) * M h d e)]
  · rfl
  · intro d
    rw [hs, if_pos rfl]
  · intro h' d hne
    rw [hs, if_neg hne, mul_zero]

theorem outOV_diag {s : Sq} {M : Fin 4 → Mat} (hs : Diag s M) (qk qd v : Rows) (h : Fin 4) :
    cols (outOV s qk qd v) h = outO (M h) (cols qk h) (cols qd h) (cols v h) := by
  funext c e
  show cols (mulRC qd s) h c e + cols (mulRC qk (diagV v)) h c e = _
  rw [mulRC_diag hs, mulRC_diag (diagV_diag v)]
  rfl

theorem row0V_apply (cd : Rows) (i k : Fin 256) : row0V cd (ix2 i k) = cd (ix2 (0 : Fin 64) k) := by
  unfold row0V
  pointwise

theorem nextSV_diag {s : Sq} {M : Fin 4 → Mat} (hs : Diag s M) (kt cd v : Rows) :
    Diag (nextSV s kt cd v) fun h => nextS (M h) (cols kt h) (cols cd h) (cols v h) := by
  intro h' d h e
  show s (ix2 (hd h' d) (hd h e)) * row0V cd (ix2 (hd h' d) (hd h e)) + maskV (mulCC kt v) (ix2 (hd h' d) (hd h e)) = _
  rw [hs, row0V_apply, maskV_apply, headOf_hd, headOf_hd, mulCC_apply]
  by_cases hh : h' = h
  · subst hh
    rw [if_pos rfl, if_pos rfl, if_pos rfl]
    rfl
  · rw [if_neg hh, if_neg hh, if_neg hh, zero_mul, zero_add]

theorem meanV_apply (o : FVec Ideal T64x64 .f32) (c : Fin 64) (z : Fin 1) : meanV o (ix2 c z) = meanE (fun c e => o (ix2 c e)) c := by
  unfold meanV meanE
  pointwise

theorem headY_apply (o z : FVec Ideal T64x64 .f32) (g : FVec Ideal T1x64 .f32) (c e : Fin 64) :
    headY o z g (ix2 c e) = outY (fun c e => o (ix2 c e)) (fun c e => z (ix2 c e)) (fun e => g (ix2 0 e)) c e := by
  unfold headY
  pointwise
  rw [meanV_apply]
  rfl

theorem colsV0_apply (x : Rows) (c e : Fin 64) : colsV0 x (ix2 c e) = cols x 0 c e := by
  unfold colsV0 cols
  pointwise
  rw [hd_mk 0 e _ (by simp)]

theorem colsV1_apply (x : Rows) (c e : Fin 64) : colsV1 x (ix2 c e) = cols x 1 c e := by
  unfold colsV1 cols
  pointwise
  rw [hd_mk 1 e _ (by simp)]

theorem colsV2_apply (x : Rows) (c e : Fin 64) : colsV2 x (ix2 c e) = cols x 2 c e := by
  unfold colsV2 cols
  pointwise
  rw [hd_mk 2 e _ (by simp)]

theorem colsV3_apply (x : Rows) (c e : Fin 64) : colsV3 x (ix2 c e) = cols x 3 c e := by
  unfold colsV3 cols
  pointwise
  rw [hd_mk 3 e _ (by simp)]

/-- Four heads side by side, read at a column of head `h`. -/
theorem besideV_apply (a₀ a₁ a₂ a₃ : FVec Ideal T64x64 .f32) (h : Fin 4) (c e : Fin 64) :
    cols (besideV a₀ a₁ a₂ a₃) h c e = (![a₀, a₁, a₂, a₃] : Fin 4 → FVec Ideal T64x64 .f32) h (ix2 c e) := by
  have he := e.isLt
  have hv : (hd h e).val = 64 * h.val + e.val := rfl
  unfold besideV cols
  match h with
  | 0 | 1 | 2 | 3 =>
    pointwise
    simp only [hv]
    simp (disch := simp; try omega) only [dif_pos, dif_neg]
    congr 2
    apply Fin.ext
    simp
    try omega

/-- The gated norm of every head. -/
theorem outYV_cols (o z : Rows) (g : FVec Ideal T1x64 .f32) (h : Fin 4) : cols (outYV o z g) h = outY (cols o h) (cols z h) fun e => g (ix2 0 e) := by
  funext c e
  unfold outYV
  rw [besideV_apply]
  match h with
  | 0 => exact (headY_apply _ _ _ _ _).trans (by simp only [colsV0_apply])
  | 1 => exact (headY_apply _ _ _ _ _).trans (by simp only [colsV1_apply])
  | 2 => exact (headY_apply _ _ _ _ _).trans (by simp only [colsV2_apply])
  | 3 => exact (headY_apply _ _ _ _ _).trans (by simp only [colsV3_apply])

end Cert.Chunk

end
-- ==== Proof.Batch.lean ====
/- Two batch elements in one buffer: a buffer stored in two pieces, one for each element, holds the stack of the two, and a load of one element's piece is
   that member of the stack. -/
module

public import proofs.«01_k».proof.Proof.Chunk
public import Idealize.ShloMosaic.Lib.Ring
public import Idealize.ShloMosaic.Lib.Pipeline.ReadBack
public import Idealize.ShloMosaic.Lib.Pipeline.ValueKit.Stack

@[expose] public section

set_option maxRecDepth 16384

noncomputable section

namespace Cert.Batch

open Idealize.ShloMosaic Idealize.ShloMosaic.StackMember Cert.Heads Cert.Chunk

abbrev T2x64x256 : Shape := ⟨3, ![2, 64, 256]⟩
abbrev T1x64x256 : Shape := ⟨3, ![1, 64, 256]⟩
abbrev T2x256x256 : Shape := ⟨3, ![2, 256, 256]⟩
abbrev T1x256x256 : Shape := ⟨3, ![1, 256, 256]⟩

/-- The rows of batch element 0, and of batch element 1. -/
def rows0 (x : FVec Ideal T2x64x256 .f32) : Rows :=
  shapeCast T64x256 (View.ld (Val := Elt Ideal) (e' := .f32) x (Rect.unit ![0, 0, 0] ![1, 64, 256] (by decide))) (by decide)
def rows1 (x : FVec Ideal T2x64x256 .f32) : Rows :=
  shapeCast T64x256 (View.ld (Val := Elt Ideal) (e' := .f32) x (Rect.unit ![1, 0, 0] ![1, 64, 256] (by decide))) (by decide)

/-- The square of batch element 0, and of batch element 1. -/
def sq0 (x : FVec Ideal T2x256x256 .f32) : Sq :=
  shapeCast T256x256 (View.ld (Val := Elt Ideal) (e' := .f32) x (Rect.unit ![0, 0, 0] ![1, 256, 256] (by decide))) (by decide)
def sq1 (x : FVec Ideal T2x256x256 .f32) : Sq :=
  shapeCast T256x256 (View.ld (Val := Elt Ideal) (e' := .f32) x (Rect.unit ![1, 0, 0] ![1, 256, 256] (by decide))) (by decide)

theorem rows0_eq (x : FVec Ideal T2x64x256 .f32) : rows0 x = memberAt x 0 := by
  funext j
  idx_vars j
  unfold rows0 memberAt
  pointwise
  exact congrArg x (funext fun a => match a with | ⟨0, _⟩ => rfl | ⟨1, _⟩ => rfl | ⟨2, _⟩ => rfl)

theorem rows1_eq (x : FVec Ideal T2x64x256 .f32) : rows1 x = memberAt x 1 := by
  funext j
  idx_vars j
  unfold rows1 memberAt
  pointwise
  exact congrArg x (funext fun a => match a with | ⟨0, _⟩ => rfl | ⟨1, _⟩ => rfl | ⟨2, _⟩ => rfl)

theorem sq0_eq (x : FVec Ideal T2x256x256 .f32) : sq0 x = memberAt x 0 := by
  funext j
  idx_vars j
  unfold sq0 memberAt
  pointwise
  exact congrArg x (funext fun a => match a with | ⟨0, _⟩ => rfl | ⟨1, _⟩ => rfl | ⟨2, _⟩ => rfl)

theorem sq1_eq (x : FVec Ideal T2x256x256 .f32) : sq1 x = memberAt x 1 := by
  funext j
  idx_vars j
  unfold sq1 memberAt
  pointwise
  exact congrArg x (funext fun a => match a with | ⟨0, _⟩ => rfl | ⟨1, _⟩ => rfl | ⟨2, _⟩ => rfl)

/-- Two batch elements' rows, stacked. -/
def rowsOf (f : Fin 2 → Rows) : FVec Ideal T2x64x256 .f32 := stackAlong0 f

/-- Two batch elements' squares, stacked. -/
def sqsOf (f : Fin 2 → Sq) : FVec Ideal T2x256x256 .f32 := stackAlong0 f

/-- A buffer stored in two pieces, over any earlier stores, holds the stack of the two. -/
theorem canon_rows (x₀ x₁ : Rows) (L : List (View.Piece (Elt Ideal) T2x64x256 .f32)) {i₀ : ∀ a, (![0, 0, 0] : Fin 3 → ℕ) a + T1x64x256.size a ≤ T2x64x256.size a}
    {i₁ : ∀ a, (![1, 0, 0] : Fin 3 → ℕ) a + T1x64x256.size a ≤ T2x64x256.size a} {h₀ h₁ : T64x256.ShapeCasts T1x64x256} :
    View.canon (Val := Elt Ideal) (s := T2x64x256) (e := .f32)
      (⟨Rect.unit ![1, 0, 0] ![1, 64, 256] i₁, shapeCast T1x64x256 x₁ h₁⟩ :: ⟨Rect.unit ![0, 0, 0] ![1, 64, 256] i₀, shapeCast T1x64x256 x₀ h₀⟩ :: L)
      = rowsOf ![x₀, x₁] := by
  funext y
  have hp : View.PiecesOf (Val := Elt Ideal) (s := T2x64x256) (e := .f32) (rowsOf ![x₀, x₁])
      [⟨Rect.unit ![1, 0, 0] ![1, 64, 256] i₁, shapeCast T1x64x256 x₁ h₁⟩, ⟨Rect.unit ![0, 0, 0] ![1, 64, 256] i₀, shapeCast T1x64x256 x₀ h₀⟩] :=
    ⟨fun x => stack_piece_emb ![x₀, x₁] 1 h₁ ![1, 0, 0] i₁ rfl (fun a => by fin_cases a <;> rfl) x,
     fun x => stack_piece_emb ![x₀, x₁] 0 h₀ ![0, 0, 0] i₀ rfl (fun a => by fin_cases a <;> rfl) x, trivial⟩
  exact View.canon_append_of_piecesOf _ L _ hp y (View.cover_of_tiledL (s := T2x64x256) _ ![1, 64, 256] (by sl_kernel_rfl) y)

theorem canon_sqs (x₀ x₁ : Sq) (L : List (View.Piece (Elt Ideal) T2x256x256 .f32)) {i₀ : ∀ a, (![0, 0, 0] : Fin 3 → ℕ) a + T1x256x256.size a ≤ T2x256x256.size a}
    {i₁ : ∀ a, (![1, 0, 0] : Fin 3 → ℕ) a + T1x256x256.size a ≤ T2x256x256.size a} {h₀ h₁ : T256x256.ShapeCasts T1x256x256} :
    View.canon (Val := Elt Ideal) (s := T2x256x256) (e := .f32)
      (⟨Rect.unit ![1, 0, 0] ![1, 256, 256] i₁, shapeCast T1x256x256 x₁ h₁⟩ :: ⟨Rect.unit ![0, 0, 0] ![1, 256, 256] i₀, shapeCast T1x256x256 x₀ h₀⟩ :: L)
      = sqsOf ![x₀, x₁] := by
  funext y
  have hp : View.PiecesOf (Val := Elt Ideal) (s := T2x256x256) (e := .f32) (sqsOf ![x₀, x₁])
      [⟨Rect.unit ![1, 0, 0] ![1, 256, 256] i₁, shapeCast T1x256x256 x₁ h₁⟩, ⟨Rect.unit ![0, 0, 0] ![1, 256, 256] i₀, shapeCast T1x256x256 x₀ h₀⟩] :=
    ⟨fun x => stack_piece_emb ![x₀, x₁] 1 h₁ ![1, 0, 0] i₁ rfl (fun a => by fin_cases a <;> rfl) x,
     fun x => stack_piece_emb ![x₀, x₁] 0 h₀ ![0, 0, 0] i₀ rfl (fun a => by fin_cases a <;> rfl) x, trivial⟩
  exact View.canon_append_of_piecesOf _ L _ hp y (View.cover_of_tiledL (s := T2x256x256) _ ![1, 256, 256] (by sl_kernel_rfl) y)

end Cert.Batch

end
-- ==== Proof.KernelStep.lean ====
/- One grid point of the forward kernel: what it leaves in its two output blocks and in the carried state is the chunk computation of each batch element on
   what its input blocks hold and what the state held before (zeros at the first point). -/
module

public import proofs.«01_k».proof.Proof.Batch
public import proofs.«01_k».proof.Proof.Gen.KernelIdeal.Value

@[expose] public section

set_option maxRecDepth 16384

noncomputable section

namespace Cert.KernelIdeal.Chunks

open Idealize.ShloMosaic Idealize.ShloMosaic.TcCoe Idealize.SL.Sem
open Cert.KernelIdeal Cert.KernelIdeal.Gen Cert.Chunk Cert.Batch

/-- The state after a point, of each batch element. -/
def pointS (u w kt cd : FVec Ideal T2x64x256 .f32) (s : FVec Ideal T2x256x256 .f32) : FVec Ideal T2x256x256 .f32 :=
  sqsOf ![nextSV (sq0 s) (rows0 kt) (rows0 cd) (vNewV (sq0 s) (rows0 u) (rows0 w)),
    nextSV (sq1 s) (rows1 kt) (rows1 cd) (vNewV (sq1 s) (rows1 u) (rows1 w))]

/-- The gated output of a point, of each batch element. -/
def pointY (qk qd u w z : FVec Ideal T2x64x256 .f32) (g : FVec Ideal T1x64 .f32) (s : FVec Ideal T2x256x256 .f32) : FVec Ideal T2x64x256 .f32 :=
  rowsOf ![outYV (outOV (sq0 s) (rows0 qk) (rows0 qd) (vNewV (sq0 s) (rows0 u) (rows0 w))) (rows0 z) g,
    outYV (outOV (sq1 s) (rows1 qk) (rows1 qd) (vNewV (sq1 s) (rows1 u) (rows1 w))) (rows1 z) g]

/-- The state a point starts from, of each batch element. -/
def pointC (s : FVec Ideal T2x256x256 .f32) : FVec Ideal T2x64x256 .f32 := rowsOf ![compactV (sq0 s), compactV (sq1 s)]

/-- The state before the first point. -/
def zeroS : FVec Ideal T2x256x256 .f32 := k0_pay3 (F := Ideal)

variable (m : (ℓ : Loc nD τ sig) → Buf (Elt Ideal) ℓ)

theorem c_B (c : Dev nD) (t : Fin cfg0.N) (h0 : ¬t.val % 32 = 0) :
    (outsAt0 m c t.val t.isLt).2.1 = pointC (outsAt0 m c (t.val - 1) (Nat.lt_of_le_of_lt (Nat.sub_le _ _) t.isLt)).2.2 := by
  rw [outsAt0_B m c t h0]
  frame_open
  simp (disch := decide) only [↓ View.readCov_skip, ↓ View.readCov_cons_toLoadRect, ↓ View.readCov_fill]
  frame_out
  simp only [read_unread_whole]
  exact canon_rows (compactV (sq0 _)) (compactV (sq1 _)) []

theorem c_A (c : Dev nD) (t : Fin cfg0.N) (h0 : t.val % 32 = 0) :
    (outsAt0 m c t.val t.isLt).2.1 = pointC zeroS := by
  rw [outsAt0_A m c t h0]
  frame_open
  simp (disch := decide) only [↓ View.readCov_skip, ↓ View.readCov_cons_toLoadRect, ↓ View.readCov_fill]
  frame_out
  exact canon_rows (compactV (sq0 zeroS)) (compactV (sq1 zeroS)) []

theorem s_B (c : Dev nD) (t : Fin cfg0.N) (h0 : ¬t.val % 32 = 0) :
    (outsAt0 m c t.val t.isLt).2.2 = pointS (iblk m c 2 t) (iblk m c 3 t) (iblk m c 4 t) (iblk m c 5 t)
      (outsAt0 m c (t.val - 1) (Nat.lt_of_le_of_lt (Nat.sub_le _ _) t.isLt)).2.2 := by
  rw [outsAt0_B m c t h0]
  frame_open
  simp (disch := decide) only [↓ View.readCov_skip, ↓ View.readCov_cons_toLoadRect, ↓ View.readCov_fill]
  frame_out
  simp only [read_unread_whole]
  exact canon_sqs _ _ []

theorem s_A (c : Dev nD) (t : Fin cfg0.N) (h0 : t.val % 32 = 0) :
    (outsAt0 m c t.val t.isLt).2.2 = pointS (iblk m c 2 t) (iblk m c 3 t) (iblk m c 4 t) (iblk m c 5 t) zeroS := by
  rw [outsAt0_A m c t h0]
  frame_open
  simp (disch := decide) only [↓ View.readCov_skip, ↓ View.readCov_cons_toLoadRect, ↓ View.readCov_fill]
  frame_out
  exact canon_sqs _ _ _

theorem y_B (c : Dev nD) (t : Fin cfg0.N) (h0 : ¬t.val % 32 = 0) :
    (outsAt0 m c t.val t.isLt).1 = pointY (iblk m c 0 t) (iblk m c 1 t) (iblk m c 2 t) (iblk m c 3 t) (iblk m c 6 t) (iblk m c 7 t)
      (outsAt0 m c (t.val - 1) (Nat.lt_of_le_of_lt (Nat.sub_le _ _) t.isLt)).2.2 := by
  rw [outsAt0_B m c t h0]
  frame_open
  simp (disch := decide) only [↓ View.readCov_skip, ↓ View.readCov_cons_toLoadRect, ↓ View.readCov_fill]
  frame_out
  simp only [read_unread_whole]
  exact canon_rows _ _ []

theorem y_A (c : Dev nD) (t : Fin cfg0.N) (h0 : t.val % 32 = 0) :
    (outsAt0 m c t.val t.isLt).1 = pointY (iblk m c 0 t) (iblk m c 1 t) (iblk m c 2 t) (iblk m c 3 t) (iblk m c 6 t) (iblk m c 7 t) zeroS := by
  rw [outsAt0_A m c t h0]
  frame_open
  simp (disch := decide) only [↓ View.readCov_skip, ↓ View.readCov_cons_toLoadRect, ↓ View.readCov_fill]
  frame_out
  exact canon_rows _ _ []

end Cert.KernelIdeal.Chunks

end
-- ==== Proof.KernelArray.lean ====
/- The arrays the forward kernel leaves: at row `c` of chunk `n`, channel `e` of head `h`, the gated output and the state of the recurrence. -/
module

public import proofs.«01_k».proof.Proof.KernelStep

@[expose] public section

set_option maxRecDepth 16384

noncomputable section

namespace Cert.KernelIdeal.Chunks

open Idealize.ShloMosaic Idealize.ShloMosaic.TcCoe Idealize.SL.Sem Idealize.ShloMosaic.StackMember
open Cert.KernelIdeal Cert.KernelIdeal.Gen Cert.KernelIdeal.Value Cert.Chunk Cert.Batch Cert.Heads Cert.Spec

variable (m : (ℓ : Loc nD τ sig) → Buf (Elt Ideal) ℓ)

theorem N_eq : cfg0.N = 32 := N_0

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, 0] := (by decide +kernel : ∀ t : Fin grid0.N, _)

theorem row_val (n : ℕ) (hn : n < 32) (r : Fin 64) : n * 64 + r.val = (row n r).val := by
  have := r.isLt
  show n * 64 + r.val = (64 * n + r.val) % 2048
  omega

theorem blk0 (c : Dev nD) (t : Fin cfg0.N) (b : Fin 2) (r : Fin 64) (k : Fin 256) :
    iblk m c 0 t (ix3 b r k) = (m ((c : Thread nD τ).loc main_arg0) : Tok) (ix3 b (row t.val r) k) := by
  blk_ext [iblk, V, idx0 t]
  exact row_val t.val (lt_of_lt_of_eq t.isLt N_eq) r

theorem blk1 (c : Dev nD) (t : Fin cfg0.N) (b : Fin 2) (r : Fin 64) (k : Fin 256) :
    iblk m c 1 t (ix3 b r k) = (m ((c : Thread nD τ).loc main_arg1) : Tok) (ix3 b (row t.val r) k) := by
  blk_ext [iblk, V, idx1 t]
  exact row_val t.val (lt_of_lt_of_eq t.isLt N_eq) r

theorem blk2 (c : Dev nD) (t : Fin cfg0.N) (b : Fin 2) (r : Fin 64) (k : Fin 256) :
    iblk m c 2 t (ix3 b r k) = (m ((c : Thread nD τ).loc main_arg2) : Tok) (ix3 b (row t.val r) k) := by
  blk_ext [iblk, V, idx2 t]
  exact row_val t.val (lt_of_lt_of_eq t.isLt N_eq) r

theorem blk3 (c : Dev nD) (t : Fin cfg0.N) (b : Fin 2) (r : Fin 64) (k : Fin 256) :
    iblk m c 3 t (ix3 b r k) = (m ((c : Thread nD τ).loc main_arg3) : Tok) (ix3 b (row t.val r) k) := by
  blk_ext [iblk, V, idx3 t]
  exact row_val t.val (lt_of_lt_of_eq t.isLt N_eq) r

theorem blk4 (c : Dev nD) (t : Fin cfg0.N) (b : Fin 2) (r : Fin 64) (k : Fin 256) :
    iblk m c 4 t (ix3 b r k) = (m ((c : Thread nD τ).loc main_arg4) : Tok) (ix3 b (row t.val r) k) := by
  blk_ext [iblk, V, idx4 t]
  exact row_val t.val (lt_of_lt_of_eq t.isLt N_eq) r

theorem blk5 (c : Dev nD) (t : Fin cfg0.N) (b : Fin 2) (r : Fin 64) (k : Fin 256) :
    iblk m c 5 t (ix3 b r k) = (m ((c : Thread nD τ).loc main_arg5) : Tok) (ix3 b (row t.val r) k) := by
  blk_ext [iblk, V, idx5 t]
  exact row_val t.val (lt_of_lt_of_eq t.isLt N_eq) r

theorem blk6 (c : Dev nD) (t : Fin cfg0.N) (b : Fin 2) (r : Fin 64) (k : Fin 256) :
    iblk m c 6 t (ix3 b r k) = (m ((c : Thread nD τ).loc main_arg6) : Tok) (ix3 b (row t.val r) k) := by
  blk_ext [iblk, V, idx6 t]
  exact row_val t.val (lt_of_lt_of_eq t.isLt N_eq) r

theorem blk7 (c : Dev nD) (t : Fin cfg0.N) (e : Fin 64) :
    iblk m c 7 t (ix2 0 e) = (m ((c : Thread nD τ).loc main_arg7)) (ix2 0 e) := by
  blk_ext [iblk, V, idx7 t]

/-- Member `b` of a stack at row `r` and column `k`. -/
theorem memberAt_ix {d : ℕ} (x : FVec Ideal ⟨3, ![2, d, 256]⟩ .f32) (b : Fin 2) (r : Fin d) (k : Fin 256) :
    (memberAt x b : FVec Ideal ⟨2, ![d, 256]⟩ .f32) (ix2 r k) = x (ix3 b r k) :=
  congrArg x (funext fun a => match a with | ⟨0, _⟩ => rfl | ⟨1, _⟩ => rfl | ⟨2, _⟩ => rfl)

theorem cols0 (c : Dev nD) (t : Fin cfg0.N) (b : Fin 2) (h : Fin 4) :
    cols (memberAt (iblk m c 0 t) b) h = chunk (m ((c : Thread nD τ).loc main_arg0)) b t.val h := by
  funext r e
  exact (memberAt_ix (d := 64) _ b r (hd h e)).trans (blk0 m c t b r (hd h e))

theorem cols1 (c : Dev nD) (t : Fin cfg0.N) (b : Fin 2) (h : Fin 4) :
    cols (memberAt (iblk m c 1 t) b) h = chunk (m ((c : Thread nD τ).loc main_arg1)) b t.val h := by
  funext r e
  exact (memberAt_ix (d := 64) _ b r (hd h e)).trans (blk1 m c t b r (hd h e))

theorem cols2 (c : Dev nD) (t : Fin cfg0.N) (b : Fin 2) (h : Fin 4) :
    cols (memberAt (iblk m c 2 t) b) h = chunk (m ((c : Thread nD τ).loc main_arg2)) b t.val h := by
  funext r e
  exact (memberAt_ix (d := 64) _ b r (hd h e)).trans (blk2 m c t b r (hd h e))

theorem cols3 (c : Dev nD) (t : Fin cfg0.N) (b : Fin 2) (h : Fin 4) :
    cols (memberAt (iblk m c 3 t) b) h = chunk (m ((c : Thread nD τ).loc main_arg3)) b t.val h := by
  funext r e
  exact (memberAt_ix (d := 64) _ b r (hd h e)).trans (blk3 m c t b r (hd h e))

theorem cols4 (c : Dev nD) (t : Fin cfg0.N) (b : Fin 2) (h : Fin 4) :
    cols (memberAt (iblk m c 4 t) b) h = chunk (m ((c : Thread nD τ).loc main_arg4)) b t.val h := by
  funext r e
  exact (memberAt_ix (d := 64) _ b r (hd h e)).trans (blk4 m c t b r (hd h e))

theorem cols5 (c : Dev nD) (t : Fin cfg0.N) (b : Fin 2) (h : Fin 4) :
    cols (memberAt (iblk m c 5 t) b) h = chunk (m ((c : Thread nD τ).loc main_arg5)) b t.val h := by
  funext r e
  exact (memberAt_ix (d := 64) _ b r (hd h e)).trans (blk5 m c t b r (hd h e))

theorem cols6 (c : Dev nD) (t : Fin cfg0.N) (b : Fin 2) (h : Fin 4) :
    cols (memberAt (iblk m c 6 t) b) h = chunk (m ((c : Thread nD τ).loc main_arg6)) b t.val h := by
  funext r e
  exact (memberAt_ix (d := 64) _ b r (hd h e)).trans (blk6 m c t b r (hd h e))

/-- The state a point starts from. -/
def pre (c : Dev nD) : (n : ℕ) → n < cfg0.N → FVec Ideal T2x256x256 .f32
  | 0, _ => zeroS
  | n + 1, h => (outsAt0 m c n (Nat.lt_of_succ_lt h)).2.2

theorem mod_succ {n : ℕ} (h : n + 1 < cfg0.N) : ¬(n + 1) % 32 = 0 := by
  have := lt_of_lt_of_eq h N_eq
  omega

theorem s_eq (c : Dev nD) (n : ℕ) (h : n < cfg0.N) :
    (outsAt0 m c n h).2.2 = pointS (iblk m c 2 ⟨n, h⟩) (iblk m c 3 ⟨n, h⟩) (iblk m c 4 ⟨n, h⟩) (iblk m c 5 ⟨n, h⟩) (pre m c n h) :=
  match n, h with
  | 0, h => s_A m c ⟨0, h⟩ rfl
  | n + 1, h => s_B m c ⟨n + 1, h⟩ (mod_succ h)

theorem y_eq (c : Dev nD) (n : ℕ) (h : n < cfg0.N) :
    (outsAt0 m c n h).1 = pointY (iblk m c 0 ⟨n, h⟩) (iblk m c 1 ⟨n, h⟩) (iblk m c 2 ⟨n, h⟩) (iblk m c 3 ⟨n, h⟩) (iblk m c 6 ⟨n, h⟩) (iblk m c 7 ⟨n, h⟩)
      (pre m c n h) :=
  match n, h with
  | 0, h => y_A m c ⟨0, h⟩ rfl
  | n + 1, h => y_B m c ⟨n + 1, h⟩ (mod_succ h)

theorem c_eq (c : Dev nD) (n : ℕ) (h : n < cfg0.N) : (outsAt0 m c n h).2.1 = pointC (pre m c n h) :=
  match n, h with
  | 0, h => c_A m c ⟨0, h⟩ rfl
  | n + 1, h => c_B m c ⟨n + 1, h⟩ (mod_succ h)

/-- The arguments, as arrays of rows. -/
abbrev A (c : Dev nD) : Fin 7 → Tok
  | 0 => m ((c : Thread nD τ).loc main_arg0)
  | 1 => m ((c : Thread nD τ).loc main_arg1)
  | 2 => m ((c : Thread nD τ).loc main_arg2)
  | 3 => m ((c : Thread nD τ).loc main_arg3)
  | 4 => m ((c : Thread nD τ).loc main_arg4)
  | 5 => m ((c : Thread nD τ).loc main_arg5)
  | 6 => m ((c : Thread nD τ).loc main_arg6)

/-- The norm's gain. -/
abbrev G (c : Dev nD) : Fin 64 → EReal := fun e => (m ((c : Thread nD τ).loc main_arg7)) (ix2 0 e)

abbrev ST (c : Dev nD) (b : Fin 2) (n : ℕ) : Fin 4 → Mat := fun h => stateAt (A m c 2) (A m c 3) (A m c 4) (A m c 5) b h n

theorem pointS_member (u w kt cd : FVec Ideal T2x64x256 .f32) (s : FVec Ideal T2x256x256 .f32) (b : Fin 2) :
    memberAt (pointS u w kt cd s) b = nextSV (memberAt s b) (memberAt kt b) (memberAt cd b) (vNewV (memberAt s b) (memberAt u b) (memberAt w b)) := by
  unfold pointS sqsOf
  rw [memberAt_stackAlong0, sq0_eq, sq1_eq]
  simp only [rows0_eq, rows1_eq]
  match b with
  | 0 => rfl
  | 1 => rfl

theorem pointY_member (qk qd u w z : FVec Ideal T2x64x256 .f32) (g : FVec Ideal T1x64 .f32) (s : FVec Ideal T2x256x256 .f32) (b : Fin 2) :
    memberAt (pointY qk qd u w z g s) b
      = outYV (outOV (memberAt s b) (memberAt qk b) (memberAt qd b) (vNewV (memberAt s b) (memberAt u b) (memberAt w b))) (memberAt z b) g := by
  unfold pointY rowsOf
  rw [memberAt_stackAlong0, sq0_eq, sq1_eq]
  simp only [rows0_eq, rows1_eq]
  match b with
  | 0 => rfl
  | 1 => rfl

theorem pointC_member (s : FVec Ideal T2x256x256 .f32) (b : Fin 2) : memberAt (pointC s) b = compactV (memberAt s b) := by
  unfold pointC rowsOf
  rw [memberAt_stackAlong0, sq0_eq, sq1_eq]
  match b with
  | 0 => rfl
  | 1 => rfl

theorem zeroS_diag (b : Fin 2) : Diag (memberAt zeroS b) fun _ _ _ => 0 := by
  intro h' d h e
  rw [ite_self]
  exact zero_word

/-- Before every point the carried state of each batch element is block-diagonal, its blocks the recurrence's states. -/
theorem pre_diag (c : Dev nD) (b : Fin 2) : ∀ (n : ℕ) (h : n < cfg0.N), Diag (memberAt (pre m c n h) b) (ST m c b n)
  | 0, _ => zeroS_diag b
  | n + 1, h => by
    have ih := pre_diag c b n (Nat.lt_of_succ_lt h)
    show Diag (memberAt (outsAt0 m c n _).2.2 b) _
    rw [s_eq, pointS_member]
    have e := nextSV_diag ih (memberAt (iblk m c 4 ⟨n, Nat.lt_of_succ_lt h⟩) b) (memberAt (iblk m c 5 ⟨n, Nat.lt_of_succ_lt h⟩) b)
      (vNewV (memberAt (pre m c n (Nat.lt_of_succ_lt h)) b) (memberAt (iblk m c 2 ⟨n, Nat.lt_of_succ_lt h⟩) b) (memberAt (iblk m c 3 ⟨n, Nat.lt_of_succ_lt h⟩) b))
    simp only [vNewV_diag ih, cols2, cols3, cols4, cols5] at e
    exact e

theorem y_cols (c : Dev nD) (b : Fin 2) (n : ℕ) (h : n < cfg0.N) (hh : Fin 4) :
    cols (memberAt (outsAt0 m c n h).1 b) hh
      = yAt (A m c 0) (A m c 1) (A m c 2) (A m c 3) (A m c 4) (A m c 5) (A m c 6) (G m c) b hh n := by
  rw [y_eq, pointY_member, outYV_cols, outOV_diag (pre_diag m c b n h), vNewV_diag (pre_diag m c b n h), cols0, cols1, cols2, cols3, cols6]
  simp only [blk7]
  rfl

theorem c_cols (c : Dev nD) (b : Fin 2) (n : ℕ) (h : n < cfg0.N) (hh : Fin 4) :
    cols (memberAt (outsAt0 m c n h).2.1 b) hh = ST m c b n hh := by
  rw [c_eq, pointC_member, compactV_diag (pre_diag m c b n h)]

/-! ## The arrays after the run -/

theorem G8_at (c : Dev nD) (b : Fin 2) (n : ℕ) (hn : n < 32) (r e : Fin 64) (h : Fin 4) :
    (G8 m c : Tok) (ix3 b (row n r) (hd h e))
      = yAt (A m c 0) (A m c 1) (A m c 2) (A m c 3) (A m c 4) (A m c 5) (A m c 6) (G m c) b h n r e := by
  have hN : n < cfg0.N := lt_of_lt_of_eq hn N_eq.symm
  rw [← y_cols m c b n hN h]
  have hr := r.isLt
  have hb := b.isLt
  have hk := (hd h e).isLt
  have hp : pt8Of (ix3 b (row n r) (hd h e)) = n := by
    show 32 * (b.val / 2 - 0) + 1 * ((64 * n + r.val) % 2048 / 64 - 0) + 1 * ((hd h e).val / 256 - 0) = n
    omega
  have hl : loc8Of (ix3 b (row n r) (hd h e)) = ix3 b r (hd h e) := by
    funext a
    match a with
    | ⟨0, _⟩ => exact Fin.ext (Nat.mod_eq_of_lt hb)
    | ⟨1, _⟩ => exact Fin.ext (show (64 * n + r.val) % 2048 % 64 = r.val by omega)
    | ⟨2, _⟩ => exact Fin.ext (Nat.mod_eq_of_lt hk)
  have hpN : pt8Of (ix3 b (row n r) (hd h e)) < cfg0.N := hp.symm ▸ hN
  refine ((dif_pos hpN).trans ?_).trans (memberAt_ix (d := 64) _ b r (hd h e)).symm
  rw [hl, fold0_congr m c _ _ n (by omega) hp, ← outsAt0_sweep m c n hN]

theorem G9_at (c : Dev nD) (b : Fin 2) (n : ℕ) (hn : n < 32) (r e : Fin 64) (h : Fin 4) :
    (G9 m c : Tok) (ix3 b (row n r) (hd h e)) = ST m c b n h r e := by
  have hN : n < cfg0.N := lt_of_lt_of_eq hn N_eq.symm
  rw [← c_cols m c b n hN h]
  have hr := r.isLt
  have hb := b.isLt
  have hk := (hd h e).isLt
  have hp : pt9Of (ix3 b (row n r) (hd h e)) = n := by
    show 32 * (b.val / 2 - 0) + 1 * ((64 * n + r.val) % 2048 / 64 - 0) + 1 * ((hd h e).val / 256 - 0) = n
    omega
  have hl : loc9Of (ix3 b (row n r) (hd h e)) = ix3 b r (hd h e) := by
    funext a
    match a with
    | ⟨0, _⟩ => exact Fin.ext (Nat.mod_eq_of_lt hb)
    | ⟨1, _⟩ => exact Fin.ext (show (64 * n + r.val) % 2048 % 64 = r.val by omega)
    | ⟨2, _⟩ => exact Fin.ext (Nat.mod_eq_of_lt hk)
  have hpN : pt9Of (ix3 b (row n r) (hd h e)) < cfg0.N := hp.symm ▸ hN
  refine ((dif_pos hpN).trans ?_).trans (memberAt_ix (d := 64) _ b r (hd h e)).symm
  rw [hl, fold0_congr m c _ _ n (by omega) hp, ← outsAt0_sweep m c n hN]

end Cert.KernelIdeal.Chunks

end
-- ==== Proof.RefRead.lean ====
/- Reading the reference's chunked arrays: 32 chunks, each 2 batch elements by 4 heads of 64 by 64 matrices. -/
module

public import proofs.«01_k».proof.Proof.Spec
public import Idealize.ShloMosaic.Lib.WordCmp

@[expose] public section

noncomputable section

namespace Cert.RefRead

open Idealize.ShloMosaic Idealize.ShloMosaic.WordCmp Cert.Heads Cert.Spec

abbrev T4 : Shape := ⟨4, ![2, 4, 64, 64]⟩
abbrev T1x4 : Shape := ⟨5, ![1, 2, 4, 64, 64]⟩
abbrev T5 : Shape := ⟨5, ![32, 2, 4, 64, 64]⟩
abbrev T2048 : Shape := ⟨3, ![2, 2048, 256]⟩
abbrev T32 : Shape := ⟨5, ![2, 32, 64, 4, 64]⟩

/-- One head's matrix of one batch element. -/
def hm (x : T4.Idx → EReal) (b : Fin 2) (h : Fin 4) : Mat := fun r e => x (ix4 b h r e)

/-- Chunk `n`'s matrix of one head of one batch element. -/
def cm (x : T5.Idx → EReal) (n : Fin 32) (b : Fin 2) (h : Fin 4) : Mat := fun r e => x (ix5 n b h r e)

/-- The starts `(j, 0, 0, 0, 0)`, `j` in range, are the naturals they spell. -/
theorem starts_eq (u : ℕ) (j : ℕ) (hj : j < 32) (start : Fin 5 → Int) (h0 : start 0 = (BitVec.ofNat 32 j).toInt)
    (h1 : start 1 = 0) (h2 : start 2 = 0) (h3 : start 3 = 0) (h4 : start 4 = 0) (a : Fin 5) :
    start a = (((![j, 0, 0, 0, 0] : Fin 5 → ℕ) a : ℕ) : Int) := by
  match a with
  | 0 => rw [h0]; exact toInt_ofNat_of_lt (by omega)
  | 1 => exact h1
  | 2 => exact h2
  | 3 => exact h3
  | 4 => exact h4

theorem fits_at (j : ℕ) (hj : j < 32) : T5.Slices ![j, 0, 0, 0, 0] T1x4 :=
  ⟨rfl, fun a => match a with
    | 0 => (show j + 1 ≤ 32 by omega)
    | 1 => Nat.le_refl 2
    | 2 => Nat.le_refl 4
    | 3 => Nat.le_refl 64
    | 4 => Nat.le_refl 64⟩

/-- A dynamic slice of one chunk, read as a matrix. -/
theorem hm_slice (x : T5.Idx → EReal) (j : ℕ) (hj : j < 32) (start : Fin 5 → Int) (h : T5.Slices (fun _ => 0) T1x4) (hc : T1x4.ShapeCasts T4)
    (h0 : start 0 = (BitVec.ofNat 32 j).toInt) (h1 : start 1 = 0) (h2 : start 2 = 0) (h3 : start 3 = 0) (h4 : start 4 = 0) (b : Fin 2) (k : Fin 4) :
    hm (shapeCast T4 (Host.dynamicSlice T1x4 x start h) hc) b k = cm x ⟨j, hj⟩ b k := by
  rw [dynamicSlice_eq_extract T1x4 x start h ![j, 0, 0, 0, 0] (fits_at j hj) (starts_eq 0 j hj start h0 h1 h2 h3 h4)]
  funext r e
  unfold hm cm
  pointwise []

/-- A dynamic update of one chunk, read as matrices. -/
theorem cm_update (x : T5.Idx → EReal) (y : T4.Idx → EReal) (j : ℕ) (hj : j < 32) (start : Fin 5 → Int) (h : T5.Slices (fun _ => 0) T1x4)
    (hb : T4.BroadcastsInDim T1x4 (![1, 2, 3, 4] : Fin 4 → Fin T1x4.rank))
    (h0 : start 0 = (BitVec.ofNat 32 j).toInt) (h1 : start 1 = 0) (h2 : start 2 = 0) (h3 : start 3 = 0) (h4 : start 4 = 0) (n : Fin 32) (b : Fin 2) (k : Fin 4) :
    cm (Host.dynamicUpdateSlice x (broadcastInDim T1x4 ![1, 2, 3, 4] hb y) start h) n b k = if n.val = j then hm y b k else cm x n b k := by
  rw [dynamicUpdateSlice_eq_update x _ start h ![j, 0, 0, 0, 0] (fits_at j hj) (starts_eq 0 j hj start h0 h1 h2 h3 h4)]
  funext r e
  unfold hm cm
  pointwise []
  by_cases hn : n.val = j
  · rw [dif_pos ⟨by omega, by omega⟩, if_pos hn]
  · rw [dif_neg (by omega), if_neg hn]

/-- The chunked form of an array of rows. -/
theorem cm_chunked (x : T2048.Idx → EReal) (hc : T2048.ShapeCasts T32) (ht : T32.Transposes [1, 0, 3, 2, 4] T5) (n : Fin 32) (b : Fin 2) (k : Fin 4) :
    cm (transpose T5 [1, 0, 3, 2, 4] (shapeCast T32 x hc) ht) n b k = chunk x b n.val k := by
  funext r e
  unfold cm chunk
  pointwise []
  have hn := n.isLt
  have hr := r.isLt
  exact congrArg₂ (fun p q => x (ix3 b p q)) (Fin.ext (show n.val * 64 + r.val = (64 * n.val + r.val) % 2048 by omega))
    (Fin.ext (show k.val * 64 + e.val = 64 * k.val + e.val by omega))

/-- The rows of a chunked array. -/
theorem rows_chunked (x : T5.Idx → EReal) (ht : T5.Transposes [1, 0, 3, 2, 4] T32) (hc : T32.ShapeCasts T2048) (b : Fin 2) (n : Fin 32) (r e : Fin 64) (k : Fin 4) :
    shapeCast T2048 (transpose T32 [1, 0, 3, 2, 4] x ht) hc (ix3 b (row n.val r) (hd k e)) = cm x n b k r e := by
  unfold cm
  pointwise []
  have hn := n.isLt
  have hr := r.isLt
  have he := e.isLt
  have e0 : (⟨(row n.val r).val / 64, by have := (row n.val r).isLt; omega⟩ : Fin 32) = n :=
    Fin.ext (show (64 * n.val + r.val) % 2048 / 64 = n.val by omega)
  have e1 : (⟨(row n.val r).val % 64, Nat.mod_lt _ (by decide)⟩ : Fin 64) = r :=
    Fin.ext (show (64 * n.val + r.val) % 2048 % 64 = r.val by omega)
  have e2 : (⟨(hd k e).val / 64, by have := (hd k e).isLt; omega⟩ : Fin 4) = k :=
    Fin.ext (show (64 * k.val + e.val) / 64 = k.val by omega)
  have e3 : (⟨(hd k e).val % 64, Nat.mod_lt _ (by decide)⟩ : Fin 64) = e :=
    Fin.ext (show (64 * k.val + e.val) % 64 = e.val by omega)
  rw [e0, e1, e2, e3]

/-- An index of an array of rows, by chunk, row, head and channel. -/
theorem tok_ext {x y : Tok} (h : ∀ (b : Fin 2) (n : Fin 32) (r : Fin 64) (k : Fin 4) (e : Fin 64),
    x (ix3 b (row n.val r) (hd k e)) = y (ix3 b (row n.val r) (hd k e))) : x = y := by
  funext i
  idx_vars i
  have h1 := i1.isLt
  have e1 : i1 = row (i1.val / 64) ⟨i1.val % 64, Nat.mod_lt _ (by decide)⟩ :=
    Fin.ext (show i1.val = (64 * (i1.val / 64) + i1.val % 64) % 2048 by omega)
  rw [e1, ← hd_of i2]
  exact h i0 ⟨i1.val / 64, by omega⟩ _ _ _

end Cert.RefRead

end
-- ==== Proof.RefRun.lean ====
/- The run of ReferenceIdeal stated over the step of its loop: at a valuation that holds a state, every value of one trip is that step's; so the results of the run
   are fields of the step iterated from the state before the first trip. -/
module

public import proofs.«01_k».proof.Proof.Gen.ReferenceIdeal.Run
public import proofs.«01_k».proof.Proof.Gen.ReferenceIdeal.Step

@[expose] public section

noncomputable section

namespace Cert.ReferenceIdeal.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v17_9) = s.main_v17_9
  f_10 : V0 (Proc.devRef .tc main_v17_10) = s.main_v17_10
  f_11 : V0 (Proc.devRef .tc main_v17_11) = s.main_v17_11
  f_0 : V0 (Proc.devRef .tc main_v17_0) = s.main_v17_0
  f_1 : V0 (Proc.devRef .tc main_v17_1) = s.main_v17_1
  f_2 : V0 (Proc.devRef .tc main_v17_2) = s.main_v17_2
  f_3 : V0 (Proc.devRef .tc main_v17_3) = s.main_v17_3
  f_4 : V0 (Proc.devRef .tc main_v17_4) = s.main_v17_4
  f_5 : V0 (Proc.devRef .tc main_v17_5) = s.main_v17_5
  f_6 : V0 (Proc.devRef .tc main_v17_6) = s.main_v17_6
  f_7 : V0 (Proc.devRef .tc main_v17_7) = s.main_v17_7
  n_8 : V0 (Proc.devRef .tc main_v17_8) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x4x64x64 (V0 (Proc.devRef .tc main_v17_0)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_8]
  try rfl
set_option maxRecDepth 8192 in
theorem al_5 (h : Holds V0 s j) : (shapeCast S2x4x64x64 (Host.dynamicSlice S1x2x4x64x64 (V0 (Proc.devRef .tc main_v17_0)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v22 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call1_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x2x4x64x64 (V0 (Proc.devRef .tc main_v17_1)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call1_v0 : DevRef τ sig).ty.Contents (Elt F)) = Cert.ReferenceIdeal.Step.b10 j s := by
  unfold Cert.ReferenceIdeal.Step.b10
  rw [← al_6 h, ← al_7 h, ← al_8 h, ← al_9 h, h.f_1, h.n_8]
  try rfl
set_option maxRecDepth 8192 in
theorem al_11 (h : Holds V0 s j) : (shapeCast S2x4x64x64 (Host.dynamicSlice S1x2x4x64x64 (V0 (Proc.devRef .tc main_v17_1)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v23 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (constantI S_ 32 0#32 : (Proc.devRef .tc main_while0b_call2_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call2_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call2_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x2x4x64x64 (V0 (Proc.devRef .tc main_v17_2)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call2_v0 : DevRef τ sig).ty.Contents (Elt F)) = Cert.ReferenceIdeal.Step.b16 j s := by
  unfold Cert.ReferenceIdeal.Step.b16
  rw [← al_12 h, ← al_13 h, ← al_14 h, ← al_15 h, h.f_2, h.n_8]
  try rfl
set_option maxRecDepth 8192 in
theorem al_17 (h : Holds V0 s j) : (shapeCast S2x4x64x64 (Host.dynamicSlice S1x2x4x64x64 (V0 (Proc.devRef .tc main_v17_2)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v24 : DevRef τ sig).ty.Contents (Elt F)) = Cert.ReferenceIdeal.Step.b17 j s := by
  unfold Cert.ReferenceIdeal.Step.b17
  rw [← al_16 h]
  try rfl
set_option maxRecDepth 8192 in
theorem al_18 (h : Holds V0 s j) : (constantI S_ 32 0#32 : (Proc.devRef .tc main_while0b_call3_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call3_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x2x4x64x64 (V0 (Proc.devRef .tc main_v17_3)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call3_v0 : DevRef τ sig).ty.Contents (Elt F)) = Cert.ReferenceIdeal.Step.b22 j s := by
  unfold Cert.ReferenceIdeal.Step.b22
  rw [← al_18 h, ← al_19 h, ← al_20 h, ← al_21 h, h.f_3, h.n_8]
  try rfl
set_option maxRecDepth 8192 in
theorem al_23 (h : Holds V0 s j) : (shapeCast S2x4x64x64 (Host.dynamicSlice S1x2x4x64x64 (V0 (Proc.devRef .tc main_v17_3)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v25 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (constantI S_ 32 0#32 : (Proc.devRef .tc main_while0b_call4_c_2 : DevRef τ sig).ty.Contents (Elt F)) = Cert.ReferenceIdeal.Step.b27 j s := by
  unfold Cert.ReferenceIdeal.Step.b27
  rfl
set_option maxRecDepth 8192 in
theorem al_28 (h : Holds V0 s j) : (Host.dynamicSlice S1x2x4x64x64 (V0 (Proc.devRef .tc main_v17_4)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call4_v0 : DevRef τ sig).ty.Contents (Elt F)) = Cert.ReferenceIdeal.Step.b28 j s := by
  unfold Cert.ReferenceIdeal.Step.b28
  rw [← al_24 h, ← al_25 h, ← al_26 h, ← al_27 h, h.f_4, h.n_8]
  try rfl
set_option maxRecDepth 8192 in
theorem al_29 (h : Holds V0 s j) : (shapeCast S2x4x64x64 (Host.dynamicSlice S1x2x4x64x64 (V0 (Proc.devRef .tc main_v17_4)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v26 : DevRef τ sig).ty.Contents (Elt F)) = Cert.ReferenceIdeal.Step.b29 j s := by
  unfold Cert.ReferenceIdeal.Step.b29
  rw [← al_28 h]
  try rfl
set_option maxRecDepth 8192 in
theorem al_30 (h : Holds V0 s j) : (constantI S_ 32 0#32 : (Proc.devRef .tc main_while0b_call5_c : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_0 : DevRef τ sig).ty.Contents (Elt F)) = Cert.ReferenceIdeal.Step.b31 j s := by
  unfold Cert.ReferenceIdeal.Step.b31
  rfl
set_option maxRecDepth 8192 in
theorem al_32 (h : Holds V0 s j) : (constantI S_ 32 0#32 : (Proc.devRef .tc main_while0b_call5_c_1 : DevRef τ sig).ty.Contents (Elt F)) = Cert.ReferenceIdeal.Step.b32 j s := by
  unfold Cert.ReferenceIdeal.Step.b32
  rfl
set_option maxRecDepth 8192 in
theorem al_33 (h : Holds V0 s j) : (constantI S_ 32 0#32 : (Proc.devRef .tc main_while0b_call5_c_2 : DevRef τ sig).ty.Contents (Elt F)) = Cert.ReferenceIdeal.Step.b33 j s := by
  unfold Cert.ReferenceIdeal.Step.b33
  rfl
set_option maxRecDepth 8192 in
theorem al_34 (h : Holds V0 s j) : (Host.dynamicSlice S1x2x4x64x64 (V0 (Proc.devRef .tc main_v17_5)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call5_v0 : DevRef τ sig).ty.Contents (Elt F)) = Cert.ReferenceIdeal.Step.b34 j s := by
  unfold Cert.ReferenceIdeal.Step.b34
  rw [← al_30 h, ← al_31 h, ← al_32 h, ← al_33 h, h.f_5, h.n_8]
  try rfl
set_option maxRecDepth 8192 in
theorem al_35 (h : Holds V0 s j) : (shapeCast S2x4x64x64 (Host.dynamicSlice S1x2x4x64x64 (V0 (Proc.devRef .tc main_v17_5)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v27 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (constantI S_ 32 0#32 : (Proc.devRef .tc main_while0b_call6_c : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call6_c_0 : DevRef τ sig).ty.Contents (Elt F)) = Cert.ReferenceIdeal.Step.b37 j s := by
  unfold Cert.ReferenceIdeal.Step.b37
  rfl
set_option maxRecDepth 8192 in
theorem al_38 (h : Holds V0 s j) : (constantI S_ 32 0#32 : (Proc.devRef .tc main_while0b_call6_c_1 : DevRef τ sig).ty.Contents (Elt F)) = Cert.ReferenceIdeal.Step.b38 j s := by
  unfold Cert.ReferenceIdeal.Step.b38
  rfl
set_option maxRecDepth 8192 in
theorem al_39 (h : Holds V0 s j) : (constantI S_ 32 0#32 : (Proc.devRef .tc main_while0b_call6_c_2 : DevRef τ sig).ty.Contents (Elt F)) = Cert.ReferenceIdeal.Step.b39 j s := by
  unfold Cert.ReferenceIdeal.Step.b39
  rfl
set_option maxRecDepth 8192 in
theorem al_40 (h : Holds V0 s j) : (Host.dynamicSlice S1x2x4x64x64 (V0 (Proc.devRef .tc main_v17_6)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call6_v0 : DevRef τ sig).ty.Contents (Elt F)) = Cert.ReferenceIdeal.Step.b40 j s := by
  unfold Cert.ReferenceIdeal.Step.b40
  rw [← al_36 h, ← al_37 h, ← al_38 h, ← al_39 h, h.f_6, h.n_8]
  try rfl
set_option maxRecDepth 8192 in
theorem al_41 (h : Holds V0 s j) : (res_main_while0b_v28 V0 : (Proc.devRef .tc main_while0b_v28 : DevRef τ sig).ty.Contents (Elt F)) = Cert.ReferenceIdeal.Step.b41 j s := by
  unfold res_main_while0b_v28 Cert.ReferenceIdeal.Step.b41
  rw [← al_40 h]
  try rfl
set_option maxRecDepth 8192 in
theorem al_42 (h : Holds V0 s j) : (Host.dotGeneral dot_S2x4x64x64_S2x4x64x64_S2x4x64x64_3_2_2_3_01_01 none (shapeCast S2x4x64x64 (Host.dynamicSlice S1x2x4x64x64 (V0 (Proc.devRef .tc main_v17_3)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) (V0 (Proc.devRef .tc main_v17_9)) : (Proc.devRef .tc main_while0b_v29 : DevRef τ sig).ty.Contents (Elt F)) = Cert.ReferenceIdeal.Step.b42 j s := by
  unfold Cert.ReferenceIdeal.Step.b42
  rw [← al_23 h, h.f_9]
  try rfl
set_option maxRecDepth 8192 in
theorem al_43 (h : Holds V0 s j) : (res_main_while0b_v30 V0 : (Proc.devRef .tc main_while0b_v30 : DevRef τ sig).ty.Contents (Elt F)) = Cert.ReferenceIdeal.Step.b43 j s := by
  unfold res_main_while0b_v30 Cert.ReferenceIdeal.Step.b43
  rw [← al_17 h, ← al_42 h]
  try rfl
set_option maxRecDepth 8192 in
theorem al_44 (h : Holds V0 s j) : (Host.dotGeneral dot_S2x4x64x64_S2x4x64x64_S2x4x64x64_3_2_2_3_01_01 none (shapeCast S2x4x64x64 (Host.dynamicSlice S1x2x4x64x64 (V0 (Proc.devRef .tc main_v17_1)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) (V0 (Proc.devRef .tc main_v17_9)) : (Proc.devRef .tc main_while0b_v31 : DevRef τ sig).ty.Contents (Elt F)) = Cert.ReferenceIdeal.Step.b44 j s := by
  unfold Cert.ReferenceIdeal.Step.b44
  rw [← al_11 h, h.f_9]
  try rfl
set_option maxRecDepth 8192 in
theorem al_45 (h : Holds V0 s j) : (Host.dotGeneral dot_S2x4x64x64_S2x4x64x64_S2x4x64x64_3_2_2_3_01_01 none (shapeCast S2x4x64x64 (Host.dynamicSlice S1x2x4x64x64 (V0 (Proc.devRef .tc main_v17_0)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) (res_main_while0b_v30 V0) : (Proc.devRef .tc main_while0b_v32 : DevRef τ sig).ty.Contents (Elt F)) = Cert.ReferenceIdeal.Step.b45 j s := by
  unfold Cert.ReferenceIdeal.Step.b45
  rw [← al_5 h, ← al_43 h]
  try rfl
set_option maxRecDepth 8192 in
theorem al_46 (h : Holds V0 s j) : (res_main_while0b_v33 V0 : (Proc.devRef .tc main_while0b_v33 : DevRef τ sig).ty.Contents (Elt F)) = Cert.ReferenceIdeal.Step.b46 j s := by
  unfold res_main_while0b_v33 Cert.ReferenceIdeal.Step.b46
  rw [← al_44 h, ← al_45 h]
  try rfl
set_option maxRecDepth 8192 in
theorem al_47 (h : Holds V0 s j) : (extractStridedSlice S2x4x1x64 ![0, 0, 0, 0] (shapeCast S2x4x64x64 (Host.dynamicSlice S1x2x4x64x64 (V0 (Proc.devRef .tc main_v17_5)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) slices_S2x4x64x64_S2x4x1x64_0_0_0_0 : (Proc.devRef .tc main_while0b_v34 : DevRef τ sig).ty.Contents (Elt F)) = Cert.ReferenceIdeal.Step.b47 j s := by
  unfold Cert.ReferenceIdeal.Step.b47
  rw [← al_35 h]
  try rfl
set_option maxRecDepth 8192 in
theorem al_48 (h : Holds V0 s j) : (broadcastInDim S2x4x64x64 ![0, 1, 2, 3] bcast_S2x4x1x64_S2x4x64x64_0_1_2_3 (extractStridedSlice S2x4x1x64 ![0, 0, 0, 0] (shapeCast S2x4x64x64 (Host.dynamicSlice S1x2x4x64x64 (V0 (Proc.devRef .tc main_v17_5)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) slices_S2x4x64x64_S2x4x1x64_0_0_0_0) : (Proc.devRef .tc main_while0b_v35 : DevRef τ sig).ty.Contents (Elt F)) = Cert.ReferenceIdeal.Step.b48 j s := by
  unfold Cert.ReferenceIdeal.Step.b48
  rw [← al_47 h]
  try rfl
set_option maxRecDepth 8192 in
theorem al_49 (h : Holds V0 s j) : (mulf (V0 (Proc.devRef .tc main_v17_9)) (broadcastInDim S2x4x64x64 ![0, 1, 2, 3] bcast_S2x4x1x64_S2x4x64x64_0_1_2_3 (extractStridedSlice S2x4x1x64 ![0, 0, 0, 0] (shapeCast S2x4x64x64 (Host.dynamicSlice S1x2x4x64x64 (V0 (Proc.devRef .tc main_v17_5)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) slices_S2x4x64x64_S2x4x1x64_0_0_0_0)) : (Proc.devRef .tc main_while0b_v36 : DevRef τ sig).ty.Contents (Elt F)) = Cert.ReferenceIdeal.Step.b49 j s := by
  unfold Cert.ReferenceIdeal.Step.b49
  rw [← al_48 h, h.f_9]
  try rfl
set_option maxRecDepth 8192 in
theorem al_50 (h : Holds V0 s j) : (Host.dotGeneral dot_S2x4x64x64_S2x4x64x64_S2x4x64x64_2_2_3_3_01_01 none (shapeCast S2x4x64x64 (Host.dynamicSlice S1x2x4x64x64 (V0 (Proc.devRef .tc main_v17_4)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) (res_main_while0b_v30 V0) : (Proc.devRef .tc main_while0b_v37 : DevRef τ sig).ty.Contents (Elt F)) = Cert.ReferenceIdeal.Step.b50 j s := by
  unfold Cert.ReferenceIdeal.Step.b50
  rw [← al_29 h, ← al_43 h]
  try rfl
set_option maxRecDepth 8192 in
theorem al_51 (h : Holds V0 s j) : (addf (mulf (V0 (Proc.devRef .tc main_v17_9)) (broadcastInDim S2x4x64x64 ![0, 1, 2, 3] bcast_S2x4x1x64_S2x4x64x64_0_1_2_3 (extractStridedSlice S2x4x1x64 ![0, 0, 0, 0] (shapeCast S2x4x64x64 (Host.dynamicSlice S1x2x4x64x64 (V0 (Proc.devRef .tc main_v17_5)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) slices_S2x4x64x64_S2x4x1x64_0_0_0_0))) (Host.dotGeneral dot_S2x4x64x64_S2x4x64x64_S2x4x64x64_2_2_3_3_01_01 none (shapeCast S2x4x64x64 (Host.dynamicSlice S1x2x4x64x64 (V0 (Proc.devRef .tc main_v17_4)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) (res_main_while0b_v30 V0)) : (Proc.devRef .tc main_while0b_v38 : DevRef τ sig).ty.Contents (Elt F)) = Cert.ReferenceIdeal.Step.b51 j s := by
  unfold Cert.ReferenceIdeal.Step.b51
  rw [← al_49 h, ← al_50 h]
  try rfl
set_option maxRecDepth 8192 in
theorem al_52 (h : Holds V0 s j) : (mulf (res_main_while0b_v33 V0) (res_main_while0b_v33 V0) : (Proc.devRef .tc main_while0b_v39 : DevRef τ sig).ty.Contents (Elt F)) = Cert.ReferenceIdeal.Step.b52 j s := by
  unfold Cert.ReferenceIdeal.Step.b52
  rw [← al_46 h]
  try rfl
set_option maxRecDepth 8192 in
theorem al_53 (h : Holds V0 s j) : (constant S_ .f32 0x00000000#32 : (Proc.devRef .tc main_while0b_cst_13 : DevRef τ sig).ty.Contents (Elt F)) = Cert.ReferenceIdeal.Step.b53 j s := by
  unfold Cert.ReferenceIdeal.Step.b53
  rfl
set_option maxRecDepth 8192 in
theorem al_54 (h : Holds V0 s j) : (Host.reduceAdd (mulf (res_main_while0b_v33 V0) (res_main_while0b_v33 V0)) (constant S_ .f32 0x00000000#32) reducesTo_S2x4x64x64_S2x4x64_d3 h_S_ : (Proc.devRef .tc main_while0b_v40 : DevRef τ sig).ty.Contents (Elt F)) = Cert.ReferenceIdeal.Step.b54 j s := by
  unfold Cert.ReferenceIdeal.Step.b54
  rw [← al_52 h, ← al_53 h]
  try rfl
set_option maxRecDepth 8192 in
theorem al_55 (h : Holds V0 s j) : (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_) : (Proc.devRef .tc main_while0b_v41 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (constant S_ .f32 0x42800000#32 : (Proc.devRef .tc main_while0b_cst_14 : DevRef τ sig).ty.Contents (Elt F)) = Cert.ReferenceIdeal.Step.b56 j s := by
  unfold Cert.ReferenceIdeal.Step.b56
  rfl
set_option maxRecDepth 8192 in
theorem al_57 (h : Holds V0 s j) : (broadcastInDim S2x4x64x1 ![] bcast_S_S2x4x64x1 (constant S_ .f32 0x42800000#32) : (Proc.devRef .tc main_while0b_v42 : DevRef τ sig).ty.Contents (Elt F)) = Cert.ReferenceIdeal.Step.b57 j s := by
  unfold Cert.ReferenceIdeal.Step.b57
  rw [← al_56 h]
  try rfl
set_option maxRecDepth 8192 in
theorem al_58 (h : Holds V0 s j) : (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32)) : (Proc.devRef .tc main_while0b_v43 : DevRef τ sig).ty.Contents (Elt F)) = Cert.ReferenceIdeal.Step.b58 j s := by
  unfold Cert.ReferenceIdeal.Step.b58
  rw [← al_55 h, ← al_57 h]
  try rfl
set_option maxRecDepth 8192 in
theorem al_59 (h : Holds V0 s j) : (constant S_ .f32 0x358637BD#32 : (Proc.devRef .tc main_while0b_cst_15 : DevRef τ sig).ty.Contents (Elt F)) = Cert.ReferenceIdeal.Step.b59 j s := by
  unfold Cert.ReferenceIdeal.Step.b59
  rfl
set_option maxRecDepth 8192 in
theorem al_60 (h : Holds V0 s j) : (broadcastInDim S2x4x64x1 ![] bcast_S_S2x4x64x1 (constant S_ .f32 0x358637BD#32) : (Proc.devRef .tc main_while0b_v44 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32)) : (Proc.devRef .tc main_while0b_v45 : DevRef τ sig).ty.Contents (Elt F)) = Cert.ReferenceIdeal.Step.b61 j s := by
  unfold Cert.ReferenceIdeal.Step.b61
  rw [← al_58 h, ← al_60 h]
  try rfl
set_option maxRecDepth 8192 in
theorem al_62 (h : Holds V0 s j) : (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32))) : (Proc.devRef .tc main_while0b_v46 : DevRef τ sig).ty.Contents (Elt F)) = Cert.ReferenceIdeal.Step.b62 j s := by
  unfold Cert.ReferenceIdeal.Step.b62
  rw [← al_61 h]
  try rfl
set_option maxRecDepth 8192 in
theorem al_63 (h : Holds V0 s j) : (broadcastInDim S2x4x64x64 ![0, 1, 2, 3] bcast_S2x4x64x1_S2x4x64x64_0_1_2_3 (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32)))) : (Proc.devRef .tc main_while0b_v47 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (mulf (res_main_while0b_v33 V0) (broadcastInDim S2x4x64x64 ![0, 1, 2, 3] bcast_S2x4x64x1_S2x4x64x64_0_1_2_3 (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32))))) : (Proc.devRef .tc main_while0b_v48 : DevRef τ sig).ty.Contents (Elt F)) = Cert.ReferenceIdeal.Step.b64 j s := by
  unfold Cert.ReferenceIdeal.Step.b64
  rw [← al_46 h, ← al_63 h]
  try rfl
set_option maxRecDepth 8192 in
theorem al_65 (h : Holds V0 s j) : (shapeCast S64 (V0 (Proc.devRef .tc main_v17_7)) shapeCasts_S1x64_S64 : (Proc.devRef .tc main_while0b_v49 : DevRef τ sig).ty.Contents (Elt F)) = Cert.ReferenceIdeal.Step.b65 j s := by
  unfold Cert.ReferenceIdeal.Step.b65
  rw [h.f_7]
  try rfl
set_option maxRecDepth 8192 in
theorem al_66 (h : Holds V0 s j) : (broadcastInDim S1x1x1x64 ![3] bcast_S64_S1x1x1x64_3 (shapeCast S64 (V0 (Proc.devRef .tc main_v17_7)) shapeCasts_S1x64_S64) : (Proc.devRef .tc main_while0b_v50 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (broadcastInDim S2x4x64x64 ![0, 1, 2, 3] bcast_S1x1x1x64_S2x4x64x64_0_1_2_3 (broadcastInDim S1x1x1x64 ![3] bcast_S64_S1x1x1x64_3 (shapeCast S64 (V0 (Proc.devRef .tc main_v17_7)) shapeCasts_S1x64_S64)) : (Proc.devRef .tc main_while0b_v51 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (mulf (mulf (res_main_while0b_v33 V0) (broadcastInDim S2x4x64x64 ![0, 1, 2, 3] bcast_S2x4x64x1_S2x4x64x64_0_1_2_3 (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32)))))) (broadcastInDim S2x4x64x64 ![0, 1, 2, 3] bcast_S1x1x1x64_S2x4x64x64_0_1_2_3 (broadcastInDim S1x1x1x64 ![3] bcast_S64_S1x1x1x64_3 (shapeCast S64 (V0 (Proc.devRef .tc main_v17_7)) shapeCasts_S1x64_S64))) : (Proc.devRef .tc main_while0b_v52 : DevRef τ sig).ty.Contents (Elt F)) = Cert.ReferenceIdeal.Step.b68 j s := by
  unfold Cert.ReferenceIdeal.Step.b68
  rw [← al_64 h, ← al_67 h]
  try rfl
set_option maxRecDepth 8192 in
theorem al_69 (h : Holds V0 s j) : (Host.negf (res_main_while0b_v28 V0) : (Proc.devRef .tc main_while0b_call7_v0 : DevRef τ sig).ty.Contents (Elt F)) = Cert.ReferenceIdeal.Step.b69 j s := by
  unfold Cert.ReferenceIdeal.Step.b69
  rw [← al_41 h]
  try rfl
set_option maxRecDepth 8192 in
theorem al_70 (h : Holds V0 s j) : (Host.exp (Host.negf (res_main_while0b_v28 V0)) : (Proc.devRef .tc main_while0b_call7_v1 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (constant S_ .f32 0x3F800000#32 : (Proc.devRef .tc main_while0b_call7_cst : DevRef τ sig).ty.Contents (Elt F)) = Cert.ReferenceIdeal.Step.b71 j s := by
  unfold Cert.ReferenceIdeal.Step.b71
  rfl
set_option maxRecDepth 8192 in
theorem al_72 (h : Holds V0 s j) : (broadcastInDim S2x4x64x64 ![] bcast_S_S2x4x64x64 (constant S_ .f32 0x3F800000#32) : (Proc.devRef .tc main_while0b_call7_v2 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (addf (broadcastInDim S2x4x64x64 ![] bcast_S_S2x4x64x64 (constant S_ .f32 0x3F800000#32)) (Host.exp (Host.negf (res_main_while0b_v28 V0))) : (Proc.devRef .tc main_while0b_call7_v3 : DevRef τ sig).ty.Contents (Elt F)) = Cert.ReferenceIdeal.Step.b73 j s := by
  unfold Cert.ReferenceIdeal.Step.b73
  rw [← al_72 h, ← al_70 h]
  try rfl
set_option maxRecDepth 8192 in
theorem al_74 (h : Holds V0 s j) : (constant S_ .f32 0x3F800000#32 : (Proc.devRef .tc main_while0b_call7_cst_0 : DevRef τ sig).ty.Contents (Elt F)) = Cert.ReferenceIdeal.Step.b74 j s := by
  unfold Cert.ReferenceIdeal.Step.b74
  rfl
set_option maxRecDepth 8192 in
theorem al_75 (h : Holds V0 s j) : (broadcastInDim S2x4x64x64 ![] bcast_S_S2x4x64x64 (constant S_ .f32 0x3F800000#32) : (Proc.devRef .tc main_while0b_call7_v4 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (Host.divf (broadcastInDim S2x4x64x64 ![] bcast_S_S2x4x64x64 (constant S_ .f32 0x3F800000#32)) (addf (broadcastInDim S2x4x64x64 ![] bcast_S_S2x4x64x64 (constant S_ .f32 0x3F800000#32)) (Host.exp (Host.negf (res_main_while0b_v28 V0)))) : (Proc.devRef .tc main_while0b_call7_v5 : DevRef τ sig).ty.Contents (Elt F)) = Cert.ReferenceIdeal.Step.b76 j s := by
  unfold Cert.ReferenceIdeal.Step.b76
  rw [← al_75 h, ← al_73 h]
  try rfl
set_option maxRecDepth 8192 in
theorem al_77 (h : Holds V0 s j) : (mulf (res_main_while0b_v28 V0) (Host.divf (broadcastInDim S2x4x64x64 ![] bcast_S_S2x4x64x64 (constant S_ .f32 0x3F800000#32)) (addf (broadcastInDim S2x4x64x64 ![] bcast_S_S2x4x64x64 (constant S_ .f32 0x3F800000#32)) (Host.exp (Host.negf (res_main_while0b_v28 V0))))) : (Proc.devRef .tc main_while0b_v53 : DevRef τ sig).ty.Contents (Elt F)) = Cert.ReferenceIdeal.Step.b77 j s := by
  unfold Cert.ReferenceIdeal.Step.b77
  rw [← al_41 h, ← al_76 h]
  try rfl
set_option maxRecDepth 8192 in
theorem al_78 (h : Holds V0 s j) : (mulf (mulf (mulf (res_main_while0b_v33 V0) (broadcastInDim S2x4x64x64 ![0, 1, 2, 3] bcast_S2x4x64x1_S2x4x64x64_0_1_2_3 (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32)))))) (broadcastInDim S2x4x64x64 ![0, 1, 2, 3] bcast_S1x1x1x64_S2x4x64x64_0_1_2_3 (broadcastInDim S1x1x1x64 ![3] bcast_S64_S1x1x1x64_3 (shapeCast S64 (V0 (Proc.devRef .tc main_v17_7)) shapeCasts_S1x64_S64)))) (mulf (res_main_while0b_v28 V0) (Host.divf (broadcastInDim S2x4x64x64 ![] bcast_S_S2x4x64x64 (constant S_ .f32 0x3F800000#32)) (addf (broadcastInDim S2x4x64x64 ![] bcast_S_S2x4x64x64 (constant S_ .f32 0x3F800000#32)) (Host.exp (Host.negf (res_main_while0b_v28 V0)))))) : (Proc.devRef .tc main_while0b_v54 : DevRef τ sig).ty.Contents (Elt F)) = Cert.ReferenceIdeal.Step.b78 j s := by
  unfold Cert.ReferenceIdeal.Step.b78
  rw [← al_68 h, ← al_77 h]
  try rfl
set_option maxRecDepth 8192 in
theorem al_79 (h : Holds V0 s j) : (broadcastInDim S1x2x4x64x64 ![1, 2, 3, 4] bcast_S2x4x64x64_S1x2x4x64x64_1_2_3_4 (mulf (mulf (mulf (res_main_while0b_v33 V0) (broadcastInDim S2x4x64x64 ![0, 1, 2, 3] bcast_S2x4x64x1_S2x4x64x64_0_1_2_3 (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32)))))) (broadcastInDim S2x4x64x64 ![0, 1, 2, 3] bcast_S1x1x1x64_S2x4x64x64_0_1_2_3 (broadcastInDim S1x1x1x64 ![3] bcast_S64_S1x1x1x64_3 (shapeCast S64 (V0 (Proc.devRef .tc main_v17_7)) shapeCasts_S1x64_S64)))) (mulf (res_main_while0b_v28 V0) (Host.divf (broadcastInDim S2x4x64x64 ![] bcast_S_S2x4x64x64 (constant S_ .f32 0x3F800000#32)) (addf (broadcastInDim S2x4x64x64 ![] bcast_S_S2x4x64x64 (constant S_ .f32 0x3F800000#32)) (Host.exp (Host.negf (res_main_while0b_v28 V0))))))) : (Proc.devRef .tc main_while0b_call8_v0 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (constantI S_ 32 0#32 : (Proc.devRef .tc main_while0b_call8_c : DevRef τ sig).ty.Contents (Elt F)) = Cert.ReferenceIdeal.Step.b80 j s := by
  unfold Cert.ReferenceIdeal.Step.b80
  rfl
set_option maxRecDepth 8192 in
theorem al_81 (h : Holds V0 s j) : (constantI S_ 32 0#32 : (Proc.devRef .tc main_while0b_call8_c_0 : DevRef τ sig).ty.Contents (Elt F)) = Cert.ReferenceIdeal.Step.b81 j s := by
  unfold Cert.ReferenceIdeal.Step.b81
  rfl
set_option maxRecDepth 8192 in
theorem al_82 (h : Holds V0 s j) : (constantI S_ 32 0#32 : (Proc.devRef .tc main_while0b_call8_c_1 : DevRef τ sig).ty.Contents (Elt F)) = Cert.ReferenceIdeal.Step.b82 j s := by
  unfold Cert.ReferenceIdeal.Step.b82
  rfl
set_option maxRecDepth 8192 in
theorem al_83 (h : Holds V0 s j) : (constantI S_ 32 0#32 : (Proc.devRef .tc main_while0b_call8_c_2 : DevRef τ sig).ty.Contents (Elt F)) = Cert.ReferenceIdeal.Step.b83 j s := by
  unfold Cert.ReferenceIdeal.Step.b83
  rfl
set_option maxRecDepth 8192 in
theorem al_84 (h : Holds V0 s j) : (Host.dynamicUpdateSlice (V0 (Proc.devRef .tc main_v17_10)) (broadcastInDim S1x2x4x64x64 ![1, 2, 3, 4] bcast_S2x4x64x64_S1x2x4x64x64_1_2_3_4 (mulf (mulf (mulf (res_main_while0b_v33 V0) (broadcastInDim S2x4x64x64 ![0, 1, 2, 3] bcast_S2x4x64x1_S2x4x64x64_0_1_2_3 (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32)))))) (broadcastInDim S2x4x64x64 ![0, 1, 2, 3] bcast_S1x1x1x64_S2x4x64x64_0_1_2_3 (broadcastInDim S1x1x1x64 ![3] bcast_S64_S1x1x1x64_3 (shapeCast S64 (V0 (Proc.devRef .tc main_v17_7)) shapeCasts_S1x64_S64)))) (mulf (res_main_while0b_v28 V0) (Host.divf (broadcastInDim S2x4x64x64 ![] bcast_S_S2x4x64x64 (constant S_ .f32 0x3F800000#32)) (addf (broadcastInDim S2x4x64x64 ![] bcast_S_S2x4x64x64 (constant S_ .f32 0x3F800000#32)) (Host.exp (Host.negf (res_main_while0b_v28 V0)))))))) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v55 : DevRef τ sig).ty.Contents (Elt F)) = Cert.ReferenceIdeal.Step.b84 j s := by
  unfold Cert.ReferenceIdeal.Step.b84
  rw [← al_79 h, ← al_80 h, ← al_81 h, ← al_82 h, ← al_83 h, h.f_10, h.n_8]
  try rfl
set_option maxRecDepth 8192 in
theorem al_85 (h : Holds V0 s j) : (broadcastInDim S1x2x4x64x64 ![1, 2, 3, 4] bcast_S2x4x64x64_S1x2x4x64x64_1_2_3_4 (V0 (Proc.devRef .tc main_v17_9)) : (Proc.devRef .tc main_while0b_call9_v0 : DevRef τ sig).ty.Contents (Elt F)) = Cert.ReferenceIdeal.Step.b85 j s := by
  unfold Cert.ReferenceIdeal.Step.b85
  rw [h.f_9]
  try rfl
set_option maxRecDepth 8192 in
theorem al_86 (h : Holds V0 s j) : (constantI S_ 32 0#32 : (Proc.devRef .tc main_while0b_call9_c : DevRef τ sig).ty.Contents (Elt F)) = Cert.ReferenceIdeal.Step.b86 j s := by
  unfold Cert.ReferenceIdeal.Step.b86
  rfl
set_option maxRecDepth 8192 in
theorem al_87 (h : Holds V0 s j) : (constantI S_ 32 0#32 : (Proc.devRef .tc main_while0b_call9_c_0 : DevRef τ sig).ty.Contents (Elt F)) = Cert.ReferenceIdeal.Step.b87 j s := by
  unfold Cert.ReferenceIdeal.Step.b87
  rfl
set_option maxRecDepth 8192 in
theorem al_88 (h : Holds V0 s j) : (constantI S_ 32 0#32 : (Proc.devRef .tc main_while0b_call9_c_1 : DevRef τ sig).ty.Contents (Elt F)) = Cert.ReferenceIdeal.Step.b88 j s := by
  unfold Cert.ReferenceIdeal.Step.b88
  rfl
set_option maxRecDepth 8192 in
theorem al_89 (h : Holds V0 s j) : (constantI S_ 32 0#32 : (Proc.devRef .tc main_while0b_call9_c_2 : DevRef τ sig).ty.Contents (Elt F)) = Cert.ReferenceIdeal.Step.b89 j s := by
  unfold Cert.ReferenceIdeal.Step.b89
  rfl
set_option maxRecDepth 8192 in
theorem al_90 (h : Holds V0 s j) : (Host.dynamicUpdateSlice (V0 (Proc.devRef .tc main_v17_11)) (broadcastInDim S1x2x4x64x64 ![1, 2, 3, 4] bcast_S2x4x64x64_S1x2x4x64x64_1_2_3_4 (V0 (Proc.devRef .tc main_v17_9))) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v56 : DevRef τ sig).ty.Contents (Elt F)) = Cert.ReferenceIdeal.Step.b90 j s := by
  unfold Cert.ReferenceIdeal.Step.b90
  rw [← al_85 h, ← al_86 h, ← al_87 h, ← al_88 h, ← al_89 h, h.f_11, h.n_8]
  try rfl

/-! One trip's step of the carried values is `step`, field by field; a counter steps to the next number. -/

theorem step_9 (h : Holds V0 s j) : step_main_v17_9 V0 = (step j s).main_v17_9 := by
  unfold step_main_v17_9 Cert.ReferenceIdeal.Step.step
  show id (addf (mulf (V0 (Proc.devRef .tc main_v17_9)) (broadcastInDim S2x4x64x64 ![0, 1, 2, 3] bcast_S2x4x1x64_S2x4x64x64_0_1_2_3 (extractStridedSlice S2x4x1x64 ![0, 0, 0, 0] (shapeCast S2x4x64x64 (Host.dynamicSlice S1x2x4x64x64 (V0 (Proc.devRef .tc main_v17_5)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) slices_S2x4x64x64_S2x4x1x64_0_0_0_0))) (Host.dotGeneral dot_S2x4x64x64_S2x4x64x64_S2x4x64x64_2_2_3_3_01_01 none (shapeCast S2x4x64x64 (Host.dynamicSlice S1x2x4x64x64 (V0 (Proc.devRef .tc main_v17_4)) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64) (res_main_while0b_v30 V0))) = _
  exact al_51 h
theorem step_10 (h : Holds V0 s j) : step_main_v17_10 V0 = (step j s).main_v17_10 := by
  unfold step_main_v17_10 Cert.ReferenceIdeal.Step.step
  show id (Host.dynamicUpdateSlice (V0 (Proc.devRef .tc main_v17_10)) (broadcastInDim S1x2x4x64x64 ![1, 2, 3, 4] bcast_S2x4x64x64_S1x2x4x64x64_1_2_3_4 (mulf (mulf (mulf (res_main_while0b_v33 V0) (broadcastInDim S2x4x64x64 ![0, 1, 2, 3] bcast_S2x4x64x1_S2x4x64x64_0_1_2_3 (Host.rsqrt (addf (Host.divf (broadcastInDim S2x4x64x1 ![0, 1, 2] bcast_S2x4x64_S2x4x64x1_0_1_2 (Host.reduceAdd (mulf (res_main_while0b_v33 V0) (res_main_while0b_v33 V0)) (constant S_ .f32 0x00000000#32) reducesTo_S2x4x64x64_S2x4x64_d3 h_S_)) (broadcastInDim S2x4x64x1 ![] bcast_S_S2x4x64x1 (constant S_ .f32 0x42800000#32))) (broadcastInDim S2x4x64x1 ![] bcast_S_S2x4x64x1 (constant S_ .f32 0x358637BD#32)))))) (broadcastInDim S2x4x64x64 ![0, 1, 2, 3] bcast_S1x1x1x64_S2x4x64x64_0_1_2_3 (broadcastInDim S1x1x1x64 ![3] bcast_S64_S1x1x1x64_3 (shapeCast S64 (V0 (Proc.devRef .tc main_v17_7)) shapeCasts_S1x64_S64)))) (mulf (res_main_while0b_v28 V0) (Host.divf (broadcastInDim S2x4x64x64 ![] bcast_S_S2x4x64x64 (constant S_ .f32 0x3F800000#32)) (addf (broadcastInDim S2x4x64x64 ![] bcast_S_S2x4x64x64 (constant S_ .f32 0x3F800000#32)) (Host.exp (Host.negf (res_main_while0b_v28 V0)))))))) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_84 h
theorem step_11 (h : Holds V0 s j) : step_main_v17_11 V0 = (step j s).main_v17_11 := by
  unfold step_main_v17_11 Cert.ReferenceIdeal.Step.step
  show id (Host.dynamicUpdateSlice (V0 (Proc.devRef .tc main_v17_11)) (broadcastInDim S1x2x4x64x64 ![1, 2, 3, 4] bcast_S2x4x64x64_S1x2x4x64x64_1_2_3_4 (V0 (Proc.devRef .tc main_v17_9))) (fun k => (((![V0 (Proc.devRef .tc main_v17_8), constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_90 h
theorem step_8 (h : Holds V0 s j) : step_main_v17_8 V0 = constantI S_ 32 (BitVec.ofNat 32 (j + 1)) := by
  unfold step_main_v17_8
  rw [h.n_8]
  funext i
  show BitVec.ofNat 32 j + 1#32 = BitVec.ofNat 32 (j + 1)
  simp only [BitVec.ofNat_add]

set_option maxRecDepth 8192 in
theorem out_main_v19_holds (h : Holds V0 s j) : out_main_v19 V0 = Cert.ReferenceIdeal.Step.R_main_v19 s := by
  unfold out_main_v19 Cert.ReferenceIdeal.Step.R_main_v19
  rw [h.f_10]
  try rfl

set_option maxRecDepth 8192 in
theorem out_main_v21_holds (h : Holds V0 s j) : out_main_v21 V0 = Cert.ReferenceIdeal.Step.R_main_v21 s := by
  unfold out_main_v21 Cert.ReferenceIdeal.Step.R_main_v21
  rw [h.f_11]
  try rfl

/-- One trip keeps the valuation holding: `step` of the state, the same set-up values, the next number. -/
theorem holds_step (h : Holds V0 s j) : Holds (STEP V0) (step j s) (j + 1) where
  f_9 := (STEP_main_v17_9 V0).trans (step_9 h)
  f_10 := (STEP_main_v17_10 V0).trans (step_10 h)
  f_11 := (STEP_main_v17_11 V0).trans (step_11 h)
  n_8 := (STEP_main_v17_8 V0).trans (step_8 h)
  f_0 := (STEP_main_v17_0 V0).trans h.f_0
  f_1 := (STEP_main_v17_1 V0).trans h.f_1
  f_2 := (STEP_main_v17_2 V0).trans h.f_2
  f_3 := (STEP_main_v17_3 V0).trans h.f_3
  f_4 := (STEP_main_v17_4 V0).trans h.f_4
  f_5 := (STEP_main_v17_5 V0).trans h.f_5
  f_6 := (STEP_main_v17_6 V0).trans h.f_6
  f_7 := (STEP_main_v17_7 V0).trans h.f_7

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v19) = Cert.ReferenceIdeal.Step.R_main_v19 (it c 32)
      ∧ r.2.mem ((c.tc : Thread nD τ).loc main_v21) = Cert.ReferenceIdeal.Step.R_main_v21 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 32
    ⟨(h c).1.trans (out_main_v19_holds hk), (h c).2.1.trans (out_main_v21_holds hk), (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2⟩) (Value.run m ρ)

end Cert.ReferenceIdeal.RefRun

end
-- ==== Proof.RefStep.lean ====
/- The forward reference: one trip of its loop is the chunk computation, and its two results are the recurrence's outputs and states. -/
module

public import proofs.«01_k».proof.Proof.RefRead
public import proofs.«01_k».proof.Proof.RefRun

@[expose] public section

set_option maxRecDepth 16384

noncomputable section

namespace Cert.ReferenceIdeal.Trips

open Idealize.ShloMosaic Idealize.ShloMosaic.TcCoe Idealize.SL.Sem Idealize.ShloMosaic.StableHlo
open Cert.ReferenceIdeal Cert.ReferenceIdeal.Step Cert.RefRead Cert.Spec Cert.Heads

abbrev St := State Ideal

variable (j : ℕ) (hj : j < 32) (s : St) (b : Fin 2) (h : Fin 4)

include hj in
theorem qk_eq : hm (b5 j s) b h = cm s.main_v17_0 ⟨j, hj⟩ b h := hm_slice _ j hj _ _ _ rfl rfl rfl rfl rfl b h
include hj in
theorem qd_eq : hm (b11 j s) b h = cm s.main_v17_1 ⟨j, hj⟩ b h := hm_slice _ j hj _ _ _ rfl rfl rfl rfl rfl b h
include hj in
theorem u_eq : hm (b17 j s) b h = cm s.main_v17_2 ⟨j, hj⟩ b h := hm_slice _ j hj _ _ _ rfl rfl rfl rfl rfl b h
include hj in
theorem w_eq : hm (b23 j s) b h = cm s.main_v17_3 ⟨j, hj⟩ b h := hm_slice _ j hj _ _ _ rfl rfl rfl rfl rfl b h
include hj in
theorem kt_eq : hm (b29 j s) b h = cm s.main_v17_4 ⟨j, hj⟩ b h := hm_slice _ j hj _ _ _ rfl rfl rfl rfl rfl b h
include hj in
theorem cd_eq : hm (b35 j s) b h = cm s.main_v17_5 ⟨j, hj⟩ b h := hm_slice _ j hj _ _ _ rfl rfl rfl rfl rfl b h
include hj in
theorem z_eq : hm (b41 j s) b h = cm s.main_v17_6 ⟨j, hj⟩ b h := hm_slice _ j hj _ _ _ rfl rfl rfl rfl rfl b h

theorem v_eq : hm (b43 j s) b h = vNew (hm s.main_v17_9 b h) (hm (b17 j s) b h) (hm (b23 j s) b h) := by
  funext r e
  unfold hm vNew
  pointwise [b43, b42]

theorem o_eq : hm (b46 j s) b h = outO (hm s.main_v17_9 b h) (hm (b5 j s) b h) (hm (b11 j s) b h) (hm (b43 j s) b h) := by
  funext r e
  unfold hm outO
  pointwise [b46, b45, b44]

theorem st_eq : hm (b51 j s) b h = nextS (hm s.main_v17_9 b h) (hm (b29 j s) b h) (hm (b35 j s) b h) (hm (b43 j s) b h) := by
  funext r e
  unfold hm nextS
  pointwise [b51, b50, b49, b48, b47]

theorem y_eq : hm (b78 j s) b h = outY (hm (b46 j s) b h) (hm (b41 j s) b h) (fun e => (s.main_v17_7 : (⟨2, ![1, 64]⟩ : Shape).Idx → EReal) (ix2 0 e)) := by
  funext r e
  unfold hm outY meanE
  pointwise [b78, b77, b76, b75, b74, b73, b72, b71, b70, b69, b68, b67, b66, b65, b64, b63, b62, b61, b60, b59, b58, b57, b56, b55, b54, b53, b52]
  rfl

/-! ## The trips -/

/-- The loop's states, from what is handed to its first trip. -/
def it (qk qd u w kt cd z : T2048.Idx → EReal) (g : (⟨2, ![1, 64]⟩ : Shape).Idx → EReal) : ℕ → St
  | 0 => init g qk qd u w kt cd z
  | n + 1 => step n (it qk qd u w kt cd z g n)

variable (qk qd u w kt cd z : T2048.Idx → EReal) (g : (⟨2, ![1, 64]⟩ : Shape).Idx → EReal)

/-- What every trip leaves alone: the chunked arguments. -/
structure Keeps (s : St) : Prop where
  qk (n : Fin 32) (b : Fin 2) (h : Fin 4) : cm s.main_v17_0 n b h = chunk qk b n.val h
  qd (n : Fin 32) (b : Fin 2) (h : Fin 4) : cm s.main_v17_1 n b h = chunk qd b n.val h
  u (n : Fin 32) (b : Fin 2) (h : Fin 4) : cm s.main_v17_2 n b h = chunk u b n.val h
  w (n : Fin 32) (b : Fin 2) (h : Fin 4) : cm s.main_v17_3 n b h = chunk w b n.val h
  kt (n : Fin 32) (b : Fin 2) (h : Fin 4) : cm s.main_v17_4 n b h = chunk kt b n.val h
  cd (n : Fin 32) (b : Fin 2) (h : Fin 4) : cm s.main_v17_5 n b h = chunk cd b n.val h
  z (n : Fin 32) (b : Fin 2) (h : Fin 4) : cm s.main_v17_6 n b h = chunk z b n.val h
  g : s.main_v17_7 = g

theorem keeps : ∀ n, Keeps qk qd u w kt cd z g (it qk qd u w kt cd z g n)
  | 0 => ⟨cm_chunked qk _ _, cm_chunked qd _ _, cm_chunked u _ _, cm_chunked w _ _, cm_chunked kt _ _, cm_chunked cd _ _, cm_chunked z _ _, rfl⟩
  | n + 1 => have k := keeps n; ⟨k.qk, k.qd, k.u, k.w, k.kt, k.cd, k.z, k.g⟩

theorem zero_state (b : Fin 2) (h : Fin 4) : hm (K_main_v14 (F := Ideal)) b h = fun _ _ => 0 := by
  funext r e
  unfold hm
  pointwise [K_main_v14, K_main_cst]

theorem state_it (b : Fin 2) (h : Fin 4) : ∀ n, n ≤ 32 → hm (it qk qd u w kt cd z g n).main_v17_9 b h = stateAt u w kt cd b h n
  | 0, _ => zero_state b h
  | n + 1, hn => by
    have ih := state_it b h n (by omega)
    have k := keeps qk qd u w kt cd z g n
    show hm (b51 n (it qk qd u w kt cd z g n)) b h = _
    rw [st_eq, v_eq, kt_eq n (by omega), cd_eq n (by omega), u_eq n (by omega), w_eq n (by omega), ih, k.kt, k.cd, k.u, k.w]
    rfl

theorem y_it (b : Fin 2) (h : Fin 4) (n : ℕ) (hn : n < 32) :
    hm (b78 n (it qk qd u w kt cd z g n)) b h = yAt qk qd u w kt cd z (fun e => g (ix2 0 e)) b h n := by
  have k := keeps qk qd u w kt cd z g n
  rw [y_eq, o_eq, v_eq, qk_eq n hn, qd_eq n hn, u_eq n hn, w_eq n hn, z_eq n hn, state_it qk qd u w kt cd z g b h n (by omega), k.qk, k.qd, k.u, k.w, k.z, k.g]
  rfl

theorem stacks_it (b : Fin 2) (h : Fin 4) (k : Fin 32) : ∀ n, n ≤ 32 → k.val < n →
    cm (it qk qd u w kt cd z g n).main_v17_10 k b h = yAt qk qd u w kt cd z (fun e => g (ix2 0 e)) b h k.val
      ∧ cm (it qk qd u w kt cd z g n).main_v17_11 k b h = stateAt u w kt cd b h k.val
  | 0, _, hk => absurd hk (Nat.not_lt_zero _)
  | n + 1, hn, hk => by
    have e10 : cm (b84 n (it qk qd u w kt cd z g n)) k b h
        = if k.val = n then hm (b78 n (it qk qd u w kt cd z g n)) b h else cm (it qk qd u w kt cd z g n).main_v17_10 k b h :=
      cm_update _ _ n (by omega) _ _ _ rfl rfl rfl rfl rfl k b h
    have e11 : cm (b90 n (it qk qd u w kt cd z g n)) k b h
        = if k.val = n then hm (it qk qd u w kt cd z g n).main_v17_9 b h else cm (it qk qd u w kt cd z g n).main_v17_11 k b h :=
      cm_update _ _ n (by omega) _ _ _ rfl rfl rfl rfl rfl k b h
    show cm (b84 n (it qk qd u w kt cd z g n)) k b h = _ ∧ cm (b90 n (it qk qd u w kt cd z g n)) k b h = _
    rw [e10, e11]
    by_cases e : k.val = n
    · rw [if_pos e, if_pos e, y_it qk qd u w kt cd z g b h n (by omega), state_it qk qd u w kt cd z g b h n (by omega), e]
      exact ⟨rfl, rfl⟩
    · rw [if_neg e, if_neg e]
      exact stacks_it b h k n (by omega) (by omega)

theorem R19_at (b : Fin 2) (n : Fin 32) (r e : Fin 64) (h : Fin 4) :
    (R_main_v19 (it qk qd u w kt cd z g 32) : Tok) (ix3 b (row n.val r) (hd h e)) = yAt qk qd u w kt cd z (fun e => g (ix2 0 e)) b h n.val r e :=
  (rows_chunked _ _ _ b n r e h).trans (congrFun (congrFun (stacks_it qk qd u w kt cd z g b h n 32 (Nat.le_refl _) n.isLt).1 r) e)

theorem R21_at (b : Fin 2) (n : Fin 32) (r e : Fin 64) (h : Fin 4) :
    (R_main_v21 (it qk qd u w kt cd z g 32) : Tok) (ix3 b (row n.val r) (hd h e)) = stateAt u w kt cd b h n.val r e :=
  (rows_chunked _ _ _ b n r e h).trans (congrFun (congrFun (stacks_it qk qd u w kt cd z g b h n 32 (Nat.le_refl _) n.isLt).2 r) e)

end Cert.ReferenceIdeal.Trips

end
-- ==== Proof.Forward.lean ====
/- The forward call's claims: the kernel's two arrays are the reference's. -/
module

public import proofs.«01_k».proof.Defs
public import proofs.«01_k».proof.Proof.KernelArray
public import proofs.«01_k».proof.Proof.RefStep
public import Idealize.ShloMosaic.Lib.Quiescent

@[expose] public section

noncomputable section

namespace Cert.Proof.Forward

open Idealize.ShloMosaic Idealize.ShloMosaic.TcCoe Idealize.SL.Sem Cert.Spec Cert.Heads Cert.RefRead

/-- The reference leaves its arguments and its counters alone. -/
theorem frame_ref : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

section

variable (m : (ℓ : Loc Cert.KernelIdeal.nD Cert.KernelIdeal.τ Cert.KernelIdeal.sig) → Buf (Elt Ideal) ℓ) (c : Dev Cert.KernelIdeal.nD)

/-- The reference's last state, of the kernel's arguments. -/
abbrev last : Cert.ReferenceIdeal.Step.State Ideal :=
  Cert.ReferenceIdeal.Trips.it (Cert.KernelIdeal.Chunks.A m c 0) (Cert.KernelIdeal.Chunks.A m c 1) (Cert.KernelIdeal.Chunks.A m c 2) (Cert.KernelIdeal.Chunks.A m c 3)
    (Cert.KernelIdeal.Chunks.A m c 4) (Cert.KernelIdeal.Chunks.A m c 5) (Cert.KernelIdeal.Chunks.A m c 6)
    (m ((c.tc : Thread Cert.KernelIdeal.nD Cert.KernelIdeal.τ).loc Cert.KernelIdeal.main_arg7)) 32

theorem o_eq : (Cert.ReferenceIdeal.Step.R_main_v19 (last m c) : Tok) = Cert.KernelIdeal.Value.G8 m c :=
  tok_ext fun b n r k e => (Cert.ReferenceIdeal.Trips.R19_at _ _ _ _ _ _ _ _ b n r e k).trans
    (Cert.KernelIdeal.Chunks.G8_at m c b n.val n.isLt r e k).symm

theorem st_eq : (Cert.ReferenceIdeal.Step.R_main_v21 (last m c) : Tok) = Cert.KernelIdeal.Value.G9 m c :=
  tok_ext fun b n r k e => (Cert.ReferenceIdeal.Trips.R21_at _ _ _ _ _ _ _ _ b n r e k).trans
    (Cert.KernelIdeal.Chunks.G9_at m c b n.val n.isLt r e k).symm

end

theorem algebraic : Cert.algebraic_KernelIdeal_ReferenceIdeal := by
  intro m ρ m' ρ' _ hag
  refine ⟨fun c => Cert.KernelIdeal.Value.G8 m c, fun c => Cert.KernelIdeal.Value.G9 m c, Cert.KernelIdeal.Value.run (F := Ideal) m ρ, ?_⟩
  have hrun := Cert.ReferenceIdeal.RefRun.run_iter (F := Ideal) m' ρ' (fun c => Cert.ReferenceIdeal.Trips.it _ _ _ _ _ _ _ _) (fun c => rfl) (fun c n => rfl)
  refine (θ_run _ _ _).mono (fun _ h c => ⟨(h c).1.trans ?_, (h c).2.1.trans ?_, (h c).2.2⟩) hrun
  · rw [(hag c).1, (hag c).2.1, (hag c).2.2.1, (hag c).2.2.2.1, (hag c).2.2.2.2.1, (hag c).2.2.2.2.2.1, (hag c).2.2.2.2.2.2.1, (hag c).2.2.2.2.2.2.2]
    exact o_eq m c
  · rw [(hag c).1, (hag c).2.1, (hag c).2.2.1, (hag c).2.2.2.1, (hag c).2.2.2.2.1, (hag c).2.2.2.2.2.1, (hag c).2.2.2.2.2.2.1, (hag c).2.2.2.2.2.2.2]
    exact st_eq m c

end Cert.Proof.Forward

end
-- ==== Proof.RefBwdFrame.lean ====
/- The backward reference's frame. -/
module

public import proofs.«01_k».proof.Defs
public import proofs.«01_k».proof.Proof.Gen.ReferenceBwdIdeal.Run
public import Idealize.ShloMosaic.Lib.Quiescent

@[expose] public section

noncomputable section

namespace Cert.Proof.Backward

open Idealize.ShloMosaic Idealize.ShloMosaic.TcCoe Idealize.SL.Sem

/-- The reference leaves its arguments and its counters alone. -/
theorem frame_ref : Cert.quiescent_ReferenceBwdIdeal := fun m ρ _ =>
  (θ_run Cert.ReferenceBwdIdeal.defs _ _).mono (fun r h => ⟨fun c => (h c).2.2.2.2.2.2.2.2,
      Idealize.ShloMosaic.sem_eq_zero_of_no_sems (by decide) r.2⟩)
    (Cert.ReferenceBwdIdeal.Value.run (F := Ideal) m ρ)

end Cert.Proof.Backward

end
-- ==== Proof.SpecBwd.lean ====
/- The gradient of the gated delta rule on one chunk of one head, over the extended reals, and the recurrence that runs it from the last chunk to the first. -/
module

public import proofs.«01_k».proof.Proof.Spec

@[expose] public section

noncomputable section

namespace Cert.Spec

open Idealize.ShloMosaic Cert.Heads

/-! ## The gated norm's gradient: `o` the chunk's output, `z` its gate, `d` the cotangent, `g` the gain -/

/-- One over the row's root mean square. -/
def rinv (o : Mat) (c : Fin 64) : EReal := Ideal.rsqrt (meanE o c)

/-- The cotangent of the normed output. -/
def gradY (z d : Mat) : Mat := fun c e => d c e * (z c e * Ideal.logistic (z c e))

/-- The gradient of the gate. -/
def gradZ (o z d : Mat) (g : Fin 64 → EReal) : Mat := fun c e =>
  o c e * rinv o c * g e * d c e * Ideal.logistic (z c e)
    + z c e * (o c e * rinv o c * g e * d c e)
      * (Ideal.logistic (z c e) * (Scalar.ofBits (F := Ideal) .f32 0x3F800000#32 - Ideal.logistic (z c e)))

/-- The gradient of the gain, from this chunk. -/
def gradG (o z d : Mat) (e : Fin 64) : EReal := ∑ c : Fin 64, o c e * rinv o c * gradY z d c e

/-- What the mean square passes back to each entry of its row. -/
def gradT (o z d : Mat) (g : Fin 64 → EReal) (c : Fin 64) : EReal :=
  Ideal.div ((∑ e : Fin 64, o c e * (gradY z d c e * g e))
    * (Scalar.ofBits (F := Ideal) .f32 0xBF000000#32 * Ideal.div (rinv o c) (meanE o c))) (Scalar.ofBits (F := Ideal) .f32 0x42800000#32)

/-- The gradient of the chunk's output before its norm. -/
def gradO (o z d : Mat) (g : Fin 64 → EReal) : Mat := fun c e =>
  gradY z d c e * g e * rinv o c + o c e * gradT o z d g c + gradT o z d g c * o c e

/-! ## The chunk's gradient -/

/-- What a chunk's gradient reads: its six arrays, its gate, the state before it, the output's cotangent and the gain. -/
structure Ins where
  (qk qd u w kt cd z S d : Mat)
  (g : Fin 64 → EReal)

namespace Ins

variable (x : Ins) (D : Mat)

def v : Mat := vNew x.S x.u x.w
def o : Mat := outO x.S x.qk x.qd x.v
def dO : Mat := gradO x.o x.z x.d x.g
def dz : Mat := gradZ x.o x.z x.d x.g
def dg : Fin 64 → EReal := gradG x.o x.z x.d
/-- The gradient of the corrected values, which is that of `u`. -/
def du : Mat := fun c e => (∑ d : Fin 64, D d e * x.kt c d) + ∑ c' : Fin 64, x.dO c' e * x.qk c' c
def dkt : Mat := fun c d => ∑ e : Fin 64, D d e * x.v c e
def dqk : Mat := fun c s => ∑ e : Fin 64, x.dO c e * x.v s e
def dqd : Mat := fun c d => ∑ e : Fin 64, x.dO c e * x.S d e
def dw : Mat := fun c d => ∑ e : Fin 64, -(x.du D c e) * x.S d e
def dcd : Mat := fun c e => if c = 0 then ∑ d : Fin 64, x.S d e * D d e else 0
/-- The gradient of the state before the chunk, from that of the state after it. -/
def next : Mat := fun d e => D d e * x.cd 0 e + (∑ c : Fin 64, x.dO c e * x.qd c d) + ∑ c : Fin 64, -(x.du D c e) * x.w c d

end Ins

/-! ## The whole sequence, from its end -/

/-- The arguments, as arrays of rows. -/
structure Toks where
  (qk qd u w kt cd z S d : Tok)
  (g : Fin 64 → EReal)

/-- What chunk `n` reads. -/
def Toks.at (x : Toks) (b : Fin 2) (h : Fin 4) (n : ℕ) : Ins :=
  ⟨chunk x.qk b n h, chunk x.qd b n h, chunk x.u b n h, chunk x.w b n h, chunk x.kt b n h, chunk x.cd b n h, chunk x.z b n h, chunk x.S b n h,
    chunk x.d b n h, x.g⟩

/-- The state's gradient after `j` chunks from the end. -/
def Toks.dState (x : Toks) (b : Fin 2) (h : Fin 4) : ℕ → Mat
  | 0 => fun _ _ => 0
  | j + 1 => (x.at b h (31 - j)).next (Toks.dState x b h j)

end Cert.Spec

end
-- ==== Proof.ChunkBwd.lean ====
/- What the backward kernel computes of one chunk of one batch element, as operations on the four heads side by side, and each of these operations read at an
   index of one head. -/
module

public import proofs.«01_k».proof.Proof.Chunk
public import proofs.«01_k».proof.Proof.SpecBwd

@[expose] public section

set_option maxRecDepth 16384

noncomputable section

namespace Cert.Chunk

open Idealize.ShloMosaic Cert.Heads Cert.Spec

abbrev T256x64 : Shape := ⟨2, ![256, 64]⟩
abbrev T63x256 : Shape := ⟨2, ![63, 256]⟩
abbrev T64x128 : Shape := ⟨2, ![64, 128]⟩
abbrev T64x192 : Shape := ⟨2, ![64, 192]⟩
abbrev T256 : Shape := ⟨1, ![256]⟩

abbrev Hd := FVec Ideal T64x64 .f32

def dotRR : DotDims T64x256 T256x256 T64x256 where
  lhsContracting := [1]
  rhsContracting := [1]
  lhsNonContracting := [0]
  rhsNonContracting := [0]
  lhsBatch := []
  rhsBatch := []
  wf := by decide

def dotQR : DotDims T256x256 T64x256 T256x64 where
  lhsContracting := [1]
  rhsContracting := [1]
  lhsNonContracting := [0]
  rhsNonContracting := [0]
  lhsBatch := []
  rhsBatch := []
  wf := by decide

def dotQL : DotDims T256x256 T64x256 T256x64 where
  lhsContracting := [0]
  rhsContracting := [1]
  lhsNonContracting := [1]
  rhsNonContracting := [0]
  lhsBatch := []
  rhsBatch := []
  wf := by decide

/-- `x yᵀ`. -/
def mulRR (x : Rows) (y : Sq) : Rows :=
  extf .f32 (truncf .bf16 (matmul dotRR none (truncf .bf16 x (by decide)) (truncf .bf16 y (by decide)) (constant T64x256 .f32 0x00000000#32)) (by decide))
    (by decide)

/-- `(y xᵀ)ᵀ`. -/
def mulQR (y : Sq) (x : Rows) : Rows :=
  extf .f32 (truncf .bf16 (transpose T64x256 [1, 0]
    (matmul dotQR none (truncf .bf16 y (by decide)) (truncf .bf16 x (by decide)) (constant T256x64 .f32 0x00000000#32)) (by decide)) (by decide)) (by decide)

/-- `(yᵀ xᵀ)ᵀ`. -/
def mulQL (y : Sq) (x : Rows) : Rows :=
  extf .f32 (truncf .bf16 (transpose T64x256 [1, 0]
    (matmul dotQL none (truncf .bf16 y (by decide)) (truncf .bf16 x (by decide)) (constant T256x64 .f32 0x00000000#32)) (by decide)) (by decide)) (by decide)

/-- `(xᵀ y)ᵀ`. -/
def mulCT (x y : Rows) : Sq :=
  extf .f32 (truncf .bf16 (transpose T256x256 [1, 0] (mulCC x y) (by decide)) (by decide)) (by decide)

/-! ## One head's gated norm -/

def headN (o : Hd) : Hd := mulf o (broadcastTo T64x64 (rsqrt (meanV o)) (by decide))

def headDY (z d : Hd) : Hd := mulf d (mulf z (logistic z))

def headYD (o d : Hd) (g : FVec Ideal T1x64 .f32) : Hd := mulf (mulf (headN o) (broadcastTo T64x64 g (by decide))) d

def headZ (o z d : Hd) (g : FVec Ideal T1x64 .f32) : Hd :=
  addf (mulf (headYD o d g) (logistic z))
    (mulf (mulf z (headYD o d g)) (mulf (logistic z) (subf (broadcast T64x64 (Scalar.ofBits (F := Ideal) .f32 0x3F800000#32)) (logistic z))))

def headG (o z d : Hd) : FVec Ideal T1x64 .f32 :=
  shapeCast T1x64 (multiReduction .add [0] T64 (mulf (headN o) (headDY z d)) 0x00000000#32 (by decide) (.inl rfl) rfl) (by decide)

def headQ (z d : Hd) (g : FVec Ideal T1x64 .f32) : Hd := mulf (headDY z d) (broadcastTo T64x64 g (by decide))

def headT (o z d : Hd) (g : FVec Ideal T1x64 .f32) : Hd :=
  broadcastTo T64x64 (shapeCast T64x1 (multiReduction .add [1] T64
    (divf (mulf (shapeCast T64x1 (multiReduction .add [1] T64 (mulf o (headQ z d g)) 0x00000000#32 (by decide) (.inl rfl) rfl) (by decide))
        (mulf (broadcast T64x1 (Scalar.ofBits (F := Ideal) .f32 0xBF000000#32)) (divf (rsqrt (meanV o)) (meanV o))))
      (broadcast T64x1 (Scalar.ofBits (F := Ideal) .f32 0x42800000#32))) 0x00000000#32 (by decide) (.inl rfl) rfl) (by decide)) (by decide)

def headO (o z d : Hd) (g : FVec Ideal T1x64 .f32) : Hd :=
  addf (addf (mulf (headQ z d g) (broadcastTo T64x64 (rsqrt (meanV o)) (by decide))) (mulf o (headT o z d g))) (mulf (headT o z d g) o)

/-! ## Four heads, each padded by zeros to all columns, and added -/

def padV0 (x : Hd) : Rows :=
  concatenate T64x256 1 [⟨T64x64, x⟩, ⟨T64x192, broadcast T64x192 (Scalar.ofBits (F := Ideal) .f32 0x00000000#32)⟩]
    (by show Shape.Concatenates [T64x64, T64x192] T64x256 1; decide)
def padV1 (x : Hd) : Rows :=
  concatenate T64x256 1 [⟨T64x128, concatenate T64x128 1 [⟨T64x64, broadcast T64x64 (Scalar.ofBits (F := Ideal) .f32 0x00000000#32)⟩, ⟨T64x64, x⟩]
      (by show Shape.Concatenates [T64x64, T64x64] T64x128 1; decide)⟩, ⟨T64x128, broadcast T64x128 (Scalar.ofBits (F := Ideal) .f32 0x00000000#32)⟩]
    (by show Shape.Concatenates [T64x128, T64x128] T64x256 1; decide)
def padV2 (x : Hd) : Rows :=
  concatenate T64x256 1 [⟨T64x192, concatenate T64x192 1 [⟨T64x128, broadcast T64x128 (Scalar.ofBits (F := Ideal) .f32 0x00000000#32)⟩, ⟨T64x64, x⟩]
      (by show Shape.Concatenates [T64x128, T64x64] T64x192 1; decide)⟩, ⟨T64x64, broadcast T64x64 (Scalar.ofBits (F := Ideal) .f32 0x00000000#32)⟩]
    (by show Shape.Concatenates [T64x192, T64x64] T64x256 1; decide)
def padV3 (x : Hd) : Rows :=
  concatenate T64x256 1 [⟨T64x192, broadcast T64x192 (Scalar.ofBits (F := Ideal) .f32 0x00000000#32)⟩, ⟨T64x64, x⟩]
    (by show Shape.Concatenates [T64x192, T64x64] T64x256 1; decide)

def padsV (a₀ a₁ a₂ a₃ : Hd) : Rows := addf (addf (addf (padV3 a₃) (padV2 a₂)) (padV1 a₁)) (padV0 a₀)

def gradOV (o z d : Rows) (g : FVec Ideal T1x64 .f32) : Rows :=
  padsV (headO (colsV0 o) (colsV0 z) (colsV0 d) g) (headO (colsV1 o) (colsV1 z) (colsV1 d) g) (headO (colsV2 o) (colsV2 z) (colsV2 d) g)
    (headO (colsV3 o) (colsV3 z) (colsV3 d) g)

def gradZV (o z d : Rows) (g : FVec Ideal T1x64 .f32) : Rows :=
  padsV (headZ (colsV0 o) (colsV0 z) (colsV0 d) g) (headZ (colsV1 o) (colsV1 z) (colsV1 d) g) (headZ (colsV2 o) (colsV2 z) (colsV2 d) g)
    (headZ (colsV3 o) (colsV3 z) (colsV3 d) g)

def gradGV (o z d : Rows) : FVec Ideal T1x64 .f32 :=
  addf (addf (addf (headG (colsV3 o) (colsV3 z) (colsV3 d)) (headG (colsV2 o) (colsV2 z) (colsV2 d))) (headG (colsV1 o) (colsV1 z) (colsV1 d)))
    (headG (colsV0 o) (colsV0 z) (colsV0 d))

/-! ## The chunk -/

/-- The sums of a square's columns as the first row, zeros below. -/
def dcdV (s D : Sq) : Rows :=
  concatenate T64x256 0 [⟨T1x256, shapeCast T1x256 (multiReduction .add [0] T256 (mulf s D) 0x00000000#32 (by decide) (.inl rfl) rfl) (by decide)⟩,
      ⟨T63x256, broadcast T63x256 (Scalar.ofBits (F := Ideal) .f32 0x00000000#32)⟩]
    (by show Shape.Concatenates [T1x256, T63x256] T64x256 0; decide)

def duV (D : Sq) (kt dO qk : Rows) : Rows :=
  addf (addf (addf (addf (mulQL D kt) (extractStridedSlice T64x256 ![0, 0] (maskV (mulCT dO qk)) (by decide)))
    (extractStridedSlice T64x256 ![64, 0] (maskV (mulCT dO qk)) (by decide)))
    (extractStridedSlice T64x256 ![128, 0] (maskV (mulCT dO qk)) (by decide))) (extractStridedSlice T64x256 ![192, 0] (maskV (mulCT dO qk)) (by decide))

def negV (x : Rows) : Rows := subf (broadcast T64x256 (Scalar.ofBits (F := Ideal) .f32 0x00000000#32)) x

/-- What a chunk's gradient reads, of one batch element, all heads. -/
structure VIns where
  (qk qd u w kt cd z S d : Rows)
  (g : FVec Ideal T1x64 .f32)

namespace VIns

variable (x : VIns) (D : Sq)

def s : Sq := diagV x.S
def v : Rows := vNewV x.s x.u x.w
def o : Rows := outOV x.s x.qk x.qd x.v
def dO : Rows := gradOV x.o x.z x.d x.g
def dz : Rows := gradZV x.o x.z x.d x.g
def dg : FVec Ideal T1x64 .f32 := gradGV x.o x.z x.d
def D0 : Sq := shapeCast T256x256 D (by decide)
def D' : Sq := maskV (D0 D)
def du : Rows := duV (D' D) x.kt x.dO x.qk
def dkt : Rows := mulQR (D' D) x.v
def dqk : Rows := mulRR x.dO (diagV x.v)
def dqd : Rows := mulRR x.dO x.s
def dw : Rows := mulRR (negV (x.du D)) x.s
def dcd : Rows := dcdV x.s (D0 D)
def next : Sq := maskV (addf (addf (mulf (D0 D) (row0V x.cd)) (mulCT x.dO x.qd)) (mulCT (negV (x.du D)) x.w))

/-- One head's. -/
def ins (h : Fin 4) : Ins :=
  ⟨cols x.qk h, cols x.qd h, cols x.u h, cols x.w h, cols x.kt h, cols x.cd h, cols x.z h, cols x.S h, cols x.d h, fun e => x.g (ix2 0 e)⟩

end VIns

/-! ## At an index of one head -/

theorem mulRR_apply (x : Rows) (y : Sq) (c : Fin 64) (k : Fin 256) : mulRR x y (ix2 c k) = ∑ j : Fin 256, x (ix2 c j) * y (ix2 k j) := by
  unfold mulRR
  pointwise

theorem mulQR_apply (y : Sq) (x : Rows) (c : Fin 64) (k : Fin 256) : mulQR y x (ix2 c k) = ∑ j : Fin 256, y (ix2 k j) * x (ix2 c j) := by
  unfold mulQR
  pointwise

theorem mulQL_apply (y : Sq) (x : Rows) (c : Fin 64) (k : Fin 256) : mulQL y x (ix2 c k) = ∑ j : Fin 256, y (ix2 j k) * x (ix2 c j) := by
  unfold mulQL
  pointwise

theorem mulCT_apply (x y : Rows) (i j : Fin 256) : mulCT x y (ix2 i j) = ∑ c : Fin 64, x (ix2 c j) * y (ix2 c i) := by
  unfold mulCT
  pointwise
  exact mulCC_apply x y j i

theorem mulRR_diag {s : Sq} {M : Fin 4 → Mat} (hs : Diag s M) (x : Rows) (h : Fin 4) :
    cols (mulRR x s) h = fun c d => ∑ e : Fin 64, cols x h c e * M h d e := by
  funext c d
  show mulRR x s (ix2 c (hd h d)) = _
  rw [mulRR_apply, sum_block _ h (fun e => x (ix2 c (hd h e)) * M h d e)]
  · rfl
  · intro e
    rw [hs, if_pos rfl]
  · intro h' e hne
    rw [hs, if_neg (Ne.symm hne), mul_zero]

theorem mulQR_diag {s : Sq} {M : Fin 4 → Mat} (hs : Diag s M) (x : Rows) (h : Fin 4) :
    cols (mulQR s x) h = fun c d => ∑ e : Fin 64, M h d e * cols x h c e := by
  funext c d
  show mulQR s x (ix2 c (hd h d)) = _
  rw [mulQR_apply, sum_block _ h (fun e => M h d e * x (ix2 c (hd h e)))]
  · rfl
  · intro e
    rw [hs, if_pos rfl]
  · intro h' e hne
    rw [hs, if_neg (Ne.symm hne), zero_mul]

theorem mulQL_diag {s : Sq} {M : Fin 4 → Mat} (hs : Diag s M) (x : Rows) (h : Fin 4) :
    cols (mulQL s x) h = fun c e => ∑ d : Fin 64, M h d e * cols x h c d := by
  funext c e
  show mulQL s x (ix2 c (hd h e)) = _
  rw [mulQL_apply, sum_block _ h (fun d => M h d e * x (ix2 c (hd h d)))]
  · rfl
  · intro d
    rw [hs, if_pos rfl]
  · intro h' d hne
    rw [hs, if_neg hne, zero_mul]

theorem headN_apply (o : Hd) (c e : Fin 64) : headN o (ix2 c e) = o (ix2 c e) * rinv (fun c e => o (ix2 c e)) c := by
  unfold headN rinv
  pointwise
  rw [meanV_apply]

theorem headDY_apply (z d : Hd) (c e : Fin 64) : headDY z d (ix2 c e) = gradY (fun c e => z (ix2 c e)) (fun c e => d (ix2 c e)) c e := by
  unfold headDY gradY
  pointwise

theorem headYD_apply (o d : Hd) (g : FVec Ideal T1x64 .f32) (c e : Fin 64) :
    headYD o d g (ix2 c e) = o (ix2 c e) * rinv (fun c e => o (ix2 c e)) c * g (ix2 0 e) * d (ix2 c e) := by
  unfold headYD
  pointwise
  rw [headN_apply]

theorem headZ_apply (o z d : Hd) (g : FVec Ideal T1x64 .f32) (c e : Fin 64) :
    headZ o z d g (ix2 c e) = gradZ (fun c e => o (ix2 c e)) (fun c e => z (ix2 c e)) (fun c e => d (ix2 c e)) (fun e => g (ix2 0 e)) c e := by
  unfold headZ gradZ
  pointwise
  rw [headYD_apply]

theorem headG_apply (o z d : Hd) (e : Fin 64) (i : Fin 1) :
    headG o z d (ix2 i e) = gradG (fun c e => o (ix2 c e)) (fun c e => z (ix2 c e)) (fun c e => d (ix2 c e)) e := by
  unfold headG gradG
  pointwise
  simp only [headN_apply, headDY_apply]

theorem headQ_apply (z d : Hd) (g : FVec Ideal T1x64 .f32) (c e : Fin 64) :
    headQ z d g (ix2 c e) = gradY (fun c e => z (ix2 c e)) (fun c e => d (ix2 c e)) c e * g (ix2 0 e) := by
  unfold headQ
  pointwise
  rw [headDY_apply]

theorem headT_apply (o z d : Hd) (g : FVec Ideal T1x64 .f32) (c e : Fin 64) :
    headT o z d g (ix2 c e) = gradT (fun c e => o (ix2 c e)) (fun c e => z (ix2 c e)) (fun c e => d (ix2 c e)) (fun e => g (ix2 0 e)) c := by
  unfold headT gradT rinv
  pointwise
  simp only [headQ_apply, meanV_apply]
  exact Fin.sum_univ_one _

theorem headO_apply (o z d : Hd) (g : FVec Ideal T1x64 .f32) (c e : Fin 64) :
    headO o z d g (ix2 c e) = gradO (fun c e => o (ix2 c e)) (fun c e => z (ix2 c e)) (fun c e => d (ix2 c e)) (fun e => g (ix2 0 e)) c e := by
  unfold headO gradO
  pointwise
  rw [headQ_apply, headT_apply, meanV_apply]
  rfl

theorem padV0_apply (x : Hd) (h : Fin 4) (c e : Fin 64) : cols (padV0 x) h c e = if h = 0 then x (ix2 c e) else 0 := by
  have he := e.isLt
  have hv : (hd h e).val = 64 * h.val + e.val := rfl
  unfold padV0 cols
  match h with
  | 0 | 1 | 2 | 3 =>
    pointwise
    simp only [hv]
    simp (disch := simp; try omega) [dif_pos, dif_neg]

theorem padV1_apply (x : Hd) (h : Fin 4) (c e : Fin 64) : cols (padV1 x) h c e = if h = 1 then x (ix2 c e) else 0 := by
  have he := e.isLt
  have hv : (hd h e).val = 64 * h.val + e.val := rfl
  unfold padV1 cols
  match h with
  | 0 | 1 | 2 | 3 =>
    pointwise
    simp only [hv]
    simp (disch := simp; try omega) [dif_pos, dif_neg]

theorem padV2_apply (x : Hd) (h : Fin 4) (c e : Fin 64) : cols (padV2 x) h c e = if h = 2 then x (ix2 c e) else 0 := by
  have he := e.isLt
  have hv : (hd h e).val = 64 * h.val + e.val := rfl
  unfold padV2 cols
  match h with
  | 0 | 1 | 2 | 3 =>
    pointwise
    simp only [hv]
    simp (disch := simp; try omega) [dif_pos, dif_neg]

theorem padV3_apply (x : Hd) (h : Fin 4) (c e : Fin 64) : cols (padV3 x) h c e = if h = 3 then x (ix2 c e) else 0 := by
  have he := e.isLt
  have hv : (hd h e).val = 64 * h.val + e.val := rfl
  unfold padV3 cols
  match h with
  | 0 | 1 | 2 | 3 =>
    pointwise
    simp only [hv]
    simp (disch := simp; try omega) [dif_pos, dif_neg]

theorem padsV_apply (a₀ a₁ a₂ a₃ : Hd) (h : Fin 4) (c e : Fin 64) :
    cols (padsV a₀ a₁ a₂ a₃) h c e = (![a₀, a₁, a₂, a₃] : Fin 4 → Hd) h (ix2 c e) := by
  show cols (padV3 a₃) h c e + cols (padV2 a₂) h c e + cols (padV1 a₁) h c e + cols (padV0 a₀) h c e = _
  rw [padV0_apply, padV1_apply, padV2_apply, padV3_apply]
  fin_cases h <;> simp

theorem gradOV_cols (o z d : Rows) (g : FVec Ideal T1x64 .f32) (h : Fin 4) :
    cols (gradOV o z d g) h = gradO (cols o h) (cols z h) (cols d h) fun e => g (ix2 0 e) := by
  funext c e
  unfold gradOV
  rw [padsV_apply]
  match h with
  | 0 => exact (headO_apply _ _ _ _ _ _).trans (by simp only [colsV0_apply])
  | 1 => exact (headO_apply _ _ _ _ _ _).trans (by simp only [colsV1_apply])
  | 2 => exact (headO_apply _ _ _ _ _ _).trans (by simp only [colsV2_apply])
  | 3 => exact (headO_apply _ _ _ _ _ _).trans (by simp only [colsV3_apply])

theorem gradZV_cols (o z d : Rows) (g : FVec Ideal T1x64 .f32) (h : Fin 4) :
    cols (gradZV o z d g) h = gradZ (cols o h) (cols z h) (cols d h) fun e => g (ix2 0 e) := by
  funext c e
  unfold gradZV
  rw [padsV_apply]
  match h with
  | 0 => exact (headZ_apply _ _ _ _ _ _).trans (by simp only [colsV0_apply])
  | 1 => exact (headZ_apply _ _ _ _ _ _).trans (by simp only [colsV1_apply])
  | 2 => exact (headZ_apply _ _ _ _ _ _).trans (by simp only [colsV2_apply])
  | 3 => exact (headZ_apply _ _ _ _ _ _).trans (by simp only [colsV3_apply])

theorem gradGV_apply (o z d : Rows) (e : Fin 64) (i : Fin 1) :
    gradGV o z d (ix2 i e) = ∑ h : Fin 4, gradG (cols o h) (cols z h) (cols d h) e := by
  unfold gradGV
  pointwise
  rw [headG_apply, headG_apply, headG_apply, headG_apply]
  simp only [colsV0_apply, colsV1_apply, colsV2_apply, colsV3_apply]
  rw [Fin.sum_univ_four]
  ac_rfl

theorem dcdV_diag {s D : Sq} {M N : Fin 4 → Mat} (hs : Diag s M) (hD : Diag D N) (h : Fin 4) :
    cols (dcdV s D) h = fun c e => if c = 0 then ∑ d : Fin 64, M h d e * N h d e else 0 := by
  have e0 : ∀ k : Fin 256, dcdV s D (ix2 0 k) = ∑ i : Fin 256, s (ix2 i k) * D (ix2 i k) := by
    intro k
    unfold dcdV
    pointwise
  have e1 : ∀ (c : Fin 64) (k : Fin 256), c ≠ 0 → dcdV s D (ix2 c k) = 0 := by
    intro c k hc
    have hc' : c.val ≠ 0 := fun e => hc (Fin.ext e)
    unfold dcdV
    pointwise
    simp (disch := omega) [dif_neg]
  funext c e
  show dcdV s D (ix2 c (hd h e)) = _
  by_cases hc : c = 0
  · subst hc
    rw [if_pos rfl, e0, sum_block _ h (fun d => M h d e * N h d e)]
    · intro d
      rw [hs, hD, if_pos rfl, if_pos rfl]
    · intro h' d hne
      rw [hs, if_neg hne, zero_mul]
  · rw [if_neg hc, e1 c _ hc]

theorem maskT_diag (x y : Rows) : Diag (maskV (mulCT x y)) fun h d e => ∑ c : Fin 64, cols x h c e * cols y h c d := by
  intro h' d h e
  rw [maskV_apply, headOf_hd, headOf_hd, mulCT_apply]
  by_cases hh : h' = h
  · subst hh
    rw [if_pos rfl, if_pos rfl]
    rfl
  · rw [if_neg hh, if_neg hh]

theorem duV_diag {D : Sq} {N : Fin 4 → Mat} (hD : Diag D N) (kt dO qk : Rows) (h : Fin 4) :
    cols (duV D kt dO qk) h
      = fun c e => (∑ d : Fin 64, N h d e * cols kt h c d) + ∑ c' : Fin 64, cols dO h c' e * cols qk h c' c := by
  have e0 : duV D kt dO qk = fun i => mulQL D kt i + compactV (maskV (mulCT dO qk)) i := by
    funext i
    unfold duV compactV
    show _ + _ + _ + _ + _ = _ + (_ + _ + _ + _)
    simp only [add_assoc]
  funext c e
  rw [e0]
  show cols (mulQL D kt) h c e + cols (compactV (maskV (mulCT dO qk))) h c e = _
  rw [mulQL_diag hD, compactV_diag (maskT_diag dO qk)]

theorem negV_cols (x : Rows) (h : Fin 4) : cols (negV x) h = fun c e => -(cols x h c e) := by
  funext c e
  show Scalar.ofBits (F := Ideal) .f32 0x00000000#32 - x (ix2 c (hd h e)) = -(x (ix2 c (hd h e)))
  rw [zero_word, zero_sub]

namespace VIns

variable (x : VIns) (D : Sq) (N : Fin 4 → Mat) (h : Fin 4)

theorem s_diag : Diag x.s fun h => cols x.S h := diagV_diag x.S

theorem v_cols : cols x.v h = (x.ins h).v := vNewV_diag x.s_diag x.u x.w h

theorem o_cols : cols x.o h = (x.ins h).o := by
  show cols (outOV x.s x.qk x.qd x.v) h = _
  rw [outOV_diag x.s_diag, v_cols]
  rfl

theorem dO_cols : cols x.dO h = (x.ins h).dO := by
  show cols (gradOV x.o x.z x.d x.g) h = _
  rw [gradOV_cols, o_cols]
  rfl

theorem dz_cols : cols x.dz h = (x.ins h).dz := by
  show cols (gradZV x.o x.z x.d x.g) h = _
  rw [gradZV_cols, o_cols]
  rfl

theorem dg_apply (e : Fin 64) (i : Fin 1) : x.dg (ix2 i e) = ∑ h : Fin 4, (x.ins h).dg e := by
  show gradGV x.o x.z x.d (ix2 i e) = _
  rw [gradGV_apply]
  simp only [o_cols]
  rfl

variable {D N}

theorem D0_diag (hD : Diag D N) : Diag (D0 D) N := by
  intro h' d h e
  refine Eq.trans ?_ (hD h' d h e)
  unfold D0
  pointwise

theorem D'_diag (hD : Diag D N) : Diag (D' D) N := by
  intro h' d h e
  unfold D'
  rw [maskV_apply, headOf_hd, headOf_hd, D0_diag hD]
  by_cases hh : h' = h
  · rw [if_pos hh, if_pos hh]
  · rw [if_neg hh, if_neg hh]

theorem du_cols (hD : Diag D N) : cols (x.du D) h = (x.ins h).du (N h) := by
  show cols (duV (D' D) x.kt x.dO x.qk) h = _
  rw [duV_diag (D'_diag hD), dO_cols]
  rfl

theorem dkt_cols (hD : Diag D N) : cols (x.dkt D) h = (x.ins h).dkt (N h) := by
  show cols (mulQR (D' D) x.v) h = _
  rw [mulQR_diag (D'_diag hD), v_cols]
  rfl

theorem dqk_cols : cols x.dqk h = (x.ins h).dqk := by
  show cols (mulRR x.dO (diagV x.v)) h = _
  rw [mulRR_diag (diagV_diag x.v), v_cols, dO_cols]
  rfl

theorem dqd_cols : cols x.dqd h = (x.ins h).dqd := by
  show cols (mulRR x.dO x.s) h = _
  rw [mulRR_diag x.s_diag, dO_cols]
  rfl

theorem dw_cols (hD : Diag D N) : cols (x.dw D) h = (x.ins h).dw (N h) := by
  show cols (mulRR (negV (x.du D)) x.s) h = _
  rw [mulRR_diag x.s_diag, negV_cols, x.du_cols h hD]
  rfl

theorem dcd_cols (hD : Diag D N) : cols (x.dcd D) h = (x.ins h).dcd (N h) := dcdV_diag x.s_diag (D0_diag hD) h

theorem next_diag (hD : Diag D N) : Diag (x.next D) fun h => (x.ins h).next (N h) := by
  intro h' d h e
  unfold next
  rw [maskV_apply, headOf_hd, headOf_hd]
  by_cases hh : h' = h
  · subst hh
    rw [if_pos rfl, if_pos rfl]
    show D0 D (ix2 (hd h' d) (hd h' e)) * row0V x.cd (ix2 (hd h' d) (hd h' e)) + mulCT x.dO x.qd (ix2 (hd h' d) (hd h' e))
      + mulCT (negV (x.du D)) x.w (ix2 (hd h' d) (hd h' e)) = _
    rw [D0_diag hD, if_pos rfl, row0V_apply, mulCT_apply, mulCT_apply]
    have e1 : ∀ c, x.dO (ix2 c (hd h' e)) = (x.ins h').dO c e := fun c => congrFun (congrFun (x.dO_cols h') c) e
    have e2 : ∀ c, negV (x.du D) (ix2 c (hd h' e)) = -((x.ins h').du (N h') c e) := fun c => by
      rw [← x.du_cols h' hD]
      exact congrFun (congrFun (negV_cols (x.du D) h') c) e
    simp only [e1, e2]
    rfl
  · rw [if_neg hh, if_neg hh]

end VIns

end Cert.Chunk

end
-- ==== Proof.KernelBwdStep.lean ====
/- One grid point of the backward kernel: what it leaves in its eight output blocks and in the carried gradient of the state is the chunk's gradient of each batch
   element on what its input blocks hold and what was carried before (zeros at the first point). -/
module

public import proofs.«01_k».proof.Proof.Batch
public import proofs.«01_k».proof.Proof.ChunkBwd
public import proofs.«01_k».proof.Proof.Gen.KernelBwdIdeal.Value

@[expose] public section

set_option maxRecDepth 16384
set_option maxHeartbeats 1000000

noncomputable section

namespace Cert.KernelBwdIdeal.Chunks

open Idealize.ShloMosaic Idealize.ShloMosaic.TcCoe Idealize.SL.Sem
open Cert.KernelBwdIdeal Cert.KernelBwdIdeal.Gen Cert.Chunk Cert.Batch

theorem vec2 {α : Type} {a a' b b' : α} (h : a = a') (h' : b = b') : (![a, b] : Fin 2 → α) = ![a', b'] := by rw [h, h']

variable (m : (ℓ : Loc nD τ sig) → Buf (Elt Ideal) ℓ)

/-- What a point reads of one batch element. -/
def ins (f : FVec Ideal T2x64x256 .f32 → Rows) (c : Dev nD) (t : Fin cfg0.N) : VIns :=
  ⟨f (iblk m c 0 t), f (iblk m c 1 t), f (iblk m c 2 t), f (iblk m c 3 t), f (iblk m c 4 t), f (iblk m c 5 t), f (iblk m c 6 t), f (iblk m c 8 t),
    f (iblk m c 9 t), iblk m c 7 t⟩

/-- The gradient of the state before the first point. -/
def zeroS : FVec Ideal T2x256x256 .f32 := k0_pay4 (F := Ideal)

/-- What the point before carried. -/
abbrev carried (c : Dev nD) (t : Fin cfg0.N) : FVec Ideal T2x256x256 .f32 :=
  (outsAt0 m c (t.val - 1) (Nat.lt_of_le_of_lt (Nat.sub_le _ _) t.isLt)).2.2.2.2.2.2.2.2

abbrev dgBefore (c : Dev nD) (t : Fin cfg0.N) : FVec Ideal T1x64 .f32 :=
  (outsAt0 m c (t.val - 1) (Nat.lt_of_le_of_lt (Nat.sub_le _ _) t.isLt)).2.2.2.2.2.2.2.1

def point_dqk (c : Dev nD) (t : Fin cfg0.N) : FVec Ideal T2x64x256 .f32 := rowsOf ![(ins m rows0 c t).dqk, (ins m rows1 c t).dqk]

def point_dqd (c : Dev nD) (t : Fin cfg0.N) : FVec Ideal T2x64x256 .f32 := rowsOf ![(ins m rows0 c t).dqd, (ins m rows1 c t).dqd]

def point_du (c : Dev nD) (t : Fin cfg0.N) (D : FVec Ideal T2x256x256 .f32) : FVec Ideal T2x64x256 .f32 :=
  rowsOf ![(ins m rows0 c t).du (sq0 D), (ins m rows1 c t).du (sq1 D)]

def point_dw (c : Dev nD) (t : Fin cfg0.N) (D : FVec Ideal T2x256x256 .f32) : FVec Ideal T2x64x256 .f32 :=
  rowsOf ![(ins m rows0 c t).dw (sq0 D), (ins m rows1 c t).dw (sq1 D)]

def point_dkt (c : Dev nD) (t : Fin cfg0.N) (D : FVec Ideal T2x256x256 .f32) : FVec Ideal T2x64x256 .f32 :=
  rowsOf ![(ins m rows0 c t).dkt (sq0 D), (ins m rows1 c t).dkt (sq1 D)]

def point_dcd (c : Dev nD) (t : Fin cfg0.N) (D : FVec Ideal T2x256x256 .f32) : FVec Ideal T2x64x256 .f32 :=
  rowsOf ![(ins m rows0 c t).dcd (sq0 D), (ins m rows1 c t).dcd (sq1 D)]

def point_dz (c : Dev nD) (t : Fin cfg0.N) : FVec Ideal T2x64x256 .f32 := rowsOf ![(ins m rows0 c t).dz, (ins m rows1 c t).dz]

def point_next (c : Dev nD) (t : Fin cfg0.N) (D : FVec Ideal T2x256x256 .f32) : FVec Ideal T2x256x256 .f32 :=
  sqsOf ![(ins m rows0 c t).next (sq0 D), (ins m rows1 c t).next (sq1 D)]

def point_dg (c : Dev nD) (t : Fin cfg0.N) : FVec Ideal T1x64 .f32 := addf (ins m rows0 c t).dg (ins m rows1 c t).dg

theorem dqk_B (c : Dev nD) (t : Fin cfg0.N) (h0 : ¬t.val % 32 = 0) (h2 : 1 ≤ t.val) :
    (outsAt0 m c t.val t.isLt).1 = point_dqk m c t := by
  rw [outsAt0_B m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dqk, ins, VIns.dO, VIns.o, VIns.v, VIns.s, VIns.D', VIns.du, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dqk_A (c : Dev nD) (t : Fin cfg0.N) (h0 : t.val % 32 = 0) (h2 : ¬1 ≤ t.val) :
    (outsAt0 m c t.val t.isLt).1 = point_dqk m c t := by
  rw [outsAt0_A m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dqk, ins, VIns.dO, VIns.o, VIns.v, VIns.s, VIns.D', VIns.du, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dqd_B (c : Dev nD) (t : Fin cfg0.N) (h0 : ¬t.val % 32 = 0) (h2 : 1 ≤ t.val) :
    (outsAt0 m c t.val t.isLt).2.1 = point_dqd m c t := by
  rw [outsAt0_B m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dqd, ins, VIns.dO, VIns.o, VIns.v, VIns.s, VIns.D', VIns.du, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dqd_A (c : Dev nD) (t : Fin cfg0.N) (h0 : t.val % 32 = 0) (h2 : ¬1 ≤ t.val) :
    (outsAt0 m c t.val t.isLt).2.1 = point_dqd m c t := by
  rw [outsAt0_A m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dqd, ins, VIns.dO, VIns.o, VIns.v, VIns.s, VIns.D', VIns.du, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dz_B (c : Dev nD) (t : Fin cfg0.N) (h0 : ¬t.val % 32 = 0) (h2 : 1 ≤ t.val) :
    (outsAt0 m c t.val t.isLt).2.2.2.2.2.2.1 = point_dz m c t := by
  rw [outsAt0_B m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dz, ins, VIns.dO, VIns.o, VIns.v, VIns.s, VIns.D', VIns.du, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dz_A (c : Dev nD) (t : Fin cfg0.N) (h0 : t.val % 32 = 0) (h2 : ¬1 ≤ t.val) :
    (outsAt0 m c t.val t.isLt).2.2.2.2.2.2.1 = point_dz m c t := by
  rw [outsAt0_A m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dz, ins, VIns.dO, VIns.o, VIns.v, VIns.s, VIns.D', VIns.du, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

end Cert.KernelBwdIdeal.Chunks

end
-- ==== Proof.KernelBwdStepD.lean ====
/- One grid point of the backward kernel: what it leaves in its eight output blocks and in the carried gradient of the state is the chunk's gradient of each batch
   element on what its input blocks hold and what was carried before (zeros at the first point). -/
module

public import proofs.«01_k».proof.Proof.Batch
public import proofs.«01_k».proof.Proof.ChunkBwd
public import proofs.«01_k».proof.Proof.KernelBwdStep

@[expose] public section

set_option maxRecDepth 16384
set_option maxHeartbeats 1000000

noncomputable section

namespace Cert.KernelBwdIdeal.Chunks

open Idealize.ShloMosaic Idealize.ShloMosaic.TcCoe Idealize.SL.Sem
open Cert.KernelBwdIdeal Cert.KernelBwdIdeal.Gen Cert.Chunk Cert.Batch

variable (m : (ℓ : Loc nD τ sig) → Buf (Elt Ideal) ℓ)

theorem du_B (c : Dev nD) (t : Fin cfg0.N) (h0 : ¬t.val % 32 = 0) (h2 : 1 ≤ t.val) :
    (outsAt0 m c t.val t.isLt).2.2.1 = point_du m c t (carried m c t) := by
  rw [outsAt0_B m c t h0 h0 h2]
  frame_open
  simp (disch := decide) only [↓ View.readCov_skip, ↓ View.readCov_cons_toLoadRect, ↓ View.readCov_fill]
  frame_out
  simp only [read_unread_whole]
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.du, ins, VIns.dO, VIns.o, VIns.v, VIns.s, VIns.D', VIns.D0, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem du_A (c : Dev nD) (t : Fin cfg0.N) (h0 : t.val % 32 = 0) (h2 : ¬1 ≤ t.val) :
    (outsAt0 m c t.val t.isLt).2.2.1 = point_du m c t zeroS := by
  rw [outsAt0_A m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.du, ins, VIns.dO, VIns.o, VIns.v, VIns.s, VIns.D', VIns.D0, mulRR, mulQR, mulQL, mulCT, gradOV, padsV, padV0, padV1, padV2, padV3, headO,
      headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dw_B (c : Dev nD) (t : Fin cfg0.N) (h0 : ¬t.val % 32 = 0) (h2 : 1 ≤ t.val) :
    (outsAt0 m c t.val t.isLt).2.2.2.1 = point_dw m c t (carried m c t) := by
  rw [outsAt0_B m c t h0 h0 h2]
  frame_open
  simp (disch := decide) only [↓ View.readCov_skip, ↓ View.readCov_cons_toLoadRect, ↓ View.readCov_fill]
  frame_out
  simp only [read_unread_whole]
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dw, ins, VIns.dO, VIns.o, VIns.v, VIns.s, VIns.D', VIns.D0, VIns.du, mulRR, mulQR, mulQL, mulCT, gradOV, padsV, padV0, padV1, padV2, padV3,
      headO, headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dw_A (c : Dev nD) (t : Fin cfg0.N) (h0 : t.val % 32 = 0) (h2 : ¬1 ≤ t.val) :
    (outsAt0 m c t.val t.isLt).2.2.2.1 = point_dw m c t zeroS := by
  rw [outsAt0_A m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dw, ins, VIns.dO, VIns.o, VIns.v, VIns.s, VIns.D', VIns.D0, VIns.du, mulRR, mulQR, mulQL, mulCT, gradOV, padsV, padV0, padV1, padV2, padV3,
      headO, headQ, headT, headDY, headN, meanV, colsV0, colsV1, colsV2, colsV3, outOV, vNewV, diagV, maskV, mulRC, mulCC, rows0, rows1, sq0, sq1,
      Cert.Heads.mask, Cert.Heads.floor64, duV, negV, dcdV, row0V, gradZV, gradGV, headZ, headYD, headG]
    rfl

theorem dkt_B (c : Dev nD) (t : Fin cfg0.N) (h0 : ¬t.val % 32 = 0) (h2 : 1 ≤ t.val) :
    (outsAt0 m c t.val t.isLt).2.2.2.2.1 = point_dkt m c t (carried m c t) := by
  rw [outsAt0_B m c t h0 h0 h2]
  frame_open
  simp (disch := decide) only [↓ View.readCov_skip, ↓ View.readCov_cons_toLoadRect, ↓ View.readCov_fill]
  frame_out
  simp only [read_unread_whole]
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dkt, ins, VIns.dO, VIns.o, VIns.v, VIns.s, VIns.D', VIns.D0, VIns.du, mulRR, mulQR, mulQL, mulCT, gradOV, padsV, padV0, padV1, padV2,
      padV3, headO, headQ, headT, headDY, headN, meanV, colsV0, colsV1, colsV2, colsV3, outOV, vNewV, diagV, maskV, mulRC, mulCC, rows0, rows1, sq0,
      sq1, Cert.Heads.mask, Cert.Heads.floor64, duV, negV, dcdV, row0V, gradZV, gradGV, headZ, headYD, headG]
    rfl

theorem dkt_A (c : Dev nD) (t : Fin cfg0.N) (h0 : t.val % 32 = 0) (h2 : ¬1 ≤ t.val) :
    (outsAt0 m c t.val t.isLt).2.2.2.2.1 = point_dkt m c t zeroS := by
  rw [outsAt0_A m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dkt, ins, VIns.dO, VIns.o, VIns.v, VIns.s, VIns.D', VIns.D0, VIns.du, mulRR, mulQR, mulQL, mulCT, gradOV, padsV, padV0, padV1, padV2,
      padV3, headO, headQ, headT, headDY, headN, meanV, colsV0, colsV1, colsV2, colsV3, outOV, vNewV, diagV, maskV, mulRC, mulCC, rows0, rows1, sq0,
      sq1, Cert.Heads.mask, Cert.Heads.floor64, duV, negV, dcdV, row0V, gradZV, gradGV, headZ, headYD, headG]
    rfl

theorem dcd_B (c : Dev nD) (t : Fin cfg0.N) (h0 : ¬t.val % 32 = 0) (h2 : 1 ≤ t.val) :
    (outsAt0 m c t.val t.isLt).2.2.2.2.2.1 = point_dcd m c t (carried m c t) := by
  rw [outsAt0_B m c t h0 h0 h2]
  frame_open
  simp (disch := decide) only [↓ View.readCov_skip, ↓ View.readCov_cons_toLoadRect, ↓ View.readCov_fill]
  frame_out
  simp only [read_unread_whole]
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dcd, ins, VIns.dO, VIns.o, VIns.v, VIns.s, VIns.D', VIns.D0, VIns.du, mulRR, mulQR, mulQL, mulCT, gradOV, padsV, padV0, padV1, padV2,
      padV3, headO, headQ, headT, headDY, headN, meanV, colsV0, colsV1, colsV2, colsV3, outOV, vNewV, diagV, maskV, mulRC, mulCC, rows0, rows1, sq0,
      sq1, Cert.Heads.mask, Cert.Heads.floor64, duV, negV, dcdV, row0V, gradZV, gradGV, headZ, headYD, headG]
    rfl

theorem dcd_A (c : Dev nD) (t : Fin cfg0.N) (h0 : t.val % 32 = 0) (h2 : ¬1 ≤ t.val) :
    (outsAt0 m c t.val t.isLt).2.2.2.2.2.1 = point_dcd m c t zeroS := by
  rw [outsAt0_A m c t h0 h0 h2]
  frame_open
  simp (disch := decide) only [↓ View.readCov_skip, ↓ View.readCov_cons_toLoadRect, ↓ View.readCov_fill]
  frame_out
  refine (canon_rows _ _ []).trans (congrArg rowsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.dcd, ins, VIns.dO, VIns.o, VIns.v, VIns.s, VIns.D', VIns.D0, VIns.du, mulRR, mulQR, mulQL, mulCT, gradOV, padsV, padV0, padV1, padV2,
      padV3, headO, headQ, headT, headDY, headN, meanV, colsV0, colsV1, colsV2, colsV3, outOV, vNewV, diagV, maskV, mulRC, mulCC, rows0, rows1, sq0,
      sq1, Cert.Heads.mask, Cert.Heads.floor64, duV, negV, dcdV, row0V, gradZV, gradGV, headZ, headYD, headG]
    rfl

theorem next_B (c : Dev nD) (t : Fin cfg0.N) (h0 : ¬t.val % 32 = 0) (h2 : 1 ≤ t.val) :
    (outsAt0 m c t.val t.isLt).2.2.2.2.2.2.2.2 = point_next m c t (carried m c t) := by
  rw [outsAt0_B m c t h0 h0 h2]
  frame_open
  simp (disch := decide) only [↓ View.readCov_skip, ↓ View.readCov_cons_toLoadRect, ↓ View.readCov_fill]
  frame_out
  simp only [read_unread_whole]
  refine (canon_sqs _ _ []).trans (congrArg sqsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.next, ins, VIns.dO, VIns.o, VIns.v, VIns.s, VIns.D', VIns.D0, VIns.du, mulRR, mulQR, mulQL, mulCT, gradOV, padsV, padV0, padV1, padV2,
      padV3, headO, headQ, headT, headDY, headN, meanV, colsV0, colsV1, colsV2, colsV3, outOV, vNewV, diagV, maskV, mulRC, mulCC, rows0, rows1, sq0,
      sq1, Cert.Heads.mask, Cert.Heads.floor64, duV, negV, dcdV, row0V, gradZV, gradGV, headZ, headYD, headG]
    rfl

theorem next_A (c : Dev nD) (t : Fin cfg0.N) (h0 : t.val % 32 = 0) (h2 : ¬1 ≤ t.val) :
    (outsAt0 m c t.val t.isLt).2.2.2.2.2.2.2.2 = point_next m c t zeroS := by
  rw [outsAt0_A m c t h0 h0 h2]
  frame_open
  simp (disch := decide) only [↓ View.readCov_skip, ↓ View.readCov_cons_toLoadRect, ↓ View.readCov_fill]
  frame_out
  refine (canon_sqs _ _ _).trans (congrArg sqsOf (vec2 ?_ ?_)) <;>
  · simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
    simp only [
      VIns.next, ins, VIns.dO, VIns.o, VIns.v, VIns.s, VIns.D', VIns.D0, VIns.du, mulRR, mulQR, mulQL, mulCT, gradOV, padsV, padV0, padV1, padV2,
      padV3, headO, headQ, headT, headDY, headN, meanV, colsV0, colsV1, colsV2, colsV3, outOV, vNewV, diagV, maskV, mulRC, mulCC, rows0, rows1, sq0,
      sq1, Cert.Heads.mask, Cert.Heads.floor64, duV, negV, dcdV, row0V, gradZV, gradGV, headZ, headYD, headG]
    rfl

theorem dg_A (c : Dev nD) (t : Fin cfg0.N) (h0 : t.val % 32 = 0) (h2 : ¬1 ≤ t.val) :
    (outsAt0 m c t.val t.isLt).2.2.2.2.2.2.2.1 = point_dg m c t := by
  rw [outsAt0_A m c t h0 h0 h2]
  frame_open
  simp (disch := decide) only [↓ View.readCov_skip, ↓ View.readCov_cons_toLoadRect, ↓ View.readCov_fill]
  frame_out
  simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
  simp only [
    point_dg, VIns.dg, ins, VIns.dO, VIns.o, VIns.v, VIns.s, VIns.D', VIns.D0, VIns.du, mulRR, mulQR, mulQL, mulCT, gradOV, padsV, padV0, padV1,
    padV2, padV3, headO, headQ, headT, headDY, headN, meanV, colsV0, colsV1, colsV2, colsV3, outOV, vNewV, diagV, maskV, mulRC, mulCC, rows0, rows1,
    sq0, sq1, Cert.Heads.mask, Cert.Heads.floor64, duV, negV, dcdV, row0V, gradZV, gradGV, headZ, headYD, headG]
  rfl

theorem dg_B (c : Dev nD) (t : Fin cfg0.N) (h0 : ¬t.val % 32 = 0) (h2 : 1 ≤ t.val) :
    (outsAt0 m c t.val t.isLt).2.2.2.2.2.2.2.1 = addf (shapeCast T1x64 (dgBefore m c t) (by decide)) (point_dg m c t) := by
  rw [outsAt0_B m c t h0 h0 h2]
  frame_open
  simp (disch := decide) only [↓ View.readCov_skip, ↓ View.readCov_cons_toLoadRect, ↓ View.readCov_fill]
  frame_out
  simp only [
      k0_pay1, k0_pay2, k0_pay3, k0_pay5, k0_pay6, k0_pay7, k0_pay8, k0_pay9, k0_pay10, k0_pay11, k0_pay12, k0_pay13, k0_pay14, k0_pay15, k0_pay16,
      k0_pay17, k0_pay18, k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42, k0_pay43, k0_pay44,
      k0_pay45, k0_pay46, k0_pay47, k0_pay48, k0_pay49, k0_pay50, k0_pay51, k0_pay52, k0_pay53, k0_pay54, k0_pay55, k0_pay56, k0_pay57, k0_pay58,
      k0_pay59, k0_pay60, k0_pay61, k0_pay62, k0_pay63, k0_pay64, k0_pay65, k0_pay66, k0_pay67, k0_pay68, k0_pay69, k0_pay70, k0_pay71, k0_pay72,
      k0_pay73, k0_pay74, k0_pay75, k0_pay76, k0_pay77, k0_pay78, k0_pay79, k0_pay80, k0_pay81, k0_pay82, k0_pay83, k0_pay84, k0_pay85, k0_pay86,
      k0_pay87, k0_pay88, k0_pay89, k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110, k0_pay111, k0_pay112, k0_pay113,
      k0_pay114, k0_pay115, k0_pay116, k0_pay117, k0_pay118, k0_pay119, k0_pay120, k0_pay121, k0_pay122, k0_pay123, k0_pay124, k0_pay125, k0_pay126,
      k0_pay127, k0_pay128, k0_pay129, k0_pay130, k0_pay131, k0_pay132, k0_pay133, k0_pay134, k0_pay135, k0_pay136, k0_pay137, k0_pay138, k0_pay139,
      k0_pay140, k0_pay141, k0_pay142, k0_pay143, k0_pay144, k0_pay145, k0_pay146, k0_pay147, k0_pay148, k0_pay149, k0_pay150, k0_pay151, k0_pay152,
      k0_pay153, k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189, k0_pay190, k0_pay191,
      k0_pay192, k0_pay193, k0_pay194, k0_pay195, k0_pay196, k0_pay197, k0_pay198, k0_pay199, k0_pay200, k0_pay201, k0_pay202, k0_pay203, k0_pay204,
      k0_pay205, k0_pay206, k0_pay207, k0_pay208, k0_pay209, k0_pay210, k0_pay211, k0_pay212, k0_pay213, k0_pay214, k0_pay215, k0_pay216, k0_pay217,
      k0_pay218, k0_pay219, k0_pay220, k0_pay221, k0_pay222, k0_pay223, k0_pay224, k0_pay225, k0_pay226, k0_pay227, k0_pay228, k0_pay229, k0_pay230,
      k0_pay231, k0_pay232, k0_pay233, k0_pay234, k0_pay235, k0_pay236]
  simp only [
    point_dg, VIns.dg, ins, VIns.dO, VIns.o, VIns.v, VIns.s, VIns.D', VIns.D0, VIns.du, mulRR, mulQR, mulQL, mulCT, gradOV, padsV, padV0, padV1,
    padV2, padV3, headO, headQ, headT, headDY, headN, meanV, colsV0, colsV1, colsV2, colsV3, outOV, vNewV, diagV, maskV, mulRC, mulCC, rows0, rows1,
    sq0, sq1, Cert.Heads.mask, Cert.Heads.floor64, duV, negV, dcdV, row0V, gradZV, gradGV, headZ, headYD, headG]
  rfl

end Cert.KernelBwdIdeal.Chunks

end
-- ==== Proof.KernelBwdArray.lean ====
/- The arrays the backward kernel leaves: at row `c` of chunk `n`, channel `e` of head `h`, the chunk's gradients; and the gain's gradient, summed over all. -/
module

public import proofs.«01_k».proof.Proof.KernelArray
public import proofs.«01_k».proof.Proof.KernelBwdStepD
public import proofs.«01_k».proof.Proof.SpecBwd

@[expose] public section

set_option maxRecDepth 16384

noncomputable section

namespace Cert.KernelBwdIdeal.Chunks

open Idealize.ShloMosaic Idealize.ShloMosaic.TcCoe Idealize.SL.Sem Idealize.ShloMosaic.StackMember
open Cert.KernelBwdIdeal Cert.KernelBwdIdeal.Gen Cert.KernelBwdIdeal.Value Cert.Chunk Cert.Batch Cert.Heads Cert.Spec
open Cert.KernelIdeal.Chunks (row_val memberAt_ix)

variable (m : (ℓ : Loc nD τ sig) → Buf (Elt Ideal) ℓ)

theorem N_eq : cfg0.N = 32 := N_0

theorem idx0 : ∀ t : Fin cfg0.N, win0_0.index t = ![0, 31 - t.val, 0] := (by decide +kernel : ∀ t : Fin grid0.N, _)
theorem idx1 : ∀ t : Fin cfg0.N, win0_1.index t = ![0, 31 - t.val, 0] := (by decide +kernel : ∀ t : Fin grid0.N, _)
theorem idx2 : ∀ t : Fin cfg0.N, win0_2.index t = ![0, 31 - t.val, 0] := (by decide +kernel : ∀ t : Fin grid0.N, _)
theorem idx3 : ∀ t : Fin cfg0.N, win0_3.index t = ![0, 31 - t.val, 0] := (by decide +kernel : ∀ t : Fin grid0.N, _)
theorem idx4 : ∀ t : Fin cfg0.N, win0_4.index t = ![0, 31 - t.val, 0] := (by decide +kernel : ∀ t : Fin grid0.N, _)
theorem idx5 : ∀ t : Fin cfg0.N, win0_5.index t = ![0, 31 - t.val, 0] := (by decide +kernel : ∀ t : Fin grid0.N, _)
theorem idx6 : ∀ t : Fin cfg0.N, win0_6.index t = ![0, 31 - t.val, 0] := (by decide +kernel : ∀ t : Fin grid0.N, _)
theorem idx8 : ∀ t : Fin cfg0.N, win0_8.index t = ![0, 31 - t.val, 0] := (by decide +kernel : ∀ t : Fin grid0.N, _)
theorem idx9 : ∀ t : Fin cfg0.N, win0_9.index t = ![0, 31 - t.val, 0] := (by decide +kernel : ∀ t : Fin grid0.N, _)
theorem idx10 : ∀ t : Fin cfg0.N, win0_10.index t = ![0, 31 - t.val, 0] := (by decide +kernel : ∀ t : Fin grid0.N, _)
theorem idx11 : ∀ t : Fin cfg0.N, win0_11.index t = ![0, 31 - t.val, 0] := (by decide +kernel : ∀ t : Fin grid0.N, _)
theorem idx12 : ∀ t : Fin cfg0.N, win0_12.index t = ![0, 31 - t.val, 0] := (by decide +kernel : ∀ t : Fin grid0.N, _)
theorem idx13 : ∀ t : Fin cfg0.N, win0_13.index t = ![0, 31 - t.val, 0] := (by decide +kernel : ∀ t : Fin grid0.N, _)
theorem idx14 : ∀ t : Fin cfg0.N, win0_14.index t = ![0, 31 - t.val, 0] := (by decide +kernel : ∀ t : Fin grid0.N, _)
theorem idx15 : ∀ t : Fin cfg0.N, win0_15.index t = ![0, 31 - t.val, 0] := (by decide +kernel : ∀ t : Fin grid0.N, _)
theorem idx16 : ∀ t : Fin cfg0.N, win0_16.index t = ![0, 31 - t.val, 0] := (by decide +kernel : ∀ t : Fin grid0.N, _)
theorem idx7 : ∀ t : Fin cfg0.N, win0_7.index t = ![0, 0] := (by decide +kernel : ∀ t : Fin grid0.N, _)
theorem idx17 : ∀ t : Fin cfg0.N, win0_17.index t = ![0, 0] := (by decide +kernel : ∀ t : Fin grid0.N, _)

theorem blk0 (c : Dev nD) (t : Fin cfg0.N) (b : Fin 2) (r : Fin 64) (k : Fin 256) :
    iblk m c 0 t (ix3 b r k) = (m ((c : Thread nD τ).loc main_arg0) : Tok) (ix3 b (row (31 - t.val) r) k) := by
  blk_ext [iblk, V, idx0 t]
  exact row_val (31 - t.val) (by omega) r

theorem cols0 (c : Dev nD) (t : Fin cfg0.N) (b : Fin 2) (h : Fin 4) :
    cols (memberAt (iblk m c 0 t) b) h = chunk (m ((c : Thread nD τ).loc main_arg0)) b (31 - t.val) h := by
  funext r e
  exact (memberAt_ix (d := 64) _ b r (hd h e)).trans (blk0 m c t b r (hd h e))

theorem blk1 (c : Dev nD) (t : Fin cfg0.N) (b : Fin 2) (r : Fin 64) (k : Fin 256) :
    iblk m c 1 t (ix3 b r k) = (m ((c : Thread nD τ).loc main_arg1) : Tok) (ix3 b (row (31 - t.val) r) k) := by
  blk_ext [iblk, V, idx1 t]
  exact row_val (31 - t.val) (by omega) r

theorem cols1 (c : Dev nD) (t : Fin cfg0.N) (b : Fin 2) (h : Fin 4) :
    cols (memberAt (iblk m c 1 t) b) h = chunk (m ((c : Thread nD τ).loc main_arg1)) b (31 - t.val) h := by
  funext r e
  exact (memberAt_ix (d := 64) _ b r (hd h e)).trans (blk1 m c t b r (hd h e))

theorem blk2 (c : Dev nD) (t : Fin cfg0.N) (b : Fin 2) (r : Fin 64) (k : Fin 256) :
    iblk m c 2 t (ix3 b r k) = (m ((c : Thread nD τ).loc main_arg2) : Tok) (ix3 b (row (31 - t.val) r) k) := by
  blk_ext [iblk, V, idx2 t]
  exact row_val (31 - t.val) (by omega) r

theorem cols2 (c : Dev nD) (t : Fin cfg0.N) (b : Fin 2) (h : Fin 4) :
    cols (memberAt (iblk m c 2 t) b) h = chunk (m ((c : Thread nD τ).loc main_arg2)) b (31 - t.val) h := by
  funext r e
  exact (memberAt_ix (d := 64) _ b r (hd h e)).trans (blk2 m c t b r (hd h e))

theorem blk3 (c : Dev nD) (t : Fin cfg0.N) (b : Fin 2) (r : Fin 64) (k : Fin 256) :
    iblk m c 3 t (ix3 b r k) = (m ((c : Thread nD τ).loc main_arg3) : Tok) (ix3 b (row (31 - t.val) r) k) := by
  blk_ext [iblk, V, idx3 t]
  exact row_val (31 - t.val) (by omega) r

theorem cols3 (c : Dev nD) (t : Fin cfg0.N) (b : Fin 2) (h : Fin 4) :
    cols (memberAt (iblk m c 3 t) b) h = chunk (m ((c : Thread nD τ).loc main_arg3)) b (31 - t.val) h := by
  funext r e
  exact (memberAt_ix (d := 64) _ b r (hd h e)).trans (blk3 m c t b r (hd h e))

theorem blk4 (c : Dev nD) (t : Fin cfg0.N) (b : Fin 2) (r : Fin 64) (k : Fin 256) :
    iblk m c 4 t (ix3 b r k) = (m ((c : Thread nD τ).loc main_arg4) : Tok) (ix3 b (row (31 - t.val) r) k) := by
  blk_ext [iblk, V, idx4 t]
  exact row_val (31 - t.val) (by omega) r

theorem cols4 (c : Dev nD) (t : Fin cfg0.N) (b : Fin 2) (h : Fin 4) :
    cols (memberAt (iblk m c 4 t) b) h = chunk (m ((c : Thread nD τ).loc main_arg4)) b (31 - t.val) h := by
  funext r e
  exact (memberAt_ix (d := 64) _ b r (hd h e)).trans (blk4 m c t b r (hd h e))

theorem blk5 (c : Dev nD) (t : Fin cfg0.N) (b : Fin 2) (r : Fin 64) (k : Fin 256) :
    iblk m c 5 t (ix3 b r k) = (m ((c : Thread nD τ).loc main_arg5) : Tok) (ix3 b (row (31 - t.val) r) k) := by
  blk_ext [iblk, V, idx5 t]
  exact row_val (31 - t.val) (by omega) r

theorem cols5 (c : Dev nD) (t : Fin cfg0.N) (b : Fin 2) (h : Fin 4) :
    cols (memberAt (iblk m c 5 t) b) h = chunk (m ((c : Thread nD τ).loc main_arg5)) b (31 - t.val) h := by
  funext r e
  exact (memberAt_ix (d := 64) _ b r (hd h e)).trans (blk5 m c t b r (hd h e))

theorem blk6 (c : Dev nD) (t : Fin cfg0.N) (b : Fin 2) (r : Fin 64) (k : Fin 256) :
    iblk m c 6 t (ix3 b r k) = (m ((c : Thread nD τ).loc main_arg6) : Tok) (ix3 b (row (31 - t.val) r) k) := by
  blk_ext [iblk, V, idx6 t]
  exact row_val (31 - t.val) (by omega) r

theorem cols6 (c : Dev nD) (t : Fin cfg0.N) (b : Fin 2) (h : Fin 4) :
    cols (memberAt (iblk m c 6 t) b) h = chunk (m ((c : Thread nD τ).loc main_arg6)) b (31 - t.val) h := by
  funext r e
  exact (memberAt_ix (d := 64) _ b r (hd h e)).trans (blk6 m c t b r (hd h e))

theorem blk8 (c : Dev nD) (t : Fin cfg0.N) (b : Fin 2) (r : Fin 64) (k : Fin 256) :
    iblk m c 8 t (ix3 b r k) = (m ((c : Thread nD τ).loc main_arg8) : Tok) (ix3 b (row (31 - t.val) r) k) := by
  blk_ext [iblk, V, idx8 t]
  exact row_val (31 - t.val) (by omega) r

theorem cols8 (c : Dev nD) (t : Fin cfg0.N) (b : Fin 2) (h : Fin 4) :
    cols (memberAt (iblk m c 8 t) b) h = chunk (m ((c : Thread nD τ).loc main_arg8)) b (31 - t.val) h := by
  funext r e
  exact (memberAt_ix (d := 64) _ b r (hd h e)).trans (blk8 m c t b r (hd h e))

theorem blk9 (c : Dev nD) (t : Fin cfg0.N) (b : Fin 2) (r : Fin 64) (k : Fin 256) :
    iblk m c 9 t (ix3 b r k) = (m ((c : Thread nD τ).loc main_arg9) : Tok) (ix3 b (row (31 - t.val) r) k) := by
  blk_ext [iblk, V, idx9 t]
  exact row_val (31 - t.val) (by omega) r

theorem cols9 (c : Dev nD) (t : Fin cfg0.N) (b : Fin 2) (h : Fin 4) :
    cols (memberAt (iblk m c 9 t) b) h = chunk (m ((c : Thread nD τ).loc main_arg9)) b (31 - t.val) h := by
  funext r e
  exact (memberAt_ix (d := 64) _ b r (hd h e)).trans (blk9 m c t b r (hd h e))

theorem blk7 (c : Dev nD) (t : Fin cfg0.N) (e : Fin 64) :
    iblk m c 7 t (ix2 0 e) = (m ((c : Thread nD τ).loc main_arg7)) (ix2 0 e) := by
  blk_ext [iblk, V, idx7 t]

/-- The arguments. -/
def T (c : Dev nD) : Toks :=
  ⟨m ((c : Thread nD τ).loc main_arg0), m ((c : Thread nD τ).loc main_arg1), m ((c : Thread nD τ).loc main_arg2), m ((c : Thread nD τ).loc main_arg3), m ((c : Thread nD τ).loc main_arg4),
    m ((c : Thread nD τ).loc main_arg5), m ((c : Thread nD τ).loc main_arg6), m ((c : Thread nD τ).loc main_arg8), m ((c : Thread nD τ).loc main_arg9),
    fun e => (m ((c : Thread nD τ).loc main_arg7)) (ix2 0 e)⟩

/-- What a point reads of batch element `b`. -/
def insAt (c : Dev nD) (t : Fin cfg0.N) (b : Fin 2) : VIns := ins m (fun x => memberAt x b) c t

theorem ins_rows0 (c : Dev nD) (t : Fin cfg0.N) : ins m rows0 c t = insAt m c t 0 := congrArg (fun f => ins m f c t) (funext rows0_eq)
theorem ins_rows1 (c : Dev nD) (t : Fin cfg0.N) : ins m rows1 c t = insAt m c t 1 := congrArg (fun f => ins m f c t) (funext rows1_eq)

theorem insAt_ins (c : Dev nD) (t : Fin cfg0.N) (b : Fin 2) (h : Fin 4) : (insAt m c t b).ins h = (T m c).at b h (31 - t.val) := by
  unfold insAt ins VIns.ins Toks.at T
  dsimp only
  rw [cols0, cols1, cols2, cols3, cols4, cols5, cols6, cols8, cols9]
  simp only [blk7]

/-- The state's gradient that a point starts from. -/
def pre (c : Dev nD) : (n : ℕ) → n < cfg0.N → FVec Ideal T2x256x256 .f32
  | 0, _ => zeroS
  | n + 1, h => (outsAt0 m c n (Nat.lt_of_succ_lt h)).2.2.2.2.2.2.2.2

theorem mod_succ {n : ℕ} (h : n + 1 < cfg0.N) : ¬(n + 1) % 32 = 0 := by
  have := lt_of_lt_of_eq h N_eq
  omega

theorem zeroS_diag (b : Fin 2) : Diag (memberAt zeroS b) fun _ _ _ => 0 := by
  intro h' d h e
  rw [ite_self]
  exact zero_word

theorem dqk_eq (c : Dev nD) (n : ℕ) (h : n < cfg0.N) : (outsAt0 m c n h).1 = point_dqk m c ⟨n, h⟩ :=
  match n, h with
  | 0, h => dqk_A m c ⟨0, h⟩ rfl (Nat.not_succ_le_zero 0)
  | n + 1, h => dqk_B m c ⟨n + 1, h⟩ (mod_succ h) (Nat.succ_le_succ (Nat.zero_le n))

theorem dqk_member (c : Dev nD) (t : Fin cfg0.N) (b : Fin 2) : memberAt (point_dqk m c t) b = (insAt m c t b).dqk := by
  unfold point_dqk rowsOf
  rw [memberAt_stackAlong0, ins_rows0, ins_rows1]
  match b with
  | 0 => rfl
  | 1 => rfl

theorem dqd_eq (c : Dev nD) (n : ℕ) (h : n < cfg0.N) : (outsAt0 m c n h).2.1 = point_dqd m c ⟨n, h⟩ :=
  match n, h with
  | 0, h => dqd_A m c ⟨0, h⟩ rfl (Nat.not_succ_le_zero 0)
  | n + 1, h => dqd_B m c ⟨n + 1, h⟩ (mod_succ h) (Nat.succ_le_succ (Nat.zero_le n))

theorem dqd_member (c : Dev nD) (t : Fin cfg0.N) (b : Fin 2) : memberAt (point_dqd m c t) b = (insAt m c t b).dqd := by
  unfold point_dqd rowsOf
  rw [memberAt_stackAlong0, ins_rows0, ins_rows1]
  match b with
  | 0 => rfl
  | 1 => rfl

theorem du_eq (c : Dev nD) (n : ℕ) (h : n < cfg0.N) : (outsAt0 m c n h).2.2.1 = point_du m c ⟨n, h⟩ (pre m c n h) :=
  match n, h with
  | 0, h => du_A m c ⟨0, h⟩ rfl (Nat.not_succ_le_zero 0)
  | n + 1, h => du_B m c ⟨n + 1, h⟩ (mod_succ h) (Nat.succ_le_succ (Nat.zero_le n))

theorem du_member (c : Dev nD) (t : Fin cfg0.N) (D : FVec Ideal T2x256x256 .f32) (b : Fin 2) : memberAt (point_du m c t D) b = (insAt m c t b).du (memberAt D b) := by
  unfold point_du rowsOf
  rw [memberAt_stackAlong0, ins_rows0, ins_rows1, sq0_eq, sq1_eq]
  match b with
  | 0 => rfl
  | 1 => rfl

theorem dw_eq (c : Dev nD) (n : ℕ) (h : n < cfg0.N) : (outsAt0 m c n h).2.2.2.1 = point_dw m c ⟨n, h⟩ (pre m c n h) :=
  match n, h with
  | 0, h => dw_A m c ⟨0, h⟩ rfl (Nat.not_succ_le_zero 0)
  | n + 1, h => dw_B m c ⟨n + 1, h⟩ (mod_succ h) (Nat.succ_le_succ (Nat.zero_le n))

theorem dw_member (c : Dev nD) (t : Fin cfg0.N) (D : FVec Ideal T2x256x256 .f32) (b : Fin 2) : memberAt (point_dw m c t D) b = (insAt m c t b).dw (memberAt D b) := by
  unfold point_dw rowsOf
  rw [memberAt_stackAlong0, ins_rows0, ins_rows1, sq0_eq, sq1_eq]
  match b with
  | 0 => rfl
  | 1 => rfl

theorem dkt_eq (c : Dev nD) (n : ℕ) (h : n < cfg0.N) : (outsAt0 m c n h).2.2.2.2.1 = point_dkt m c ⟨n, h⟩ (pre m c n h) :=
  match n, h with
  | 0, h => dkt_A m c ⟨0, h⟩ rfl (Nat.not_succ_le_zero 0)
  | n + 1, h => dkt_B m c ⟨n + 1, h⟩ (mod_succ h) (Nat.succ_le_succ (Nat.zero_le n))

theorem dkt_member (c : Dev nD) (t : Fin cfg0.N) (D : FVec Ideal T2x256x256 .f32) (b : Fin 2) : memberAt (point_dkt m c t D) b = (insAt m c t b).dkt (memberAt D b) := by
  unfold point_dkt rowsOf
  rw [memberAt_stackAlong0, ins_rows0, ins_rows1, sq0_eq, sq1_eq]
  match b with
  | 0 => rfl
  | 1 => rfl

theorem dcd_eq (c : Dev nD) (n : ℕ) (h : n < cfg0.N) : (outsAt0 m c n h).2.2.2.2.2.1 = point_dcd m c ⟨n, h⟩ (pre m c n h) :=
  match n, h with
  | 0, h => dcd_A m c ⟨0, h⟩ rfl (Nat.not_succ_le_zero 0)
  | n + 1, h => dcd_B m c ⟨n + 1, h⟩ (mod_succ h) (Nat.succ_le_succ (Nat.zero_le n))

theorem dcd_member (c : Dev nD) (t : Fin cfg0.N) (D : FVec Ideal T2x256x256 .f32) (b : Fin 2) : memberAt (point_dcd m c t D) b = (insAt m c t b).dcd (memberAt D b) := by
  unfold point_dcd rowsOf
  rw [memberAt_stackAlong0, ins_rows0, ins_rows1, sq0_eq, sq1_eq]
  match b with
  | 0 => rfl
  | 1 => rfl

theorem dz_eq (c : Dev nD) (n : ℕ) (h : n < cfg0.N) : (outsAt0 m c n h).2.2.2.2.2.2.1 = point_dz m c ⟨n, h⟩ :=
  match n, h with
  | 0, h => dz_A m c ⟨0, h⟩ rfl (Nat.not_succ_le_zero 0)
  | n + 1, h => dz_B m c ⟨n + 1, h⟩ (mod_succ h) (Nat.succ_le_succ (Nat.zero_le n))

theorem dz_member (c : Dev nD) (t : Fin cfg0.N) (b : Fin 2) : memberAt (point_dz m c t) b = (insAt m c t b).dz := by
  unfold point_dz rowsOf
  rw [memberAt_stackAlong0, ins_rows0, ins_rows1]
  match b with
  | 0 => rfl
  | 1 => rfl

theorem next_eq (c : Dev nD) (n : ℕ) (h : n < cfg0.N) : (outsAt0 m c n h).2.2.2.2.2.2.2.2 = point_next m c ⟨n, h⟩ (pre m c n h) :=
  match n, h with
  | 0, h => next_A m c ⟨0, h⟩ rfl (Nat.not_succ_le_zero 0)
  | n + 1, h => next_B m c ⟨n + 1, h⟩ (mod_succ h) (Nat.succ_le_succ (Nat.zero_le n))

theorem next_member (c : Dev nD) (t : Fin cfg0.N) (D : FVec Ideal T2x256x256 .f32) (b : Fin 2) : memberAt (point_next m c t D) b = (insAt m c t b).next (memberAt D b) := by
  unfold point_next sqsOf
  rw [memberAt_stackAlong0, ins_rows0, ins_rows1, sq0_eq, sq1_eq]
  match b with
  | 0 => rfl
  | 1 => rfl

/-- Before every point the carried gradient of each batch element is block-diagonal, its blocks the recurrence's. -/
theorem pre_diag (c : Dev nD) (b : Fin 2) : ∀ (n : ℕ) (h : n < cfg0.N), Diag (memberAt (pre m c n h) b) fun hh => (T m c).dState b hh n
  | 0, _ => zeroS_diag b
  | n + 1, h => by
    have ih := pre_diag c b n (Nat.lt_of_succ_lt h)
    show Diag (memberAt (outsAt0 m c n _).2.2.2.2.2.2.2.2 b) _
    rw [next_eq, next_member]
    have e := VIns.next_diag (insAt m c ⟨n, Nat.lt_of_succ_lt h⟩ b) ih
    simp only [insAt_ins] at e
    exact e

theorem dqk_at (c : Dev nD) (b : Fin 2) (n : ℕ) (h : n < cfg0.N) (hh : Fin 4) :
    cols (memberAt (outsAt0 m c n h).1 b) hh = ((T m c).at b hh (31 - n)).dqk := by
  rw [dqk_eq, dqk_member]
  refine (VIns.dqk_cols (insAt m c ⟨n, h⟩ b) hh).trans ?_
  rw [insAt_ins]

theorem dqd_at (c : Dev nD) (b : Fin 2) (n : ℕ) (h : n < cfg0.N) (hh : Fin 4) :
    cols (memberAt (outsAt0 m c n h).2.1 b) hh = ((T m c).at b hh (31 - n)).dqd := by
  rw [dqd_eq, dqd_member]
  refine (VIns.dqd_cols (insAt m c ⟨n, h⟩ b) hh).trans ?_
  rw [insAt_ins]

theorem du_at (c : Dev nD) (b : Fin 2) (n : ℕ) (h : n < cfg0.N) (hh : Fin 4) :
    cols (memberAt (outsAt0 m c n h).2.2.1 b) hh = ((T m c).at b hh (31 - n)).du ((T m c).dState b hh n) := by
  rw [du_eq, du_member]
  refine (VIns.du_cols (insAt m c ⟨n, h⟩ b) hh (pre_diag m c b n h)).trans ?_
  rw [insAt_ins]

theorem dw_at (c : Dev nD) (b : Fin 2) (n : ℕ) (h : n < cfg0.N) (hh : Fin 4) :
    cols (memberAt (outsAt0 m c n h).2.2.2.1 b) hh = ((T m c).at b hh (31 - n)).dw ((T m c).dState b hh n) := by
  rw [dw_eq, dw_member]
  refine (VIns.dw_cols (insAt m c ⟨n, h⟩ b) hh (pre_diag m c b n h)).trans ?_
  rw [insAt_ins]

theorem dkt_at (c : Dev nD) (b : Fin 2) (n : ℕ) (h : n < cfg0.N) (hh : Fin 4) :
    cols (memberAt (outsAt0 m c n h).2.2.2.2.1 b) hh = ((T m c).at b hh (31 - n)).dkt ((T m c).dState b hh n) := by
  rw [dkt_eq, dkt_member]
  refine (VIns.dkt_cols (insAt m c ⟨n, h⟩ b) hh (pre_diag m c b n h)).trans ?_
  rw [insAt_ins]

theorem dcd_at (c : Dev nD) (b : Fin 2) (n : ℕ) (h : n < cfg0.N) (hh : Fin 4) :
    cols (memberAt (outsAt0 m c n h).2.2.2.2.2.1 b) hh = ((T m c).at b hh (31 - n)).dcd ((T m c).dState b hh n) := by
  rw [dcd_eq, dcd_member]
  refine (VIns.dcd_cols (insAt m c ⟨n, h⟩ b) hh (pre_diag m c b n h)).trans ?_
  rw [insAt_ins]

theorem dz_at (c : Dev nD) (b : Fin 2) (n : ℕ) (h : n < cfg0.N) (hh : Fin 4) :
    cols (memberAt (outsAt0 m c n h).2.2.2.2.2.2.1 b) hh = ((T m c).at b hh (31 - n)).dz := by
  rw [dz_eq, dz_member]
  refine (VIns.dz_cols (insAt m c ⟨n, h⟩ b) hh).trans ?_
  rw [insAt_ins]

/-! ## The arrays after the run -/

/-- An array of rows from one matrix per batch element, head and chunk. -/
def toTok (F : Fin 2 → Fin 4 → ℕ → Mat) : Tok :=
  fun i => F (i 0) (headOf (i 2)) ((i 1).val / 64) ⟨(i 1).val % 64, Nat.mod_lt _ (by decide)⟩ (withinOf (i 2))

theorem toTok_at (F : Fin 2 → Fin 4 → ℕ → Mat) (b : Fin 2) (n : ℕ) (hn : n < 32) (r : Fin 64) (k : Fin 256) :
    toTok F (ix3 b (row n r) k) = F b (headOf k) n r (withinOf k) := by
  have hr := r.isLt
  show F b (headOf k) ((64 * n + r.val) % 2048 / 64) ⟨(64 * n + r.val) % 2048 % 64, _⟩ (withinOf k) = _
  rw [show (64 * n + r.val) % 2048 / 64 = n by omega]
  exact congrArg (fun r => F b (headOf k) n r (withinOf k)) (Fin.ext (show (64 * n + r.val) % 2048 % 64 = r.val by omega))

/-- A block whose matrices are those of chunk `31 - n` is that chunk's rows of the array. -/
theorem block_toTok (F : Fin 2 → Fin 4 → ℕ → Mat) (x : FVec Ideal T2x64x256 .f32) (n : ℕ) (H : ∀ b h, cols (memberAt x b) h = F b h (31 - n))
    (b : Fin 2) (r : Fin 64) (k : Fin 256) : x (ix3 b r k) = toTok F (ix3 b (row (31 - n) r) k) := by
  rw [toTok_at F b (31 - n) (by omega), ← H b (headOf k)]
  refine (memberAt_ix (d := 64) x b r k).symm.trans ?_
  show _ = (memberAt x b) (ix2 r (hd (headOf k) (withinOf k)))
  rw [hd_of]

theorem sub_sub_t {n : ℕ} (h : n < cfg0.N) : 31 - (31 - n) = n := by
  have := lt_of_lt_of_eq h N_eq
  omega

theorem final_dqk (c : Dev nD) : (dats m 0 c).arrAt 10 cfg0.N = toTok fun b h n => ((T m c).at b h n).dqk := by
  refine (dats m 0 c).arrAt_eq_of_covers 10 _ (by decide +kernel) fun t hf y => ?_
  blk_simp
  rw [after0_10]
  idx_vars y
  refine (block_toTok (fun b h n => ((T m c).at b h n).dqk) _ t.val (fun b h => ?_) y0 y1 y2).trans (congrArg _ ?_)
  · rw [dqk_at]
  · blk_ext [idx10 t]
    exact (row_val (31 - t.val) (by omega) y1).symm

theorem final_dqd (c : Dev nD) : (dats m 0 c).arrAt 11 cfg0.N = toTok fun b h n => ((T m c).at b h n).dqd := by
  refine (dats m 0 c).arrAt_eq_of_covers 11 _ (by decide +kernel) fun t hf y => ?_
  blk_simp
  rw [after0_11]
  idx_vars y
  refine (block_toTok (fun b h n => ((T m c).at b h n).dqd) _ t.val (fun b h => ?_) y0 y1 y2).trans (congrArg _ ?_)
  · rw [dqd_at]
  · blk_ext [idx11 t]
    exact (row_val (31 - t.val) (by omega) y1).symm

theorem final_du (c : Dev nD) : (dats m 0 c).arrAt 12 cfg0.N = toTok fun b h n => ((T m c).at b h n).du ((T m c).dState b h (31 - n)) := by
  refine (dats m 0 c).arrAt_eq_of_covers 12 _ (by decide +kernel) fun t hf y => ?_
  blk_simp
  rw [after0_12]
  idx_vars y
  refine (block_toTok (fun b h n => ((T m c).at b h n).du ((T m c).dState b h (31 - n))) _ t.val (fun b h => ?_) y0 y1 y2).trans (congrArg _ ?_)
  · rw [du_at, sub_sub_t t.isLt]
  · blk_ext [idx12 t]
    exact (row_val (31 - t.val) (by omega) y1).symm

theorem final_dw (c : Dev nD) : (dats m 0 c).arrAt 13 cfg0.N = toTok fun b h n => ((T m c).at b h n).dw ((T m c).dState b h (31 - n)) := by
  refine (dats m 0 c).arrAt_eq_of_covers 13 _ (by decide +kernel) fun t hf y => ?_
  blk_simp
  rw [after0_13]
  idx_vars y
  refine (block_toTok (fun b h n => ((T m c).at b h n).dw ((T m c).dState b h (31 - n))) _ t.val (fun b h => ?_) y0 y1 y2).trans (congrArg _ ?_)
  · rw [dw_at, sub_sub_t t.isLt]
  · blk_ext [idx13 t]
    exact (row_val (31 - t.val) (by omega) y1).symm

theorem final_dkt (c : Dev nD) : (dats m 0 c).arrAt 14 cfg0.N = toTok fun b h n => ((T m c).at b h n).dkt ((T m c).dState b h (31 - n)) := by
  refine (dats m 0 c).arrAt_eq_of_covers 14 _ (by decide +kernel) fun t hf y => ?_
  blk_simp
  rw [after0_14]
  idx_vars y
  refine (block_toTok (fun b h n => ((T m c).at b h n).dkt ((T m c).dState b h (31 - n))) _ t.val (fun b h => ?_) y0 y1 y2).trans (congrArg _ ?_)
  · rw [dkt_at, sub_sub_t t.isLt]
  · blk_ext [idx14 t]
    exact (row_val (31 - t.val) (by omega) y1).symm

theorem final_dcd (c : Dev nD) : (dats m 0 c).arrAt 15 cfg0.N = toTok fun b h n => ((T m c).at b h n).dcd ((T m c).dState b h (31 - n)) := by
  refine (dats m 0 c).arrAt_eq_of_covers 15 _ (by decide +kernel) fun t hf y => ?_
  blk_simp
  rw [after0_15]
  idx_vars y
  refine (block_toTok (fun b h n => ((T m c).at b h n).dcd ((T m c).dState b h (31 - n))) _ t.val (fun b h => ?_) y0 y1 y2).trans (congrArg _ ?_)
  · rw [dcd_at, sub_sub_t t.isLt]
  · blk_ext [idx15 t]
    exact (row_val (31 - t.val) (by omega) y1).symm

theorem final_dz (c : Dev nD) : (dats m 0 c).arrAt 16 cfg0.N = toTok fun b h n => ((T m c).at b h n).dz := by
  refine (dats m 0 c).arrAt_eq_of_covers 16 _ (by decide +kernel) fun t hf y => ?_
  blk_simp
  rw [after0_16]
  idx_vars y
  refine (block_toTok (fun b h n => ((T m c).at b h n).dz) _ t.val (fun b h => ?_) y0 y1 y2).trans (congrArg _ ?_)
  · rw [dz_at]
  · blk_ext [idx16 t]
    exact (row_val (31 - t.val) (by omega) y1).symm

/-! ## The gain's gradient -/

theorem point_dg_apply (c : Dev nD) (t : Fin cfg0.N) (e : Fin 64) :
    point_dg m c t (ix2 0 e) = ∑ b : Fin 2, ∑ h : Fin 4, ((T m c).at b h (31 - t.val)).dg e := by
  show (ins m rows0 c t).dg (ix2 0 e) + (ins m rows1 c t).dg (ix2 0 e) = _
  rw [ins_rows0, ins_rows1, VIns.dg_apply, VIns.dg_apply, Fin.sum_univ_two]
  simp only [insAt_ins]

theorem dg_at (c : Dev nD) (e : Fin 64) : ∀ (n : ℕ) (h : n < cfg0.N), (outsAt0 m c n h).2.2.2.2.2.2.2.1 (ix2 0 e)
    = ∑ j ∈ Finset.range (n + 1), ∑ b : Fin 2, ∑ h : Fin 4, ((T m c).at b h (31 - j)).dg e
  | 0, h => by
    rw [Finset.sum_range_one]
    exact (congrFun (dg_A m c ⟨0, h⟩ rfl (Nat.not_succ_le_zero 0)) (ix2 0 e)).trans (point_dg_apply m c ⟨0, h⟩ e)
  | n + 1, h => by
    rw [Finset.sum_range_succ, ← dg_at c e n (Nat.lt_of_succ_lt h)]
    refine (congrFun (dg_B m c ⟨n + 1, h⟩ (mod_succ h) (Nat.succ_le_succ (Nat.zero_le n))) (ix2 0 e)).trans ?_
    refine congrArg₂ (· + ·) ?_ (point_dg_apply m c ⟨n + 1, h⟩ e)
    show shapeCast T1x64 (outsAt0 m c n _).2.2.2.2.2.2.2.1 (by decide) (ix2 0 e) = _
    pointwise

theorem flush17 : ∀ t : Fin cfg0.N, (cfg0.win 17).flush t = true → t.val = 31 :=
  (by decide +kernel : ∀ t : Fin grid0.N, win0_17.flush t = true → t.val = 31)

/-- The gain's gradient over the whole sequence. -/
def dgAll (x : Toks) : (⟨2, ![1, 64]⟩ : Shape).Idx → EReal := fun i => ∑ j ∈ Finset.range 32, ∑ b : Fin 2, ∑ h : Fin 4, (x.at b h (31 - j)).dg (i 1)

theorem final_dg (c : Dev nD) : (dats m 0 c).arrAt 17 cfg0.N = dgAll (T m c) := by
  refine (dats m 0 c).arrAt_eq_of_covers 17 _ (by decide +kernel) fun t hf y => ?_
  have ht := flush17 t hf
  blk_simp
  rw [after0_17]
  idx_vars y
  obtain rfl : y0 = 0 := Subsingleton.elim _ _
  have e := dg_at m c y1 t.val t.isLt
  have e2 : (∑ j ∈ Finset.range (t.val + 1), ∑ b : Fin 2, ∑ h : Fin 4, ((T m c).at b h (31 - j)).dg y1) = dgAll (T m c) (ix2 0 y1) := by
    rw [ht]
    rfl
  refine (e.trans e2).trans ?_
  refine congrArg (dgAll (T m c)) (a₁ := ix2 0 y1) ?_
  blk_ext [idx17 t]

end Cert.KernelBwdIdeal.Chunks

end
-- ==== Proof.RefBwdRun.lean ====
/- The run of ReferenceBwdIdeal stated over the step of its loop: at a valuation that holds a state, every value of one trip is that step's; so the results of the run
   are fields of the step iterated from the state before the first trip. -/
module

public import proofs.«01_k».proof.Proof.Gen.ReferenceBwdIdeal.Run
public import proofs.«01_k».proof.Proof.Gen.ReferenceBwdIdeal.Step

@[expose] public section

noncomputable section

namespace Cert.ReferenceBwdIdeal.RefBwdRun

open Idealize.ShloMosaic Idealize.ShloMosaic.TcCoe Idealize.SL.Sem Idealize.ShloMosaic.StableHlo
open Cert.ReferenceBwdIdeal Cert.ReferenceBwdIdeal.Gen Cert.ReferenceBwdIdeal.Value
open Cert.ReferenceBwdIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v27_11) = s.main_v27_11
  f_12 : V0 (Proc.devRef .tc main_v27_12) = s.main_v27_12
  f_13 : V0 (Proc.devRef .tc main_v27_13) = s.main_v27_13
  f_14 : V0 (Proc.devRef .tc main_v27_14) = s.main_v27_14
  f_15 : V0 (Proc.devRef .tc main_v27_15) = s.main_v27_15
  f_16 : V0 (Proc.devRef .tc main_v27_16) = s.main_v27_16
  f_17 : V0 (Proc.devRef .tc main_v27_17) = s.main_v27_17
  f_18 : V0 (Proc.devRef .tc main_v27_18) = s.main_v27_18
  f_19 : V0 (Proc.devRef .tc main_v27_19) = s.main_v27_19
  f_0 : V0 (Proc.devRef .tc main_v27_0) = s.main_v27_0
  f_1 : V0 (Proc.devRef .tc main_v27_1) = s.main_v27_1
  f_2 : V0 (Proc.devRef .tc main_v27_2) = s.main_v27_2
  f_3 : V0 (Proc.devRef .tc main_v27_3) = s.main_v27_3
  f_4 : V0 (Proc.devRef .tc main_v27_4) = s.main_v27_4
  f_5 : V0 (Proc.devRef .tc main_v27_5) = s.main_v27_5
  f_6 : V0 (Proc.devRef .tc main_v27_6) = s.main_v27_6
  f_7 : V0 (Proc.devRef .tc main_v27_7) = s.main_v27_7
  f_8 : V0 (Proc.devRef .tc main_v27_8) = s.main_v27_8
  f_9 : V0 (Proc.devRef .tc main_v27_9) = s.main_v27_9
  n_10 : V0 (Proc.devRef .tc main_v27_10) = constantI S_ 32 (BitVec.ofNat 32 j)

variable {V0 s j}

set_option maxRecDepth 8192 in
theorem al_0 (h : Holds V0 s j) : (constantI S_ 32 32#32 : (Proc.devRef .tc main_while0b_c_28 : DevRef τ sig).ty.Contents (Elt F)) = Cert.ReferenceBwdIdeal.Step.b0 j s := by
  unfold Cert.ReferenceBwdIdeal.Step.b0
  rfl
set_option maxRecDepth 8192 in
theorem al_1 (h : Holds V0 s j) : (subi (constantI S_ 32 32#32) (V0 (Proc.devRef .tc main_v27_10)) : (Proc.devRef .tc main_while0b_v43 : DevRef τ sig).ty.Contents (Elt F)) = Cert.ReferenceBwdIdeal.Step.b1 j s := by
  unfold Cert.ReferenceBwdIdeal.Step.b1
  rw [← al_0 h, h.n_10]
  try rfl
set_option maxRecDepth 8192 in
theorem al_2 (h : Holds V0 s j) : (constantI S_ 32 1#32 : (Proc.devRef .tc main_while0b_c_29 : DevRef τ sig).ty.Contents (Elt F)) = Cert.ReferenceBwdIdeal.Step.b2 j s := by
  unfold Cert.ReferenceBwdIdeal.Step.b2
  rfl
set_option maxRecDepth 8192 in
theorem al_3 (h : Holds V0 s j) : (res_main_while0b_v44 V0 : (Proc.devRef .tc main_while0b_v44 : DevRef τ sig).ty.Contents (Elt F)) = Cert.ReferenceBwdIdeal.Step.b3 j s := by
  unfold res_main_while0b_v44 Cert.ReferenceBwdIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceBwdIdeal.Step.b4 j s := by
  unfold Cert.ReferenceBwdIdeal.Step.b4
  rfl
set_option maxRecDepth 8192 in
theorem al_5 (h : Holds V0 s j) : (constantI S_ 32 0#32 : (Proc.devRef .tc main_while0b_call0_c_0 : DevRef τ sig).ty.Contents (Elt F)) = Cert.ReferenceBwdIdeal.Step.b5 j s := by
  unfold Cert.ReferenceBwdIdeal.Step.b5
  rfl
set_option maxRecDepth 8192 in
theorem al_6 (h : Holds V0 s j) : (constantI S_ 32 0#32 : (Proc.devRef .tc main_while0b_call0_c_1 : DevRef τ sig).ty.Contents (Elt F)) = Cert.ReferenceBwdIdeal.Step.b6 j s := by
  unfold Cert.ReferenceBwdIdeal.Step.b6
  rfl
set_option maxRecDepth 8192 in
theorem al_7 (h : Holds V0 s j) : (constantI S_ 32 0#32 : (Proc.devRef .tc main_while0b_call0_c_2 : DevRef τ sig).ty.Contents (Elt F)) = Cert.ReferenceBwdIdeal.Step.b7 j s := by
  unfold Cert.ReferenceBwdIdeal.Step.b7
  rfl
set_option maxRecDepth 8192 in
theorem al_8 (h : Holds V0 s j) : (Host.dynamicSlice S1x2x4x64x64 (V0 (Proc.devRef .tc main_v27_0)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call0_v0 : DevRef τ sig).ty.Contents (Elt F)) = Cert.ReferenceBwdIdeal.Step.b8 j s := by
  unfold Cert.ReferenceBwdIdeal.Step.b8
  rw [← al_3 h, ← al_4 h, ← al_5 h, ← al_6 h, ← al_7 h, h.f_0]
  try rfl
set_option maxRecDepth 8192 in
theorem al_9 (h : Holds V0 s j) : (res_main_while0b_v45 V0 : (Proc.devRef .tc main_while0b_v45 : DevRef τ sig).ty.Contents (Elt F)) = Cert.ReferenceBwdIdeal.Step.b9 j s := by
  unfold res_main_while0b_v45 Cert.ReferenceBwdIdeal.Step.b9
  rw [← al_8 h]
  try rfl
set_option maxRecDepth 8192 in
theorem al_10 (h : Holds V0 s j) : (constantI S_ 32 0#32 : (Proc.devRef .tc main_while0b_call1_c : DevRef τ sig).ty.Contents (Elt F)) = Cert.ReferenceBwdIdeal.Step.b10 j s := by
  unfold Cert.ReferenceBwdIdeal.Step.b10
  rfl
set_option maxRecDepth 8192 in
theorem al_11 (h : Holds V0 s j) : (constantI S_ 32 0#32 : (Proc.devRef .tc main_while0b_call1_c_0 : DevRef τ sig).ty.Contents (Elt F)) = Cert.ReferenceBwdIdeal.Step.b11 j s := by
  unfold Cert.ReferenceBwdIdeal.Step.b11
  rfl
set_option maxRecDepth 8192 in
theorem al_12 (h : Holds V0 s j) : (constantI S_ 32 0#32 : (Proc.devRef .tc main_while0b_call1_c_1 : DevRef τ sig).ty.Contents (Elt F)) = Cert.ReferenceBwdIdeal.Step.b12 j s := by
  unfold Cert.ReferenceBwdIdeal.Step.b12
  rfl
set_option maxRecDepth 8192 in
theorem al_13 (h : Holds V0 s j) : (constantI S_ 32 0#32 : (Proc.devRef .tc main_while0b_call1_c_2 : DevRef τ sig).ty.Contents (Elt F)) = Cert.ReferenceBwdIdeal.Step.b13 j s := by
  unfold Cert.ReferenceBwdIdeal.Step.b13
  rfl
set_option maxRecDepth 8192 in
theorem al_14 (h : Holds V0 s j) : (Host.dynamicSlice S1x2x4x64x64 (V0 (Proc.devRef .tc main_v27_1)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call1_v0 : DevRef τ sig).ty.Contents (Elt F)) = Cert.ReferenceBwdIdeal.Step.b14 j s := by
  unfold Cert.ReferenceBwdIdeal.Step.b14
  rw [← al_3 h, ← al_10 h, ← al_11 h, ← al_12 h, ← al_13 h, h.f_1]
  try rfl
set_option maxRecDepth 8192 in
theorem al_15 (h : Holds V0 s j) : (res_main_while0b_v46 V0 : (Proc.devRef .tc main_while0b_v46 : DevRef τ sig).ty.Contents (Elt F)) = Cert.ReferenceBwdIdeal.Step.b15 j s := by
  unfold res_main_while0b_v46 Cert.ReferenceBwdIdeal.Step.b15
  rw [← al_14 h]
  try rfl
set_option maxRecDepth 8192 in
theorem al_16 (h : Holds V0 s j) : (constantI S_ 32 0#32 : (Proc.devRef .tc main_while0b_call2_c : DevRef τ sig).ty.Contents (Elt F)) = Cert.ReferenceBwdIdeal.Step.b16 j s := by
  unfold Cert.ReferenceBwdIdeal.Step.b16
  rfl
set_option maxRecDepth 8192 in
theorem al_17 (h : Holds V0 s j) : (constantI S_ 32 0#32 : (Proc.devRef .tc main_while0b_call2_c_0 : DevRef τ sig).ty.Contents (Elt F)) = Cert.ReferenceBwdIdeal.Step.b17 j s := by
  unfold Cert.ReferenceBwdIdeal.Step.b17
  rfl
set_option maxRecDepth 8192 in
theorem al_18 (h : Holds V0 s j) : (constantI S_ 32 0#32 : (Proc.devRef .tc main_while0b_call2_c_1 : DevRef τ sig).ty.Contents (Elt F)) = Cert.ReferenceBwdIdeal.Step.b18 j s := by
  unfold Cert.ReferenceBwdIdeal.Step.b18
  rfl
set_option maxRecDepth 8192 in
theorem al_19 (h : Holds V0 s j) : (constantI S_ 32 0#32 : (Proc.devRef .tc main_while0b_call2_c_2 : DevRef τ sig).ty.Contents (Elt F)) = Cert.ReferenceBwdIdeal.Step.b19 j s := by
  unfold Cert.ReferenceBwdIdeal.Step.b19
  rfl
set_option maxRecDepth 8192 in
theorem al_20 (h : Holds V0 s j) : (Host.dynamicSlice S1x2x4x64x64 (V0 (Proc.devRef .tc main_v27_2)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call2_v0 : DevRef τ sig).ty.Contents (Elt F)) = Cert.ReferenceBwdIdeal.Step.b20 j s := by
  unfold Cert.ReferenceBwdIdeal.Step.b20
  rw [← al_3 h, ← al_16 h, ← al_17 h, ← al_18 h, ← al_19 h, h.f_2]
  try rfl
set_option maxRecDepth 8192 in
theorem al_21 (h : Holds V0 s j) : (shapeCast S2x4x64x64 (Host.dynamicSlice S1x2x4x64x64 (V0 (Proc.devRef .tc main_v27_2)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v47 : DevRef τ sig).ty.Contents (Elt F)) = Cert.ReferenceBwdIdeal.Step.b21 j s := by
  unfold Cert.ReferenceBwdIdeal.Step.b21
  rw [← al_20 h]
  try rfl
set_option maxRecDepth 8192 in
theorem al_22 (h : Holds V0 s j) : (constantI S_ 32 0#32 : (Proc.devRef .tc main_while0b_call3_c : DevRef τ sig).ty.Contents (Elt F)) = Cert.ReferenceBwdIdeal.Step.b22 j s := by
  unfold Cert.ReferenceBwdIdeal.Step.b22
  rfl
set_option maxRecDepth 8192 in
theorem al_23 (h : Holds V0 s j) : (constantI S_ 32 0#32 : (Proc.devRef .tc main_while0b_call3_c_0 : DevRef τ sig).ty.Contents (Elt F)) = Cert.ReferenceBwdIdeal.Step.b23 j s := by
  unfold Cert.ReferenceBwdIdeal.Step.b23
  rfl
set_option maxRecDepth 8192 in
theorem al_24 (h : Holds V0 s j) : (constantI S_ 32 0#32 : (Proc.devRef .tc main_while0b_call3_c_1 : DevRef τ sig).ty.Contents (Elt F)) = Cert.ReferenceBwdIdeal.Step.b24 j s := by
  unfold Cert.ReferenceBwdIdeal.Step.b24
  rfl
set_option maxRecDepth 8192 in
theorem al_25 (h : Holds V0 s j) : (constantI S_ 32 0#32 : (Proc.devRef .tc main_while0b_call3_c_2 : DevRef τ sig).ty.Contents (Elt F)) = Cert.ReferenceBwdIdeal.Step.b25 j s := by
  unfold Cert.ReferenceBwdIdeal.Step.b25
  rfl
set_option maxRecDepth 8192 in
theorem al_26 (h : Holds V0 s j) : (Host.dynamicSlice S1x2x4x64x64 (V0 (Proc.devRef .tc main_v27_3)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call3_v0 : DevRef τ sig).ty.Contents (Elt F)) = Cert.ReferenceBwdIdeal.Step.b26 j s := by
  unfold Cert.ReferenceBwdIdeal.Step.b26
  rw [← al_3 h, ← al_22 h, ← al_23 h, ← al_24 h, ← al_25 h, h.f_3]
  try rfl
set_option maxRecDepth 8192 in
theorem al_27 (h : Holds V0 s j) : (res_main_while0b_v48 V0 : (Proc.devRef .tc main_while0b_v48 : DevRef τ sig).ty.Contents (Elt F)) = Cert.ReferenceBwdIdeal.Step.b27 j s := by
  unfold res_main_while0b_v48 Cert.ReferenceBwdIdeal.Step.b27
  rw [← al_26 h]
  try rfl
set_option maxRecDepth 8192 in
theorem al_28 (h : Holds V0 s j) : (constantI S_ 32 0#32 : (Proc.devRef .tc main_while0b_call4_c : DevRef τ sig).ty.Contents (Elt F)) = Cert.ReferenceBwdIdeal.Step.b28 j s := by
  unfold Cert.ReferenceBwdIdeal.Step.b28
  rfl
set_option maxRecDepth 8192 in
theorem al_29 (h : Holds V0 s j) : (constantI S_ 32 0#32 : (Proc.devRef .tc main_while0b_call4_c_0 : DevRef τ sig).ty.Contents (Elt F)) = Cert.ReferenceBwdIdeal.Step.b29 j s := by
  unfold Cert.ReferenceBwdIdeal.Step.b29
  rfl
set_option maxRecDepth 8192 in
theorem al_30 (h : Holds V0 s j) : (constantI S_ 32 0#32 : (Proc.devRef .tc main_while0b_call4_c_1 : DevRef τ sig).ty.Contents (Elt F)) = Cert.ReferenceBwdIdeal.Step.b30 j s := by
  unfold Cert.ReferenceBwdIdeal.Step.b30
  rfl
set_option maxRecDepth 8192 in
theorem al_31 (h : Holds V0 s j) : (constantI S_ 32 0#32 : (Proc.devRef .tc main_while0b_call4_c_2 : DevRef τ sig).ty.Contents (Elt F)) = Cert.ReferenceBwdIdeal.Step.b31 j s := by
  unfold Cert.ReferenceBwdIdeal.Step.b31
  rfl
set_option maxRecDepth 8192 in
theorem al_32 (h : Holds V0 s j) : (Host.dynamicSlice S1x2x4x64x64 (V0 (Proc.devRef .tc main_v27_4)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call4_v0 : DevRef τ sig).ty.Contents (Elt F)) = Cert.ReferenceBwdIdeal.Step.b32 j s := by
  unfold Cert.ReferenceBwdIdeal.Step.b32
  rw [← al_3 h, ← al_28 h, ← al_29 h, ← al_30 h, ← al_31 h, h.f_4]
  try rfl
set_option maxRecDepth 8192 in
theorem al_33 (h : Holds V0 s j) : (res_main_while0b_v49 V0 : (Proc.devRef .tc main_while0b_v49 : DevRef τ sig).ty.Contents (Elt F)) = Cert.ReferenceBwdIdeal.Step.b33 j s := by
  unfold res_main_while0b_v49 Cert.ReferenceBwdIdeal.Step.b33
  rw [← al_32 h]
  try rfl
set_option maxRecDepth 8192 in
theorem al_34 (h : Holds V0 s j) : (constantI S_ 32 0#32 : (Proc.devRef .tc main_while0b_call5_c : DevRef τ sig).ty.Contents (Elt F)) = Cert.ReferenceBwdIdeal.Step.b34 j s := by
  unfold Cert.ReferenceBwdIdeal.Step.b34
  rfl
set_option maxRecDepth 8192 in
theorem al_35 (h : Holds V0 s j) : (constantI S_ 32 0#32 : (Proc.devRef .tc main_while0b_call5_c_0 : DevRef τ sig).ty.Contents (Elt F)) = Cert.ReferenceBwdIdeal.Step.b35 j s := by
  unfold Cert.ReferenceBwdIdeal.Step.b35
  rfl
set_option maxRecDepth 8192 in
theorem al_36 (h : Holds V0 s j) : (constantI S_ 32 0#32 : (Proc.devRef .tc main_while0b_call5_c_1 : DevRef τ sig).ty.Contents (Elt F)) = Cert.ReferenceBwdIdeal.Step.b36 j s := by
  unfold Cert.ReferenceBwdIdeal.Step.b36
  rfl
set_option maxRecDepth 8192 in
theorem al_37 (h : Holds V0 s j) : (constantI S_ 32 0#32 : (Proc.devRef .tc main_while0b_call5_c_2 : DevRef τ sig).ty.Contents (Elt F)) = Cert.ReferenceBwdIdeal.Step.b37 j s := by
  unfold Cert.ReferenceBwdIdeal.Step.b37
  rfl
set_option maxRecDepth 8192 in
theorem al_38 (h : Holds V0 s j) : (Host.dynamicSlice S1x2x4x64x64 (V0 (Proc.devRef .tc main_v27_5)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call5_v0 : DevRef τ sig).ty.Contents (Elt F)) = Cert.ReferenceBwdIdeal.Step.b38 j s := by
  unfold Cert.ReferenceBwdIdeal.Step.b38
  rw [← al_3 h, ← al_34 h, ← al_35 h, ← al_36 h, ← al_37 h, h.f_5]
  try rfl
set_option maxRecDepth 8192 in
theorem al_39 (h : Holds V0 s j) : (shapeCast S2x4x64x64 (Host.dynamicSlice S1x2x4x64x64 (V0 (Proc.devRef .tc main_v27_5)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64) shapeCasts_S1x2x4x64x64_S2x4x64x64 : (Proc.devRef .tc main_while0b_v50 : DevRef τ sig).ty.Contents (Elt F)) = Cert.ReferenceBwdIdeal.Step.b39 j s := by
  unfold Cert.ReferenceBwdIdeal.Step.b39
  rw [← al_38 h]
  try rfl
set_option maxRecDepth 8192 in
theorem al_40 (h : Holds V0 s j) : (constantI S_ 32 0#32 : (Proc.devRef .tc main_while0b_call6_c : DevRef τ sig).ty.Contents (Elt F)) = Cert.ReferenceBwdIdeal.Step.b40 j s := by
  unfold Cert.ReferenceBwdIdeal.Step.b40
  rfl
set_option maxRecDepth 8192 in
theorem al_41 (h : Holds V0 s j) : (constantI S_ 32 0#32 : (Proc.devRef .tc main_while0b_call6_c_0 : DevRef τ sig).ty.Contents (Elt F)) = Cert.ReferenceBwdIdeal.Step.b41 j s := by
  unfold Cert.ReferenceBwdIdeal.Step.b41
  rfl
set_option maxRecDepth 8192 in
theorem al_42 (h : Holds V0 s j) : (constantI S_ 32 0#32 : (Proc.devRef .tc main_while0b_call6_c_1 : DevRef τ sig).ty.Contents (Elt F)) = Cert.ReferenceBwdIdeal.Step.b42 j s := by
  unfold Cert.ReferenceBwdIdeal.Step.b42
  rfl
set_option maxRecDepth 8192 in
theorem al_43 (h : Holds V0 s j) : (constantI S_ 32 0#32 : (Proc.devRef .tc main_while0b_call6_c_2 : DevRef τ sig).ty.Contents (Elt F)) = Cert.ReferenceBwdIdeal.Step.b43 j s := by
  unfold Cert.ReferenceBwdIdeal.Step.b43
  rfl
set_option maxRecDepth 8192 in
theorem al_44 (h : Holds V0 s j) : (Host.dynamicSlice S1x2x4x64x64 (V0 (Proc.devRef .tc main_v27_6)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call6_v0 : DevRef τ sig).ty.Contents (Elt F)) = Cert.ReferenceBwdIdeal.Step.b44 j s := by
  unfold Cert.ReferenceBwdIdeal.Step.b44
  rw [← al_3 h, ← al_40 h, ← al_41 h, ← al_42 h, ← al_43 h, h.f_6]
  try rfl
set_option maxRecDepth 8192 in
theorem al_45 (h : Holds V0 s j) : (res_main_while0b_v51 V0 : (Proc.devRef .tc main_while0b_v51 : DevRef τ sig).ty.Contents (Elt F)) = Cert.ReferenceBwdIdeal.Step.b45 j s := by
  unfold res_main_while0b_v51 Cert.ReferenceBwdIdeal.Step.b45
  rw [← al_44 h]
  try rfl
set_option maxRecDepth 8192 in
theorem al_46 (h : Holds V0 s j) : (constantI S_ 32 0#32 : (Proc.devRef .tc main_while0b_call7_c : DevRef τ sig).ty.Contents (Elt F)) = Cert.ReferenceBwdIdeal.Step.b46 j s := by
  unfold Cert.ReferenceBwdIdeal.Step.b46
  rfl
set_option maxRecDepth 8192 in
theorem al_47 (h : Holds V0 s j) : (constantI S_ 32 0#32 : (Proc.devRef .tc main_while0b_call7_c_0 : DevRef τ sig).ty.Contents (Elt F)) = Cert.ReferenceBwdIdeal.Step.b47 j s := by
  unfold Cert.ReferenceBwdIdeal.Step.b47
  rfl
set_option maxRecDepth 8192 in
theorem al_48 (h : Holds V0 s j) : (constantI S_ 32 0#32 : (Proc.devRef .tc main_while0b_call7_c_1 : DevRef τ sig).ty.Contents (Elt F)) = Cert.ReferenceBwdIdeal.Step.b48 j s := by
  unfold Cert.ReferenceBwdIdeal.Step.b48
  rfl
set_option maxRecDepth 8192 in
theorem al_49 (h : Holds V0 s j) : (constantI S_ 32 0#32 : (Proc.devRef .tc main_while0b_call7_c_2 : DevRef τ sig).ty.Contents (Elt F)) = Cert.ReferenceBwdIdeal.Step.b49 j s := by
  unfold Cert.ReferenceBwdIdeal.Step.b49
  rfl
set_option maxRecDepth 8192 in
theorem al_50 (h : Holds V0 s j) : (Host.dynamicSlice S1x2x4x64x64 (V0 (Proc.devRef .tc main_v27_7)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call7_v0 : DevRef τ sig).ty.Contents (Elt F)) = Cert.ReferenceBwdIdeal.Step.b50 j s := by
  unfold Cert.ReferenceBwdIdeal.Step.b50
  rw [← al_3 h, ← al_46 h, ← al_47 h, ← al_48 h, ← al_49 h, h.f_7]
  try rfl
set_option maxRecDepth 8192 in
theorem al_51 (h : Holds V0 s j) : (res_main_while0b_v52 V0 : (Proc.devRef .tc main_while0b_v52 : DevRef τ sig).ty.Contents (Elt F)) = Cert.ReferenceBwdIdeal.Step.b51 j s := by
  unfold res_main_while0b_v52 Cert.ReferenceBwdIdeal.Step.b51
  rw [← al_50 h]
  try rfl
set_option maxRecDepth 8192 in
theorem al_52 (h : Holds V0 s j) : (constantI S_ 32 0#32 : (Proc.devRef .tc main_while0b_call8_c : DevRef τ sig).ty.Contents (Elt F)) = Cert.ReferenceBwdIdeal.Step.b52 j s := by
  unfold Cert.ReferenceBwdIdeal.Step.b52
  rfl
set_option maxRecDepth 8192 in
theorem al_53 (h : Holds V0 s j) : (constantI S_ 32 0#32 : (Proc.devRef .tc main_while0b_call8_c_0 : DevRef τ sig).ty.Contents (Elt F)) = Cert.ReferenceBwdIdeal.Step.b53 j s := by
  unfold Cert.ReferenceBwdIdeal.Step.b53
  rfl
set_option maxRecDepth 8192 in
theorem al_54 (h : Holds V0 s j) : (constantI S_ 32 0#32 : (Proc.devRef .tc main_while0b_call8_c_1 : DevRef τ sig).ty.Contents (Elt F)) = Cert.ReferenceBwdIdeal.Step.b54 j s := by
  unfold Cert.ReferenceBwdIdeal.Step.b54
  rfl
set_option maxRecDepth 8192 in
theorem al_55 (h : Holds V0 s j) : (constantI S_ 32 0#32 : (Proc.devRef .tc main_while0b_call8_c_2 : DevRef τ sig).ty.Contents (Elt F)) = Cert.ReferenceBwdIdeal.Step.b55 j s := by
  unfold Cert.ReferenceBwdIdeal.Step.b55
  rfl
set_option maxRecDepth 8192 in
theorem al_56 (h : Holds V0 s j) : (Host.dynamicSlice S1x2x4x64x64 (V0 (Proc.devRef .tc main_v27_8)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) sliceFits_S32x2x4x64x64_S1x2x4x64x64 : (Proc.devRef .tc main_while0b_call8_v0 : DevRef τ sig).ty.Contents (Elt F)) = Cert.ReferenceBwdIdeal.Step.b56 j s := by
  unfold Cert.ReferenceBwdIdeal.Step.b56
  rw [← al_3 h, ← al_52 h, ← al_53 h, ← al_54 h, ← al_55 h, h.f_8]
  try rfl
set_option maxRecDepth 8192 in
theorem al_57 (h : Holds V0 s j) : (res_main_while0b_v53 V0 : (Proc.devRef .tc main_while0b_v53 : DevRef τ sig).ty.Contents (Elt F)) = Cert.ReferenceBwdIdeal.Step.b57 j s := by
  unfold res_main_while0b_v53 Cert.ReferenceBwdIdeal.Step.b57
  rw [← al_56 h]
  try rfl
set_option maxRecDepth 8192 in
theorem al_58 (h : Holds V0 s j) : (Host.dotGeneral dot_S2x4x64x64_S2x4x64x64_S2x4x64x64_3_2_2_3_01_01 none (res_main_while0b_v48 V0) (res_main_while0b_v52 V0) : (Proc.devRef .tc main_while0b_v54 : DevRef τ sig).ty.Contents (Elt F)) = Cert.ReferenceBwdIdeal.Step.b58 j s := by
  unfold Cert.ReferenceBwdIdeal.Step.b58
  rw [← al_27 h, ← al_51 h]
  try rfl
set_option maxRecDepth 8192 in
theorem al_59 (h : Holds V0 s j) : (res_main_while0b_v55 V0 : (Proc.devRef .tc main_while0b_v55 : DevRef τ sig).ty.Contents (Elt F)) = Cert.ReferenceBwdIdeal.Step.b59 j s := by
  unfold res_main_while0b_v55 Cert.ReferenceBwdIdeal.Step.b59
  rw [← al_21 h, ← al_58 h]
  try rfl
set_option maxRecDepth 8192 in
theorem al_60 (h : Holds V0 s j) : (Host.dotGeneral dot_S2x4x64x64_S2x4x64x64_S2x4x64x64_3_2_2_3_01_01 none (res_main_while0b_v46 V0) (res_main_while0b_v52 V0) : (Proc.devRef .tc main_while0b_v56 : DevRef τ sig).ty.Contents (Elt F)) = Cert.ReferenceBwdIdeal.Step.b60 j s := by
  unfold Cert.ReferenceBwdIdeal.Step.b60
  rw [← al_15 h, ← al_51 h]
  try rfl
set_option maxRecDepth 8192 in
theorem al_61 (h : Holds V0 s j) : (Host.dotGeneral dot_S2x4x64x64_S2x4x64x64_S2x4x64x64_3_2_2_3_01_01 none (res_main_while0b_v45 V0) (res_main_while0b_v55 V0) : (Proc.devRef .tc main_while0b_v57 : DevRef τ sig).ty.Contents (Elt F)) = Cert.ReferenceBwdIdeal.Step.b61 j s := by
  unfold Cert.ReferenceBwdIdeal.Step.b61
  rw [← al_9 h, ← al_59 h]
  try rfl
set_option maxRecDepth 8192 in
theorem al_62 (h : Holds V0 s j) : (res_main_while0b_v58 V0 : (Proc.devRef .tc main_while0b_v58 : DevRef τ sig).ty.Contents (Elt F)) = Cert.ReferenceBwdIdeal.Step.b62 j s := by
  unfold res_main_while0b_v58 Cert.ReferenceBwdIdeal.Step.b62
  rw [← al_60 h, ← al_61 h]
  try rfl
set_option maxRecDepth 8192 in
theorem al_63 (h : Holds V0 s j) : (res_main_while0b_v59 V0 : (Proc.devRef .tc main_while0b_v59 : DevRef τ sig).ty.Contents (Elt F)) = Cert.ReferenceBwdIdeal.Step.b63 j s := by
  unfold res_main_while0b_v59 Cert.ReferenceBwdIdeal.Step.b63
  rw [← al_39 h]
  try rfl
set_option maxRecDepth 8192 in
theorem al_64 (h : Holds V0 s j) : (broadcastInDim S2x4x64x64 ![0, 1, 2, 3] bcast_S2x4x1x64_S2x4x64x64_0_1_2_3 (res_main_while0b_v59 V0) : (Proc.devRef .tc main_while0b_v60 : DevRef τ sig).ty.Contents (Elt F)) = Cert.ReferenceBwdIdeal.Step.b64 j s := by
  unfold Cert.ReferenceBwdIdeal.Step.b64
  rw [← al_63 h]
  try rfl
set_option maxRecDepth 8192 in
theorem al_65 (h : Holds V0 s j) : (mulf (res_main_while0b_v52 V0) (broadcastInDim S2x4x64x64 ![0, 1, 2, 3] bcast_S2x4x1x64_S2x4x64x64_0_1_2_3 (res_main_while0b_v59 V0)) : (Proc.devRef .tc main_while0b_v61 : DevRef τ sig).ty.Contents (Elt F)) = Cert.ReferenceBwdIdeal.Step.b65 j s := by
  unfold Cert.ReferenceBwdIdeal.Step.b65
  rw [← al_51 h, ← al_64 h]
  try rfl
set_option maxRecDepth 8192 in
theorem al_66 (h : Holds V0 s j) : (Host.dotGeneral dot_S2x4x64x64_S2x4x64x64_S2x4x64x64_2_2_3_3_01_01 none (res_main_while0b_v49 V0) (res_main_while0b_v55 V0) : (Proc.devRef .tc main_while0b_v62 : DevRef τ sig).ty.Contents (Elt F)) = Cert.ReferenceBwdIdeal.Step.b66 j s := by
  unfold Cert.ReferenceBwdIdeal.Step.b66
  rw [← al_33 h, ← al_59 h]
  try rfl
set_option maxRecDepth 8192 in
theorem al_67 (h : Holds V0 s j) : (addf (mulf (res_main_while0b_v52 V0) (broadcastInDim S2x4x64x64 ![0, 1, 2, 3] bcast_S2x4x1x64_S2x4x64x64_0_1_2_3 (res_main_while0b_v59 V0))) (Host.dotGeneral dot_S2x4x64x64_S2x4x64x64_S2x4x64x64_2_2_3_3_01_01 none (res_main_while0b_v49 V0) (res_main_while0b_v55 V0)) : (Proc.devRef .tc main_while0b_v63 : DevRef τ sig).ty.Contents (Elt F)) = Cert.ReferenceBwdIdeal.Step.b67 j s := by
  unfold Cert.ReferenceBwdIdeal.Step.b67
  rw [← al_65 h, ← al_66 h]
  try rfl
set_option maxRecDepth 8192 in
theorem al_68 (h : Holds V0 s j) : (mulf (res_main_while0b_v58 V0) (res_main_while0b_v58 V0) : (Proc.devRef .tc main_while0b_v64 : DevRef τ sig).ty.Contents (Elt F)) = Cert.ReferenceBwdIdeal.Step.b68 j s := by
  unfold Cert.ReferenceBwdIdeal.Step.b68
  rw [← al_62 h]
  try rfl
set_option maxRecDepth 8192 in
theorem al_69 (h : Holds V0 s j) : (constant S_ .f32 0x00000000#32 : (Proc.devRef .tc main_while0b_cst_30 : DevRef τ sig).ty.Contents (Elt F)) = Cert.ReferenceBwdIdeal.Step.b69 j s := by
  unfold Cert.ReferenceBwdIdeal.Step.b69
  rfl
set_option maxRecDepth 8192 in
theorem al_70 (h : Holds V0 s j) : (Host.reduceAdd (mulf (res_main_while0b_v58 V0) (res_main_while0b_v58 V0)) (constant S_ .f32 0x00000000#32) reducesTo_S2x4x64x64_S2x4x64_d3 h_S_ : (Proc.devRef .tc main_while0b_v65 : DevRef τ sig).ty.Contents (Elt F)) = Cert.ReferenceBwdIdeal.Step.b70 j s := by
  unfold Cert.ReferenceBwdIdeal.Step.b70
  rw [← al_68 h, ← al_69 h]
  try rfl
set_option maxRecDepth 8192 in
theorem al_71 (h : Holds V0 s j) : (broadcastInDim S2x4x64x1 ![0, 1, 2] bcast_S2x4x64_S2x4x64x1_0_1_2 (Host.reduceAdd (mulf (res_main_while0b_v58 V0) (res_main_while0b_v58 V0)) (constant S_ .f32 0x00000000#32) reducesTo_S2x4x64x64_S2x4x64_d3 h_S_) : (Proc.devRef .tc main_while0b_v66 : DevRef τ sig).ty.Contents (Elt F)) = Cert.ReferenceBwdIdeal.Step.b71 j s := by
  unfold Cert.ReferenceBwdIdeal.Step.b71
  rw [← al_70 h]
  try rfl
set_option maxRecDepth 8192 in
theorem al_72 (h : Holds V0 s j) : (constant S_ .f32 0x42800000#32 : (Proc.devRef .tc main_while0b_cst_31 : DevRef τ sig).ty.Contents (Elt F)) = Cert.ReferenceBwdIdeal.Step.b72 j s := by
  unfold Cert.ReferenceBwdIdeal.Step.b72
  rfl
set_option maxRecDepth 8192 in
theorem al_73 (h : Holds V0 s j) : (broadcastInDim S2x4x64x1 ![] bcast_S_S2x4x64x1 (constant S_ .f32 0x42800000#32) : (Proc.devRef .tc main_while0b_v67 : DevRef τ sig).ty.Contents (Elt F)) = Cert.ReferenceBwdIdeal.Step.b73 j s := by
  unfold Cert.ReferenceBwdIdeal.Step.b73
  rw [← al_72 h]
  try rfl
set_option maxRecDepth 8192 in
theorem al_74 (h : Holds V0 s j) : (Host.divf (broadcastInDim S2x4x64x1 ![0, 1, 2] bcast_S2x4x64_S2x4x64x1_0_1_2 (Host.reduceAdd (mulf (res_main_while0b_v58 V0) (res_main_while0b_v58 V0)) (constant S_ .f32 0x00000000#32) reducesTo_S2x4x64x64_S2x4x64_d3 h_S_)) (broadcastInDim S2x4x64x1 ![] bcast_S_S2x4x64x1 (constant S_ .f32 0x42800000#32)) : (Proc.devRef .tc main_while0b_v68 : DevRef τ sig).ty.Contents (Elt F)) = Cert.ReferenceBwdIdeal.Step.b74 j s := by
  unfold Cert.ReferenceBwdIdeal.Step.b74
  rw [← al_71 h, ← al_73 h]
  try rfl
set_option maxRecDepth 8192 in
theorem al_75 (h : Holds V0 s j) : (constant S_ .f32 0x358637BD#32 : (Proc.devRef .tc main_while0b_cst_32 : DevRef τ sig).ty.Contents (Elt F)) = Cert.ReferenceBwdIdeal.Step.b75 j s := by
  unfold Cert.ReferenceBwdIdeal.Step.b75
  rfl
set_option maxRecDepth 8192 in
theorem al_76 (h : Holds V0 s j) : (broadcastInDim S2x4x64x1 ![] bcast_S_S2x4x64x1 (constant S_ .f32 0x358637BD#32) : (Proc.devRef .tc main_while0b_v69 : DevRef τ sig).ty.Contents (Elt F)) = Cert.ReferenceBwdIdeal.Step.b76 j s := by
  unfold Cert.ReferenceBwdIdeal.Step.b76
  rw [← al_75 h]
  try rfl
set_option maxRecDepth 8192 in
theorem al_77 (h : Holds V0 s j) : (res_main_while0b_v70 V0 : (Proc.devRef .tc main_while0b_v70 : DevRef τ sig).ty.Contents (Elt F)) = Cert.ReferenceBwdIdeal.Step.b77 j s := by
  unfold res_main_while0b_v70 Cert.ReferenceBwdIdeal.Step.b77
  rw [← al_74 h, ← al_76 h]
  try rfl
set_option maxRecDepth 8192 in
theorem al_78 (h : Holds V0 s j) : (res_main_while0b_v71 V0 : (Proc.devRef .tc main_while0b_v71 : DevRef τ sig).ty.Contents (Elt F)) = Cert.ReferenceBwdIdeal.Step.b78 j s := by
  unfold res_main_while0b_v71 Cert.ReferenceBwdIdeal.Step.b78
  rw [← al_77 h]
  try rfl
set_option maxRecDepth 8192 in
theorem al_79 (h : Holds V0 s j) : (Host.divf (res_main_while0b_v71 V0) (res_main_while0b_v70 V0) : (Proc.devRef .tc main_while0b_v72 : DevRef τ sig).ty.Contents (Elt F)) = Cert.ReferenceBwdIdeal.Step.b79 j s := by
  unfold Cert.ReferenceBwdIdeal.Step.b79
  rw [← al_78 h, ← al_77 h]
  try rfl
set_option maxRecDepth 8192 in
theorem al_80 (h : Holds V0 s j) : (constant S_ .f32 0xBF000000#32 : (Proc.devRef .tc main_while0b_cst_33 : DevRef τ sig).ty.Contents (Elt F)) = Cert.ReferenceBwdIdeal.Step.b80 j s := by
  unfold Cert.ReferenceBwdIdeal.Step.b80
  rfl
set_option maxRecDepth 8192 in
theorem al_81 (h : Holds V0 s j) : (broadcastInDim S2x4x64x1 ![] bcast_S_S2x4x64x1 (constant S_ .f32 0xBF000000#32) : (Proc.devRef .tc main_while0b_v73 : DevRef τ sig).ty.Contents (Elt F)) = Cert.ReferenceBwdIdeal.Step.b81 j s := by
  unfold Cert.ReferenceBwdIdeal.Step.b81
  rw [← al_80 h]
  try rfl
set_option maxRecDepth 8192 in
theorem al_82 (h : Holds V0 s j) : (mulf (broadcastInDim S2x4x64x1 ![] bcast_S_S2x4x64x1 (constant S_ .f32 0xBF000000#32)) (Host.divf (res_main_while0b_v71 V0) (res_main_while0b_v70 V0)) : (Proc.devRef .tc main_while0b_v74 : DevRef τ sig).ty.Contents (Elt F)) = Cert.ReferenceBwdIdeal.Step.b82 j s := by
  unfold Cert.ReferenceBwdIdeal.Step.b82
  rw [← al_81 h, ← al_79 h]
  try rfl
set_option maxRecDepth 8192 in
theorem al_83 (h : Holds V0 s j) : (broadcastInDim S2x4x64x64 ![0, 1, 2, 3] bcast_S2x4x64x1_S2x4x64x64_0_1_2_3 (res_main_while0b_v71 V0) : (Proc.devRef .tc main_while0b_v75 : DevRef τ sig).ty.Contents (Elt F)) = Cert.ReferenceBwdIdeal.Step.b83 j s := by
  unfold Cert.ReferenceBwdIdeal.Step.b83
  rw [← al_78 h]
  try rfl
set_option maxRecDepth 8192 in
theorem al_84 (h : Holds V0 s j) : (res_main_while0b_v76 V0 : (Proc.devRef .tc main_while0b_v76 : DevRef τ sig).ty.Contents (Elt F)) = Cert.ReferenceBwdIdeal.Step.b84 j s := by
  unfold res_main_while0b_v76 Cert.ReferenceBwdIdeal.Step.b84
  rw [← al_62 h, ← al_83 h]
  try rfl
set_option maxRecDepth 8192 in
theorem al_85 (h : Holds V0 s j) : (shapeCast S64 (V0 (Proc.devRef .tc main_v27_9)) shapeCasts_S1x64_S64 : (Proc.devRef .tc main_while0b_v77 : DevRef τ sig).ty.Contents (Elt F)) = Cert.ReferenceBwdIdeal.Step.b85 j s := by
  unfold Cert.ReferenceBwdIdeal.Step.b85
  rw [h.f_9]
  try rfl
set_option maxRecDepth 8192 in
theorem al_86 (h : Holds V0 s j) : (res_main_while0b_v78 V0 : (Proc.devRef .tc main_while0b_v78 : DevRef τ sig).ty.Contents (Elt F)) = Cert.ReferenceBwdIdeal.Step.b86 j s := by
  unfold res_main_while0b_v78 Cert.ReferenceBwdIdeal.Step.b86
  rw [← al_85 h]
  try rfl
set_option maxRecDepth 8192 in
theorem al_87 (h : Holds V0 s j) : (broadcastInDim S2x4x64x64 ![0, 1, 2, 3] bcast_S1x1x1x64_S2x4x64x64_0_1_2_3 (res_main_while0b_v78 V0) : (Proc.devRef .tc main_while0b_v79 : DevRef τ sig).ty.Contents (Elt F)) = Cert.ReferenceBwdIdeal.Step.b87 j s := by
  unfold Cert.ReferenceBwdIdeal.Step.b87
  rw [← al_86 h]
  try rfl
set_option maxRecDepth 8192 in
theorem al_88 (h : Holds V0 s j) : (res_main_while0b_v80 V0 : (Proc.devRef .tc main_while0b_v80 : DevRef τ sig).ty.Contents (Elt F)) = Cert.ReferenceBwdIdeal.Step.b88 j s := by
  unfold res_main_while0b_v80 Cert.ReferenceBwdIdeal.Step.b88
  rw [← al_84 h, ← al_87 h]
  try rfl
set_option maxRecDepth 8192 in
theorem al_89 (h : Holds V0 s j) : (Host.negf (res_main_while0b_v51 V0) : (Proc.devRef .tc main_while0b_call9_v0 : DevRef τ sig).ty.Contents (Elt F)) = Cert.ReferenceBwdIdeal.Step.b89 j s := by
  unfold Cert.ReferenceBwdIdeal.Step.b89
  rw [← al_45 h]
  try rfl
set_option maxRecDepth 8192 in
theorem al_90 (h : Holds V0 s j) : (Host.exp (Host.negf (res_main_while0b_v51 V0)) : (Proc.devRef .tc main_while0b_call9_v1 : DevRef τ sig).ty.Contents (Elt F)) = Cert.ReferenceBwdIdeal.Step.b90 j s := by
  unfold Cert.ReferenceBwdIdeal.Step.b90
  rw [← al_89 h]
  try rfl
set_option maxRecDepth 8192 in
theorem al_91 (h : Holds V0 s j) : (constant S_ .f32 0x3F800000#32 : (Proc.devRef .tc main_while0b_call9_cst : DevRef τ sig).ty.Contents (Elt F)) = Cert.ReferenceBwdIdeal.Step.b91 j s := by
  unfold Cert.ReferenceBwdIdeal.Step.b91
  rfl
set_option maxRecDepth 8192 in
theorem al_92 (h : Holds V0 s j) : (broadcastInDim S2x4x64x64 ![] bcast_S_S2x4x64x64 (constant S_ .f32 0x3F800000#32) : (Proc.devRef .tc main_while0b_call9_v2 : DevRef τ sig).ty.Contents (Elt F)) = Cert.ReferenceBwdIdeal.Step.b92 j s := by
  unfold Cert.ReferenceBwdIdeal.Step.b92
  rw [← al_91 h]
  try rfl
set_option maxRecDepth 8192 in
theorem al_93 (h : Holds V0 s j) : (addf (broadcastInDim S2x4x64x64 ![] bcast_S_S2x4x64x64 (constant S_ .f32 0x3F800000#32)) (Host.exp (Host.negf (res_main_while0b_v51 V0))) : (Proc.devRef .tc main_while0b_call9_v3 : DevRef τ sig).ty.Contents (Elt F)) = Cert.ReferenceBwdIdeal.Step.b93 j s := by
  unfold Cert.ReferenceBwdIdeal.Step.b93
  rw [← al_92 h, ← al_90 h]
  try rfl
set_option maxRecDepth 8192 in
theorem al_94 (h : Holds V0 s j) : (constant S_ .f32 0x3F800000#32 : (Proc.devRef .tc main_while0b_call9_cst_0 : DevRef τ sig).ty.Contents (Elt F)) = Cert.ReferenceBwdIdeal.Step.b94 j s := by
  unfold Cert.ReferenceBwdIdeal.Step.b94
  rfl
set_option maxRecDepth 8192 in
theorem al_95 (h : Holds V0 s j) : (broadcastInDim S2x4x64x64 ![] bcast_S_S2x4x64x64 (constant S_ .f32 0x3F800000#32) : (Proc.devRef .tc main_while0b_call9_v4 : DevRef τ sig).ty.Contents (Elt F)) = Cert.ReferenceBwdIdeal.Step.b95 j s := by
  unfold Cert.ReferenceBwdIdeal.Step.b95
  rw [← al_94 h]
  try rfl
set_option maxRecDepth 8192 in
theorem al_96 (h : Holds V0 s j) : (res_main_while0b_v81_2 V0 : (Proc.devRef .tc main_while0b_v81_2 : DevRef τ sig).ty.Contents (Elt F)) = Cert.ReferenceBwdIdeal.Step.b96 j s := by
  unfold res_main_while0b_v81_2 Cert.ReferenceBwdIdeal.Step.b96
  rw [← al_95 h, ← al_93 h]
  try rfl
set_option maxRecDepth 8192 in
theorem al_97 (h : Holds V0 s j) : (constant S_ .f32 0x3F800000#32 : (Proc.devRef .tc main_while0b_call9_cst_1 : DevRef τ sig).ty.Contents (Elt F)) = Cert.ReferenceBwdIdeal.Step.b97 j s := by
  unfold Cert.ReferenceBwdIdeal.Step.b97
  rfl
set_option maxRecDepth 8192 in
theorem al_98 (h : Holds V0 s j) : (broadcastInDim S2x4x64x64 ![] bcast_S_S2x4x64x64 (constant S_ .f32 0x3F800000#32) : (Proc.devRef .tc main_while0b_call9_v6 : DevRef τ sig).ty.Contents (Elt F)) = Cert.ReferenceBwdIdeal.Step.b98 j s := by
  unfold Cert.ReferenceBwdIdeal.Step.b98
  rw [← al_97 h]
  try rfl
set_option maxRecDepth 8192 in
theorem al_99 (h : Holds V0 s j) : (subf (broadcastInDim S2x4x64x64 ![] bcast_S_S2x4x64x64 (constant S_ .f32 0x3F800000#32)) (res_main_while0b_v81_2 V0) : (Proc.devRef .tc main_while0b_call9_v7 : DevRef τ sig).ty.Contents (Elt F)) = Cert.ReferenceBwdIdeal.Step.b99 j s := by
  unfold Cert.ReferenceBwdIdeal.Step.b99
  rw [← al_98 h, ← al_96 h]
  try rfl
set_option maxRecDepth 8192 in
theorem al_100 (h : Holds V0 s j) : (mulf (res_main_while0b_v81_2 V0) (subf (broadcastInDim S2x4x64x64 ![] bcast_S_S2x4x64x64 (constant S_ .f32 0x3F800000#32)) (res_main_while0b_v81_2 V0)) : (Proc.devRef .tc main_while0b_v81_1 : DevRef τ sig).ty.Contents (Elt F)) = Cert.ReferenceBwdIdeal.Step.b100 j s := by
  unfold Cert.ReferenceBwdIdeal.Step.b100
  rw [← al_96 h, ← al_99 h]
  try rfl
set_option maxRecDepth 8192 in
theorem al_101 (h : Holds V0 s j) : (res_main_while0b_v81_0 V0 : (Proc.devRef .tc main_while0b_v81_0 : DevRef τ sig).ty.Contents (Elt F)) = Cert.ReferenceBwdIdeal.Step.b101 j s := by
  unfold res_main_while0b_v81_0 Cert.ReferenceBwdIdeal.Step.b101
  rw [← al_45 h, ← al_96 h]
  try rfl
set_option maxRecDepth 8192 in
theorem al_102 (h : Holds V0 s j) : (mulf (res_main_while0b_v80 V0) (res_main_while0b_v81_0 V0) : (Proc.devRef .tc main_while0b_v82 : DevRef τ sig).ty.Contents (Elt F)) = Cert.ReferenceBwdIdeal.Step.b102 j s := by
  unfold Cert.ReferenceBwdIdeal.Step.b102
  rw [← al_88 h, ← al_101 h]
  try rfl
set_option maxRecDepth 8192 in
theorem al_103 (h : Holds V0 s j) : (res_main_while0b_v83 V0 : (Proc.devRef .tc main_while0b_v83 : DevRef τ sig).ty.Contents (Elt F)) = Cert.ReferenceBwdIdeal.Step.b103 j s := by
  unfold res_main_while0b_v83 Cert.ReferenceBwdIdeal.Step.b103
  rw [← al_88 h, ← al_57 h]
  try rfl
set_option maxRecDepth 8192 in
theorem al_104 (h : Holds V0 s j) : (res_main_while0b_v84 V0 : (Proc.devRef .tc main_while0b_v84 : DevRef τ sig).ty.Contents (Elt F)) = Cert.ReferenceBwdIdeal.Step.b104 j s := by
  unfold res_main_while0b_v84 Cert.ReferenceBwdIdeal.Step.b104
  rw [← al_57 h, ← al_101 h]
  try rfl
set_option maxRecDepth 8192 in
theorem al_105 (h : Holds V0 s j) : (mulf (res_main_while0b_v51 V0) (res_main_while0b_v83 V0) : (Proc.devRef .tc main_while0b_call10_v0 : DevRef τ sig).ty.Contents (Elt F)) = Cert.ReferenceBwdIdeal.Step.b105 j s := by
  unfold Cert.ReferenceBwdIdeal.Step.b105
  rw [← al_45 h, ← al_103 h]
  try rfl
set_option maxRecDepth 8192 in
theorem al_106 (h : Holds V0 s j) : (mulf (res_main_while0b_v83 V0) (res_main_while0b_v81_2 V0) : (Proc.devRef .tc main_while0b_call10_v1 : DevRef τ sig).ty.Contents (Elt F)) = Cert.ReferenceBwdIdeal.Step.b106 j s := by
  unfold Cert.ReferenceBwdIdeal.Step.b106
  rw [← al_103 h, ← al_96 h]
  try rfl
set_option maxRecDepth 8192 in
theorem al_107 (h : Holds V0 s j) : (mulf (mulf (res_main_while0b_v51 V0) (res_main_while0b_v83 V0)) (mulf (res_main_while0b_v81_2 V0) (subf (broadcastInDim S2x4x64x64 ![] bcast_S_S2x4x64x64 (constant S_ .f32 0x3F800000#32)) (res_main_while0b_v81_2 V0))) : (Proc.devRef .tc main_while0b_call10_v2 : DevRef τ sig).ty.Contents (Elt F)) = Cert.ReferenceBwdIdeal.Step.b107 j s := by
  unfold Cert.ReferenceBwdIdeal.Step.b107
  rw [← al_105 h, ← al_100 h]
  try rfl
set_option maxRecDepth 8192 in
theorem al_108 (h : Holds V0 s j) : (addf (mulf (res_main_while0b_v83 V0) (res_main_while0b_v81_2 V0)) (mulf (mulf (res_main_while0b_v51 V0) (res_main_while0b_v83 V0)) (mulf (res_main_while0b_v81_2 V0) (subf (broadcastInDim S2x4x64x64 ![] bcast_S_S2x4x64x64 (constant S_ .f32 0x3F800000#32)) (res_main_while0b_v81_2 V0)))) : (Proc.devRef .tc main_while0b_v85 : DevRef τ sig).ty.Contents (Elt F)) = Cert.ReferenceBwdIdeal.Step.b108 j s := by
  unfold Cert.ReferenceBwdIdeal.Step.b108
  rw [← al_106 h, ← al_107 h]
  try rfl
set_option maxRecDepth 8192 in
theorem al_109 (h : Holds V0 s j) : (mulf (res_main_while0b_v76 V0) (res_main_while0b_v84 V0) : (Proc.devRef .tc main_while0b_v86 : DevRef τ sig).ty.Contents (Elt F)) = Cert.ReferenceBwdIdeal.Step.b109 j s := by
  unfold Cert.ReferenceBwdIdeal.Step.b109
  rw [← al_84 h, ← al_104 h]
  try rfl
set_option maxRecDepth 8192 in
theorem al_110 (h : Holds V0 s j) : (constant S_ .f32 0x00000000#32 : (Proc.devRef .tc main_while0b_cst_34 : DevRef τ sig).ty.Contents (Elt F)) = Cert.ReferenceBwdIdeal.Step.b110 j s := by
  unfold Cert.ReferenceBwdIdeal.Step.b110
  rfl
set_option maxRecDepth 8192 in
theorem al_111 (h : Holds V0 s j) : (Host.reduceAdd (mulf (res_main_while0b_v76 V0) (res_main_while0b_v84 V0)) (constant S_ .f32 0x00000000#32) reducesTo_S2x4x64x64_S64_d0_1_2 h_S_ : (Proc.devRef .tc main_while0b_v87 : DevRef τ sig).ty.Contents (Elt F)) = Cert.ReferenceBwdIdeal.Step.b111 j s := by
  unfold Cert.ReferenceBwdIdeal.Step.b111
  rw [← al_109 h, ← al_110 h]
  try rfl
set_option maxRecDepth 8192 in
theorem al_112 (h : Holds V0 s j) : (shapeCast S1x1x1x64 (Host.reduceAdd (mulf (res_main_while0b_v76 V0) (res_main_while0b_v84 V0)) (constant S_ .f32 0x00000000#32) reducesTo_S2x4x64x64_S64_d0_1_2 h_S_) shapeCasts_S64_S1x1x1x64 : (Proc.devRef .tc main_while0b_v88 : DevRef τ sig).ty.Contents (Elt F)) = Cert.ReferenceBwdIdeal.Step.b112 j s := by
  unfold Cert.ReferenceBwdIdeal.Step.b112
  rw [← al_111 h]
  try rfl
set_option maxRecDepth 8192 in
theorem al_113 (h : Holds V0 s j) : (broadcastInDim S2x4x64x64 ![0, 1, 2, 3] bcast_S1x1x1x64_S2x4x64x64_0_1_2_3 (res_main_while0b_v78 V0) : (Proc.devRef .tc main_while0b_v89 : DevRef τ sig).ty.Contents (Elt F)) = Cert.ReferenceBwdIdeal.Step.b113 j s := by
  unfold Cert.ReferenceBwdIdeal.Step.b113
  rw [← al_86 h]
  try rfl
set_option maxRecDepth 8192 in
theorem al_114 (h : Holds V0 s j) : (res_main_while0b_v90 V0 : (Proc.devRef .tc main_while0b_v90 : DevRef τ sig).ty.Contents (Elt F)) = Cert.ReferenceBwdIdeal.Step.b114 j s := by
  unfold res_main_while0b_v90 Cert.ReferenceBwdIdeal.Step.b114
  rw [← al_104 h, ← al_113 h]
  try rfl
set_option maxRecDepth 8192 in
theorem al_115 (h : Holds V0 s j) : (constant S_ .f32 0x00000000#32 : (Proc.devRef .tc main_while0b_cst_35 : DevRef τ sig).ty.Contents (Elt F)) = Cert.ReferenceBwdIdeal.Step.b115 j s := by
  unfold Cert.ReferenceBwdIdeal.Step.b115
  rfl
set_option maxRecDepth 8192 in
theorem al_116 (h : Holds V0 s j) : (Host.reduceAdd (shapeCast S1x1x1x64 (Host.reduceAdd (mulf (res_main_while0b_v76 V0) (res_main_while0b_v84 V0)) (constant S_ .f32 0x00000000#32) reducesTo_S2x4x64x64_S64_d0_1_2 h_S_) shapeCasts_S64_S1x1x1x64) (constant S_ .f32 0x00000000#32) reducesTo_S1x1x1x64_S64_d0_1_2 h_S_ : (Proc.devRef .tc main_while0b_v91 : DevRef τ sig).ty.Contents (Elt F)) = Cert.ReferenceBwdIdeal.Step.b116 j s := by
  unfold Cert.ReferenceBwdIdeal.Step.b116
  rw [← al_112 h, ← al_115 h]
  try rfl
set_option maxRecDepth 8192 in
theorem al_117 (h : Holds V0 s j) : (broadcastInDim S1x64 ![1] bcast_S64_S1x64_1 (Host.reduceAdd (shapeCast S1x1x1x64 (Host.reduceAdd (mulf (res_main_while0b_v76 V0) (res_main_while0b_v84 V0)) (constant S_ .f32 0x00000000#32) reducesTo_S2x4x64x64_S64_d0_1_2 h_S_) shapeCasts_S64_S1x1x1x64) (constant S_ .f32 0x00000000#32) reducesTo_S1x1x1x64_S64_d0_1_2 h_S_) : (Proc.devRef .tc main_while0b_v92 : DevRef τ sig).ty.Contents (Elt F)) = Cert.ReferenceBwdIdeal.Step.b117 j s := by
  unfold Cert.ReferenceBwdIdeal.Step.b117
  rw [← al_116 h]
  try rfl
set_option maxRecDepth 8192 in
theorem al_118 (h : Holds V0 s j) : (mulf (res_main_while0b_v58 V0) (res_main_while0b_v90 V0) : (Proc.devRef .tc main_while0b_v93 : DevRef τ sig).ty.Contents (Elt F)) = Cert.ReferenceBwdIdeal.Step.b118 j s := by
  unfold Cert.ReferenceBwdIdeal.Step.b118
  rw [← al_62 h, ← al_114 h]
  try rfl
set_option maxRecDepth 8192 in
theorem al_119 (h : Holds V0 s j) : (constant S_ .f32 0x00000000#32 : (Proc.devRef .tc main_while0b_cst_36 : DevRef τ sig).ty.Contents (Elt F)) = Cert.ReferenceBwdIdeal.Step.b119 j s := by
  unfold Cert.ReferenceBwdIdeal.Step.b119
  rfl
set_option maxRecDepth 8192 in
theorem al_120 (h : Holds V0 s j) : (Host.reduceAdd (mulf (res_main_while0b_v58 V0) (res_main_while0b_v90 V0)) (constant S_ .f32 0x00000000#32) reducesTo_S2x4x64x64_S2x4x64_d3 h_S_ : (Proc.devRef .tc main_while0b_v94 : DevRef τ sig).ty.Contents (Elt F)) = Cert.ReferenceBwdIdeal.Step.b120 j s := by
  unfold Cert.ReferenceBwdIdeal.Step.b120
  rw [← al_118 h, ← al_119 h]
  try rfl
set_option maxRecDepth 8192 in
theorem al_121 (h : Holds V0 s j) : (shapeCast S2x4x64x1 (Host.reduceAdd (mulf (res_main_while0b_v58 V0) (res_main_while0b_v90 V0)) (constant S_ .f32 0x00000000#32) reducesTo_S2x4x64x64_S2x4x64_d3 h_S_) shapeCasts_S2x4x64_S2x4x64x1 : (Proc.devRef .tc main_while0b_v95 : DevRef τ sig).ty.Contents (Elt F)) = Cert.ReferenceBwdIdeal.Step.b121 j s := by
  unfold Cert.ReferenceBwdIdeal.Step.b121
  rw [← al_120 h]
  try rfl
set_option maxRecDepth 8192 in
theorem al_122 (h : Holds V0 s j) : (broadcastInDim S2x4x64x64 ![0, 1, 2, 3] bcast_S2x4x64x1_S2x4x64x64_0_1_2_3 (res_main_while0b_v71 V0) : (Proc.devRef .tc main_while0b_v96 : DevRef τ sig).ty.Contents (Elt F)) = Cert.ReferenceBwdIdeal.Step.b122 j s := by
  unfold Cert.ReferenceBwdIdeal.Step.b122
  rw [← al_78 h]
  try rfl
set_option maxRecDepth 8192 in
theorem al_123 (h : Holds V0 s j) : (mulf (res_main_while0b_v90 V0) (broadcastInDim S2x4x64x64 ![0, 1, 2, 3] bcast_S2x4x64x1_S2x4x64x64_0_1_2_3 (res_main_while0b_v71 V0)) : (Proc.devRef .tc main_while0b_v97 : DevRef τ sig).ty.Contents (Elt F)) = Cert.ReferenceBwdIdeal.Step.b123 j s := by
  unfold Cert.ReferenceBwdIdeal.Step.b123
  rw [← al_114 h, ← al_122 h]
  try rfl
set_option maxRecDepth 8192 in
theorem al_124 (h : Holds V0 s j) : (mulf (shapeCast S2x4x64x1 (Host.reduceAdd (mulf (res_main_while0b_v58 V0) (res_main_while0b_v90 V0)) (constant S_ .f32 0x00000000#32) reducesTo_S2x4x64x64_S2x4x64_d3 h_S_) shapeCasts_S2x4x64_S2x4x64x1) (mulf (broadcastInDim S2x4x64x1 ![] bcast_S_S2x4x64x1 (constant S_ .f32 0xBF000000#32)) (Host.divf (res_main_while0b_v71 V0) (res_main_while0b_v70 V0))) : (Proc.devRef .tc main_while0b_v98 : DevRef τ sig).ty.Contents (Elt F)) = Cert.ReferenceBwdIdeal.Step.b124 j s := by
  unfold Cert.ReferenceBwdIdeal.Step.b124
  rw [← al_121 h, ← al_82 h]
  try rfl
set_option maxRecDepth 8192 in
theorem al_125 (h : Holds V0 s j) : (constant S_ .f32 0x42800000#32 : (Proc.devRef .tc main_while0b_cst_37 : DevRef τ sig).ty.Contents (Elt F)) = Cert.ReferenceBwdIdeal.Step.b125 j s := by
  unfold Cert.ReferenceBwdIdeal.Step.b125
  rfl
set_option maxRecDepth 8192 in
theorem al_126 (h : Holds V0 s j) : (broadcastInDim S2x4x64x1 ![] bcast_S_S2x4x64x1 (constant S_ .f32 0x42800000#32) : (Proc.devRef .tc main_while0b_v99 : DevRef τ sig).ty.Contents (Elt F)) = Cert.ReferenceBwdIdeal.Step.b126 j s := by
  unfold Cert.ReferenceBwdIdeal.Step.b126
  rw [← al_125 h]
  try rfl
set_option maxRecDepth 8192 in
theorem al_127 (h : Holds V0 s j) : (Host.divf (mulf (shapeCast S2x4x64x1 (Host.reduceAdd (mulf (res_main_while0b_v58 V0) (res_main_while0b_v90 V0)) (constant S_ .f32 0x00000000#32) reducesTo_S2x4x64x64_S2x4x64_d3 h_S_) shapeCasts_S2x4x64_S2x4x64x1) (mulf (broadcastInDim S2x4x64x1 ![] bcast_S_S2x4x64x1 (constant S_ .f32 0xBF000000#32)) (Host.divf (res_main_while0b_v71 V0) (res_main_while0b_v70 V0)))) (broadcastInDim S2x4x64x1 ![] bcast_S_S2x4x64x1 (constant S_ .f32 0x42800000#32)) : (Proc.devRef .tc main_while0b_v100 : DevRef τ sig).ty.Contents (Elt F)) = Cert.ReferenceBwdIdeal.Step.b127 j s := by
  unfold Cert.ReferenceBwdIdeal.Step.b127
  rw [← al_124 h, ← al_126 h]
  try rfl
set_option maxRecDepth 8192 in
theorem al_128 (h : Holds V0 s j) : (constant S_ .f32 0x00000000#32 : (Proc.devRef .tc main_while0b_cst_38 : DevRef τ sig).ty.Contents (Elt F)) = Cert.ReferenceBwdIdeal.Step.b128 j s := by
  unfold Cert.ReferenceBwdIdeal.Step.b128
  rfl
set_option maxRecDepth 8192 in
theorem al_129 (h : Holds V0 s j) : (Host.reduceAdd (Host.divf (mulf (shapeCast S2x4x64x1 (Host.reduceAdd (mulf (res_main_while0b_v58 V0) (res_main_while0b_v90 V0)) (constant S_ .f32 0x00000000#32) reducesTo_S2x4x64x64_S2x4x64_d3 h_S_) shapeCasts_S2x4x64_S2x4x64x1) (mulf (broadcastInDim S2x4x64x1 ![] bcast_S_S2x4x64x1 (constant S_ .f32 0xBF000000#32)) (Host.divf (res_main_while0b_v71 V0) (res_main_while0b_v70 V0)))) (broadcastInDim S2x4x64x1 ![] bcast_S_S2x4x64x1 (constant S_ .f32 0x42800000#32))) (constant S_ .f32 0x00000000#32) reducesTo_S2x4x64x1_S2x4x64_d3 h_S_ : (Proc.devRef .tc main_while0b_v101 : DevRef τ sig).ty.Contents (Elt F)) = Cert.ReferenceBwdIdeal.Step.b129 j s := by
  unfold Cert.ReferenceBwdIdeal.Step.b129
  rw [← al_127 h, ← al_128 h]
  try rfl
set_option maxRecDepth 8192 in
theorem al_130 (h : Holds V0 s j) : (res_main_while0b_v102 V0 : (Proc.devRef .tc main_while0b_v102 : DevRef τ sig).ty.Contents (Elt F)) = Cert.ReferenceBwdIdeal.Step.b130 j s := by
  unfold res_main_while0b_v102 Cert.ReferenceBwdIdeal.Step.b130
  rw [← al_129 h]
  try rfl
set_option maxRecDepth 8192 in
theorem al_131 (h : Holds V0 s j) : (mulf (res_main_while0b_v58 V0) (res_main_while0b_v102 V0) : (Proc.devRef .tc main_while0b_v103 : DevRef τ sig).ty.Contents (Elt F)) = Cert.ReferenceBwdIdeal.Step.b131 j s := by
  unfold Cert.ReferenceBwdIdeal.Step.b131
  rw [← al_62 h, ← al_130 h]
  try rfl
set_option maxRecDepth 8192 in
theorem al_132 (h : Holds V0 s j) : (addf (mulf (res_main_while0b_v90 V0) (broadcastInDim S2x4x64x64 ![0, 1, 2, 3] bcast_S2x4x64x1_S2x4x64x64_0_1_2_3 (res_main_while0b_v71 V0))) (mulf (res_main_while0b_v58 V0) (res_main_while0b_v102 V0)) : (Proc.devRef .tc main_while0b_v104 : DevRef τ sig).ty.Contents (Elt F)) = Cert.ReferenceBwdIdeal.Step.b132 j s := by
  unfold Cert.ReferenceBwdIdeal.Step.b132
  rw [← al_123 h, ← al_131 h]
  try rfl
set_option maxRecDepth 8192 in
theorem al_133 (h : Holds V0 s j) : (mulf (res_main_while0b_v102 V0) (res_main_while0b_v58 V0) : (Proc.devRef .tc main_while0b_v105 : DevRef τ sig).ty.Contents (Elt F)) = Cert.ReferenceBwdIdeal.Step.b133 j s := by
  unfold Cert.ReferenceBwdIdeal.Step.b133
  rw [← al_130 h, ← al_62 h]
  try rfl
set_option maxRecDepth 8192 in
theorem al_134 (h : Holds V0 s j) : (res_main_while0b_v106 V0 : (Proc.devRef .tc main_while0b_v106 : DevRef τ sig).ty.Contents (Elt F)) = Cert.ReferenceBwdIdeal.Step.b134 j s := by
  unfold res_main_while0b_v106 Cert.ReferenceBwdIdeal.Step.b134
  rw [← al_132 h, ← al_133 h]
  try rfl
set_option maxRecDepth 8192 in
theorem al_135 (h : Holds V0 s j) : (Host.dotGeneral dot_S2x4x64x64_S2x4x64x64_S2x4x64x64_2_3_3_2_01_01 none (V0 (Proc.devRef .tc main_v27_11)) (res_main_while0b_v49 V0) : (Proc.devRef .tc main_while0b_v107 : DevRef τ sig).ty.Contents (Elt F)) = Cert.ReferenceBwdIdeal.Step.b135 j s := by
  unfold Cert.ReferenceBwdIdeal.Step.b135
  rw [← al_33 h, h.f_11]
  try rfl
set_option maxRecDepth 8192 in
theorem al_136 (h : Holds V0 s j) : (transpose S2x4x64x64 [0, 1, 3, 2] (Host.dotGeneral dot_S2x4x64x64_S2x4x64x64_S2x4x64x64_2_3_3_2_01_01 none (V0 (Proc.devRef .tc main_v27_11)) (res_main_while0b_v49 V0)) transposes_S2x4x64x64_S2x4x64x64_0_1_3_2 : (Proc.devRef .tc main_while0b_v108 : DevRef τ sig).ty.Contents (Elt F)) = Cert.ReferenceBwdIdeal.Step.b136 j s := by
  unfold Cert.ReferenceBwdIdeal.Step.b136
  rw [← al_135 h]
  try rfl
set_option maxRecDepth 8192 in
theorem al_137 (h : Holds V0 s j) : (Host.dotGeneral dot_S2x4x64x64_S2x4x64x64_S2x4x64x64_3_3_2_2_01_01 none (V0 (Proc.devRef .tc main_v27_11)) (res_main_while0b_v55 V0) : (Proc.devRef .tc main_while0b_v109 : DevRef τ sig).ty.Contents (Elt F)) = Cert.ReferenceBwdIdeal.Step.b137 j s := by
  unfold Cert.ReferenceBwdIdeal.Step.b137
  rw [← al_59 h, h.f_11]
  try rfl
set_option maxRecDepth 8192 in
theorem al_138 (h : Holds V0 s j) : (transpose S2x4x64x64 [0, 1, 3, 2] (Host.dotGeneral dot_S2x4x64x64_S2x4x64x64_S2x4x64x64_3_3_2_2_01_01 none (V0 (Proc.devRef .tc main_v27_11)) (res_main_while0b_v55 V0)) transposes_S2x4x64x64_S2x4x64x64_0_1_3_2 : (Proc.devRef .tc main_while0b_v110 : DevRef τ sig).ty.Contents (Elt F)) = Cert.ReferenceBwdIdeal.Step.b138 j s := by
  unfold Cert.ReferenceBwdIdeal.Step.b138
  rw [← al_137 h]
  try rfl
set_option maxRecDepth 8192 in
theorem al_139 (h : Holds V0 s j) : (mulf (res_main_while0b_v52 V0) (V0 (Proc.devRef .tc main_v27_11)) : (Proc.devRef .tc main_while0b_v111 : DevRef τ sig).ty.Contents (Elt F)) = Cert.ReferenceBwdIdeal.Step.b139 j s := by
  unfold Cert.ReferenceBwdIdeal.Step.b139
  rw [← al_51 h, h.f_11]
  try rfl
set_option maxRecDepth 8192 in
theorem al_140 (h : Holds V0 s j) : (constant S_ .f32 0x00000000#32 : (Proc.devRef .tc main_while0b_cst_39 : DevRef τ sig).ty.Contents (Elt F)) = Cert.ReferenceBwdIdeal.Step.b140 j s := by
  unfold Cert.ReferenceBwdIdeal.Step.b140
  rfl
set_option maxRecDepth 8192 in
theorem al_141 (h : Holds V0 s j) : (Host.reduceAdd (mulf (res_main_while0b_v52 V0) (V0 (Proc.devRef .tc main_v27_11))) (constant S_ .f32 0x00000000#32) reducesTo_S2x4x64x64_S2x4x64_d2 h_S_ : (Proc.devRef .tc main_while0b_v112 : DevRef τ sig).ty.Contents (Elt F)) = Cert.ReferenceBwdIdeal.Step.b141 j s := by
  unfold Cert.ReferenceBwdIdeal.Step.b141
  rw [← al_139 h, ← al_140 h]
  try rfl
set_option maxRecDepth 8192 in
theorem al_142 (h : Holds V0 s j) : (shapeCast S2x4x1x64 (Host.reduceAdd (mulf (res_main_while0b_v52 V0) (V0 (Proc.devRef .tc main_v27_11))) (constant S_ .f32 0x00000000#32) reducesTo_S2x4x64x64_S2x4x64_d2 h_S_) shapeCasts_S2x4x64_S2x4x1x64 : (Proc.devRef .tc main_while0b_v113 : DevRef τ sig).ty.Contents (Elt F)) = Cert.ReferenceBwdIdeal.Step.b142 j s := by
  unfold Cert.ReferenceBwdIdeal.Step.b142
  rw [← al_141 h]
  try rfl
set_option maxRecDepth 8192 in
theorem al_143 (h : Holds V0 s j) : (broadcastInDim S2x4x64x64 ![0, 1, 2, 3] bcast_S2x4x1x64_S2x4x64x64_0_1_2_3 (res_main_while0b_v59 V0) : (Proc.devRef .tc main_while0b_v114 : DevRef τ sig).ty.Contents (Elt F)) = Cert.ReferenceBwdIdeal.Step.b143 j s := by
  unfold Cert.ReferenceBwdIdeal.Step.b143
  rw [← al_63 h]
  try rfl
set_option maxRecDepth 8192 in
theorem al_144 (h : Holds V0 s j) : (mulf (V0 (Proc.devRef .tc main_v27_11)) (broadcastInDim S2x4x64x64 ![0, 1, 2, 3] bcast_S2x4x1x64_S2x4x64x64_0_1_2_3 (res_main_while0b_v59 V0)) : (Proc.devRef .tc main_while0b_v115 : DevRef τ sig).ty.Contents (Elt F)) = Cert.ReferenceBwdIdeal.Step.b144 j s := by
  unfold Cert.ReferenceBwdIdeal.Step.b144
  rw [← al_143 h, h.f_11]
  try rfl
set_option maxRecDepth 8192 in
theorem al_145 (h : Holds V0 s j) : (constant S_ .f32 0x00000000#32 : (Proc.devRef .tc main_while0b_cst_40 : DevRef τ sig).ty.Contents (Elt F)) = Cert.ReferenceBwdIdeal.Step.b145 j s := by
  unfold Cert.ReferenceBwdIdeal.Step.b145
  rfl
set_option maxRecDepth 8192 in
theorem al_146 (h : Holds V0 s j) : (pad S2x4x64x64 ![0, 0, 0, 0] ![0, 0, 63, 0] ![0, 0, 0, 0] (shapeCast S2x4x1x64 (Host.reduceAdd (mulf (res_main_while0b_v52 V0) (V0 (Proc.devRef .tc main_v27_11))) (constant S_ .f32 0x00000000#32) reducesTo_S2x4x64x64_S2x4x64_d2 h_S_) shapeCasts_S2x4x64_S2x4x1x64) (constant S_ .f32 0x00000000#32) pads_S2x4x1x64_S2x4x64x64_000_000_0630_000 h_S_ : (Proc.devRef .tc main_while0b_v116 : DevRef τ sig).ty.Contents (Elt F)) = Cert.ReferenceBwdIdeal.Step.b146 j s := by
  unfold Cert.ReferenceBwdIdeal.Step.b146
  rw [← al_142 h, ← al_145 h]
  try rfl
set_option maxRecDepth 8192 in
theorem al_147 (h : Holds V0 s j) : (Host.dotGeneral dot_S2x4x64x64_S2x4x64x64_S2x4x64x64_2_2_3_3_01_01 none (res_main_while0b_v106 V0) (res_main_while0b_v45 V0) : (Proc.devRef .tc main_while0b_v117 : DevRef τ sig).ty.Contents (Elt F)) = Cert.ReferenceBwdIdeal.Step.b147 j s := by
  unfold Cert.ReferenceBwdIdeal.Step.b147
  rw [← al_134 h, ← al_9 h]
  try rfl
set_option maxRecDepth 8192 in
theorem al_148 (h : Holds V0 s j) : (transpose S2x4x64x64 [0, 1, 3, 2] (Host.dotGeneral dot_S2x4x64x64_S2x4x64x64_S2x4x64x64_2_2_3_3_01_01 none (res_main_while0b_v106 V0) (res_main_while0b_v45 V0)) transposes_S2x4x64x64_S2x4x64x64_0_1_3_2 : (Proc.devRef .tc main_while0b_v118 : DevRef τ sig).ty.Contents (Elt F)) = Cert.ReferenceBwdIdeal.Step.b148 j s := by
  unfold Cert.ReferenceBwdIdeal.Step.b148
  rw [← al_147 h]
  try rfl
set_option maxRecDepth 8192 in
theorem al_149 (h : Holds V0 s j) : (res_main_while0b_v119 V0 : (Proc.devRef .tc main_while0b_v119 : DevRef τ sig).ty.Contents (Elt F)) = Cert.ReferenceBwdIdeal.Step.b149 j s := by
  unfold res_main_while0b_v119 Cert.ReferenceBwdIdeal.Step.b149
  rw [← al_136 h, ← al_148 h]
  try rfl
set_option maxRecDepth 8192 in
theorem al_150 (h : Holds V0 s j) : (Host.dotGeneral dot_S2x4x64x64_S2x4x64x64_S2x4x64x64_3_3_2_2_01_01 none (res_main_while0b_v106 V0) (res_main_while0b_v55 V0) : (Proc.devRef .tc main_while0b_v120 : DevRef τ sig).ty.Contents (Elt F)) = Cert.ReferenceBwdIdeal.Step.b150 j s := by
  unfold Cert.ReferenceBwdIdeal.Step.b150
  rw [← al_134 h, ← al_59 h]
  try rfl
set_option maxRecDepth 8192 in
theorem al_151 (h : Holds V0 s j) : (Host.dotGeneral dot_S2x4x64x64_S2x4x64x64_S2x4x64x64_2_2_3_3_01_01 none (res_main_while0b_v106 V0) (res_main_while0b_v46 V0) : (Proc.devRef .tc main_while0b_v121 : DevRef τ sig).ty.Contents (Elt F)) = Cert.ReferenceBwdIdeal.Step.b151 j s := by
  unfold Cert.ReferenceBwdIdeal.Step.b151
  rw [← al_134 h, ← al_15 h]
  try rfl
set_option maxRecDepth 8192 in
theorem al_152 (h : Holds V0 s j) : (transpose S2x4x64x64 [0, 1, 3, 2] (Host.dotGeneral dot_S2x4x64x64_S2x4x64x64_S2x4x64x64_2_2_3_3_01_01 none (res_main_while0b_v106 V0) (res_main_while0b_v46 V0)) transposes_S2x4x64x64_S2x4x64x64_0_1_3_2 : (Proc.devRef .tc main_while0b_v122 : DevRef τ sig).ty.Contents (Elt F)) = Cert.ReferenceBwdIdeal.Step.b152 j s := by
  unfold Cert.ReferenceBwdIdeal.Step.b152
  rw [← al_151 h]
  try rfl
set_option maxRecDepth 8192 in
theorem al_153 (h : Holds V0 s j) : (addf (mulf (V0 (Proc.devRef .tc main_v27_11)) (broadcastInDim S2x4x64x64 ![0, 1, 2, 3] bcast_S2x4x1x64_S2x4x64x64_0_1_2_3 (res_main_while0b_v59 V0))) (transpose S2x4x64x64 [0, 1, 3, 2] (Host.dotGeneral dot_S2x4x64x64_S2x4x64x64_S2x4x64x64_2_2_3_3_01_01 none (res_main_while0b_v106 V0) (res_main_while0b_v46 V0)) transposes_S2x4x64x64_S2x4x64x64_0_1_3_2) : (Proc.devRef .tc main_while0b_v123 : DevRef τ sig).ty.Contents (Elt F)) = Cert.ReferenceBwdIdeal.Step.b153 j s := by
  unfold Cert.ReferenceBwdIdeal.Step.b153
  rw [← al_144 h, ← al_152 h]
  try rfl
set_option maxRecDepth 8192 in
theorem al_154 (h : Holds V0 s j) : (Host.dotGeneral dot_S2x4x64x64_S2x4x64x64_S2x4x64x64_3_3_2_2_01_01 none (res_main_while0b_v106 V0) (res_main_while0b_v52 V0) : (Proc.devRef .tc main_while0b_v124 : DevRef τ sig).ty.Contents (Elt F)) = Cert.ReferenceBwdIdeal.Step.b154 j s := by
  unfold Cert.ReferenceBwdIdeal.Step.b154
  rw [← al_134 h, ← al_51 h]
  try rfl
set_option maxRecDepth 8192 in
theorem al_155 (h : Holds V0 s j) : (res_main_while0b_v125 V0 : (Proc.devRef .tc main_while0b_v125 : DevRef τ sig).ty.Contents (Elt F)) = Cert.ReferenceBwdIdeal.Step.b155 j s := by
  unfold res_main_while0b_v125 Cert.ReferenceBwdIdeal.Step.b155
  rw [← al_149 h]
  try rfl
set_option maxRecDepth 8192 in
theorem al_156 (h : Holds V0 s j) : (Host.dotGeneral dot_S2x4x64x64_S2x4x64x64_S2x4x64x64_2_2_3_3_01_01 none (res_main_while0b_v125 V0) (res_main_while0b_v48 V0) : (Proc.devRef .tc main_while0b_v126 : DevRef τ sig).ty.Contents (Elt F)) = Cert.ReferenceBwdIdeal.Step.b156 j s := by
  unfold Cert.ReferenceBwdIdeal.Step.b156
  rw [← al_155 h, ← al_27 h]
  try rfl
set_option maxRecDepth 8192 in
theorem al_157 (h : Holds V0 s j) : (transpose S2x4x64x64 [0, 1, 3, 2] (Host.dotGeneral dot_S2x4x64x64_S2x4x64x64_S2x4x64x64_2_2_3_3_01_01 none (res_main_while0b_v125 V0) (res_main_while0b_v48 V0)) transposes_S2x4x64x64_S2x4x64x64_0_1_3_2 : (Proc.devRef .tc main_while0b_v127 : DevRef τ sig).ty.Contents (Elt F)) = Cert.ReferenceBwdIdeal.Step.b157 j s := by
  unfold Cert.ReferenceBwdIdeal.Step.b157
  rw [← al_156 h]
  try rfl
set_option maxRecDepth 8192 in
theorem al_158 (h : Holds V0 s j) : (addf (addf (mulf (V0 (Proc.devRef .tc main_v27_11)) (broadcastInDim S2x4x64x64 ![0, 1, 2, 3] bcast_S2x4x1x64_S2x4x64x64_0_1_2_3 (res_main_while0b_v59 V0))) (transpose S2x4x64x64 [0, 1, 3, 2] (Host.dotGeneral dot_S2x4x64x64_S2x4x64x64_S2x4x64x64_2_2_3_3_01_01 none (res_main_while0b_v106 V0) (res_main_while0b_v46 V0)) transposes_S2x4x64x64_S2x4x64x64_0_1_3_2)) (transpose S2x4x64x64 [0, 1, 3, 2] (Host.dotGeneral dot_S2x4x64x64_S2x4x64x64_S2x4x64x64_2_2_3_3_01_01 none (res_main_while0b_v125 V0) (res_main_while0b_v48 V0)) transposes_S2x4x64x64_S2x4x64x64_0_1_3_2) : (Proc.devRef .tc main_while0b_v128 : DevRef τ sig).ty.Contents (Elt F)) = Cert.ReferenceBwdIdeal.Step.b158 j s := by
  unfold Cert.ReferenceBwdIdeal.Step.b158
  rw [← al_153 h, ← al_157 h]
  try rfl
set_option maxRecDepth 8192 in
theorem al_159 (h : Holds V0 s j) : (Host.dotGeneral dot_S2x4x64x64_S2x4x64x64_S2x4x64x64_3_3_2_2_01_01 none (res_main_while0b_v125 V0) (res_main_while0b_v52 V0) : (Proc.devRef .tc main_while0b_v129 : DevRef τ sig).ty.Contents (Elt F)) = Cert.ReferenceBwdIdeal.Step.b159 j s := by
  unfold Cert.ReferenceBwdIdeal.Step.b159
  rw [← al_155 h, ← al_51 h]
  try rfl
set_option maxRecDepth 8192 in
theorem al_160 (h : Holds V0 s j) : (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v106 V0) (res_main_while0b_v55 V0)) : (Proc.devRef .tc main_while0b_call11_v0 : DevRef τ sig).ty.Contents (Elt F)) = Cert.ReferenceBwdIdeal.Step.b160 j s := by
  unfold Cert.ReferenceBwdIdeal.Step.b160
  rw [← al_150 h]
  try rfl
set_option maxRecDepth 8192 in
theorem al_161 (h : Holds V0 s j) : (constantI S_ 32 0#32 : (Proc.devRef .tc main_while0b_call11_c : DevRef τ sig).ty.Contents (Elt F)) = Cert.ReferenceBwdIdeal.Step.b161 j s := by
  unfold Cert.ReferenceBwdIdeal.Step.b161
  rfl
set_option maxRecDepth 8192 in
theorem al_162 (h : Holds V0 s j) : (constantI S_ 32 0#32 : (Proc.devRef .tc main_while0b_call11_c_0 : DevRef τ sig).ty.Contents (Elt F)) = Cert.ReferenceBwdIdeal.Step.b162 j s := by
  unfold Cert.ReferenceBwdIdeal.Step.b162
  rfl
set_option maxRecDepth 8192 in
theorem al_163 (h : Holds V0 s j) : (constantI S_ 32 0#32 : (Proc.devRef .tc main_while0b_call11_c_1 : DevRef τ sig).ty.Contents (Elt F)) = Cert.ReferenceBwdIdeal.Step.b163 j s := by
  unfold Cert.ReferenceBwdIdeal.Step.b163
  rfl
set_option maxRecDepth 8192 in
theorem al_164 (h : Holds V0 s j) : (constantI S_ 32 0#32 : (Proc.devRef .tc main_while0b_call11_c_2 : DevRef τ sig).ty.Contents (Elt F)) = Cert.ReferenceBwdIdeal.Step.b164 j s := by
  unfold Cert.ReferenceBwdIdeal.Step.b164
  rfl
set_option maxRecDepth 8192 in
theorem al_165 (h : Holds V0 s j) : (Host.dynamicUpdateSlice (V0 (Proc.devRef .tc main_v27_12)) (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v106 V0) (res_main_while0b_v55 V0))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v130 : DevRef τ sig).ty.Contents (Elt F)) = Cert.ReferenceBwdIdeal.Step.b165 j s := by
  unfold Cert.ReferenceBwdIdeal.Step.b165
  rw [← al_160 h, ← al_3 h, ← al_161 h, ← al_162 h, ← al_163 h, ← al_164 h, h.f_12]
  try rfl
set_option maxRecDepth 8192 in
theorem al_166 (h : Holds V0 s j) : (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v106 V0) (res_main_while0b_v52 V0)) : (Proc.devRef .tc main_while0b_call12_v0 : DevRef τ sig).ty.Contents (Elt F)) = Cert.ReferenceBwdIdeal.Step.b166 j s := by
  unfold Cert.ReferenceBwdIdeal.Step.b166
  rw [← al_154 h]
  try rfl
set_option maxRecDepth 8192 in
theorem al_167 (h : Holds V0 s j) : (constantI S_ 32 0#32 : (Proc.devRef .tc main_while0b_call12_c : DevRef τ sig).ty.Contents (Elt F)) = Cert.ReferenceBwdIdeal.Step.b167 j s := by
  unfold Cert.ReferenceBwdIdeal.Step.b167
  rfl
set_option maxRecDepth 8192 in
theorem al_168 (h : Holds V0 s j) : (constantI S_ 32 0#32 : (Proc.devRef .tc main_while0b_call12_c_0 : DevRef τ sig).ty.Contents (Elt F)) = Cert.ReferenceBwdIdeal.Step.b168 j s := by
  unfold Cert.ReferenceBwdIdeal.Step.b168
  rfl
set_option maxRecDepth 8192 in
theorem al_169 (h : Holds V0 s j) : (constantI S_ 32 0#32 : (Proc.devRef .tc main_while0b_call12_c_1 : DevRef τ sig).ty.Contents (Elt F)) = Cert.ReferenceBwdIdeal.Step.b169 j s := by
  unfold Cert.ReferenceBwdIdeal.Step.b169
  rfl
set_option maxRecDepth 8192 in
theorem al_170 (h : Holds V0 s j) : (constantI S_ 32 0#32 : (Proc.devRef .tc main_while0b_call12_c_2 : DevRef τ sig).ty.Contents (Elt F)) = Cert.ReferenceBwdIdeal.Step.b170 j s := by
  unfold Cert.ReferenceBwdIdeal.Step.b170
  rfl
set_option maxRecDepth 8192 in
theorem al_171 (h : Holds V0 s j) : (Host.dynamicUpdateSlice (V0 (Proc.devRef .tc main_v27_13)) (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v106 V0) (res_main_while0b_v52 V0))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v131 : DevRef τ sig).ty.Contents (Elt F)) = Cert.ReferenceBwdIdeal.Step.b171 j s := by
  unfold Cert.ReferenceBwdIdeal.Step.b171
  rw [← al_166 h, ← al_3 h, ← al_167 h, ← al_168 h, ← al_169 h, ← al_170 h, h.f_13]
  try rfl
set_option maxRecDepth 8192 in
theorem al_172 (h : Holds V0 s j) : (broadcastInDim S1x2x4x64x64 ![1, 2, 3, 4] bcast_S2x4x64x64_S1x2x4x64x64_1_2_3_4 (res_main_while0b_v119 V0) : (Proc.devRef .tc main_while0b_call13_v0 : DevRef τ sig).ty.Contents (Elt F)) = Cert.ReferenceBwdIdeal.Step.b172 j s := by
  unfold Cert.ReferenceBwdIdeal.Step.b172
  rw [← al_149 h]
  try rfl
set_option maxRecDepth 8192 in
theorem al_173 (h : Holds V0 s j) : (constantI S_ 32 0#32 : (Proc.devRef .tc main_while0b_call13_c : DevRef τ sig).ty.Contents (Elt F)) = Cert.ReferenceBwdIdeal.Step.b173 j s := by
  unfold Cert.ReferenceBwdIdeal.Step.b173
  rfl
set_option maxRecDepth 8192 in
theorem al_174 (h : Holds V0 s j) : (constantI S_ 32 0#32 : (Proc.devRef .tc main_while0b_call13_c_0 : DevRef τ sig).ty.Contents (Elt F)) = Cert.ReferenceBwdIdeal.Step.b174 j s := by
  unfold Cert.ReferenceBwdIdeal.Step.b174
  rfl
set_option maxRecDepth 8192 in
theorem al_175 (h : Holds V0 s j) : (constantI S_ 32 0#32 : (Proc.devRef .tc main_while0b_call13_c_1 : DevRef τ sig).ty.Contents (Elt F)) = Cert.ReferenceBwdIdeal.Step.b175 j s := by
  unfold Cert.ReferenceBwdIdeal.Step.b175
  rfl
set_option maxRecDepth 8192 in
theorem al_176 (h : Holds V0 s j) : (constantI S_ 32 0#32 : (Proc.devRef .tc main_while0b_call13_c_2 : DevRef τ sig).ty.Contents (Elt F)) = Cert.ReferenceBwdIdeal.Step.b176 j s := by
  unfold Cert.ReferenceBwdIdeal.Step.b176
  rfl
set_option maxRecDepth 8192 in
theorem al_177 (h : Holds V0 s j) : (Host.dynamicUpdateSlice (V0 (Proc.devRef .tc main_v27_14)) (broadcastInDim S1x2x4x64x64 ![1, 2, 3, 4] bcast_S2x4x64x64_S1x2x4x64x64_1_2_3_4 (res_main_while0b_v119 V0)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v132 : DevRef τ sig).ty.Contents (Elt F)) = Cert.ReferenceBwdIdeal.Step.b177 j s := by
  unfold Cert.ReferenceBwdIdeal.Step.b177
  rw [← al_172 h, ← al_3 h, ← al_173 h, ← al_174 h, ← al_175 h, ← al_176 h, h.f_14]
  try rfl
set_option maxRecDepth 8192 in
theorem al_178 (h : Holds V0 s j) : (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v125 V0) (res_main_while0b_v52 V0)) : (Proc.devRef .tc main_while0b_call14_v0 : DevRef τ sig).ty.Contents (Elt F)) = Cert.ReferenceBwdIdeal.Step.b178 j s := by
  unfold Cert.ReferenceBwdIdeal.Step.b178
  rw [← al_159 h]
  try rfl
set_option maxRecDepth 8192 in
theorem al_179 (h : Holds V0 s j) : (constantI S_ 32 0#32 : (Proc.devRef .tc main_while0b_call14_c : DevRef τ sig).ty.Contents (Elt F)) = Cert.ReferenceBwdIdeal.Step.b179 j s := by
  unfold Cert.ReferenceBwdIdeal.Step.b179
  rfl
set_option maxRecDepth 8192 in
theorem al_180 (h : Holds V0 s j) : (constantI S_ 32 0#32 : (Proc.devRef .tc main_while0b_call14_c_0 : DevRef τ sig).ty.Contents (Elt F)) = Cert.ReferenceBwdIdeal.Step.b180 j s := by
  unfold Cert.ReferenceBwdIdeal.Step.b180
  rfl
set_option maxRecDepth 8192 in
theorem al_181 (h : Holds V0 s j) : (constantI S_ 32 0#32 : (Proc.devRef .tc main_while0b_call14_c_1 : DevRef τ sig).ty.Contents (Elt F)) = Cert.ReferenceBwdIdeal.Step.b181 j s := by
  unfold Cert.ReferenceBwdIdeal.Step.b181
  rfl
set_option maxRecDepth 8192 in
theorem al_182 (h : Holds V0 s j) : (constantI S_ 32 0#32 : (Proc.devRef .tc main_while0b_call14_c_2 : DevRef τ sig).ty.Contents (Elt F)) = Cert.ReferenceBwdIdeal.Step.b182 j s := by
  unfold Cert.ReferenceBwdIdeal.Step.b182
  rfl
set_option maxRecDepth 8192 in
theorem al_183 (h : Holds V0 s j) : (Host.dynamicUpdateSlice (V0 (Proc.devRef .tc main_v27_15)) (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v125 V0) (res_main_while0b_v52 V0))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v133 : DevRef τ sig).ty.Contents (Elt F)) = Cert.ReferenceBwdIdeal.Step.b183 j s := by
  unfold Cert.ReferenceBwdIdeal.Step.b183
  rw [← al_178 h, ← al_3 h, ← al_179 h, ← al_180 h, ← al_181 h, ← al_182 h, h.f_15]
  try rfl
set_option maxRecDepth 8192 in
theorem al_184 (h : Holds V0 s j) : (broadcastInDim S1x2x4x64x64 ![1, 2, 3, 4] bcast_S2x4x64x64_S1x2x4x64x64_1_2_3_4 (transpose S2x4x64x64 [0, 1, 3, 2] (Host.dotGeneral dot_S2x4x64x64_S2x4x64x64_S2x4x64x64_3_3_2_2_01_01 none (V0 (Proc.devRef .tc main_v27_11)) (res_main_while0b_v55 V0)) transposes_S2x4x64x64_S2x4x64x64_0_1_3_2) : (Proc.devRef .tc main_while0b_call15_v0 : DevRef τ sig).ty.Contents (Elt F)) = Cert.ReferenceBwdIdeal.Step.b184 j s := by
  unfold Cert.ReferenceBwdIdeal.Step.b184
  rw [← al_138 h]
  try rfl
set_option maxRecDepth 8192 in
theorem al_185 (h : Holds V0 s j) : (constantI S_ 32 0#32 : (Proc.devRef .tc main_while0b_call15_c : DevRef τ sig).ty.Contents (Elt F)) = Cert.ReferenceBwdIdeal.Step.b185 j s := by
  unfold Cert.ReferenceBwdIdeal.Step.b185
  rfl
set_option maxRecDepth 8192 in
theorem al_186 (h : Holds V0 s j) : (constantI S_ 32 0#32 : (Proc.devRef .tc main_while0b_call15_c_0 : DevRef τ sig).ty.Contents (Elt F)) = Cert.ReferenceBwdIdeal.Step.b186 j s := by
  unfold Cert.ReferenceBwdIdeal.Step.b186
  rfl
set_option maxRecDepth 8192 in
theorem al_187 (h : Holds V0 s j) : (constantI S_ 32 0#32 : (Proc.devRef .tc main_while0b_call15_c_1 : DevRef τ sig).ty.Contents (Elt F)) = Cert.ReferenceBwdIdeal.Step.b187 j s := by
  unfold Cert.ReferenceBwdIdeal.Step.b187
  rfl
set_option maxRecDepth 8192 in
theorem al_188 (h : Holds V0 s j) : (constantI S_ 32 0#32 : (Proc.devRef .tc main_while0b_call15_c_2 : DevRef τ sig).ty.Contents (Elt F)) = Cert.ReferenceBwdIdeal.Step.b188 j s := by
  unfold Cert.ReferenceBwdIdeal.Step.b188
  rfl
set_option maxRecDepth 8192 in
theorem al_189 (h : Holds V0 s j) : (Host.dynamicUpdateSlice (V0 (Proc.devRef .tc main_v27_16)) (broadcastInDim S1x2x4x64x64 ![1, 2, 3, 4] bcast_S2x4x64x64_S1x2x4x64x64_1_2_3_4 (transpose S2x4x64x64 [0, 1, 3, 2] (Host.dotGeneral dot_S2x4x64x64_S2x4x64x64_S2x4x64x64_3_3_2_2_01_01 none (V0 (Proc.devRef .tc main_v27_11)) (res_main_while0b_v55 V0)) transposes_S2x4x64x64_S2x4x64x64_0_1_3_2)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v134 : DevRef τ sig).ty.Contents (Elt F)) = Cert.ReferenceBwdIdeal.Step.b189 j s := by
  unfold Cert.ReferenceBwdIdeal.Step.b189
  rw [← al_184 h, ← al_3 h, ← al_185 h, ← al_186 h, ← al_187 h, ← al_188 h, h.f_16]
  try rfl
set_option maxRecDepth 8192 in
theorem al_190 (h : Holds V0 s j) : (broadcastInDim S1x2x4x64x64 ![1, 2, 3, 4] bcast_S2x4x64x64_S1x2x4x64x64_1_2_3_4 (pad S2x4x64x64 ![0, 0, 0, 0] ![0, 0, 63, 0] ![0, 0, 0, 0] (shapeCast S2x4x1x64 (Host.reduceAdd (mulf (res_main_while0b_v52 V0) (V0 (Proc.devRef .tc main_v27_11))) (constant S_ .f32 0x00000000#32) reducesTo_S2x4x64x64_S2x4x64_d2 h_S_) shapeCasts_S2x4x64_S2x4x1x64) (constant S_ .f32 0x00000000#32) pads_S2x4x1x64_S2x4x64x64_000_000_0630_000 h_S_) : (Proc.devRef .tc main_while0b_call16_v0 : DevRef τ sig).ty.Contents (Elt F)) = Cert.ReferenceBwdIdeal.Step.b190 j s := by
  unfold Cert.ReferenceBwdIdeal.Step.b190
  rw [← al_146 h]
  try rfl
set_option maxRecDepth 8192 in
theorem al_191 (h : Holds V0 s j) : (constantI S_ 32 0#32 : (Proc.devRef .tc main_while0b_call16_c : DevRef τ sig).ty.Contents (Elt F)) = Cert.ReferenceBwdIdeal.Step.b191 j s := by
  unfold Cert.ReferenceBwdIdeal.Step.b191
  rfl
set_option maxRecDepth 8192 in
theorem al_192 (h : Holds V0 s j) : (constantI S_ 32 0#32 : (Proc.devRef .tc main_while0b_call16_c_0 : DevRef τ sig).ty.Contents (Elt F)) = Cert.ReferenceBwdIdeal.Step.b192 j s := by
  unfold Cert.ReferenceBwdIdeal.Step.b192
  rfl
set_option maxRecDepth 8192 in
theorem al_193 (h : Holds V0 s j) : (constantI S_ 32 0#32 : (Proc.devRef .tc main_while0b_call16_c_1 : DevRef τ sig).ty.Contents (Elt F)) = Cert.ReferenceBwdIdeal.Step.b193 j s := by
  unfold Cert.ReferenceBwdIdeal.Step.b193
  rfl
set_option maxRecDepth 8192 in
theorem al_194 (h : Holds V0 s j) : (constantI S_ 32 0#32 : (Proc.devRef .tc main_while0b_call16_c_2 : DevRef τ sig).ty.Contents (Elt F)) = Cert.ReferenceBwdIdeal.Step.b194 j s := by
  unfold Cert.ReferenceBwdIdeal.Step.b194
  rfl
set_option maxRecDepth 8192 in
theorem al_195 (h : Holds V0 s j) : (Host.dynamicUpdateSlice (V0 (Proc.devRef .tc main_v27_17)) (broadcastInDim S1x2x4x64x64 ![1, 2, 3, 4] bcast_S2x4x64x64_S1x2x4x64x64_1_2_3_4 (pad S2x4x64x64 ![0, 0, 0, 0] ![0, 0, 63, 0] ![0, 0, 0, 0] (shapeCast S2x4x1x64 (Host.reduceAdd (mulf (res_main_while0b_v52 V0) (V0 (Proc.devRef .tc main_v27_11))) (constant S_ .f32 0x00000000#32) reducesTo_S2x4x64x64_S2x4x64_d2 h_S_) shapeCasts_S2x4x64_S2x4x1x64) (constant S_ .f32 0x00000000#32) pads_S2x4x1x64_S2x4x64x64_000_000_0630_000 h_S_)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v135 : DevRef τ sig).ty.Contents (Elt F)) = Cert.ReferenceBwdIdeal.Step.b195 j s := by
  unfold Cert.ReferenceBwdIdeal.Step.b195
  rw [← al_190 h, ← al_3 h, ← al_191 h, ← al_192 h, ← al_193 h, ← al_194 h, h.f_17]
  try rfl
set_option maxRecDepth 8192 in
theorem al_196 (h : Holds V0 s j) : (broadcastInDim S1x2x4x64x64 ![1, 2, 3, 4] bcast_S2x4x64x64_S1x2x4x64x64_1_2_3_4 (addf (mulf (res_main_while0b_v83 V0) (res_main_while0b_v81_2 V0)) (mulf (mulf (res_main_while0b_v51 V0) (res_main_while0b_v83 V0)) (mulf (res_main_while0b_v81_2 V0) (subf (broadcastInDim S2x4x64x64 ![] bcast_S_S2x4x64x64 (constant S_ .f32 0x3F800000#32)) (res_main_while0b_v81_2 V0))))) : (Proc.devRef .tc main_while0b_call17_v0 : DevRef τ sig).ty.Contents (Elt F)) = Cert.ReferenceBwdIdeal.Step.b196 j s := by
  unfold Cert.ReferenceBwdIdeal.Step.b196
  rw [← al_108 h]
  try rfl
set_option maxRecDepth 8192 in
theorem al_197 (h : Holds V0 s j) : (constantI S_ 32 0#32 : (Proc.devRef .tc main_while0b_call17_c : DevRef τ sig).ty.Contents (Elt F)) = Cert.ReferenceBwdIdeal.Step.b197 j s := by
  unfold Cert.ReferenceBwdIdeal.Step.b197
  rfl
set_option maxRecDepth 8192 in
theorem al_198 (h : Holds V0 s j) : (constantI S_ 32 0#32 : (Proc.devRef .tc main_while0b_call17_c_0 : DevRef τ sig).ty.Contents (Elt F)) = Cert.ReferenceBwdIdeal.Step.b198 j s := by
  unfold Cert.ReferenceBwdIdeal.Step.b198
  rfl
set_option maxRecDepth 8192 in
theorem al_199 (h : Holds V0 s j) : (constantI S_ 32 0#32 : (Proc.devRef .tc main_while0b_call17_c_1 : DevRef τ sig).ty.Contents (Elt F)) = Cert.ReferenceBwdIdeal.Step.b199 j s := by
  unfold Cert.ReferenceBwdIdeal.Step.b199
  rfl
set_option maxRecDepth 8192 in
theorem al_200 (h : Holds V0 s j) : (constantI S_ 32 0#32 : (Proc.devRef .tc main_while0b_call17_c_2 : DevRef τ sig).ty.Contents (Elt F)) = Cert.ReferenceBwdIdeal.Step.b200 j s := by
  unfold Cert.ReferenceBwdIdeal.Step.b200
  rfl
set_option maxRecDepth 8192 in
theorem al_201 (h : Holds V0 s j) : (Host.dynamicUpdateSlice (V0 (Proc.devRef .tc main_v27_18)) (broadcastInDim S1x2x4x64x64 ![1, 2, 3, 4] bcast_S2x4x64x64_S1x2x4x64x64_1_2_3_4 (addf (mulf (res_main_while0b_v83 V0) (res_main_while0b_v81_2 V0)) (mulf (mulf (res_main_while0b_v51 V0) (res_main_while0b_v83 V0)) (mulf (res_main_while0b_v81_2 V0) (subf (broadcastInDim S2x4x64x64 ![] bcast_S_S2x4x64x64 (constant S_ .f32 0x3F800000#32)) (res_main_while0b_v81_2 V0)))))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64 : (Proc.devRef .tc main_while0b_v136 : DevRef τ sig).ty.Contents (Elt F)) = Cert.ReferenceBwdIdeal.Step.b201 j s := by
  unfold Cert.ReferenceBwdIdeal.Step.b201
  rw [← al_196 h, ← al_3 h, ← al_197 h, ← al_198 h, ← al_199 h, ← al_200 h, h.f_18]
  try rfl
set_option maxRecDepth 8192 in
theorem al_202 (h : Holds V0 s j) : (broadcastInDim S1x1x64 ![1, 2] bcast_S1x64_S1x1x64_1_2 (broadcastInDim S1x64 ![1] bcast_S64_S1x64_1 (Host.reduceAdd (shapeCast S1x1x1x64 (Host.reduceAdd (mulf (res_main_while0b_v76 V0) (res_main_while0b_v84 V0)) (constant S_ .f32 0x00000000#32) reducesTo_S2x4x64x64_S64_d0_1_2 h_S_) shapeCasts_S64_S1x1x1x64) (constant S_ .f32 0x00000000#32) reducesTo_S1x1x1x64_S64_d0_1_2 h_S_)) : (Proc.devRef .tc main_while0b_call18_v0 : DevRef τ sig).ty.Contents (Elt F)) = Cert.ReferenceBwdIdeal.Step.b202 j s := by
  unfold Cert.ReferenceBwdIdeal.Step.b202
  rw [← al_117 h]
  try rfl
set_option maxRecDepth 8192 in
theorem al_203 (h : Holds V0 s j) : (constantI S_ 32 0#32 : (Proc.devRef .tc main_while0b_call18_c : DevRef τ sig).ty.Contents (Elt F)) = Cert.ReferenceBwdIdeal.Step.b203 j s := by
  unfold Cert.ReferenceBwdIdeal.Step.b203
  rfl
set_option maxRecDepth 8192 in
theorem al_204 (h : Holds V0 s j) : (constantI S_ 32 0#32 : (Proc.devRef .tc main_while0b_call18_c_0 : DevRef τ sig).ty.Contents (Elt F)) = Cert.ReferenceBwdIdeal.Step.b204 j s := by
  unfold Cert.ReferenceBwdIdeal.Step.b204
  rfl
set_option maxRecDepth 8192 in
theorem al_205 (h : Holds V0 s j) : (Host.dynamicUpdateSlice (V0 (Proc.devRef .tc main_v27_19)) (broadcastInDim S1x1x64 ![1, 2] bcast_S1x64_S1x1x64_1_2 (broadcastInDim S1x64 ![1] bcast_S64_S1x64_1 (Host.reduceAdd (shapeCast S1x1x1x64 (Host.reduceAdd (mulf (res_main_while0b_v76 V0) (res_main_while0b_v84 V0)) (constant S_ .f32 0x00000000#32) reducesTo_S2x4x64x64_S64_d0_1_2 h_S_) shapeCasts_S64_S1x1x1x64) (constant S_ .f32 0x00000000#32) reducesTo_S1x1x1x64_S64_d0_1_2 h_S_))) (fun k => (((![res_main_while0b_v44 V0, constantI S_ 32 0#32, constantI S_ 32 0#32] : Fin 3 → (⟨S_, .i32⟩ : BufTy).Contents (Elt F))) k (Shape.Idx.first h_S_)).toInt) updateFits_S32x1x64_S1x1x64 : (Proc.devRef .tc main_while0b_v137 : DevRef τ sig).ty.Contents (Elt F)) = Cert.ReferenceBwdIdeal.Step.b205 j s := by
  unfold Cert.ReferenceBwdIdeal.Step.b205
  rw [← al_202 h, ← al_3 h, ← al_203 h, ← al_204 h, h.f_19]
  try rfl

/-! One trip's step of the carried values is `step`, field by field; a counter steps to the next number. -/

theorem step_11 (h : Holds V0 s j) : step_main_v27_11 V0 = (step j s).main_v27_11 := by
  unfold step_main_v27_11 Cert.ReferenceBwdIdeal.Step.step
  show id (addf (addf (mulf (V0 (Proc.devRef .tc main_v27_11)) (broadcastInDim S2x4x64x64 ![0, 1, 2, 3] bcast_S2x4x1x64_S2x4x64x64_0_1_2_3 (res_main_while0b_v59 V0))) (transpose S2x4x64x64 [0, 1, 3, 2] (Host.dotGeneral dot_S2x4x64x64_S2x4x64x64_S2x4x64x64_2_2_3_3_01_01 none (res_main_while0b_v106 V0) (res_main_while0b_v46 V0)) transposes_S2x4x64x64_S2x4x64x64_0_1_3_2)) (transpose S2x4x64x64 [0, 1, 3, 2] (Host.dotGeneral dot_S2x4x64x64_S2x4x64x64_S2x4x64x64_2_2_3_3_01_01 none (res_main_while0b_v125 V0) (res_main_while0b_v48 V0)) transposes_S2x4x64x64_S2x4x64x64_0_1_3_2)) = _
  exact al_158 h
theorem step_12 (h : Holds V0 s j) : step_main_v27_12 V0 = (step j s).main_v27_12 := by
  unfold step_main_v27_12 Cert.ReferenceBwdIdeal.Step.step
  show id (Host.dynamicUpdateSlice (V0 (Proc.devRef .tc main_v27_12)) (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v106 V0) (res_main_while0b_v55 V0))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_165 h
theorem step_13 (h : Holds V0 s j) : step_main_v27_13 V0 = (step j s).main_v27_13 := by
  unfold step_main_v27_13 Cert.ReferenceBwdIdeal.Step.step
  show id (Host.dynamicUpdateSlice (V0 (Proc.devRef .tc main_v27_13)) (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v106 V0) (res_main_while0b_v52 V0))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_171 h
theorem step_14 (h : Holds V0 s j) : step_main_v27_14 V0 = (step j s).main_v27_14 := by
  unfold step_main_v27_14 Cert.ReferenceBwdIdeal.Step.step
  show id (Host.dynamicUpdateSlice (V0 (Proc.devRef .tc main_v27_14)) (broadcastInDim S1x2x4x64x64 ![1, 2, 3, 4] bcast_S2x4x64x64_S1x2x4x64x64_1_2_3_4 (res_main_while0b_v119 V0)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_177 h
theorem step_15 (h : Holds V0 s j) : step_main_v27_15 V0 = (step j s).main_v27_15 := by
  unfold step_main_v27_15 Cert.ReferenceBwdIdeal.Step.step
  show id (Host.dynamicUpdateSlice (V0 (Proc.devRef .tc main_v27_15)) (broadcastInDim S1x2x4x64x64 ![1, 2, 3, 4] bcast_S2x4x64x64_S1x2x4x64x64_1_2_3_4 (Host.dotGeneral dot_S2x4x64x64_S2x4x64x64_S2x4x64x64_3_3_2_2_01_01 none (res_main_while0b_v125 V0) (res_main_while0b_v52 V0))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_183 h
theorem step_16 (h : Holds V0 s j) : step_main_v27_16 V0 = (step j s).main_v27_16 := by
  unfold step_main_v27_16 Cert.ReferenceBwdIdeal.Step.step
  show id (Host.dynamicUpdateSlice (V0 (Proc.devRef .tc main_v27_16)) (broadcastInDim S1x2x4x64x64 ![1, 2, 3, 4] bcast_S2x4x64x64_S1x2x4x64x64_1_2_3_4 (transpose S2x4x64x64 [0, 1, 3, 2] (Host.dotGeneral dot_S2x4x64x64_S2x4x64x64_S2x4x64x64_3_3_2_2_01_01 none (V0 (Proc.devRef .tc main_v27_11)) (res_main_while0b_v55 V0)) transposes_S2x4x64x64_S2x4x64x64_0_1_3_2)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_189 h
theorem step_17 (h : Holds V0 s j) : step_main_v27_17 V0 = (step j s).main_v27_17 := by
  unfold step_main_v27_17 Cert.ReferenceBwdIdeal.Step.step
  show id (Host.dynamicUpdateSlice (V0 (Proc.devRef .tc main_v27_17)) (broadcastInDim S1x2x4x64x64 ![1, 2, 3, 4] bcast_S2x4x64x64_S1x2x4x64x64_1_2_3_4 (pad S2x4x64x64 ![0, 0, 0, 0] ![0, 0, 63, 0] ![0, 0, 0, 0] (shapeCast S2x4x1x64 (Host.reduceAdd (mulf (res_main_while0b_v52 V0) (V0 (Proc.devRef .tc main_v27_11))) (constant S_ .f32 0x00000000#32) reducesTo_S2x4x64x64_S2x4x64_d2 h_S_) shapeCasts_S2x4x64_S2x4x1x64) (constant S_ .f32 0x00000000#32) pads_S2x4x1x64_S2x4x64x64_000_000_0630_000 h_S_)) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_195 h
theorem step_18 (h : Holds V0 s j) : step_main_v27_18 V0 = (step j s).main_v27_18 := by
  unfold step_main_v27_18 Cert.ReferenceBwdIdeal.Step.step
  show id (Host.dynamicUpdateSlice (V0 (Proc.devRef .tc main_v27_18)) (broadcastInDim S1x2x4x64x64 ![1, 2, 3, 4] bcast_S2x4x64x64_S1x2x4x64x64_1_2_3_4 (addf (mulf (res_main_while0b_v83 V0) (res_main_while0b_v81_2 V0)) (mulf (mulf (res_main_while0b_v51 V0) (res_main_while0b_v83 V0)) (mulf (res_main_while0b_v81_2 V0) (subf (broadcastInDim S2x4x64x64 ![] bcast_S_S2x4x64x64 (constant S_ .f32 0x3F800000#32)) (res_main_while0b_v81_2 V0)))))) (fun k => (((![res_main_while0b_v44 V0, constantI S_ 32 0#32, constantI S_ 32 0#32, constantI S_ 32 0#32, constantI S_ 32 0#32] : Fin 5 → (⟨S_, .i32⟩ : BufTy).Contents (Elt F))) k (Shape.Idx.first h_S_)).toInt) updateFits_S32x2x4x64x64_S1x2x4x64x64) = _
  exact al_201 h
theorem step_19 (h : Holds V0 s j) : step_main_v27_19 V0 = (step j s).main_v27_19 := by
  unfold step_main_v27_19 Cert.ReferenceBwdIdeal.Step.step
  show id (Host.dynamicUpdateSlice (V0 (Proc.devRef .tc main_v27_19)) (broadcastInDim S1x1x64 ![1, 2] bcast_S1x64_S1x1x64_1_2 (broadcastInDim S1x64 ![1] bcast_S64_S1x64_1 (Host.reduceAdd (shapeCast S1x1x1x64 (Host.reduceAdd (mulf (res_main_while0b_v76 V0) (res_main_while0b_v84 V0)) (constant S_ .f32 0x00000000#32) reducesTo_S2x4x64x64_S64_d0_1_2 h_S_) shapeCasts_S64_S1x1x1x64) (constant S_ .f32 0x00000000#32) reducesTo_S1x1x1x64_S64_d0_1_2 h_S_))) (fun k => (((![res_main_while0b_v44 V0, constantI S_ 32 0#32, constantI S_ 32 0#32] : Fin 3 → (⟨S_, .i32⟩ : BufTy).Contents (Elt F))) k (Shape.Idx.first h_S_)).toInt) updateFits_S32x1x64_S1x1x64) = _
  exact al_205 h
theorem step_10 (h : Holds V0 s j) : step_main_v27_10 V0 = constantI S_ 32 (BitVec.ofNat 32 (j + 1)) := by
  unfold step_main_v27_10
  rw [h.n_10]
  funext i
  show BitVec.ofNat 32 j + 1#32 = BitVec.ofNat 32 (j + 1)
  simp only [BitVec.ofNat_add]

set_option maxRecDepth 8192 in
theorem out_main_v29_holds (h : Holds V0 s j) : out_main_v29 V0 = Cert.ReferenceBwdIdeal.Step.R_main_v29 s := by
  unfold out_main_v29 Cert.ReferenceBwdIdeal.Step.R_main_v29
  rw [h.f_12]
  try rfl

set_option maxRecDepth 8192 in
theorem out_main_v31_holds (h : Holds V0 s j) : out_main_v31 V0 = Cert.ReferenceBwdIdeal.Step.R_main_v31 s := by
  unfold out_main_v31 Cert.ReferenceBwdIdeal.Step.R_main_v31
  rw [h.f_13]
  try rfl

set_option maxRecDepth 8192 in
theorem out_main_v33_holds (h : Holds V0 s j) : out_main_v33 V0 = Cert.ReferenceBwdIdeal.Step.R_main_v33 s := by
  unfold out_main_v33 Cert.ReferenceBwdIdeal.Step.R_main_v33
  rw [h.f_14]
  try rfl

set_option maxRecDepth 8192 in
theorem out_main_v35_holds (h : Holds V0 s j) : out_main_v35 V0 = Cert.ReferenceBwdIdeal.Step.R_main_v35 s := by
  unfold out_main_v35 Cert.ReferenceBwdIdeal.Step.R_main_v35
  rw [h.f_15]
  try rfl

set_option maxRecDepth 8192 in
theorem out_main_v37_holds (h : Holds V0 s j) : out_main_v37 V0 = Cert.ReferenceBwdIdeal.Step.R_main_v37 s := by
  unfold out_main_v37 Cert.ReferenceBwdIdeal.Step.R_main_v37
  rw [h.f_16]
  try rfl

set_option maxRecDepth 8192 in
theorem out_main_v39_holds (h : Holds V0 s j) : out_main_v39 V0 = Cert.ReferenceBwdIdeal.Step.R_main_v39 s := by
  unfold out_main_v39 Cert.ReferenceBwdIdeal.Step.R_main_v39
  rw [h.f_17]
  try rfl

set_option maxRecDepth 8192 in
theorem out_main_v41_holds (h : Holds V0 s j) : out_main_v41 V0 = Cert.ReferenceBwdIdeal.Step.R_main_v41 s := by
  unfold out_main_v41 Cert.ReferenceBwdIdeal.Step.R_main_v41
  rw [h.f_18]
  try rfl

set_option maxRecDepth 8192 in
theorem out_main_v42_holds (h : Holds V0 s j) : out_main_v42 V0 = Cert.ReferenceBwdIdeal.Step.R_main_v42 s := by
  unfold out_main_v42 Cert.ReferenceBwdIdeal.Step.R_main_v42
  rw [h.f_19]
  try rfl

/-- One trip keeps the valuation holding: `step` of the state, the same set-up values, the next number. -/
theorem holds_step (h : Holds V0 s j) : Holds (STEP V0) (step j s) (j + 1) where
  f_11 := (STEP_main_v27_11 V0).trans (step_11 h)
  f_12 := (STEP_main_v27_12 V0).trans (step_12 h)
  f_13 := (STEP_main_v27_13 V0).trans (step_13 h)
  f_14 := (STEP_main_v27_14 V0).trans (step_14 h)
  f_15 := (STEP_main_v27_15 V0).trans (step_15 h)
  f_16 := (STEP_main_v27_16 V0).trans (step_16 h)
  f_17 := (STEP_main_v27_17 V0).trans (step_17 h)
  f_18 := (STEP_main_v27_18 V0).trans (step_18 h)
  f_19 := (STEP_main_v27_19 V0).trans (step_19 h)
  n_10 := (STEP_main_v27_10 V0).trans (step_10 h)
  f_0 := (STEP_main_v27_0 V0).trans h.f_0
  f_1 := (STEP_main_v27_1 V0).trans h.f_1
  f_2 := (STEP_main_v27_2 V0).trans h.f_2
  f_3 := (STEP_main_v27_3 V0).trans h.f_3
  f_4 := (STEP_main_v27_4 V0).trans h.f_4
  f_5 := (STEP_main_v27_5 V0).trans h.f_5
  f_6 := (STEP_main_v27_6 V0).trans h.f_6
  f_7 := (STEP_main_v27_7 V0).trans h.f_7
  f_8 := (STEP_main_v27_8 V0).trans h.f_8
  f_9 := (STEP_main_v27_9 V0).trans h.f_9

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9))

variable (m : (ℓ : Loc nD τ sig) → Buf (Elt F) ℓ) (c : Dev nD)

set_option maxRecDepth 65536 in
set_option maxHeartbeats 800000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceBwdIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v29) = Cert.ReferenceBwdIdeal.Step.R_main_v29 (it c 32)
      ∧ r.2.mem ((c.tc : Thread nD τ).loc main_v31) = Cert.ReferenceBwdIdeal.Step.R_main_v31 (it c 32)
      ∧ r.2.mem ((c.tc : Thread nD τ).loc main_v33) = Cert.ReferenceBwdIdeal.Step.R_main_v33 (it c 32)
      ∧ r.2.mem ((c.tc : Thread nD τ).loc main_v35) = Cert.ReferenceBwdIdeal.Step.R_main_v35 (it c 32)
      ∧ r.2.mem ((c.tc : Thread nD τ).loc main_v37) = Cert.ReferenceBwdIdeal.Step.R_main_v37 (it c 32)
      ∧ r.2.mem ((c.tc : Thread nD τ).loc main_v39) = Cert.ReferenceBwdIdeal.Step.R_main_v39 (it c 32)
      ∧ r.2.mem ((c.tc : Thread nD τ).loc main_v41) = Cert.ReferenceBwdIdeal.Step.R_main_v41 (it c 32)
      ∧ r.2.mem ((c.tc : Thread nD τ).loc main_v42) = Cert.ReferenceBwdIdeal.Step.R_main_v42 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    have hk := holds_iter m c (it c) (h0 c) (hs c) 32
    ⟨(h c).1.trans (out_main_v29_holds hk), (h c).2.1.trans (out_main_v31_holds hk), (h c).2.2.1.trans (out_main_v33_holds hk), (h c).2.2.2.1.trans (out_main_v35_holds hk), (h c).2.2.2.2.1.trans (out_main_v37_holds hk), (h c).2.2.2.2.2.1.trans (out_main_v39_holds hk), (h c).2.2.2.2.2.2.1.trans (out_main_v41_holds hk), (h c).2.2.2.2.2.2.2.1.trans (out_main_v42_holds hk), (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.ReferenceBwdIdeal.RefBwdRun

end
-- ==== Proof.RefBwdStep.lean ====
/- The backward reference: one trip of its loop is the chunk's gradient, and its eight results are those gradients, chunk by chunk, and the sum of the gain's. -/
module

public import proofs.«01_k».proof.Proof.RefRead
public import proofs.«01_k».proof.Proof.SpecBwd
public import proofs.«01_k».proof.Proof.RefBwdRun

@[expose] public section

set_option maxRecDepth 16384

noncomputable section

namespace Cert.ReferenceBwdIdeal.Trips

open Idealize.ShloMosaic Idealize.ShloMosaic.TcCoe Idealize.SL.Sem Idealize.ShloMosaic.StableHlo Idealize.ShloMosaic.WordCmp
open Cert.ReferenceBwdIdeal Cert.ReferenceBwdIdeal.Step Cert.RefRead Cert.Spec Cert.Heads

abbrev St := State Ideal

variable (j : ℕ) (hj : j < 32) (s : St) (b : Fin 2) (h : Fin 4)

/-- A sum over the first three of four axes. -/
theorem reduce012 {n0 n1 n2 n3 : ℕ} (h : (⟨4, ![n0, n1, n2, n3]⟩ : Shape).ReducesTo [0, 1, 2] ⟨1, ![n3]⟩) (v : (⟨4, ![n0, n1, n2, n3]⟩ : Shape).Idx → EReal)
    (init : EReal) (e : Fin n3) : Ideal.hostReduceAdd h v init (ix1 e) = init + ∑ a : Fin n0, ∑ b : Fin n1, ∑ c : Fin n2, v (ix4 a b c e) := by
  refine congrArg (init + ·) ?_
  refine (Finset.sum_filter_eq_sum_of_fiber _ (fun k : Fin n0 × Fin n1 × Fin n2 => ix4 k.1 k.2.1 k.2.2 e)
    (fun _ _ e => Prod.ext (congrFun e 0) (Prod.ext (congrFun e 1) (congrFun e 2))) (fun i => ?_) v).trans ?_
  · constructor
    · intro q
      refine ⟨(i 0, i 1, i 2), ?_⟩
      funext a
      apply Fin.ext
      match a with
      | ⟨0, _⟩ => rfl
      | ⟨1, _⟩ => rfl
      | ⟨2, _⟩ => rfl
      | ⟨3, _⟩ => exact (congrArg Fin.val (congrFun q 0)).symm
    · rintro ⟨k, rfl⟩
      funext a
      apply Fin.ext
      match a with
      | ⟨0, _⟩ => rfl
  · simp only [Fintype.sum_prod_type]

/-- An update of one row of the gain's stack. -/
theorem dg_update (x : (⟨3, ![32, 1, 64]⟩ : Shape).Idx → EReal) (y : (⟨2, ![1, 64]⟩ : Shape).Idx → EReal) (j : ℕ) (hj : j < 32) (start : Fin 3 → Int)
    (h : (⟨3, ![32, 1, 64]⟩ : Shape).Slices (fun _ => 0) ⟨3, ![1, 1, 64]⟩)
    (hb : (⟨2, ![1, 64]⟩ : Shape).BroadcastsInDim ⟨3, ![1, 1, 64]⟩ (![1, 2] : Fin 2 → Fin 3))
    (h0 : start 0 = (BitVec.ofNat 32 j).toInt) (h1 : start 1 = 0) (h2 : start 2 = 0) (n : Fin 32) (e : Fin 64) :
    Host.dynamicUpdateSlice x (broadcastInDim ⟨3, ![1, 1, 64]⟩ ![1, 2] hb y) start h (ix3 n 0 e) = if n.val = j then y (ix2 0 e) else x (ix3 n 0 e) := by
  rw [dynamicUpdateSlice_eq_update x _ start h ![j, 0, 0]
    ⟨rfl, fun a => match a with | 0 => (show j + 1 ≤ 32 by omega) | 1 => Nat.le_refl 1 | 2 => Nat.le_refl 64⟩
    (fun a => match a with | 0 => h0.trans (toInt_ofNat_of_lt (by omega)) | 1 => h1 | 2 => h2)]
  pointwise []
  by_cases hn : n.val = j
  · rw [dif_pos ⟨by omega, by omega⟩, if_pos hn]
  · rw [dif_neg (by omega), if_neg hn]

/-- The trip's chunk, counted from the end. -/
theorem word_sub : ∀ k : Fin 32, (32#32 - BitVec.ofNat 32 k.val - 1#32).toInt = (BitVec.ofNat 32 (31 - k.val)).toInt := by decide +kernel

include hj in
theorem start_eq : (32#32 - BitVec.ofNat 32 j - 1#32).toInt = (BitVec.ofNat 32 (31 - j)).toInt := word_sub ⟨j, hj⟩

abbrev last (i : ℕ) : Fin 32 := ⟨31 - i, Nat.lt_succ_of_le (Nat.sub_le 31 i)⟩

include hj in
theorem qk_eq : hm (b9 j s) b h = cm s.main_v27_0 (last j) b h := hm_slice _ (31 - j) (by omega) _ _ _ (start_eq j hj) rfl rfl rfl rfl b h
include hj in
theorem qd_eq : hm (b15 j s) b h = cm s.main_v27_1 (last j) b h := hm_slice _ (31 - j) (by omega) _ _ _ (start_eq j hj) rfl rfl rfl rfl b h
include hj in
theorem u_eq : hm (b21 j s) b h = cm s.main_v27_2 (last j) b h := hm_slice _ (31 - j) (by omega) _ _ _ (start_eq j hj) rfl rfl rfl rfl b h
include hj in
theorem w_eq : hm (b27 j s) b h = cm s.main_v27_3 (last j) b h := hm_slice _ (31 - j) (by omega) _ _ _ (start_eq j hj) rfl rfl rfl rfl b h
include hj in
theorem kt_eq : hm (b33 j s) b h = cm s.main_v27_4 (last j) b h := hm_slice _ (31 - j) (by omega) _ _ _ (start_eq j hj) rfl rfl rfl rfl b h
include hj in
theorem cd_eq : hm (b39 j s) b h = cm s.main_v27_5 (last j) b h := hm_slice _ (31 - j) (by omega) _ _ _ (start_eq j hj) rfl rfl rfl rfl b h
include hj in
theorem z_eq : hm (b45 j s) b h = cm s.main_v27_6 (last j) b h := hm_slice _ (31 - j) (by omega) _ _ _ (start_eq j hj) rfl rfl rfl rfl b h
include hj in
theorem S_eq : hm (b51 j s) b h = cm s.main_v27_7 (last j) b h := hm_slice _ (31 - j) (by omega) _ _ _ (start_eq j hj) rfl rfl rfl rfl b h
include hj in
theorem d_eq : hm (b57 j s) b h = cm s.main_v27_8 (last j) b h := hm_slice _ (31 - j) (by omega) _ _ _ (start_eq j hj) rfl rfl rfl rfl b h

/-- What the trip reads of one head. -/
abbrev insR : Ins :=
  ⟨hm (b9 j s) b h, hm (b15 j s) b h, hm (b21 j s) b h, hm (b27 j s) b h, hm (b33 j s) b h, hm (b39 j s) b h, hm (b45 j s) b h, hm (b51 j s) b h,
    hm (b57 j s) b h, fun e => (s.main_v27_9 : (⟨2, ![1, 64]⟩ : Shape).Idx → EReal) (ix2 0 e)⟩

/-- The carried gradient of the state. -/
abbrev carR : Mat := hm s.main_v27_11 b h

theorem v_eq : hm (b59 j s) b h = (insR j s b h).v := by
  funext r e
  unfold Ins.v hm vNew
  pointwise [b59, b58]
  rfl

theorem o_eq : hm (b62 j s) b h = (insR j s b h).o := by
  unfold Ins.o
  rw [← v_eq]
  funext r e
  unfold hm outO
  pointwise [b62, b61, b60]
  rfl

theorem r_apply (r : Fin 64) : (b78 j s : (⟨4, ![2, 4, 64, 1]⟩ : Shape).Idx → EReal) (ix4 b h r 0) = rinv (hm (b62 j s) b h) r := by
  unfold hm rinv meanE
  pointwise [b78, b77, b76, b75, b74, b73, b72, b71, b70, b69, b68]

theorem h_apply (r : Fin 64) : (b82 j s : (⟨4, ![2, 4, 64, 1]⟩ : Shape).Idx → EReal) (ix4 b h r 0)
    = Scalar.ofBits (F := Ideal) .f32 0xBF000000#32 * Ideal.div (rinv (hm (b62 j s) b h) r) (meanE (hm (b62 j s) b h) r) := by
  unfold hm rinv meanE
  pointwise [b82, b81, b80, b79, b78, b77, b76, b75, b74, b73, b72, b71, b70, b69, b68]

theorem sig_apply (r e : Fin 64) : (b96 j s : T4.Idx → EReal) (ix4 b h r e) = Ideal.logistic (hm (b45 j s) b h r e) := by
  unfold hm
  pointwise [b96, b95, b94, b93, b92, b91, b90, b89]
  rfl

theorem n_eq (r e : Fin 64) : hm (b84 j s) b h r e = hm (b62 j s) b h r e * rinv (hm (b62 j s) b h) r := by
  rw [← r_apply]
  unfold hm
  pointwise [b84, b83]

theorem y_eq (r e : Fin 64) : hm (b88 j s) b h r e = hm (b62 j s) b h r e * rinv (hm (b62 j s) b h) r * (insR j s b h).g e := by
  rw [← n_eq]
  unfold hm
  pointwise [b88, b87, b86, b85]

theorem dy_eq : hm (b104 j s) b h = gradY (hm (b45 j s) b h) (hm (b57 j s) b h) := by
  funext r e
  unfold gradY
  rw [← sig_apply]
  unfold hm
  pointwise [b104, b101]

theorem dz_eq : hm (b108 j s) b h = (insR j s b h).dz := by
  unfold Ins.dz
  rw [← o_eq]
  funext r e
  unfold gradZ
  rw [← y_eq, ← sig_apply]
  unfold hm
  pointwise [b108, b107, b106, b105, b103, b100, b99, b98, b97]
  rfl

theorem q_apply (r e : Fin 64) : (b114 j s : T4.Idx → EReal) (ix4 b h r e) = gradY (hm (b45 j s) b h) (hm (b57 j s) b h) r e * (insR j s b h).g e := by
  rw [← dy_eq]
  unfold hm
  pointwise [b114, b113, b86, b85]

theorem t_apply (r e : Fin 64) : (b130 j s : T4.Idx → EReal) (ix4 b h r e)
    = gradT (hm (b62 j s) b h) (hm (b45 j s) b h) (hm (b57 j s) b h) (insR j s b h).g r := by
  have e : (∑ e : Fin 64, hm (b62 j s) b h r e * (gradY (hm (b45 j s) b h) (hm (b57 j s) b h) r e * (insR j s b h).g e))
      = ∑ e : Fin 64, hm (b62 j s) b h r e * (b114 j s : T4.Idx → EReal) (ix4 b h r e) :=
    Finset.sum_congr rfl fun e _ => congrArg (hm (b62 j s) b h r e * ·) (q_apply j s b h r e).symm
  unfold gradT
  rw [e, ← h_apply]
  unfold hm
  pointwise [b130, b129, b128, b127, b126, b125, b124, b121, b120, b119, b118]
  exact Fin.sum_univ_one _

theorem dO_eq : hm (b134 j s) b h = (insR j s b h).dO := by
  unfold Ins.dO
  rw [← o_eq]
  funext r e
  unfold gradO
  rw [← q_apply, ← t_apply j s b h r e, ← r_apply]
  unfold hm
  pointwise [b134, b133, b132, b131, b123, b122]

theorem du_eq : hm (b149 j s) b h = (insR j s b h).du (carR s b h) := by
  unfold Ins.du
  rw [← dO_eq]
  funext r e
  unfold carR hm
  pointwise [b149, b148, b147, b136, b135]
  rfl

theorem dkt_eq : hm (b138 j s) b h = (insR j s b h).dkt (carR s b h) := by
  unfold Ins.dkt
  rw [← v_eq]
  funext r e
  unfold carR hm
  pointwise [b138, b137]

theorem dqk_eq : hm (b150 j s) b h = (insR j s b h).dqk := by
  unfold Ins.dqk
  rw [← v_eq, ← dO_eq]
  funext r e
  unfold hm
  pointwise [b150]

theorem dqd_eq : hm (b154 j s) b h = (insR j s b h).dqd := by
  unfold Ins.dqd
  rw [← dO_eq]
  funext r e
  unfold hm
  pointwise [b154]
  rfl

theorem dw_eq : hm (b159 j s) b h = (insR j s b h).dw (carR s b h) := by
  unfold Ins.dw
  rw [← du_eq]
  funext r e
  unfold hm
  pointwise [b159, b155]
  rfl

theorem dcd_eq : hm (b146 j s) b h = (insR j s b h).dcd (carR s b h) := by
  unfold Ins.dcd
  funext r e
  unfold carR hm
  pointwise [b146, b145, b142, b141, b140, b139]
  by_cases hr : r = 0
  · rw [if_pos hr, dif_pos (by rw [hr]; decide)]
    rfl
  · rw [if_neg hr, dif_neg (fun h => hr (Fin.ext (Nat.lt_one_iff.mp h)))]

theorem next_eq : hm (b158 j s) b h = (insR j s b h).next (carR s b h) := by
  unfold Ins.next
  rw [← du_eq, ← dO_eq]
  funext r e
  unfold carR hm
  pointwise [b158, b157, b156, b155, b153, b152, b151, b144, b143, b63]
  rfl

theorem dg_apply (e : Fin 64) : (b117 j s : (⟨2, ![1, 64]⟩ : Shape).Idx → EReal) (ix2 0 e) = ∑ b : Fin 2, ∑ h : Fin 4, (insR j s b h).dg e := by
  have e1 : (b111 j s : (⟨1, ![64]⟩ : Shape).Idx → EReal) (ix1 e) = ∑ b : Fin 2, ∑ h : Fin 4, (insR j s b h).dg e := by
    unfold Ins.dg gradG
    simp only [← o_eq, ← dy_eq, ← n_eq]
    refine (reduce012 _ _ _ e).trans ?_
    unfold hm
    pointwise [b110, b109]
  rw [← e1]
  have e2 : (b116 j s : (⟨1, ![64]⟩ : Shape).Idx → EReal) (ix1 e) = (b111 j s : (⟨1, ![64]⟩ : Shape).Idx → EReal) (ix1 e) := by
    refine (reduce012 _ _ _ e).trans ?_
    rw [Fin.sum_univ_one, Fin.sum_univ_one, Fin.sum_univ_one]
    pointwise [b115, b112]
  refine Eq.trans ?_ e2
  pointwise [b117]

/-! ## The trips -/

/-- The loop's states, from what is handed to its first trip. -/
def it (qk qd u w kt cd z S d : T2048.Idx → EReal) (g : (⟨2, ![1, 64]⟩ : Shape).Idx → EReal) : ℕ → St
  | 0 => init g qk qd u w kt cd z S d
  | n + 1 => step n (it qk qd u w kt cd z S d g n)

variable (qk qd u w kt cd z S d : T2048.Idx → EReal) (g : (⟨2, ![1, 64]⟩ : Shape).Idx → EReal)

/-- The arguments. -/
abbrev toks : Toks := ⟨qk, qd, u, w, kt, cd, z, S, d, fun e => g (ix2 0 e)⟩

/-- What every trip leaves alone: the chunked arguments. -/
structure Keeps (s : St) : Prop where
  qk (n : Fin 32) (b : Fin 2) (h : Fin 4) : cm s.main_v27_0 n b h = chunk qk b n.val h
  qd (n : Fin 32) (b : Fin 2) (h : Fin 4) : cm s.main_v27_1 n b h = chunk qd b n.val h
  u (n : Fin 32) (b : Fin 2) (h : Fin 4) : cm s.main_v27_2 n b h = chunk u b n.val h
  w (n : Fin 32) (b : Fin 2) (h : Fin 4) : cm s.main_v27_3 n b h = chunk w b n.val h
  kt (n : Fin 32) (b : Fin 2) (h : Fin 4) : cm s.main_v27_4 n b h = chunk kt b n.val h
  cd (n : Fin 32) (b : Fin 2) (h : Fin 4) : cm s.main_v27_5 n b h = chunk cd b n.val h
  z (n : Fin 32) (b : Fin 2) (h : Fin 4) : cm s.main_v27_6 n b h = chunk z b n.val h
  S (n : Fin 32) (b : Fin 2) (h : Fin 4) : cm s.main_v27_7 n b h = chunk S b n.val h
  d (n : Fin 32) (b : Fin 2) (h : Fin 4) : cm s.main_v27_8 n b h = chunk d b n.val h
  g : s.main_v27_9 = g

theorem keeps : ∀ n, Keeps qk qd u w kt cd z S d g (it qk qd u w kt cd z S d g n)
  | 0 => ⟨cm_chunked qk _ _, cm_chunked qd _ _, cm_chunked u _ _, cm_chunked w _ _, cm_chunked kt _ _, cm_chunked cd _ _, cm_chunked z _ _,
      cm_chunked S _ _, cm_chunked d _ _, rfl⟩
  | n + 1 => have k := keeps n; ⟨k.qk, k.qd, k.u, k.w, k.kt, k.cd, k.z, k.S, k.d, k.g⟩

theorem ins_it (b : Fin 2) (h : Fin 4) (n : ℕ) (hn : n < 32) :
    insR n (it qk qd u w kt cd z S d g n) b h = (toks qk qd u w kt cd z S d g).at b h (31 - n) := by
  have k := keeps qk qd u w kt cd z S d g n
  unfold insR Toks.at
  rw [qk_eq n hn, qd_eq n hn, u_eq n hn, w_eq n hn, kt_eq n hn, cd_eq n hn, z_eq n hn, S_eq n hn, d_eq n hn,
    k.qk, k.qd, k.u, k.w, k.kt, k.cd, k.z, k.S, k.d, k.g]

theorem zero_state (b : Fin 2) (h : Fin 4) : hm (K_main_v14 (F := Ideal)) b h = fun _ _ => 0 := by
  funext r e
  unfold hm
  pointwise [K_main_v14, K_main_cst]

theorem state_it (b : Fin 2) (h : Fin 4) : ∀ n, n ≤ 32 →
    hm (it qk qd u w kt cd z S d g n).main_v27_11 b h = (toks qk qd u w kt cd z S d g).dState b h n
  | 0, _ => zero_state b h
  | n + 1, hn => by
    have ih := state_it b h n (by omega)
    show hm (b158 n (it qk qd u w kt cd z S d g n)) b h = _
    rw [next_eq, ins_it qk qd u w kt cd z S d g b h n (by omega), carR, ih]
    rfl

theorem dqk_it (b : Fin 2) (h : Fin 4) (k : Fin 32) : ∀ n, n ≤ 32 → 31 - k.val < n → cm (it qk qd u w kt cd z S d g n).main_v27_12 k b h = ((toks qk qd u w kt cd z S d g).at b h k.val).dqk
  | 0, _, hk => absurd hk (Nat.not_lt_zero _)
  | n + 1, hn, hk => by
    have e : cm (b165 n (it qk qd u w kt cd z S d g n)) k b h = if k.val = 31 - n then hm (b150 n (it qk qd u w kt cd z S d g n)) b h else cm (it qk qd u w kt cd z S d g n).main_v27_12 k b h :=
      cm_update _ _ (31 - n) (by omega) _ _ _ (start_eq n (by omega)) rfl rfl rfl rfl k b h
    show cm (b165 n (it qk qd u w kt cd z S d g n)) k b h = _
    rw [e]
    by_cases e : k.val = 31 - n
    · rw [if_pos e, dqk_eq, ins_it qk qd u w kt cd z S d g b h n (by omega), e]
    · rw [if_neg e]
      exact dqk_it b h k n (by omega) (by have := k.isLt; omega)

theorem R_dqk (b : Fin 2) (n : Fin 32) (r e : Fin 64) (h : Fin 4) :
    (R_main_v29 (it qk qd u w kt cd z S d g 32) : Tok) (ix3 b (row n.val r) (hd h e)) = (((toks qk qd u w kt cd z S d g).at b h n.val).dqk) r e :=
  (rows_chunked _ _ _ b n r e h).trans (congrFun (congrFun (dqk_it qk qd u w kt cd z S d g b h n 32 (Nat.le_refl _) (by omega)) r) e)

theorem dqd_it (b : Fin 2) (h : Fin 4) (k : Fin 32) : ∀ n, n ≤ 32 → 31 - k.val < n → cm (it qk qd u w kt cd z S d g n).main_v27_13 k b h = ((toks qk qd u w kt cd z S d g).at b h k.val).dqd
  | 0, _, hk => absurd hk (Nat.not_lt_zero _)
  | n + 1, hn, hk => by
    have e : cm (b171 n (it qk qd u w kt cd z S d g n)) k b h = if k.val = 31 - n then hm (b154 n (it qk qd u w kt cd z S d g n)) b h else cm (it qk qd u w kt cd z S d g n).main_v27_13 k b h :=
      cm_update _ _ (31 - n) (by omega) _ _ _ (start_eq n (by omega)) rfl rfl rfl rfl k b h
    show cm (b171 n (it qk qd u w kt cd z S d g n)) k b h = _
    rw [e]
    by_cases e : k.val = 31 - n
    · rw [if_pos e, dqd_eq, ins_it qk qd u w kt cd z S d g b h n (by omega), e]
    · rw [if_neg e]
      exact dqd_it b h k n (by omega) (by have := k.isLt; omega)

theorem R_dqd (b : Fin 2) (n : Fin 32) (r e : Fin 64) (h : Fin 4) :
    (R_main_v31 (it qk qd u w kt cd z S d g 32) : Tok) (ix3 b (row n.val r) (hd h e)) = (((toks qk qd u w kt cd z S d g).at b h n.val).dqd) r e :=
  (rows_chunked _ _ _ b n r e h).trans (congrFun (congrFun (dqd_it qk qd u w kt cd z S d g b h n 32 (Nat.le_refl _) (by omega)) r) e)

theorem du_it (b : Fin 2) (h : Fin 4) (k : Fin 32) : ∀ n, n ≤ 32 → 31 - k.val < n → cm (it qk qd u w kt cd z S d g n).main_v27_14 k b h = ((toks qk qd u w kt cd z S d g).at b h k.val).du ((toks qk qd u w kt cd z S d g).dState b h (31 - k.val))
  | 0, _, hk => absurd hk (Nat.not_lt_zero _)
  | n + 1, hn, hk => by
    have e : cm (b177 n (it qk qd u w kt cd z S d g n)) k b h = if k.val = 31 - n then hm (b149 n (it qk qd u w kt cd z S d g n)) b h else cm (it qk qd u w kt cd z S d g n).main_v27_14 k b h :=
      cm_update _ _ (31 - n) (by omega) _ _ _ (start_eq n (by omega)) rfl rfl rfl rfl k b h
    show cm (b177 n (it qk qd u w kt cd z S d g n)) k b h = _
    rw [e]
    by_cases e : k.val = 31 - n
    · rw [if_pos e, du_eq, ins_it qk qd u w kt cd z S d g b h n (by omega), carR, state_it qk qd u w kt cd z S d g b h n (by omega), e, show 31 - (31 - n) = n by omega]
    · rw [if_neg e]
      exact du_it b h k n (by omega) (by have := k.isLt; omega)

theorem R_du (b : Fin 2) (n : Fin 32) (r e : Fin 64) (h : Fin 4) :
    (R_main_v33 (it qk qd u w kt cd z S d g 32) : Tok) (ix3 b (row n.val r) (hd h e)) = (((toks qk qd u w kt cd z S d g).at b h n.val).du ((toks qk qd u w kt cd z S d g).dState b h (31 - n.val))) r e :=
  (rows_chunked _ _ _ b n r e h).trans (congrFun (congrFun (du_it qk qd u w kt cd z S d g b h n 32 (Nat.le_refl _) (by omega)) r) e)

theorem dw_it (b : Fin 2) (h : Fin 4) (k : Fin 32) : ∀ n, n ≤ 32 → 31 - k.val < n → cm (it qk qd u w kt cd z S d g n).main_v27_15 k b h = ((toks qk qd u w kt cd z S d g).at b h k.val).dw ((toks qk qd u w kt cd z S d g).dState b h (31 - k.val))
  | 0, _, hk => absurd hk (Nat.not_lt_zero _)
  | n + 1, hn, hk => by
    have e : cm (b183 n (it qk qd u w kt cd z S d g n)) k b h = if k.val = 31 - n then hm (b159 n (it qk qd u w kt cd z S d g n)) b h else cm (it qk qd u w kt cd z S d g n).main_v27_15 k b h :=
      cm_update _ _ (31 - n) (by omega) _ _ _ (start_eq n (by omega)) rfl rfl rfl rfl k b h
    show cm (b183 n (it qk qd u w kt cd z S d g n)) k b h = _
    rw [e]
    by_cases e : k.val = 31 - n
    · rw [if_pos e, dw_eq, ins_it qk qd u w kt cd z S d g b h n (by omega), carR, state_it qk qd u w kt cd z S d g b h n (by omega), e, show 31 - (31 - n) = n by omega]
    · rw [if_neg e]
      exact dw_it b h k n (by omega) (by have := k.isLt; omega)

theorem R_dw (b : Fin 2) (n : Fin 32) (r e : Fin 64) (h : Fin 4) :
    (R_main_v35 (it qk qd u w kt cd z S d g 32) : Tok) (ix3 b (row n.val r) (hd h e)) = (((toks qk qd u w kt cd z S d g).at b h n.val).dw ((toks qk qd u w kt cd z S d g).dState b h (31 - n.val))) r e :=
  (rows_chunked _ _ _ b n r e h).trans (congrFun (congrFun (dw_it qk qd u w kt cd z S d g b h n 32 (Nat.le_refl _) (by omega)) r) e)

theorem dkt_it (b : Fin 2) (h : Fin 4) (k : Fin 32) : ∀ n, n ≤ 32 → 31 - k.val < n → cm (it qk qd u w kt cd z S d g n).main_v27_16 k b h = ((toks qk qd u w kt cd z S d g).at b h k.val).dkt ((toks qk qd u w kt cd z S d g).dState b h (31 - k.val))
  | 0, _, hk => absurd hk (Nat.not_lt_zero _)
  | n + 1, hn, hk => by
    have e : cm (b189 n (it qk qd u w kt cd z S d g n)) k b h = if k.val = 31 - n then hm (b138 n (it qk qd u w kt cd z S d g n)) b h else cm (it qk qd u w kt cd z S d g n).main_v27_16 k b h :=
      cm_update _ _ (31 - n) (by omega) _ _ _ (start_eq n (by omega)) rfl rfl rfl rfl k b h
    show cm (b189 n (it qk qd u w kt cd z S d g n)) k b h = _
    rw [e]
    by_cases e : k.val = 31 - n
    · rw [if_pos e, dkt_eq, ins_it qk qd u w kt cd z S d g b h n (by omega), carR, state_it qk qd u w kt cd z S d g b h n (by omega), e, show 31 - (31 - n) = n by omega]
    · rw [if_neg e]
      exact dkt_it b h k n (by omega) (by have := k.isLt; omega)

theorem R_dkt (b : Fin 2) (n : Fin 32) (r e : Fin 64) (h : Fin 4) :
    (R_main_v37 (it qk qd u w kt cd z S d g 32) : Tok) (ix3 b (row n.val r) (hd h e)) = (((toks qk qd u w kt cd z S d g).at b h n.val).dkt ((toks qk qd u w kt cd z S d g).dState b h (31 - n.val))) r e :=
  (rows_chunked _ _ _ b n r e h).trans (congrFun (congrFun (dkt_it qk qd u w kt cd z S d g b h n 32 (Nat.le_refl _) (by omega)) r) e)

theorem dcd_it (b : Fin 2) (h : Fin 4) (k : Fin 32) : ∀ n, n ≤ 32 → 31 - k.val < n → cm (it qk qd u w kt cd z S d g n).main_v27_17 k b h = ((toks qk qd u w kt cd z S d g).at b h k.val).dcd ((toks qk qd u w kt cd z S d g).dState b h (31 - k.val))
  | 0, _, hk => absurd hk (Nat.not_lt_zero _)
  | n + 1, hn, hk => by
    have e : cm (b195 n (it qk qd u w kt cd z S d g n)) k b h = if k.val = 31 - n then hm (b146 n (it qk qd u w kt cd z S d g n)) b h else cm (it qk qd u w kt cd z S d g n).main_v27_17 k b h :=
      cm_update _ _ (31 - n) (by omega) _ _ _ (start_eq n (by omega)) rfl rfl rfl rfl k b h
    show cm (b195 n (it qk qd u w kt cd z S d g n)) k b h = _
    rw [e]
    by_cases e : k.val = 31 - n
    · rw [if_pos e, dcd_eq, ins_it qk qd u w kt cd z S d g b h n (by omega), carR, state_it qk qd u w kt cd z S d g b h n (by omega), e, show 31 - (31 - n) = n by omega]
    · rw [if_neg e]
      exact dcd_it b h k n (by omega) (by have := k.isLt; omega)

theorem R_dcd (b : Fin 2) (n : Fin 32) (r e : Fin 64) (h : Fin 4) :
    (R_main_v39 (it qk qd u w kt cd z S d g 32) : Tok) (ix3 b (row n.val r) (hd h e)) = (((toks qk qd u w kt cd z S d g).at b h n.val).dcd ((toks qk qd u w kt cd z S d g).dState b h (31 - n.val))) r e :=
  (rows_chunked _ _ _ b n r e h).trans (congrFun (congrFun (dcd_it qk qd u w kt cd z S d g b h n 32 (Nat.le_refl _) (by omega)) r) e)

theorem dz_it (b : Fin 2) (h : Fin 4) (k : Fin 32) : ∀ n, n ≤ 32 → 31 - k.val < n → cm (it qk qd u w kt cd z S d g n).main_v27_18 k b h = ((toks qk qd u w kt cd z S d g).at b h k.val).dz
  | 0, _, hk => absurd hk (Nat.not_lt_zero _)
  | n + 1, hn, hk => by
    have e : cm (b201 n (it qk qd u w kt cd z S d g n)) k b h = if k.val = 31 - n then hm (b108 n (it qk qd u w kt cd z S d g n)) b h else cm (it qk qd u w kt cd z S d g n).main_v27_18 k b h :=
      cm_update _ _ (31 - n) (by omega) _ _ _ (start_eq n (by omega)) rfl rfl rfl rfl k b h
    show cm (b201 n (it qk qd u w kt cd z S d g n)) k b h = _
    rw [e]
    by_cases e : k.val = 31 - n
    · rw [if_pos e, dz_eq, ins_it qk qd u w kt cd z S d g b h n (by omega), e]
    · rw [if_neg e]
      exact dz_it b h k n (by omega) (by have := k.isLt; omega)

theorem R_dz (b : Fin 2) (n : Fin 32) (r e : Fin 64) (h : Fin 4) :
    (R_main_v41 (it qk qd u w kt cd z S d g 32) : Tok) (ix3 b (row n.val r) (hd h e)) = (((toks qk qd u w kt cd z S d g).at b h n.val).dz) r e :=
  (rows_chunked _ _ _ b n r e h).trans (congrFun (congrFun (dz_it qk qd u w kt cd z S d g b h n 32 (Nat.le_refl _) (by omega)) r) e)

theorem dg_it (k : Fin 32) (e : Fin 64) : ∀ n, n ≤ 32 → 31 - k.val < n →
    ((it qk qd u w kt cd z S d g n).main_v27_19 : (⟨3, ![32, 1, 64]⟩ : Shape).Idx → EReal) (ix3 k 0 e) = ∑ b : Fin 2, ∑ h : Fin 4, ((toks qk qd u w kt cd z S d g).at b h k.val).dg e
  | 0, _, hk => absurd hk (Nat.not_lt_zero _)
  | n + 1, hn, hk => by
    have e0 : (b205 n (it qk qd u w kt cd z S d g n) : (⟨3, ![32, 1, 64]⟩ : Shape).Idx → EReal) (ix3 k 0 e)
        = if k.val = 31 - n then (b117 n (it qk qd u w kt cd z S d g n) : (⟨2, ![1, 64]⟩ : Shape).Idx → EReal) (ix2 0 e)
          else ((it qk qd u w kt cd z S d g n).main_v27_19 : (⟨3, ![32, 1, 64]⟩ : Shape).Idx → EReal) (ix3 k 0 e) :=
      dg_update _ _ (31 - n) (by omega) _ _ _ (start_eq n (by omega)) rfl rfl k e
    show (b205 n (it qk qd u w kt cd z S d g n) : (⟨3, ![32, 1, 64]⟩ : Shape).Idx → EReal) (ix3 k 0 e) = _
    rw [e0]
    by_cases e1 : k.val = 31 - n
    · rw [if_pos e1, dg_apply]
      simp only [ins_it qk qd u w kt cd z S d g _ _ n (show n < 32 by omega), e1]
    · rw [if_neg e1]
      exact dg_it k e n (by omega) (by have := k.isLt; omega)

theorem R_dg (e : Fin 64) : (R_main_v42 (it qk qd u w kt cd z S d g 32) : (⟨2, ![1, 64]⟩ : Shape).Idx → EReal) (ix2 0 e)
    = ∑ k : Fin 32, ∑ b : Fin 2, ∑ h : Fin 4, ((toks qk qd u w kt cd z S d g).at b h k.val).dg e := by
  refine Eq.trans ?_ (Finset.sum_congr rfl fun k _ => dg_it qk qd u w kt cd z S d g k e 32 (Nat.le_refl _) (by omega))
  pointwise [R_main_v42]

end Cert.ReferenceBwdIdeal.Trips

end
-- ==== Proof.Backward.lean ====
/- The backward call's claim: the kernel's eight arrays are the reference's. -/
module

public import proofs.«01_k».proof.Defs
public import proofs.«01_k».proof.Proof.KernelBwdArray
public import proofs.«01_k».proof.Proof.RefBwdStep

@[expose] public section

noncomputable section

namespace Cert.Proof.Backward

open Idealize.ShloMosaic Idealize.ShloMosaic.TcCoe Idealize.SL.Sem Cert.Spec Cert.Heads Cert.RefRead

section

variable (m : (ℓ : Loc Cert.KernelBwdIdeal.nD Cert.KernelBwdIdeal.τ Cert.KernelBwdIdeal.sig) → Buf (Elt Ideal) ℓ) (c : Dev Cert.KernelBwdIdeal.nD)

/-- The reference's last state, of the kernel's arguments. -/
abbrev last : Cert.ReferenceBwdIdeal.Step.State Ideal :=
  Cert.ReferenceBwdIdeal.Trips.it (m ((c.tc : Thread Cert.KernelBwdIdeal.nD Cert.KernelBwdIdeal.τ).loc Cert.KernelBwdIdeal.main_arg0)) (m ((c.tc : Thread Cert.KernelBwdIdeal.nD Cert.KernelBwdIdeal.τ).loc Cert.KernelBwdIdeal.main_arg1)) (m ((c.tc : Thread Cert.KernelBwdIdeal.nD Cert.KernelBwdIdeal.τ).loc Cert.KernelBwdIdeal.main_arg2)) (m ((c.tc : Thread Cert.KernelBwdIdeal.nD Cert.KernelBwdIdeal.τ).loc Cert.KernelBwdIdeal.main_arg3))
    (m ((c.tc : Thread Cert.KernelBwdIdeal.nD Cert.KernelBwdIdeal.τ).loc Cert.KernelBwdIdeal.main_arg4)) (m ((c.tc : Thread Cert.KernelBwdIdeal.nD Cert.KernelBwdIdeal.τ).loc Cert.KernelBwdIdeal.main_arg5)) (m ((c.tc : Thread Cert.KernelBwdIdeal.nD Cert.KernelBwdIdeal.τ).loc Cert.KernelBwdIdeal.main_arg6)) (m ((c.tc : Thread Cert.KernelBwdIdeal.nD Cert.KernelBwdIdeal.τ).loc Cert.KernelBwdIdeal.main_arg8))
    (m ((c.tc : Thread Cert.KernelBwdIdeal.nD Cert.KernelBwdIdeal.τ).loc Cert.KernelBwdIdeal.main_arg9)) (m ((c.tc : Thread Cert.KernelBwdIdeal.nD Cert.KernelBwdIdeal.τ).loc Cert.KernelBwdIdeal.main_arg7)) 32

theorem dqk_eq : (Cert.ReferenceBwdIdeal.Step.R_main_v29 (last m c) : Tok) = (Cert.KernelBwdIdeal.Gen.dats m 0 c).arrAt 10 Cert.KernelBwdIdeal.cfg0.N :=
  (tok_ext fun b n r h e => (Cert.ReferenceBwdIdeal.Trips.R_dqk _ _ _ _ _ _ _ _ _ _ b n r e h).trans
    (by rw [Cert.KernelBwdIdeal.Chunks.toTok_at _ b n.val n.isLt r, headOf_hd, withinOf_hd]; rfl)).trans (Cert.KernelBwdIdeal.Chunks.final_dqk m c).symm

theorem dqd_eq : (Cert.ReferenceBwdIdeal.Step.R_main_v31 (last m c) : Tok) = (Cert.KernelBwdIdeal.Gen.dats m 0 c).arrAt 11 Cert.KernelBwdIdeal.cfg0.N :=
  (tok_ext fun b n r h e => (Cert.ReferenceBwdIdeal.Trips.R_dqd _ _ _ _ _ _ _ _ _ _ b n r e h).trans
    (by rw [Cert.KernelBwdIdeal.Chunks.toTok_at _ b n.val n.isLt r, headOf_hd, withinOf_hd]; rfl)).trans (Cert.KernelBwdIdeal.Chunks.final_dqd m c).symm

theorem du_eq : (Cert.ReferenceBwdIdeal.Step.R_main_v33 (last m c) : Tok) = (Cert.KernelBwdIdeal.Gen.dats m 0 c).arrAt 12 Cert.KernelBwdIdeal.cfg0.N :=
  (tok_ext fun b n r h e => (Cert.ReferenceBwdIdeal.Trips.R_du _ _ _ _ _ _ _ _ _ _ b n r e h).trans
    (by rw [Cert.KernelBwdIdeal.Chunks.toTok_at _ b n.val n.isLt r, headOf_hd, withinOf_hd]; rfl)).trans (Cert.KernelBwdIdeal.Chunks.final_du m c).symm

theorem dw_eq : (Cert.ReferenceBwdIdeal.Step.R_main_v35 (last m c) : Tok) = (Cert.KernelBwdIdeal.Gen.dats m 0 c).arrAt 13 Cert.KernelBwdIdeal.cfg0.N :=
  (tok_ext fun b n r h e => (Cert.ReferenceBwdIdeal.Trips.R_dw _ _ _ _ _ _ _ _ _ _ b n r e h).trans
    (by rw [Cert.KernelBwdIdeal.Chunks.toTok_at _ b n.val n.isLt r, headOf_hd, withinOf_hd]; rfl)).trans (Cert.KernelBwdIdeal.Chunks.final_dw m c).symm

theorem dkt_eq : (Cert.ReferenceBwdIdeal.Step.R_main_v37 (last m c) : Tok) = (Cert.KernelBwdIdeal.Gen.dats m 0 c).arrAt 14 Cert.KernelBwdIdeal.cfg0.N :=
  (tok_ext fun b n r h e => (Cert.ReferenceBwdIdeal.Trips.R_dkt _ _ _ _ _ _ _ _ _ _ b n r e h).trans
    (by rw [Cert.KernelBwdIdeal.Chunks.toTok_at _ b n.val n.isLt r, headOf_hd, withinOf_hd]; rfl)).trans (Cert.KernelBwdIdeal.Chunks.final_dkt m c).symm

theorem dcd_eq : (Cert.ReferenceBwdIdeal.Step.R_main_v39 (last m c) : Tok) = (Cert.KernelBwdIdeal.Gen.dats m 0 c).arrAt 15 Cert.KernelBwdIdeal.cfg0.N :=
  (tok_ext fun b n r h e => (Cert.ReferenceBwdIdeal.Trips.R_dcd _ _ _ _ _ _ _ _ _ _ b n r e h).trans
    (by rw [Cert.KernelBwdIdeal.Chunks.toTok_at _ b n.val n.isLt r, headOf_hd, withinOf_hd]; rfl)).trans (Cert.KernelBwdIdeal.Chunks.final_dcd m c).symm

theorem dz_eq : (Cert.ReferenceBwdIdeal.Step.R_main_v41 (last m c) : Tok) = (Cert.KernelBwdIdeal.Gen.dats m 0 c).arrAt 16 Cert.KernelBwdIdeal.cfg0.N :=
  (tok_ext fun b n r h e => (Cert.ReferenceBwdIdeal.Trips.R_dz _ _ _ _ _ _ _ _ _ _ b n r e h).trans
    (by rw [Cert.KernelBwdIdeal.Chunks.toTok_at _ b n.val n.isLt r, headOf_hd, withinOf_hd]; rfl)).trans (Cert.KernelBwdIdeal.Chunks.final_dz m c).symm

theorem dg_eq : (Cert.ReferenceBwdIdeal.Step.R_main_v42 (last m c) : (⟨2, ![1, 64]⟩ : Shape).Idx → EReal) = (Cert.KernelBwdIdeal.Gen.dats m 0 c).arrAt 17 Cert.KernelBwdIdeal.cfg0.N := by
  refine Eq.trans ?_ (Cert.KernelBwdIdeal.Chunks.final_dg m c).symm
  funext i
  idx_vars i
  have e0 : i0 = 0 := Subsingleton.elim _ _
  subst e0
  refine (Cert.ReferenceBwdIdeal.Trips.R_dg _ _ _ _ _ _ _ _ _ _ i1).trans ?_
  refine (Finset.sum_range fun k => ∑ b : Fin 2, ∑ h : Fin 4, ((Cert.KernelBwdIdeal.Chunks.T m c).at b h k).dg i1).symm.trans ?_
  exact (Finset.sum_range_reflect (fun k => ∑ b : Fin 2, ∑ h : Fin 4, ((Cert.KernelBwdIdeal.Chunks.T m c).at b h k).dg i1) 32).symm

end

theorem algebraic : Cert.algebraic_KernelBwdIdeal_ReferenceBwdIdeal := by
  intro m ρ m' ρ' _ hag
  refine ⟨fun c => (Cert.KernelBwdIdeal.Gen.dats m 0 c).arrAt 10 Cert.KernelBwdIdeal.cfg0.N, fun c => (Cert.KernelBwdIdeal.Gen.dats m 0 c).arrAt 11 Cert.KernelBwdIdeal.cfg0.N, fun c => (Cert.KernelBwdIdeal.Gen.dats m 0 c).arrAt 12 Cert.KernelBwdIdeal.cfg0.N, fun c => (Cert.KernelBwdIdeal.Gen.dats m 0 c).arrAt 13 Cert.KernelBwdIdeal.cfg0.N, fun c => (Cert.KernelBwdIdeal.Gen.dats m 0 c).arrAt 14 Cert.KernelBwdIdeal.cfg0.N, fun c => (Cert.KernelBwdIdeal.Gen.dats m 0 c).arrAt 15 Cert.KernelBwdIdeal.cfg0.N, fun c => (Cert.KernelBwdIdeal.Gen.dats m 0 c).arrAt 16 Cert.KernelBwdIdeal.cfg0.N, fun c => (Cert.KernelBwdIdeal.Gen.dats m 0 c).arrAt 17 Cert.KernelBwdIdeal.cfg0.N,
    Cert.KernelBwdIdeal.Value.run_blocks (F := Ideal) m ρ, ?_⟩
  have hrun := Cert.ReferenceBwdIdeal.RefBwdRun.run_iter (F := Ideal) m' ρ' (fun c => Cert.ReferenceBwdIdeal.Trips.it _ _ _ _ _ _ _ _ _ _) (fun c => rfl) (fun c n => rfl)
  refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) hrun
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact dqk_eq m c
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact dqd_eq m c
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact du_eq m c
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact dw_eq m c
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact dkt_eq m c
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact dcd_eq m c
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact dz_eq m c
  · rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]
    exact dg_eq m c

end Cert.Proof.Backward

end
-- ==== Proof.MlpOutArray.lean ====
/- The arrays the MLP's output backward kernel leaves. -/
module

public import proofs.«01_k».proof.Proof.Gen.MlpOutIdeal.Value
public import Idealize.ShloMosaic.Lib.Pipeline.ValueKit
public import Idealize.ShloMosaic.Lib.Pipeline.ReadBack

@[expose] public section

set_option maxRecDepth 16384

noncomputable section

namespace Cert.Proof.MlpOut

open Idealize.ShloMosaic Idealize.ShloMosaic.TcCoe Idealize.SL.Sem
open Cert.MlpOutIdeal Cert.MlpOutIdeal.Gen

variable (m : (ℓ : Loc nD τ sig) → Buf (Elt Ideal) ℓ)

theorem idx1 : ∀ t : Fin cfg0.N, win0_1.index t = ![t.val / 8, t.val % 8, 0] := (by decide +kernel : ∀ t : Fin grid0.N, _)
theorem idx2 : ∀ t : Fin cfg0.N, win0_2.index t = ![t.val / 8, t.val % 8, 0] := (by decide +kernel : ∀ t : Fin grid0.N, _)
theorem idx3 : ∀ t : Fin cfg0.N, win0_3.index t = ![t.val / 8, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 8, t.val % 8, 0] := (by decide +kernel : ∀ t : Fin grid0.N, _)
theorem idx6 : ∀ t : Fin cfg0.N, win0_6.index t = ![t.val / 8, t.val % 8, 0] := (by decide +kernel : ∀ t : Fin grid0.N, _)
theorem idx7 : ∀ t : Fin cfg0.N, win0_7.index t = ![t.val / 8, t.val % 8, 0] := (by decide +kernel : ∀ t : Fin grid0.N, _)
theorem idx8 : ∀ t : Fin cfg0.N, win0_8.index t = ![t.val / 8, 0, 0] := (by decide +kernel : ∀ t : Fin grid0.N, _)

theorem flush8 : ∀ t : Fin cfg0.N, (cfg0.win 8).flush t = true → t.val % 8 = 7 := (by decide +kernel : ∀ t : Fin grid0.N, _)

/-- The hidden row's product with the output weights, at channel `n`. -/
def prod (a : S2x2048x4096.Idx → EReal) (w : S4096x1024.Idx → EReal) (b : Fin 2) (s : Fin 2048) (n : Fin 1024) : EReal :=
  ∑ k : Fin 4096, max (a (ix3 b s k)) 0 * max (a (ix3 b s k)) 0 * w (ix2 k n)

theorem V_f (c : Dev nD) : (V m c main_v3 : S2x2048x1024.Idx → EReal) = fun j : S2x2048x1024.Idx =>
    prod (m ((c : Thread nD τ).loc main_arg1)) (m ((c : Thread nD τ).loc main_arg3)) (j 0) (j 1) (j 2) := by
  simp only [V, List.flatten_cons, List.flatten_nil, List.append_nil, hostOps0, hostOps0_1, List.cons_append, List.nil_append]
  after_results
  change (Host.dotGeneral (F := Ideal) dot_S2x2048x4096_S4096x1024_S2x2048x1024_2_0_01_1_n_n none
    (mulf (maximumf (m ((c : Thread nD τ).loc main_arg1)) (broadcastInDim S2x2048x4096 ![] bcast_S_S2x2048x4096 (constant (F := Ideal) S_ .f32 0#32)))
      (maximumf (m ((c : Thread nD τ).loc main_arg1)) (broadcastInDim S2x2048x4096 ![] bcast_S_S2x2048x4096 (constant (F := Ideal) S_ .f32 0#32))))
    (extf (F := Ideal) .f32 (m ((c : Thread nD τ).loc main_arg3)) bitsLt_bf16_f32) : S2x2048x1024.Idx → EReal) = _
  funext j
  idx_vars j
  pointwise [prod]

/-- The hidden cotangent at one entry, from the entry's value, its token's cotangent row, the gate's row and the weight's row. -/
def da (a : EReal) (g d w : Fin 1024 → EReal) : EReal :=
  if 0 < a then (∑ n : Fin 1024, g n * d n * w n) * (Ideal.ofBits FTy.f32 1073741824#32 * max a 0) else 0

theorem pay8_apply (v0 : Vec Ideal S1x256x4096 .f32) (v4 : Vec Ideal S1x1x1024 .f32) (v6 : Vec Ideal S1x256x1024 .f32) (v14 : Vec Ideal S4096x1024 .bf16) (s : Fin 256) (k : Fin 4096) :
    k0_pay1 (k0_pay8 v0 v4 v6 v14) (ix3 0 s k) = da (v0 (ix3 0 s k)) (fun n => v4 (ix3 0 0 n)) (fun n => v6 (ix3 0 s n)) (fun n => v14 (ix2 k n)) := by
  pointwise [k0_pay1, k0_pay8, k0_pay5, k0_pay4, da]

theorem pay6_apply (v2 v6 : Vec Ideal S1x256x1024 .f32) (n : Fin 1024) : k0_pay2 (k0_pay6 v2 v6) (ix3 0 0 n) = ∑ s : Fin 256, v6 (ix3 0 s n) * v2 (ix3 0 s n) := by
  pointwise [k0_pay2, k0_pay6, k0_pay5, k0_pay4]

theorem pay7_apply (v6 : Vec Ideal S1x256x1024 .f32) (s : Fin 256) (n : Fin 1024) : k0_pay7 v6 (ix3 0 s n) = v6 (ix3 0 s n) := by
  pointwise [k0_pay7, k0_pay4]

theorem pay3_apply (v20 : FVec Ideal S1x1024 .f32) (w : Vec Ideal S1x1x1024 .f32) (j : S1x1x1024.Idx) : k0_pay3 v20 w j = w j + k0_pay2 v20 j := by
  idx_vars j
  have e0 : j0 = 0 := Subsingleton.elim _ _
  have e1 : j1 = 0 := Subsingleton.elim _ _
  subst e0; subst e1
  pointwise [k0_pay3, k0_pay2]

theorem out6 (c : Dev nD) (t : Fin cfg0.N) : (outsAt0 m c t.val t.isLt).1 = k0_pay7 (iblk m c 5 t) := by
  by_cases h : t.val % 8 = 0
  · rw [outsAt0_A m c t h (by omega)]; frame_out
  · rw [outsAt0_B m c t h (by omega)]; frame_out

theorem out7 (c : Dev nD) (t : Fin cfg0.N) : (outsAt0 m c t.val t.isLt).2.1 = k0_pay1 (k0_pay8 (iblk m c 1 t) (iblk m c 3 t) (iblk m c 5 t) (iblk m c 4 t)) := by
  by_cases h : t.val % 8 = 0
  · rw [outsAt0_A m c t h (by omega)]; frame_out
  · rw [outsAt0_B m c t h (by omega)]; frame_out

theorem final_dh (c : Dev nD) : ((dats m 0 c).arrAt 6 cfg0.N : S2x2048x1024.Idx → EReal) = m ((c : Thread nD τ).loc main_arg4) := by
  refine (dats m 0 c).arrAt_eq_of_covers 6 _ (by decide +kernel) fun t hf y => ?_
  blk_simp
  rw [after0_6, out6]
  idx_vars y
  have e0 : y0 = 0 := Subsingleton.elim _ _
  subst e0
  rw [pay7_apply]
  blk_ext [iblk, V, idx5 t, idx6 t]

theorem final_da (c : Dev nD) : ((dats m 0 c).arrAt 7 cfg0.N : S2x2048x4096.Idx → EReal) = fun j : S2x2048x4096.Idx =>
    da ((m ((c : Thread nD τ).loc main_arg1) : S2x2048x4096.Idx → EReal) j) (fun n => (m ((c : Thread nD τ).loc main_arg2) : S2x1x1024.Idx → EReal) (ix3 (j 0) 0 n))
      (fun n => (m ((c : Thread nD τ).loc main_arg4) : S2x2048x1024.Idx → EReal) (ix3 (j 0) (j 1) n)) (fun n => (m ((c : Thread nD τ).loc main_arg3) : S4096x1024.Idx → EReal) (ix2 (j 2) n)) := by
  refine (dats m 0 c).arrAt_eq_of_covers 7 _ (by decide +kernel) fun t hf y => ?_
  blk_simp
  rw [after0_7, out7]
  idx_vars y
  have e0 : y0 = 0 := Subsingleton.elim _ _
  subst e0
  rw [pay8_apply]
  refine congr (congr (congr (congrArg da ?_) (funext fun n => ?_)) (funext fun n => ?_)) (funext fun n => ?_)
  · blk_ext [iblk, V, idx1 t, idx7 t]
  · blk_ext [iblk, V, idx3 t, idx7 t]
  · blk_ext [iblk, V, idx5 t, idx7 t]
  · blk_ext [iblk, V, idx4 t, idx7 t]

theorem emb2 (t : Fin cfg0.N) (s : Fin 256) (n : Fin 1024) :
    (win0_2.blk t).view.emb (ix3 0 s n) = (ix3 ⟨t.val / 8, by have := t.isLt; have hN : cfg0.N = 16 := N_0; omega⟩ ⟨t.val % 8 * 256 + s.val, by omega⟩ n : S2x2048x1024.Idx) := by
  blk_ext [idx2 t]

theorem emb8 (t : Fin cfg0.N) (n : Fin 1024) :
    (win0_8.blk t).view.emb (ix3 0 0 n) = (ix3 ⟨t.val / 8, by have := t.isLt; have hN : cfg0.N = 16 := N_0; omega⟩ 0 n : S2x1x1024.Idx) := by
  blk_ext [idx8 t]

theorem blk2 (c : Dev nD) (t : Fin cfg0.N) (s : Fin 256) (n : Fin 1024) :
    iblk m c 2 t (ix3 0 s n) = prod (m ((c : Thread nD τ).loc main_arg1)) (m ((c : Thread nD τ).loc main_arg3)) ⟨t.val / 8, by have := t.isLt; have hN : cfg0.N = 16 := N_0; omega⟩ ⟨t.val % 8 * 256 + s.val, by omega⟩ n := by
  have h := congrFun (V_f m c) ((win0_2.blk t).view.emb (ix3 0 s n))
  rw [emb2] at h
  refine Eq.trans ?_ h
  blk_ext [iblk, V, idx2 t]

/-- The gate's gradient, summed over a sequence's tokens. -/
def dgt (a : S2x2048x4096.Idx → EReal) (w : S4096x1024.Idx → EReal) (d : S2x2048x1024.Idx → EReal) (b : Fin 2) (n : Fin 1024) : EReal :=
  ∑ s : Fin 2048, d (ix3 b s n) * prod a w b s n

theorem final_dgt (c : Dev nD) : ((dats m 0 c).arrAt 8 cfg0.N : S2x1x1024.Idx → EReal) = fun j : S2x1x1024.Idx =>
    dgt (m ((c : Thread nD τ).loc main_arg1)) (m ((c : Thread nD τ).loc main_arg3)) (m ((c : Thread nD τ).loc main_arg4)) (j 0) (j 2) := by
  have hN : cfg0.N = 16 := N_0
  refine (dats m 0 c).arrAt_eq_of_covers 8 _ (by decide +kernel) fun u hf y => ?_
  blk_simp
  rw [after0_8, Pipeline.eq_sum_fin_of_reset_step_apply_of_flush (fun n h => (outsAt0 m c n h).2.2) 8 (fun _ => 0) (fun t j => k0_pay2 (k0_pay6 (iblk m c 2 t) (iblk m c 5 t)) j)
    (fun t h j => by rw [outsAt0_A m c t h (by omega)]; frame_out; exact (zero_add _).symm)
    (fun t h j => by rw [outsAt0_B m c t h (by omega)]; frame_out; rw [pay3_apply])
    u (flush8 u hf) y, zero_add]
  idx_vars y
  have e0 : y0 = 0 := Subsingleton.elim _ _
  have e1 : y1 = 0 := Subsingleton.elim _ _
  subst e0; subst e1
  simp only [pay6_apply]
  rw [emb8]
  unfold dgt
  refine Fin.sum_mul_add_congr fun s k hl => ?_
  have hd : (8 * (u.val / 8) + s.val) / 8 = u.val / 8 := by omega
  have hm : (8 * (u.val / 8) + s.val) % 8 = s.val := by omega
  refine congr (congrArg HMul.hMul ?_) ?_
  · blk_ext [iblk, V, idx5]
  · rw [blk2]
    refine congr (congr (congrArg (prod _ _) (Fin.ext hd)) (Fin.ext ?_)) rfl
    show (8 * (u.val / 8) + s.val) % 8 * 256 + k.val = s.val * 256 + k.val
    rw [hm]

end Cert.Proof.MlpOut

end
-- ==== Proof.MlpOut.lean ====
/- The MLP output's backward call: the kernel's three arrays are the reference's. -/
module

public import proofs.«01_k».proof.Defs
public import proofs.«01_k».proof.Proof.MlpOutArray
public import proofs.«01_k».proof.Proof.Gen.MlpOutRefIdeal.Read
public import Idealize.ShloMosaic.Lib.Quiescent

@[expose] public section

set_option maxRecDepth 16384

noncomputable section

namespace Cert.Proof.MlpOut

open Idealize.ShloMosaic Idealize.ShloMosaic.TcCoe Idealize.SL.Sem

section

open Cert.MlpOutRefIdeal Cert.MlpOutRefIdeal.Read

theorem ref_da (a : S2x2048x4096.Idx → EReal) (g : S2x1x1024.Idx → EReal) (w : S4096x1024.Idx → EReal) (d : S2x2048x1024.Idx → EReal) :
    (val_main_v22 (F := Ideal) a g w d : S2x2048x4096.Idx → EReal) = fun j : S2x2048x4096.Idx =>
      da (a j) (fun n => g (ix3 (j 0) 0 n)) (fun n => d (ix3 (j 0) (j 1) n)) (fun n => w (ix2 (j 2) n)) := by
  funext j
  idx_vars j
  unfold da
  pointwise [val_main_v22, val_main_v21, val_main_v20, val_main_cst_3, val_main_v19, val_main_v18, val_main_v14, val_main_v13, val_main_v12, val_main_v7, val_main_v6, val_main_cst_1, val_main_v4,
    val_main_cst_0, val_main_v3, val_main_v2, val_main_cst, val_main_v1, val_main_v0, val_main_call0_v0, val_main_call0_cst]

theorem ref_dgt (a : S2x2048x4096.Idx → EReal) (w : S4096x1024.Idx → EReal) (d : S2x2048x1024.Idx → EReal) :
    (val_main_v17 (F := Ideal) a w d : S2x1x1024.Idx → EReal) = fun j : S2x1x1024.Idx => dgt a w d (j 0) (j 2) := by
  funext j
  idx_vars j
  unfold dgt prod
  pointwise [val_main_v17, val_main_v16, val_main_cst_2, val_main_v15, val_main_v12, val_main_v8, val_main_v5, val_main_v1, val_main_v0, val_main_call0_v0, val_main_call0_cst]

end

/-- The reference leaves its arguments and its counters alone. -/
theorem frame_ref : Cert.quiescent_MlpOutRefIdeal := fun m ρ _ =>
  (θ_run Cert.MlpOutRefIdeal.defs _ _).mono (fun r h => ⟨fun c => (h c).2.2.2,
      Idealize.ShloMosaic.sem_eq_zero_of_no_sems (by decide) r.2⟩)
    (Cert.MlpOutRefIdeal.Value.run (F := Ideal) m ρ)

/-- The values the two calls leave agree. -/
theorem algebraic : Cert.algebraic_MlpOutIdeal_MlpOutRefIdeal := by
  intro m ρ m' ρ' _ hag
  refine ⟨fun c => (Cert.MlpOutIdeal.Gen.dats m 0 c).arrAt 6 Cert.MlpOutIdeal.cfg0.N, fun c => (Cert.MlpOutIdeal.Gen.dats m 0 c).arrAt 7 Cert.MlpOutIdeal.cfg0.N,
    fun c => (Cert.MlpOutIdeal.Gen.dats m 0 c).arrAt 8 Cert.MlpOutIdeal.cfg0.N, Cert.MlpOutIdeal.Value.run_blocks (F := Ideal) m ρ, ?_⟩
  refine (θ_run _ _ _).mono (fun _ h c => ⟨(h c).1.trans ?_, (h c).2.1.trans ?_, (h c).2.2.1.trans ?_, (h c).2.2.2⟩)
    (Cert.MlpOutRefIdeal.Value.run (F := Ideal) m' ρ')
  · rw [(hag c).2.2.2.2]
    exact (final_dh m c).symm
  · rw [(hag c).2.1, (hag c).2.2.1, (hag c).2.2.2.1, (hag c).2.2.2.2]
    exact ((Cert.MlpOutRefIdeal.Read.val_main_v22_eq (F := Ideal) _ _ _ _).trans (ref_da _ _ _ _)).trans (final_da m c).symm
  · rw [(hag c).2.1, (hag c).2.2.2.1, (hag c).2.2.2.2]
    exact ((Cert.MlpOutRefIdeal.Read.val_main_v17_eq (F := Ideal) _ _ _).trans (ref_dgt _ _ _)).trans (final_dgt m c).symm

end Cert.Proof.MlpOut

end
-- ==== Proof.MlpOutWArray.lean ====
/- The gradient of the MLP's output weights: the kernel's array, summed over its eight points, is the reference's product over all tokens. -/
module

public import proofs.«01_k».proof.Proof.Gen.MlpOutWIdeal.Value
public import Idealize.ShloMosaic.Lib.Pipeline.ValueKit

@[expose] public section

set_option maxRecDepth 16384

noncomputable section

namespace Cert.Proof.MlpOutW

open Idealize.ShloMosaic Idealize.ShloMosaic.TcCoe Idealize.SL.Sem
open Cert.MlpOutWIdeal Cert.MlpOutWIdeal.Gen

variable (m : (ℓ : Loc nD τ sig) → Buf (Elt Ideal) ℓ)

theorem idx1 : ∀ t : Fin cfg0.N, win0_1.index t = ![t.val / 4, t.val % 4, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![0, 0] := (by decide +kernel : ∀ t : Fin grid0.N, _)

/-- A token's factor of the weight's gradient: the square of the positive part, times the gated cotangent. -/
def term (a g d : EReal) : EReal := (max a 0 * max a 0) * (g * d)

theorem pay1_apply (v0 : Vec Ideal S1x512x4096 .f32) (v2 : Vec Ideal S1x1x1024 .f32) (v4 : Vec Ideal S1x512x1024 .f32) (k : Fin 4096) (n : Fin 1024) :
    k0_pay1 v0 v2 v4 (ix2 k n) = ∑ s : Fin 512, term (v0 (ix3 0 s k)) (v2 (ix3 0 0 n)) (v4 (ix3 0 s n)) := by
  pointwise [k0_pay1, term]

theorem pay2_apply (v0 : Vec Ideal S1x512x4096 .f32) (v2 : Vec Ideal S1x1x1024 .f32) (v4 : Vec Ideal S1x512x1024 .f32) (v24 : Vec Ideal S4096x1024 .f32) (j : S4096x1024.Idx) :
    k0_pay2 v0 v2 v4 v24 j = v24 j + k0_pay1 v0 v2 v4 j := by
  pointwise [k0_pay2]

theorem flush4 : ∀ t : Fin cfg0.N, (cfg0.win 4).flush t = true → t.val + 1 = cfg0.N := (by decide +kernel : ∀ t : Fin grid0.N, _)

/-- The gradient at hidden channel `k` and output channel `n`. -/
def grad (a : S2x2048x4096.Idx → EReal) (g : S2x1x1024.Idx → EReal) (d : S2x2048x1024.Idx → EReal) (k : Fin 4096) (n : Fin 1024) : EReal :=
  ∑ b : Fin 2, ∑ s : Fin 2048, term (a (ix3 b s k)) (g (ix3 b 0 n)) (d (ix3 b s n))

theorem final (c : Dev nD) :
    ((dats m 0 c).arrAt 4 cfg0.N : S4096x1024.Idx → EReal) = fun j : S4096x1024.Idx =>
      grad (m ((c : Thread nD τ).loc main_arg1)) (m ((c : Thread nD τ).loc main_arg2)) (m ((c : Thread nD τ).loc main_arg4)) (j 0) (j 1) := by
  have hN : cfg0.N = 8 := N_0
  refine (dats m 0 c).arrAt_eq_of_covers 4 _ (by decide +kernel) fun u hf y => ?_
  blk_simp
  rw [after0_4, Pipeline.eq_sum_fin_of_reset_step_apply_last (fun n h => outsAt0 m c n h) 8 (fun _ => 0) _
    (fun t h j => by rw [outsAt0_A m c t h (by have := t.isLt; omega)]; frame_out; exact (zero_add _).symm)
    (fun t h j => by rw [outsAt0_B m c t h (by omega)]; frame_out; rw [pay2_apply])
    (le_of_eq N_0) u (flush4 u hf) y, zero_add]
  idx_vars y
  simp only [pay1_apply]
  unfold grad
  refine Fin.sum_points_lanes_congr 4 fun t k ha hl => ?_
  refine congr (congr (congrArg term ?_) ?_) ?_ <;> blk_ext [iblk, V, idx1 t, idx2 t, idx3 t, idx4 u]

end Cert.Proof.MlpOutW

end
-- ==== Proof.MlpOutW.lean ====
/- The gradient of the MLP's output weights: the kernel's array is the reference's product over all tokens. -/
module

public import proofs.«01_k».proof.Defs
public import proofs.«01_k».proof.Proof.MlpOutWArray
public import proofs.«01_k».proof.Proof.Gen.MlpOutWRefIdeal.Read
public import Idealize.ShloMosaic.Lib.Quiescent

@[expose] public section

set_option maxRecDepth 16384

noncomputable section

namespace Cert.Proof.MlpOutW

open Idealize.ShloMosaic Idealize.ShloMosaic.TcCoe Idealize.SL.Sem

section

open Cert.MlpOutWRefIdeal Cert.MlpOutWRefIdeal.Read

theorem ref_apply (a : S2x2048x4096.Idx → EReal) (g : S2x1x1024.Idx → EReal) (d : S2x2048x1024.Idx → EReal) :
    (val_main_v10 (F := Ideal) a g d : S4096x1024.Idx → EReal) = fun j : S4096x1024.Idx => grad a g d (j 0) (j 1) := by
  funext j
  idx_vars j
  unfold grad
  pointwise [val_main_v10, val_main_v9, val_main_v8, val_main_v7, val_main_v2, val_main_v1, val_main_call0_v0, val_main_call0_cst, term]
  exact Finset.sum_congr rfl fun _ _ => Finset.sum_congr rfl fun _ _ => mul_comm _ _

end

/-- The reference leaves its arguments and its counters alone. -/
theorem frame_ref : Cert.quiescent_MlpOutWRefIdeal := fun m ρ _ =>
  (θ_run Cert.MlpOutWRefIdeal.defs _ _).mono (fun r h => ⟨fun c => (h c).2,
      Idealize.ShloMosaic.sem_eq_zero_of_no_sems (by decide) r.2⟩)
    (Cert.MlpOutWRefIdeal.Value.run (F := Ideal) m ρ)

theorem algebraic : Cert.algebraic_MlpOutWIdeal_MlpOutWRefIdeal := by
  intro m ρ m' ρ' _ hag
  refine ⟨fun c => (Cert.MlpOutWIdeal.Gen.dats m 0 c).arrAt 4 Cert.MlpOutWIdeal.cfg0.N, Cert.MlpOutWIdeal.Value.run_blocks (F := Ideal) m ρ, ?_⟩
  refine (θ_run _ _ _).mono (fun _ h c => ⟨(h c).1.trans ?_, (h c).2⟩) (Cert.MlpOutWRefIdeal.Value.run (F := Ideal) m' ρ')
  rw [(hag c).2.1, (hag c).2.2.1, (hag c).2.2.2.2]
  exact ((Cert.MlpOutWRefIdeal.Read.val_main_v10_eq _ _ _).trans (ref_apply _ _ _)).trans (final m c).symm

end Cert.Proof.MlpOutW

end
-- ==== Proof.MlpSpec.lean ====
/- The MLP's norm and modulation of one token, as plain formulas. -/
module

public import Idealize.ShloMosaic.Lib.Pipeline.ValueKit

@[expose] public section

noncomputable section

namespace Cert.MlpSpec

open Idealize.ShloMosaic

/-- A token's normaliser: one over the root of its mean square plus the small constant. -/
def rinv (f : Fin 1024 → EReal) : EReal :=
  Ideal.rsqrt (Ideal.div (∑ k : Fin 1024, f k * f k) (Ideal.ofBits .f32 1149239296#32) + Ideal.ofBits .f32 897988541#32)

/-- A token normalised, scaled by the gain and the modulation, and shifted. -/
def modulated (f : Fin 1024 → EReal) (g sc sh : EReal) (k : Fin 1024) : EReal := f k * rinv f * g * (1 + sc) + sh

/-- Column `n` of slab `a`. -/
def col (a : Fin 4) (n : Fin 1024) : Fin 4096 := ⟨1024 * a.val + n.val, by omega⟩

end Cert.MlpSpec

end
-- ==== Proof.MlpInWArray.lean ====
/- The gradient of the MLP's input weights: the kernel's four slabs, summed over its eight points. -/
module

public import proofs.«01_k».proof.Proof.Gen.MlpInWIdeal.Value
public import proofs.«01_k».proof.Proof.MlpSpec
public import Idealize.ShloMosaic.Lib.Pipeline.ReadBack

@[expose] public section

set_option maxRecDepth 16384

noncomputable section

namespace Cert.Proof.MlpInW

open Idealize.ShloMosaic Idealize.ShloMosaic.TcCoe Idealize.SL.Sem
open Cert.MlpInWIdeal Cert.MlpInWIdeal.Gen Cert.MlpSpec

variable (m : (ℓ : Loc nD τ sig) → Buf (Elt Ideal) ℓ)

theorem idx0 : ∀ t : Fin cfg0.N, win0_0.index t = ![t.val / 4, t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 4, t.val % 4, 0] := (by decide +kernel : ∀ t : Fin grid0.N, _)
theorem idx5 : ∀ t : Fin cfg0.N, win0_5.index t = ![0, 0, 0] := (by decide +kernel : ∀ t : Fin grid0.N, _)

theorem flush5 : ∀ t : Fin cfg0.N, (cfg0.win 5).flush t = true → t.val + 1 = cfg0.N := (by decide +kernel : ∀ t : Fin grid0.N, _)

/-- What one point adds at row `k`, column `n` of slab `a`. -/
def part (v0 : Vec Ideal S1x512x1024 .f32) (v2 v4 : Vec Ideal S1x1x1024 .f32) (v6 : Vec Ideal S1x1024 .f32) (v7 : Vec Ideal S1x512x4096 .bf16) (j : S4x1024x1024.Idx) : EReal :=
  ∑ s : Fin 512, modulated (fun k => v0 (ix3 0 s k)) (v6 (ix2 0 (j 1))) (v2 (ix3 0 0 (j 1))) (v4 (ix3 0 0 (j 1))) (j 1) * v7 (ix3 0 s (col (j 0) (j 2)))

section

variable (v0 : Vec Ideal S1x512x1024 .f32) (v2 v4 : Vec Ideal S1x1x1024 .f32) (v6 : Vec Ideal S1x1024 .f32) (v7 : Vec Ideal S1x512x4096 .bf16) (x : S1x1024x1024.Idx) (w : Vec Ideal S1x1024x1024 .f32)

theorem pay12_apply : k0_pay12 (k0_pay3 v0 v2 v4 v6) (k0_pay4 v7) x = part v0 v2 v4 v6 v7 (ix3 0 (x 1) (x 2)) := by
  idx_vars x
  pointwise [k0_pay12, k0_pay11, k0_pay4, k0_pay3, k0_pay2, part, modulated, rinv, col]

theorem pay14_apply : k0_pay14 (k0_pay3 v0 v2 v4 v6) (k0_pay5 v7) x = part v0 v2 v4 v6 v7 (ix3 1 (x 1) (x 2)) := by
  idx_vars x
  pointwise [k0_pay14, k0_pay10, k0_pay5, k0_pay3, k0_pay2, part, modulated, rinv, col]

theorem pay16_apply : k0_pay16 (k0_pay7 v0 v2 v4 v6) (k0_pay8 v7) (constant S1024x1024 FTy.f32 0#32) x = part v0 v2 v4 v6 v7 (ix3 2 (x 1) (x 2)) := by
  idx_vars x
  pointwise [k0_pay16, k0_pay9, k0_pay7, k0_pay8, k0_pay3, k0_pay2, part, modulated, rinv, col]

theorem pay18_apply : k0_pay18 (k0_pay6 v0 v2 v4 v6 v7) x = part v0 v2 v4 v6 v7 (ix3 3 (x 1) (x 2)) := by
  idx_vars x
  pointwise [k0_pay18, k0_pay6, k0_pay3, k0_pay2, part, modulated, rinv, col]

theorem pay13_apply : k0_pay13 (k0_pay3 v0 v2 v4 v6) (k0_pay4 v7) w x = w x + k0_pay12 (k0_pay3 v0 v2 v4 v6) (k0_pay4 v7) x := by
  idx_vars x
  have e0 : x0 = 0 := Subsingleton.elim _ _
  subst e0
  pointwise [k0_pay13, k0_pay12]

theorem pay15_apply : k0_pay15 (k0_pay3 v0 v2 v4 v6) (k0_pay5 v7) w x = w x + k0_pay14 (k0_pay3 v0 v2 v4 v6) (k0_pay5 v7) x := by
  idx_vars x
  have e0 : x0 = 0 := Subsingleton.elim _ _
  subst e0
  pointwise [k0_pay15, k0_pay14]

theorem pay17_apply : k0_pay17 (k0_pay7 v0 v2 v4 v6) (k0_pay8 v7) (constant S1024x1024 FTy.f32 0#32) w x = w x + k0_pay16 (k0_pay7 v0 v2 v4 v6) (k0_pay8 v7) (constant S1024x1024 FTy.f32 0#32) x := by
  idx_vars x
  have e0 : x0 = 0 := Subsingleton.elim _ _
  subst e0
  pointwise [k0_pay17, k0_pay16]

theorem pay1_apply : k0_pay1 (k0_pay6 v0 v2 v4 v6 v7) w x = w x + k0_pay18 (k0_pay6 v0 v2 v4 v6 v7) x := by
  idx_vars x
  have e0 : x0 = 0 := Subsingleton.elim _ _
  subst e0
  pointwise [k0_pay1, k0_pay18]

end

/-- What point `t` adds. -/
def add (c : Dev nD) (t : Fin cfg0.N) (j : S4x1024x1024.Idx) : EReal :=
  part (iblk m c 0 t) (iblk m c 1 t) (iblk m c 2 t) (iblk m c 3 t) (iblk m c 4 t) j

theorem slab_ix (a : Fin 4) (x : S1x1024x1024.Idx) (j : S4x1024x1024.Idx) (h0 : (j 0).val = a.val) (h1 : (j 1).val = (x 1).val) (h2 : (j 2).val = (x 2).val) :
    (ix3 a (x 1) (x 2) : S4x1024x1024.Idx) = j := by
  funext q
  match q with
  | ⟨0, _⟩ => exact Fin.ext h0.symm
  | ⟨1, _⟩ => exact Fin.ext h1.symm
  | ⟨2, _⟩ => exact Fin.ext h2.symm

theorem step_A (c : Dev nD) (t : Fin cfg0.N) (h : t.val % 8 = 0) (j : S4x1024x1024.Idx) : outsAt0 m c t.val t.isLt j = add m c t j := by
  have hN : cfg0.N = 8 := N_0
  have h' : ¬ 1 ≤ t.val := by have := t.isLt; omega
  rw [outsAt0_A m c t h h' h h' h h' h h']
  frame_out
  canon_tiles x i
  · rw [pay18_apply, slab_ix 3 x j (by omega) (by omega) (by omega)]; rfl
  · rw [pay16_apply, slab_ix 2 x j (by omega) (by omega) (by omega)]; rfl
  · rw [pay14_apply, slab_ix 1 x j (by omega) (by omega) (by omega)]; rfl
  · rw [pay12_apply, slab_ix 0 x j (by omega) (by omega) (by omega)]; rfl

theorem step_B (c : Dev nD) (t : Fin cfg0.N) (h : ¬ t.val % 8 = 0) (j : S4x1024x1024.Idx) :
    outsAt0 m c t.val t.isLt j = outsAt0 m c (t.val - 1) (lt_of_le_of_lt (Nat.sub_le _ _) t.isLt) j + add m c t j := by
  have h' : 1 ≤ t.val := by omega
  rw [outsAt0_B m c t h h' h h' h h' h h']
  frame_open
  simp (disch := decide) only [↓ View.readCov_skip, ↓ View.readCov_cons_toLoadRect, ↓ View.readCov_fill]
  frame_out
  canon_tiles x i
  · rw [pay1_apply, pay18_apply, slab_ix 3 x j (by omega) (by omega) (by omega)]
    refine congrArg (· + _) (View.ld_unit_apply_of _ _ _ _ _ j fun q => ?_)
    match q with
    | ⟨0, _⟩ => show (j 0).val = 3 + (x 0).val; omega
    | ⟨1, _⟩ => show (j 1).val = 0 + (x 1).val; omega
    | ⟨2, _⟩ => show (j 2).val = 0 + (x 2).val; omega
  · rw [pay17_apply, pay16_apply, slab_ix 2 x j (by omega) (by omega) (by omega)]
    refine congrArg (· + _) (View.ld_unit_apply_of _ _ _ _ _ j fun q => ?_)
    match q with
    | ⟨0, _⟩ => show (j 0).val = 2 + (x 0).val; omega
    | ⟨1, _⟩ => show (j 1).val = 0 + (x 1).val; omega
    | ⟨2, _⟩ => show (j 2).val = 0 + (x 2).val; omega
  · rw [pay15_apply, pay14_apply, slab_ix 1 x j (by omega) (by omega) (by omega)]
    refine congrArg (· + _) (View.ld_unit_apply_of _ _ _ _ _ j fun q => ?_)
    match q with
    | ⟨0, _⟩ => show (j 0).val = 1 + (x 0).val; omega
    | ⟨1, _⟩ => show (j 1).val = 0 + (x 1).val; omega
    | ⟨2, _⟩ => show (j 2).val = 0 + (x 2).val; omega
  · rw [pay13_apply, pay12_apply, slab_ix 0 x j (by omega) (by omega) (by omega)]
    refine congrArg (· + _) (View.ld_unit_apply_of _ _ _ _ _ j fun q => ?_)
    match q with
    | ⟨0, _⟩ => show (j 0).val = 0 + (x 0).val; omega
    | ⟨1, _⟩ => show (j 1).val = 0 + (x 1).val; omega
    | ⟨2, _⟩ => show (j 2).val = 0 + (x 2).val; omega

theorem emb5 (u : Fin cfg0.N) (y : S4x1024x1024.Idx) : (win0_5.blk u).view.emb y = y := by
  blk_ext [idx5 u]

/-- The gradient at row `k`, column `n` of slab `a`. -/
def grad (h : S2x2048x1024.Idx → EReal) (sc sh : S2x1x1024.Idx → EReal) (g : S1x1024.Idx → EReal) (d : S2x2048x4096.Idx → EReal) (a : Fin 4) (k n : Fin 1024) : EReal :=
  ∑ b : Fin 2, ∑ s : Fin 2048, modulated (fun k => h (ix3 b s k)) (g (ix2 0 k)) (sc (ix3 b 0 k)) (sh (ix3 b 0 k)) k * d (ix3 b s (col a n))

theorem final (c : Dev nD) :
    ((dats m 0 c).arrAt 5 cfg0.N : S4x1024x1024.Idx → EReal) = fun j : S4x1024x1024.Idx =>
      grad (m ((c : Thread nD τ).loc main_arg0)) (m ((c : Thread nD τ).loc main_arg1)) (m ((c : Thread nD τ).loc main_arg2)) (m ((c : Thread nD τ).loc main_arg3)) (m ((c : Thread nD τ).loc main_arg5)) (j 0) (j 1) (j 2) := by
  have hN : cfg0.N = 8 := N_0
  refine (dats m 0 c).arrAt_eq_of_covers 5 _ (by decide +kernel) fun u hf y => ?_
  blk_simp
  rw [after0_5, Pipeline.eq_sum_fin_of_reset_step_apply_last (fun n h => outsAt0 m c n h) 8 (fun _ => 0) (fun t => add m c t)
    (fun t h j => by rw [step_A m c t h]; exact (zero_add _).symm)
    (fun t h j => step_B m c t h j)
    (le_of_eq N_0) u (flush5 u hf) y, zero_add]
  idx_vars y
  rw [emb5]
  unfold grad add part
  refine Fin.sum_points_lanes_congr 4 fun t k ha hl => ?_
  refine congr (congrArg HMul.hMul (congr (congr (congr (congr (congrArg modulated (funext fun k' => ?_)) ?_) ?_) ?_) ?_)) ?_
  · blk_ext [iblk, V, idx0 t]
  · blk_ext [iblk, V, idx3 t]
  · blk_ext [iblk, V, idx1 t]
  · blk_ext [iblk, V, idx2 t]
  · rfl
  · unfold col
    blk_ext [iblk, V, idx4 t]

end Cert.Proof.MlpInW

end
-- ==== Proof.MlpInW.lean ====
/- The gradient of the MLP's input weights: the kernel's slabs are the reference's product over all tokens. -/
module

public import proofs.«01_k».proof.Defs
public import proofs.«01_k».proof.Proof.MlpInWArray
public import proofs.«01_k».proof.Proof.Gen.MlpInWRefIdeal.Read
public import Idealize.ShloMosaic.Lib.Quiescent

@[expose] public section

set_option maxRecDepth 16384

noncomputable section

namespace Cert.Proof.MlpInW

open Idealize.ShloMosaic Idealize.ShloMosaic.TcCoe Idealize.SL.Sem Cert.MlpSpec

section

open Cert.MlpInWRefIdeal Cert.MlpInWRefIdeal.Read

theorem ref_apply (h : S2x2048x1024.Idx → EReal) (sc sh : S2x1x1024.Idx → EReal) (g : S1x1024.Idx → EReal) (d : S2x2048x4096.Idx → EReal) :
    (val_main_v28 (F := Ideal) h sc sh g d : S4x1024x1024.Idx → EReal) = fun j : S4x1024x1024.Idx => grad h sc sh g d (j 0) (j 1) (j 2) := by
  funext j
  idx_vars j
  unfold grad
  pointwise [val_main_v28, val_main_v27, val_main_v26, val_main_v25, val_main_v24, val_main_v22, val_main_v21, val_main_v20, val_main_v19, val_main_v18, val_main_v17, val_main_cst_2,
    val_main_v16, val_main_v15, val_main_v14, val_main_v13, val_main_v12, val_main_v11, val_main_v10, val_main_v9, val_main_cst_1, val_main_v8, val_main_v7, val_main_cst_0,
    val_main_v6, val_main_v5, val_main_cst, val_main_v4, val_main_v3, modulated, rinv, col]
  refine Finset.sum_congr rfl fun _ _ => Finset.sum_congr rfl fun _ _ => ?_
  refine (mul_comm (_ : EReal) _).trans (congrArg (HMul.hMul _) (congrArg d (congrArg (ix3 _ _) (Fin.ext ?_))))
  show j0.val * 1024 + j2.val = 1024 * j0.val + j2.val
  omega

end

/-- The reference leaves its arguments and its counters alone. -/
theorem frame_ref : Cert.quiescent_MlpInWRefIdeal := fun m ρ _ =>
  (θ_run Cert.MlpInWRefIdeal.defs _ _).mono (fun r h => ⟨fun c => (h c).2,
      Idealize.ShloMosaic.sem_eq_zero_of_no_sems (by decide) r.2⟩)
    (Cert.MlpInWRefIdeal.Value.run (F := Ideal) m ρ)

theorem algebraic : Cert.algebraic_MlpInWIdeal_MlpInWRefIdeal := by
  intro m ρ m' ρ' _ hag
  refine ⟨fun c => (Cert.MlpInWIdeal.Gen.dats m 0 c).arrAt 5 Cert.MlpInWIdeal.cfg0.N, Cert.MlpInWIdeal.Value.run_blocks (F := Ideal) m ρ, ?_⟩
  refine (θ_run _ _ _).mono (fun _ h c => ⟨(h c).1.trans ?_, (h c).2⟩) (Cert.MlpInWRefIdeal.Value.run (F := Ideal) m' ρ')
  rw [(hag c).1, (hag c).2.1, (hag c).2.2.1, (hag c).2.2.2.1, (hag c).2.2.2.2.2]
  exact ((Cert.MlpInWRefIdeal.Read.val_main_v28_eq _ _ _ _ _).trans (ref_apply _ _ _ _ _)).trans (final m c).symm

end Cert.Proof.MlpInW

end
-- ==== Proof.MlpInArray.lean ====
/- The arrays the MLP's input backward kernel leaves. -/
module

public import proofs.«01_k».proof.Proof.Gen.MlpInIdeal.Value
public import proofs.«01_k».proof.Proof.MlpSpec
public import Idealize.ShloMosaic.Lib.Pipeline.ReadBack

@[expose] public section

set_option maxRecDepth 16384

noncomputable section

namespace Cert.Proof.MlpIn

open Idealize.ShloMosaic Idealize.ShloMosaic.TcCoe Idealize.SL.Sem
open Cert.MlpInIdeal Cert.MlpInIdeal.Gen Cert.MlpSpec

variable (m : (ℓ : Loc nD τ sig) → Buf (Elt Ideal) ℓ)

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val / 8, t.val % 8, 0] := (by decide +kernel : ∀ t : Fin grid0.N, _)
theorem idx6 : ∀ t : Fin cfg0.N, win0_6.index t = ![t.val / 8, t.val % 8, 0] := (by decide +kernel : ∀ t : Fin grid0.N, _)
theorem idx7 : ∀ t : Fin cfg0.N, win0_7.index t = ![t.val / 8, t.val % 8, 0] := (by decide +kernel : ∀ t : Fin grid0.N, _)
theorem idx8 : ∀ t : Fin cfg0.N, win0_8.index t = ![t.val / 8, 0, 0] := (by decide +kernel : ∀ t : Fin grid0.N, _)
theorem idx9 : ∀ t : Fin cfg0.N, win0_9.index t = ![t.val / 8, 0, 0] := (by decide +kernel : ∀ t : Fin grid0.N, _)
theorem idx10 : ∀ t : Fin cfg0.N, win0_10.index t = ![0, 0] := (by decide +kernel : ∀ t : Fin grid0.N, _)

theorem flush8 : ∀ t : Fin cfg0.N, (cfg0.win 8).flush t = true → t.val % 8 = 7 := (by decide +kernel : ∀ t : Fin grid0.N, _)
theorem flush9 : ∀ t : Fin cfg0.N, (cfg0.win 9).flush t = true → t.val % 8 = 7 := (by decide +kernel : ∀ t : Fin grid0.N, _)
theorem flush10 : ∀ t : Fin cfg0.N, (cfg0.win 10).flush t = true → t.val + 1 = cfg0.N := (by decide +kernel : ∀ t : Fin grid0.N, _)

/-- One token's cotangent of the product's input at channel `k`, from the token's hidden cotangent `d` and the four slabs of weights. -/
def du (d : Fin 4096 → EReal) (w : Fin 4 → Fin 1024 → Fin 1024 → EReal) (k : Fin 1024) : EReal :=
  ∑ n, d (col 3 n) * w 3 k n + ∑ n, d (col 2 n) * w 2 k n + ∑ n, d (col 1 n) * w 1 k n + ∑ n, d (col 0 n) * w 0 k n

/-- The normaliser's derivative by the mean square. -/
def dinv (f : Fin 1024 → EReal) : EReal :=
  Ideal.ofBits .f32 3204448256#32 * Ideal.div (rinv f) (Ideal.div (∑ k : Fin 1024, f k * f k) (Ideal.ofBits .f32 1149239296#32) + Ideal.ofBits .f32 897988541#32)

/-- The mean square's cotangent, from the cotangent `t` of the normalised token. -/
def dmean (f t : Fin 1024 → EReal) : EReal :=
  Ideal.div ((∑ k : Fin 1024, f k * t k) * dinv f) (Ideal.ofBits .f32 1149239296#32)

/-- The token's cotangent at channel `k`, added to the residual's. -/
def dtok (f t r : Fin 1024 → EReal) (k : Fin 1024) : EReal :=
  t k * rinv f + f k * dmean f t + dmean f t * f k + r k

section

variable (v0 v6 : Vec Ideal S1x256x1024 .f32) (v2 : Vec Ideal S1x1x1024 .f32) (v4 : Vec Ideal S1x1024 .f32) (v5 : Vec Ideal S1x256x4096 .bf16) (w0 w1 w2 w3 : Vec Ideal S1x1024x1024 .bf16)

/-- The four slabs as one table. -/
def slabs (a : Fin 4) (k n : Fin 1024) : EReal :=
  match a with
  | 0 => w0 (ix3 0 k n)
  | 1 => w1 (ix3 0 k n)
  | 2 => w2 (ix3 0 k n)
  | 3 => w3 (ix3 0 k n)

/-- The token's cotangent before the norm. -/
def dn (d : Fin 4096 → EReal) (w : Fin 4 → Fin 1024 → Fin 1024 → EReal) (sc : Fin 1024 → EReal) (k : Fin 1024) : EReal :=
  du d w k * (1 + sc k)

theorem pay19_apply (k : Fin 1024) :
    k0_pay4 (k0_pay19 (k0_pay8 v5) (k0_pay15 w0) (k0_pay16 w1) (k0_pay17 w2) w3) (ix3 0 0 k) = ∑ s : Fin 256, du (fun n => v5 (ix3 0 s n)) (slabs w0 w1 w2 w3) k := by
  pointwise [k0_pay4, k0_pay19, k0_pay18, k0_pay8, k0_pay15, k0_pay16, k0_pay17, du, slabs, col]

theorem pay20_apply (k : Fin 1024) :
    k0_pay2 (k0_pay20 (k0_pay8 v5) (k0_pay13 v0 v4) (k0_pay15 w0) (k0_pay16 w1) (k0_pay17 w2) w3) (ix3 0 0 k)
      = ∑ s : Fin 256, v0 (ix3 0 s k) * rinv (fun k => v0 (ix3 0 s k)) * v4 (ix2 0 k) * du (fun n => v5 (ix3 0 s n)) (slabs w0 w1 w2 w3) k := by
  pointwise [k0_pay2, k0_pay20, k0_pay18, k0_pay13, k0_pay12, k0_pay10, k0_pay9, k0_pay7, k0_pay8, k0_pay15, k0_pay16, k0_pay17, du, slabs, col, rinv]

theorem pay22_apply (k : Fin 1024) :
    k0_pay22 (k0_pay8 v5) (k0_pay12 v0) (k0_pay14 v2) (k0_pay15 w0) (k0_pay16 w1) (k0_pay17 w2) w3 (ix2 0 k)
      = ∑ s : Fin 256, v0 (ix3 0 s k) * rinv (fun k => v0 (ix3 0 s k)) * dn (fun n => v5 (ix3 0 s n)) (slabs w0 w1 w2 w3) (fun k => v2 (ix3 0 0 k)) k := by
  pointwise [k0_pay22, k0_pay21, k0_pay14, k0_pay18, k0_pay12, k0_pay10, k0_pay9, k0_pay7, k0_pay8, k0_pay15, k0_pay16, k0_pay17, dn, du, slabs, col, rinv]

theorem pay23_apply (s : Fin 256) (k : Fin 1024) :
    k0_pay1 (k0_pay23 (k0_pay7 v0) v4 (k0_pay8 v5) (k0_pay10 v0) (k0_pay11 v0) (k0_pay14 v2) (k0_pay15 w0) (k0_pay16 w1) (k0_pay17 w2) w3) v6 (ix3 0 s k)
      = dtok (fun k => v0 (ix3 0 s k)) (fun k => dn (fun n => v5 (ix3 0 s n)) (slabs w0 w1 w2 w3) (fun k => v2 (ix3 0 0 k)) k * v4 (ix2 0 k)) (fun k => v6 (ix3 0 s k)) k := by
  pointwise [k0_pay1, k0_pay23, k0_pay21, k0_pay14, k0_pay18, k0_pay11, k0_pay10, k0_pay9, k0_pay7, k0_pay8, k0_pay15, k0_pay16, k0_pay17, dtok, dmean, dinv, dn, du, slabs, col, rinv]
  simp only [Finset.sum_const, Finset.card_univ, Fintype.card_fin, one_smul]

theorem pay3_apply (v : FVec Ideal S1x1024 .f32) (w : Vec Ideal S1x1x1024 .f32) (j : S1x1x1024.Idx) : k0_pay3 v w j = w j + k0_pay2 v j := by
  idx_vars j
  have e0 : j0 = 0 := Subsingleton.elim _ _
  have e1 : j1 = 0 := Subsingleton.elim _ _
  subst e0; subst e1
  pointwise [k0_pay3, k0_pay2]

theorem pay5_apply (v : FVec Ideal S1x1024 .f32) (w : Vec Ideal S1x1x1024 .f32) (j : S1x1x1024.Idx) : k0_pay5 v w j = w j + k0_pay4 v j := by
  idx_vars j
  have e0 : j0 = 0 := Subsingleton.elim _ _
  have e1 : j1 = 0 := Subsingleton.elim _ _
  subst e0; subst e1
  pointwise [k0_pay5, k0_pay4]

theorem pay6_apply (v w : FVec Ideal S1x1024 .f32) (j : S1x1024.Idx) : k0_pay6 v w j = w j + v j := by
  idx_vars j
  pointwise [k0_pay6]

end

theorem ld0 (u : Vec Ideal S4x1024x1024 .bf16) (k n : Fin 1024) : View.ld u (Rect.unit ![0, 0, 0] ![1, 1024, 1024] inb_S4x1024x1024_S1x1024x1024_0_0_0) (ix3 0 k n) = u (ix3 0 k n) :=
  View.ld_unit_apply_of u _ _ _ _ _ fun q => by
    match q with
    | ⟨0, _⟩ => rfl
    | ⟨1, _⟩ => exact (Nat.zero_add _).symm
    | ⟨2, _⟩ => exact (Nat.zero_add _).symm

theorem ld1 (u : Vec Ideal S4x1024x1024 .bf16) (k n : Fin 1024) : View.ld u (Rect.unit ![1, 0, 0] ![1, 1024, 1024] inb_S4x1024x1024_S1x1024x1024_1_0_0) (ix3 0 k n) = u (ix3 1 k n) :=
  View.ld_unit_apply_of u _ _ _ _ _ fun q => by
    match q with
    | ⟨0, _⟩ => rfl
    | ⟨1, _⟩ => exact (Nat.zero_add _).symm
    | ⟨2, _⟩ => exact (Nat.zero_add _).symm

theorem ld2 (u : Vec Ideal S4x1024x1024 .bf16) (k n : Fin 1024) : View.ld u (Rect.unit ![2, 0, 0] ![1, 1024, 1024] inb_S4x1024x1024_S1x1024x1024_2_0_0) (ix3 0 k n) = u (ix3 2 k n) :=
  View.ld_unit_apply_of u _ _ _ _ _ fun q => by
    match q with
    | ⟨0, _⟩ => rfl
    | ⟨1, _⟩ => exact (Nat.zero_add _).symm
    | ⟨2, _⟩ => exact (Nat.zero_add _).symm

theorem ld3 (u : Vec Ideal S4x1024x1024 .bf16) (k n : Fin 1024) : View.ld u (Rect.unit ![3, 0, 0] ![1, 1024, 1024] inb_S4x1024x1024_S1x1024x1024_3_0_0) (ix3 0 k n) = u (ix3 3 k n) :=
  View.ld_unit_apply_of u _ _ _ _ _ fun q => by
    match q with
    | ⟨0, _⟩ => rfl
    | ⟨1, _⟩ => exact (Nat.zero_add _).symm
    | ⟨2, _⟩ => exact (Nat.zero_add _).symm

section

variable (c : Dev nD) (t : Fin cfg0.N)

/-- The four slabs of weights a point loads. -/
def slab0 : Vec Ideal S1x1024x1024 .bf16 := View.ld (iblk m c 4 t) (Rect.unit ![0, 0, 0] ![1, 1024, 1024] inb_S4x1024x1024_S1x1024x1024_0_0_0)
def slab1 : Vec Ideal S1x1024x1024 .bf16 := View.ld (iblk m c 4 t) (Rect.unit ![1, 0, 0] ![1, 1024, 1024] inb_S4x1024x1024_S1x1024x1024_1_0_0)
def slab2 : Vec Ideal S1x1024x1024 .bf16 := View.ld (iblk m c 4 t) (Rect.unit ![2, 0, 0] ![1, 1024, 1024] inb_S4x1024x1024_S1x1024x1024_2_0_0)
def slab3 : Vec Ideal S1x1024x1024 .bf16 := View.ld (iblk m c 4 t) (Rect.unit ![3, 0, 0] ![1, 1024, 1024] inb_S4x1024x1024_S1x1024x1024_3_0_0)

theorem emb4 (y : S4x1024x1024.Idx) : (win0_4.blk t).view.emb y = y := by
  blk_ext [idx4 t]

theorem blk4 (a : Fin 4) (k n : Fin 1024) : iblk m c 4 t (ix3 a k n) = (m ((c : Thread nD τ).loc main_arg4) : S4x1024x1024.Idx → EReal) (ix3 a k n) := by
  blk_ext [iblk, V, idx4 t]

theorem slabs_eq : slabs (slab0 m c t) (slab1 m c t) (slab2 m c t) (slab3 m c t) = fun a k n => (m ((c : Thread nD τ).loc main_arg4) : S4x1024x1024.Idx → EReal) (ix3 a k n) := by
  funext a k n
  match a with
  | 0 => exact (ld0 _ k n).trans (blk4 m c t 0 k n)
  | 1 => exact (ld1 _ k n).trans (blk4 m c t 1 k n)
  | 2 => exact (ld2 _ k n).trans (blk4 m c t 2 k n)
  | 3 => exact (ld3 _ k n).trans (blk4 m c t 3 k n)

/-- What a point writes of the tokens' cotangents, and what it adds to the three sums. -/
def tok : Vec Ideal S1x256x1024 .f32 :=
  k0_pay1 (k0_pay23 (k0_pay7 (iblk m c 0 t)) (iblk m c 3 t) (k0_pay8 (iblk m c 5 t)) (k0_pay10 (iblk m c 0 t)) (k0_pay11 (iblk m c 0 t)) (k0_pay14 (iblk m c 1 t))
    (k0_pay15 (slab0 m c t)) (k0_pay16 (slab1 m c t)) (k0_pay17 (slab2 m c t)) (slab3 m c t)) (iblk m c 6 t)
def addSc : FVec Ideal S1x1024 .f32 :=
  k0_pay20 (k0_pay8 (iblk m c 5 t)) (k0_pay13 (iblk m c 0 t) (iblk m c 3 t)) (k0_pay15 (slab0 m c t)) (k0_pay16 (slab1 m c t)) (k0_pay17 (slab2 m c t)) (slab3 m c t)
def addSh : FVec Ideal S1x1024 .f32 :=
  k0_pay19 (k0_pay8 (iblk m c 5 t)) (k0_pay15 (slab0 m c t)) (k0_pay16 (slab1 m c t)) (k0_pay17 (slab2 m c t)) (slab3 m c t)
def addG : FVec Ideal S1x1024 .f32 :=
  k0_pay22 (k0_pay8 (iblk m c 5 t)) (k0_pay12 (iblk m c 0 t)) (k0_pay14 (iblk m c 1 t)) (k0_pay15 (slab0 m c t)) (k0_pay16 (slab1 m c t)) (k0_pay17 (slab2 m c t)) (slab3 m c t)

theorem out7 : (outsAt0 m c t.val t.isLt).1 = tok m c t := by
  have hN : cfg0.N = 16 := N_0
  have ht := t.isLt
  by_cases h : t.val % 8 = 0
  · by_cases h' : t.val % 16 = 0
    · rw [outsAt0_A m c t h (by omega) h (by omega) h' (by omega)]; frame_out; rfl
    · rw [outsAt0_C m c t h (by omega) h (by omega) h' (by omega)]; frame_out; rfl
  · rw [outsAt0_B m c t h (by omega) h (by omega) (by omega) (by omega)]; frame_out; rfl

theorem reset8 (h : t.val % 8 = 0) : (outsAt0 m c t.val t.isLt).2.1 = k0_pay2 (addSc m c t) := by
  have hN : cfg0.N = 16 := N_0
  have ht := t.isLt
  by_cases h' : t.val % 16 = 0
  · rw [outsAt0_A m c t h (by omega) h (by omega) h' (by omega)]; frame_out; rfl
  · rw [outsAt0_C m c t h (by omega) h (by omega) h' (by omega)]; frame_out; rfl

theorem step8 (h : ¬ t.val % 8 = 0) : (outsAt0 m c t.val t.isLt).2.1 = k0_pay3 (addSc m c t) (outsAt0 m c (t.val - 1) (Nat.lt_of_le_of_lt (Nat.sub_le _ _) t.isLt)).2.1 := by
  have hN : cfg0.N = 16 := N_0
  have ht := t.isLt
  rw [outsAt0_B m c t h (by omega) h (by omega) (by omega) (by omega)]; frame_out; rfl

theorem reset9 (h : t.val % 8 = 0) : (outsAt0 m c t.val t.isLt).2.2.1 = k0_pay4 (addSh m c t) := by
  have hN : cfg0.N = 16 := N_0
  have ht := t.isLt
  by_cases h' : t.val % 16 = 0
  · rw [outsAt0_A m c t h (by omega) h (by omega) h' (by omega)]; frame_out; rfl
  · rw [outsAt0_C m c t h (by omega) h (by omega) h' (by omega)]; frame_out; rfl

theorem step9 (h : ¬ t.val % 8 = 0) : (outsAt0 m c t.val t.isLt).2.2.1 = k0_pay5 (addSh m c t) (outsAt0 m c (t.val - 1) (Nat.lt_of_le_of_lt (Nat.sub_le _ _) t.isLt)).2.2.1 := by
  have hN : cfg0.N = 16 := N_0
  have ht := t.isLt
  rw [outsAt0_B m c t h (by omega) h (by omega) (by omega) (by omega)]; frame_out; rfl

theorem reset10 (h : t.val % 16 = 0) : (outsAt0 m c t.val t.isLt).2.2.2 = addG m c t := by
  have hN : cfg0.N = 16 := N_0
  have ht := t.isLt
  rw [outsAt0_A m c t (by omega) (by omega) (by omega) (by omega) h (by omega)]; frame_out; rfl

theorem step10 (h : ¬ t.val % 16 = 0) : (outsAt0 m c t.val t.isLt).2.2.2 = k0_pay6 (addG m c t) (outsAt0 m c (t.val - 1) (Nat.lt_of_le_of_lt (Nat.sub_le _ _) t.isLt)).2.2.2 := by
  have hN : cfg0.N = 16 := N_0
  have ht := t.isLt
  by_cases h' : t.val % 8 = 0
  · rw [outsAt0_C m c t h' (by omega) h' (by omega) h (by omega)]; frame_out; rfl
  · rw [outsAt0_B m c t h' (by omega) h' (by omega) h (by omega)]; frame_out; rfl

end

/-- The weights' four slabs as a table. -/
def table (w : S4x1024x1024.Idx → EReal) (a : Fin 4) (k n : Fin 1024) : EReal := w (ix3 a k n)

/-- The token's cotangent, from the whole arrays. -/
def gtok (h : S2x2048x1024.Idx → EReal) (sc : S2x1x1024.Idx → EReal) (g : S1x1024.Idx → EReal) (w : S4x1024x1024.Idx → EReal) (d : S2x2048x4096.Idx → EReal)
    (r : S2x2048x1024.Idx → EReal) (b : Fin 2) (s : Fin 2048) (k : Fin 1024) : EReal :=
  dtok (fun k => h (ix3 b s k)) (fun k => dn (fun n => d (ix3 b s n)) (table w) (fun k => sc (ix3 b 0 k)) k * g (ix2 0 k)) (fun k => r (ix3 b s k)) k

/-- The scale's gradient. -/
def gsc (h : S2x2048x1024.Idx → EReal) (g : S1x1024.Idx → EReal) (w : S4x1024x1024.Idx → EReal) (d : S2x2048x4096.Idx → EReal) (b : Fin 2) (k : Fin 1024) : EReal :=
  ∑ s : Fin 2048, h (ix3 b s k) * rinv (fun k => h (ix3 b s k)) * g (ix2 0 k) * du (fun n => d (ix3 b s n)) (table w) k

/-- The shift's gradient. -/
def gsh (w : S4x1024x1024.Idx → EReal) (d : S2x2048x4096.Idx → EReal) (b : Fin 2) (k : Fin 1024) : EReal :=
  ∑ s : Fin 2048, du (fun n => d (ix3 b s n)) (table w) k

/-- The gain's gradient. -/
def gg (h : S2x2048x1024.Idx → EReal) (sc : S2x1x1024.Idx → EReal) (w : S4x1024x1024.Idx → EReal) (d : S2x2048x4096.Idx → EReal) (k : Fin 1024) : EReal :=
  ∑ b : Fin 2, ∑ s : Fin 2048, h (ix3 b s k) * rinv (fun k => h (ix3 b s k)) * dn (fun n => d (ix3 b s n)) (table w) (fun k => sc (ix3 b 0 k)) k

theorem emb8 (t : Fin cfg0.N) (n : Fin 1024) :
    (win0_8.blk t).view.emb (ix3 0 0 n) = (ix3 ⟨t.val / 8, by have := t.isLt; have hN : cfg0.N = 16 := N_0; omega⟩ 0 n : S2x1x1024.Idx) := by
  blk_ext [idx8 t]

theorem emb9 (t : Fin cfg0.N) (n : Fin 1024) :
    (win0_9.blk t).view.emb (ix3 0 0 n) = (ix3 ⟨t.val / 8, by have := t.isLt; have hN : cfg0.N = 16 := N_0; omega⟩ 0 n : S2x1x1024.Idx) := by
  blk_ext [idx9 t]

theorem emb10 (t : Fin cfg0.N) (y : S1x1024.Idx) : (win0_10.blk t).view.emb y = y := by
  blk_ext [idx10 t]

theorem emb7 (t : Fin cfg0.N) (s : Fin 256) (n : Fin 1024) :
    (win0_7.blk t).view.emb (ix3 0 s n) = (ix3 ⟨t.val / 8, by have := t.isLt; have hN : cfg0.N = 16 := N_0; omega⟩ ⟨t.val % 8 * 256 + s.val, by omega⟩ n : S2x2048x1024.Idx) := by
  blk_ext [idx7 t]

theorem final_tok (c : Dev nD) : ((dats m 0 c).arrAt 7 cfg0.N : S2x2048x1024.Idx → EReal) = fun j : S2x2048x1024.Idx =>
    gtok (m ((c : Thread nD τ).loc main_arg0)) (m ((c : Thread nD τ).loc main_arg1)) (m ((c : Thread nD τ).loc main_arg3)) (m ((c : Thread nD τ).loc main_arg4))
      (m ((c : Thread nD τ).loc main_arg5)) (m ((c : Thread nD τ).loc main_arg6)) (j 0) (j 1) (j 2) := by
  refine (dats m 0 c).arrAt_eq_of_covers 7 _ (by decide +kernel) fun t hf y => ?_
  blk_simp
  rw [after0_7, out7]
  idx_vars y
  have e0 : y0 = 0 := Subsingleton.elim _ _
  subst e0
  rw [emb7]
  unfold tok
  rw [pay23_apply, slabs_eq]
  unfold gtok
  refine congr (congr (congr (congrArg dtok (funext fun k => ?_)) (funext fun k => congr (congrArg HMul.hMul (congr (congr (congr (congrArg dn (funext fun n => ?_)) rfl) (funext fun n => ?_)) rfl)) ?_)) (funext fun k => ?_)) rfl
  · blk_ext [iblk, V, idx0 t]
  · blk_ext [iblk, V, idx5 t]
  · blk_ext [iblk, V, idx1 t]
  · blk_ext [iblk, V, idx3 t]
  · blk_ext [iblk, V, idx6 t]

theorem final_sc (c : Dev nD) : ((dats m 0 c).arrAt 8 cfg0.N : S2x1x1024.Idx → EReal) = fun j : S2x1x1024.Idx =>
    gsc (m ((c : Thread nD τ).loc main_arg0)) (m ((c : Thread nD τ).loc main_arg3)) (m ((c : Thread nD τ).loc main_arg4)) (m ((c : Thread nD τ).loc main_arg5)) (j 0) (j 2) := by
  have hN : cfg0.N = 16 := N_0
  refine (dats m 0 c).arrAt_eq_of_covers 8 _ (by decide +kernel) fun u hf y => ?_
  blk_simp
  rw [after0_8, Pipeline.eq_sum_fin_of_reset_step_apply_of_flush (fun n h => (outsAt0 m c n h).2.1) 8 (fun _ => 0) (fun t j => k0_pay2 (addSc m c t) j)
    (fun t h j => by rw [reset8 m c t h]; exact (zero_add _).symm)
    (fun t h j => by rw [step8 m c t h, pay3_apply])
    u (flush8 u hf) y, zero_add]
  idx_vars y
  have e0 : y0 = 0 := Subsingleton.elim _ _
  have e1 : y1 = 0 := Subsingleton.elim _ _
  subst e0; subst e1
  simp only [addSc, pay20_apply, slabs_eq]
  rw [emb8]
  unfold gsc
  refine Fin.sum_mul_add_congr fun s k hl => ?_
  have hd : (8 * (u.val / 8) + s.val) / 8 = u.val / 8 := by omega
  have hm : (8 * (u.val / 8) + s.val) % 8 = s.val := by omega
  refine congr (congrArg HMul.hMul (congr (congrArg HMul.hMul (congr (congrArg HMul.hMul ?_) (congrArg rinv (funext fun n => ?_)))) ?_)) (congr (congr (congrArg du (funext fun n => ?_)) rfl) rfl)
  · blk_ext [iblk, V, idx0]
  · blk_ext [iblk, V, idx0]
  · blk_ext [iblk, V, idx3]
  · blk_ext [iblk, V, idx5]

theorem final_sh (c : Dev nD) : ((dats m 0 c).arrAt 9 cfg0.N : S2x1x1024.Idx → EReal) = fun j : S2x1x1024.Idx =>
    gsh (m ((c : Thread nD τ).loc main_arg4)) (m ((c : Thread nD τ).loc main_arg5)) (j 0) (j 2) := by
  have hN : cfg0.N = 16 := N_0
  refine (dats m 0 c).arrAt_eq_of_covers 9 _ (by decide +kernel) fun u hf y => ?_
  blk_simp
  rw [after0_9, Pipeline.eq_sum_fin_of_reset_step_apply_of_flush (fun n h => (outsAt0 m c n h).2.2.1) 8 (fun _ => 0) (fun t j => k0_pay4 (addSh m c t) j)
    (fun t h j => by rw [reset9 m c t h]; exact (zero_add _).symm)
    (fun t h j => by rw [step9 m c t h, pay5_apply])
    u (flush9 u hf) y, zero_add]
  idx_vars y
  have e0 : y0 = 0 := Subsingleton.elim _ _
  have e1 : y1 = 0 := Subsingleton.elim _ _
  subst e0; subst e1
  simp only [addSh, pay19_apply, slabs_eq]
  rw [emb9]
  unfold gsh
  refine Fin.sum_mul_add_congr fun s k hl => ?_
  have hd : (8 * (u.val / 8) + s.val) / 8 = u.val / 8 := by omega
  have hm : (8 * (u.val / 8) + s.val) % 8 = s.val := by omega
  refine congr (congr (congrArg du (funext fun n => ?_)) rfl) rfl
  blk_ext [iblk, V, idx5]

theorem final_g (c : Dev nD) : ((dats m 0 c).arrAt 10 cfg0.N : S1x1024.Idx → EReal) = fun j : S1x1024.Idx =>
    gg (m ((c : Thread nD τ).loc main_arg0)) (m ((c : Thread nD τ).loc main_arg1)) (m ((c : Thread nD τ).loc main_arg4)) (m ((c : Thread nD τ).loc main_arg5)) (j 1) := by
  have hN : cfg0.N = 16 := N_0
  refine (dats m 0 c).arrAt_eq_of_covers 10 _ (by decide +kernel) fun u hf y => ?_
  blk_simp
  rw [after0_10, Pipeline.eq_sum_fin_of_reset_step_apply_last (fun n h => (outsAt0 m c n h).2.2.2) 16 (fun _ => 0) (fun t j => addG m c t j)
    (fun t h j => by rw [reset10 m c t h]; exact (zero_add _).symm)
    (fun t h j => by rw [step10 m c t h, pay6_apply])
    (le_of_eq N_0) u (flush10 u hf) y, zero_add]
  idx_vars y
  have e0 : y0 = 0 := Subsingleton.elim _ _
  subst e0
  simp only [addG, pay22_apply, slabs_eq]
  rw [emb10]
  unfold gg
  refine Fin.sum_points_lanes_congr 8 fun t k ha hl => ?_
  refine congr (congrArg HMul.hMul (congr (congrArg HMul.hMul ?_) (congrArg rinv (funext fun n => ?_)))) (congr (congr (congr (congrArg dn (funext fun n => ?_)) rfl) (funext fun n => ?_)) rfl)
  · blk_ext [iblk, V, idx0 t]
  · blk_ext [iblk, V, idx0 t]
  · blk_ext [iblk, V, idx5 t]
  · blk_ext [iblk, V, idx1 t]

end Cert.Proof.MlpIn

end
-- ==== Proof.MlpIn.lean ====
/- The MLP input's backward call: the kernel's four arrays are the reference's. -/
module

public import proofs.«01_k».proof.Defs
public import proofs.«01_k».proof.Proof.MlpInArray
public import proofs.«01_k».proof.Proof.Gen.MlpInRefIdeal.Read
public import Idealize.ShloMosaic.Lib.Quiescent

@[expose] public section

set_option maxRecDepth 16384

noncomputable section

namespace Cert.Proof.MlpIn

open Idealize.ShloMosaic Idealize.ShloMosaic.TcCoe Idealize.SL.Sem Cert.MlpSpec

section

open Cert.MlpInRefIdeal Cert.MlpInRefIdeal.Read

/-- A sum over an array's first two axes, at a channel. -/
theorem reduce_rows {n0 n1 n2 : ℕ} (p : (⟨3, ![n0, n1, n2]⟩ : Shape).ReducesTo [0, 1] ⟨1, ![n2]⟩) (v : (⟨3, ![n0, n1, n2]⟩ : Shape).Idx → EReal) (init : EReal) (k : Fin n2) :
    Ideal.hostReduceAdd p v init (ix1 k) = init + ∑ b : Fin n0, ∑ s : Fin n1, v (ix3 b s k) := by
  refine congrArg (init + ·) ((Finset.sum_filter_eq_sum_of_fiber _ (fun x : Fin n0 × Fin n1 => ix3 x.1 x.2 k) (fun _ _ e => Prod.ext (congrFun e 0) (congrFun e 1)) (fun i => ?_) v).trans ?_)
  · constructor
    · intro e
      refine ⟨(i 0, i 1), ?_⟩
      funext a
      apply Fin.ext
      match a with
      | ⟨0, _⟩ => rfl
      | ⟨1, _⟩ => rfl
      | ⟨2, _⟩ => exact (congrArg Fin.val (congrFun e ⟨0, Nat.one_pos⟩)).symm
    · rintro ⟨x, rfl⟩
      funext b
      apply Fin.ext
      match b with
      | ⟨0, _⟩ => rfl
  · simp only [Fintype.sum_prod_type]

/-- A sum over the columns, slab by slab. -/
theorem sum_cols (F : Fin 4096 → EReal) : ∑ x, F x = ∑ n, F (col 3 n) + ∑ n, F (col 2 n) + ∑ n, F (col 1 n) + ∑ n, F (col 0 n) := by
  have h : ∑ a : Fin 4, ∑ n : Fin 1024, F (col a n) = ∑ x, F x := Fin.sum_mul_add_congr fun s k hl => congrArg F (Fin.ext (by
    show 1024 * s.val + k.val = s.val * 1024 + k.val
    omega))
  rw [← h, Fin.sum_univ_four]
  ac_rfl

theorem ref_du (w : S4x1024x1024.Idx → EReal) (d : S2x2048x4096.Idx → EReal) (b : Fin 2) (s : Fin 2048) (k : Fin 1024) :
    (val_main_v28 (F := Ideal) w d : S2x2048x1024.Idx → EReal) (ix3 b s k) = du (fun n => d (ix3 b s n)) (table w) k := by
  pointwise [val_main_v28, val_main_v27, val_main_v2, val_main_v1, val_main_v0]
  rw [sum_cols]
  unfold du table
  have e (a : Fin 4) (n : Fin 1024) (p : (col a n).val / 1024 < 4) (q : (col a n).val % 1024 < 1024) :
      w (ix3 ⟨(col a n).val / 1024, p⟩ k ⟨(col a n).val % 1024, q⟩) = w (ix3 a k n) := by
    have e1 : (col a n).val / 1024 = a.val := by show (1024 * a.val + n.val) / 1024 = _; omega
    have e2 : (col a n).val % 1024 = n.val := by show (1024 * a.val + n.val) % 1024 = _; omega
    exact congrArg w (congr (congr (congrArg ix3 (Fin.ext e1)) rfl) (Fin.ext e2))
  simp only [e]

variable (h : S2x2048x1024.Idx → EReal) (sc : S2x1x1024.Idx → EReal) (g : S1x1024.Idx → EReal) (w : S4x1024x1024.Idx → EReal) (d : S2x2048x4096.Idx → EReal) (r : S2x2048x1024.Idx → EReal)

theorem ref_sh : (val_main_v30 (F := Ideal) w d : S2x1x1024.Idx → EReal) = fun j : S2x1x1024.Idx => gsh w d (j 0) (j 2) := by
  funext j
  idx_vars j
  unfold gsh
  pointwise [val_main_v30, val_main_v29, val_main_cst_4]
  simp only [ref_du]

theorem ref_sc : (val_main_v33 (F := Ideal) h g w d : S2x1x1024.Idx → EReal) = fun j : S2x1x1024.Idx => gsc h g w d (j 0) (j 2) := by
  funext j
  idx_vars j
  unfold gsc
  pointwise [val_main_v33, val_main_v32, val_main_cst_5, val_main_v31, val_main_v19, val_main_v18, val_main_v17, val_main_v3, val_main_v16, val_main_v15, val_main_v11, val_main_v10, val_main_v9, val_main_cst_1, val_main_v8,
    val_main_v7, val_main_cst_0, val_main_v6, val_main_v5, val_main_cst, val_main_v4, rinv]
  simp only [ref_du]

theorem ref_rows (k : Fin 1024) : (val_main_v37 (F := Ideal) h sc w d : S1024.Idx → EReal) (ix1 k) = gg h sc w d k := by
  unfold val_main_v37
  refine (reduce_rows _ _ _ k).trans ?_
  unfold gg dn
  pointwise [val_main_cst_6, val_main_v36, val_main_v35, val_main_v34, val_main_v21, val_main_v20, val_main_cst_3,
    val_main_v16, val_main_v15, val_main_v11, val_main_v10, val_main_v9, val_main_cst_1, val_main_v8,
    val_main_v7, val_main_cst_0, val_main_v6, val_main_v5, val_main_cst, val_main_v4, rinv]
  simp only [ref_du]

theorem ref_sum (k : Fin 1024) : (val_main_v41 (F := Ideal) h sc w d : S1024.Idx → EReal) (ix1 k) = gg h sc w d k := by
  unfold val_main_v41
  refine (reduce_rows _ _ _ k).trans ?_
  pointwise [val_main_cst_7, val_main_v38]
  simp only [ref_rows, Finset.sum_const, Finset.card_univ, Fintype.card_fin, one_smul]

theorem ref_g : (val_main_v56 (F := Ideal) h sc w d : S1x1024.Idx → EReal) = fun j : S1x1024.Idx => gg h sc w d (j 1) := by
  funext j
  idx_vars j
  pointwise [val_main_v56]
  exact ref_sum h sc w d j1

theorem ref_tok : (val_main_v57 (F := Ideal) h sc g w d r : S2x2048x1024.Idx → EReal) = fun j : S2x2048x1024.Idx => gtok h sc g w d r (j 0) (j 1) (j 2) := by
  funext j
  idx_vars j
  unfold gtok dtok dmean dn dinv
  pointwise [val_main_v57, val_main_v55, val_main_v54, val_main_v53, val_main_v52, val_main_v51, val_main_v50, val_main_cst_10, val_main_v49, val_main_v48, val_main_cst_9, val_main_v47, val_main_v46, val_main_v45,
    val_main_v44, val_main_v43, val_main_cst_8, val_main_v42, val_main_v40, val_main_v39, val_main_v17, val_main_v3, val_main_v35, val_main_v34, val_main_v21, val_main_v20, val_main_cst_3,
    val_main_v14, val_main_v13, val_main_cst_2, val_main_v12, val_main_v11, val_main_v10, val_main_v9, val_main_cst_1, val_main_v8,
    val_main_v7, val_main_cst_0, val_main_v6, val_main_v5, val_main_cst, val_main_v4, rinv]
  simp only [ref_du, Finset.sum_const, Finset.card_univ, Fintype.card_fin, one_smul]

end

/-- The reference leaves its arguments and its counters alone. -/
theorem frame_ref : Cert.quiescent_MlpInRefIdeal := fun m ρ _ =>
  (θ_run Cert.MlpInRefIdeal.defs _ _).mono (fun r h => ⟨fun c => (h c).2.2.2.2,
      Idealize.ShloMosaic.sem_eq_zero_of_no_sems (by decide) r.2⟩)
    (Cert.MlpInRefIdeal.Value.run (F := Ideal) m ρ)

/-- The values the two calls leave agree. -/
theorem algebraic : Cert.algebraic_MlpInIdeal_MlpInRefIdeal := by
  intro m ρ m' ρ' _ hag
  refine ⟨fun c => (Cert.MlpInIdeal.Gen.dats m 0 c).arrAt 7 Cert.MlpInIdeal.cfg0.N, fun c => (Cert.MlpInIdeal.Gen.dats m 0 c).arrAt 8 Cert.MlpInIdeal.cfg0.N,
    fun c => (Cert.MlpInIdeal.Gen.dats m 0 c).arrAt 9 Cert.MlpInIdeal.cfg0.N, fun c => (Cert.MlpInIdeal.Gen.dats m 0 c).arrAt 10 Cert.MlpInIdeal.cfg0.N,
    Cert.MlpInIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2⟩)
    (Cert.MlpInRefIdeal.Value.run (F := Ideal) m' ρ')
  · refine ((Cert.MlpInRefIdeal.Read.val_main_v57_eq (F := Ideal) m' c).trans ?_).trans (final_tok m c).symm
    rw [(hag c).1, (hag c).2.1, (hag c).2.2.2.1, (hag c).2.2.2.2.1, (hag c).2.2.2.2.2.1, (hag c).2.2.2.2.2.2]
    exact ref_tok _ _ _ _ _ _
  · rw [(hag c).1, (hag c).2.2.2.1, (hag c).2.2.2.2.1, (hag c).2.2.2.2.2.1]
    exact ((Cert.MlpInRefIdeal.Read.val_main_v33_eq (F := Ideal) _ _ _ _).trans (ref_sc _ _ _ _)).trans (final_sc m c).symm
  · rw [(hag c).2.2.2.2.1, (hag c).2.2.2.2.2.1]
    exact ((Cert.MlpInRefIdeal.Read.val_main_v30_eq (F := Ideal) _ _).trans (ref_sh _ _)).trans (final_sh m c).symm
  · rw [(hag c).1, (hag c).2.1, (hag c).2.2.2.2.1, (hag c).2.2.2.2.2.1]
    exact ((Cert.MlpInRefIdeal.Read.val_main_v56_eq (F := Ideal) _ _ _ _).trans (ref_g _ _ _ _)).trans (final_g m c).symm

end Cert.Proof.MlpIn

end
-- ==== Proof.MlpInFwd.lean ====
/- The MLP input's forward call: the kernel's array is the reference's. -/
module

public import proofs.«01_k».proof.Defs
public import proofs.«01_k».proof.Proof.MlpSpec
public import proofs.«01_k».proof.Proof.Gen.MlpInFwdIdeal.Value
public import proofs.«01_k».proof.Proof.Gen.MlpInFwdRefIdeal.Read
public import Idealize.ShloMosaic.Lib.Pipeline.ReadBack
public import Idealize.ShloMosaic.Lib.Quiescent

@[expose] public section

set_option maxRecDepth 16384

noncomputable section

namespace Cert.Proof.MlpInFwd

open Idealize.ShloMosaic Idealize.ShloMosaic.TcCoe Idealize.SL.Sem Cert.MlpSpec

/-- The product at one token and column, from the token, the gain, the modulation and the weight's column. -/
def row (f g sc sh w : Fin 1024 → EReal) : EReal := ∑ k : Fin 1024, modulated f (g k) (sc k) (sh k) k * w k

section

open Cert.MlpInFwdIdeal Cert.MlpInFwdIdeal.Gen

variable (m : (ℓ : Loc nD τ sig) → Buf (Elt Ideal) ℓ)

theorem idx0 : ∀ t : Fin cfg0.N, win0_0.index t = ![t.val / 8, t.val % 8, 0] := (by decide +kernel : ∀ t : Fin grid0.N, _)
theorem idx1 : ∀ t : Fin cfg0.N, win0_1.index t = ![t.val / 8, 0, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0, 0] := (by decide +kernel : ∀ t : Fin grid0.N, _)
theorem idx5 : ∀ t : Fin cfg0.N, win0_5.index t = ![t.val / 8, t.val % 8, 0] := (by decide +kernel : ∀ t : Fin grid0.N, _)

/-- The four slabs as one table. -/
def slabs (w0 w1 w2 w3 : Vec Ideal S1x1024x1024 .bf16) (a : Fin 4) (k n : Fin 1024) : EReal :=
  match a with
  | 0 => w0 (ix3 0 k n)
  | 1 => w1 (ix3 0 k n)
  | 2 => w2 (ix3 0 k n)
  | 3 => w3 (ix3 0 k n)

theorem pay1_apply (v0 : Vec Ideal S1x256x1024 .f32) (v2 v4 : Vec Ideal S1x1x1024 .f32) (v6 : Vec Ideal S1x1024 .f32) (w0 w1 w2 w3 : Vec Ideal S1x1024x1024 .bf16) (s : Fin 256) (a : Fin 4) (n : Fin 1024) :
    k0_pay1 (k0_pay2 v0 v2 v4 v6) (k0_pay3 v0 v2 v4 v6 w0) (k0_pay4 v0 v2 v4 v6 w1) w2 w3 (ix3 0 s (col a n))
      = row (fun k => v0 (ix3 0 s k)) (fun k => v6 (ix2 0 k)) (fun k => v2 (ix3 0 0 k)) (fun k => v4 (ix3 0 0 k)) (fun k => slabs w0 w1 w2 w3 a k n) := by
  match a with
  | 0 => pointwise [k0_pay1, k0_pay2, k0_pay3, k0_pay4, row, slabs, modulated, rinv, col]
  | 1 => pointwise [k0_pay1, k0_pay2, k0_pay3, k0_pay4, row, slabs, modulated, rinv, col]
  | 2 =>
    pointwise [k0_pay1, k0_pay2, k0_pay3, k0_pay4, row, slabs, modulated, rinv, col]
    rw [dif_neg (show ¬ 2048 + n.val < 1024 by omega), dif_neg (show ¬ 2048 + n.val - 1024 < 1024 by omega), dif_pos (show 2048 + n.val - 1024 - 1024 < 1024 by omega)]
    have e : (⟨2048 + n.val - 1024 - 1024, by omega⟩ : Fin 1024) = n := Fin.ext (show 2048 + n.val - 1024 - 1024 = n.val by omega)
    rw [e]
  | 3 =>
    pointwise [k0_pay1, k0_pay2, k0_pay3, k0_pay4, row, slabs, modulated, rinv, col]
    rw [dif_neg (show ¬ 3072 + n.val < 1024 by omega), dif_neg (show ¬ 3072 + n.val - 1024 < 1024 by omega), dif_neg (show ¬ 3072 + n.val - 1024 - 1024 < 1024 by omega)]
    have e : (⟨3072 + n.val - 1024 - 1024 - 1024, by omega⟩ : Fin 1024) = n := Fin.ext (show 3072 + n.val - 1024 - 1024 - 1024 = n.val by omega)
    rw [e]

theorem ld0 (u : Vec Ideal S4x1024x1024 .bf16) (k n : Fin 1024) : View.ld u (Rect.unit ![0, 0, 0] ![1, 1024, 1024] inb_S4x1024x1024_S1x1024x1024_0_0_0) (ix3 0 k n) = u (ix3 0 k n) :=
  View.ld_unit_apply_of u _ _ _ _ _ fun q => by
    match q with
    | ⟨0, _⟩ => rfl
    | ⟨1, _⟩ => exact (Nat.zero_add _).symm
    | ⟨2, _⟩ => exact (Nat.zero_add _).symm

theorem ld1 (u : Vec Ideal S4x1024x1024 .bf16) (k n : Fin 1024) : View.ld u (Rect.unit ![1, 0, 0] ![1, 1024, 1024] inb_S4x1024x1024_S1x1024x1024_1_0_0) (ix3 0 k n) = u (ix3 1 k n) :=
  View.ld_unit_apply_of u _ _ _ _ _ fun q => by
    match q with
    | ⟨0, _⟩ => rfl
    | ⟨1, _⟩ => exact (Nat.zero_add _).symm
    | ⟨2, _⟩ => exact (Nat.zero_add _).symm

theorem ld2 (u : Vec Ideal S4x1024x1024 .bf16) (k n : Fin 1024) : View.ld u (Rect.unit ![2, 0, 0] ![1, 1024, 1024] inb_S4x1024x1024_S1x1024x1024_2_0_0) (ix3 0 k n) = u (ix3 2 k n) :=
  View.ld_unit_apply_of u _ _ _ _ _ fun q => by
    match q with
    | ⟨0, _⟩ => rfl
    | ⟨1, _⟩ => exact (Nat.zero_add _).symm
    | ⟨2, _⟩ => exact (Nat.zero_add _).symm

theorem ld3 (u : Vec Ideal S4x1024x1024 .bf16) (k n : Fin 1024) : View.ld u (Rect.unit ![3, 0, 0] ![1, 1024, 1024] inb_S4x1024x1024_S1x1024x1024_3_0_0) (ix3 0 k n) = u (ix3 3 k n) :=
  View.ld_unit_apply_of u _ _ _ _ _ fun q => by
    match q with
    | ⟨0, _⟩ => rfl
    | ⟨1, _⟩ => exact (Nat.zero_add _).symm
    | ⟨2, _⟩ => exact (Nat.zero_add _).symm

section

variable (c : Dev nD) (t : Fin cfg0.N)

/-- The four slabs of weights a point loads. -/
def slab0 : Vec Ideal S1x1024x1024 .bf16 := View.ld (iblk m c 4 t) (Rect.unit ![0, 0, 0] ![1, 1024, 1024] inb_S4x1024x1024_S1x1024x1024_0_0_0)
def slab1 : Vec Ideal S1x1024x1024 .bf16 := View.ld (iblk m c 4 t) (Rect.unit ![1, 0, 0] ![1, 1024, 1024] inb_S4x1024x1024_S1x1024x1024_1_0_0)
def slab2 : Vec Ideal S1x1024x1024 .bf16 := View.ld (iblk m c 4 t) (Rect.unit ![2, 0, 0] ![1, 1024, 1024] inb_S4x1024x1024_S1x1024x1024_2_0_0)
def slab3 : Vec Ideal S1x1024x1024 .bf16 := View.ld (iblk m c 4 t) (Rect.unit ![3, 0, 0] ![1, 1024, 1024] inb_S4x1024x1024_S1x1024x1024_3_0_0)

theorem blk4 (a : Fin 4) (k n : Fin 1024) : iblk m c 4 t (ix3 a k n) = (m ((c : Thread nD τ).loc main_arg4) : S4x1024x1024.Idx → EReal) (ix3 a k n) := by
  blk_ext [iblk, V, idx4 t]

theorem slabs_eq : slabs (slab0 m c t) (slab1 m c t) (slab2 m c t) (slab3 m c t) = fun a k n => (m ((c : Thread nD τ).loc main_arg4) : S4x1024x1024.Idx → EReal) (ix3 a k n) := by
  funext a k n
  match a with
  | 0 => exact (ld0 _ k n).trans (blk4 m c t 0 k n)
  | 1 => exact (ld1 _ k n).trans (blk4 m c t 1 k n)
  | 2 => exact (ld2 _ k n).trans (blk4 m c t 2 k n)
  | 3 => exact (ld3 _ k n).trans (blk4 m c t 3 k n)

theorem out5 : (dats m 0 c).after 5 t = k0_pay1 (k0_pay2 (iblk m c 0 t) (iblk m c 1 t) (iblk m c 2 t) (iblk m c 3 t)) (k0_pay3 (iblk m c 0 t) (iblk m c 1 t) (iblk m c 2 t) (iblk m c 3 t) (slab0 m c t))
    (k0_pay4 (iblk m c 0 t) (iblk m c 1 t) (iblk m c 2 t) (iblk m c 3 t) (slab1 m c t)) (slab2 m c t) (slab3 m c t) := by
  rw [after0_5]; frame_out; rfl

end

theorem col_div_mod (n : Fin 4096) : col ⟨n.val / 1024, by omega⟩ ⟨n.val % 1024, by omega⟩ = n := by
  apply Fin.ext
  show 1024 * (n.val / 1024) + n.val % 1024 = n.val
  omega

/-- The product's entry, from the whole arrays. -/
def out (h : S2x2048x1024.Idx → EReal) (sc sh : S2x1x1024.Idx → EReal) (g : S1x1024.Idx → EReal) (w : S4x1024x1024.Idx → EReal) (b : Fin 2) (s : Fin 2048) (n : Fin 4096) : EReal :=
  row (fun k => h (ix3 b s k)) (fun k => g (ix2 0 k)) (fun k => sc (ix3 b 0 k)) (fun k => sh (ix3 b 0 k)) (fun k => w (ix3 ⟨n.val / 1024, by omega⟩ k ⟨n.val % 1024, by omega⟩))

theorem emb5 (t : Fin cfg0.N) (s : Fin 256) (n : Fin 4096) :
    (win0_5.blk t).view.emb (ix3 0 s n) = (ix3 ⟨t.val / 8, by have := t.isLt; have hN : cfg0.N = 16 := N_0; omega⟩ ⟨t.val % 8 * 256 + s.val, by omega⟩ n : S2x2048x4096.Idx) := by
  blk_ext [idx5 t]

theorem final (c : Dev nD) : ((dats m 0 c).arrAt 5 cfg0.N : S2x2048x4096.Idx → EReal) = fun j : S2x2048x4096.Idx =>
    out (m ((c : Thread nD τ).loc main_arg0)) (m ((c : Thread nD τ).loc main_arg1)) (m ((c : Thread nD τ).loc main_arg2)) (m ((c : Thread nD τ).loc main_arg3)) (m ((c : Thread nD τ).loc main_arg4)) (j 0) (j 1) (j 2) := by
  refine (dats m 0 c).arrAt_eq_of_covers 5 _ (by decide +kernel) fun t hf y => ?_
  blk_simp
  rw [out5]
  idx_vars y
  have e0 : y0 = 0 := Subsingleton.elim _ _
  subst e0
  rw [emb5]
  refine (congrArg (fun q => k0_pay1 _ _ _ _ _ (ix3 0 y1 q)) (col_div_mod y2).symm).trans ?_
  rw [pay1_apply, slabs_eq]
  unfold out
  refine congr (congr (congr (congr (congrArg row (funext fun k => ?_)) (funext fun k => ?_)) (funext fun k => ?_)) (funext fun k => ?_)) (funext fun k => ?_)
  · blk_ext [iblk, V, idx0 t]
  · blk_ext [iblk, V, idx3 t]
  · blk_ext [iblk, V, idx1 t]
  · blk_ext [iblk, V, idx2 t]
  · rfl

end

section

open Cert.MlpInFwdRefIdeal Cert.MlpInFwdRefIdeal.Read

theorem ref (h : S2x2048x1024.Idx → EReal) (sc sh : S2x1x1024.Idx → EReal) (g : S1x1024.Idx → EReal) (w : S4x1024x1024.Idx → EReal) :
    (val_main_v23 (F := Ideal) h sc sh g w : S2x2048x4096.Idx → EReal) = fun j : S2x2048x4096.Idx => out h sc sh g w (j 0) (j 1) (j 2) := by
  funext j
  idx_vars j
  unfold out row modulated rinv
  pointwise [val_main_v23, val_main_v2, val_main_v1, val_main_v0, val_main_v22, val_main_v21, val_main_v20, val_main_v19, val_main_v18, val_main_v17, val_main_cst_2, val_main_v16, val_main_v15, val_main_v14, val_main_v3, val_main_v13, val_main_v12, val_main_v11, val_main_v10, val_main_v9, val_main_cst_1, val_main_v8,
    val_main_v7, val_main_cst_0, val_main_v6, val_main_v5, val_main_cst, val_main_v4]

end

/-- The reference leaves its arguments and its counters alone. -/
theorem frame_ref : Cert.quiescent_MlpInFwdRefIdeal := fun m ρ _ =>
  (θ_run Cert.MlpInFwdRefIdeal.defs _ _).mono (fun r h => ⟨fun c => (h c).2,
      Idealize.ShloMosaic.sem_eq_zero_of_no_sems (by decide) r.2⟩)
    (Cert.MlpInFwdRefIdeal.Value.run (F := Ideal) m ρ)

/-- The values the two calls leave agree. -/
theorem algebraic : Cert.algebraic_MlpInFwdIdeal_MlpInFwdRefIdeal := by
  intro m ρ m' ρ' _ hag
  refine ⟨fun c => (Cert.MlpInFwdIdeal.Gen.dats m 0 c).arrAt 5 Cert.MlpInFwdIdeal.cfg0.N,
    Cert.MlpInFwdIdeal.Value.run_blocks (F := Ideal) m ρ, ?_⟩
  refine (θ_run _ _ _).mono (fun _ h c => ⟨(h c).1.trans ?_, (h c).2⟩)
    (Cert.MlpInFwdRefIdeal.Value.run (F := Ideal) m' ρ')
  · rw [(hag c).1, (hag c).2.1, (hag c).2.2.1, (hag c).2.2.2.1, (hag c).2.2.2.2]
    exact ((Cert.MlpInFwdRefIdeal.Read.val_main_v23_eq (F := Ideal) _ _ _ _ _).trans (ref _ _ _ _ _)).trans (final m c).symm

end Cert.Proof.MlpInFwd

end
-- ==== Proof.MlpOutFwd.lean ====
/- The MLP output's forward call: the kernel's two arrays are the reference's. -/
module

public import proofs.«01_k».proof.Defs
public import proofs.«01_k».proof.Proof.Gen.MlpOutFwdIdeal.Value
public import proofs.«01_k».proof.Proof.Gen.MlpOutFwdRefIdeal.Read
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.MlpOutFwd

open Idealize.ShloMosaic Idealize.ShloMosaic.TcCoe Idealize.SL.Sem

/-- The product at one token and channel, from the token's hidden row and the weight's column. -/
def row (a w : Fin 4096 → EReal) : EReal := ∑ k : Fin 4096, max (a k) 0 * max (a k) 0 * w k

/-- The residual with the gated product added. -/
def gated (h g : EReal) (a w : Fin 4096 → EReal) : EReal := h + g * row a w

section

open Cert.MlpOutFwdIdeal Cert.MlpOutFwdIdeal.Gen

variable (m : (ℓ : Loc nD τ sig) → Buf (Elt Ideal) ℓ)

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val / 8, t.val % 8, 0] := (by decide +kernel : ∀ t : Fin grid0.N, _)
theorem idx5 : ∀ t : Fin cfg0.N, win0_5.index t = ![t.val / 8, t.val % 8, 0] := (by decide +kernel : ∀ t : Fin grid0.N, _)

theorem pay2_apply (v0 : Vec Ideal S1x256x1024 .f32) (v2 : Vec Ideal S1x256x4096 .f32) (v4 : Vec Ideal S1x1x1024 .f32) (v9 : Vec Ideal S4096x1024 .bf16) (s : Fin 256) (n : Fin 1024) :
    k0_pay2 v0 v2 v4 v9 (ix3 0 s n) = gated (v0 (ix3 0 s n)) (v4 (ix3 0 0 n)) (fun k => v2 (ix3 0 s k)) (fun k => v9 (ix2 k n)) := by
  pointwise [k0_pay2, k0_pay1, gated, row]

theorem pay3_apply (v2 : Vec Ideal S1x256x4096 .f32) (v9 : Vec Ideal S4096x1024 .bf16) (s : Fin 256) (n : Fin 1024) :
    k0_pay3 v2 v9 (ix3 0 s n) = row (fun k => v2 (ix3 0 s k)) (fun k => v9 (ix2 k n)) := by
  pointwise [k0_pay3, k0_pay1, row]

theorem out4 (c : Dev nD) (t : Fin cfg0.N) : (dats m 0 c).after 4 t = k0_pay2 (iblk m c 0 t) (iblk m c 1 t) (iblk m c 2 t) (iblk m c 3 t) := by
  rw [after0_4]; frame_out

theorem out5 (c : Dev nD) (t : Fin cfg0.N) : (dats m 0 c).after 5 t = k0_pay3 (iblk m c 1 t) (iblk m c 3 t) := by
  rw [after0_5]; frame_out

theorem final_f (c : Dev nD) : ((dats m 0 c).arrAt 5 cfg0.N : S2x2048x1024.Idx → EReal) = fun j : S2x2048x1024.Idx =>
    row (fun k => (m ((c : Thread nD τ).loc main_arg1) : S2x2048x4096.Idx → EReal) (ix3 (j 0) (j 1) k)) (fun k => (m ((c : Thread nD τ).loc main_arg3) : S4096x1024.Idx → EReal) (ix2 k (j 2))) := by
  refine (dats m 0 c).arrAt_eq_of_covers 5 _ (by decide +kernel) fun t hf y => ?_
  blk_simp
  rw [out5]
  idx_vars y
  have e0 : y0 = 0 := Subsingleton.elim _ _
  subst e0
  rw [pay3_apply]
  refine congr (congrArg row (funext fun n => ?_)) (funext fun n => ?_)
  · blk_ext [iblk, V, idx1 t, idx5 t]
  · blk_ext [iblk, V, idx3 t, idx5 t]

theorem final_h (c : Dev nD) : ((dats m 0 c).arrAt 4 cfg0.N : S2x2048x1024.Idx → EReal) = fun j : S2x2048x1024.Idx =>
    gated ((m ((c : Thread nD τ).loc main_arg0) : S2x2048x1024.Idx → EReal) j) ((m ((c : Thread nD τ).loc main_arg2) : S2x1x1024.Idx → EReal) (ix3 (j 0) 0 (j 2)))
      (fun k => (m ((c : Thread nD τ).loc main_arg1) : S2x2048x4096.Idx → EReal) (ix3 (j 0) (j 1) k)) (fun k => (m ((c : Thread nD τ).loc main_arg3) : S4096x1024.Idx → EReal) (ix2 k (j 2))) := by
  refine (dats m 0 c).arrAt_eq_of_covers 4 _ (by decide +kernel) fun t hf y => ?_
  blk_simp
  rw [out4]
  idx_vars y
  have e0 : y0 = 0 := Subsingleton.elim _ _
  subst e0
  rw [pay2_apply]
  refine congr (congr (congr (congrArg gated ?_) ?_) (funext fun n => ?_)) (funext fun n => ?_)
  · blk_ext [iblk, V, idx0 t, idx4 t]
  · blk_ext [iblk, V, idx2 t, idx4 t]
  · blk_ext [iblk, V, idx1 t, idx4 t]
  · blk_ext [iblk, V, idx3 t, idx4 t]

end

section

open Cert.MlpOutFwdRefIdeal Cert.MlpOutFwdRefIdeal.Read

theorem ref_f (a : S2x2048x4096.Idx → EReal) (w : S4096x1024.Idx → EReal) :
    (val_main_v3 (F := Ideal) a w : S2x2048x1024.Idx → EReal) = fun j : S2x2048x1024.Idx => row (fun k => a (ix3 (j 0) (j 1) k)) (fun k => w (ix2 k (j 2))) := by
  funext j
  idx_vars j
  unfold row
  pointwise [val_main_v3, val_main_v2, val_main_v1, val_main_v0, val_main_call0_v0, val_main_call0_cst]

theorem ref_h (h : S2x2048x1024.Idx → EReal) (a : S2x2048x4096.Idx → EReal) (g : S2x1x1024.Idx → EReal) (w : S4096x1024.Idx → EReal) :
    (val_main_v6 (F := Ideal) h a g w : S2x2048x1024.Idx → EReal) = fun j : S2x2048x1024.Idx =>
      gated (h j) (g (ix3 (j 0) 0 (j 2))) (fun k => a (ix3 (j 0) (j 1) k)) (fun k => w (ix2 k (j 2))) := by
  funext j
  idx_vars j
  unfold gated row
  pointwise [val_main_v6, val_main_v5, val_main_v4, val_main_v3, val_main_v2, val_main_v1, val_main_v0, val_main_call0_v0, val_main_call0_cst]

end

/-- The reference leaves its arguments and its counters alone. -/
theorem frame_ref : Cert.quiescent_MlpOutFwdRefIdeal := fun m ρ _ =>
  (θ_run Cert.MlpOutFwdRefIdeal.defs _ _).mono (fun r h => ⟨fun c => (h c).2.2,
      Idealize.ShloMosaic.sem_eq_zero_of_no_sems (by decide) r.2⟩)
    (Cert.MlpOutFwdRefIdeal.Value.run (F := Ideal) m ρ)

/-- The values the two calls leave agree. -/
theorem algebraic : Cert.algebraic_MlpOutFwdIdeal_MlpOutFwdRefIdeal := by
  intro m ρ m' ρ' _ hag
  refine ⟨fun c => (Cert.MlpOutFwdIdeal.Gen.dats m 0 c).arrAt 4 Cert.MlpOutFwdIdeal.cfg0.N, fun c => (Cert.MlpOutFwdIdeal.Gen.dats m 0 c).arrAt 5 Cert.MlpOutFwdIdeal.cfg0.N,
    Cert.MlpOutFwdIdeal.Value.run_blocks (F := Ideal) m ρ, ?_⟩
  refine (θ_run _ _ _).mono (fun _ h c => ⟨(h c).1.trans ?_, (h c).2.1.trans ?_, (h c).2.2⟩)
    (Cert.MlpOutFwdRefIdeal.Value.run (F := Ideal) m' ρ')
  · rw [(hag c).1, (hag c).2.1, (hag c).2.2.1, (hag c).2.2.2]
    exact ((Cert.MlpOutFwdRefIdeal.Read.val_main_v6_eq (F := Ideal) _ _ _ _).trans (ref_h _ _ _ _)).trans (final_h m c).symm
  · rw [(hag c).2.1, (hag c).2.2.2]
    exact ((Cert.MlpOutFwdRefIdeal.Read.val_main_v3_eq (F := Ideal) _ _).trans (ref_f _ _)).trans (final_f m c).symm

end Cert.Proof.MlpOutFwd

end
-- ==== Proof.ProjFwd.lean ====
/- The mixer output's forward call: the kernel's two arrays are the reference's. -/
module

public import proofs.«01_k».proof.Defs
public import proofs.«01_k».proof.Proof.MlpSpec
public import proofs.«01_k».proof.Proof.Gen.ProjFwdIdeal.Value
public import proofs.«01_k».proof.Proof.Gen.ProjFwdRefIdeal.Read
public import Idealize.ShloMosaic.Lib.Pipeline.ReadBack
public import Idealize.ShloMosaic.Lib.Quiescent

@[expose] public section

set_option maxRecDepth 16384

noncomputable section

namespace Cert.Proof.ProjFwd

open Idealize.ShloMosaic Idealize.ShloMosaic.TcCoe Idealize.SL.Sem Cert.MlpSpec

/-- The mixer's three outputs of one token, side by side. -/
def joined (a : Fin 256 → EReal) (b : Fin 512 → EReal) (c : Fin 256 → EReal) (k : Fin 1024) : EReal :=
  if h : k.val < 256 then a ⟨k.val, h⟩ else if h' : k.val - 256 < 512 then b ⟨k.val - 256, h'⟩ else c ⟨k.val - 256 - 512, by omega⟩

/-- The product at one token and channel. -/
def row (a : Fin 256 → EReal) (b : Fin 512 → EReal) (c : Fin 256 → EReal) (w : Fin 1024 → EReal) : EReal := ∑ k : Fin 1024, joined a b c k * w k

/-- The residual with the gated product added. -/
def gated (h g : EReal) (a : Fin 256 → EReal) (b : Fin 512 → EReal) (c : Fin 256 → EReal) (w : Fin 1024 → EReal) : EReal := h + g * row a b c w

section

open Cert.ProjFwdIdeal Cert.ProjFwdIdeal.Gen

variable (m : (ℓ : Loc nD τ sig) → Buf (Elt Ideal) ℓ)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx4 : ∀ t : Fin cfg0.N, win0_4.index t = ![t.val / 4, 0, 0] := (by decide +kernel : ∀ t : Fin grid0.N, _)
theorem idx5 : ∀ t : Fin cfg0.N, win0_5.index t = ![1, 0, 0] := (by decide +kernel : ∀ t : Fin grid0.N, _)

theorem pay2_apply (v0 : Vec Ideal S1x512x1024 .f32) (a : Vec Ideal S1x512x256 .f32) (b : Vec Ideal S1x512x512 .f32) (c : Vec Ideal S1x512x256 .f32) (g : Vec Ideal S1x1x1024 .f32) (w : Vec Ideal S1x1024x1024 .bf16) (s : Fin 512) (n : Fin 1024) :
    k0_pay2 v0 a b c g w (ix3 0 s n) = gated (v0 (ix3 0 s n)) (g (ix3 0 0 n)) (fun k => a (ix3 0 s k)) (fun k => b (ix3 0 s k)) (fun k => c (ix3 0 s k)) (fun k => w (ix3 0 k n)) := by
  pointwise [k0_pay2, k0_pay1, gated, row]
  rfl

theorem pay3_apply (a : Vec Ideal S1x512x256 .f32) (b : Vec Ideal S1x512x512 .f32) (c : Vec Ideal S1x512x256 .f32) (w : Vec Ideal S1x1024x1024 .bf16) (s : Fin 512) (n : Fin 1024) :
    k0_pay3 a b c w (ix3 0 s n) = row (fun k => a (ix3 0 s k)) (fun k => b (ix3 0 s k)) (fun k => c (ix3 0 s k)) (fun k => w (ix3 0 k n)) := by
  pointwise [k0_pay3, k0_pay1, row]
  rfl

theorem out6 (c : Dev nD) (t : Fin cfg0.N) : (dats m 0 c).after 6 t = k0_pay2 (iblk m c 0 t) (iblk m c 1 t) (iblk m c 2 t) (iblk m c 3 t) (iblk m c 4 t) (iblk m c 5 t) := by
  rw [after0_6]; frame_out

theorem out7 (c : Dev nD) (t : Fin cfg0.N) : (dats m 0 c).after 7 t = k0_pay3 (iblk m c 1 t) (iblk m c 2 t) (iblk m c 3 t) (iblk m c 5 t) := by
  rw [after0_7]; frame_out

theorem final_mix (c : Dev nD) : ((dats m 0 c).arrAt 7 cfg0.N : S2x2048x1024.Idx → EReal) = fun j : S2x2048x1024.Idx =>
    row (fun k => (m ((c : Thread nD τ).loc main_arg1) : S2x2048x256.Idx → EReal) (ix3 (j 0) (j 1) k)) (fun k => (m ((c : Thread nD τ).loc main_arg2) : S2x2048x512.Idx → EReal) (ix3 (j 0) (j 1) k)) (fun k => (m ((c : Thread nD τ).loc main_arg3) : S2x2048x256.Idx → EReal) (ix3 (j 0) (j 1) k))
      (fun k => (m ((c : Thread nD τ).loc main_arg5) : S2x1024x1024.Idx → EReal) (ix3 1 k (j 2))) := by
  refine (dats m 0 c).arrAt_eq_of_covers 7 _ (by decide +kernel) fun t hf y => ?_
  blk_simp
  rw [out7]
  idx_vars y
  have e0 : y0 = 0 := Subsingleton.elim _ _
  subst e0
  rw [pay3_apply]
  refine congr (congr (congr (congrArg row (funext fun k => ?_)) (funext fun k => ?_)) (funext fun k => ?_)) (funext fun k => ?_)
  · blk_ext [iblk, V, idx1 t, idx7 t]
  · blk_ext [iblk, V, idx2 t, idx7 t]
  · blk_ext [iblk, V, idx3 t, idx7 t]
  · blk_ext [iblk, V, idx5 t, idx7 t]

theorem final_h (c : Dev nD) : ((dats m 0 c).arrAt 6 cfg0.N : S2x2048x1024.Idx → EReal) = fun j : S2x2048x1024.Idx =>
    gated ((m ((c : Thread nD τ).loc main_arg0) : S2x2048x1024.Idx → EReal) j) ((m ((c : Thread nD τ).loc main_arg4) : S2x1x1024.Idx → EReal) (ix3 (j 0) 0 (j 2)))
      (fun k => (m ((c : Thread nD τ).loc main_arg1) : S2x2048x256.Idx → EReal) (ix3 (j 0) (j 1) k)) (fun k => (m ((c : Thread nD τ).loc main_arg2) : S2x2048x512.Idx → EReal) (ix3 (j 0) (j 1) k)) (fun k => (m ((c : Thread nD τ).loc main_arg3) : S2x2048x256.Idx → EReal) (ix3 (j 0) (j 1) k))
      (fun k => (m ((c : Thread nD τ).loc main_arg5) : S2x1024x1024.Idx → EReal) (ix3 1 k (j 2))) := by
  refine (dats m 0 c).arrAt_eq_of_covers 6 _ (by decide +kernel) fun t hf y => ?_
  blk_simp
  rw [out6]
  idx_vars y
  have e0 : y0 = 0 := Subsingleton.elim _ _
  subst e0
  rw [pay2_apply]
  refine congr (congr (congr (congr (congr (congrArg gated ?_) ?_) (funext fun k => ?_)) (funext fun k => ?_)) (funext fun k => ?_)) (funext fun k => ?_)
  · blk_ext [iblk, V, idx0 t, idx6 t]
  · blk_ext [iblk, V, idx4 t, idx6 t]
  · blk_ext [iblk, V, idx1 t, idx6 t]
  · blk_ext [iblk, V, idx2 t, idx6 t]
  · blk_ext [iblk, V, idx3 t, idx6 t]
  · blk_ext [iblk, V, idx5 t, idx6 t]

end

section

open Cert.ProjFwdRefIdeal Cert.ProjFwdRefIdeal.Read

theorem ref_mix (a : S2x2048x256.Idx → EReal) (b : S2x2048x512.Idx → EReal) (c : S2x2048x256.Idx → EReal) (w : S2x1024x1024.Idx → EReal) :
    (val_main_v4 (F := Ideal) a b c w : S2x2048x1024.Idx → EReal) = fun j : S2x2048x1024.Idx =>
      row (fun k => a (ix3 (j 0) (j 1) k)) (fun k => b (ix3 (j 0) (j 1) k)) (fun k => c (ix3 (j 0) (j 1) k)) (fun k => w (ix3 1 k (j 2))) := by
  funext j
  idx_vars j
  unfold row
  pointwise [val_main_v4, val_main_v3, val_main_v2, val_main_v1, val_main_v0]
  rfl

theorem ref_h (h : S2x2048x1024.Idx → EReal) (a : S2x2048x256.Idx → EReal) (b : S2x2048x512.Idx → EReal) (c : S2x2048x256.Idx → EReal) (g : S2x1x1024.Idx → EReal) (w : S2x1024x1024.Idx → EReal) :
    (val_main_v7 (F := Ideal) h a b c g w : S2x2048x1024.Idx → EReal) = fun j : S2x2048x1024.Idx =>
      gated (h j) (g (ix3 (j 0) 0 (j 2))) (fun k => a (ix3 (j 0) (j 1) k)) (fun k => b (ix3 (j 0) (j 1) k)) (fun k => c (ix3 (j 0) (j 1) k)) (fun k => w (ix3 1 k (j 2))) := by
  funext j
  idx_vars j
  unfold gated row
  pointwise [val_main_v7, val_main_v6, val_main_v5, val_main_v4, val_main_v3, val_main_v2, val_main_v1, val_main_v0]
  rfl

end

/-- The reference leaves its arguments and its counters alone. -/
theorem frame_ref : Cert.quiescent_ProjFwdRefIdeal := fun m ρ _ =>
  (θ_run Cert.ProjFwdRefIdeal.defs _ _).mono (fun r h => ⟨fun c => (h c).2.2,
      Idealize.ShloMosaic.sem_eq_zero_of_no_sems (by decide) r.2⟩)
    (Cert.ProjFwdRefIdeal.Value.run (F := Ideal) m ρ)

/-- The values the two calls leave agree. -/
theorem algebraic : Cert.algebraic_ProjFwdIdeal_ProjFwdRefIdeal := by
  intro m ρ m' ρ' _ hag
  refine ⟨fun c => (Cert.ProjFwdIdeal.Gen.dats m 0 c).arrAt 6 Cert.ProjFwdIdeal.cfg0.N,
    fun c => (Cert.ProjFwdIdeal.Gen.dats m 0 c).arrAt 7 Cert.ProjFwdIdeal.cfg0.N,
    Cert.ProjFwdIdeal.Value.run_blocks (F := Ideal) m ρ, ?_⟩
  refine (θ_run _ _ _).mono (fun _ h c => ⟨(h c).1.trans ?_, (h c).2.1.trans ?_, (h c).2.2⟩)
    (Cert.ProjFwdRefIdeal.Value.run (F := Ideal) m' ρ')
  · rw [(hag c).1, (hag c).2.1, (hag c).2.2.1, (hag c).2.2.2.1, (hag c).2.2.2.2.1, (hag c).2.2.2.2.2]
    exact ((Cert.ProjFwdRefIdeal.Read.val_main_v7_eq (F := Ideal) _ _ _ _ _ _).trans (ref_h _ _ _ _ _ _)).trans (final_h m c).symm
  · rw [(hag c).2.1, (hag c).2.2.1, (hag c).2.2.2.1, (hag c).2.2.2.2.2]
    exact ((Cert.ProjFwdRefIdeal.Read.val_main_v4_eq (F := Ideal) _ _ _ _).trans (ref_mix _ _ _ _)).trans (final_mix m c).symm

end Cert.Proof.ProjFwd

end
-- ==== Proof.ProjBwd.lean ====
/- The mixer output's backward call: the kernel's six arrays are the reference's. -/
module

public import proofs.«01_k».proof.Defs
public import proofs.«01_k».proof.Proof.ProjFwd
public import proofs.«01_k».proof.Proof.Gen.ProjBwdIdeal.Value
public import proofs.«01_k».proof.Proof.Gen.ProjBwdRefIdeal.Read
public import Idealize.ShloMosaic.Lib.Pipeline.ReadBack
public import Idealize.ShloMosaic.Lib.Quiescent

@[expose] public section

set_option maxRecDepth 16384

noncomputable section

namespace Cert.Proof.ProjBwd

open Idealize.ShloMosaic Idealize.ShloMosaic.TcCoe Idealize.SL.Sem
open Cert.Proof.ProjFwd (joined row)

/-- Channel `n` of the piece that starts at channel 0. -/
def from0 (n : Fin 256) : Fin 1024 := ⟨0 + n.val, by omega⟩

/-- Channel `n` of the piece that starts at channel 256. -/
def from256 (n : Fin 512) : Fin 1024 := ⟨256 + n.val, by omega⟩

/-- Channel `n` of the piece that starts at channel 768. -/
def from768 (n : Fin 256) : Fin 1024 := ⟨768 + n.val, by omega⟩

/-- The joined outputs' cotangent at one token and channel, from the gate's row, the token's cotangent row and the weight's row. -/
def back (g d w : Fin 1024 → EReal) : EReal := ∑ n : Fin 1024, g n * d n * w n

/-- A token's share of the weight's gradient. -/
def share (a : Fin 256 → EReal) (b : Fin 512 → EReal) (c : Fin 256 → EReal) (k : Fin 1024) (g d : EReal) : EReal := joined a b c k * (g * d)

section

open Cert.ProjBwdIdeal Cert.ProjBwdIdeal.Gen

/-- The mixer output's product from the whole arrays. -/
def prod (a : S2x2048x256.Idx → EReal) (b : S2x2048x512.Idx → EReal) (c : S2x2048x256.Idx → EReal) (w : S2x1024x1024.Idx → EReal) (i : Fin 2) (s : Fin 2048) (n : Fin 1024) : EReal :=
  row (fun k => a (ix3 i s k)) (fun k => b (ix3 i s k)) (fun k => c (ix3 i s k)) (fun k => w (ix3 1 k n))

/-- The gate's gradient, summed over a sequence's tokens. -/
def dgt (a : S2x2048x256.Idx → EReal) (b : S2x2048x512.Idx → EReal) (c : S2x2048x256.Idx → EReal) (w : S2x1024x1024.Idx → EReal) (d : S2x2048x1024.Idx → EReal) (i : Fin 2) (n : Fin 1024) : EReal :=
  ∑ s : Fin 2048, d (ix3 i s n) * prod a b c w i s n

/-- The weight's gradient, summed over all tokens. -/
def dw (a : S2x2048x256.Idx → EReal) (b : S2x2048x512.Idx → EReal) (c : S2x2048x256.Idx → EReal) (g : S2x1x1024.Idx → EReal) (d : S2x2048x1024.Idx → EReal) (k n : Fin 1024) : EReal :=
  ∑ i : Fin 2, ∑ s : Fin 2048, share (fun k => a (ix3 i s k)) (fun k => b (ix3 i s k)) (fun k => c (ix3 i s k)) k (g (ix3 i 0 n)) (d (ix3 i s n))

variable (m : (ℓ : Loc nD τ sig) → Buf (Elt Ideal) ℓ)

theorem idx0 : ∀ t : Fin cfg0.N, win0_0.index t = ![t.val / 4, t.val % 4, 0] := (by decide +kernel : ∀ t : Fin grid0.N, _)
theorem idx1 : ∀ t : Fin cfg0.N, win0_1.index t = ![t.val / 4, t.val % 4, 0] := (by decide +kernel : ∀ t : Fin grid0.N, _)
theorem idx2 : ∀ t : Fin cfg0.N, win0_2.index t = ![t.val / 4, t.val % 4, 0] := (by decide +kernel : ∀ t : Fin grid0.N, _)
theorem idx3 : ∀ t : Fin cfg0.N, win0_3.index t = ![t.val / 4, t.val % 4, 0] := (by decide +kernel : ∀ t : Fin grid0.N, _)
theorem idx4 : ∀ t : Fin cfg0.N, win0_4.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)
theorem idx9 : ∀ t : Fin cfg0.N, win0_9.index t = ![t.val / 4, t.val % 4, 0] := (by decide +kernel : ∀ t : Fin grid0.N, _)
theorem idx10 : ∀ t : Fin cfg0.N, win0_10.index t = ![t.val / 4, t.val % 4, 0] := (by decide +kernel : ∀ t : Fin grid0.N, _)
theorem idx11 : ∀ t : Fin cfg0.N, win0_11.index t = ![t.val / 4, t.val % 4, 0] := (by decide +kernel : ∀ t : Fin grid0.N, _)
theorem idx5 : ∀ t : Fin cfg0.N, win0_5.index t = ![t.val / 4, 0, 0] := (by decide +kernel : ∀ t : Fin grid0.N, _)
theorem idx6 : ∀ t : Fin cfg0.N, win0_6.index t = ![1, 0, 0] := (by decide +kernel : ∀ t : Fin grid0.N, _)
theorem idx12 : ∀ t : Fin cfg0.N, win0_12.index t = ![t.val / 4, 0, 0] := (by decide +kernel : ∀ t : Fin grid0.N, _)
theorem idx13 : ∀ t : Fin cfg0.N, win0_13.index t = ![0, 0] := (by decide +kernel : ∀ t : Fin grid0.N, _)

theorem flush12 : ∀ t : Fin cfg0.N, (cfg0.win 12).flush t = true → t.val % 4 = 3 := (by decide +kernel : ∀ t : Fin grid0.N, _)
theorem flush13 : ∀ t : Fin cfg0.N, (cfg0.win 13).flush t = true → t.val + 1 = cfg0.N := (by decide +kernel : ∀ t : Fin grid0.N, _)

theorem V_mix (c : Dev nD) : (V m c main_v4 : S2x2048x1024.Idx → EReal) = fun j : S2x2048x1024.Idx =>
    prod (m ((c : Thread nD τ).loc main_arg1)) (m ((c : Thread nD τ).loc main_arg2)) (m ((c : Thread nD τ).loc main_arg3)) (m ((c : Thread nD τ).loc main_arg5)) (j 0) (j 1) (j 2) := by
  simp only [V, List.flatten_cons, List.flatten_nil, List.append_nil, hostOps0, List.cons_append, List.nil_append]
  after_results
  exact Cert.Proof.ProjFwd.ref_mix (m ((c : Thread nD τ).loc main_arg1)) (m ((c : Thread nD τ).loc main_arg2)) (m ((c : Thread nD τ).loc main_arg3)) (m ((c : Thread nD τ).loc main_arg5))

section

variable (d mix : Vec Ideal S1x512x1024 .f32) (a : Vec Ideal S1x512x256 .f32) (b : Vec Ideal S1x512x512 .f32) (c : Vec Ideal S1x512x256 .f32) (g : Vec Ideal S1x1x1024 .f32) (w : Vec Ideal S1x1024x1024 .bf16)

theorem pay1_apply (s : Fin 512) (n : Fin 1024) : k0_pay1 (k0_pay8 d) (ix3 0 s n) = d (ix3 0 s n) := by
  pointwise [k0_pay1, k0_pay8]

theorem pay14_apply (s : Fin 512) (k : Fin 256) :
    k0_pay2 (k0_pay14 g d w) (ix3 0 s k) = back (fun n => g (ix3 0 0 n)) (fun n => d (ix3 0 s n)) (fun n => w (ix3 0 (from0 k) n)) := by
  pointwise [k0_pay2, k0_pay14, k0_pay12, k0_pay10, k0_pay9, k0_pay8, back, from0]

theorem pay15_apply (s : Fin 512) (k : Fin 512) :
    k0_pay3 (k0_pay15 g d w) (ix3 0 s k) = back (fun n => g (ix3 0 0 n)) (fun n => d (ix3 0 s n)) (fun n => w (ix3 0 (from256 k) n)) := by
  pointwise [k0_pay3, k0_pay15, k0_pay12, k0_pay10, k0_pay9, k0_pay8, back, from256]

theorem pay16_apply (s : Fin 512) (k : Fin 256) :
    k0_pay4 (k0_pay16 g d w) (ix3 0 s k) = back (fun n => g (ix3 0 0 n)) (fun n => d (ix3 0 s n)) (fun n => w (ix3 0 (from768 k) n)) := by
  pointwise [k0_pay4, k0_pay16, k0_pay12, k0_pay10, k0_pay9, k0_pay8, back, from768]

theorem pay11_apply (n : Fin 1024) : k0_pay5 (k0_pay11 mix d) (ix3 0 0 n) = ∑ s : Fin 512, d (ix3 0 s n) * mix (ix3 0 s n) := by
  pointwise [k0_pay5, k0_pay11, k0_pay9, k0_pay8]

theorem pay13_apply (k n : Fin 1024) :
    k0_pay13 a b c g d (ix2 k n) = ∑ s : Fin 512, share (fun k => a (ix3 0 s k)) (fun k => b (ix3 0 s k)) (fun k => c (ix3 0 s k)) k (g (ix3 0 0 n)) (d (ix3 0 s n)) := by
  unfold share
  pointwise [k0_pay13, k0_pay10, k0_pay9, k0_pay8]
  rfl

theorem pay6_apply (v : FVec Ideal S1x1024 .f32) (u : Vec Ideal S1x1x1024 .f32) (j : S1x1x1024.Idx) : k0_pay6 v u j = u j + k0_pay5 v j := by
  idx_vars j
  have e0 : j0 = 0 := Subsingleton.elim _ _
  have e1 : j1 = 0 := Subsingleton.elim _ _
  subst e0; subst e1
  pointwise [k0_pay6, k0_pay5]

theorem pay7_apply (v u : FVec Ideal S1024x1024 .f32) (j : S1024x1024.Idx) : k0_pay7 v u j = u j + v j := by
  pointwise [k0_pay7]

end

section

variable (c : Dev nD) (t : Fin cfg0.N)

theorem out8 : (outsAt0 m c t.val t.isLt).1 = k0_pay1 (k0_pay8 (iblk m c 7 t)) := by
  have hN : cfg0.N = 8 := N_0
  have ht := t.isLt
  by_cases h : t.val % 4 = 0
  · by_cases h' : t.val % 8 = 0
    · rw [outsAt0_A m c t h (by omega) h' (by omega)]; frame_out
    · rw [outsAt0_C m c t h (by omega) h' (by omega)]; frame_out
  · rw [outsAt0_B m c t h (by omega) (by omega) (by omega)]; frame_out

theorem out9 : (outsAt0 m c t.val t.isLt).2.1 = k0_pay2 (k0_pay14 (iblk m c 5 t) (iblk m c 7 t) (iblk m c 6 t)) := by
  have hN : cfg0.N = 8 := N_0
  have ht := t.isLt
  by_cases h : t.val % 4 = 0
  · by_cases h' : t.val % 8 = 0
    · rw [outsAt0_A m c t h (by omega) h' (by omega)]; frame_out
    · rw [outsAt0_C m c t h (by omega) h' (by omega)]; frame_out
  · rw [outsAt0_B m c t h (by omega) (by omega) (by omega)]; frame_out

theorem out10 : (outsAt0 m c t.val t.isLt).2.2.1 = k0_pay3 (k0_pay15 (iblk m c 5 t) (iblk m c 7 t) (iblk m c 6 t)) := by
  have hN : cfg0.N = 8 := N_0
  have ht := t.isLt
  by_cases h : t.val % 4 = 0
  · by_cases h' : t.val % 8 = 0
    · rw [outsAt0_A m c t h (by omega) h' (by omega)]; frame_out
    · rw [outsAt0_C m c t h (by omega) h' (by omega)]; frame_out
  · rw [outsAt0_B m c t h (by omega) (by omega) (by omega)]; frame_out

theorem out11 : (outsAt0 m c t.val t.isLt).2.2.2.1 = k0_pay4 (k0_pay16 (iblk m c 5 t) (iblk m c 7 t) (iblk m c 6 t)) := by
  have hN : cfg0.N = 8 := N_0
  have ht := t.isLt
  by_cases h : t.val % 4 = 0
  · by_cases h' : t.val % 8 = 0
    · rw [outsAt0_A m c t h (by omega) h' (by omega)]; frame_out
    · rw [outsAt0_C m c t h (by omega) h' (by omega)]; frame_out
  · rw [outsAt0_B m c t h (by omega) (by omega) (by omega)]; frame_out

/-- What a point adds to the gate's gradient and to the weight's. -/
def addG : FVec Ideal S1x1024 .f32 := k0_pay11 (iblk m c 4 t) (iblk m c 7 t)
def addW : FVec Ideal S1024x1024 .f32 := k0_pay13 (iblk m c 1 t) (iblk m c 2 t) (iblk m c 3 t) (iblk m c 5 t) (iblk m c 7 t)

theorem reset12 (h : t.val % 4 = 0) : (outsAt0 m c t.val t.isLt).2.2.2.2.1 = k0_pay5 (addG m c t) := by
  have hN : cfg0.N = 8 := N_0
  have ht := t.isLt
  by_cases h' : t.val % 8 = 0
  · rw [outsAt0_A m c t h (by omega) h' (by omega)]; frame_out; rfl
  · rw [outsAt0_C m c t h (by omega) h' (by omega)]; frame_out; rfl

theorem step12 (h : ¬ t.val % 4 = 0) : (outsAt0 m c t.val t.isLt).2.2.2.2.1 = k0_pay6 (addG m c t) (outsAt0 m c (t.val - 1) (Nat.lt_of_le_of_lt (Nat.sub_le _ _) t.isLt)).2.2.2.2.1 := by
  have hN : cfg0.N = 8 := N_0
  have ht := t.isLt
  rw [outsAt0_B m c t h (by omega) (by omega) (by omega)]; frame_out; rfl

theorem reset13 (h : t.val % 8 = 0) : (outsAt0 m c t.val t.isLt).2.2.2.2.2 = addW m c t := by
  have hN : cfg0.N = 8 := N_0
  have ht := t.isLt
  rw [outsAt0_A m c t (by omega) (by omega) h (by omega)]; frame_out; rfl

theorem step13 (h : ¬ t.val % 8 = 0) : (outsAt0 m c t.val t.isLt).2.2.2.2.2 = k0_pay7 (addW m c t) (outsAt0 m c (t.val - 1) (Nat.lt_of_le_of_lt (Nat.sub_le _ _) t.isLt)).2.2.2.2.2 := by
  have hN : cfg0.N = 8 := N_0
  have ht := t.isLt
  by_cases h' : t.val % 4 = 0
  · rw [outsAt0_C m c t h' (by omega) h (by omega)]; frame_out; rfl
  · rw [outsAt0_B m c t h' (by omega) h (by omega)]; frame_out; rfl

end

theorem final_dh (c : Dev nD) : ((dats m 0 c).arrAt 8 cfg0.N : S2x2048x1024.Idx → EReal) = m ((c : Thread nD τ).loc main_arg6) := by
  refine (dats m 0 c).arrAt_eq_of_covers 8 _ (by decide +kernel) fun t hf y => ?_
  blk_simp
  rw [after0_8, out8]
  idx_vars y
  have e0 : y0 = 0 := Subsingleton.elim _ _
  subst e0
  rw [pay1_apply]
  blk_ext [iblk, V, idx7 t, idx8 t]

theorem final_a (c : Dev nD) : ((dats m 0 c).arrAt 9 cfg0.N : S2x2048x256.Idx → EReal) = fun j : S2x2048x256.Idx =>
    back (fun n => (m ((c : Thread nD τ).loc main_arg4) : S2x1x1024.Idx → EReal) (ix3 (j 0) 0 n)) (fun n => (m ((c : Thread nD τ).loc main_arg6) : S2x2048x1024.Idx → EReal) (ix3 (j 0) (j 1) n))
      (fun n => (m ((c : Thread nD τ).loc main_arg5) : S2x1024x1024.Idx → EReal) (ix3 1 (from0 (j 2)) n)) := by
  refine (dats m 0 c).arrAt_eq_of_covers 9 _ (by decide +kernel) fun t hf y => ?_
  blk_simp
  rw [after0_9, out9]
  idx_vars y
  have e0 : y0 = 0 := Subsingleton.elim _ _
  subst e0
  rw [pay14_apply]
  refine congr (congr (congrArg back (funext fun n => ?_)) (funext fun n => ?_)) (funext fun n => ?_)
  · blk_ext [iblk, V, idx5 t, idx9 t]
  · blk_ext [iblk, V, idx7 t, idx9 t]
  · blk_ext [iblk, V, idx6 t, idx9 t, from0]

theorem final_b (c : Dev nD) : ((dats m 0 c).arrAt 10 cfg0.N : S2x2048x512.Idx → EReal) = fun j : S2x2048x512.Idx =>
    back (fun n => (m ((c : Thread nD τ).loc main_arg4) : S2x1x1024.Idx → EReal) (ix3 (j 0) 0 n)) (fun n => (m ((c : Thread nD τ).loc main_arg6) : S2x2048x1024.Idx → EReal) (ix3 (j 0) (j 1) n))
      (fun n => (m ((c : Thread nD τ).loc main_arg5) : S2x1024x1024.Idx → EReal) (ix3 1 (from256 (j 2)) n)) := by
  refine (dats m 0 c).arrAt_eq_of_covers 10 _ (by decide +kernel) fun t hf y => ?_
  blk_simp
  rw [after0_10, out10]
  idx_vars y
  have e0 : y0 = 0 := Subsingleton.elim _ _
  subst e0
  rw [pay15_apply]
  refine congr (congr (congrArg back (funext fun n => ?_)) (funext fun n => ?_)) (funext fun n => ?_)
  · blk_ext [iblk, V, idx5 t, idx10 t]
  · blk_ext [iblk, V, idx7 t, idx10 t]
  · blk_ext [iblk, V, idx6 t, idx10 t, from256]

theorem final_c (c : Dev nD) : ((dats m 0 c).arrAt 11 cfg0.N : S2x2048x256.Idx → EReal) = fun j : S2x2048x256.Idx =>
    back (fun n => (m ((c : Thread nD τ).loc main_arg4) : S2x1x1024.Idx → EReal) (ix3 (j 0) 0 n)) (fun n => (m ((c : Thread nD τ).loc main_arg6) : S2x2048x1024.Idx → EReal) (ix3 (j 0) (j 1) n))
      (fun n => (m ((c : Thread nD τ).loc main_arg5) : S2x1024x1024.Idx → EReal) (ix3 1 (from768 (j 2)) n)) := by
  refine (dats m 0 c).arrAt_eq_of_covers 11 _ (by decide +kernel) fun t hf y => ?_
  blk_simp
  rw [after0_11, out11]
  idx_vars y
  have e0 : y0 = 0 := Subsingleton.elim _ _
  subst e0
  rw [pay16_apply]
  refine congr (congr (congrArg back (funext fun n => ?_)) (funext fun n => ?_)) (funext fun n => ?_)
  · blk_ext [iblk, V, idx5 t, idx11 t]
  · blk_ext [iblk, V, idx7 t, idx11 t]
  · blk_ext [iblk, V, idx6 t, idx11 t, from768]

theorem emb4 (t : Fin cfg0.N) (s : Fin 512) (n : Fin 1024) :
    (win0_4.blk t).view.emb (ix3 0 s n) = (ix3 ⟨t.val / 4, by have := t.isLt; have hN : cfg0.N = 8 := N_0; omega⟩ ⟨t.val % 4 * 512 + s.val, by omega⟩ n : S2x2048x1024.Idx) := by
  blk_ext [idx4 t]

theorem emb12 (t : Fin cfg0.N) (n : Fin 1024) :
    (win0_12.blk t).view.emb (ix3 0 0 n) = (ix3 ⟨t.val / 4, by have := t.isLt; have hN : cfg0.N = 8 := N_0; omega⟩ 0 n : S2x1x1024.Idx) := by
  blk_ext [idx12 t]

theorem blk4 (c : Dev nD) (t : Fin cfg0.N) (s : Fin 512) (n : Fin 1024) :
    iblk m c 4 t (ix3 0 s n) = prod (m ((c : Thread nD τ).loc main_arg1)) (m ((c : Thread nD τ).loc main_arg2)) (m ((c : Thread nD τ).loc main_arg3)) (m ((c : Thread nD τ).loc main_arg5)) ⟨t.val / 4, by have := t.isLt; have hN : cfg0.N = 8 := N_0; omega⟩ ⟨t.val % 4 * 512 + s.val, by omega⟩ n := by
  have h := congrFun (V_mix m c) ((win0_4.blk t).view.emb (ix3 0 s n))
  rw [emb4] at h
  refine Eq.trans ?_ h
  blk_ext [iblk, V, idx4 t]

theorem final_dgt (c : Dev nD) : ((dats m 0 c).arrAt 12 cfg0.N : S2x1x1024.Idx → EReal) = fun j : S2x1x1024.Idx =>
    dgt (m ((c : Thread nD τ).loc main_arg1)) (m ((c : Thread nD τ).loc main_arg2)) (m ((c : Thread nD τ).loc main_arg3)) (m ((c : Thread nD τ).loc main_arg5)) (m ((c : Thread nD τ).loc main_arg6)) (j 0) (j 2) := by
  have hN : cfg0.N = 8 := N_0
  refine (dats m 0 c).arrAt_eq_of_covers 12 _ (by decide +kernel) fun u hf y => ?_
  blk_simp
  rw [after0_12, Pipeline.eq_sum_fin_of_reset_step_apply_of_flush (fun n h => (outsAt0 m c n h).2.2.2.2.1) 4 (fun _ => 0) (fun t j => k0_pay5 (addG m c t) j)
    (fun t h j => by rw [reset12 m c t h]; exact (zero_add _).symm)
    (fun t h j => by rw [step12 m c t h, pay6_apply])
    u (flush12 u hf) y, zero_add]
  idx_vars y
  have e0 : y0 = 0 := Subsingleton.elim _ _
  have e1 : y1 = 0 := Subsingleton.elim _ _
  subst e0; subst e1
  simp only [addG, pay11_apply]
  rw [emb12]
  unfold dgt
  refine Fin.sum_mul_add_congr fun s k hl => ?_
  have hd : (4 * (u.val / 4) + s.val) / 4 = u.val / 4 := by omega
  have hm : (4 * (u.val / 4) + s.val) % 4 = s.val := by omega
  refine congr (congrArg HMul.hMul ?_) ?_
  · blk_ext [iblk, V, idx7]
  · rw [blk4]
    refine congr (congr (congrArg (prod _ _ _ _) (Fin.ext hd)) (Fin.ext ?_)) rfl
    show (4 * (u.val / 4) + s.val) % 4 * 512 + k.val = s.val * 512 + k.val
    rw [hm]

theorem emb13 (t : Fin cfg0.N) (y : S1024x1024.Idx) : (win0_13.blk t).view.emb y = y := by
  blk_ext [idx13 t]

theorem final_dw (c : Dev nD) : ((dats m 0 c).arrAt 13 cfg0.N : S1024x1024.Idx → EReal) = fun j : S1024x1024.Idx =>
    dw (m ((c : Thread nD τ).loc main_arg1)) (m ((c : Thread nD τ).loc main_arg2)) (m ((c : Thread nD τ).loc main_arg3)) (m ((c : Thread nD τ).loc main_arg4)) (m ((c : Thread nD τ).loc main_arg6)) (j 0) (j 1) := by
  have hN : cfg0.N = 8 := N_0
  refine (dats m 0 c).arrAt_eq_of_covers 13 _ (by decide +kernel) fun u hf y => ?_
  blk_simp
  rw [after0_13, Pipeline.eq_sum_fin_of_reset_step_apply_last (fun n h => (outsAt0 m c n h).2.2.2.2.2) 8 (fun _ => 0) (fun t j => addW m c t j)
    (fun t h j => by rw [reset13 m c t h]; exact (zero_add _).symm)
    (fun t h j => by rw [step13 m c t h, pay7_apply])
    (le_of_eq N_0) u (flush13 u hf) y, zero_add]
  idx_vars y
  simp only [addW, pay13_apply]
  rw [emb13]
  unfold dw
  refine Fin.sum_points_lanes_congr 4 fun t k ha hl => ?_
  refine congr (congr (congr (congr (congr (congrArg share (funext fun n => ?_)) (funext fun n => ?_)) (funext fun n => ?_)) ?_) ?_) ?_
  · blk_ext [iblk, V, idx1 t]
  · blk_ext [iblk, V, idx2 t]
  · blk_ext [iblk, V, idx3 t]
  · rfl
  · blk_ext [iblk, V, idx5 t]
  · blk_ext [iblk, V, idx7 t]

end

section

open Cert.ProjBwdRefIdeal Cert.ProjBwdRefIdeal.Read

variable (a : S2x2048x256.Idx → EReal) (b : S2x2048x512.Idx → EReal) (c : S2x2048x256.Idx → EReal) (g : S2x1x1024.Idx → EReal) (w : S2x1024x1024.Idx → EReal) (d : S2x2048x1024.Idx → EReal)

theorem ref_mix : (val_main_v4 (F := Ideal) a b c w : S2x2048x1024.Idx → EReal) = fun j : S2x2048x1024.Idx => prod a b c w (j 0) (j 1) (j 2) :=
  Cert.Proof.ProjFwd.ref_mix a b c w

theorem ref_dgt : (val_main_v13 (F := Ideal) a b c w d : S2x1x1024.Idx → EReal) = fun j : S2x1x1024.Idx => dgt a b c w d (j 0) (j 2) := by
  funext j
  idx_vars j
  unfold dgt
  pointwise [val_main_v13, val_main_v12, val_main_cst, val_main_v11, val_main_v8]
  simp only [ref_mix]
  rfl

theorem ref_dw : (val_main_v15 (F := Ideal) a b c g d : S1024x1024.Idx → EReal) = fun j : S1024x1024.Idx => dw a b c g d (j 0) (j 1) := by
  funext j
  idx_vars j
  unfold dw share
  pointwise [val_main_v15, val_main_v14, val_main_v10, val_main_v9, val_main_v8, val_main_v3]
  exact Finset.sum_congr rfl fun _ _ => Finset.sum_congr rfl fun _ _ => mul_comm (_ : EReal) _

theorem ref_a : (val_main_v17 (F := Ideal) g w d : S2x2048x256.Idx → EReal) = fun j : S2x2048x256.Idx =>
    back (fun n => g (ix3 (j 0) 0 n)) (fun n => d (ix3 (j 0) (j 1) n)) (fun n => w (ix3 1 (from0 (j 2)) n)) := by
  funext j
  idx_vars j
  unfold back
  pointwise [val_main_v17, val_main_v16, val_main_v10, val_main_v9, val_main_v8, val_main_v2, val_main_v1, val_main_v0, from0]

theorem ref_b : (val_main_v18 (F := Ideal) g w d : S2x2048x512.Idx → EReal) = fun j : S2x2048x512.Idx =>
    back (fun n => g (ix3 (j 0) 0 n)) (fun n => d (ix3 (j 0) (j 1) n)) (fun n => w (ix3 1 (from256 (j 2)) n)) := by
  funext j
  idx_vars j
  unfold back
  pointwise [val_main_v18, val_main_v16, val_main_v10, val_main_v9, val_main_v8, val_main_v2, val_main_v1, val_main_v0, from256]

theorem ref_c : (val_main_v19 (F := Ideal) g w d : S2x2048x256.Idx → EReal) = fun j : S2x2048x256.Idx =>
    back (fun n => g (ix3 (j 0) 0 n)) (fun n => d (ix3 (j 0) (j 1) n)) (fun n => w (ix3 1 (from768 (j 2)) n)) := by
  funext j
  idx_vars j
  unfold back
  pointwise [val_main_v19, val_main_v16, val_main_v10, val_main_v9, val_main_v8, val_main_v2, val_main_v1, val_main_v0, from768]

end

/-- The reference leaves its arguments and its counters alone. -/
theorem frame_ref : Cert.quiescent_ProjBwdRefIdeal := fun m ρ _ =>
  (θ_run Cert.ProjBwdRefIdeal.defs _ _).mono (fun r h => ⟨fun c => (h c).2.2.2.2.2.2,
      Idealize.ShloMosaic.sem_eq_zero_of_no_sems (by decide) r.2⟩)
    (Cert.ProjBwdRefIdeal.Value.run (F := Ideal) m ρ)

/-- The values the two calls leave agree. -/
theorem algebraic : Cert.algebraic_ProjBwdIdeal_ProjBwdRefIdeal := by
  intro m ρ m' ρ' _ hag
  refine ⟨fun c => (Cert.ProjBwdIdeal.Gen.dats m 0 c).arrAt 8 Cert.ProjBwdIdeal.cfg0.N,
    fun c => (Cert.ProjBwdIdeal.Gen.dats m 0 c).arrAt 9 Cert.ProjBwdIdeal.cfg0.N,
    fun c => (Cert.ProjBwdIdeal.Gen.dats m 0 c).arrAt 10 Cert.ProjBwdIdeal.cfg0.N,
    fun c => (Cert.ProjBwdIdeal.Gen.dats m 0 c).arrAt 11 Cert.ProjBwdIdeal.cfg0.N,
    fun c => (Cert.ProjBwdIdeal.Gen.dats m 0 c).arrAt 12 Cert.ProjBwdIdeal.cfg0.N,
    fun c => (Cert.ProjBwdIdeal.Gen.dats m 0 c).arrAt 13 Cert.ProjBwdIdeal.cfg0.N,
    Cert.ProjBwdIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.ProjBwdRefIdeal.Value.run (F := Ideal) m' ρ')
  · rw [(hag c).2.2.2.2.2.2]
    exact (final_dh m c).symm
  · rw [(hag c).2.2.2.2.1, (hag c).2.2.2.2.2.1, (hag c).2.2.2.2.2.2]
    exact ((Cert.ProjBwdRefIdeal.Read.val_main_v17_eq (F := Ideal) _ _ _).trans (ref_a _ _ _)).trans (final_a m c).symm
  · rw [(hag c).2.2.2.2.1, (hag c).2.2.2.2.2.1, (hag c).2.2.2.2.2.2]
    exact ((Cert.ProjBwdRefIdeal.Read.val_main_v18_eq (F := Ideal) _ _ _).trans (ref_b _ _ _)).trans (final_b m c).symm
  · rw [(hag c).2.2.2.2.1, (hag c).2.2.2.2.2.1, (hag c).2.2.2.2.2.2]
    exact ((Cert.ProjBwdRefIdeal.Read.val_main_v19_eq (F := Ideal) _ _ _).trans (ref_c _ _ _)).trans (final_c m c).symm
  · rw [(hag c).2.1, (hag c).2.2.1, (hag c).2.2.2.1, (hag c).2.2.2.2.2.1, (hag c).2.2.2.2.2.2]
    exact ((Cert.ProjBwdRefIdeal.Read.val_main_v13_eq (F := Ideal) _ _ _ _ _).trans (ref_dgt _ _ _ _ _)).trans (final_dgt m c).symm
  · rw [(hag c).2.1, (hag c).2.2.1, (hag c).2.2.2.1, (hag c).2.2.2.2.1, (hag c).2.2.2.2.2.2]
    exact ((Cert.ProjBwdRefIdeal.Read.val_main_v15_eq (F := Ideal) _ _ _ _ _).trans (ref_dw _ _ _ _ _)).trans (final_dw m c).symm

end Cert.Proof.ProjBwd

end
-- ==== Proof.MixerFwd.lean ====
/- The mixer input's forward call: the kernel's seven arrays are the reference's. -/
module

public import proofs.«01_k».proof.Defs
public import proofs.«01_k».proof.Proof.MlpSpec
public import proofs.«01_k».proof.Proof.Gen.MixerFwdIdeal.Value
public import proofs.«01_k».proof.Proof.Gen.MixerFwdRefIdeal.Read
public import Idealize.ShloMosaic.Lib.Pipeline.ReadBack
public import Idealize.ShloMosaic.Lib.Quiescent

@[expose] public section

set_option maxRecDepth 16384

noncomputable section

namespace Cert.Proof.MixerFwd

open Idealize.ShloMosaic Idealize.ShloMosaic.TcCoe Idealize.SL.Sem Cert.MlpSpec

/-- The product at one token and column, from the token, the gain, the modulation and the weight's column. -/
def row (f g sc sh w : Fin 1024 → EReal) : EReal := ∑ k : Fin 1024, modulated f (g k) (sc k) (sh k) k * w k

/-- Column `n` of the piece that starts at column 0. -/
def from0 (n : Fin 768) : Fin 2560 := ⟨0 + n.val, by omega⟩

/-- Column `n` of the piece that starts at column 768. -/
def from768 (n : Fin 256) : Fin 2560 := ⟨768 + n.val, by omega⟩

/-- Column `n` of the piece that starts at column 1024. -/
def from1024 (n : Fin 512) : Fin 2560 := ⟨1024 + n.val, by omega⟩

/-- Column `n` of the piece that starts at column 1536. -/
def from1536 (n : Fin 512) : Fin 2560 := ⟨1536 + n.val, by omega⟩

/-- Column `n` of the piece that starts at column 2048. -/
def from2048 (n : Fin 256) : Fin 2560 := ⟨2048 + n.val, by omega⟩

/-- Column `n` of the piece that starts at column 2304. -/
def from2304 (n : Fin 128) : Fin 2560 := ⟨2304 + n.val, by omega⟩

/-- Column `n` of the piece that starts at column 2432. -/
def from2432 (n : Fin 128) : Fin 2560 := ⟨2432 + n.val, by omega⟩

section

open Cert.MixerFwdIdeal Cert.MixerFwdIdeal.Gen

variable (m : (ℓ : Loc nD τ sig) → Buf (Elt Ideal) ℓ)

theorem idx0 : ∀ t : Fin cfg0.N, win0_0.index t = ![t.val / 4, t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![1, 0, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)
theorem idx9 : ∀ t : Fin cfg0.N, win0_9.index t = ![t.val / 4, t.val % 4, 0] := (by decide +kernel : ∀ t : Fin grid0.N, _)
theorem idx10 : ∀ t : Fin cfg0.N, win0_10.index t = ![t.val / 4, t.val % 4, 0] := (by decide +kernel : ∀ t : Fin grid0.N, _)
theorem idx11 : ∀ t : Fin cfg0.N, win0_11.index t = ![t.val / 4, t.val % 4, 0] := (by decide +kernel : ∀ t : Fin grid0.N, _)

theorem pay8_apply (v0 : Vec Ideal S1x512x1024 .f32) (v2 v4 : Vec Ideal S1x1x1024 .f32) (v6 : Vec Ideal S1x1024 .f32) (w : Vec Ideal S1x1024x2560 .bf16) (s : Fin 512) (n : Fin 2560) :
    k0_pay8 v0 v2 v4 v6 w (ix2 s n) = row (fun k => v0 (ix3 0 s k)) (fun k => v6 (ix2 0 k)) (fun k => v2 (ix3 0 0 k)) (fun k => v4 (ix3 0 0 k)) (fun k => w (ix3 0 k n)) := by
  pointwise [k0_pay8, row, modulated, rinv]

/-- The product's entry, from the whole arrays. -/
def out (h : S2x2048x1024.Idx → EReal) (sc sh : S2x1x1024.Idx → EReal) (g : S1x1024.Idx → EReal) (w : S2x1024x2560.Idx → EReal) (b : Fin 2) (s : Fin 2048) (n : Fin 2560) : EReal :=
  row (fun k => h (ix3 b s k)) (fun k => g (ix2 0 k)) (fun k => sc (ix3 b 0 k)) (fun k => sh (ix3 b 0 k)) (fun k => w (ix3 1 k n))

theorem blocks (c : Dev nD) (t : Fin cfg0.N) (s : Fin 512) (n : Fin 2560) :
    k0_pay8 (iblk m c 0 t) (iblk m c 1 t) (iblk m c 2 t) (iblk m c 3 t) (iblk m c 4 t) (ix2 s n)
      = out (m ((c : Thread nD τ).loc main_arg0)) (m ((c : Thread nD τ).loc main_arg1)) (m ((c : Thread nD τ).loc main_arg2)) (m ((c : Thread nD τ).loc main_arg3)) (m ((c : Thread nD τ).loc main_arg4))
        ⟨t.val / 4, by have := t.isLt; have hN : cfg0.N = 8 := N_0; omega⟩ ⟨t.val % 4 * 512 + s.val, by omega⟩ n := by
  rw [pay8_apply]
  unfold out
  refine congr (congr (congr (congr (congrArg row (funext fun k => ?_)) (funext fun k => ?_)) (funext fun k => ?_)) (funext fun k => ?_)) (funext fun k => ?_)
  · blk_ext [iblk, V, idx0 t]
  · blk_ext [iblk, V, idx3 t]
  · blk_ext [iblk, V, idx1 t]
  · blk_ext [iblk, V, idx2 t]
  · blk_ext [iblk, V, idx4 t]

theorem out5 (c : Dev nD) (t : Fin cfg0.N) : (dats m 0 c).after 5 t = k0_pay1 (k0_pay9 (iblk m c 0 t) (iblk m c 1 t) (iblk m c 2 t) (iblk m c 3 t) (iblk m c 4 t)) := by
  rw [after0_5]; frame_out

theorem pay9_apply (v0 : Vec Ideal S1x512x1024 .f32) (v2 v4 : Vec Ideal S1x1x1024 .f32) (v6 : Vec Ideal S1x1024 .f32) (w : Vec Ideal S1x1024x2560 .bf16) (s : Fin 512) (n : Fin 768) :
    k0_pay1 (k0_pay9 v0 v2 v4 v6 w) (ix3 0 s n) = k0_pay8 v0 v2 v4 v6 w (ix2 s (from0 n)) := by
  pointwise [k0_pay1, k0_pay9, from0]

theorem emb5 (t : Fin cfg0.N) (s : Fin 512) (n : Fin 768) :
    (win0_5.blk t).view.emb (ix3 0 s n) = (ix3 ⟨t.val / 4, by have := t.isLt; have hN : cfg0.N = 8 := N_0; omega⟩ ⟨t.val % 4 * 512 + s.val, by omega⟩ n : S2x2048x768.Idx) := by
  blk_ext [idx5 t]

theorem final_qkv (c : Dev nD) : ((dats m 0 c).arrAt 5 cfg0.N : S2x2048x768.Idx → EReal) = fun j : S2x2048x768.Idx =>
    out (m ((c : Thread nD τ).loc main_arg0)) (m ((c : Thread nD τ).loc main_arg1)) (m ((c : Thread nD τ).loc main_arg2)) (m ((c : Thread nD τ).loc main_arg3)) (m ((c : Thread nD τ).loc main_arg4))
      (j 0) (j 1) (from0 (j 2)) := by
  refine (dats m 0 c).arrAt_eq_of_covers 5 _ (by decide +kernel) fun t hf y => ?_
  blk_simp
  rw [out5]
  idx_vars y
  have e0 : y0 = 0 := Subsingleton.elim _ _
  subst e0
  rw [emb5, pay9_apply, blocks]
  rfl

theorem out6 (c : Dev nD) (t : Fin cfg0.N) : (dats m 0 c).after 6 t = k0_pay2 (k0_pay10 (iblk m c 0 t) (iblk m c 1 t) (iblk m c 2 t) (iblk m c 3 t) (iblk m c 4 t)) := by
  rw [after0_6]; frame_out

theorem pay10_apply (v0 : Vec Ideal S1x512x1024 .f32) (v2 v4 : Vec Ideal S1x1x1024 .f32) (v6 : Vec Ideal S1x1024 .f32) (w : Vec Ideal S1x1024x2560 .bf16) (s : Fin 512) (n : Fin 256) :
    k0_pay2 (k0_pay10 v0 v2 v4 v6 w) (ix3 0 s n) = k0_pay8 v0 v2 v4 v6 w (ix2 s (from768 n)) := by
  pointwise [k0_pay2, k0_pay10, from768]

theorem emb6 (t : Fin cfg0.N) (s : Fin 512) (n : Fin 256) :
    (win0_6.blk t).view.emb (ix3 0 s n) = (ix3 ⟨t.val / 4, by have := t.isLt; have hN : cfg0.N = 8 := N_0; omega⟩ ⟨t.val % 4 * 512 + s.val, by omega⟩ n : S2x2048x256.Idx) := by
  blk_ext [idx6 t]

theorem final_z (c : Dev nD) : ((dats m 0 c).arrAt 6 cfg0.N : S2x2048x256.Idx → EReal) = fun j : S2x2048x256.Idx =>
    out (m ((c : Thread nD τ).loc main_arg0)) (m ((c : Thread nD τ).loc main_arg1)) (m ((c : Thread nD τ).loc main_arg2)) (m ((c : Thread nD τ).loc main_arg3)) (m ((c : Thread nD τ).loc main_arg4))
      (j 0) (j 1) (from768 (j 2)) := by
  refine (dats m 0 c).arrAt_eq_of_covers 6 _ (by decide +kernel) fun t hf y => ?_
  blk_simp
  rw [out6]
  idx_vars y
  have e0 : y0 = 0 := Subsingleton.elim _ _
  subst e0
  rw [emb6, pay10_apply, blocks]
  rfl

theorem out7 (c : Dev nD) (t : Fin cfg0.N) : (dats m 0 c).after 7 t = k0_pay3 (k0_pay11 (iblk m c 0 t) (iblk m c 1 t) (iblk m c 2 t) (iblk m c 3 t) (iblk m c 4 t)) := by
  rw [after0_7]; frame_out

theorem pay11_apply (v0 : Vec Ideal S1x512x1024 .f32) (v2 v4 : Vec Ideal S1x1x1024 .f32) (v6 : Vec Ideal S1x1024 .f32) (w : Vec Ideal S1x1024x2560 .bf16) (s : Fin 512) (n : Fin 512) :
    k0_pay3 (k0_pay11 v0 v2 v4 v6 w) (ix3 0 s n) = k0_pay8 v0 v2 v4 v6 w (ix2 s (from1024 n)) := by
  pointwise [k0_pay3, k0_pay11, from1024]

theorem emb7 (t : Fin cfg0.N) (s : Fin 512) (n : Fin 512) :
    (win0_7.blk t).view.emb (ix3 0 s n) = (ix3 ⟨t.val / 4, by have := t.isLt; have hN : cfg0.N = 8 := N_0; omega⟩ ⟨t.val % 4 * 512 + s.val, by omega⟩ n : S2x2048x512.Idx) := by
  blk_ext [idx7 t]

theorem final_rx (c : Dev nD) : ((dats m 0 c).arrAt 7 cfg0.N : S2x2048x512.Idx → EReal) = fun j : S2x2048x512.Idx =>
    out (m ((c : Thread nD τ).loc main_arg0)) (m ((c : Thread nD τ).loc main_arg1)) (m ((c : Thread nD τ).loc main_arg2)) (m ((c : Thread nD τ).loc main_arg3)) (m ((c : Thread nD τ).loc main_arg4))
      (j 0) (j 1) (from1024 (j 2)) := by
  refine (dats m 0 c).arrAt_eq_of_covers 7 _ (by decide +kernel) fun t hf y => ?_
  blk_simp
  rw [out7]
  idx_vars y
  have e0 : y0 = 0 := Subsingleton.elim _ _
  subst e0
  rw [emb7, pay11_apply, blocks]
  rfl

theorem out8 (c : Dev nD) (t : Fin cfg0.N) : (dats m 0 c).after 8 t = k0_pay4 (k0_pay12 (iblk m c 0 t) (iblk m c 1 t) (iblk m c 2 t) (iblk m c 3 t) (iblk m c 4 t)) := by
  rw [after0_8]; frame_out

theorem pay12_apply (v0 : Vec Ideal S1x512x1024 .f32) (v2 v4 : Vec Ideal S1x1x1024 .f32) (v6 : Vec Ideal S1x1024 .f32) (w : Vec Ideal S1x1024x2560 .bf16) (s : Fin 512) (n : Fin 512) :
    k0_pay4 (k0_pay12 v0 v2 v4 v6 w) (ix3 0 s n) = k0_pay8 v0 v2 v4 v6 w (ix2 s (from1536 n)) := by
  pointwise [k0_pay4, k0_pay12, from1536]

theorem emb8 (t : Fin cfg0.N) (s : Fin 512) (n : Fin 512) :
    (win0_8.blk t).view.emb (ix3 0 s n) = (ix3 ⟨t.val / 4, by have := t.isLt; have hN : cfg0.N = 8 := N_0; omega⟩ ⟨t.val % 4 * 512 + s.val, by omega⟩ n : S2x2048x512.Idx) := by
  blk_ext [idx8 t]

theorem final_rgate (c : Dev nD) : ((dats m 0 c).arrAt 8 cfg0.N : S2x2048x512.Idx → EReal) = fun j : S2x2048x512.Idx =>
    out (m ((c : Thread nD τ).loc main_arg0)) (m ((c : Thread nD τ).loc main_arg1)) (m ((c : Thread nD τ).loc main_arg2)) (m ((c : Thread nD τ).loc main_arg3)) (m ((c : Thread nD τ).loc main_arg4))
      (j 0) (j 1) (from1536 (j 2)) := by
  refine (dats m 0 c).arrAt_eq_of_covers 8 _ (by decide +kernel) fun t hf y => ?_
  blk_simp
  rw [out8]
  idx_vars y
  have e0 : y0 = 0 := Subsingleton.elim _ _
  subst e0
  rw [emb8, pay12_apply, blocks]
  rfl

theorem out9 (c : Dev nD) (t : Fin cfg0.N) : (dats m 0 c).after 9 t = k0_pay5 (k0_pay13 (iblk m c 0 t) (iblk m c 1 t) (iblk m c 2 t) (iblk m c 3 t) (iblk m c 4 t)) := by
  rw [after0_9]; frame_out

theorem pay13_apply (v0 : Vec Ideal S1x512x1024 .f32) (v2 v4 : Vec Ideal S1x1x1024 .f32) (v6 : Vec Ideal S1x1024 .f32) (w : Vec Ideal S1x1024x2560 .bf16) (s : Fin 512) (n : Fin 256) :
    k0_pay5 (k0_pay13 v0 v2 v4 v6 w) (ix3 0 s n) = k0_pay8 v0 v2 v4 v6 w (ix2 s (from2048 n)) := by
  pointwise [k0_pay5, k0_pay13, from2048]

theorem emb9 (t : Fin cfg0.N) (s : Fin 512) (n : Fin 256) :
    (win0_9.blk t).view.emb (ix3 0 s n) = (ix3 ⟨t.val / 4, by have := t.isLt; have hN : cfg0.N = 8 := N_0; omega⟩ ⟨t.val % 4 * 512 + s.val, by omega⟩ n : S2x2048x256.Idx) := by
  blk_ext [idx9 t]

theorem final_mq (c : Dev nD) : ((dats m 0 c).arrAt 9 cfg0.N : S2x2048x256.Idx → EReal) = fun j : S2x2048x256.Idx =>
    out (m ((c : Thread nD τ).loc main_arg0)) (m ((c : Thread nD τ).loc main_arg1)) (m ((c : Thread nD τ).loc main_arg2)) (m ((c : Thread nD τ).loc main_arg3)) (m ((c : Thread nD τ).loc main_arg4))
      (j 0) (j 1) (from2048 (j 2)) := by
  refine (dats m 0 c).arrAt_eq_of_covers 9 _ (by decide +kernel) fun t hf y => ?_
  blk_simp
  rw [out9]
  idx_vars y
  have e0 : y0 = 0 := Subsingleton.elim _ _
  subst e0
  rw [emb9, pay13_apply, blocks]
  rfl

theorem out10 (c : Dev nD) (t : Fin cfg0.N) : (dats m 0 c).after 10 t = k0_pay6 (k0_pay14 (iblk m c 0 t) (iblk m c 1 t) (iblk m c 2 t) (iblk m c 3 t) (iblk m c 4 t)) := by
  rw [after0_10]; frame_out

theorem pay14_apply (v0 : Vec Ideal S1x512x1024 .f32) (v2 v4 : Vec Ideal S1x1x1024 .f32) (v6 : Vec Ideal S1x1024 .f32) (w : Vec Ideal S1x1024x2560 .bf16) (s : Fin 512) (n : Fin 128) :
    k0_pay6 (k0_pay14 v0 v2 v4 v6 w) (ix3 0 s n) = k0_pay8 v0 v2 v4 v6 w (ix2 s (from2304 n)) := by
  pointwise [k0_pay6, k0_pay14, from2304]

theorem emb10 (t : Fin cfg0.N) (s : Fin 512) (n : Fin 128) :
    (win0_10.blk t).view.emb (ix3 0 s n) = (ix3 ⟨t.val / 4, by have := t.isLt; have hN : cfg0.N = 8 := N_0; omega⟩ ⟨t.val % 4 * 512 + s.val, by omega⟩ n : S2x2048x128.Idx) := by
  blk_ext [idx10 t]

theorem final_mkv (c : Dev nD) : ((dats m 0 c).arrAt 10 cfg0.N : S2x2048x128.Idx → EReal) = fun j : S2x2048x128.Idx =>
    out (m ((c : Thread nD τ).loc main_arg0)) (m ((c : Thread nD τ).loc main_arg1)) (m ((c : Thread nD τ).loc main_arg2)) (m ((c : Thread nD τ).loc main_arg3)) (m ((c : Thread nD τ).loc main_arg4))
      (j 0) (j 1) (from2304 (j 2)) := by
  refine (dats m 0 c).arrAt_eq_of_covers 10 _ (by decide +kernel) fun t hf y => ?_
  blk_simp
  rw [out10]
  idx_vars y
  have e0 : y0 = 0 := Subsingleton.elim _ _
  subst e0
  rw [emb10, pay14_apply, blocks]
  rfl

theorem out11 (c : Dev nD) (t : Fin cfg0.N) : (dats m 0 c).after 11 t = k0_pay7 (k0_pay15 (iblk m c 0 t) (iblk m c 1 t) (iblk m c 2 t) (iblk m c 3 t) (iblk m c 4 t)) := by
  rw [after0_11]; frame_out

theorem pay15_apply (v0 : Vec Ideal S1x512x1024 .f32) (v2 v4 : Vec Ideal S1x1x1024 .f32) (v6 : Vec Ideal S1x1024 .f32) (w : Vec Ideal S1x1024x2560 .bf16) (s : Fin 512) (n : Fin 128) :
    k0_pay7 (k0_pay15 v0 v2 v4 v6 w) (ix3 0 s n) = k0_pay8 v0 v2 v4 v6 w (ix2 s (from2432 n)) := by
  pointwise [k0_pay7, k0_pay15, from2432]

theorem emb11 (t : Fin cfg0.N) (s : Fin 512) (n : Fin 128) :
    (win0_11.blk t).view.emb (ix3 0 s n) = (ix3 ⟨t.val / 4, by have := t.isLt; have hN : cfg0.N = 8 := N_0; omega⟩ ⟨t.val % 4 * 512 + s.val, by omega⟩ n : S2x2048x128.Idx) := by
  blk_ext [idx11 t]

theorem final_misc (c : Dev nD) : ((dats m 0 c).arrAt 11 cfg0.N : S2x2048x128.Idx → EReal) = fun j : S2x2048x128.Idx =>
    out (m ((c : Thread nD τ).loc main_arg0)) (m ((c : Thread nD τ).loc main_arg1)) (m ((c : Thread nD τ).loc main_arg2)) (m ((c : Thread nD τ).loc main_arg3)) (m ((c : Thread nD τ).loc main_arg4))
      (j 0) (j 1) (from2432 (j 2)) := by
  refine (dats m 0 c).arrAt_eq_of_covers 11 _ (by decide +kernel) fun t hf y => ?_
  blk_simp
  rw [out11]
  idx_vars y
  have e0 : y0 = 0 := Subsingleton.elim _ _
  subst e0
  rw [emb11, pay15_apply, blocks]
  rfl

end

section

open Cert.MixerFwdRefIdeal Cert.MixerFwdRefIdeal.Read

variable (h : S2x2048x1024.Idx → EReal) (sc sh : S2x1x1024.Idx → EReal) (g : S1x1024.Idx → EReal) (w : S2x1024x2560.Idx → EReal)

theorem ref (b : Fin 2) (s : Fin 2048) (n : Fin 2560) : (val_main_v23 (F := Ideal) h sc sh g w : S2x2048x2560.Idx → EReal) (ix3 b s n) = out h sc sh g w b s n := by
  unfold out row modulated rinv
  pointwise [val_main_v23, val_main_v2, val_main_v1, val_main_v0, val_main_v22, val_main_v21, val_main_v20, val_main_v19, val_main_v18, val_main_v17, val_main_cst_2, val_main_v16, val_main_v15, val_main_v14, val_main_v3, val_main_v13, val_main_v12, val_main_v11, val_main_v10, val_main_v9, val_main_cst_1, val_main_v8,
    val_main_v7, val_main_cst_0, val_main_v6, val_main_v5, val_main_cst, val_main_v4]

theorem ref_qkv : (val_main_v24 (F := Ideal) h sc sh g w : S2x2048x768.Idx → EReal) = fun j : S2x2048x768.Idx =>
    out h sc sh g w (j 0) (j 1) (from0 (j 2)) := by
  funext j
  idx_vars j
  refine Eq.trans ?_ (ref h sc sh g w j0 j1 (from0 j2))
  pointwise [val_main_v24, from0]

theorem ref_z : (val_main_v25 (F := Ideal) h sc sh g w : S2x2048x256.Idx → EReal) = fun j : S2x2048x256.Idx =>
    out h sc sh g w (j 0) (j 1) (from768 (j 2)) := by
  funext j
  idx_vars j
  refine Eq.trans ?_ (ref h sc sh g w j0 j1 (from768 j2))
  pointwise [val_main_v25, from768]

theorem ref_rx : (val_main_v26 (F := Ideal) h sc sh g w : S2x2048x512.Idx → EReal) = fun j : S2x2048x512.Idx =>
    out h sc sh g w (j 0) (j 1) (from1024 (j 2)) := by
  funext j
  idx_vars j
  refine Eq.trans ?_ (ref h sc sh g w j0 j1 (from1024 j2))
  pointwise [val_main_v26, from1024]

theorem ref_rgate : (val_main_v27 (F := Ideal) h sc sh g w : S2x2048x512.Idx → EReal) = fun j : S2x2048x512.Idx =>
    out h sc sh g w (j 0) (j 1) (from1536 (j 2)) := by
  funext j
  idx_vars j
  refine Eq.trans ?_ (ref h sc sh g w j0 j1 (from1536 j2))
  pointwise [val_main_v27, from1536]

theorem ref_mq : (val_main_v28 (F := Ideal) h sc sh g w : S2x2048x256.Idx → EReal) = fun j : S2x2048x256.Idx =>
    out h sc sh g w (j 0) (j 1) (from2048 (j 2)) := by
  funext j
  idx_vars j
  refine Eq.trans ?_ (ref h sc sh g w j0 j1 (from2048 j2))
  pointwise [val_main_v28, from2048]

theorem ref_mkv : (val_main_v29 (F := Ideal) h sc sh g w : S2x2048x128.Idx → EReal) = fun j : S2x2048x128.Idx =>
    out h sc sh g w (j 0) (j 1) (from2304 (j 2)) := by
  funext j
  idx_vars j
  refine Eq.trans ?_ (ref h sc sh g w j0 j1 (from2304 j2))
  pointwise [val_main_v29, from2304]

theorem ref_misc : (val_main_v30 (F := Ideal) h sc sh g w : S2x2048x128.Idx → EReal) = fun j : S2x2048x128.Idx =>
    out h sc sh g w (j 0) (j 1) (from2432 (j 2)) := by
  funext j
  idx_vars j
  refine Eq.trans ?_ (ref h sc sh g w j0 j1 (from2432 j2))
  pointwise [val_main_v30, from2432]

end

/-- The reference leaves its arguments and its counters alone. -/
theorem frame_ref : Cert.quiescent_MixerFwdRefIdeal := fun m ρ _ =>
  (θ_run Cert.MixerFwdRefIdeal.defs _ _).mono (fun r h => ⟨fun c => (h c).2.2.2.2.2.2.2,
      Idealize.ShloMosaic.sem_eq_zero_of_no_sems (by decide) r.2⟩)
    (Cert.MixerFwdRefIdeal.Value.run (F := Ideal) m ρ)

/-- The values the two calls leave agree. -/
theorem algebraic : Cert.algebraic_MixerFwdIdeal_MixerFwdRefIdeal := by
  intro m ρ m' ρ' _ hag
  refine ⟨fun c => (Cert.MixerFwdIdeal.Gen.dats m 0 c).arrAt 5 Cert.MixerFwdIdeal.cfg0.N,
    fun c => (Cert.MixerFwdIdeal.Gen.dats m 0 c).arrAt 6 Cert.MixerFwdIdeal.cfg0.N,
    fun c => (Cert.MixerFwdIdeal.Gen.dats m 0 c).arrAt 7 Cert.MixerFwdIdeal.cfg0.N,
    fun c => (Cert.MixerFwdIdeal.Gen.dats m 0 c).arrAt 8 Cert.MixerFwdIdeal.cfg0.N,
    fun c => (Cert.MixerFwdIdeal.Gen.dats m 0 c).arrAt 9 Cert.MixerFwdIdeal.cfg0.N,
    fun c => (Cert.MixerFwdIdeal.Gen.dats m 0 c).arrAt 10 Cert.MixerFwdIdeal.cfg0.N,
    fun c => (Cert.MixerFwdIdeal.Gen.dats m 0 c).arrAt 11 Cert.MixerFwdIdeal.cfg0.N,
    Cert.MixerFwdIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩)
    (Cert.MixerFwdRefIdeal.Value.run (F := Ideal) m' ρ')
  · rw [(hag c).1, (hag c).2.1, (hag c).2.2.1, (hag c).2.2.2.1, (hag c).2.2.2.2]
    exact ((Cert.MixerFwdRefIdeal.Read.val_main_v24_eq (F := Ideal) _ _ _ _ _).trans (ref_qkv _ _ _ _ _)).trans (final_qkv m c).symm
  · rw [(hag c).1, (hag c).2.1, (hag c).2.2.1, (hag c).2.2.2.1, (hag c).2.2.2.2]
    exact ((Cert.MixerFwdRefIdeal.Read.val_main_v25_eq (F := Ideal) _ _ _ _ _).trans (ref_z _ _ _ _ _)).trans (final_z m c).symm
  · rw [(hag c).1, (hag c).2.1, (hag c).2.2.1, (hag c).2.2.2.1, (hag c).2.2.2.2]
    exact ((Cert.MixerFwdRefIdeal.Read.val_main_v26_eq (F := Ideal) _ _ _ _ _).trans (ref_rx _ _ _ _ _)).trans (final_rx m c).symm
  · rw [(hag c).1, (hag c).2.1, (hag c).2.2.1, (hag c).2.2.2.1, (hag c).2.2.2.2]
    exact ((Cert.MixerFwdRefIdeal.Read.val_main_v27_eq (F := Ideal) _ _ _ _ _).trans (ref_rgate _ _ _ _ _)).trans (final_rgate m c).symm
  · rw [(hag c).1, (hag c).2.1, (hag c).2.2.1, (hag c).2.2.2.1, (hag c).2.2.2.2]
    exact ((Cert.MixerFwdRefIdeal.Read.val_main_v28_eq (F := Ideal) _ _ _ _ _).trans (ref_mq _ _ _ _ _)).trans (final_mq m c).symm
  · rw [(hag c).1, (hag c).2.1, (hag c).2.2.1, (hag c).2.2.2.1, (hag c).2.2.2.2]
    exact ((Cert.MixerFwdRefIdeal.Read.val_main_v29_eq (F := Ideal) _ _ _ _ _).trans (ref_mkv _ _ _ _ _)).trans (final_mkv m c).symm
  · rw [(hag c).1, (hag c).2.1, (hag c).2.2.1, (hag c).2.2.2.1, (hag c).2.2.2.2]
    exact ((Cert.MixerFwdRefIdeal.Read.val_main_v30_eq (F := Ideal) _ _ _ _ _).trans (ref_misc _ _ _ _ _)).trans (final_misc m c).symm

end Cert.Proof.MixerFwd

end
-- ==== Proof.MixerBwd.lean ====
/- The mixer input's backward call: the kernel's five arrays are the reference's. -/
module

public import proofs.«01_k».proof.Defs
public import proofs.«01_k».proof.Proof.MlpSpec
public import proofs.«01_k».proof.Proof.MlpIn
public import proofs.«01_k».proof.Proof.Gen.MixerBwdIdeal.Value
public import proofs.«01_k».proof.Proof.Gen.MixerBwdRefIdeal.Read
public import Idealize.ShloMosaic.Lib.Pipeline.ReadBack
public import Idealize.ShloMosaic.Lib.Quiescent

@[expose] public section

set_option maxRecDepth 16384

noncomputable section

namespace Cert.Proof.MixerBwd

open Idealize.ShloMosaic Idealize.ShloMosaic.TcCoe Idealize.SL.Sem Cert.MlpSpec
open Cert.Proof.MlpIn (dinv dmean dtok reduce_rows)

/-- The seven pieces of a token's cotangent, side by side. -/
def joined (a : Fin 768 → EReal) (b : Fin 256 → EReal) (c d : Fin 512 → EReal) (e : Fin 256 → EReal) (f g : Fin 128 → EReal) (n : Fin 2560) : EReal :=
  if h0 : n.val < 768 then a ⟨n.val, h0⟩ else
  if h1 : n.val - 768 < 256 then b ⟨n.val - 768, h1⟩ else
  if h2 : n.val - 1024 < 512 then c ⟨n.val - 1024, h2⟩ else
  if h3 : n.val - 1536 < 512 then d ⟨n.val - 1536, h3⟩ else
  if h4 : n.val - 2048 < 256 then e ⟨n.val - 2048, h4⟩ else
  if h5 : n.val - 2304 < 128 then f ⟨n.val - 2304, h5⟩ else
  g ⟨n.val - 2432, by omega⟩

/-- One token's cotangent of the product's input at a channel, from the token's joined cotangent and the weight's row. -/
def du (D w : Fin 2560 → EReal) : EReal := ∑ n : Fin 2560, D n * w n

section

open Cert.MixerBwdIdeal Cert.MixerBwdIdeal.Gen

section

variable (h : S2x2048x1024.Idx → EReal) (sc sh : S2x1x1024.Idx → EReal) (g : S1x1024.Idx → EReal) (w : S2x1024x2560.Idx → EReal)
  (x5 : S2x2048x768.Idx → EReal) (x6 : S2x2048x256.Idx → EReal) (x7 x8 : S2x2048x512.Idx → EReal) (x9 : S2x2048x256.Idx → EReal) (x10 x11 : S2x2048x128.Idx → EReal) (r : S2x2048x1024.Idx → EReal)

/-- A token's joined cotangent. -/
def cat (i : Fin 2) (s : Fin 2048) (n : Fin 2560) : EReal :=
  joined (fun k => x5 (ix3 i s k)) (fun k => x6 (ix3 i s k)) (fun k => x7 (ix3 i s k)) (fun k => x8 (ix3 i s k)) (fun k => x9 (ix3 i s k)) (fun k => x10 (ix3 i s k)) (fun k => x11 (ix3 i s k)) n

/-- A token's share of the shift's gradient. -/
def tsh (i : Fin 2) (s : Fin 2048) (k : Fin 1024) : EReal := du (fun n => cat x5 x6 x7 x8 x9 x10 x11 i s n) (fun n => w (ix3 1 k n))

/-- A token's share of the scale's gradient. -/
def tsc (i : Fin 2) (s : Fin 2048) (k : Fin 1024) : EReal := h (ix3 i s k) * rinv (fun k => h (ix3 i s k)) * g (ix2 0 k) * tsh w x5 x6 x7 x8 x9 x10 x11 i s k

/-- A token's share of the gain's gradient. -/
def tg (i : Fin 2) (s : Fin 2048) (k : Fin 1024) : EReal := h (ix3 i s k) * rinv (fun k => h (ix3 i s k)) * (tsh w x5 x6 x7 x8 x9 x10 x11 i s k * (1 + sc (ix3 i 0 k)))

/-- A token's share of the weight's gradient. -/
def tw (i : Fin 2) (s : Fin 2048) (k : Fin 1024) (n : Fin 2560) : EReal :=
  modulated (fun k => h (ix3 i s k)) (g (ix2 0 k)) (sc (ix3 i 0 k)) (sh (ix3 i 0 k)) k * cat x5 x6 x7 x8 x9 x10 x11 i s n

/-- The token's cotangent, added to the residual's. -/
def ttok (i : Fin 2) (s : Fin 2048) (k : Fin 1024) : EReal :=
  dtok (fun k => h (ix3 i s k)) (fun k => tsh w x5 x6 x7 x8 x9 x10 x11 i s k * (1 + sc (ix3 i 0 k)) * g (ix2 0 k)) (fun k => r (ix3 i s k)) k

end

variable (m : (ℓ : Loc nD τ sig) → Buf (Elt Ideal) ℓ)

theorem idx0 : ∀ t : Fin cfg0.N, win0_0.index t = ![t.val / 4, t.val % 4, 0] := (by decide +kernel : ∀ t : Fin grid0.N, _)
theorem idx5 : ∀ t : Fin cfg0.N, win0_5.index t = ![t.val / 4, t.val % 4, 0] := (by decide +kernel : ∀ t : Fin grid0.N, _)
theorem idx6 : ∀ t : Fin cfg0.N, win0_6.index t = ![t.val / 4, t.val % 4, 0] := (by decide +kernel : ∀ t : Fin grid0.N, _)
theorem idx7 : ∀ t : Fin cfg0.N, win0_7.index t = ![t.val / 4, t.val % 4, 0] := (by decide +kernel : ∀ t : Fin grid0.N, _)
theorem idx8 : ∀ t : Fin cfg0.N, win0_8.index t = ![t.val / 4, t.val % 4, 0] := (by decide +kernel : ∀ t : Fin grid0.N, _)
theorem idx9 : ∀ t : Fin cfg0.N, win0_9.index t = ![t.val / 4, t.val % 4, 0] := (by decide +kernel : ∀ t : Fin grid0.N, _)
theorem idx10 : ∀ t : Fin cfg0.N, win0_10.index t = ![t.val / 4, t.val % 4, 0] := (by decide +kernel : ∀ t : Fin grid0.N, _)
theorem idx11 : ∀ t : Fin cfg0.N, win0_11.index t = ![t.val / 4, t.val % 4, 0] := (by decide +kernel : ∀ t : Fin grid0.N, _)
theorem idx12 : ∀ t : Fin cfg0.N, win0_12.index t = ![t.val / 4, t.val % 4, 0] := (by decide +kernel : ∀ t : Fin grid0.N, _)
theorem idx13 : ∀ t : Fin cfg0.N, win0_13.index t = ![t.val / 4, t.val % 4, 0] := (by decide +kernel : ∀ t : Fin grid0.N, _)
theorem idx1 : ∀ t : Fin cfg0.N, win0_1.index t = ![t.val / 4, 0, 0] := (by decide +kernel : ∀ t : Fin grid0.N, _)
theorem idx2 : ∀ t : Fin cfg0.N, win0_2.index t = ![t.val / 4, 0, 0] := (by decide +kernel : ∀ t : Fin grid0.N, _)
theorem idx14 : ∀ t : Fin cfg0.N, win0_14.index t = ![t.val / 4, 0, 0] := (by decide +kernel : ∀ t : Fin grid0.N, _)
theorem idx15 : ∀ t : Fin cfg0.N, win0_15.index t = ![t.val / 4, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![1, 0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)

theorem flush14 : ∀ t : Fin cfg0.N, (cfg0.win 14).flush t = true → t.val % 4 = 3 := (by decide +kernel : ∀ t : Fin grid0.N, _)
theorem flush15 : ∀ t : Fin cfg0.N, (cfg0.win 15).flush t = true → t.val % 4 = 3 := (by decide +kernel : ∀ t : Fin grid0.N, _)
theorem flush16 : ∀ t : Fin cfg0.N, (cfg0.win 16).flush t = true → t.val + 1 = cfg0.N := (by decide +kernel : ∀ t : Fin grid0.N, _)
theorem flush17 : ∀ t : Fin cfg0.N, (cfg0.win 17).flush t = true → t.val + 1 = cfg0.N := (by decide +kernel : ∀ t : Fin grid0.N, _)

section

variable (v0 r : Vec Ideal S1x512x1024 .f32) (sc sh : Vec Ideal S1x1x1024 .f32) (v6 : Vec Ideal S1x1024 .f32) (w : Vec Ideal S1x1024x2560 .bf16) (v8 : FVec Ideal S512x768 .f32) (v70 : FVec Ideal S512x2560 .f32)

/-- The zero-padded pieces' sum is the pieces side by side. -/
theorem pay27_apply (a : Vec Ideal S1x512x768 .f32) (b : Vec Ideal S1x512x256 .f32) (c d : Vec Ideal S1x512x512 .f32) (e : Vec Ideal S1x512x256 .f32) (f g : Vec Ideal S1x512x128 .f32) (s : Fin 512) (n : Fin 2560) :
    k0_pay27 (k0_pay10 a) (k0_pay26 (k0_pay11 b) (k0_pay12 c) (k0_pay13 d) (k0_pay14 e) (k0_pay15 f) (k0_pay16 g)) (ix2 s n)
      = joined (fun k => a (ix3 0 s k)) (fun k => b (ix3 0 s k)) (fun k => c (ix3 0 s k)) (fun k => d (ix3 0 s k)) (fun k => e (ix3 0 s k)) (fun k => f (ix3 0 s k)) (fun k => g (ix3 0 s k)) n := by
  pointwise [k0_pay27, k0_pay26, k0_pay10, k0_pay11, k0_pay12, k0_pay13, k0_pay14, k0_pay15, k0_pay16]
  unfold joined
  by_cases q0 : n.val < 768
  · simp (disch := omega) only [dif_pos, dif_neg, add_zero, zero_add, Nat.sub_zero]
  by_cases q1 : n.val < 1024
  · simp (disch := omega) only [dif_pos, dif_neg, add_zero, zero_add, Nat.sub_zero]
  by_cases q2 : n.val < 1536
  · simp (disch := omega) only [dif_pos, dif_neg, add_zero, zero_add, Nat.sub_zero]
  by_cases q3 : n.val < 2048
  · simp (disch := omega) only [dif_pos, dif_neg, add_zero, zero_add, Nat.sub_zero]
  by_cases q4 : n.val < 2304
  · simp (disch := omega) only [dif_pos, dif_neg, add_zero, zero_add, Nat.sub_zero]
  by_cases q5 : n.val < 2432
  · simp (disch := omega) only [dif_pos, dif_neg, add_zero, zero_add, Nat.sub_zero]
  simp (disch := omega) only [dif_pos, dif_neg, add_zero, zero_add, Nat.sub_zero]

theorem pay30_apply (k : Fin 1024) : k0_pay3 (k0_pay30 v8 (k0_pay25 w) v70) (ix3 0 0 k) = ∑ s : Fin 512, du (fun n => k0_pay27 v8 v70 (ix2 s n)) (fun n => w (ix3 0 k n)) := by
  pointwise [k0_pay3, k0_pay30, k0_pay28, k0_pay25, du]

theorem pay31_apply (k : Fin 1024) : k0_pay1 (k0_pay31 v8 (k0_pay22 (k0_pay7 v0) v6 (k0_pay17 v0)) (k0_pay25 w) v70) (ix3 0 0 k)
    = ∑ s : Fin 512, v0 (ix3 0 s k) * rinv (fun k => v0 (ix3 0 s k)) * v6 (ix2 0 k) * du (fun n => k0_pay27 v8 v70 (ix2 s n)) (fun n => w (ix3 0 k n)) := by
  pointwise [k0_pay1, k0_pay31, k0_pay28, k0_pay25, k0_pay22, k0_pay21, k0_pay19, k0_pay18, k0_pay17, k0_pay7, du, rinv]

theorem pay33_apply (k : Fin 1024) : k0_pay33 v8 (k0_pay21 (k0_pay7 v0) (k0_pay17 v0)) (k0_pay23 (k0_pay8 sc)) (k0_pay25 w) v70 (ix2 0 k)
    = ∑ s : Fin 512, v0 (ix3 0 s k) * rinv (fun k => v0 (ix3 0 s k)) * (du (fun n => k0_pay27 v8 v70 (ix2 s n)) (fun n => w (ix3 0 k n)) * (1 + sc (ix3 0 0 k))) := by
  pointwise [k0_pay33, k0_pay32, k0_pay28, k0_pay25, k0_pay23, k0_pay8, k0_pay21, k0_pay19, k0_pay18, k0_pay17, k0_pay7, du, rinv]

theorem pay29_apply (k : Fin 1024) (n : Fin 2560) : k0_pay29 v8 (k0_pay24 (k0_pay7 v0) (k0_pay8 sc) (k0_pay9 sh) v6 (k0_pay17 v0)) v70 (ix2 k n)
    = ∑ s : Fin 512, modulated (fun k => v0 (ix3 0 s k)) (v6 (ix2 0 k)) (sc (ix3 0 0 k)) (sh (ix3 0 0 k)) k * k0_pay27 v8 v70 (ix2 s n) := by
  pointwise [k0_pay29, k0_pay24, k0_pay23, k0_pay8, k0_pay9, k0_pay22, k0_pay21, k0_pay19, k0_pay18, k0_pay17, k0_pay7, modulated, rinv]

theorem pay34_apply (s : Fin 512) (k : Fin 1024) :
    k0_pay34 (k0_pay7 v0) v6 v8 (k0_pay19 (k0_pay17 v0)) (k0_pay20 (k0_pay17 v0)) (k0_pay23 (k0_pay8 sc)) (k0_pay25 w) v70 r (ix3 0 s k)
      = dtok (fun k => v0 (ix3 0 s k)) (fun k => du (fun n => k0_pay27 v8 v70 (ix2 s n)) (fun n => w (ix3 0 k n)) * (1 + sc (ix3 0 0 k)) * v6 (ix2 0 k)) (fun k => r (ix3 0 s k)) k := by
  pointwise [k0_pay34, k0_pay32, k0_pay28, k0_pay25, k0_pay23, k0_pay8, k0_pay20, k0_pay19, k0_pay18, k0_pay17, k0_pay7, dtok, dmean, dinv, du, rinv]
  simp only [Finset.sum_const, Finset.card_univ, Fintype.card_fin, one_smul]

theorem pay2_apply (v : FVec Ideal S1x1024 .f32) (u : Vec Ideal S1x1x1024 .f32) (j : S1x1x1024.Idx) : k0_pay2 v u j = u j + k0_pay1 v j := by
  idx_vars j
  have e0 : j0 = 0 := Subsingleton.elim _ _
  have e1 : j1 = 0 := Subsingleton.elim _ _
  subst e0; subst e1
  pointwise [k0_pay2, k0_pay1]

theorem pay4_apply (v : FVec Ideal S1x1024 .f32) (u : Vec Ideal S1x1x1024 .f32) (j : S1x1x1024.Idx) : k0_pay4 v u j = u j + k0_pay3 v j := by
  idx_vars j
  have e0 : j0 = 0 := Subsingleton.elim _ _
  have e1 : j1 = 0 := Subsingleton.elim _ _
  subst e0; subst e1
  pointwise [k0_pay4, k0_pay3]

theorem pay5_apply (v u : FVec Ideal S1x1024 .f32) (j : S1x1024.Idx) : k0_pay5 v u j = u j + v j := by
  idx_vars j
  pointwise [k0_pay5]

theorem pay6_apply (v u : FVec Ideal S1024x2560 .f32) (j : S1024x2560.Idx) : k0_pay6 v u j = u j + v j := by
  pointwise [k0_pay6]

end

section

variable (c : Dev nD) (t : Fin cfg0.N)

/-- The joined cotangents of a point's tokens, in the two parts the kernel holds. -/
def part8 : FVec Ideal S512x768 .f32 := k0_pay10 (iblk m c 5 t)
def part70 : FVec Ideal S512x2560 .f32 := k0_pay26 (k0_pay11 (iblk m c 6 t)) (k0_pay12 (iblk m c 7 t)) (k0_pay13 (iblk m c 8 t)) (k0_pay14 (iblk m c 9 t)) (k0_pay15 (iblk m c 10 t)) (k0_pay16 (iblk m c 11 t))

/-- What a point writes of the tokens' cotangents, and what it adds to the four sums. -/
def tok : Vec Ideal S1x512x1024 .f32 :=
  k0_pay34 (k0_pay7 (iblk m c 0 t)) (iblk m c 3 t) (part8 m c t) (k0_pay19 (k0_pay17 (iblk m c 0 t))) (k0_pay20 (k0_pay17 (iblk m c 0 t))) (k0_pay23 (k0_pay8 (iblk m c 1 t))) (k0_pay25 (iblk m c 4 t)) (part70 m c t) (iblk m c 12 t)
def addSc : FVec Ideal S1x1024 .f32 := k0_pay31 (part8 m c t) (k0_pay22 (k0_pay7 (iblk m c 0 t)) (iblk m c 3 t) (k0_pay17 (iblk m c 0 t))) (k0_pay25 (iblk m c 4 t)) (part70 m c t)
def addSh : FVec Ideal S1x1024 .f32 := k0_pay30 (part8 m c t) (k0_pay25 (iblk m c 4 t)) (part70 m c t)
def addG : FVec Ideal S1x1024 .f32 := k0_pay33 (part8 m c t) (k0_pay21 (k0_pay7 (iblk m c 0 t)) (k0_pay17 (iblk m c 0 t))) (k0_pay23 (k0_pay8 (iblk m c 1 t))) (k0_pay25 (iblk m c 4 t)) (part70 m c t)
def addW : FVec Ideal S1024x2560 .f32 := k0_pay29 (part8 m c t) (k0_pay24 (k0_pay7 (iblk m c 0 t)) (k0_pay8 (iblk m c 1 t)) (k0_pay9 (iblk m c 2 t)) (iblk m c 3 t) (k0_pay17 (iblk m c 0 t))) (part70 m c t)

theorem out13 : (outsAt0 m c t.val t.isLt).1 = tok m c t := by
  have hN : cfg0.N = 8 := N_0
  have ht := t.isLt
  by_cases h : t.val % 4 = 0
  · by_cases h' : t.val % 8 = 0
    · rw [outsAt0_A m c t (by omega) (by omega) (by omega) (by omega) (by omega) (by omega) (by omega) (by omega)]; frame_out; rfl
    · rw [outsAt0_C m c t (by omega) (by omega) (by omega) (by omega) (by omega) (by omega) (by omega) (by omega)]; frame_out; rfl
  · rw [outsAt0_B m c t (by omega) (by omega) (by omega) (by omega) (by omega) (by omega) (by omega) (by omega)]; frame_out; rfl

theorem reset14 (h : t.val % 4 = 0) : (outsAt0 m c t.val t.isLt).2.1 = k0_pay1 (addSc m c t) := by
  have hN : cfg0.N = 8 := N_0
  have ht := t.isLt
  by_cases h' : t.val % 8 = 0
  · rw [outsAt0_A m c t (by omega) (by omega) (by omega) (by omega) (by omega) (by omega) (by omega) (by omega)]; frame_out; rfl
  · rw [outsAt0_C m c t (by omega) (by omega) (by omega) (by omega) (by omega) (by omega) (by omega) (by omega)]; frame_out; rfl

theorem step14 (h : ¬ t.val % 4 = 0) : (outsAt0 m c t.val t.isLt).2.1 = k0_pay2 (addSc m c t) (outsAt0 m c (t.val - 1) (Nat.lt_of_le_of_lt (Nat.sub_le _ _) t.isLt)).2.1 := by
  have hN : cfg0.N = 8 := N_0
  have ht := t.isLt
  rw [outsAt0_B m c t (by omega) (by omega) (by omega) (by omega) (by omega) (by omega) (by omega) (by omega)]; frame_out; rfl

theorem reset15 (h : t.val % 4 = 0) : (outsAt0 m c t.val t.isLt).2.2.1 = k0_pay3 (addSh m c t) := by
  have hN : cfg0.N = 8 := N_0
  have ht := t.isLt
  by_cases h' : t.val % 8 = 0
  · rw [outsAt0_A m c t (by omega) (by omega) (by omega) (by omega) (by omega) (by omega) (by omega) (by omega)]; frame_out; rfl
  · rw [outsAt0_C m c t (by omega) (by omega) (by omega) (by omega) (by omega) (by omega) (by omega) (by omega)]; frame_out; rfl

theorem step15 (h : ¬ t.val % 4 = 0) : (outsAt0 m c t.val t.isLt).2.2.1 = k0_pay4 (addSh m c t) (outsAt0 m c (t.val - 1) (Nat.lt_of_le_of_lt (Nat.sub_le _ _) t.isLt)).2.2.1 := by
  have hN : cfg0.N = 8 := N_0
  have ht := t.isLt
  rw [outsAt0_B m c t (by omega) (by omega) (by omega) (by omega) (by omega) (by omega) (by omega) (by omega)]; frame_out; rfl

theorem reset16 (h : t.val % 8 = 0) : (outsAt0 m c t.val t.isLt).2.2.2.1 = addG m c t := by
  have hN : cfg0.N = 8 := N_0
  have ht := t.isLt
  rw [outsAt0_A m c t (by omega) (by omega) (by omega) (by omega) (by omega) (by omega) (by omega) (by omega)]; frame_out; rfl

theorem step16 (h : ¬ t.val % 8 = 0) : (outsAt0 m c t.val t.isLt).2.2.2.1 = k0_pay5 (addG m c t) (outsAt0 m c (t.val - 1) (Nat.lt_of_le_of_lt (Nat.sub_le _ _) t.isLt)).2.2.2.1 := by
  have hN : cfg0.N = 8 := N_0
  have ht := t.isLt
  by_cases h' : t.val % 4 = 0
  · rw [outsAt0_C m c t (by omega) (by omega) (by omega) (by omega) (by omega) (by omega) (by omega) (by omega)]; frame_out; rfl
  · rw [outsAt0_B m c t (by omega) (by omega) (by omega) (by omega) (by omega) (by omega) (by omega) (by omega)]; frame_out; rfl

theorem reset17 (h : t.val % 8 = 0) : (outsAt0 m c t.val t.isLt).2.2.2.2 = addW m c t := by
  have hN : cfg0.N = 8 := N_0
  have ht := t.isLt
  rw [outsAt0_A m c t (by omega) (by omega) (by omega) (by omega) (by omega) (by omega) (by omega) (by omega)]; frame_out; rfl

theorem step17 (h : ¬ t.val % 8 = 0) : (outsAt0 m c t.val t.isLt).2.2.2.2 = k0_pay6 (addW m c t) (outsAt0 m c (t.val - 1) (Nat.lt_of_le_of_lt (Nat.sub_le _ _) t.isLt)).2.2.2.2 := by
  have hN : cfg0.N = 8 := N_0
  have ht := t.isLt
  by_cases h' : t.val % 4 = 0
  · rw [outsAt0_C m c t (by omega) (by omega) (by omega) (by omega) (by omega) (by omega) (by omega) (by omega)]; frame_out; rfl
  · rw [outsAt0_B m c t (by omega) (by omega) (by omega) (by omega) (by omega) (by omega) (by omega) (by omega)]; frame_out; rfl

theorem blk0 (s : Fin 512) (k : Fin 1024) : iblk m c 0 t (ix3 0 s k) = (m ((c : Thread nD τ).loc main_arg0) : S2x2048x1024.Idx → EReal) (ix3 ⟨t.val / 4, by have := t.isLt; have hN : cfg0.N = 8 := N_0; omega⟩ ⟨t.val % 4 * 512 + s.val, by omega⟩ k) := by
  blk_ext [iblk, V, idx0 t]

theorem blk1 (k : Fin 1024) : iblk m c 1 t (ix3 0 0 k) = (m ((c : Thread nD τ).loc main_arg1) : S2x1x1024.Idx → EReal) (ix3 ⟨t.val / 4, by have := t.isLt; have hN : cfg0.N = 8 := N_0; omega⟩ 0 k) := by
  blk_ext [iblk, V, idx1 t]

theorem blk2 (k : Fin 1024) : iblk m c 2 t (ix3 0 0 k) = (m ((c : Thread nD τ).loc main_arg2) : S2x1x1024.Idx → EReal) (ix3 ⟨t.val / 4, by have := t.isLt; have hN : cfg0.N = 8 := N_0; omega⟩ 0 k) := by
  blk_ext [iblk, V, idx2 t]

theorem blk3 (k : Fin 1024) : iblk m c 3 t (ix2 0 k) = (m ((c : Thread nD τ).loc main_arg3) : S1x1024.Idx → EReal) (ix2 0 k) := by
  blk_ext [iblk, V, idx3 t]

theorem blk4 (k : Fin 1024) (n : Fin 2560) : iblk m c 4 t (ix3 0 k n) = (m ((c : Thread nD τ).loc main_arg4) : S2x1024x2560.Idx → EReal) (ix3 1 k n) := by
  blk_ext [iblk, V, idx4 t]

theorem blk12 (s : Fin 512) (k : Fin 1024) : iblk m c 12 t (ix3 0 s k) = (m ((c : Thread nD τ).loc main_arg12) : S2x2048x1024.Idx → EReal) (ix3 ⟨t.val / 4, by have := t.isLt; have hN : cfg0.N = 8 := N_0; omega⟩ ⟨t.val % 4 * 512 + s.val, by omega⟩ k) := by
  blk_ext [iblk, V, idx12 t]

theorem blkcat (s : Fin 512) (n : Fin 2560) : k0_pay27 (part8 m c t) (part70 m c t) (ix2 s n) = cat (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val / 4, by have := t.isLt; have hN : cfg0.N = 8 := N_0; omega⟩ ⟨t.val % 4 * 512 + s.val, by omega⟩ n := by
  unfold part8 part70
  rw [pay27_apply]
  unfold cat
  refine congr (congr (congr (congr (congr (congr (congr (congrArg joined (funext fun k => ?_)) (funext fun k => ?_)) (funext fun k => ?_)) (funext fun k => ?_)) (funext fun k => ?_)) (funext fun k => ?_)) (funext fun k => ?_)) rfl
  · blk_ext [iblk, V, idx5 t]
  · blk_ext [iblk, V, idx6 t]
  · blk_ext [iblk, V, idx7 t]
  · blk_ext [iblk, V, idx8 t]
  · blk_ext [iblk, V, idx9 t]
  · blk_ext [iblk, V, idx10 t]
  · blk_ext [iblk, V, idx11 t]

theorem tok_apply (s : Fin 512) (k : Fin 1024) : tok m c t (ix3 0 s k) = ttok (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) ⟨t.val / 4, by have := t.isLt; have hN : cfg0.N = 8 := N_0; omega⟩ ⟨t.val % 4 * 512 + s.val, by omega⟩ k := by
  unfold tok
  rw [pay34_apply]
  simp only [blk0, blk1, blk3, blk4, blk12, blkcat]
  rfl

theorem addSc_apply (k : Fin 1024) : k0_pay1 (addSc m c t) (ix3 0 0 k) = ∑ s : Fin 512, tsc (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val / 4, by have := t.isLt; have hN : cfg0.N = 8 := N_0; omega⟩ ⟨t.val % 4 * 512 + s.val, by omega⟩ k := by
  unfold addSc
  rw [pay31_apply]
  simp only [blk0, blk3, blk4, blkcat]
  rfl

theorem addSh_apply (k : Fin 1024) : k0_pay3 (addSh m c t) (ix3 0 0 k) = ∑ s : Fin 512, tsh (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val / 4, by have := t.isLt; have hN : cfg0.N = 8 := N_0; omega⟩ ⟨t.val % 4 * 512 + s.val, by omega⟩ k := by
  unfold addSh
  rw [pay30_apply]
  simp only [blk4, blkcat]
  rfl

theorem addG_apply (k : Fin 1024) : addG m c t (ix2 0 k) = ∑ s : Fin 512, tg (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val / 4, by have := t.isLt; have hN : cfg0.N = 8 := N_0; omega⟩ ⟨t.val % 4 * 512 + s.val, by omega⟩ k := by
  unfold addG
  rw [pay33_apply]
  simp only [blk0, blk1, blk4, blkcat]
  rfl

theorem addW_apply (k : Fin 1024) (n : Fin 2560) : addW m c t (ix2 k n) = ∑ s : Fin 512, tw (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) ⟨t.val / 4, by have := t.isLt; have hN : cfg0.N = 8 := N_0; omega⟩ ⟨t.val % 4 * 512 + s.val, by omega⟩ k n := by
  unfold addW
  rw [pay29_apply]
  simp only [blk0, blk1, blk2, blk3, blkcat]
  rfl

theorem emb13 (s : Fin 512) (k : Fin 1024) : (win0_13.blk t).view.emb (ix3 0 s k) = (ix3 ⟨t.val / 4, by have := t.isLt; have hN : cfg0.N = 8 := N_0; omega⟩ ⟨t.val % 4 * 512 + s.val, by omega⟩ k : S2x2048x1024.Idx) := by
  blk_ext [idx13 t]

theorem emb14 (k : Fin 1024) : (win0_14.blk t).view.emb (ix3 0 0 k) = (ix3 ⟨t.val / 4, by have := t.isLt; have hN : cfg0.N = 8 := N_0; omega⟩ 0 k : S2x1x1024.Idx) := by
  blk_ext [idx14 t]

theorem emb15 (k : Fin 1024) : (win0_15.blk t).view.emb (ix3 0 0 k) = (ix3 ⟨t.val / 4, by have := t.isLt; have hN : cfg0.N = 8 := N_0; omega⟩ 0 k : S2x1x1024.Idx) := by
  blk_ext [idx15 t]

theorem emb16 (y : S1x1024.Idx) : (win0_16.blk t).view.emb y = y := by
  blk_ext [idx16 t]

theorem emb17 (y : S1024x2560.Idx) : (win0_17.blk t).view.emb y = y := by
  blk_ext [idx17 t]

end

theorem final_tok (c : Dev nD) : ((dats m 0 c).arrAt 13 cfg0.N : S2x2048x1024.Idx → EReal) = fun j : S2x2048x1024.Idx => ttok (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (j 0) (j 1) (j 2) := by
  refine (dats m 0 c).arrAt_eq_of_covers 13 _ (by decide +kernel) fun t hf y => ?_
  blk_simp
  rw [after0_13, out13]
  idx_vars y
  have e0 : y0 = 0 := Subsingleton.elim _ _
  subst e0
  rw [emb13, tok_apply]
  rfl

theorem final_sc (c : Dev nD) : ((dats m 0 c).arrAt 14 cfg0.N : S2x1x1024.Idx → EReal) = fun j : S2x1x1024.Idx => ∑ s : Fin 2048, tsc (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) s (j 2) := by
  have hN : cfg0.N = 8 := N_0
  refine (dats m 0 c).arrAt_eq_of_covers 14 _ (by decide +kernel) fun u hf y => ?_
  blk_simp
  rw [after0_14, Pipeline.eq_sum_fin_of_reset_step_apply_of_flush (fun n h => (outsAt0 m c n h).2.1) 4 (fun _ => 0) (fun t j => k0_pay1 (addSc m c t) j)
    (fun t h j => by rw [reset14 m c t h]; exact (zero_add _).symm)
    (fun t h j => by rw [step14 m c t h, pay2_apply])
    u (flush14 u hf) y, zero_add]
  idx_vars y
  have e0 : y0 = 0 := Subsingleton.elim _ _
  have e1 : y1 = 0 := Subsingleton.elim _ _
  subst e0; subst e1
  simp only [addSc_apply]
  rw [emb14]
  refine Fin.sum_mul_add_congr fun s k hl => ?_
  have hd : (4 * (u.val / 4) + s.val) / 4 = u.val / 4 := by omega
  have hm : (4 * (u.val / 4) + s.val) % 4 = s.val := by omega
  refine congr (congr (congrArg (tsc _ _ _ _ _ _ _ _ _ _) (Fin.ext hd)) (Fin.ext ?_)) rfl
  show (4 * (u.val / 4) + s.val) % 4 * 512 + k.val = s.val * 512 + k.val
  rw [hm]

theorem final_sh (c : Dev nD) : ((dats m 0 c).arrAt 15 cfg0.N : S2x1x1024.Idx → EReal) = fun j : S2x1x1024.Idx => ∑ s : Fin 2048, tsh (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) s (j 2) := by
  have hN : cfg0.N = 8 := N_0
  refine (dats m 0 c).arrAt_eq_of_covers 15 _ (by decide +kernel) fun u hf y => ?_
  blk_simp
  rw [after0_15, Pipeline.eq_sum_fin_of_reset_step_apply_of_flush (fun n h => (outsAt0 m c n h).2.2.1) 4 (fun _ => 0) (fun t j => k0_pay3 (addSh m c t) j)
    (fun t h j => by rw [reset15 m c t h]; exact (zero_add _).symm)
    (fun t h j => by rw [step15 m c t h, pay4_apply])
    u (flush15 u hf) y, zero_add]
  idx_vars y
  have e0 : y0 = 0 := Subsingleton.elim _ _
  have e1 : y1 = 0 := Subsingleton.elim _ _
  subst e0; subst e1
  simp only [addSh_apply]
  rw [emb15]
  refine Fin.sum_mul_add_congr fun s k hl => ?_
  have hd : (4 * (u.val / 4) + s.val) / 4 = u.val / 4 := by omega
  have hm : (4 * (u.val / 4) + s.val) % 4 = s.val := by omega
  refine congr (congr (congrArg (tsh _ _ _ _ _ _ _ _) (Fin.ext hd)) (Fin.ext ?_)) rfl
  show (4 * (u.val / 4) + s.val) % 4 * 512 + k.val = s.val * 512 + k.val
  rw [hm]

theorem final_g (c : Dev nD) : ((dats m 0 c).arrAt 16 cfg0.N : S1x1024.Idx → EReal) = fun j : S1x1024.Idx => ∑ i : Fin 2, ∑ s : Fin 2048, tg (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i s (j 1) := by
  have hN : cfg0.N = 8 := N_0
  refine (dats m 0 c).arrAt_eq_of_covers 16 _ (by decide +kernel) fun u hf y => ?_
  blk_simp
  rw [after0_16, Pipeline.eq_sum_fin_of_reset_step_apply_last (fun n h => (outsAt0 m c n h).2.2.2.1) 8 (fun _ => 0) (fun t j => addG m c t j)
    (fun t h j => by rw [reset16 m c t h]; exact (zero_add _).symm)
    (fun t h j => by rw [step16 m c t h, pay5_apply])
    (le_of_eq N_0) u (flush16 u hf) y, zero_add]
  idx_vars y
  have e0 : y0 = 0 := Subsingleton.elim _ _
  subst e0
  simp only [addG_apply]
  rw [emb16]
  exact Fin.sum_points_lanes_congr 4 fun t k ha hl => rfl

theorem final_w (c : Dev nD) : ((dats m 0 c).arrAt 17 cfg0.N : S1024x2560.Idx → EReal) = fun j : S1024x2560.Idx => ∑ i : Fin 2, ∑ s : Fin 2048, tw (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) i s (j 0) (j 1) := by
  have hN : cfg0.N = 8 := N_0
  refine (dats m 0 c).arrAt_eq_of_covers 17 _ (by decide +kernel) fun u hf y => ?_
  blk_simp
  rw [after0_17, Pipeline.eq_sum_fin_of_reset_step_apply_last (fun n h => (outsAt0 m c n h).2.2.2.2) 8 (fun _ => 0) (fun t j => addW m c t j)
    (fun t h j => by rw [reset17 m c t h]; exact (zero_add _).symm)
    (fun t h j => by rw [step17 m c t h, pay6_apply])
    (le_of_eq N_0) u (flush17 u hf) y, zero_add]
  idx_vars y
  simp only [addW_apply]
  rw [emb17]
  exact Fin.sum_points_lanes_congr 4 fun t k ha hl => rfl

end

section

open Cert.MixerBwdRefIdeal Cert.MixerBwdRefIdeal.Read

variable (h : S2x2048x1024.Idx → EReal) (sc sh : S2x1x1024.Idx → EReal) (g : S1x1024.Idx → EReal) (w : S2x1024x2560.Idx → EReal)
  (x5 : S2x2048x768.Idx → EReal) (x6 : S2x2048x256.Idx → EReal) (x7 x8 : S2x2048x512.Idx → EReal) (x9 : S2x2048x256.Idx → EReal) (x10 x11 : S2x2048x128.Idx → EReal) (r : S2x2048x1024.Idx → EReal)

theorem ref_cat (i : Fin 2) (s : Fin 2048) (n : Fin 2560) : (val_main_v34 (F := Ideal) x5 x6 x7 x8 x9 x10 x11 : S2x2048x2560.Idx → EReal) (ix3 i s n) = cat x5 x6 x7 x8 x9 x10 x11 i s n := by
  pointwise [val_main_v34]
  unfold cat joined
  simp only [Nat.sub_sub, Nat.reduceAdd]

theorem ref_du (i : Fin 2) (s : Fin 2048) (k : Fin 1024) : (val_main_v37 (F := Ideal) w x5 x6 x7 x8 x9 x10 x11 : S2x2048x1024.Idx → EReal) (ix3 i s k) = tsh w x5 x6 x7 x8 x9 x10 x11 i s k := by
  unfold tsh du
  pointwise [val_main_v37, val_main_v2, val_main_v1, val_main_v0]
  simp only [ref_cat]

theorem ref_sh : (val_main_v39 (F := Ideal) w x5 x6 x7 x8 x9 x10 x11 : S2x1x1024.Idx → EReal) = fun j : S2x1x1024.Idx => ∑ s : Fin 2048, tsh w x5 x6 x7 x8 x9 x10 x11 (j 0) s (j 2) := by
  funext j
  idx_vars j
  pointwise [val_main_v39, val_main_v38, val_main_cst_4]
  simp only [ref_du]

theorem ref_sc : (val_main_v42 (F := Ideal) h g w x5 x6 x7 x8 x9 x10 x11 : S2x1x1024.Idx → EReal) = fun j : S2x1x1024.Idx => ∑ s : Fin 2048, tsc h g w x5 x6 x7 x8 x9 x10 x11 (j 0) s (j 2) := by
  funext j
  idx_vars j
  unfold tsc
  pointwise [val_main_v42, val_main_v41, val_main_cst_5, val_main_v40, val_main_v19, val_main_v18, val_main_v17, val_main_v3, val_main_v16, val_main_v15, val_main_v11, val_main_v10, val_main_v9, val_main_cst_1, val_main_v8,
    val_main_v7, val_main_cst_0, val_main_v6, val_main_v5, val_main_cst, val_main_v4, rinv]
  simp only [ref_du]

theorem ref_rows (k : Fin 1024) : (val_main_v46 (F := Ideal) h sc w x5 x6 x7 x8 x9 x10 x11 : S1024.Idx → EReal) (ix1 k) = ∑ i : Fin 2, ∑ s : Fin 2048, tg h sc w x5 x6 x7 x8 x9 x10 x11 i s k := by
  unfold val_main_v46
  refine (reduce_rows _ _ _ k).trans ?_
  unfold tg
  pointwise [val_main_cst_6, val_main_v45, val_main_v44, val_main_v43, val_main_v21, val_main_v20, val_main_cst_3, val_main_v16, val_main_v15, val_main_v11, val_main_v10, val_main_v9, val_main_cst_1, val_main_v8,
    val_main_v7, val_main_cst_0, val_main_v6, val_main_v5, val_main_cst, val_main_v4, rinv]
  simp only [ref_du]

theorem ref_sum (k : Fin 1024) : (val_main_v50 (F := Ideal) h sc w x5 x6 x7 x8 x9 x10 x11 : S1024.Idx → EReal) (ix1 k) = ∑ i : Fin 2, ∑ s : Fin 2048, tg h sc w x5 x6 x7 x8 x9 x10 x11 i s k := by
  unfold val_main_v50
  refine (reduce_rows _ _ _ k).trans ?_
  pointwise [val_main_cst_7, val_main_v47]
  simp only [ref_rows, Finset.sum_const, Finset.card_univ, Fintype.card_fin, one_smul]

theorem ref_g : (val_main_v65 (F := Ideal) h sc w x5 x6 x7 x8 x9 x10 x11 : S1x1024.Idx → EReal) = fun j : S1x1024.Idx => ∑ i : Fin 2, ∑ s : Fin 2048, tg h sc w x5 x6 x7 x8 x9 x10 x11 i s (j 1) := by
  funext j
  idx_vars j
  pointwise [val_main_v65]
  exact ref_sum h sc w x5 x6 x7 x8 x9 x10 x11 j1

theorem ref_w : (val_main_v36 (F := Ideal) h sc sh g x5 x6 x7 x8 x9 x10 x11 : S1024x2560.Idx → EReal) = fun j : S1024x2560.Idx => ∑ i : Fin 2, ∑ s : Fin 2048, tw h sc sh g x5 x6 x7 x8 x9 x10 x11 i s (j 0) (j 1) := by
  funext j
  idx_vars j
  unfold tw modulated
  pointwise [val_main_v36, val_main_v35, val_main_v25, val_main_v24, val_main_v23, val_main_v22, val_main_v21, val_main_v20, val_main_cst_3, val_main_v19, val_main_v18, val_main_v17, val_main_v3, val_main_v16, val_main_v15, val_main_v11, val_main_v10, val_main_v9, val_main_cst_1, val_main_v8,
    val_main_v7, val_main_cst_0, val_main_v6, val_main_v5, val_main_cst, val_main_v4, rinv]
  simp only [ref_cat]
  exact Finset.sum_congr rfl fun _ _ => Finset.sum_congr rfl fun _ _ => mul_comm (_ : EReal) _

theorem ref_tok : (val_main_v66 (F := Ideal) h sc g w x5 x6 x7 x8 x9 x10 x11 r : S2x2048x1024.Idx → EReal) = fun j : S2x2048x1024.Idx => ttok h sc g w x5 x6 x7 x8 x9 x10 x11 r (j 0) (j 1) (j 2) := by
  funext j
  idx_vars j
  unfold ttok dtok dmean dinv
  pointwise [val_main_v66, val_main_v64, val_main_v63, val_main_v62, val_main_v61, val_main_v60, val_main_v59, val_main_cst_10, val_main_v58, val_main_v57, val_main_cst_9, val_main_v56, val_main_v55, val_main_v54,
    val_main_v53, val_main_v52, val_main_cst_8, val_main_v51, val_main_v49, val_main_v48, val_main_v17, val_main_v3, val_main_v44, val_main_v43, val_main_v21, val_main_v20, val_main_cst_3,
    val_main_v14, val_main_v13, val_main_cst_2, val_main_v12, val_main_v11, val_main_v10, val_main_v9, val_main_cst_1, val_main_v8,
    val_main_v7, val_main_cst_0, val_main_v6, val_main_v5, val_main_cst, val_main_v4, rinv]
  simp only [ref_du, Finset.sum_const, Finset.card_univ, Fintype.card_fin, one_smul]

end

/-- The reference leaves its arguments and its counters alone. -/
theorem frame_ref : Cert.quiescent_MixerBwdRefIdeal := fun m ρ _ =>
  (θ_run Cert.MixerBwdRefIdeal.defs _ _).mono (fun r h => ⟨fun c => (h c).2.2.2.2.2,
      Idealize.ShloMosaic.sem_eq_zero_of_no_sems (by decide) r.2⟩)
    (Cert.MixerBwdRefIdeal.Value.run (F := Ideal) m ρ)

set_option maxHeartbeats 1000000 in
/-- The values the two calls leave agree. -/
theorem algebraic : Cert.algebraic_MixerBwdIdeal_MixerBwdRefIdeal := by
  intro m ρ m' ρ' _ hag
  refine ⟨fun c => (Cert.MixerBwdIdeal.Gen.dats m 0 c).arrAt 13 Cert.MixerBwdIdeal.cfg0.N,
    fun c => (Cert.MixerBwdIdeal.Gen.dats m 0 c).arrAt 14 Cert.MixerBwdIdeal.cfg0.N,
    fun c => (Cert.MixerBwdIdeal.Gen.dats m 0 c).arrAt 15 Cert.MixerBwdIdeal.cfg0.N,
    fun c => (Cert.MixerBwdIdeal.Gen.dats m 0 c).arrAt 16 Cert.MixerBwdIdeal.cfg0.N,
    fun c => (Cert.MixerBwdIdeal.Gen.dats m 0 c).arrAt 17 Cert.MixerBwdIdeal.cfg0.N,
    Cert.MixerBwdIdeal.Value.run_blocks (F := Ideal) m ρ, ?_⟩
  refine (θ_run _ _ _).mono (fun _ h c => ⟨(h c).1.trans ?_, (h c).2.1.trans ?_, (h c).2.2.1.trans ?_, (h c).2.2.2.1.trans ?_, (h c).2.2.2.2.1.trans ?_, (h c).2.2.2.2.2⟩)
    (Cert.MixerBwdRefIdeal.Value.run (F := Ideal) m' ρ')
  · refine ((Cert.MixerBwdRefIdeal.Read.val_main_v66_eq (F := Ideal) m' c).trans ?_).trans (final_tok m c).symm
    rw [(hag c).1, (hag c).2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1, (hag c).2.2.2.2.2.2.2.2.2.2.2.2]
    exact ref_tok _ _ _ _ _ _ _ _ _ _ _ _
  · rw [(hag c).1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1]
    exact ((Cert.MixerBwdRefIdeal.Read.val_main_v42_eq (F := Ideal) _ _ _ _ _ _ _ _ _ _).trans (ref_sc _ _ _ _ _ _ _ _ _ _)).trans (final_sc m c).symm
  · rw [(hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1]
    exact ((Cert.MixerBwdRefIdeal.Read.val_main_v39_eq (F := Ideal) _ _ _ _ _ _ _ _).trans (ref_sh _ _ _ _ _ _ _ _)).trans (final_sh m c).symm
  · rw [(hag c).1, (hag c).2.1, (hag c).2.2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1]
    exact ((Cert.MixerBwdRefIdeal.Read.val_main_v65_eq (F := Ideal) _ _ _ _ _ _ _ _ _ _).trans (ref_g _ _ _ _ _ _ _ _ _ _)).trans (final_g m c).symm
  · rw [(hag c).1, (hag c).2.1, (hag c).2.2.1, (hag c).2.2.2.1, (hag c).2.2.2.2.2.1, (hag c).2.2.2.2.2.2.1, (hag c).2.2.2.2.2.2.2.1, (hag c).2.2.2.2.2.2.2.2.1, (hag c).2.2.2.2.2.2.2.2.2.1, (hag c).2.2.2.2.2.2.2.2.2.2.1, (hag c).2.2.2.2.2.2.2.2.2.2.2.1]
    exact ((Cert.MixerBwdRefIdeal.Read.val_main_v36_eq (F := Ideal) _ _ _ _ _ _ _ _ _ _ _).trans (ref_w _ _ _ _ _ _ _ _ _ _ _)).trans (final_w m c).symm

end Cert.Proof.MixerBwd

end
-- ==== Proof.lean ====
/- The certificate of the gated delta rule's scan and its backward scan, of the MLP's forward and backward calls, and of the mixer's input and output projections, forward and backward: frames, the idealized kernels, and the value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelBwd
public import proofs.«01_k».proof.Proof.Gen.KernelBwd.Skeleton
public import proofs.«01_k».proof.Proof.Gen.KernelBwd.Launch
public import proofs.«01_k».proof.Proof.Gen.KernelBwd.Points
public import proofs.«01_k».proof.Proof.Gen.KernelBwd.Frame
public import proofs.«01_k».proof.Proof.Gen.KernelBwdIdeal
public import proofs.«01_k».proof.Proof.Gen.KernelBwdIdeal.Skeleton
public import proofs.«01_k».proof.Proof.Gen.KernelBwdIdeal.Launch
public import proofs.«01_k».proof.Proof.Gen.KernelBwdIdeal.Points
public import proofs.«01_k».proof.Proof.Gen.KernelBwdIdeal.Frame
public import proofs.«01_k».proof.Proof.Gen.ReferenceBwdIdeal
public import proofs.«01_k».proof.Proof.Gen.KernelIdeal.Value
public import proofs.«01_k».proof.Proof.Gen.KernelBwdIdeal.Value
public import proofs.«01_k».proof.Proof.Gen.ReferenceIdeal.Run
public import proofs.«01_k».proof.Proof.Gen.ReferenceBwdIdeal.Run
public import proofs.«01_k».proof.Proof.Gen.ReferenceIdeal.Step
public import proofs.«01_k».proof.Proof.Gen.ReferenceBwdIdeal.Step
public import proofs.«01_k».proof.Proof.Gen.MlpOut
public import proofs.«01_k».proof.Proof.Gen.MlpOut.Skeleton
public import proofs.«01_k».proof.Proof.Gen.MlpOut.Launch
public import proofs.«01_k».proof.Proof.Gen.MlpOut.Points
public import proofs.«01_k».proof.Proof.Gen.MlpOut.Frame
public import proofs.«01_k».proof.Proof.Gen.MlpOutIdeal
public import proofs.«01_k».proof.Proof.Gen.MlpOutIdeal.Skeleton
public import proofs.«01_k».proof.Proof.Gen.MlpOutIdeal.Launch
public import proofs.«01_k».proof.Proof.Gen.MlpOutIdeal.Points
public import proofs.«01_k».proof.Proof.Gen.MlpOutIdeal.Frame
public import proofs.«01_k».proof.Proof.Gen.MlpOutIdeal.Value
public import proofs.«01_k».proof.Proof.Gen.MlpOutRefIdeal
public import proofs.«01_k».proof.Proof.Gen.MlpOutRefIdeal.Run
public import proofs.«01_k».proof.Proof.Gen.MlpOutRefIdeal.Read
public import proofs.«01_k».proof.Proof.Gen.MlpOutW
public import proofs.«01_k».proof.Proof.Gen.MlpOutW.Skeleton
public import proofs.«01_k».proof.Proof.Gen.MlpOutW.Launch
public import proofs.«01_k».proof.Proof.Gen.MlpOutW.Points
public import proofs.«01_k».proof.Proof.Gen.MlpOutW.Frame
public import proofs.«01_k».proof.Proof.Gen.MlpOutWIdeal
public import proofs.«01_k».proof.Proof.Gen.MlpOutWIdeal.Skeleton
public import proofs.«01_k».proof.Proof.Gen.MlpOutWIdeal.Launch
public import proofs.«01_k».proof.Proof.Gen.MlpOutWIdeal.Points
public import proofs.«01_k».proof.Proof.Gen.MlpOutWIdeal.Frame
public import proofs.«01_k».proof.Proof.Gen.MlpOutWIdeal.Value
public import proofs.«01_k».proof.Proof.Gen.MlpOutWRefIdeal
public import proofs.«01_k».proof.Proof.Gen.MlpOutWRefIdeal.Run
public import proofs.«01_k».proof.Proof.Gen.MlpOutWRefIdeal.Read
public import proofs.«01_k».proof.Proof.Gen.MlpInW
public import proofs.«01_k».proof.Proof.Gen.MlpInW.Skeleton
public import proofs.«01_k».proof.Proof.Gen.MlpInW.Launch
public import proofs.«01_k».proof.Proof.Gen.MlpInW.Points
public import proofs.«01_k».proof.Proof.Gen.MlpInW.Frame
public import proofs.«01_k».proof.Proof.Gen.MlpInWIdeal
public import proofs.«01_k».proof.Proof.Gen.MlpInWIdeal.Skeleton
public import proofs.«01_k».proof.Proof.Gen.MlpInWIdeal.Launch
public import proofs.«01_k».proof.Proof.Gen.MlpInWIdeal.Points
public import proofs.«01_k».proof.Proof.Gen.MlpInWIdeal.Frame
public import proofs.«01_k».proof.Proof.Gen.MlpInWIdeal.Value
public import proofs.«01_k».proof.Proof.Gen.MlpInWRefIdeal
public import proofs.«01_k».proof.Proof.Gen.MlpInWRefIdeal.Run
public import proofs.«01_k».proof.Proof.Gen.MlpInWRefIdeal.Read
public import proofs.«01_k».proof.Proof.Gen.MlpIn
public import proofs.«01_k».proof.Proof.Gen.MlpIn.Skeleton
public import proofs.«01_k».proof.Proof.Gen.MlpIn.Launch
public import proofs.«01_k».proof.Proof.Gen.MlpIn.Points
public import proofs.«01_k».proof.Proof.Gen.MlpIn.Frame
public import proofs.«01_k».proof.Proof.Gen.MlpInIdeal
public import proofs.«01_k».proof.Proof.Gen.MlpInIdeal.Skeleton
public import proofs.«01_k».proof.Proof.Gen.MlpInIdeal.Launch
public import proofs.«01_k».proof.Proof.Gen.MlpInIdeal.Points
public import proofs.«01_k».proof.Proof.Gen.MlpInIdeal.Frame
public import proofs.«01_k».proof.Proof.Gen.MlpInIdeal.Value
public import proofs.«01_k».proof.Proof.Gen.MlpInRefIdeal
public import proofs.«01_k».proof.Proof.Gen.MlpInRefIdeal.Run
public import proofs.«01_k».proof.Proof.Gen.MlpInFwd
public import proofs.«01_k».proof.Proof.Gen.MlpInFwd.Skeleton
public import proofs.«01_k».proof.Proof.Gen.MlpInFwd.Launch
public import proofs.«01_k».proof.Proof.Gen.MlpInFwd.Points
public import proofs.«01_k».proof.Proof.Gen.MlpInFwd.Frame
public import proofs.«01_k».proof.Proof.Gen.MlpInFwdIdeal
public import proofs.«01_k».proof.Proof.Gen.MlpInFwdIdeal.Skeleton
public import proofs.«01_k».proof.Proof.Gen.MlpInFwdIdeal.Launch
public import proofs.«01_k».proof.Proof.Gen.MlpInFwdIdeal.Points
public import proofs.«01_k».proof.Proof.Gen.MlpInFwdIdeal.Frame
public import proofs.«01_k».proof.Proof.Gen.MlpInFwdIdeal.Value
public import proofs.«01_k».proof.Proof.Gen.MlpInFwdRefIdeal
public import proofs.«01_k».proof.Proof.Gen.MlpInFwdRefIdeal.Run
public import proofs.«01_k».proof.Proof.Gen.MlpInFwdRefIdeal.Read
public import proofs.«01_k».proof.Proof.Gen.MlpOutFwd
public import proofs.«01_k».proof.Proof.Gen.MlpOutFwd.Skeleton
public import proofs.«01_k».proof.Proof.Gen.MlpOutFwd.Launch
public import proofs.«01_k».proof.Proof.Gen.MlpOutFwd.Points
public import proofs.«01_k».proof.Proof.Gen.MlpOutFwd.Frame
public import proofs.«01_k».proof.Proof.Gen.MlpOutFwdIdeal
public import proofs.«01_k».proof.Proof.Gen.MlpOutFwdIdeal.Skeleton
public import proofs.«01_k».proof.Proof.Gen.MlpOutFwdIdeal.Launch
public import proofs.«01_k».proof.Proof.Gen.MlpOutFwdIdeal.Points
public import proofs.«01_k».proof.Proof.Gen.MlpOutFwdIdeal.Frame
public import proofs.«01_k».proof.Proof.Gen.MlpOutFwdIdeal.Value
public import proofs.«01_k».proof.Proof.Gen.MlpOutFwdRefIdeal
public import proofs.«01_k».proof.Proof.Gen.MlpOutFwdRefIdeal.Run
public import proofs.«01_k».proof.Proof.Gen.MlpOutFwdRefIdeal.Read
public import proofs.«01_k».proof.Proof.Gen.ProjFwd
public import proofs.«01_k».proof.Proof.Gen.ProjFwd.Skeleton
public import proofs.«01_k».proof.Proof.Gen.ProjFwd.Launch
public import proofs.«01_k».proof.Proof.Gen.ProjFwd.Points
public import proofs.«01_k».proof.Proof.Gen.ProjFwd.Frame
public import proofs.«01_k».proof.Proof.Gen.ProjFwdIdeal
public import proofs.«01_k».proof.Proof.Gen.ProjFwdIdeal.Skeleton
public import proofs.«01_k».proof.Proof.Gen.ProjFwdIdeal.Launch
public import proofs.«01_k».proof.Proof.Gen.ProjFwdIdeal.Points
public import proofs.«01_k».proof.Proof.Gen.ProjFwdIdeal.Frame
public import proofs.«01_k».proof.Proof.Gen.ProjFwdIdeal.Value
public import proofs.«01_k».proof.Proof.Gen.ProjFwdRefIdeal
public import proofs.«01_k».proof.Proof.Gen.ProjFwdRefIdeal.Run
public import proofs.«01_k».proof.Proof.Gen.ProjFwdRefIdeal.Read
public import proofs.«01_k».proof.Proof.Gen.ProjBwd
public import proofs.«01_k».proof.Proof.Gen.ProjBwd.Skeleton
public import proofs.«01_k».proof.Proof.Gen.ProjBwd.Launch
public import proofs.«01_k».proof.Proof.Gen.ProjBwd.Points
public import proofs.«01_k».proof.Proof.Gen.ProjBwd.Frame
public import proofs.«01_k».proof.Proof.Gen.ProjBwdIdeal
public import proofs.«01_k».proof.Proof.Gen.ProjBwdIdeal.Skeleton
public import proofs.«01_k».proof.Proof.Gen.ProjBwdIdeal.Launch
public import proofs.«01_k».proof.Proof.Gen.ProjBwdIdeal.Points
public import proofs.«01_k».proof.Proof.Gen.ProjBwdIdeal.Frame
public import proofs.«01_k».proof.Proof.Gen.ProjBwdIdeal.Value
public import proofs.«01_k».proof.Proof.Gen.ProjBwdRefIdeal
public import proofs.«01_k».proof.Proof.Gen.ProjBwdRefIdeal.Run
public import proofs.«01_k».proof.Proof.Gen.ProjBwdRefIdeal.Read
public import proofs.«01_k».proof.Proof.Gen.MixerFwd
public import proofs.«01_k».proof.Proof.Gen.MixerFwd.Skeleton
public import proofs.«01_k».proof.Proof.Gen.MixerFwd.Launch
public import proofs.«01_k».proof.Proof.Gen.MixerFwd.Points
public import proofs.«01_k».proof.Proof.Gen.MixerFwd.Frame
public import proofs.«01_k».proof.Proof.Gen.MixerFwdIdeal
public import proofs.«01_k».proof.Proof.Gen.MixerFwdIdeal.Skeleton
public import proofs.«01_k».proof.Proof.Gen.MixerFwdIdeal.Launch
public import proofs.«01_k».proof.Proof.Gen.MixerFwdIdeal.Points
public import proofs.«01_k».proof.Proof.Gen.MixerFwdIdeal.Frame
public import proofs.«01_k».proof.Proof.Gen.MixerFwdIdeal.Value
public import proofs.«01_k».proof.Proof.Gen.MixerFwdRefIdeal
public import proofs.«01_k».proof.Proof.Gen.MixerFwdRefIdeal.Run
public import proofs.«01_k».proof.Proof.Gen.MixerFwdRefIdeal.Read
public import proofs.«01_k».proof.Proof.Gen.MixerBwd
public import proofs.«01_k».proof.Proof.Gen.MixerBwd.Skeleton
public import proofs.«01_k».proof.Proof.Gen.MixerBwd.Launch
public import proofs.«01_k».proof.Proof.Gen.MixerBwd.Points
public import proofs.«01_k».proof.Proof.Gen.MixerBwd.Frame
public import proofs.«01_k».proof.Proof.Gen.MixerBwdIdeal
public import proofs.«01_k».proof.Proof.Gen.MixerBwdIdeal.Skeleton
public import proofs.«01_k».proof.Proof.Gen.MixerBwdIdeal.Launch
public import proofs.«01_k».proof.Proof.Gen.MixerBwdIdeal.Points
public import proofs.«01_k».proof.Proof.Gen.MixerBwdIdeal.Frame
public import proofs.«01_k».proof.Proof.Gen.MixerBwdIdeal.Value
public import proofs.«01_k».proof.Proof.Gen.MixerBwdRefIdeal
public import proofs.«01_k».proof.Proof.Gen.MixerBwdRefIdeal.Run
public import proofs.«01_k».proof.Proof.Gen.MixerBwdRefIdeal.Read
public import proofs.«01_k».proof.Proof.Gen.MlpInRefIdeal.Read
public import proofs.«01_k».proof.Proof.Forward
public import proofs.«01_k».proof.Proof.RefBwdFrame
public import proofs.«01_k».proof.Proof.Backward
public import Idealize.ShloMosaic.Adequacy
public import Idealize.ShloMosaic.Init
public import proofs.«01_k».proof.Proof.MlpOut
public import proofs.«01_k».proof.Proof.MlpOutW
public import proofs.«01_k».proof.Proof.MlpInW
public import proofs.«01_k».proof.Proof.MlpIn
public import proofs.«01_k».proof.Proof.MlpInFwd
public import proofs.«01_k».proof.Proof.MlpOutFwd
public import proofs.«01_k».proof.Proof.ProjFwd
public import proofs.«01_k».proof.Proof.ProjBwd
public import proofs.«01_k».proof.Proof.MixerFwd
public import proofs.«01_k».proof.Proof.MixerBwd

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.KernelBwd.Gen.facts, Cert.KernelBwdIdeal.Gen.facts, Cert.ReferenceBwdIdeal.Gen.facts,
    Cert.MlpOut.Gen.facts, Cert.MlpOutIdeal.Gen.facts, Cert.MlpOutRefIdeal.Gen.facts, Cert.MlpOutW.Gen.facts, Cert.MlpOutWIdeal.Gen.facts, Cert.MlpOutWRefIdeal.Gen.facts,
    Cert.MlpInW.Gen.facts, Cert.MlpInWIdeal.Gen.facts, Cert.MlpInWRefIdeal.Gen.facts, Cert.MlpIn.Gen.facts, Cert.MlpInIdeal.Gen.facts, Cert.MlpInRefIdeal.Gen.facts,
    Cert.MlpInFwd.Gen.facts, Cert.MlpInFwdIdeal.Gen.facts, Cert.MlpInFwdRefIdeal.Gen.facts,
    Cert.MlpOutFwd.Gen.facts, Cert.MlpOutFwdIdeal.Gen.facts, Cert.MlpOutFwdRefIdeal.Gen.facts,
    Cert.ProjFwd.Gen.facts, Cert.ProjFwdIdeal.Gen.facts, Cert.ProjFwdRefIdeal.Gen.facts,
    Cert.ProjBwd.Gen.facts, Cert.ProjBwdIdeal.Gen.facts, Cert.ProjBwdRefIdeal.Gen.facts,
    Cert.MixerFwd.Gen.facts, Cert.MixerFwdIdeal.Gen.facts, Cert.MixerFwdRefIdeal.Gen.facts,
    Cert.MixerBwd.Gen.facts, Cert.MixerBwdIdeal.Gen.facts, Cert.MixerBwdRefIdeal.Gen.facts,
    fun m ρ _ => Cert.Kernel.Gen.frame m ρ, fun m ρ _ => Cert.KernelIdeal.Gen.frame m ρ, Forward.frame_ref,
    fun m ρ _ => Cert.KernelBwd.Gen.frame m ρ, fun m ρ _ => Cert.KernelBwdIdeal.Gen.frame m ρ, Backward.frame_ref,
    fun m ρ _ => Cert.MlpOut.Gen.frame m ρ, fun m ρ _ => Cert.MlpOutIdeal.Gen.frame m ρ, MlpOut.frame_ref,
    fun m ρ _ => Cert.MlpOutW.Gen.frame m ρ, fun m ρ _ => Cert.MlpOutWIdeal.Gen.frame m ρ, MlpOutW.frame_ref,
    fun m ρ _ => Cert.MlpInW.Gen.frame m ρ, fun m ρ _ => Cert.MlpInWIdeal.Gen.frame m ρ, MlpInW.frame_ref,
    fun m ρ _ => Cert.MlpIn.Gen.frame m ρ, fun m ρ _ => Cert.MlpInIdeal.Gen.frame m ρ, MlpIn.frame_ref,
    fun m ρ _ => Cert.MlpInFwd.Gen.frame m ρ, fun m ρ _ => Cert.MlpInFwdIdeal.Gen.frame m ρ, MlpInFwd.frame_ref,
    fun m ρ _ => Cert.MlpOutFwd.Gen.frame m ρ, fun m ρ _ => Cert.MlpOutFwdIdeal.Gen.frame m ρ, MlpOutFwd.frame_ref,
    fun m ρ _ => Cert.ProjFwd.Gen.frame m ρ, fun m ρ _ => Cert.ProjFwdIdeal.Gen.frame m ρ, ProjFwd.frame_ref,
    fun m ρ _ => Cert.ProjBwd.Gen.frame m ρ, fun m ρ _ => Cert.ProjBwdIdeal.Gen.frame m ρ, ProjBwd.frame_ref,
    fun m ρ _ => Cert.MixerFwd.Gen.frame m ρ, fun m ρ _ => Cert.MixerFwdIdeal.Gen.frame m ρ, MixerFwd.frame_ref,
    fun m ρ _ => Cert.MixerBwd.Gen.frame m ρ, fun m ρ _ => Cert.MixerBwdIdeal.Gen.frame m ρ, MixerBwd.frame_ref,
    trivial, Forward.algebraic, trivial, Backward.algebraic, trivial, MlpOut.algebraic, trivial, MlpOutW.algebraic, trivial, MlpInW.algebraic, trivial, MlpIn.algebraic,
    trivial, MlpInFwd.algebraic, trivial, MlpOutFwd.algebraic, trivial, ProjFwd.algebraic, trivial, ProjBwd.algebraic, trivial, MixerFwd.algebraic, trivial, MixerBwd.algebraic⟩

end Cert.Proof

end
